-- ==== Defs.lean ====
def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))) = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))) = (fun _ => 1#1)

def Pre_KernelMixNorm (m : (ℓ : Loc Cert.KernelMixNorm.nD Cert.KernelMixNorm.τ Cert.KernelMixNorm.sig) → Buf (Elt Bits) ℓ) : Prop :=
  True

def Pre_KernelMixNormIdeal (m : (ℓ : Loc Cert.KernelMixNormIdeal.nD Cert.KernelMixNormIdeal.τ Cert.KernelMixNormIdeal.sig) → Buf (Elt Ideal) ℓ) : Prop :=
  True

def Pre_KernelMixNormIdeal_finite_mixnorm [hPre_finite_mixnorm : Cert.Pre_finite_mixnorm.Facts] (m : (ℓ : Loc Cert.KernelMixNormIdeal.nD Cert.KernelMixNormIdeal.τ Cert.KernelMixNormIdeal.sig) → Buf (Elt Ideal) ℓ) : Prop :=
  ∀ c : Dev Cert.KernelMixNormIdeal.nD,
    (Cert.Pre_finite_mixnorm.fn (F := Ideal) (m ((c.tc : Thread Cert.KernelMixNormIdeal.nD Cert.KernelMixNormIdeal.τ).loc Cert.KernelMixNormIdeal.main_arg0)) (m ((c.tc : Thread Cert.KernelMixNormIdeal.nD Cert.KernelMixNormIdeal.τ).loc Cert.KernelMixNormIdeal.main_arg1)) (m ((c.tc : Thread Cert.KernelMixNormIdeal.nD Cert.KernelMixNormIdeal.τ).loc Cert.KernelMixNormIdeal.main_arg2)) (m ((c.tc : Thread Cert.KernelMixNormIdeal.nD Cert.KernelMixNormIdeal.τ).loc Cert.KernelMixNormIdeal.main_arg3)) (m ((c.tc : Thread Cert.KernelMixNormIdeal.nD Cert.KernelMixNormIdeal.τ).loc Cert.KernelMixNormIdeal.main_arg4)) (m ((c.tc : Thread Cert.KernelMixNormIdeal.nD Cert.KernelMixNormIdeal.τ).loc Cert.KernelMixNormIdeal.main_arg5)) (m ((c.tc : Thread Cert.KernelMixNormIdeal.nD Cert.KernelMixNormIdeal.τ).loc Cert.KernelMixNormIdeal.main_arg6)) (m ((c.tc : Thread Cert.KernelMixNormIdeal.nD Cert.KernelMixNormIdeal.τ).loc Cert.KernelMixNormIdeal.main_arg7))) = (fun _ => 1#1)

def Pre_ReferenceMixNormIdeal (m : (ℓ : Loc Cert.ReferenceMixNormIdeal.nD Cert.ReferenceMixNormIdeal.τ Cert.ReferenceMixNormIdeal.sig) → Buf (Elt Ideal) ℓ) : Prop :=
  True

def Pre_ReferenceMixNormIdeal_finite_mixnorm [hPre_finite_mixnorm : Cert.Pre_finite_mixnorm.Facts] (m : (ℓ : Loc Cert.ReferenceMixNormIdeal.nD Cert.ReferenceMixNormIdeal.τ Cert.ReferenceMixNormIdeal.sig) → Buf (Elt Ideal) ℓ) : Prop :=
  ∀ c : Dev Cert.ReferenceMixNormIdeal.nD,
    (Cert.Pre_finite_mixnorm.fn (F := Ideal) (m ((c.tc : Thread Cert.ReferenceMixNormIdeal.nD Cert.ReferenceMixNormIdeal.τ).loc Cert.ReferenceMixNormIdeal.main_arg0)) (m ((c.tc : Thread Cert.ReferenceMixNormIdeal.nD Cert.ReferenceMixNormIdeal.τ).loc Cert.ReferenceMixNormIdeal.main_arg1)) (m ((c.tc : Thread Cert.ReferenceMixNormIdeal.nD Cert.ReferenceMixNormIdeal.τ).loc Cert.ReferenceMixNormIdeal.main_arg2)) (m ((c.tc : Thread Cert.ReferenceMixNormIdeal.nD Cert.ReferenceMixNormIdeal.τ).loc Cert.ReferenceMixNormIdeal.main_arg3)) (m ((c.tc : Thread Cert.ReferenceMixNormIdeal.nD Cert.ReferenceMixNormIdeal.τ).loc Cert.ReferenceMixNormIdeal.main_arg4)) (m ((c.tc : Thread Cert.ReferenceMixNormIdeal.nD Cert.ReferenceMixNormIdeal.τ).loc Cert.ReferenceMixNormIdeal.main_arg5)) (m ((c.tc : Thread Cert.ReferenceMixNormIdeal.nD Cert.ReferenceMixNormIdeal.τ).loc Cert.ReferenceMixNormIdeal.main_arg6)) (m ((c.tc : Thread Cert.ReferenceMixNormIdeal.nD Cert.ReferenceMixNormIdeal.τ).loc Cert.ReferenceMixNormIdeal.main_arg7))) = (fun _ => 1#1)

def Pre_KernelFfnNorm (m : (ℓ : Loc Cert.KernelFfnNorm.nD Cert.KernelFfnNorm.τ Cert.KernelFfnNorm.sig) → Buf (Elt Bits) ℓ) : Prop :=
  True

def Pre_KernelFfnNormIdeal (m : (ℓ : Loc Cert.KernelFfnNormIdeal.nD Cert.KernelFfnNormIdeal.τ Cert.KernelFfnNormIdeal.sig) → Buf (Elt Ideal) ℓ) : Prop :=
  True

def Pre_KernelFfnNormIdeal_finite_ffnnorm [hPre_finite_ffnnorm : Cert.Pre_finite_ffnnorm.Facts] (m : (ℓ : Loc Cert.KernelFfnNormIdeal.nD Cert.KernelFfnNormIdeal.τ Cert.KernelFfnNormIdeal.sig) → Buf (Elt Ideal) ℓ) : Prop :=
  ∀ c : Dev Cert.KernelFfnNormIdeal.nD,
    (Cert.Pre_finite_ffnnorm.fn (F := Ideal) (m ((c.tc : Thread Cert.KernelFfnNormIdeal.nD Cert.KernelFfnNormIdeal.τ).loc Cert.KernelFfnNormIdeal.main_arg0)) (m ((c.tc : Thread Cert.KernelFfnNormIdeal.nD Cert.KernelFfnNormIdeal.τ).loc Cert.KernelFfnNormIdeal.main_arg1)) (m ((c.tc : Thread Cert.KernelFfnNormIdeal.nD Cert.KernelFfnNormIdeal.τ).loc Cert.KernelFfnNormIdeal.main_arg2)) (m ((c.tc : Thread Cert.KernelFfnNormIdeal.nD Cert.KernelFfnNormIdeal.τ).loc Cert.KernelFfnNormIdeal.main_arg3)) (m ((c.tc : Thread Cert.KernelFfnNormIdeal.nD Cert.KernelFfnNormIdeal.τ).loc Cert.KernelFfnNormIdeal.main_arg4)) (m ((c.tc : Thread Cert.KernelFfnNormIdeal.nD Cert.KernelFfnNormIdeal.τ).loc Cert.KernelFfnNormIdeal.main_arg5)) (m ((c.tc : Thread Cert.KernelFfnNormIdeal.nD Cert.KernelFfnNormIdeal.τ).loc Cert.KernelFfnNormIdeal.main_arg6)) (m ((c.tc : Thread Cert.KernelFfnNormIdeal.nD Cert.KernelFfnNormIdeal.τ).loc Cert.KernelFfnNormIdeal.main_arg7))) = (fun _ => 1#1)

def Pre_ReferenceFfnNormIdeal (m : (ℓ : Loc Cert.ReferenceFfnNormIdeal.nD Cert.ReferenceFfnNormIdeal.τ Cert.ReferenceFfnNormIdeal.sig) → Buf (Elt Ideal) ℓ) : Prop :=
  True

def Pre_ReferenceFfnNormIdeal_finite_ffnnorm [hPre_finite_ffnnorm : Cert.Pre_finite_ffnnorm.Facts] (m : (ℓ : Loc Cert.ReferenceFfnNormIdeal.nD Cert.ReferenceFfnNormIdeal.τ Cert.ReferenceFfnNormIdeal.sig) → Buf (Elt Ideal) ℓ) : Prop :=
  ∀ c : Dev Cert.ReferenceFfnNormIdeal.nD,
    (Cert.Pre_finite_ffnnorm.fn (F := Ideal) (m ((c.tc : Thread Cert.ReferenceFfnNormIdeal.nD Cert.ReferenceFfnNormIdeal.τ).loc Cert.ReferenceFfnNormIdeal.main_arg0)) (m ((c.tc : Thread Cert.ReferenceFfnNormIdeal.nD Cert.ReferenceFfnNormIdeal.τ).loc Cert.ReferenceFfnNormIdeal.main_arg1)) (m ((c.tc : Thread Cert.ReferenceFfnNormIdeal.nD Cert.ReferenceFfnNormIdeal.τ).loc Cert.ReferenceFfnNormIdeal.main_arg2)) (m ((c.tc : Thread Cert.ReferenceFfnNormIdeal.nD Cert.ReferenceFfnNormIdeal.τ).loc Cert.ReferenceFfnNormIdeal.main_arg3)) (m ((c.tc : Thread Cert.ReferenceFfnNormIdeal.nD Cert.ReferenceFfnNormIdeal.τ).loc Cert.ReferenceFfnNormIdeal.main_arg4)) (m ((c.tc : Thread Cert.ReferenceFfnNormIdeal.nD Cert.ReferenceFfnNormIdeal.τ).loc Cert.ReferenceFfnNormIdeal.main_arg5)) (m ((c.tc : Thread Cert.ReferenceFfnNormIdeal.nD Cert.ReferenceFfnNormIdeal.τ).loc Cert.ReferenceFfnNormIdeal.main_arg6)) (m ((c.tc : Thread Cert.ReferenceFfnNormIdeal.nD Cert.ReferenceFfnNormIdeal.τ).loc Cert.ReferenceFfnNormIdeal.main_arg7))) = (fun _ => 1#1)

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelDisc (m : (ℓ : Loc Cert.KernelDisc.nD Cert.KernelDisc.τ Cert.KernelDisc.sig) → Buf (Elt Bits) ℓ) : Prop :=
  True

def Pre_KernelDiscIdeal (m : (ℓ : Loc Cert.KernelDiscIdeal.nD Cert.KernelDiscIdeal.τ Cert.KernelDiscIdeal.sig) → Buf (Elt Ideal) ℓ) : Prop :=
  True

def Pre_ReferenceDiscIdeal (m : (ℓ : Loc Cert.ReferenceDiscIdeal.nD Cert.ReferenceDiscIdeal.τ Cert.ReferenceDiscIdeal.sig) → Buf (Elt Ideal) ℓ) : Prop :=
  True

def Pre_KernelHid (m : (ℓ : Loc Cert.KernelHid.nD Cert.KernelHid.τ Cert.KernelHid.sig) → Buf (Elt Bits) ℓ) : Prop :=
  True

def Pre_KernelHidIdeal (m : (ℓ : Loc Cert.KernelHidIdeal.nD Cert.KernelHidIdeal.τ Cert.KernelHidIdeal.sig) → Buf (Elt Ideal) ℓ) : Prop :=
  True

def Pre_KernelHidIdeal_finite_hid [hPre_finite_hid : Cert.Pre_finite_hid.Facts] (m : (ℓ : Loc Cert.KernelHidIdeal.nD Cert.KernelHidIdeal.τ Cert.KernelHidIdeal.sig) → Buf (Elt Ideal) ℓ) : Prop :=
  ∀ c : Dev Cert.KernelHidIdeal.nD,
    (Cert.Pre_finite_hid.fn (F := Ideal) (m ((c.tc : Thread Cert.KernelHidIdeal.nD Cert.KernelHidIdeal.τ).loc Cert.KernelHidIdeal.main_arg0)) (m ((c.tc : Thread Cert.KernelHidIdeal.nD Cert.KernelHidIdeal.τ).loc Cert.KernelHidIdeal.main_arg1)) (m ((c.tc : Thread Cert.KernelHidIdeal.nD Cert.KernelHidIdeal.τ).loc Cert.KernelHidIdeal.main_arg2)) (m ((c.tc : Thread Cert.KernelHidIdeal.nD Cert.KernelHidIdeal.τ).loc Cert.KernelHidIdeal.main_arg3)) (m ((c.tc : Thread Cert.KernelHidIdeal.nD Cert.KernelHidIdeal.τ).loc Cert.KernelHidIdeal.main_arg4)) (m ((c.tc : Thread Cert.KernelHidIdeal.nD Cert.KernelHidIdeal.τ).loc Cert.KernelHidIdeal.main_arg5))) = (fun _ => 1#1)

def Pre_ReferenceHidIdeal (m : (ℓ : Loc Cert.ReferenceHidIdeal.nD Cert.ReferenceHidIdeal.τ Cert.ReferenceHidIdeal.sig) → Buf (Elt Ideal) ℓ) : Prop :=
  True

def Pre_ReferenceHidIdeal_finite_hid [hPre_finite_hid : Cert.Pre_finite_hid.Facts] (m : (ℓ : Loc Cert.ReferenceHidIdeal.nD Cert.ReferenceHidIdeal.τ Cert.ReferenceHidIdeal.sig) → Buf (Elt Ideal) ℓ) : Prop :=
  ∀ c : Dev Cert.ReferenceHidIdeal.nD,
    (Cert.Pre_finite_hid.fn (F := Ideal) (m ((c.tc : Thread Cert.ReferenceHidIdeal.nD Cert.ReferenceHidIdeal.τ).loc Cert.ReferenceHidIdeal.main_arg0)) (m ((c.tc : Thread Cert.ReferenceHidIdeal.nD Cert.ReferenceHidIdeal.τ).loc Cert.ReferenceHidIdeal.main_arg1)) (m ((c.tc : Thread Cert.ReferenceHidIdeal.nD Cert.ReferenceHidIdeal.τ).loc Cert.ReferenceHidIdeal.main_arg2)) (m ((c.tc : Thread Cert.ReferenceHidIdeal.nD Cert.ReferenceHidIdeal.τ).loc Cert.ReferenceHidIdeal.main_arg3)) (m ((c.tc : Thread Cert.ReferenceHidIdeal.nD Cert.ReferenceHidIdeal.τ).loc Cert.ReferenceHidIdeal.main_arg4)) (m ((c.tc : Thread Cert.ReferenceHidIdeal.nD Cert.ReferenceHidIdeal.τ).loc Cert.ReferenceHidIdeal.main_arg5))) = (fun _ => 1#1)

def Pre_KernelNormF (m : (ℓ : Loc Cert.KernelNormF.nD Cert.KernelNormF.τ Cert.KernelNormF.sig) → Buf (Elt Bits) ℓ) : Prop :=
  True

def Pre_KernelNormFIdeal (m : (ℓ : Loc Cert.KernelNormFIdeal.nD Cert.KernelNormFIdeal.τ Cert.KernelNormFIdeal.sig) → Buf (Elt Ideal) ℓ) : Prop :=
  True

def Pre_ReferenceNormFIdeal (m : (ℓ : Loc Cert.ReferenceNormFIdeal.nD Cert.ReferenceNormFIdeal.τ Cert.ReferenceNormFIdeal.sig) → Buf (Elt Ideal) ℓ) : Prop :=
  True

def Pre_KernelUpF (m : (ℓ : Loc Cert.KernelUpF.nD Cert.KernelUpF.τ Cert.KernelUpF.sig) → Buf (Elt Bits) ℓ) : Prop :=
  True

def Pre_KernelUpFIdeal (m : (ℓ : Loc Cert.KernelUpFIdeal.nD Cert.KernelUpFIdeal.τ Cert.KernelUpFIdeal.sig) → Buf (Elt Ideal) ℓ) : Prop :=
  True

def Pre_KernelUpFIdeal_finite_upf [hPre_finite_upf : Cert.Pre_finite_upf.Facts] (m : (ℓ : Loc Cert.KernelUpFIdeal.nD Cert.KernelUpFIdeal.τ Cert.KernelUpFIdeal.sig) → Buf (Elt Ideal) ℓ) : Prop :=
  ∀ c : Dev Cert.KernelUpFIdeal.nD,
    (Cert.Pre_finite_upf.fn (F := Ideal) (m ((c.tc : Thread Cert.KernelUpFIdeal.nD Cert.KernelUpFIdeal.τ).loc Cert.KernelUpFIdeal.main_arg0)) (m ((c.tc : Thread Cert.KernelUpFIdeal.nD Cert.KernelUpFIdeal.τ).loc Cert.KernelUpFIdeal.main_arg1)) (m ((c.tc : Thread Cert.KernelUpFIdeal.nD Cert.KernelUpFIdeal.τ).loc Cert.KernelUpFIdeal.main_arg2))) = (fun _ => 1#1)

def Pre_ReferenceUpFIdeal (m : (ℓ : Loc Cert.ReferenceUpFIdeal.nD Cert.ReferenceUpFIdeal.τ Cert.ReferenceUpFIdeal.sig) → Buf (Elt Ideal) ℓ) : Prop :=
  True

def Pre_ReferenceUpFIdeal_finite_upf [hPre_finite_upf : Cert.Pre_finite_upf.Facts] (m : (ℓ : Loc Cert.ReferenceUpFIdeal.nD Cert.ReferenceUpFIdeal.τ Cert.ReferenceUpFIdeal.sig) → Buf (Elt Ideal) ℓ) : Prop :=
  ∀ c : Dev Cert.ReferenceUpFIdeal.nD,
    (Cert.Pre_finite_upf.fn (F := Ideal) (m ((c.tc : Thread Cert.ReferenceUpFIdeal.nD Cert.ReferenceUpFIdeal.τ).loc Cert.ReferenceUpFIdeal.main_arg0)) (m ((c.tc : Thread Cert.ReferenceUpFIdeal.nD Cert.ReferenceUpFIdeal.τ).loc Cert.ReferenceUpFIdeal.main_arg1)) (m ((c.tc : Thread Cert.ReferenceUpFIdeal.nD Cert.ReferenceUpFIdeal.τ).loc Cert.ReferenceUpFIdeal.main_arg2))) = (fun _ => 1#1)

def Pre_KernelDownF (m : (ℓ : Loc Cert.KernelDownF.nD Cert.KernelDownF.τ Cert.KernelDownF.sig) → Buf (Elt Bits) ℓ) : Prop :=
  True

def Pre_KernelDownFIdeal (m : (ℓ : Loc Cert.KernelDownFIdeal.nD Cert.KernelDownFIdeal.τ Cert.KernelDownFIdeal.sig) → Buf (Elt Ideal) ℓ) : Prop :=
  True

def Pre_ReferenceDownFIdeal (m : (ℓ : Loc Cert.ReferenceDownFIdeal.nD Cert.ReferenceDownFIdeal.τ Cert.ReferenceDownFIdeal.sig) → Buf (Elt Ideal) ℓ) : Prop :=
  True

def Pre_KernelConvF (m : (ℓ : Loc Cert.KernelConvF.nD Cert.KernelConvF.τ Cert.KernelConvF.sig) → Buf (Elt Bits) ℓ) : Prop :=
  True

def Pre_KernelConvFIdeal (m : (ℓ : Loc Cert.KernelConvFIdeal.nD Cert.KernelConvFIdeal.τ Cert.KernelConvFIdeal.sig) → Buf (Elt Ideal) ℓ) : Prop :=
  True

def Pre_ReferenceConvFIdeal (m : (ℓ : Loc Cert.ReferenceConvFIdeal.nD Cert.ReferenceConvFIdeal.τ Cert.ReferenceConvFIdeal.sig) → Buf (Elt Ideal) ℓ) : Prop :=
  True

def Pre_KernelMergeF (m : (ℓ : Loc Cert.KernelMergeF.nD Cert.KernelMergeF.τ Cert.KernelMergeF.sig) → Buf (Elt Bits) ℓ) : Prop :=
  True

def Pre_KernelMergeFIdeal (m : (ℓ : Loc Cert.KernelMergeFIdeal.nD Cert.KernelMergeFIdeal.τ Cert.KernelMergeFIdeal.sig) → Buf (Elt Ideal) ℓ) : Prop :=
  True

def Pre_ReferenceMergeFIdeal (m : (ℓ : Loc Cert.ReferenceMergeFIdeal.nD Cert.ReferenceMergeFIdeal.τ Cert.ReferenceMergeFIdeal.sig) → Buf (Elt Ideal) ℓ) : Prop :=
  True

def Pre_KernelPostF (m : (ℓ : Loc Cert.KernelPostF.nD Cert.KernelPostF.τ Cert.KernelPostF.sig) → Buf (Elt Bits) ℓ) : Prop :=
  True

def Pre_KernelPostFIdeal (m : (ℓ : Loc Cert.KernelPostFIdeal.nD Cert.KernelPostFIdeal.τ Cert.KernelPostFIdeal.sig) → Buf (Elt Ideal) ℓ) : Prop :=
  True

def Pre_ReferencePostFIdeal (m : (ℓ : Loc Cert.ReferencePostFIdeal.nD Cert.ReferencePostFIdeal.τ Cert.ReferencePostFIdeal.sig) → Buf (Elt Ideal) ℓ) : Prop :=
  True

def Pre_KernelAdaF (m : (ℓ : Loc Cert.KernelAdaF.nD Cert.KernelAdaF.τ Cert.KernelAdaF.sig) → Buf (Elt Bits) ℓ) : Prop :=
  True

def Pre_KernelAdaFIdeal (m : (ℓ : Loc Cert.KernelAdaFIdeal.nD Cert.KernelAdaFIdeal.τ Cert.KernelAdaFIdeal.sig) → Buf (Elt Ideal) ℓ) : Prop :=
  True

def Pre_ReferenceAdaFIdeal (m : (ℓ : Loc Cert.ReferenceAdaFIdeal.nD Cert.ReferenceAdaFIdeal.τ Cert.ReferenceAdaFIdeal.sig) → Buf (Elt Ideal) ℓ) : Prop :=
  True

def Pre_KernelDiscF (m : (ℓ : Loc Cert.KernelDiscF.nD Cert.KernelDiscF.τ Cert.KernelDiscF.sig) → Buf (Elt Bits) ℓ) : Prop :=
  True

def Pre_KernelDiscFIdeal (m : (ℓ : Loc Cert.KernelDiscFIdeal.nD Cert.KernelDiscFIdeal.τ Cert.KernelDiscFIdeal.sig) → Buf (Elt Ideal) ℓ) : Prop :=
  True

def Pre_ReferenceDiscFIdeal (m : (ℓ : Loc Cert.ReferenceDiscFIdeal.nD Cert.ReferenceDiscFIdeal.τ Cert.ReferenceDiscFIdeal.sig) → Buf (Elt Ideal) ℓ) : Prop :=
  True

def Pre_KernelMm (m : (ℓ : Loc Cert.KernelMm.nD Cert.KernelMm.τ Cert.KernelMm.sig) → Buf (Elt Bits) ℓ) : Prop :=
  True

def Pre_KernelMmIdeal (m : (ℓ : Loc Cert.KernelMmIdeal.nD Cert.KernelMmIdeal.τ Cert.KernelMmIdeal.sig) → Buf (Elt Ideal) ℓ) : Prop :=
  True

def Pre_ReferenceMmIdeal (m : (ℓ : Loc Cert.ReferenceMmIdeal.nD Cert.ReferenceMmIdeal.τ Cert.ReferenceMmIdeal.sig) → Buf (Elt Ideal) ℓ) : Prop :=
  True

def Pre_KernelOptR (m : (ℓ : Loc Cert.KernelOptR.nD Cert.KernelOptR.τ Cert.KernelOptR.sig) → Buf (Elt Bits) ℓ) : Prop :=
  True

def Pre_KernelOptRIdeal (m : (ℓ : Loc Cert.KernelOptRIdeal.nD Cert.KernelOptRIdeal.τ Cert.KernelOptRIdeal.sig) → Buf (Elt Ideal) ℓ) : Prop :=
  True

def Pre_ReferenceOptRIdeal (m : (ℓ : Loc Cert.ReferenceOptRIdeal.nD Cert.ReferenceOptRIdeal.τ Cert.ReferenceOptRIdeal.sig) → Buf (Elt Ideal) ℓ) : Prop :=
  True

def Pre_KernelOptB (m : (ℓ : Loc Cert.KernelOptB.nD Cert.KernelOptB.τ Cert.KernelOptB.sig) → Buf (Elt Bits) ℓ) : Prop :=
  True

def Pre_KernelOptBIdeal (m : (ℓ : Loc Cert.KernelOptBIdeal.nD Cert.KernelOptBIdeal.τ Cert.KernelOptBIdeal.sig) → Buf (Elt Ideal) ℓ) : Prop :=
  True

def Pre_ReferenceOptBIdeal (m : (ℓ : Loc Cert.ReferenceOptBIdeal.nD Cert.ReferenceOptBIdeal.τ Cert.ReferenceOptBIdeal.sig) → Buf (Elt Ideal) ℓ) : Prop :=
  True

def Pre_KernelOptP (m : (ℓ : Loc Cert.KernelOptP.nD Cert.KernelOptP.τ Cert.KernelOptP.sig) → Buf (Elt Bits) ℓ) : Prop :=
  True

def Pre_KernelOptPIdeal (m : (ℓ : Loc Cert.KernelOptPIdeal.nD Cert.KernelOptPIdeal.τ Cert.KernelOptPIdeal.sig) → Buf (Elt Ideal) ℓ) : Prop :=
  True

def Pre_ReferenceOptPIdeal (m : (ℓ : Loc Cert.ReferenceOptPIdeal.nD Cert.ReferenceOptPIdeal.τ Cert.ReferenceOptPIdeal.sig) → Buf (Elt Ideal) ℓ) : Prop :=
  True

def Pre_KernelSums (m : (ℓ : Loc Cert.KernelSums.nD Cert.KernelSums.τ Cert.KernelSums.sig) → Buf (Elt Bits) ℓ) : Prop :=
  True

def Pre_KernelSumsIdeal (m : (ℓ : Loc Cert.KernelSumsIdeal.nD Cert.KernelSumsIdeal.τ Cert.KernelSumsIdeal.sig) → Buf (Elt Ideal) ℓ) : Prop :=
  True

def Pre_ReferenceSumsIdeal (m : (ℓ : Loc Cert.ReferenceSumsIdeal.nD Cert.ReferenceSumsIdeal.τ Cert.ReferenceSumsIdeal.sig) → Buf (Elt Ideal) ℓ) : Prop :=
  True

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelMixNorm [hKernelMixNorm : Cert.KernelMixNorm.Facts] : Prop :=
  ∀ (m : (ℓ : Loc Cert.KernelMixNorm.nD Cert.KernelMixNorm.τ Cert.KernelMixNorm.sig) → Buf (Elt Bits) ℓ) (g : Dev Cert.KernelMixNorm.nD → PrngReg), Pre_KernelMixNorm m →
    θ_run (Cert.KernelMixNorm.defs (F := Bits)) (onTc (τ := Cert.KernelMixNorm.τ) (Cert.KernelMixNorm.main (F := Bits))) ⟨m, fun _ => 0, g⟩ (fun r => (∀ c : Dev Cert.KernelMixNorm.nD,
      r.2.mem ((c.tc : Thread Cert.KernelMixNorm.nD Cert.KernelMixNorm.τ).loc Cert.KernelMixNorm.main_arg0) = m ((c.tc : Thread Cert.KernelMixNorm.nD Cert.KernelMixNorm.τ).loc Cert.KernelMixNorm.main_arg0)
      ∧ r.2.mem ((c.tc : Thread Cert.KernelMixNorm.nD Cert.KernelMixNorm.τ).loc Cert.KernelMixNorm.main_arg1) = m ((c.tc : Thread Cert.KernelMixNorm.nD Cert.KernelMixNorm.τ).loc Cert.KernelMixNorm.main_arg1)
      ∧ r.2.mem ((c.tc : Thread Cert.KernelMixNorm.nD Cert.KernelMixNorm.τ).loc Cert.KernelMixNorm.main_arg2) = m ((c.tc : Thread Cert.KernelMixNorm.nD Cert.KernelMixNorm.τ).loc Cert.KernelMixNorm.main_arg2)
      ∧ r.2.mem ((c.tc : Thread Cert.KernelMixNorm.nD Cert.KernelMixNorm.τ).loc Cert.KernelMixNorm.main_arg3) = m ((c.tc : Thread Cert.KernelMixNorm.nD Cert.KernelMixNorm.τ).loc Cert.KernelMixNorm.main_arg3)
      ∧ r.2.mem ((c.tc : Thread Cert.KernelMixNorm.nD Cert.KernelMixNorm.τ).loc Cert.KernelMixNorm.main_arg4) = m ((c.tc : Thread Cert.KernelMixNorm.nD Cert.KernelMixNorm.τ).loc Cert.KernelMixNorm.main_arg4)
      ∧ r.2.mem ((c.tc : Thread Cert.KernelMixNorm.nD Cert.KernelMixNorm.τ).loc Cert.KernelMixNorm.main_arg5) = m ((c.tc : Thread Cert.KernelMixNorm.nD Cert.KernelMixNorm.τ).loc Cert.KernelMixNorm.main_arg5)
      ∧ r.2.mem ((c.tc : Thread Cert.KernelMixNorm.nD Cert.KernelMixNorm.τ).loc Cert.KernelMixNorm.main_arg6) = m ((c.tc : Thread Cert.KernelMixNorm.nD Cert.KernelMixNorm.τ).loc Cert.KernelMixNorm.main_arg6)
      ∧ r.2.mem ((c.tc : Thread Cert.KernelMixNorm.nD Cert.KernelMixNorm.τ).loc Cert.KernelMixNorm.main_arg7) = m ((c.tc : Thread Cert.KernelMixNorm.nD Cert.KernelMixNorm.τ).loc Cert.KernelMixNorm.main_arg7))
      ∧ r.2.sem = fun _ => 0)

def quiescent_KernelMixNormIdeal [hKernelMixNormIdeal : Cert.KernelMixNormIdeal.Facts] : Prop :=
  ∀ (m : (ℓ : Loc Cert.KernelMixNormIdeal.nD Cert.KernelMixNormIdeal.τ Cert.KernelMixNormIdeal.sig) → Buf (Elt Ideal) ℓ) (g : Dev Cert.KernelMixNormIdeal.nD → PrngReg), Pre_KernelMixNormIdeal m →
    θ_run (Cert.KernelMixNormIdeal.defs (F := Ideal)) (onTc (τ := Cert.KernelMixNormIdeal.τ) (Cert.KernelMixNormIdeal.main (F := Ideal))) ⟨m, fun _ => 0, g⟩ (fun r => (∀ c : Dev Cert.KernelMixNormIdeal.nD,
      r.2.mem ((c.tc : Thread Cert.KernelMixNormIdeal.nD Cert.KernelMixNormIdeal.τ).loc Cert.KernelMixNormIdeal.main_arg0) = m ((c.tc : Thread Cert.KernelMixNormIdeal.nD Cert.KernelMixNormIdeal.τ).loc Cert.KernelMixNormIdeal.main_arg0)
      ∧ r.2.mem ((c.tc : Thread Cert.KernelMixNormIdeal.nD Cert.KernelMixNormIdeal.τ).loc Cert.KernelMixNormIdeal.main_arg1) = m ((c.tc : Thread Cert.KernelMixNormIdeal.nD Cert.KernelMixNormIdeal.τ).loc Cert.KernelMixNormIdeal.main_arg1)
      ∧ r.2.mem ((c.tc : Thread Cert.KernelMixNormIdeal.nD Cert.KernelMixNormIdeal.τ).loc Cert.KernelMixNormIdeal.main_arg2) = m ((c.tc : Thread Cert.KernelMixNormIdeal.nD Cert.KernelMixNormIdeal.τ).loc Cert.KernelMixNormIdeal.main_arg2)
      ∧ r.2.mem ((c.tc : Thread Cert.KernelMixNormIdeal.nD Cert.KernelMixNormIdeal.τ).loc Cert.KernelMixNormIdeal.main_arg3) = m ((c.tc : Thread Cert.KernelMixNormIdeal.nD Cert.KernelMixNormIdeal.τ).loc Cert.KernelMixNormIdeal.main_arg3)
      ∧ r.2.mem ((c.tc : Thread Cert.KernelMixNormIdeal.nD Cert.KernelMixNormIdeal.τ).loc Cert.KernelMixNormIdeal.main_arg4) = m ((c.tc : Thread Cert.KernelMixNormIdeal.nD Cert.KernelMixNormIdeal.τ).loc Cert.KernelMixNormIdeal.main_arg4)
      ∧ r.2.mem ((c.tc : Thread Cert.KernelMixNormIdeal.nD Cert.KernelMixNormIdeal.τ).loc Cert.KernelMixNormIdeal.main_arg5) = m ((c.tc : Thread Cert.KernelMixNormIdeal.nD Cert.KernelMixNormIdeal.τ).loc Cert.KernelMixNormIdeal.main_arg5)
      ∧ r.2.mem ((c.tc : Thread Cert.KernelMixNormIdeal.nD Cert.KernelMixNormIdeal.τ).loc Cert.KernelMixNormIdeal.main_arg6) = m ((c.tc : Thread Cert.KernelMixNormIdeal.nD Cert.KernelMixNormIdeal.τ).loc Cert.KernelMixNormIdeal.main_arg6)
      ∧ r.2.mem ((c.tc : Thread Cert.KernelMixNormIdeal.nD Cert.KernelMixNormIdeal.τ).loc Cert.KernelMixNormIdeal.main_arg7) = m ((c.tc : Thread Cert.KernelMixNormIdeal.nD Cert.KernelMixNormIdeal.τ).loc Cert.KernelMixNormIdeal.main_arg7))
      ∧ r.2.sem = fun _ => 0)

def quiescent_KernelMixNormIdeal_pre_finite_mixnorm [hKernelMixNormIdeal : Cert.KernelMixNormIdeal.Facts] [hPre_finite_mixnorm : Cert.Pre_finite_mixnorm.Facts] : Prop :=
  ∀ (m : (ℓ : Loc Cert.KernelMixNormIdeal.nD Cert.KernelMixNormIdeal.τ Cert.KernelMixNormIdeal.sig) → Buf (Elt Ideal) ℓ) (g : Dev Cert.KernelMixNormIdeal.nD → PrngReg), Pre_KernelMixNormIdeal_finite_mixnorm m →
    θ_run (Cert.KernelMixNormIdeal.defs (F := Ideal)) (onTc (τ := Cert.KernelMixNormIdeal.τ) (Cert.KernelMixNormIdeal.main (F := Ideal))) ⟨m, fun _ => 0, g⟩ (fun r => (∀ c : Dev Cert.KernelMixNormIdeal.nD,
      r.2.mem ((c.tc : Thread Cert.KernelMixNormIdeal.nD Cert.KernelMixNormIdeal.τ).loc Cert.KernelMixNormIdeal.main_arg0) = m ((c.tc : Thread Cert.KernelMixNormIdeal.nD Cert.KernelMixNormIdeal.τ).loc Cert.KernelMixNormIdeal.main_arg0)
      ∧ r.2.mem ((c.tc : Thread Cert.KernelMixNormIdeal.nD Cert.KernelMixNormIdeal.τ).loc Cert.KernelMixNormIdeal.main_arg1) = m ((c.tc : Thread Cert.KernelMixNormIdeal.nD Cert.KernelMixNormIdeal.τ).loc Cert.KernelMixNormIdeal.main_arg1)
      ∧ r.2.mem ((c.tc : Thread Cert.KernelMixNormIdeal.nD Cert.KernelMixNormIdeal.τ).loc Cert.KernelMixNormIdeal.main_arg2) = m ((c.tc : Thread Cert.KernelMixNormIdeal.nD Cert.KernelMixNormIdeal.τ).loc Cert.KernelMixNormIdeal.main_arg2)
      ∧ r.2.mem ((c.tc : Thread Cert.KernelMixNormIdeal.nD Cert.KernelMixNormIdeal.τ).loc Cert.KernelMixNormIdeal.main_arg3) = m ((c.tc : Thread Cert.KernelMixNormIdeal.nD Cert.KernelMixNormIdeal.τ).loc Cert.KernelMixNormIdeal.main_arg3)
      ∧ r.2.mem ((c.tc : Thread Cert.KernelMixNormIdeal.nD Cert.KernelMixNormIdeal.τ).loc Cert.KernelMixNormIdeal.main_arg4) = m ((c.tc : Thread Cert.KernelMixNormIdeal.nD Cert.KernelMixNormIdeal.τ).loc Cert.KernelMixNormIdeal.main_arg4)
      ∧ r.2.mem ((c.tc : Thread Cert.KernelMixNormIdeal.nD Cert.KernelMixNormIdeal.τ).loc Cert.KernelMixNormIdeal.main_arg5) = m ((c.tc : Thread Cert.KernelMixNormIdeal.nD Cert.KernelMixNormIdeal.τ).loc Cert.KernelMixNormIdeal.main_arg5)
      ∧ r.2.mem ((c.tc : Thread Cert.KernelMixNormIdeal.nD Cert.KernelMixNormIdeal.τ).loc Cert.KernelMixNormIdeal.main_arg6) = m ((c.tc : Thread Cert.KernelMixNormIdeal.nD Cert.KernelMixNormIdeal.τ).loc Cert.KernelMixNormIdeal.main_arg6)
      ∧ r.2.mem ((c.tc : Thread Cert.KernelMixNormIdeal.nD Cert.KernelMixNormIdeal.τ).loc Cert.KernelMixNormIdeal.main_arg7) = m ((c.tc : Thread Cert.KernelMixNormIdeal.nD Cert.KernelMixNormIdeal.τ).loc Cert.KernelMixNormIdeal.main_arg7))
      ∧ r.2.sem = fun _ => 0)

def quiescent_ReferenceMixNormIdeal [hReferenceMixNormIdeal : Cert.ReferenceMixNormIdeal.Facts] : Prop :=
  ∀ (m : (ℓ : Loc Cert.ReferenceMixNormIdeal.nD Cert.ReferenceMixNormIdeal.τ Cert.ReferenceMixNormIdeal.sig) → Buf (Elt Ideal) ℓ) (g : Dev Cert.ReferenceMixNormIdeal.nD → PrngReg), Pre_ReferenceMixNormIdeal m →
    θ_run (Cert.ReferenceMixNormIdeal.defs (F := Ideal)) (onTc (τ := Cert.ReferenceMixNormIdeal.τ) (Cert.ReferenceMixNormIdeal.main (F := Ideal))) ⟨m, fun _ => 0, g⟩ (fun r => (∀ c : Dev Cert.ReferenceMixNormIdeal.nD,
      r.2.mem ((c.tc : Thread Cert.ReferenceMixNormIdeal.nD Cert.ReferenceMixNormIdeal.τ).loc Cert.ReferenceMixNormIdeal.main_arg0) = m ((c.tc : Thread Cert.ReferenceMixNormIdeal.nD Cert.ReferenceMixNormIdeal.τ).loc Cert.ReferenceMixNormIdeal.main_arg0)
      ∧ r.2.mem ((c.tc : Thread Cert.ReferenceMixNormIdeal.nD Cert.ReferenceMixNormIdeal.τ).loc Cert.ReferenceMixNormIdeal.main_arg1) = m ((c.tc : Thread Cert.ReferenceMixNormIdeal.nD Cert.ReferenceMixNormIdeal.τ).loc Cert.ReferenceMixNormIdeal.main_arg1)
      ∧ r.2.mem ((c.tc : Thread Cert.ReferenceMixNormIdeal.nD Cert.ReferenceMixNormIdeal.τ).loc Cert.ReferenceMixNormIdeal.main_arg2) = m ((c.tc : Thread Cert.ReferenceMixNormIdeal.nD Cert.ReferenceMixNormIdeal.τ).loc Cert.ReferenceMixNormIdeal.main_arg2)
      ∧ r.2.mem ((c.tc : Thread Cert.ReferenceMixNormIdeal.nD Cert.ReferenceMixNormIdeal.τ).loc Cert.ReferenceMixNormIdeal.main_arg3) = m ((c.tc : Thread Cert.ReferenceMixNormIdeal.nD Cert.ReferenceMixNormIdeal.τ).loc Cert.ReferenceMixNormIdeal.main_arg3)
      ∧ r.2.mem ((c.tc : Thread Cert.ReferenceMixNormIdeal.nD Cert.ReferenceMixNormIdeal.τ).loc Cert.ReferenceMixNormIdeal.main_arg4) = m ((c.tc : Thread Cert.ReferenceMixNormIdeal.nD Cert.ReferenceMixNormIdeal.τ).loc Cert.ReferenceMixNormIdeal.main_arg4)
      ∧ r.2.mem ((c.tc : Thread Cert.ReferenceMixNormIdeal.nD Cert.ReferenceMixNormIdeal.τ).loc Cert.ReferenceMixNormIdeal.main_arg5) = m ((c.tc : Thread Cert.ReferenceMixNormIdeal.nD Cert.ReferenceMixNormIdeal.τ).loc Cert.ReferenceMixNormIdeal.main_arg5)
      ∧ r.2.mem ((c.tc : Thread Cert.ReferenceMixNormIdeal.nD Cert.ReferenceMixNormIdeal.τ).loc Cert.ReferenceMixNormIdeal.main_arg6) = m ((c.tc : Thread Cert.ReferenceMixNormIdeal.nD Cert.ReferenceMixNormIdeal.τ).loc Cert.ReferenceMixNormIdeal.main_arg6)
      ∧ r.2.mem ((c.tc : Thread Cert.ReferenceMixNormIdeal.nD Cert.ReferenceMixNormIdeal.τ).loc Cert.ReferenceMixNormIdeal.main_arg7) = m ((c.tc : Thread Cert.ReferenceMixNormIdeal.nD Cert.ReferenceMixNormIdeal.τ).loc Cert.ReferenceMixNormIdeal.main_arg7))
      ∧ r.2.sem = fun _ => 0)

def quiescent_ReferenceMixNormIdeal_pre_finite_mixnorm [hReferenceMixNormIdeal : Cert.ReferenceMixNormIdeal.Facts] [hPre_finite_mixnorm : Cert.Pre_finite_mixnorm.Facts] : Prop :=
  ∀ (m : (ℓ : Loc Cert.ReferenceMixNormIdeal.nD Cert.ReferenceMixNormIdeal.τ Cert.ReferenceMixNormIdeal.sig) → Buf (Elt Ideal) ℓ) (g : Dev Cert.ReferenceMixNormIdeal.nD → PrngReg), Pre_ReferenceMixNormIdeal_finite_mixnorm m →
    θ_run (Cert.ReferenceMixNormIdeal.defs (F := Ideal)) (onTc (τ := Cert.ReferenceMixNormIdeal.τ) (Cert.ReferenceMixNormIdeal.main (F := Ideal))) ⟨m, fun _ => 0, g⟩ (fun r => (∀ c : Dev Cert.ReferenceMixNormIdeal.nD,
      r.2.mem ((c.tc : Thread Cert.ReferenceMixNormIdeal.nD Cert.ReferenceMixNormIdeal.τ).loc Cert.ReferenceMixNormIdeal.main_arg0) = m ((c.tc : Thread Cert.ReferenceMixNormIdeal.nD Cert.ReferenceMixNormIdeal.τ).loc Cert.ReferenceMixNormIdeal.main_arg0)
      ∧ r.2.mem ((c.tc : Thread Cert.ReferenceMixNormIdeal.nD Cert.ReferenceMixNormIdeal.τ).loc Cert.ReferenceMixNormIdeal.main_arg1) = m ((c.tc : Thread Cert.ReferenceMixNormIdeal.nD Cert.ReferenceMixNormIdeal.τ).loc Cert.ReferenceMixNormIdeal.main_arg1)
      ∧ r.2.mem ((c.tc : Thread Cert.ReferenceMixNormIdeal.nD Cert.ReferenceMixNormIdeal.τ).loc Cert.ReferenceMixNormIdeal.main_arg2) = m ((c.tc : Thread Cert.ReferenceMixNormIdeal.nD Cert.ReferenceMixNormIdeal.τ).loc Cert.ReferenceMixNormIdeal.main_arg2)
      ∧ r.2.mem ((c.tc : Thread Cert.ReferenceMixNormIdeal.nD Cert.ReferenceMixNormIdeal.τ).loc Cert.ReferenceMixNormIdeal.main_arg3) = m ((c.tc : Thread Cert.ReferenceMixNormIdeal.nD Cert.ReferenceMixNormIdeal.τ).loc Cert.ReferenceMixNormIdeal.main_arg3)
      ∧ r.2.mem ((c.tc : Thread Cert.ReferenceMixNormIdeal.nD Cert.ReferenceMixNormIdeal.τ).loc Cert.ReferenceMixNormIdeal.main_arg4) = m ((c.tc : Thread Cert.ReferenceMixNormIdeal.nD Cert.ReferenceMixNormIdeal.τ).loc Cert.ReferenceMixNormIdeal.main_arg4)
      ∧ r.2.mem ((c.tc : Thread Cert.ReferenceMixNormIdeal.nD Cert.ReferenceMixNormIdeal.τ).loc Cert.ReferenceMixNormIdeal.main_arg5) = m ((c.tc : Thread Cert.ReferenceMixNormIdeal.nD Cert.ReferenceMixNormIdeal.τ).loc Cert.ReferenceMixNormIdeal.main_arg5)
      ∧ r.2.mem ((c.tc : Thread Cert.ReferenceMixNormIdeal.nD Cert.ReferenceMixNormIdeal.τ).loc Cert.ReferenceMixNormIdeal.main_arg6) = m ((c.tc : Thread Cert.ReferenceMixNormIdeal.nD Cert.ReferenceMixNormIdeal.τ).loc Cert.ReferenceMixNormIdeal.main_arg6)
      ∧ r.2.mem ((c.tc : Thread Cert.ReferenceMixNormIdeal.nD Cert.ReferenceMixNormIdeal.τ).loc Cert.ReferenceMixNormIdeal.main_arg7) = m ((c.tc : Thread Cert.ReferenceMixNormIdeal.nD Cert.ReferenceMixNormIdeal.τ).loc Cert.ReferenceMixNormIdeal.main_arg7))
      ∧ r.2.sem = fun _ => 0)

def quiescent_KernelFfnNorm [hKernelFfnNorm : Cert.KernelFfnNorm.Facts] : Prop :=
  ∀ (m : (ℓ : Loc Cert.KernelFfnNorm.nD Cert.KernelFfnNorm.τ Cert.KernelFfnNorm.sig) → Buf (Elt Bits) ℓ) (g : Dev Cert.KernelFfnNorm.nD → PrngReg), Pre_KernelFfnNorm m →
    θ_run (Cert.KernelFfnNorm.defs (F := Bits)) (onTc (τ := Cert.KernelFfnNorm.τ) (Cert.KernelFfnNorm.main (F := Bits))) ⟨m, fun _ => 0, g⟩ (fun r => (∀ c : Dev Cert.KernelFfnNorm.nD,
      r.2.mem ((c.tc : Thread Cert.KernelFfnNorm.nD Cert.KernelFfnNorm.τ).loc Cert.KernelFfnNorm.main_arg0) = m ((c.tc : Thread Cert.KernelFfnNorm.nD Cert.KernelFfnNorm.τ).loc Cert.KernelFfnNorm.main_arg0)
      ∧ r.2.mem ((c.tc : Thread Cert.KernelFfnNorm.nD Cert.KernelFfnNorm.τ).loc Cert.KernelFfnNorm.main_arg1) = m ((c.tc : Thread Cert.KernelFfnNorm.nD Cert.KernelFfnNorm.τ).loc Cert.KernelFfnNorm.main_arg1)
      ∧ r.2.mem ((c.tc : Thread Cert.KernelFfnNorm.nD Cert.KernelFfnNorm.τ).loc Cert.KernelFfnNorm.main_arg2) = m ((c.tc : Thread Cert.KernelFfnNorm.nD Cert.KernelFfnNorm.τ).loc Cert.KernelFfnNorm.main_arg2)
      ∧ r.2.mem ((c.tc : Thread Cert.KernelFfnNorm.nD Cert.KernelFfnNorm.τ).loc Cert.KernelFfnNorm.main_arg3) = m ((c.tc : Thread Cert.KernelFfnNorm.nD Cert.KernelFfnNorm.τ).loc Cert.KernelFfnNorm.main_arg3)
      ∧ r.2.mem ((c.tc : Thread Cert.KernelFfnNorm.nD Cert.KernelFfnNorm.τ).loc Cert.KernelFfnNorm.main_arg4) = m ((c.tc : Thread Cert.KernelFfnNorm.nD Cert.KernelFfnNorm.τ).loc Cert.KernelFfnNorm.main_arg4)
      ∧ r.2.mem ((c.tc : Thread Cert.KernelFfnNorm.nD Cert.KernelFfnNorm.τ).loc Cert.KernelFfnNorm.main_arg5) = m ((c.tc : Thread Cert.KernelFfnNorm.nD Cert.KernelFfnNorm.τ).loc Cert.KernelFfnNorm.main_arg5)
      ∧ r.2.mem ((c.tc : Thread Cert.KernelFfnNorm.nD Cert.KernelFfnNorm.τ).loc Cert.KernelFfnNorm.main_arg6) = m ((c.tc : Thread Cert.KernelFfnNorm.nD Cert.KernelFfnNorm.τ).loc Cert.KernelFfnNorm.main_arg6)
      ∧ r.2.mem ((c.tc : Thread Cert.KernelFfnNorm.nD Cert.KernelFfnNorm.τ).loc Cert.KernelFfnNorm.main_arg7) = m ((c.tc : Thread Cert.KernelFfnNorm.nD Cert.KernelFfnNorm.τ).loc Cert.KernelFfnNorm.main_arg7))
      ∧ r.2.sem = fun _ => 0)

def quiescent_KernelFfnNormIdeal [hKernelFfnNormIdeal : Cert.KernelFfnNormIdeal.Facts] : Prop :=
  ∀ (m : (ℓ : Loc Cert.KernelFfnNormIdeal.nD Cert.KernelFfnNormIdeal.τ Cert.KernelFfnNormIdeal.sig) → Buf (Elt Ideal) ℓ) (g : Dev Cert.KernelFfnNormIdeal.nD → PrngReg), Pre_KernelFfnNormIdeal m →
    θ_run (Cert.KernelFfnNormIdeal.defs (F := Ideal)) (onTc (τ := Cert.KernelFfnNormIdeal.τ) (Cert.KernelFfnNormIdeal.main (F := Ideal))) ⟨m, fun _ => 0, g⟩ (fun r => (∀ c : Dev Cert.KernelFfnNormIdeal.nD,
      r.2.mem ((c.tc : Thread Cert.KernelFfnNormIdeal.nD Cert.KernelFfnNormIdeal.τ).loc Cert.KernelFfnNormIdeal.main_arg0) = m ((c.tc : Thread Cert.KernelFfnNormIdeal.nD Cert.KernelFfnNormIdeal.τ).loc Cert.KernelFfnNormIdeal.main_arg0)
      ∧ r.2.mem ((c.tc : Thread Cert.KernelFfnNormIdeal.nD Cert.KernelFfnNormIdeal.τ).loc Cert.KernelFfnNormIdeal.main_arg1) = m ((c.tc : Thread Cert.KernelFfnNormIdeal.nD Cert.KernelFfnNormIdeal.τ).loc Cert.KernelFfnNormIdeal.main_arg1)
      ∧ r.2.mem ((c.tc : Thread Cert.KernelFfnNormIdeal.nD Cert.KernelFfnNormIdeal.τ).loc Cert.KernelFfnNormIdeal.main_arg2) = m ((c.tc : Thread Cert.KernelFfnNormIdeal.nD Cert.KernelFfnNormIdeal.τ).loc Cert.KernelFfnNormIdeal.main_arg2)
      ∧ r.2.mem ((c.tc : Thread Cert.KernelFfnNormIdeal.nD Cert.KernelFfnNormIdeal.τ).loc Cert.KernelFfnNormIdeal.main_arg3) = m ((c.tc : Thread Cert.KernelFfnNormIdeal.nD Cert.KernelFfnNormIdeal.τ).loc Cert.KernelFfnNormIdeal.main_arg3)
      ∧ r.2.mem ((c.tc : Thread Cert.KernelFfnNormIdeal.nD Cert.KernelFfnNormIdeal.τ).loc Cert.KernelFfnNormIdeal.main_arg4) = m ((c.tc : Thread Cert.KernelFfnNormIdeal.nD Cert.KernelFfnNormIdeal.τ).loc Cert.KernelFfnNormIdeal.main_arg4)
      ∧ r.2.mem ((c.tc : Thread Cert.KernelFfnNormIdeal.nD Cert.KernelFfnNormIdeal.τ).loc Cert.KernelFfnNormIdeal.main_arg5) = m ((c.tc : Thread Cert.KernelFfnNormIdeal.nD Cert.KernelFfnNormIdeal.τ).loc Cert.KernelFfnNormIdeal.main_arg5)
      ∧ r.2.mem ((c.tc : Thread Cert.KernelFfnNormIdeal.nD Cert.KernelFfnNormIdeal.τ).loc Cert.KernelFfnNormIdeal.main_arg6) = m ((c.tc : Thread Cert.KernelFfnNormIdeal.nD Cert.KernelFfnNormIdeal.τ).loc Cert.KernelFfnNormIdeal.main_arg6)
      ∧ r.2.mem ((c.tc : Thread Cert.KernelFfnNormIdeal.nD Cert.KernelFfnNormIdeal.τ).loc Cert.KernelFfnNormIdeal.main_arg7) = m ((c.tc : Thread Cert.KernelFfnNormIdeal.nD Cert.KernelFfnNormIdeal.τ).loc Cert.KernelFfnNormIdeal.main_arg7))
      ∧ r.2.sem = fun _ => 0)

def quiescent_KernelFfnNormIdeal_pre_finite_ffnnorm [hKernelFfnNormIdeal : Cert.KernelFfnNormIdeal.Facts] [hPre_finite_ffnnorm : Cert.Pre_finite_ffnnorm.Facts] : Prop :=
  ∀ (m : (ℓ : Loc Cert.KernelFfnNormIdeal.nD Cert.KernelFfnNormIdeal.τ Cert.KernelFfnNormIdeal.sig) → Buf (Elt Ideal) ℓ) (g : Dev Cert.KernelFfnNormIdeal.nD → PrngReg), Pre_KernelFfnNormIdeal_finite_ffnnorm m →
    θ_run (Cert.KernelFfnNormIdeal.defs (F := Ideal)) (onTc (τ := Cert.KernelFfnNormIdeal.τ) (Cert.KernelFfnNormIdeal.main (F := Ideal))) ⟨m, fun _ => 0, g⟩ (fun r => (∀ c : Dev Cert.KernelFfnNormIdeal.nD,
      r.2.mem ((c.tc : Thread Cert.KernelFfnNormIdeal.nD Cert.KernelFfnNormIdeal.τ).loc Cert.KernelFfnNormIdeal.main_arg0) = m ((c.tc : Thread Cert.KernelFfnNormIdeal.nD Cert.KernelFfnNormIdeal.τ).loc Cert.KernelFfnNormIdeal.main_arg0)
      ∧ r.2.mem ((c.tc : Thread Cert.KernelFfnNormIdeal.nD Cert.KernelFfnNormIdeal.τ).loc Cert.KernelFfnNormIdeal.main_arg1) = m ((c.tc : Thread Cert.KernelFfnNormIdeal.nD Cert.KernelFfnNormIdeal.τ).loc Cert.KernelFfnNormIdeal.main_arg1)
      ∧ r.2.mem ((c.tc : Thread Cert.KernelFfnNormIdeal.nD Cert.KernelFfnNormIdeal.τ).loc Cert.KernelFfnNormIdeal.main_arg2) = m ((c.tc : Thread Cert.KernelFfnNormIdeal.nD Cert.KernelFfnNormIdeal.τ).loc Cert.KernelFfnNormIdeal.main_arg2)
      ∧ r.2.mem ((c.tc : Thread Cert.KernelFfnNormIdeal.nD Cert.KernelFfnNormIdeal.τ).loc Cert.KernelFfnNormIdeal.main_arg3) = m ((c.tc : Thread Cert.KernelFfnNormIdeal.nD Cert.KernelFfnNormIdeal.τ).loc Cert.KernelFfnNormIdeal.main_arg3)
      ∧ r.2.mem ((c.tc : Thread Cert.KernelFfnNormIdeal.nD Cert.KernelFfnNormIdeal.τ).loc Cert.KernelFfnNormIdeal.main_arg4) = m ((c.tc : Thread Cert.KernelFfnNormIdeal.nD Cert.KernelFfnNormIdeal.τ).loc Cert.KernelFfnNormIdeal.main_arg4)
      ∧ r.2.mem ((c.tc : Thread Cert.KernelFfnNormIdeal.nD Cert.KernelFfnNormIdeal.τ).loc Cert.KernelFfnNormIdeal.main_arg5) = m ((c.tc : Thread Cert.KernelFfnNormIdeal.nD Cert.KernelFfnNormIdeal.τ).loc Cert.KernelFfnNormIdeal.main_arg5)
      ∧ r.2.mem ((c.tc : Thread Cert.KernelFfnNormIdeal.nD Cert.KernelFfnNormIdeal.τ).loc Cert.KernelFfnNormIdeal.main_arg6) = m ((c.tc : Thread Cert.KernelFfnNormIdeal.nD Cert.KernelFfnNormIdeal.τ).loc Cert.KernelFfnNormIdeal.main_arg6)
      ∧ r.2.mem ((c.tc : Thread Cert.KernelFfnNormIdeal.nD Cert.KernelFfnNormIdeal.τ).loc Cert.KernelFfnNormIdeal.main_arg7) = m ((c.tc : Thread Cert.KernelFfnNormIdeal.nD Cert.KernelFfnNormIdeal.τ).loc Cert.KernelFfnNormIdeal.main_arg7))
      ∧ r.2.sem = fun _ => 0)

def quiescent_ReferenceFfnNormIdeal [hReferenceFfnNormIdeal : Cert.ReferenceFfnNormIdeal.Facts] : Prop :=
  ∀ (m : (ℓ : Loc Cert.ReferenceFfnNormIdeal.nD Cert.ReferenceFfnNormIdeal.τ Cert.ReferenceFfnNormIdeal.sig) → Buf (Elt Ideal) ℓ) (g : Dev Cert.ReferenceFfnNormIdeal.nD → PrngReg), Pre_ReferenceFfnNormIdeal m →
    θ_run (Cert.ReferenceFfnNormIdeal.defs (F := Ideal)) (onTc (τ := Cert.ReferenceFfnNormIdeal.τ) (Cert.ReferenceFfnNormIdeal.main (F := Ideal))) ⟨m, fun _ => 0, g⟩ (fun r => (∀ c : Dev Cert.ReferenceFfnNormIdeal.nD,
      r.2.mem ((c.tc : Thread Cert.ReferenceFfnNormIdeal.nD Cert.ReferenceFfnNormIdeal.τ).loc Cert.ReferenceFfnNormIdeal.main_arg0) = m ((c.tc : Thread Cert.ReferenceFfnNormIdeal.nD Cert.ReferenceFfnNormIdeal.τ).loc Cert.ReferenceFfnNormIdeal.main_arg0)
      ∧ r.2.mem ((c.tc : Thread Cert.ReferenceFfnNormIdeal.nD Cert.ReferenceFfnNormIdeal.τ).loc Cert.ReferenceFfnNormIdeal.main_arg1) = m ((c.tc : Thread Cert.ReferenceFfnNormIdeal.nD Cert.ReferenceFfnNormIdeal.τ).loc Cert.ReferenceFfnNormIdeal.main_arg1)
      ∧ r.2.mem ((c.tc : Thread Cert.ReferenceFfnNormIdeal.nD Cert.ReferenceFfnNormIdeal.τ).loc Cert.ReferenceFfnNormIdeal.main_arg2) = m ((c.tc : Thread Cert.ReferenceFfnNormIdeal.nD Cert.ReferenceFfnNormIdeal.τ).loc Cert.ReferenceFfnNormIdeal.main_arg2)
      ∧ r.2.mem ((c.tc : Thread Cert.ReferenceFfnNormIdeal.nD Cert.ReferenceFfnNormIdeal.τ).loc Cert.ReferenceFfnNormIdeal.main_arg3) = m ((c.tc : Thread Cert.ReferenceFfnNormIdeal.nD Cert.ReferenceFfnNormIdeal.τ).loc Cert.ReferenceFfnNormIdeal.main_arg3)
      ∧ r.2.mem ((c.tc : Thread Cert.ReferenceFfnNormIdeal.nD Cert.ReferenceFfnNormIdeal.τ).loc Cert.ReferenceFfnNormIdeal.main_arg4) = m ((c.tc : Thread Cert.ReferenceFfnNormIdeal.nD Cert.ReferenceFfnNormIdeal.τ).loc Cert.ReferenceFfnNormIdeal.main_arg4)
      ∧ r.2.mem ((c.tc : Thread Cert.ReferenceFfnNormIdeal.nD Cert.ReferenceFfnNormIdeal.τ).loc Cert.ReferenceFfnNormIdeal.main_arg5) = m ((c.tc : Thread Cert.ReferenceFfnNormIdeal.nD Cert.ReferenceFfnNormIdeal.τ).loc Cert.ReferenceFfnNormIdeal.main_arg5)
      ∧ r.2.mem ((c.tc : Thread Cert.ReferenceFfnNormIdeal.nD Cert.ReferenceFfnNormIdeal.τ).loc Cert.ReferenceFfnNormIdeal.main_arg6) = m ((c.tc : Thread Cert.ReferenceFfnNormIdeal.nD Cert.ReferenceFfnNormIdeal.τ).loc Cert.ReferenceFfnNormIdeal.main_arg6)
      ∧ r.2.mem ((c.tc : Thread Cert.ReferenceFfnNormIdeal.nD Cert.ReferenceFfnNormIdeal.τ).loc Cert.ReferenceFfnNormIdeal.main_arg7) = m ((c.tc : Thread Cert.ReferenceFfnNormIdeal.nD Cert.ReferenceFfnNormIdeal.τ).loc Cert.ReferenceFfnNormIdeal.main_arg7))
      ∧ r.2.sem = fun _ => 0)

def quiescent_ReferenceFfnNormIdeal_pre_finite_ffnnorm [hReferenceFfnNormIdeal : Cert.ReferenceFfnNormIdeal.Facts] [hPre_finite_ffnnorm : Cert.Pre_finite_ffnnorm.Facts] : Prop :=
  ∀ (m : (ℓ : Loc Cert.ReferenceFfnNormIdeal.nD Cert.ReferenceFfnNormIdeal.τ Cert.ReferenceFfnNormIdeal.sig) → Buf (Elt Ideal) ℓ) (g : Dev Cert.ReferenceFfnNormIdeal.nD → PrngReg), Pre_ReferenceFfnNormIdeal_finite_ffnnorm m →
    θ_run (Cert.ReferenceFfnNormIdeal.defs (F := Ideal)) (onTc (τ := Cert.ReferenceFfnNormIdeal.τ) (Cert.ReferenceFfnNormIdeal.main (F := Ideal))) ⟨m, fun _ => 0, g⟩ (fun r => (∀ c : Dev Cert.ReferenceFfnNormIdeal.nD,
      r.2.mem ((c.tc : Thread Cert.ReferenceFfnNormIdeal.nD Cert.ReferenceFfnNormIdeal.τ).loc Cert.ReferenceFfnNormIdeal.main_arg0) = m ((c.tc : Thread Cert.ReferenceFfnNormIdeal.nD Cert.ReferenceFfnNormIdeal.τ).loc Cert.ReferenceFfnNormIdeal.main_arg0)
      ∧ r.2.mem ((c.tc : Thread Cert.ReferenceFfnNormIdeal.nD Cert.ReferenceFfnNormIdeal.τ).loc Cert.ReferenceFfnNormIdeal.main_arg1) = m ((c.tc : Thread Cert.ReferenceFfnNormIdeal.nD Cert.ReferenceFfnNormIdeal.τ).loc Cert.ReferenceFfnNormIdeal.main_arg1)
      ∧ r.2.mem ((c.tc : Thread Cert.ReferenceFfnNormIdeal.nD Cert.ReferenceFfnNormIdeal.τ).loc Cert.ReferenceFfnNormIdeal.main_arg2) = m ((c.tc : Thread Cert.ReferenceFfnNormIdeal.nD Cert.ReferenceFfnNormIdeal.τ).loc Cert.ReferenceFfnNormIdeal.main_arg2)
      ∧ r.2.mem ((c.tc : Thread Cert.ReferenceFfnNormIdeal.nD Cert.ReferenceFfnNormIdeal.τ).loc Cert.ReferenceFfnNormIdeal.main_arg3) = m ((c.tc : Thread Cert.ReferenceFfnNormIdeal.nD Cert.ReferenceFfnNormIdeal.τ).loc Cert.ReferenceFfnNormIdeal.main_arg3)
      ∧ r.2.mem ((c.tc : Thread Cert.ReferenceFfnNormIdeal.nD Cert.ReferenceFfnNormIdeal.τ).loc Cert.ReferenceFfnNormIdeal.main_arg4) = m ((c.tc : Thread Cert.ReferenceFfnNormIdeal.nD Cert.ReferenceFfnNormIdeal.τ).loc Cert.ReferenceFfnNormIdeal.main_arg4)
      ∧ r.2.mem ((c.tc : Thread Cert.ReferenceFfnNormIdeal.nD Cert.ReferenceFfnNormIdeal.τ).loc Cert.ReferenceFfnNormIdeal.main_arg5) = m ((c.tc : Thread Cert.ReferenceFfnNormIdeal.nD Cert.ReferenceFfnNormIdeal.τ).loc Cert.ReferenceFfnNormIdeal.main_arg5)
      ∧ r.2.mem ((c.tc : Thread Cert.ReferenceFfnNormIdeal.nD Cert.ReferenceFfnNormIdeal.τ).loc Cert.ReferenceFfnNormIdeal.main_arg6) = m ((c.tc : Thread Cert.ReferenceFfnNormIdeal.nD Cert.ReferenceFfnNormIdeal.τ).loc Cert.ReferenceFfnNormIdeal.main_arg6)
      ∧ r.2.mem ((c.tc : Thread Cert.ReferenceFfnNormIdeal.nD Cert.ReferenceFfnNormIdeal.τ).loc Cert.ReferenceFfnNormIdeal.main_arg7) = m ((c.tc : Thread Cert.ReferenceFfnNormIdeal.nD Cert.ReferenceFfnNormIdeal.τ).loc Cert.ReferenceFfnNormIdeal.main_arg7))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1))
      ∧ r.2.sem = fun _ => 0)

def quiescent_KernelDisc [hKernelDisc : Cert.KernelDisc.Facts] : Prop :=
  ∀ (m : (ℓ : Loc Cert.KernelDisc.nD Cert.KernelDisc.τ Cert.KernelDisc.sig) → Buf (Elt Bits) ℓ) (g : Dev Cert.KernelDisc.nD → PrngReg), Pre_KernelDisc m →
    θ_run (Cert.KernelDisc.defs (F := Bits)) (onTc (τ := Cert.KernelDisc.τ) (Cert.KernelDisc.main (F := Bits))) ⟨m, fun _ => 0, g⟩ (fun r => (∀ c : Dev Cert.KernelDisc.nD,
      r.2.mem ((c.tc : Thread Cert.KernelDisc.nD Cert.KernelDisc.τ).loc Cert.KernelDisc.main_arg0) = m ((c.tc : Thread Cert.KernelDisc.nD Cert.KernelDisc.τ).loc Cert.KernelDisc.main_arg0)
      ∧ r.2.mem ((c.tc : Thread Cert.KernelDisc.nD Cert.KernelDisc.τ).loc Cert.KernelDisc.main_arg1) = m ((c.tc : Thread Cert.KernelDisc.nD Cert.KernelDisc.τ).loc Cert.KernelDisc.main_arg1)
      ∧ r.2.mem ((c.tc : Thread Cert.KernelDisc.nD Cert.KernelDisc.τ).loc Cert.KernelDisc.main_arg2) = m ((c.tc : Thread Cert.KernelDisc.nD Cert.KernelDisc.τ).loc Cert.KernelDisc.main_arg2)
      ∧ r.2.mem ((c.tc : Thread Cert.KernelDisc.nD Cert.KernelDisc.τ).loc Cert.KernelDisc.main_arg3) = m ((c.tc : Thread Cert.KernelDisc.nD Cert.KernelDisc.τ).loc Cert.KernelDisc.main_arg3)
      ∧ r.2.mem ((c.tc : Thread Cert.KernelDisc.nD Cert.KernelDisc.τ).loc Cert.KernelDisc.main_arg4) = m ((c.tc : Thread Cert.KernelDisc.nD Cert.KernelDisc.τ).loc Cert.KernelDisc.main_arg4)
      ∧ r.2.mem ((c.tc : Thread Cert.KernelDisc.nD Cert.KernelDisc.τ).loc Cert.KernelDisc.main_arg5) = m ((c.tc : Thread Cert.KernelDisc.nD Cert.KernelDisc.τ).loc Cert.KernelDisc.main_arg5)
      ∧ r.2.mem ((c.tc : Thread Cert.KernelDisc.nD Cert.KernelDisc.τ).loc Cert.KernelDisc.main_arg6) = m ((c.tc : Thread Cert.KernelDisc.nD Cert.KernelDisc.τ).loc Cert.KernelDisc.main_arg6)
      ∧ r.2.mem ((c.tc : Thread Cert.KernelDisc.nD Cert.KernelDisc.τ).loc Cert.KernelDisc.main_arg7) = m ((c.tc : Thread Cert.KernelDisc.nD Cert.KernelDisc.τ).loc Cert.KernelDisc.main_arg7)
      ∧ r.2.mem ((c.tc : Thread Cert.KernelDisc.nD Cert.KernelDisc.τ).loc Cert.KernelDisc.main_arg8) = m ((c.tc : Thread Cert.KernelDisc.nD Cert.KernelDisc.τ).loc Cert.KernelDisc.main_arg8))
      ∧ r.2.sem = fun _ => 0)

def quiescent_KernelDiscIdeal [hKernelDiscIdeal : Cert.KernelDiscIdeal.Facts] : Prop :=
  ∀ (m : (ℓ : Loc Cert.KernelDiscIdeal.nD Cert.KernelDiscIdeal.τ Cert.KernelDiscIdeal.sig) → Buf (Elt Ideal) ℓ) (g : Dev Cert.KernelDiscIdeal.nD → PrngReg), Pre_KernelDiscIdeal m →
    θ_run (Cert.KernelDiscIdeal.defs (F := Ideal)) (onTc (τ := Cert.KernelDiscIdeal.τ) (Cert.KernelDiscIdeal.main (F := Ideal))) ⟨m, fun _ => 0, g⟩ (fun r => (∀ c : Dev Cert.KernelDiscIdeal.nD,
      r.2.mem ((c.tc : Thread Cert.KernelDiscIdeal.nD Cert.KernelDiscIdeal.τ).loc Cert.KernelDiscIdeal.main_arg0) = m ((c.tc : Thread Cert.KernelDiscIdeal.nD Cert.KernelDiscIdeal.τ).loc Cert.KernelDiscIdeal.main_arg0)
      ∧ r.2.mem ((c.tc : Thread Cert.KernelDiscIdeal.nD Cert.KernelDiscIdeal.τ).loc Cert.KernelDiscIdeal.main_arg1) = m ((c.tc : Thread Cert.KernelDiscIdeal.nD Cert.KernelDiscIdeal.τ).loc Cert.KernelDiscIdeal.main_arg1)
      ∧ r.2.mem ((c.tc : Thread Cert.KernelDiscIdeal.nD Cert.KernelDiscIdeal.τ).loc Cert.KernelDiscIdeal.main_arg2) = m ((c.tc : Thread Cert.KernelDiscIdeal.nD Cert.KernelDiscIdeal.τ).loc Cert.KernelDiscIdeal.main_arg2)
      ∧ r.2.mem ((c.tc : Thread Cert.KernelDiscIdeal.nD Cert.KernelDiscIdeal.τ).loc Cert.KernelDiscIdeal.main_arg3) = m ((c.tc : Thread Cert.KernelDiscIdeal.nD Cert.KernelDiscIdeal.τ).loc Cert.KernelDiscIdeal.main_arg3)
      ∧ r.2.mem ((c.tc : Thread Cert.KernelDiscIdeal.nD Cert.KernelDiscIdeal.τ).loc Cert.KernelDiscIdeal.main_arg4) = m ((c.tc : Thread Cert.KernelDiscIdeal.nD Cert.KernelDiscIdeal.τ).loc Cert.KernelDiscIdeal.main_arg4)
      ∧ r.2.mem ((c.tc : Thread Cert.KernelDiscIdeal.nD Cert.KernelDiscIdeal.τ).loc Cert.KernelDiscIdeal.main_arg5) = m ((c.tc : Thread Cert.KernelDiscIdeal.nD Cert.KernelDiscIdeal.τ).loc Cert.KernelDiscIdeal.main_arg5)
      ∧ r.2.mem ((c.tc : Thread Cert.KernelDiscIdeal.nD Cert.KernelDiscIdeal.τ).loc Cert.KernelDiscIdeal.main_arg6) = m ((c.tc : Thread Cert.KernelDiscIdeal.nD Cert.KernelDiscIdeal.τ).loc Cert.KernelDiscIdeal.main_arg6)
      ∧ r.2.mem ((c.tc : Thread Cert.KernelDiscIdeal.nD Cert.KernelDiscIdeal.τ).loc Cert.KernelDiscIdeal.main_arg7) = m ((c.tc : Thread Cert.KernelDiscIdeal.nD Cert.KernelDiscIdeal.τ).loc Cert.KernelDiscIdeal.main_arg7)
      ∧ r.2.mem ((c.tc : Thread Cert.KernelDiscIdeal.nD Cert.KernelDiscIdeal.τ).loc Cert.KernelDiscIdeal.main_arg8) = m ((c.tc : Thread Cert.KernelDiscIdeal.nD Cert.KernelDiscIdeal.τ).loc Cert.KernelDiscIdeal.main_arg8))
      ∧ r.2.sem = fun _ => 0)

def quiescent_ReferenceDiscIdeal [hReferenceDiscIdeal : Cert.ReferenceDiscIdeal.Facts] : Prop :=
  ∀ (m : (ℓ : Loc Cert.ReferenceDiscIdeal.nD Cert.ReferenceDiscIdeal.τ Cert.ReferenceDiscIdeal.sig) → Buf (Elt Ideal) ℓ) (g : Dev Cert.ReferenceDiscIdeal.nD → PrngReg), Pre_ReferenceDiscIdeal m →
    θ_run (Cert.ReferenceDiscIdeal.defs (F := Ideal)) (onTc (τ := Cert.ReferenceDiscIdeal.τ) (Cert.ReferenceDiscIdeal.main (F := Ideal))) ⟨m, fun _ => 0, g⟩ (fun r => (∀ c : Dev Cert.ReferenceDiscIdeal.nD,
      r.2.mem ((c.tc : Thread Cert.ReferenceDiscIdeal.nD Cert.ReferenceDiscIdeal.τ).loc Cert.ReferenceDiscIdeal.main_arg0) = m ((c.tc : Thread Cert.ReferenceDiscIdeal.nD Cert.ReferenceDiscIdeal.τ).loc Cert.ReferenceDiscIdeal.main_arg0)
      ∧ r.2.mem ((c.tc : Thread Cert.ReferenceDiscIdeal.nD Cert.ReferenceDiscIdeal.τ).loc Cert.ReferenceDiscIdeal.main_arg1) = m ((c.tc : Thread Cert.ReferenceDiscIdeal.nD Cert.ReferenceDiscIdeal.τ).loc Cert.ReferenceDiscIdeal.main_arg1)
      ∧ r.2.mem ((c.tc : Thread Cert.ReferenceDiscIdeal.nD Cert.ReferenceDiscIdeal.τ).loc Cert.ReferenceDiscIdeal.main_arg2) = m ((c.tc : Thread Cert.ReferenceDiscIdeal.nD Cert.ReferenceDiscIdeal.τ).loc Cert.ReferenceDiscIdeal.main_arg2)
      ∧ r.2.mem ((c.tc : Thread Cert.ReferenceDiscIdeal.nD Cert.ReferenceDiscIdeal.τ).loc Cert.ReferenceDiscIdeal.main_arg3) = m ((c.tc : Thread Cert.ReferenceDiscIdeal.nD Cert.ReferenceDiscIdeal.τ).loc Cert.ReferenceDiscIdeal.main_arg3)
      ∧ r.2.mem ((c.tc : Thread Cert.ReferenceDiscIdeal.nD Cert.ReferenceDiscIdeal.τ).loc Cert.ReferenceDiscIdeal.main_arg4) = m ((c.tc : Thread Cert.ReferenceDiscIdeal.nD Cert.ReferenceDiscIdeal.τ).loc Cert.ReferenceDiscIdeal.main_arg4)
      ∧ r.2.mem ((c.tc : Thread Cert.ReferenceDiscIdeal.nD Cert.ReferenceDiscIdeal.τ).loc Cert.ReferenceDiscIdeal.main_arg5) = m ((c.tc : Thread Cert.ReferenceDiscIdeal.nD Cert.ReferenceDiscIdeal.τ).loc Cert.ReferenceDiscIdeal.main_arg5)
      ∧ r.2.mem ((c.tc : Thread Cert.ReferenceDiscIdeal.nD Cert.ReferenceDiscIdeal.τ).loc Cert.ReferenceDiscIdeal.main_arg6) = m ((c.tc : Thread Cert.ReferenceDiscIdeal.nD Cert.ReferenceDiscIdeal.τ).loc Cert.ReferenceDiscIdeal.main_arg6)
      ∧ r.2.mem ((c.tc : Thread Cert.ReferenceDiscIdeal.nD Cert.ReferenceDiscIdeal.τ).loc Cert.ReferenceDiscIdeal.main_arg7) = m ((c.tc : Thread Cert.ReferenceDiscIdeal.nD Cert.ReferenceDiscIdeal.τ).loc Cert.ReferenceDiscIdeal.main_arg7)
      ∧ r.2.mem ((c.tc : Thread Cert.ReferenceDiscIdeal.nD Cert.ReferenceDiscIdeal.τ).loc Cert.ReferenceDiscIdeal.main_arg8) = m ((c.tc : Thread Cert.ReferenceDiscIdeal.nD Cert.ReferenceDiscIdeal.τ).loc Cert.ReferenceDiscIdeal.main_arg8))
      ∧ r.2.sem = fun _ => 0)

def quiescent_KernelHid [hKernelHid : Cert.KernelHid.Facts] : Prop :=
  ∀ (m : (ℓ : Loc Cert.KernelHid.nD Cert.KernelHid.τ Cert.KernelHid.sig) → Buf (Elt Bits) ℓ) (g : Dev Cert.KernelHid.nD → PrngReg), Pre_KernelHid m →
    θ_run (Cert.KernelHid.defs (F := Bits)) (onTc (τ := Cert.KernelHid.τ) (Cert.KernelHid.main (F := Bits))) ⟨m, fun _ => 0, g⟩ (fun r => (∀ c : Dev Cert.KernelHid.nD,
      r.2.mem ((c.tc : Thread Cert.KernelHid.nD Cert.KernelHid.τ).loc Cert.KernelHid.main_arg0) = m ((c.tc : Thread Cert.KernelHid.nD Cert.KernelHid.τ).loc Cert.KernelHid.main_arg0)
      ∧ r.2.mem ((c.tc : Thread Cert.KernelHid.nD Cert.KernelHid.τ).loc Cert.KernelHid.main_arg1) = m ((c.tc : Thread Cert.KernelHid.nD Cert.KernelHid.τ).loc Cert.KernelHid.main_arg1)
      ∧ r.2.mem ((c.tc : Thread Cert.KernelHid.nD Cert.KernelHid.τ).loc Cert.KernelHid.main_arg2) = m ((c.tc : Thread Cert.KernelHid.nD Cert.KernelHid.τ).loc Cert.KernelHid.main_arg2)
      ∧ r.2.mem ((c.tc : Thread Cert.KernelHid.nD Cert.KernelHid.τ).loc Cert.KernelHid.main_arg3) = m ((c.tc : Thread Cert.KernelHid.nD Cert.KernelHid.τ).loc Cert.KernelHid.main_arg3)
      ∧ r.2.mem ((c.tc : Thread Cert.KernelHid.nD Cert.KernelHid.τ).loc Cert.KernelHid.main_arg4) = m ((c.tc : Thread Cert.KernelHid.nD Cert.KernelHid.τ).loc Cert.KernelHid.main_arg4)
      ∧ r.2.mem ((c.tc : Thread Cert.KernelHid.nD Cert.KernelHid.τ).loc Cert.KernelHid.main_arg5) = m ((c.tc : Thread Cert.KernelHid.nD Cert.KernelHid.τ).loc Cert.KernelHid.main_arg5))
      ∧ r.2.sem = fun _ => 0)

def quiescent_KernelHidIdeal [hKernelHidIdeal : Cert.KernelHidIdeal.Facts] : Prop :=
  ∀ (m : (ℓ : Loc Cert.KernelHidIdeal.nD Cert.KernelHidIdeal.τ Cert.KernelHidIdeal.sig) → Buf (Elt Ideal) ℓ) (g : Dev Cert.KernelHidIdeal.nD → PrngReg), Pre_KernelHidIdeal m →
    θ_run (Cert.KernelHidIdeal.defs (F := Ideal)) (onTc (τ := Cert.KernelHidIdeal.τ) (Cert.KernelHidIdeal.main (F := Ideal))) ⟨m, fun _ => 0, g⟩ (fun r => (∀ c : Dev Cert.KernelHidIdeal.nD,
      r.2.mem ((c.tc : Thread Cert.KernelHidIdeal.nD Cert.KernelHidIdeal.τ).loc Cert.KernelHidIdeal.main_arg0) = m ((c.tc : Thread Cert.KernelHidIdeal.nD Cert.KernelHidIdeal.τ).loc Cert.KernelHidIdeal.main_arg0)
      ∧ r.2.mem ((c.tc : Thread Cert.KernelHidIdeal.nD Cert.KernelHidIdeal.τ).loc Cert.KernelHidIdeal.main_arg1) = m ((c.tc : Thread Cert.KernelHidIdeal.nD Cert.KernelHidIdeal.τ).loc Cert.KernelHidIdeal.main_arg1)
      ∧ r.2.mem ((c.tc : Thread Cert.KernelHidIdeal.nD Cert.KernelHidIdeal.τ).loc Cert.KernelHidIdeal.main_arg2) = m ((c.tc : Thread Cert.KernelHidIdeal.nD Cert.KernelHidIdeal.τ).loc Cert.KernelHidIdeal.main_arg2)
      ∧ r.2.mem ((c.tc : Thread Cert.KernelHidIdeal.nD Cert.KernelHidIdeal.τ).loc Cert.KernelHidIdeal.main_arg3) = m ((c.tc : Thread Cert.KernelHidIdeal.nD Cert.KernelHidIdeal.τ).loc Cert.KernelHidIdeal.main_arg3)
      ∧ r.2.mem ((c.tc : Thread Cert.KernelHidIdeal.nD Cert.KernelHidIdeal.τ).loc Cert.KernelHidIdeal.main_arg4) = m ((c.tc : Thread Cert.KernelHidIdeal.nD Cert.KernelHidIdeal.τ).loc Cert.KernelHidIdeal.main_arg4)
      ∧ r.2.mem ((c.tc : Thread Cert.KernelHidIdeal.nD Cert.KernelHidIdeal.τ).loc Cert.KernelHidIdeal.main_arg5) = m ((c.tc : Thread Cert.KernelHidIdeal.nD Cert.KernelHidIdeal.τ).loc Cert.KernelHidIdeal.main_arg5))
      ∧ r.2.sem = fun _ => 0)

def quiescent_KernelHidIdeal_pre_finite_hid [hKernelHidIdeal : Cert.KernelHidIdeal.Facts] [hPre_finite_hid : Cert.Pre_finite_hid.Facts] : Prop :=
  ∀ (m : (ℓ : Loc Cert.KernelHidIdeal.nD Cert.KernelHidIdeal.τ Cert.KernelHidIdeal.sig) → Buf (Elt Ideal) ℓ) (g : Dev Cert.KernelHidIdeal.nD → PrngReg), Pre_KernelHidIdeal_finite_hid m →
    θ_run (Cert.KernelHidIdeal.defs (F := Ideal)) (onTc (τ := Cert.KernelHidIdeal.τ) (Cert.KernelHidIdeal.main (F := Ideal))) ⟨m, fun _ => 0, g⟩ (fun r => (∀ c : Dev Cert.KernelHidIdeal.nD,
      r.2.mem ((c.tc : Thread Cert.KernelHidIdeal.nD Cert.KernelHidIdeal.τ).loc Cert.KernelHidIdeal.main_arg0) = m ((c.tc : Thread Cert.KernelHidIdeal.nD Cert.KernelHidIdeal.τ).loc Cert.KernelHidIdeal.main_arg0)
      ∧ r.2.mem ((c.tc : Thread Cert.KernelHidIdeal.nD Cert.KernelHidIdeal.τ).loc Cert.KernelHidIdeal.main_arg1) = m ((c.tc : Thread Cert.KernelHidIdeal.nD Cert.KernelHidIdeal.τ).loc Cert.KernelHidIdeal.main_arg1)
      ∧ r.2.mem ((c.tc : Thread Cert.KernelHidIdeal.nD Cert.KernelHidIdeal.τ).loc Cert.KernelHidIdeal.main_arg2) = m ((c.tc : Thread Cert.KernelHidIdeal.nD Cert.KernelHidIdeal.τ).loc Cert.KernelHidIdeal.main_arg2)
      ∧ r.2.mem ((c.tc : Thread Cert.KernelHidIdeal.nD Cert.KernelHidIdeal.τ).loc Cert.KernelHidIdeal.main_arg3) = m ((c.tc : Thread Cert.KernelHidIdeal.nD Cert.KernelHidIdeal.τ).loc Cert.KernelHidIdeal.main_arg3)
      ∧ r.2.mem ((c.tc : Thread Cert.KernelHidIdeal.nD Cert.KernelHidIdeal.τ).loc Cert.KernelHidIdeal.main_arg4) = m ((c.tc : Thread Cert.KernelHidIdeal.nD Cert.KernelHidIdeal.τ).loc Cert.KernelHidIdeal.main_arg4)
      ∧ r.2.mem ((c.tc : Thread Cert.KernelHidIdeal.nD Cert.KernelHidIdeal.τ).loc Cert.KernelHidIdeal.main_arg5) = m ((c.tc : Thread Cert.KernelHidIdeal.nD Cert.KernelHidIdeal.τ).loc Cert.KernelHidIdeal.main_arg5))
      ∧ r.2.sem = fun _ => 0)

def quiescent_ReferenceHidIdeal [hReferenceHidIdeal : Cert.ReferenceHidIdeal.Facts] : Prop :=
  ∀ (m : (ℓ : Loc Cert.ReferenceHidIdeal.nD Cert.ReferenceHidIdeal.τ Cert.ReferenceHidIdeal.sig) → Buf (Elt Ideal) ℓ) (g : Dev Cert.ReferenceHidIdeal.nD → PrngReg), Pre_ReferenceHidIdeal m →
    θ_run (Cert.ReferenceHidIdeal.defs (F := Ideal)) (onTc (τ := Cert.ReferenceHidIdeal.τ) (Cert.ReferenceHidIdeal.main (F := Ideal))) ⟨m, fun _ => 0, g⟩ (fun r => (∀ c : Dev Cert.ReferenceHidIdeal.nD,
      r.2.mem ((c.tc : Thread Cert.ReferenceHidIdeal.nD Cert.ReferenceHidIdeal.τ).loc Cert.ReferenceHidIdeal.main_arg0) = m ((c.tc : Thread Cert.ReferenceHidIdeal.nD Cert.ReferenceHidIdeal.τ).loc Cert.ReferenceHidIdeal.main_arg0)
      ∧ r.2.mem ((c.tc : Thread Cert.ReferenceHidIdeal.nD Cert.ReferenceHidIdeal.τ).loc Cert.ReferenceHidIdeal.main_arg1) = m ((c.tc : Thread Cert.ReferenceHidIdeal.nD Cert.ReferenceHidIdeal.τ).loc Cert.ReferenceHidIdeal.main_arg1)
      ∧ r.2.mem ((c.tc : Thread Cert.ReferenceHidIdeal.nD Cert.ReferenceHidIdeal.τ).loc Cert.ReferenceHidIdeal.main_arg2) = m ((c.tc : Thread Cert.ReferenceHidIdeal.nD Cert.ReferenceHidIdeal.τ).loc Cert.ReferenceHidIdeal.main_arg2)
      ∧ r.2.mem ((c.tc : Thread Cert.ReferenceHidIdeal.nD Cert.ReferenceHidIdeal.τ).loc Cert.ReferenceHidIdeal.main_arg3) = m ((c.tc : Thread Cert.ReferenceHidIdeal.nD Cert.ReferenceHidIdeal.τ).loc Cert.ReferenceHidIdeal.main_arg3)
      ∧ r.2.mem ((c.tc : Thread Cert.ReferenceHidIdeal.nD Cert.ReferenceHidIdeal.τ).loc Cert.ReferenceHidIdeal.main_arg4) = m ((c.tc : Thread Cert.ReferenceHidIdeal.nD Cert.ReferenceHidIdeal.τ).loc Cert.ReferenceHidIdeal.main_arg4)
      ∧ r.2.mem ((c.tc : Thread Cert.ReferenceHidIdeal.nD Cert.ReferenceHidIdeal.τ).loc Cert.ReferenceHidIdeal.main_arg5) = m ((c.tc : Thread Cert.ReferenceHidIdeal.nD Cert.ReferenceHidIdeal.τ).loc Cert.ReferenceHidIdeal.main_arg5))
      ∧ r.2.sem = fun _ => 0)

def quiescent_ReferenceHidIdeal_pre_finite_hid [hReferenceHidIdeal : Cert.ReferenceHidIdeal.Facts] [hPre_finite_hid : Cert.Pre_finite_hid.Facts] : Prop :=
  ∀ (m : (ℓ : Loc Cert.ReferenceHidIdeal.nD Cert.ReferenceHidIdeal.τ Cert.ReferenceHidIdeal.sig) → Buf (Elt Ideal) ℓ) (g : Dev Cert.ReferenceHidIdeal.nD → PrngReg), Pre_ReferenceHidIdeal_finite_hid m →
    θ_run (Cert.ReferenceHidIdeal.defs (F := Ideal)) (onTc (τ := Cert.ReferenceHidIdeal.τ) (Cert.ReferenceHidIdeal.main (F := Ideal))) ⟨m, fun _ => 0, g⟩ (fun r => (∀ c : Dev Cert.ReferenceHidIdeal.nD,
      r.2.mem ((c.tc : Thread Cert.ReferenceHidIdeal.nD Cert.ReferenceHidIdeal.τ).loc Cert.ReferenceHidIdeal.main_arg0) = m ((c.tc : Thread Cert.ReferenceHidIdeal.nD Cert.ReferenceHidIdeal.τ).loc Cert.ReferenceHidIdeal.main_arg0)
      ∧ r.2.mem ((c.tc : Thread Cert.ReferenceHidIdeal.nD Cert.ReferenceHidIdeal.τ).loc Cert.ReferenceHidIdeal.main_arg1) = m ((c.tc : Thread Cert.ReferenceHidIdeal.nD Cert.ReferenceHidIdeal.τ).loc Cert.ReferenceHidIdeal.main_arg1)
      ∧ r.2.mem ((c.tc : Thread Cert.ReferenceHidIdeal.nD Cert.ReferenceHidIdeal.τ).loc Cert.ReferenceHidIdeal.main_arg2) = m ((c.tc : Thread Cert.ReferenceHidIdeal.nD Cert.ReferenceHidIdeal.τ).loc Cert.ReferenceHidIdeal.main_arg2)
      ∧ r.2.mem ((c.tc : Thread Cert.ReferenceHidIdeal.nD Cert.ReferenceHidIdeal.τ).loc Cert.ReferenceHidIdeal.main_arg3) = m ((c.tc : Thread Cert.ReferenceHidIdeal.nD Cert.ReferenceHidIdeal.τ).loc Cert.ReferenceHidIdeal.main_arg3)
      ∧ r.2.mem ((c.tc : Thread Cert.ReferenceHidIdeal.nD Cert.ReferenceHidIdeal.τ).loc Cert.ReferenceHidIdeal.main_arg4) = m ((c.tc : Thread Cert.ReferenceHidIdeal.nD Cert.ReferenceHidIdeal.τ).loc Cert.ReferenceHidIdeal.main_arg4)
      ∧ r.2.mem ((c.tc : Thread Cert.ReferenceHidIdeal.nD Cert.ReferenceHidIdeal.τ).loc Cert.ReferenceHidIdeal.main_arg5) = m ((c.tc : Thread Cert.ReferenceHidIdeal.nD Cert.ReferenceHidIdeal.τ).loc Cert.ReferenceHidIdeal.main_arg5))
      ∧ r.2.sem = fun _ => 0)

def quiescent_KernelNormF [hKernelNormF : Cert.KernelNormF.Facts] : Prop :=
  ∀ (m : (ℓ : Loc Cert.KernelNormF.nD Cert.KernelNormF.τ Cert.KernelNormF.sig) → Buf (Elt Bits) ℓ) (g : Dev Cert.KernelNormF.nD → PrngReg), Pre_KernelNormF m →
    θ_run (Cert.KernelNormF.defs (F := Bits)) (onTc (τ := Cert.KernelNormF.τ) (Cert.KernelNormF.main (F := Bits))) ⟨m, fun _ => 0, g⟩ (fun r => (∀ c : Dev Cert.KernelNormF.nD,
      r.2.mem ((c.tc : Thread Cert.KernelNormF.nD Cert.KernelNormF.τ).loc Cert.KernelNormF.main_arg0) = m ((c.tc : Thread Cert.KernelNormF.nD Cert.KernelNormF.τ).loc Cert.KernelNormF.main_arg0)
      ∧ r.2.mem ((c.tc : Thread Cert.KernelNormF.nD Cert.KernelNormF.τ).loc Cert.KernelNormF.main_arg1) = m ((c.tc : Thread Cert.KernelNormF.nD Cert.KernelNormF.τ).loc Cert.KernelNormF.main_arg1)
      ∧ r.2.mem ((c.tc : Thread Cert.KernelNormF.nD Cert.KernelNormF.τ).loc Cert.KernelNormF.main_arg2) = m ((c.tc : Thread Cert.KernelNormF.nD Cert.KernelNormF.τ).loc Cert.KernelNormF.main_arg2)
      ∧ r.2.mem ((c.tc : Thread Cert.KernelNormF.nD Cert.KernelNormF.τ).loc Cert.KernelNormF.main_arg3) = m ((c.tc : Thread Cert.KernelNormF.nD Cert.KernelNormF.τ).loc Cert.KernelNormF.main_arg3))
      ∧ r.2.sem = fun _ => 0)

def quiescent_KernelNormFIdeal [hKernelNormFIdeal : Cert.KernelNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg), Pre_KernelNormFIdeal m →
    θ_run (Cert.KernelNormFIdeal.defs (F := Ideal)) (onTc (τ := Cert.KernelNormFIdeal.τ) (Cert.KernelNormFIdeal.main (F := Ideal))) ⟨m, fun _ => 0, g⟩ (fun r => (∀ c : Dev Cert.KernelNormFIdeal.nD,
      r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
      ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1)
      ∧ r.2.mem ((c.tc : Thread Cert.KernelNormFIdeal.nD Cert.KernelNormFIdeal.τ).loc Cert.KernelNormFIdeal.main_arg2) = m ((c.tc : Thread Cert.KernelNormFIdeal.nD Cert.KernelNormFIdeal.τ).loc Cert.KernelNormFIdeal.main_arg2)
      ∧ r.2.mem ((c.tc : Thread Cert.KernelNormFIdeal.nD Cert.KernelNormFIdeal.τ).loc Cert.KernelNormFIdeal.main_arg3) = m ((c.tc : Thread Cert.KernelNormFIdeal.nD Cert.KernelNormFIdeal.τ).loc Cert.KernelNormFIdeal.main_arg3))
      ∧ r.2.sem = fun _ => 0)

def quiescent_ReferenceNormFIdeal [hReferenceNormFIdeal : Cert.ReferenceNormFIdeal.Facts] : Prop :=
  ∀ (m : (ℓ : Loc Cert.ReferenceNormFIdeal.nD Cert.ReferenceNormFIdeal.τ Cert.ReferenceNormFIdeal.sig) → Buf (Elt Ideal) ℓ) (g : Dev Cert.ReferenceNormFIdeal.nD → PrngReg), Pre_ReferenceNormFIdeal m →
    θ_run (Cert.ReferenceNormFIdeal.defs (F := Ideal)) (onTc (τ := Cert.ReferenceNormFIdeal.τ) (Cert.ReferenceNormFIdeal.main (F := Ideal))) ⟨m, fun _ => 0, g⟩ (fun r => (∀ c : Dev Cert.ReferenceNormFIdeal.nD,
      r.2.mem ((c.tc : Thread Cert.ReferenceNormFIdeal.nD Cert.ReferenceNormFIdeal.τ).loc Cert.ReferenceNormFIdeal.main_arg0) = m ((c.tc : Thread Cert.ReferenceNormFIdeal.nD Cert.ReferenceNormFIdeal.τ).loc Cert.ReferenceNormFIdeal.main_arg0)
      ∧ r.2.mem ((c.tc : Thread Cert.ReferenceNormFIdeal.nD Cert.ReferenceNormFIdeal.τ).loc Cert.ReferenceNormFIdeal.main_arg1) = m ((c.tc : Thread Cert.ReferenceNormFIdeal.nD Cert.ReferenceNormFIdeal.τ).loc Cert.ReferenceNormFIdeal.main_arg1)
      ∧ r.2.mem ((c.tc : Thread Cert.ReferenceNormFIdeal.nD Cert.ReferenceNormFIdeal.τ).loc Cert.ReferenceNormFIdeal.main_arg2) = m ((c.tc : Thread Cert.ReferenceNormFIdeal.nD Cert.ReferenceNormFIdeal.τ).loc Cert.ReferenceNormFIdeal.main_arg2)
      ∧ r.2.mem ((c.tc : Thread Cert.ReferenceNormFIdeal.nD Cert.ReferenceNormFIdeal.τ).loc Cert.ReferenceNormFIdeal.main_arg3) = m ((c.tc : Thread Cert.ReferenceNormFIdeal.nD Cert.ReferenceNormFIdeal.τ).loc Cert.ReferenceNormFIdeal.main_arg3))
      ∧ r.2.sem = fun _ => 0)

def quiescent_KernelUpF [hKernelUpF : Cert.KernelUpF.Facts] : Prop :=
  ∀ (m : (ℓ : Loc Cert.KernelUpF.nD Cert.KernelUpF.τ Cert.KernelUpF.sig) → Buf (Elt Bits) ℓ) (g : Dev Cert.KernelUpF.nD → PrngReg), Pre_KernelUpF m →
    θ_run (Cert.KernelUpF.defs (F := Bits)) (onTc (τ := Cert.KernelUpF.τ) (Cert.KernelUpF.main (F := Bits))) ⟨m, fun _ => 0, g⟩ (fun r => (∀ c : Dev Cert.KernelUpF.nD,
      r.2.mem ((c.tc : Thread Cert.KernelUpF.nD Cert.KernelUpF.τ).loc Cert.KernelUpF.main_arg0) = m ((c.tc : Thread Cert.KernelUpF.nD Cert.KernelUpF.τ).loc Cert.KernelUpF.main_arg0)
      ∧ r.2.mem ((c.tc : Thread Cert.KernelUpF.nD Cert.KernelUpF.τ).loc Cert.KernelUpF.main_arg1) = m ((c.tc : Thread Cert.KernelUpF.nD Cert.KernelUpF.τ).loc Cert.KernelUpF.main_arg1)
      ∧ r.2.mem ((c.tc : Thread Cert.KernelUpF.nD Cert.KernelUpF.τ).loc Cert.KernelUpF.main_arg2) = m ((c.tc : Thread Cert.KernelUpF.nD Cert.KernelUpF.τ).loc Cert.KernelUpF.main_arg2))
      ∧ r.2.sem = fun _ => 0)

def quiescent_KernelUpFIdeal [hKernelUpFIdeal : Cert.KernelUpFIdeal.Facts] : Prop :=
  ∀ (m : (ℓ : Loc Cert.KernelUpFIdeal.nD Cert.KernelUpFIdeal.τ Cert.KernelUpFIdeal.sig) → Buf (Elt Ideal) ℓ) (g : Dev Cert.KernelUpFIdeal.nD → PrngReg), Pre_KernelUpFIdeal m →
    θ_run (Cert.KernelUpFIdeal.defs (F := Ideal)) (onTc (τ := Cert.KernelUpFIdeal.τ) (Cert.KernelUpFIdeal.main (F := Ideal))) ⟨m, fun _ => 0, g⟩ (fun r => (∀ c : Dev Cert.KernelUpFIdeal.nD,
      r.2.mem ((c.tc : Thread Cert.KernelUpFIdeal.nD Cert.KernelUpFIdeal.τ).loc Cert.KernelUpFIdeal.main_arg0) = m ((c.tc : Thread Cert.KernelUpFIdeal.nD Cert.KernelUpFIdeal.τ).loc Cert.KernelUpFIdeal.main_arg0)
      ∧ r.2.mem ((c.tc : Thread Cert.KernelUpFIdeal.nD Cert.KernelUpFIdeal.τ).loc Cert.KernelUpFIdeal.main_arg1) = m ((c.tc : Thread Cert.KernelUpFIdeal.nD Cert.KernelUpFIdeal.τ).loc Cert.KernelUpFIdeal.main_arg1)
      ∧ r.2.mem ((c.tc : Thread Cert.KernelUpFIdeal.nD Cert.KernelUpFIdeal.τ).loc Cert.KernelUpFIdeal.main_arg2) = m ((c.tc : Thread Cert.KernelUpFIdeal.nD Cert.KernelUpFIdeal.τ).loc Cert.KernelUpFIdeal.main_arg2))
      ∧ r.2.sem = fun _ => 0)

def quiescent_KernelUpFIdeal_pre_finite_upf [hKernelUpFIdeal : Cert.KernelUpFIdeal.Facts] [hPre_finite_upf : Cert.Pre_finite_upf.Facts] : Prop :=
  ∀ (m : (ℓ : Loc Cert.KernelUpFIdeal.nD Cert.KernelUpFIdeal.τ Cert.KernelUpFIdeal.sig) → Buf (Elt Ideal) ℓ) (g : Dev Cert.KernelUpFIdeal.nD → PrngReg), Pre_KernelUpFIdeal_finite_upf m →
    θ_run (Cert.KernelUpFIdeal.defs (F := Ideal)) (onTc (τ := Cert.KernelUpFIdeal.τ) (Cert.KernelUpFIdeal.main (F := Ideal))) ⟨m, fun _ => 0, g⟩ (fun r => (∀ c : Dev Cert.KernelUpFIdeal.nD,
      r.2.mem ((c.tc : Thread Cert.KernelUpFIdeal.nD Cert.KernelUpFIdeal.τ).loc Cert.KernelUpFIdeal.main_arg0) = m ((c.tc : Thread Cert.KernelUpFIdeal.nD Cert.KernelUpFIdeal.τ).loc Cert.KernelUpFIdeal.main_arg0)
      ∧ r.2.mem ((c.tc : Thread Cert.KernelUpFIdeal.nD Cert.KernelUpFIdeal.τ).loc Cert.KernelUpFIdeal.main_arg1) = m ((c.tc : Thread Cert.KernelUpFIdeal.nD Cert.KernelUpFIdeal.τ).loc Cert.KernelUpFIdeal.main_arg1)
      ∧ r.2.mem ((c.tc : Thread Cert.KernelUpFIdeal.nD Cert.KernelUpFIdeal.τ).loc Cert.KernelUpFIdeal.main_arg2) = m ((c.tc : Thread Cert.KernelUpFIdeal.nD Cert.KernelUpFIdeal.τ).loc Cert.KernelUpFIdeal.main_arg2))
      ∧ r.2.sem = fun _ => 0)

def quiescent_ReferenceUpFIdeal [hReferenceUpFIdeal : Cert.ReferenceUpFIdeal.Facts] : Prop :=
  ∀ (m : (ℓ : Loc Cert.ReferenceUpFIdeal.nD Cert.ReferenceUpFIdeal.τ Cert.ReferenceUpFIdeal.sig) → Buf (Elt Ideal) ℓ) (g : Dev Cert.ReferenceUpFIdeal.nD → PrngReg), Pre_ReferenceUpFIdeal m →
    θ_run (Cert.ReferenceUpFIdeal.defs (F := Ideal)) (onTc (τ := Cert.ReferenceUpFIdeal.τ) (Cert.ReferenceUpFIdeal.main (F := Ideal))) ⟨m, fun _ => 0, g⟩ (fun r => (∀ c : Dev Cert.ReferenceUpFIdeal.nD,
      r.2.mem ((c.tc : Thread Cert.ReferenceUpFIdeal.nD Cert.ReferenceUpFIdeal.τ).loc Cert.ReferenceUpFIdeal.main_arg0) = m ((c.tc : Thread Cert.ReferenceUpFIdeal.nD Cert.ReferenceUpFIdeal.τ).loc Cert.ReferenceUpFIdeal.main_arg0)
      ∧ r.2.mem ((c.tc : Thread Cert.ReferenceUpFIdeal.nD Cert.ReferenceUpFIdeal.τ).loc Cert.ReferenceUpFIdeal.main_arg1) = m ((c.tc : Thread Cert.ReferenceUpFIdeal.nD Cert.ReferenceUpFIdeal.τ).loc Cert.ReferenceUpFIdeal.main_arg1)
      ∧ r.2.mem ((c.tc : Thread Cert.ReferenceUpFIdeal.nD Cert.ReferenceUpFIdeal.τ).loc Cert.ReferenceUpFIdeal.main_arg2) = m ((c.tc : Thread Cert.ReferenceUpFIdeal.nD Cert.ReferenceUpFIdeal.τ).loc Cert.ReferenceUpFIdeal.main_arg2))
      ∧ r.2.sem = fun _ => 0)

def quiescent_ReferenceUpFIdeal_pre_finite_upf [hReferenceUpFIdeal : Cert.ReferenceUpFIdeal.Facts] [hPre_finite_upf : Cert.Pre_finite_upf.Facts] : Prop :=
  ∀ (m : (ℓ : Loc Cert.ReferenceUpFIdeal.nD Cert.ReferenceUpFIdeal.τ Cert.ReferenceUpFIdeal.sig) → Buf (Elt Ideal) ℓ) (g : Dev Cert.ReferenceUpFIdeal.nD → PrngReg), Pre_ReferenceUpFIdeal_finite_upf m →
    θ_run (Cert.ReferenceUpFIdeal.defs (F := Ideal)) (onTc (τ := Cert.ReferenceUpFIdeal.τ) (Cert.ReferenceUpFIdeal.main (F := Ideal))) ⟨m, fun _ => 0, g⟩ (fun r => (∀ c : Dev Cert.ReferenceUpFIdeal.nD,
      r.2.mem ((c.tc : Thread Cert.ReferenceUpFIdeal.nD Cert.ReferenceUpFIdeal.τ).loc Cert.ReferenceUpFIdeal.main_arg0) = m ((c.tc : Thread Cert.ReferenceUpFIdeal.nD Cert.ReferenceUpFIdeal.τ).loc Cert.ReferenceUpFIdeal.main_arg0)
      ∧ r.2.mem ((c.tc : Thread Cert.ReferenceUpFIdeal.nD Cert.ReferenceUpFIdeal.τ).loc Cert.ReferenceUpFIdeal.main_arg1) = m ((c.tc : Thread Cert.ReferenceUpFIdeal.nD Cert.ReferenceUpFIdeal.τ).loc Cert.ReferenceUpFIdeal.main_arg1)
      ∧ r.2.mem ((c.tc : Thread Cert.ReferenceUpFIdeal.nD Cert.ReferenceUpFIdeal.τ).loc Cert.ReferenceUpFIdeal.main_arg2) = m ((c.tc : Thread Cert.ReferenceUpFIdeal.nD Cert.ReferenceUpFIdeal.τ).loc Cert.ReferenceUpFIdeal.main_arg2))
      ∧ r.2.sem = fun _ => 0)

def quiescent_KernelDownF [hKernelDownF : Cert.KernelDownF.Facts] : Prop :=
  ∀ (m : (ℓ : Loc Cert.KernelDownF.nD Cert.KernelDownF.τ Cert.KernelDownF.sig) → Buf (Elt Bits) ℓ) (g : Dev Cert.KernelDownF.nD → PrngReg), Pre_KernelDownF m →
    θ_run (Cert.KernelDownF.defs (F := Bits)) (onTc (τ := Cert.KernelDownF.τ) (Cert.KernelDownF.main (F := Bits))) ⟨m, fun _ => 0, g⟩ (fun r => (∀ c : Dev Cert.KernelDownF.nD,
      r.2.mem ((c.tc : Thread Cert.KernelDownF.nD Cert.KernelDownF.τ).loc Cert.KernelDownF.main_arg0) = m ((c.tc : Thread Cert.KernelDownF.nD Cert.KernelDownF.τ).loc Cert.KernelDownF.main_arg0)
      ∧ r.2.mem ((c.tc : Thread Cert.KernelDownF.nD Cert.KernelDownF.τ).loc Cert.KernelDownF.main_arg1) = m ((c.tc : Thread Cert.KernelDownF.nD Cert.KernelDownF.τ).loc Cert.KernelDownF.main_arg1)
      ∧ r.2.mem ((c.tc : Thread Cert.KernelDownF.nD Cert.KernelDownF.τ).loc Cert.KernelDownF.main_arg2) = m ((c.tc : Thread Cert.KernelDownF.nD Cert.KernelDownF.τ).loc Cert.KernelDownF.main_arg2)
      ∧ r.2.mem ((c.tc : Thread Cert.KernelDownF.nD Cert.KernelDownF.τ).loc Cert.KernelDownF.main_arg3) = m ((c.tc : Thread Cert.KernelDownF.nD Cert.KernelDownF.τ).loc Cert.KernelDownF.main_arg3))
      ∧ r.2.sem = fun _ => 0)

def quiescent_KernelDownFIdeal [hKernelDownFIdeal : Cert.KernelDownFIdeal.Facts] : Prop :=
  ∀ (m : (ℓ : Loc Cert.KernelDownFIdeal.nD Cert.KernelDownFIdeal.τ Cert.KernelDownFIdeal.sig) → Buf (Elt Ideal) ℓ) (g : Dev Cert.KernelDownFIdeal.nD → PrngReg), Pre_KernelDownFIdeal m →
    θ_run (Cert.KernelDownFIdeal.defs (F := Ideal)) (onTc (τ := Cert.KernelDownFIdeal.τ) (Cert.KernelDownFIdeal.main (F := Ideal))) ⟨m, fun _ => 0, g⟩ (fun r => (∀ c : Dev Cert.KernelDownFIdeal.nD,
      r.2.mem ((c.tc : Thread Cert.KernelDownFIdeal.nD Cert.KernelDownFIdeal.τ).loc Cert.KernelDownFIdeal.main_arg0) = m ((c.tc : Thread Cert.KernelDownFIdeal.nD Cert.KernelDownFIdeal.τ).loc Cert.KernelDownFIdeal.main_arg0)
      ∧ r.2.mem ((c.tc : Thread Cert.KernelDownFIdeal.nD Cert.KernelDownFIdeal.τ).loc Cert.KernelDownFIdeal.main_arg1) = m ((c.tc : Thread Cert.KernelDownFIdeal.nD Cert.KernelDownFIdeal.τ).loc Cert.KernelDownFIdeal.main_arg1)
      ∧ r.2.mem ((c.tc : Thread Cert.KernelDownFIdeal.nD Cert.KernelDownFIdeal.τ).loc Cert.KernelDownFIdeal.main_arg2) = m ((c.tc : Thread Cert.KernelDownFIdeal.nD Cert.KernelDownFIdeal.τ).loc Cert.KernelDownFIdeal.main_arg2)
      ∧ r.2.mem ((c.tc : Thread Cert.KernelDownFIdeal.nD Cert.KernelDownFIdeal.τ).loc Cert.KernelDownFIdeal.main_arg3) = m ((c.tc : Thread Cert.KernelDownFIdeal.nD Cert.KernelDownFIdeal.τ).loc Cert.KernelDownFIdeal.main_arg3))
      ∧ r.2.sem = fun _ => 0)

def quiescent_ReferenceDownFIdeal [hReferenceDownFIdeal : Cert.ReferenceDownFIdeal.Facts] : Prop :=
  ∀ (m : (ℓ : Loc Cert.ReferenceDownFIdeal.nD Cert.ReferenceDownFIdeal.τ Cert.ReferenceDownFIdeal.sig) → Buf (Elt Ideal) ℓ) (g : Dev Cert.ReferenceDownFIdeal.nD → PrngReg), Pre_ReferenceDownFIdeal m →
    θ_run (Cert.ReferenceDownFIdeal.defs (F := Ideal)) (onTc (τ := Cert.ReferenceDownFIdeal.τ) (Cert.ReferenceDownFIdeal.main (F := Ideal))) ⟨m, fun _ => 0, g⟩ (fun r => (∀ c : Dev Cert.ReferenceDownFIdeal.nD,
      r.2.mem ((c.tc : Thread Cert.ReferenceDownFIdeal.nD Cert.ReferenceDownFIdeal.τ).loc Cert.ReferenceDownFIdeal.main_arg0) = m ((c.tc : Thread Cert.ReferenceDownFIdeal.nD Cert.ReferenceDownFIdeal.τ).loc Cert.ReferenceDownFIdeal.main_arg0)
      ∧ r.2.mem ((c.tc : Thread Cert.ReferenceDownFIdeal.nD Cert.ReferenceDownFIdeal.τ).loc Cert.ReferenceDownFIdeal.main_arg1) = m ((c.tc : Thread Cert.ReferenceDownFIdeal.nD Cert.ReferenceDownFIdeal.τ).loc Cert.ReferenceDownFIdeal.main_arg1)
      ∧ r.2.mem ((c.tc : Thread Cert.ReferenceDownFIdeal.nD Cert.ReferenceDownFIdeal.τ).loc Cert.ReferenceDownFIdeal.main_arg2) = m ((c.tc : Thread Cert.ReferenceDownFIdeal.nD Cert.ReferenceDownFIdeal.τ).loc Cert.ReferenceDownFIdeal.main_arg2)
      ∧ r.2.mem ((c.tc : Thread Cert.ReferenceDownFIdeal.nD Cert.ReferenceDownFIdeal.τ).loc Cert.ReferenceDownFIdeal.main_arg3) = m ((c.tc : Thread Cert.ReferenceDownFIdeal.nD Cert.ReferenceDownFIdeal.τ).loc Cert.ReferenceDownFIdeal.main_arg3))
      ∧ r.2.sem = fun _ => 0)

def quiescent_KernelConvF [hKernelConvF : Cert.KernelConvF.Facts] : Prop :=
  ∀ (m : (ℓ : Loc Cert.KernelConvF.nD Cert.KernelConvF.τ Cert.KernelConvF.sig) → Buf (Elt Bits) ℓ) (g : Dev Cert.KernelConvF.nD → PrngReg), Pre_KernelConvF m →
    θ_run (Cert.KernelConvF.defs (F := Bits)) (onTc (τ := Cert.KernelConvF.τ) (Cert.KernelConvF.main (F := Bits))) ⟨m, fun _ => 0, g⟩ (fun r => (∀ c : Dev Cert.KernelConvF.nD,
      r.2.mem ((c.tc : Thread Cert.KernelConvF.nD Cert.KernelConvF.τ).loc Cert.KernelConvF.main_arg0) = m ((c.tc : Thread Cert.KernelConvF.nD Cert.KernelConvF.τ).loc Cert.KernelConvF.main_arg0)
      ∧ r.2.mem ((c.tc : Thread Cert.KernelConvF.nD Cert.KernelConvF.τ).loc Cert.KernelConvF.main_arg1) = m ((c.tc : Thread Cert.KernelConvF.nD Cert.KernelConvF.τ).loc Cert.KernelConvF.main_arg1))
      ∧ r.2.sem = fun _ => 0)

def quiescent_KernelConvFIdeal [hKernelConvFIdeal : Cert.KernelConvFIdeal.Facts] : Prop :=
  ∀ (m : (ℓ : Loc Cert.KernelConvFIdeal.nD Cert.KernelConvFIdeal.τ Cert.KernelConvFIdeal.sig) → Buf (Elt Ideal) ℓ) (g : Dev Cert.KernelConvFIdeal.nD → PrngReg), Pre_KernelConvFIdeal m →
    θ_run (Cert.KernelConvFIdeal.defs (F := Ideal)) (onTc (τ := Cert.KernelConvFIdeal.τ) (Cert.KernelConvFIdeal.main (F := Ideal))) ⟨m, fun _ => 0, g⟩ (fun r => (∀ c : Dev Cert.KernelConvFIdeal.nD,
      r.2.mem ((c.tc : Thread Cert.KernelConvFIdeal.nD Cert.KernelConvFIdeal.τ).loc Cert.KernelConvFIdeal.main_arg0) = m ((c.tc : Thread Cert.KernelConvFIdeal.nD Cert.KernelConvFIdeal.τ).loc Cert.KernelConvFIdeal.main_arg0)
      ∧ r.2.mem ((c.tc : Thread Cert.KernelConvFIdeal.nD Cert.KernelConvFIdeal.τ).loc Cert.KernelConvFIdeal.main_arg1) = m ((c.tc : Thread Cert.KernelConvFIdeal.nD Cert.KernelConvFIdeal.τ).loc Cert.KernelConvFIdeal.main_arg1))
      ∧ r.2.sem = fun _ => 0)

def quiescent_ReferenceConvFIdeal [hReferenceConvFIdeal : Cert.ReferenceConvFIdeal.Facts] : Prop :=
  ∀ (m : (ℓ : Loc Cert.ReferenceConvFIdeal.nD Cert.ReferenceConvFIdeal.τ Cert.ReferenceConvFIdeal.sig) → Buf (Elt Ideal) ℓ) (g : Dev Cert.ReferenceConvFIdeal.nD → PrngReg), Pre_ReferenceConvFIdeal m →
    θ_run (Cert.ReferenceConvFIdeal.defs (F := Ideal)) (onTc (τ := Cert.ReferenceConvFIdeal.τ) (Cert.ReferenceConvFIdeal.main (F := Ideal))) ⟨m, fun _ => 0, g⟩ (fun r => (∀ c : Dev Cert.ReferenceConvFIdeal.nD,
      r.2.mem ((c.tc : Thread Cert.ReferenceConvFIdeal.nD Cert.ReferenceConvFIdeal.τ).loc Cert.ReferenceConvFIdeal.main_arg0) = m ((c.tc : Thread Cert.ReferenceConvFIdeal.nD Cert.ReferenceConvFIdeal.τ).loc Cert.ReferenceConvFIdeal.main_arg0)
      ∧ r.2.mem ((c.tc : Thread Cert.ReferenceConvFIdeal.nD Cert.ReferenceConvFIdeal.τ).loc Cert.ReferenceConvFIdeal.main_arg1) = m ((c.tc : Thread Cert.ReferenceConvFIdeal.nD Cert.ReferenceConvFIdeal.τ).loc Cert.ReferenceConvFIdeal.main_arg1))
      ∧ r.2.sem = fun _ => 0)

def quiescent_KernelMergeF [hKernelMergeF : Cert.KernelMergeF.Facts] : Prop :=
  ∀ (m : (ℓ : Loc Cert.KernelMergeF.nD Cert.KernelMergeF.τ Cert.KernelMergeF.sig) → Buf (Elt Bits) ℓ) (g : Dev Cert.KernelMergeF.nD → PrngReg), Pre_KernelMergeF m →
    θ_run (Cert.KernelMergeF.defs (F := Bits)) (onTc (τ := Cert.KernelMergeF.τ) (Cert.KernelMergeF.main (F := Bits))) ⟨m, fun _ => 0, g⟩ (fun r => (∀ c : Dev Cert.KernelMergeF.nD,
      r.2.mem ((c.tc : Thread Cert.KernelMergeF.nD Cert.KernelMergeF.τ).loc Cert.KernelMergeF.main_arg0) = m ((c.tc : Thread Cert.KernelMergeF.nD Cert.KernelMergeF.τ).loc Cert.KernelMergeF.main_arg0)
      ∧ r.2.mem ((c.tc : Thread Cert.KernelMergeF.nD Cert.KernelMergeF.τ).loc Cert.KernelMergeF.main_arg1) = m ((c.tc : Thread Cert.KernelMergeF.nD Cert.KernelMergeF.τ).loc Cert.KernelMergeF.main_arg1)
      ∧ r.2.mem ((c.tc : Thread Cert.KernelMergeF.nD Cert.KernelMergeF.τ).loc Cert.KernelMergeF.main_arg2) = m ((c.tc : Thread Cert.KernelMergeF.nD Cert.KernelMergeF.τ).loc Cert.KernelMergeF.main_arg2)
      ∧ r.2.mem ((c.tc : Thread Cert.KernelMergeF.nD Cert.KernelMergeF.τ).loc Cert.KernelMergeF.main_arg3) = m ((c.tc : Thread Cert.KernelMergeF.nD Cert.KernelMergeF.τ).loc Cert.KernelMergeF.main_arg3)
      ∧ r.2.mem ((c.tc : Thread Cert.KernelMergeF.nD Cert.KernelMergeF.τ).loc Cert.KernelMergeF.main_arg4) = m ((c.tc : Thread Cert.KernelMergeF.nD Cert.KernelMergeF.τ).loc Cert.KernelMergeF.main_arg4)
      ∧ r.2.mem ((c.tc : Thread Cert.KernelMergeF.nD Cert.KernelMergeF.τ).loc Cert.KernelMergeF.main_arg5) = m ((c.tc : Thread Cert.KernelMergeF.nD Cert.KernelMergeF.τ).loc Cert.KernelMergeF.main_arg5))
      ∧ r.2.sem = fun _ => 0)

def quiescent_KernelMergeFIdeal [hKernelMergeFIdeal : Cert.KernelMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg), Pre_KernelMergeFIdeal m →
    θ_run (Cert.KernelMergeFIdeal.defs (F := Ideal)) (onTc (τ := Cert.KernelMergeFIdeal.τ) (Cert.KernelMergeFIdeal.main (F := Ideal))) ⟨m, fun _ => 0, g⟩ (fun r => (∀ c : Dev Cert.KernelMergeFIdeal.nD,
      r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
      ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
      ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2)
      ∧ r.2.mem ((c.tc : Thread Cert.KernelMergeFIdeal.nD Cert.KernelMergeFIdeal.τ).loc Cert.KernelMergeFIdeal.main_arg3) = m ((c.tc : Thread Cert.KernelMergeFIdeal.nD Cert.KernelMergeFIdeal.τ).loc Cert.KernelMergeFIdeal.main_arg3)
      ∧ r.2.mem ((c.tc : Thread Cert.KernelMergeFIdeal.nD Cert.KernelMergeFIdeal.τ).loc Cert.KernelMergeFIdeal.main_arg4) = m ((c.tc : Thread Cert.KernelMergeFIdeal.nD Cert.KernelMergeFIdeal.τ).loc Cert.KernelMergeFIdeal.main_arg4)
      ∧ r.2.mem ((c.tc : Thread Cert.KernelMergeFIdeal.nD Cert.KernelMergeFIdeal.τ).loc Cert.KernelMergeFIdeal.main_arg5) = m ((c.tc : Thread Cert.KernelMergeFIdeal.nD Cert.KernelMergeFIdeal.τ).loc Cert.KernelMergeFIdeal.main_arg5))
      ∧ r.2.sem = fun _ => 0)

def quiescent_ReferenceMergeFIdeal [hReferenceMergeFIdeal : Cert.ReferenceMergeFIdeal.Facts] : Prop :=
  ∀ (m : (ℓ : Loc Cert.ReferenceMergeFIdeal.nD Cert.ReferenceMergeFIdeal.τ Cert.ReferenceMergeFIdeal.sig) → Buf (Elt Ideal) ℓ) (g : Dev Cert.ReferenceMergeFIdeal.nD → PrngReg), Pre_ReferenceMergeFIdeal m →
    θ_run (Cert.ReferenceMergeFIdeal.defs (F := Ideal)) (onTc (τ := Cert.ReferenceMergeFIdeal.τ) (Cert.ReferenceMergeFIdeal.main (F := Ideal))) ⟨m, fun _ => 0, g⟩ (fun r => (∀ c : Dev Cert.ReferenceMergeFIdeal.nD,
      r.2.mem ((c.tc : Thread Cert.ReferenceMergeFIdeal.nD Cert.ReferenceMergeFIdeal.τ).loc Cert.ReferenceMergeFIdeal.main_arg0) = m ((c.tc : Thread Cert.ReferenceMergeFIdeal.nD Cert.ReferenceMergeFIdeal.τ).loc Cert.ReferenceMergeFIdeal.main_arg0)
      ∧ r.2.mem ((c.tc : Thread Cert.ReferenceMergeFIdeal.nD Cert.ReferenceMergeFIdeal.τ).loc Cert.ReferenceMergeFIdeal.main_arg1) = m ((c.tc : Thread Cert.ReferenceMergeFIdeal.nD Cert.ReferenceMergeFIdeal.τ).loc Cert.ReferenceMergeFIdeal.main_arg1)
      ∧ r.2.mem ((c.tc : Thread Cert.ReferenceMergeFIdeal.nD Cert.ReferenceMergeFIdeal.τ).loc Cert.ReferenceMergeFIdeal.main_arg2) = m ((c.tc : Thread Cert.ReferenceMergeFIdeal.nD Cert.ReferenceMergeFIdeal.τ).loc Cert.ReferenceMergeFIdeal.main_arg2)
      ∧ r.2.mem ((c.tc : Thread Cert.ReferenceMergeFIdeal.nD Cert.ReferenceMergeFIdeal.τ).loc Cert.ReferenceMergeFIdeal.main_arg3) = m ((c.tc : Thread Cert.ReferenceMergeFIdeal.nD Cert.ReferenceMergeFIdeal.τ).loc Cert.ReferenceMergeFIdeal.main_arg3)
      ∧ r.2.mem ((c.tc : Thread Cert.ReferenceMergeFIdeal.nD Cert.ReferenceMergeFIdeal.τ).loc Cert.ReferenceMergeFIdeal.main_arg4) = m ((c.tc : Thread Cert.ReferenceMergeFIdeal.nD Cert.ReferenceMergeFIdeal.τ).loc Cert.ReferenceMergeFIdeal.main_arg4)
      ∧ r.2.mem ((c.tc : Thread Cert.ReferenceMergeFIdeal.nD Cert.ReferenceMergeFIdeal.τ).loc Cert.ReferenceMergeFIdeal.main_arg5) = m ((c.tc : Thread Cert.ReferenceMergeFIdeal.nD Cert.ReferenceMergeFIdeal.τ).loc Cert.ReferenceMergeFIdeal.main_arg5))
      ∧ r.2.sem = fun _ => 0)

def quiescent_KernelPostF [hKernelPostF : Cert.KernelPostF.Facts] : Prop :=
  ∀ (m : (ℓ : Loc Cert.KernelPostF.nD Cert.KernelPostF.τ Cert.KernelPostF.sig) → Buf (Elt Bits) ℓ) (g : Dev Cert.KernelPostF.nD → PrngReg), Pre_KernelPostF m →
    θ_run (Cert.KernelPostF.defs (F := Bits)) (onTc (τ := Cert.KernelPostF.τ) (Cert.KernelPostF.main (F := Bits))) ⟨m, fun _ => 0, g⟩ (fun r => (∀ c : Dev Cert.KernelPostF.nD,
      r.2.mem ((c.tc : Thread Cert.KernelPostF.nD Cert.KernelPostF.τ).loc Cert.KernelPostF.main_arg0) = m ((c.tc : Thread Cert.KernelPostF.nD Cert.KernelPostF.τ).loc Cert.KernelPostF.main_arg0)
      ∧ r.2.mem ((c.tc : Thread Cert.KernelPostF.nD Cert.KernelPostF.τ).loc Cert.KernelPostF.main_arg1) = m ((c.tc : Thread Cert.KernelPostF.nD Cert.KernelPostF.τ).loc Cert.KernelPostF.main_arg1)
      ∧ r.2.mem ((c.tc : Thread Cert.KernelPostF.nD Cert.KernelPostF.τ).loc Cert.KernelPostF.main_arg2) = m ((c.tc : Thread Cert.KernelPostF.nD Cert.KernelPostF.τ).loc Cert.KernelPostF.main_arg2)
      ∧ r.2.mem ((c.tc : Thread Cert.KernelPostF.nD Cert.KernelPostF.τ).loc Cert.KernelPostF.main_arg3) = m ((c.tc : Thread Cert.KernelPostF.nD Cert.KernelPostF.τ).loc Cert.KernelPostF.main_arg3)
      ∧ r.2.mem ((c.tc : Thread Cert.KernelPostF.nD Cert.KernelPostF.τ).loc Cert.KernelPostF.main_arg4) = m ((c.tc : Thread Cert.KernelPostF.nD Cert.KernelPostF.τ).loc Cert.KernelPostF.main_arg4))
      ∧ r.2.sem = fun _ => 0)

def quiescent_KernelPostFIdeal [hKernelPostFIdeal : Cert.KernelPostFIdeal.Facts] : Prop :=
  ∀ (m : (ℓ : Loc Cert.KernelPostFIdeal.nD Cert.KernelPostFIdeal.τ Cert.KernelPostFIdeal.sig) → Buf (Elt Ideal) ℓ) (g : Dev Cert.KernelPostFIdeal.nD → PrngReg), Pre_KernelPostFIdeal m →
    θ_run (Cert.KernelPostFIdeal.defs (F := Ideal)) (onTc (τ := Cert.KernelPostFIdeal.τ) (Cert.KernelPostFIdeal.main (F := Ideal))) ⟨m, fun _ => 0, g⟩ (fun r => (∀ c : Dev Cert.KernelPostFIdeal.nD,
      r.2.mem ((c.tc : Thread Cert.KernelPostFIdeal.nD Cert.KernelPostFIdeal.τ).loc Cert.KernelPostFIdeal.main_arg0) = m ((c.tc : Thread Cert.KernelPostFIdeal.nD Cert.KernelPostFIdeal.τ).loc Cert.KernelPostFIdeal.main_arg0)
      ∧ r.2.mem ((c.tc : Thread Cert.KernelPostFIdeal.nD Cert.KernelPostFIdeal.τ).loc Cert.KernelPostFIdeal.main_arg1) = m ((c.tc : Thread Cert.KernelPostFIdeal.nD Cert.KernelPostFIdeal.τ).loc Cert.KernelPostFIdeal.main_arg1)
      ∧ r.2.mem ((c.tc : Thread Cert.KernelPostFIdeal.nD Cert.KernelPostFIdeal.τ).loc Cert.KernelPostFIdeal.main_arg2) = m ((c.tc : Thread Cert.KernelPostFIdeal.nD Cert.KernelPostFIdeal.τ).loc Cert.KernelPostFIdeal.main_arg2)
      ∧ r.2.mem ((c.tc : Thread Cert.KernelPostFIdeal.nD Cert.KernelPostFIdeal.τ).loc Cert.KernelPostFIdeal.main_arg3) = m ((c.tc : Thread Cert.KernelPostFIdeal.nD Cert.KernelPostFIdeal.τ).loc Cert.KernelPostFIdeal.main_arg3)
      ∧ r.2.mem ((c.tc : Thread Cert.KernelPostFIdeal.nD Cert.KernelPostFIdeal.τ).loc Cert.KernelPostFIdeal.main_arg4) = m ((c.tc : Thread Cert.KernelPostFIdeal.nD Cert.KernelPostFIdeal.τ).loc Cert.KernelPostFIdeal.main_arg4))
      ∧ r.2.sem = fun _ => 0)

def quiescent_ReferencePostFIdeal [hReferencePostFIdeal : Cert.ReferencePostFIdeal.Facts] : Prop :=
  ∀ (m : (ℓ : Loc Cert.ReferencePostFIdeal.nD Cert.ReferencePostFIdeal.τ Cert.ReferencePostFIdeal.sig) → Buf (Elt Ideal) ℓ) (g : Dev Cert.ReferencePostFIdeal.nD → PrngReg), Pre_ReferencePostFIdeal m →
    θ_run (Cert.ReferencePostFIdeal.defs (F := Ideal)) (onTc (τ := Cert.ReferencePostFIdeal.τ) (Cert.ReferencePostFIdeal.main (F := Ideal))) ⟨m, fun _ => 0, g⟩ (fun r => (∀ c : Dev Cert.ReferencePostFIdeal.nD,
      r.2.mem ((c.tc : Thread Cert.ReferencePostFIdeal.nD Cert.ReferencePostFIdeal.τ).loc Cert.ReferencePostFIdeal.main_arg0) = m ((c.tc : Thread Cert.ReferencePostFIdeal.nD Cert.ReferencePostFIdeal.τ).loc Cert.ReferencePostFIdeal.main_arg0)
      ∧ r.2.mem ((c.tc : Thread Cert.ReferencePostFIdeal.nD Cert.ReferencePostFIdeal.τ).loc Cert.ReferencePostFIdeal.main_arg1) = m ((c.tc : Thread Cert.ReferencePostFIdeal.nD Cert.ReferencePostFIdeal.τ).loc Cert.ReferencePostFIdeal.main_arg1)
      ∧ r.2.mem ((c.tc : Thread Cert.ReferencePostFIdeal.nD Cert.ReferencePostFIdeal.τ).loc Cert.ReferencePostFIdeal.main_arg2) = m ((c.tc : Thread Cert.ReferencePostFIdeal.nD Cert.ReferencePostFIdeal.τ).loc Cert.ReferencePostFIdeal.main_arg2)
      ∧ r.2.mem ((c.tc : Thread Cert.ReferencePostFIdeal.nD Cert.ReferencePostFIdeal.τ).loc Cert.ReferencePostFIdeal.main_arg3) = m ((c.tc : Thread Cert.ReferencePostFIdeal.nD Cert.ReferencePostFIdeal.τ).loc Cert.ReferencePostFIdeal.main_arg3)
      ∧ r.2.mem ((c.tc : Thread Cert.ReferencePostFIdeal.nD Cert.ReferencePostFIdeal.τ).loc Cert.ReferencePostFIdeal.main_arg4) = m ((c.tc : Thread Cert.ReferencePostFIdeal.nD Cert.ReferencePostFIdeal.τ).loc Cert.ReferencePostFIdeal.main_arg4))
      ∧ r.2.sem = fun _ => 0)

def quiescent_KernelAdaF [hKernelAdaF : Cert.KernelAdaF.Facts] : Prop :=
  ∀ (m : (ℓ : Loc Cert.KernelAdaF.nD Cert.KernelAdaF.τ Cert.KernelAdaF.sig) → Buf (Elt Bits) ℓ) (g : Dev Cert.KernelAdaF.nD → PrngReg), Pre_KernelAdaF m →
    θ_run (Cert.KernelAdaF.defs (F := Bits)) (onTc (τ := Cert.KernelAdaF.τ) (Cert.KernelAdaF.main (F := Bits))) ⟨m, fun _ => 0, g⟩ (fun r => (∀ c : Dev Cert.KernelAdaF.nD,
      r.2.mem ((c.tc : Thread Cert.KernelAdaF.nD Cert.KernelAdaF.τ).loc Cert.KernelAdaF.main_arg0) = m ((c.tc : Thread Cert.KernelAdaF.nD Cert.KernelAdaF.τ).loc Cert.KernelAdaF.main_arg0)
      ∧ r.2.mem ((c.tc : Thread Cert.KernelAdaF.nD Cert.KernelAdaF.τ).loc Cert.KernelAdaF.main_arg1) = m ((c.tc : Thread Cert.KernelAdaF.nD Cert.KernelAdaF.τ).loc Cert.KernelAdaF.main_arg1)
      ∧ r.2.mem ((c.tc : Thread Cert.KernelAdaF.nD Cert.KernelAdaF.τ).loc Cert.KernelAdaF.main_arg2) = m ((c.tc : Thread Cert.KernelAdaF.nD Cert.KernelAdaF.τ).loc Cert.KernelAdaF.main_arg2))
      ∧ r.2.sem = fun _ => 0)

def quiescent_KernelAdaFIdeal [hKernelAdaFIdeal : Cert.KernelAdaFIdeal.Facts] : Prop :=
  ∀ (m : (ℓ : Loc Cert.KernelAdaFIdeal.nD Cert.KernelAdaFIdeal.τ Cert.KernelAdaFIdeal.sig) → Buf (Elt Ideal) ℓ) (g : Dev Cert.KernelAdaFIdeal.nD → PrngReg), Pre_KernelAdaFIdeal m →
    θ_run (Cert.KernelAdaFIdeal.defs (F := Ideal)) (onTc (τ := Cert.KernelAdaFIdeal.τ) (Cert.KernelAdaFIdeal.main (F := Ideal))) ⟨m, fun _ => 0, g⟩ (fun r => (∀ c : Dev Cert.KernelAdaFIdeal.nD,
      r.2.mem ((c.tc : Thread Cert.KernelAdaFIdeal.nD Cert.KernelAdaFIdeal.τ).loc Cert.KernelAdaFIdeal.main_arg0) = m ((c.tc : Thread Cert.KernelAdaFIdeal.nD Cert.KernelAdaFIdeal.τ).loc Cert.KernelAdaFIdeal.main_arg0)
      ∧ r.2.mem ((c.tc : Thread Cert.KernelAdaFIdeal.nD Cert.KernelAdaFIdeal.τ).loc Cert.KernelAdaFIdeal.main_arg1) = m ((c.tc : Thread Cert.KernelAdaFIdeal.nD Cert.KernelAdaFIdeal.τ).loc Cert.KernelAdaFIdeal.main_arg1)
      ∧ r.2.mem ((c.tc : Thread Cert.KernelAdaFIdeal.nD Cert.KernelAdaFIdeal.τ).loc Cert.KernelAdaFIdeal.main_arg2) = m ((c.tc : Thread Cert.KernelAdaFIdeal.nD Cert.KernelAdaFIdeal.τ).loc Cert.KernelAdaFIdeal.main_arg2))
      ∧ r.2.sem = fun _ => 0)

def quiescent_ReferenceAdaFIdeal [hReferenceAdaFIdeal : Cert.ReferenceAdaFIdeal.Facts] : Prop :=
  ∀ (m : (ℓ : Loc Cert.ReferenceAdaFIdeal.nD Cert.ReferenceAdaFIdeal.τ Cert.ReferenceAdaFIdeal.sig) → Buf (Elt Ideal) ℓ) (g : Dev Cert.ReferenceAdaFIdeal.nD → PrngReg), Pre_ReferenceAdaFIdeal m →
    θ_run (Cert.ReferenceAdaFIdeal.defs (F := Ideal)) (onTc (τ := Cert.ReferenceAdaFIdeal.τ) (Cert.ReferenceAdaFIdeal.main (F := Ideal))) ⟨m, fun _ => 0, g⟩ (fun r => (∀ c : Dev Cert.ReferenceAdaFIdeal.nD,
      r.2.mem ((c.tc : Thread Cert.ReferenceAdaFIdeal.nD Cert.ReferenceAdaFIdeal.τ).loc Cert.ReferenceAdaFIdeal.main_arg0) = m ((c.tc : Thread Cert.ReferenceAdaFIdeal.nD Cert.ReferenceAdaFIdeal.τ).loc Cert.ReferenceAdaFIdeal.main_arg0)
      ∧ r.2.mem ((c.tc : Thread Cert.ReferenceAdaFIdeal.nD Cert.ReferenceAdaFIdeal.τ).loc Cert.ReferenceAdaFIdeal.main_arg1) = m ((c.tc : Thread Cert.ReferenceAdaFIdeal.nD Cert.ReferenceAdaFIdeal.τ).loc Cert.ReferenceAdaFIdeal.main_arg1)
      ∧ r.2.mem ((c.tc : Thread Cert.ReferenceAdaFIdeal.nD Cert.ReferenceAdaFIdeal.τ).loc Cert.ReferenceAdaFIdeal.main_arg2) = m ((c.tc : Thread Cert.ReferenceAdaFIdeal.nD Cert.ReferenceAdaFIdeal.τ).loc Cert.ReferenceAdaFIdeal.main_arg2))
      ∧ r.2.sem = fun _ => 0)

def quiescent_KernelDiscF [hKernelDiscF : Cert.KernelDiscF.Facts] : Prop :=
  ∀ (m : (ℓ : Loc Cert.KernelDiscF.nD Cert.KernelDiscF.τ Cert.KernelDiscF.sig) → Buf (Elt Bits) ℓ) (g : Dev Cert.KernelDiscF.nD → PrngReg), Pre_KernelDiscF m →
    θ_run (Cert.KernelDiscF.defs (F := Bits)) (onTc (τ := Cert.KernelDiscF.τ) (Cert.KernelDiscF.main (F := Bits))) ⟨m, fun _ => 0, g⟩ (fun r => (∀ c : Dev Cert.KernelDiscF.nD,
      r.2.mem ((c.tc : Thread Cert.KernelDiscF.nD Cert.KernelDiscF.τ).loc Cert.KernelDiscF.main_arg0) = m ((c.tc : Thread Cert.KernelDiscF.nD Cert.KernelDiscF.τ).loc Cert.KernelDiscF.main_arg0)
      ∧ r.2.mem ((c.tc : Thread Cert.KernelDiscF.nD Cert.KernelDiscF.τ).loc Cert.KernelDiscF.main_arg1) = m ((c.tc : Thread Cert.KernelDiscF.nD Cert.KernelDiscF.τ).loc Cert.KernelDiscF.main_arg1)
      ∧ r.2.mem ((c.tc : Thread Cert.KernelDiscF.nD Cert.KernelDiscF.τ).loc Cert.KernelDiscF.main_arg2) = m ((c.tc : Thread Cert.KernelDiscF.nD Cert.KernelDiscF.τ).loc Cert.KernelDiscF.main_arg2)
      ∧ r.2.mem ((c.tc : Thread Cert.KernelDiscF.nD Cert.KernelDiscF.τ).loc Cert.KernelDiscF.main_arg3) = m ((c.tc : Thread Cert.KernelDiscF.nD Cert.KernelDiscF.τ).loc Cert.KernelDiscF.main_arg3)
      ∧ r.2.mem ((c.tc : Thread Cert.KernelDiscF.nD Cert.KernelDiscF.τ).loc Cert.KernelDiscF.main_arg4) = m ((c.tc : Thread Cert.KernelDiscF.nD Cert.KernelDiscF.τ).loc Cert.KernelDiscF.main_arg4))
      ∧ r.2.sem = fun _ => 0)

def quiescent_KernelDiscFIdeal [hKernelDiscFIdeal : Cert.KernelDiscFIdeal.Facts] : Prop :=
  ∀ (m : (ℓ : Loc Cert.KernelDiscFIdeal.nD Cert.KernelDiscFIdeal.τ Cert.KernelDiscFIdeal.sig) → Buf (Elt Ideal) ℓ) (g : Dev Cert.KernelDiscFIdeal.nD → PrngReg), Pre_KernelDiscFIdeal m →
    θ_run (Cert.KernelDiscFIdeal.defs (F := Ideal)) (onTc (τ := Cert.KernelDiscFIdeal.τ) (Cert.KernelDiscFIdeal.main (F := Ideal))) ⟨m, fun _ => 0, g⟩ (fun r => (∀ c : Dev Cert.KernelDiscFIdeal.nD,
      r.2.mem ((c.tc : Thread Cert.KernelDiscFIdeal.nD Cert.KernelDiscFIdeal.τ).loc Cert.KernelDiscFIdeal.main_arg0) = m ((c.tc : Thread Cert.KernelDiscFIdeal.nD Cert.KernelDiscFIdeal.τ).loc Cert.KernelDiscFIdeal.main_arg0)
      ∧ r.2.mem ((c.tc : Thread Cert.KernelDiscFIdeal.nD Cert.KernelDiscFIdeal.τ).loc Cert.KernelDiscFIdeal.main_arg1) = m ((c.tc : Thread Cert.KernelDiscFIdeal.nD Cert.KernelDiscFIdeal.τ).loc Cert.KernelDiscFIdeal.main_arg1)
      ∧ r.2.mem ((c.tc : Thread Cert.KernelDiscFIdeal.nD Cert.KernelDiscFIdeal.τ).loc Cert.KernelDiscFIdeal.main_arg2) = m ((c.tc : Thread Cert.KernelDiscFIdeal.nD Cert.KernelDiscFIdeal.τ).loc Cert.KernelDiscFIdeal.main_arg2)
      ∧ r.2.mem ((c.tc : Thread Cert.KernelDiscFIdeal.nD Cert.KernelDiscFIdeal.τ).loc Cert.KernelDiscFIdeal.main_arg3) = m ((c.tc : Thread Cert.KernelDiscFIdeal.nD Cert.KernelDiscFIdeal.τ).loc Cert.KernelDiscFIdeal.main_arg3)
      ∧ r.2.mem ((c.tc : Thread Cert.KernelDiscFIdeal.nD Cert.KernelDiscFIdeal.τ).loc Cert.KernelDiscFIdeal.main_arg4) = m ((c.tc : Thread Cert.KernelDiscFIdeal.nD Cert.KernelDiscFIdeal.τ).loc Cert.KernelDiscFIdeal.main_arg4))
      ∧ r.2.sem = fun _ => 0)

def quiescent_ReferenceDiscFIdeal [hReferenceDiscFIdeal : Cert.ReferenceDiscFIdeal.Facts] : Prop :=
  ∀ (m : (ℓ : Loc Cert.ReferenceDiscFIdeal.nD Cert.ReferenceDiscFIdeal.τ Cert.ReferenceDiscFIdeal.sig) → Buf (Elt Ideal) ℓ) (g : Dev Cert.ReferenceDiscFIdeal.nD → PrngReg), Pre_ReferenceDiscFIdeal m →
    θ_run (Cert.ReferenceDiscFIdeal.defs (F := Ideal)) (onTc (τ := Cert.ReferenceDiscFIdeal.τ) (Cert.ReferenceDiscFIdeal.main (F := Ideal))) ⟨m, fun _ => 0, g⟩ (fun r => (∀ c : Dev Cert.ReferenceDiscFIdeal.nD,
      r.2.mem ((c.tc : Thread Cert.ReferenceDiscFIdeal.nD Cert.ReferenceDiscFIdeal.τ).loc Cert.ReferenceDiscFIdeal.main_arg0) = m ((c.tc : Thread Cert.ReferenceDiscFIdeal.nD Cert.ReferenceDiscFIdeal.τ).loc Cert.ReferenceDiscFIdeal.main_arg0)
      ∧ r.2.mem ((c.tc : Thread Cert.ReferenceDiscFIdeal.nD Cert.ReferenceDiscFIdeal.τ).loc Cert.ReferenceDiscFIdeal.main_arg1) = m ((c.tc : Thread Cert.ReferenceDiscFIdeal.nD Cert.ReferenceDiscFIdeal.τ).loc Cert.ReferenceDiscFIdeal.main_arg1)
      ∧ r.2.mem ((c.tc : Thread Cert.ReferenceDiscFIdeal.nD Cert.ReferenceDiscFIdeal.τ).loc Cert.ReferenceDiscFIdeal.main_arg2) = m ((c.tc : Thread Cert.ReferenceDiscFIdeal.nD Cert.ReferenceDiscFIdeal.τ).loc Cert.ReferenceDiscFIdeal.main_arg2)
      ∧ r.2.mem ((c.tc : Thread Cert.ReferenceDiscFIdeal.nD Cert.ReferenceDiscFIdeal.τ).loc Cert.ReferenceDiscFIdeal.main_arg3) = m ((c.tc : Thread Cert.ReferenceDiscFIdeal.nD Cert.ReferenceDiscFIdeal.τ).loc Cert.ReferenceDiscFIdeal.main_arg3)
      ∧ r.2.mem ((c.tc : Thread Cert.ReferenceDiscFIdeal.nD Cert.ReferenceDiscFIdeal.τ).loc Cert.ReferenceDiscFIdeal.main_arg4) = m ((c.tc : Thread Cert.ReferenceDiscFIdeal.nD Cert.ReferenceDiscFIdeal.τ).loc Cert.ReferenceDiscFIdeal.main_arg4))
      ∧ r.2.sem = fun _ => 0)

def quiescent_KernelMm [hKernelMm : Cert.KernelMm.Facts] : Prop :=
  ∀ (m : (ℓ : Loc Cert.KernelMm.nD Cert.KernelMm.τ Cert.KernelMm.sig) → Buf (Elt Bits) ℓ) (g : Dev Cert.KernelMm.nD → PrngReg), Pre_KernelMm m →
    θ_run (Cert.KernelMm.defs (F := Bits)) (onTc (τ := Cert.KernelMm.τ) (Cert.KernelMm.main (F := Bits))) ⟨m, fun _ => 0, g⟩ (fun r => (∀ c : Dev Cert.KernelMm.nD,
      r.2.mem ((c.tc : Thread Cert.KernelMm.nD Cert.KernelMm.τ).loc Cert.KernelMm.main_arg0) = m ((c.tc : Thread Cert.KernelMm.nD Cert.KernelMm.τ).loc Cert.KernelMm.main_arg0)
      ∧ r.2.mem ((c.tc : Thread Cert.KernelMm.nD Cert.KernelMm.τ).loc Cert.KernelMm.main_arg1) = m ((c.tc : Thread Cert.KernelMm.nD Cert.KernelMm.τ).loc Cert.KernelMm.main_arg1))
      ∧ r.2.sem = fun _ => 0)

def quiescent_KernelMmIdeal [hKernelMmIdeal : Cert.KernelMmIdeal.Facts] : Prop :=
  ∀ (m : (ℓ : Loc Cert.KernelMmIdeal.nD Cert.KernelMmIdeal.τ Cert.KernelMmIdeal.sig) → Buf (Elt Ideal) ℓ) (g : Dev Cert.KernelMmIdeal.nD → PrngReg), Pre_KernelMmIdeal m →
    θ_run (Cert.KernelMmIdeal.defs (F := Ideal)) (onTc (τ := Cert.KernelMmIdeal.τ) (Cert.KernelMmIdeal.main (F := Ideal))) ⟨m, fun _ => 0, g⟩ (fun r => (∀ c : Dev Cert.KernelMmIdeal.nD,
      r.2.mem ((c.tc : Thread Cert.KernelMmIdeal.nD Cert.KernelMmIdeal.τ).loc Cert.KernelMmIdeal.main_arg0) = m ((c.tc : Thread Cert.KernelMmIdeal.nD Cert.KernelMmIdeal.τ).loc Cert.KernelMmIdeal.main_arg0)
      ∧ r.2.mem ((c.tc : Thread Cert.KernelMmIdeal.nD Cert.KernelMmIdeal.τ).loc Cert.KernelMmIdeal.main_arg1) = m ((c.tc : Thread Cert.KernelMmIdeal.nD Cert.KernelMmIdeal.τ).loc Cert.KernelMmIdeal.main_arg1))
      ∧ r.2.sem = fun _ => 0)

def quiescent_ReferenceMmIdeal [hReferenceMmIdeal : Cert.ReferenceMmIdeal.Facts] : Prop :=
  ∀ (m : (ℓ : Loc Cert.ReferenceMmIdeal.nD Cert.ReferenceMmIdeal.τ Cert.ReferenceMmIdeal.sig) → Buf (Elt Ideal) ℓ) (g : Dev Cert.ReferenceMmIdeal.nD → PrngReg), Pre_ReferenceMmIdeal m →
    θ_run (Cert.ReferenceMmIdeal.defs (F := Ideal)) (onTc (τ := Cert.ReferenceMmIdeal.τ) (Cert.ReferenceMmIdeal.main (F := Ideal))) ⟨m, fun _ => 0, g⟩ (fun r => (∀ c : Dev Cert.ReferenceMmIdeal.nD,
      r.2.mem ((c.tc : Thread Cert.ReferenceMmIdeal.nD Cert.ReferenceMmIdeal.τ).loc Cert.ReferenceMmIdeal.main_arg0) = m ((c.tc : Thread Cert.ReferenceMmIdeal.nD Cert.ReferenceMmIdeal.τ).loc Cert.ReferenceMmIdeal.main_arg0)
      ∧ r.2.mem ((c.tc : Thread Cert.ReferenceMmIdeal.nD Cert.ReferenceMmIdeal.τ).loc Cert.ReferenceMmIdeal.main_arg1) = m ((c.tc : Thread Cert.ReferenceMmIdeal.nD Cert.ReferenceMmIdeal.τ).loc Cert.ReferenceMmIdeal.main_arg1))
      ∧ r.2.sem = fun _ => 0)

def quiescent_KernelOptR [hKernelOptR : Cert.KernelOptR.Facts] : Prop :=
  ∀ (m : (ℓ : Loc Cert.KernelOptR.nD Cert.KernelOptR.τ Cert.KernelOptR.sig) → Buf (Elt Bits) ℓ) (g : Dev Cert.KernelOptR.nD → PrngReg), Pre_KernelOptR m →
    θ_run (Cert.KernelOptR.defs (F := Bits)) (onTc (τ := Cert.KernelOptR.τ) (Cert.KernelOptR.main (F := Bits))) ⟨m, fun _ => 0, g⟩ (fun r => (∀ c : Dev Cert.KernelOptR.nD,
      r.2.mem ((c.tc : Thread Cert.KernelOptR.nD Cert.KernelOptR.τ).loc Cert.KernelOptR.main_arg0) = m ((c.tc : Thread Cert.KernelOptR.nD Cert.KernelOptR.τ).loc Cert.KernelOptR.main_arg0)
      ∧ r.2.mem ((c.tc : Thread Cert.KernelOptR.nD Cert.KernelOptR.τ).loc Cert.KernelOptR.main_arg1) = m ((c.tc : Thread Cert.KernelOptR.nD Cert.KernelOptR.τ).loc Cert.KernelOptR.main_arg1)
      ∧ r.2.mem ((c.tc : Thread Cert.KernelOptR.nD Cert.KernelOptR.τ).loc Cert.KernelOptR.main_arg2) = m ((c.tc : Thread Cert.KernelOptR.nD Cert.KernelOptR.τ).loc Cert.KernelOptR.main_arg2)
      ∧ r.2.mem ((c.tc : Thread Cert.KernelOptR.nD Cert.KernelOptR.τ).loc Cert.KernelOptR.main_arg3) = m ((c.tc : Thread Cert.KernelOptR.nD Cert.KernelOptR.τ).loc Cert.KernelOptR.main_arg3))
      ∧ r.2.sem = fun _ => 0)

def quiescent_KernelOptRIdeal [hKernelOptRIdeal : Cert.KernelOptRIdeal.Facts] : Prop :=
  ∀ (m : (ℓ : Loc Cert.KernelOptRIdeal.nD Cert.KernelOptRIdeal.τ Cert.KernelOptRIdeal.sig) → Buf (Elt Ideal) ℓ) (g : Dev Cert.KernelOptRIdeal.nD → PrngReg), Pre_KernelOptRIdeal m →
    θ_run (Cert.KernelOptRIdeal.defs (F := Ideal)) (onTc (τ := Cert.KernelOptRIdeal.τ) (Cert.KernelOptRIdeal.main (F := Ideal))) ⟨m, fun _ => 0, g⟩ (fun r => (∀ c : Dev Cert.KernelOptRIdeal.nD,
      r.2.mem ((c.tc : Thread Cert.KernelOptRIdeal.nD Cert.KernelOptRIdeal.τ).loc Cert.KernelOptRIdeal.main_arg0) = m ((c.tc : Thread Cert.KernelOptRIdeal.nD Cert.KernelOptRIdeal.τ).loc Cert.KernelOptRIdeal.main_arg0)
      ∧ r.2.mem ((c.tc : Thread Cert.KernelOptRIdeal.nD Cert.KernelOptRIdeal.τ).loc Cert.KernelOptRIdeal.main_arg1) = m ((c.tc : Thread Cert.KernelOptRIdeal.nD Cert.KernelOptRIdeal.τ).loc Cert.KernelOptRIdeal.main_arg1)
      ∧ r.2.mem ((c.tc : Thread Cert.KernelOptRIdeal.nD Cert.KernelOptRIdeal.τ).loc Cert.KernelOptRIdeal.main_arg2) = m ((c.tc : Thread Cert.KernelOptRIdeal.nD Cert.KernelOptRIdeal.τ).loc Cert.KernelOptRIdeal.main_arg2)
      ∧ r.2.mem ((c.tc : Thread Cert.KernelOptRIdeal.nD Cert.KernelOptRIdeal.τ).loc Cert.KernelOptRIdeal.main_arg3) = m ((c.tc : Thread Cert.KernelOptRIdeal.nD Cert.KernelOptRIdeal.τ).loc Cert.KernelOptRIdeal.main_arg3))
      ∧ r.2.sem = fun _ => 0)

def quiescent_ReferenceOptRIdeal [hReferenceOptRIdeal : Cert.ReferenceOptRIdeal.Facts] : Prop :=
  ∀ (m : (ℓ : Loc Cert.ReferenceOptRIdeal.nD Cert.ReferenceOptRIdeal.τ Cert.ReferenceOptRIdeal.sig) → Buf (Elt Ideal) ℓ) (g : Dev Cert.ReferenceOptRIdeal.nD → PrngReg), Pre_ReferenceOptRIdeal m →
    θ_run (Cert.ReferenceOptRIdeal.defs (F := Ideal)) (onTc (τ := Cert.ReferenceOptRIdeal.τ) (Cert.ReferenceOptRIdeal.main (F := Ideal))) ⟨m, fun _ => 0, g⟩ (fun r => (∀ c : Dev Cert.ReferenceOptRIdeal.nD,
      r.2.mem ((c.tc : Thread Cert.ReferenceOptRIdeal.nD Cert.ReferenceOptRIdeal.τ).loc Cert.ReferenceOptRIdeal.main_arg0) = m ((c.tc : Thread Cert.ReferenceOptRIdeal.nD Cert.ReferenceOptRIdeal.τ).loc Cert.ReferenceOptRIdeal.main_arg0)
      ∧ r.2.mem ((c.tc : Thread Cert.ReferenceOptRIdeal.nD Cert.ReferenceOptRIdeal.τ).loc Cert.ReferenceOptRIdeal.main_arg1) = m ((c.tc : Thread Cert.ReferenceOptRIdeal.nD Cert.ReferenceOptRIdeal.τ).loc Cert.ReferenceOptRIdeal.main_arg1)
      ∧ r.2.mem ((c.tc : Thread Cert.ReferenceOptRIdeal.nD Cert.ReferenceOptRIdeal.τ).loc Cert.ReferenceOptRIdeal.main_arg2) = m ((c.tc : Thread Cert.ReferenceOptRIdeal.nD Cert.ReferenceOptRIdeal.τ).loc Cert.ReferenceOptRIdeal.main_arg2)
      ∧ r.2.mem ((c.tc : Thread Cert.ReferenceOptRIdeal.nD Cert.ReferenceOptRIdeal.τ).loc Cert.ReferenceOptRIdeal.main_arg3) = m ((c.tc : Thread Cert.ReferenceOptRIdeal.nD Cert.ReferenceOptRIdeal.τ).loc Cert.ReferenceOptRIdeal.main_arg3))
      ∧ r.2.sem = fun _ => 0)

def quiescent_KernelOptB [hKernelOptB : Cert.KernelOptB.Facts] : Prop :=
  ∀ (m : (ℓ : Loc Cert.KernelOptB.nD Cert.KernelOptB.τ Cert.KernelOptB.sig) → Buf (Elt Bits) ℓ) (g : Dev Cert.KernelOptB.nD → PrngReg), Pre_KernelOptB m →
    θ_run (Cert.KernelOptB.defs (F := Bits)) (onTc (τ := Cert.KernelOptB.τ) (Cert.KernelOptB.main (F := Bits))) ⟨m, fun _ => 0, g⟩ (fun r => (∀ c : Dev Cert.KernelOptB.nD,
      r.2.mem ((c.tc : Thread Cert.KernelOptB.nD Cert.KernelOptB.τ).loc Cert.KernelOptB.main_arg0) = m ((c.tc : Thread Cert.KernelOptB.nD Cert.KernelOptB.τ).loc Cert.KernelOptB.main_arg0)
      ∧ r.2.mem ((c.tc : Thread Cert.KernelOptB.nD Cert.KernelOptB.τ).loc Cert.KernelOptB.main_arg1) = m ((c.tc : Thread Cert.KernelOptB.nD Cert.KernelOptB.τ).loc Cert.KernelOptB.main_arg1)
      ∧ r.2.mem ((c.tc : Thread Cert.KernelOptB.nD Cert.KernelOptB.τ).loc Cert.KernelOptB.main_arg2) = m ((c.tc : Thread Cert.KernelOptB.nD Cert.KernelOptB.τ).loc Cert.KernelOptB.main_arg2)
      ∧ r.2.mem ((c.tc : Thread Cert.KernelOptB.nD Cert.KernelOptB.τ).loc Cert.KernelOptB.main_arg3) = m ((c.tc : Thread Cert.KernelOptB.nD Cert.KernelOptB.τ).loc Cert.KernelOptB.main_arg3)
      ∧ r.2.mem ((c.tc : Thread Cert.KernelOptB.nD Cert.KernelOptB.τ).loc Cert.KernelOptB.main_arg4) = m ((c.tc : Thread Cert.KernelOptB.nD Cert.KernelOptB.τ).loc Cert.KernelOptB.main_arg4))
      ∧ r.2.sem = fun _ => 0)

def quiescent_KernelOptBIdeal [hKernelOptBIdeal : Cert.KernelOptBIdeal.Facts] : Prop :=
  ∀ (m : (ℓ : Loc Cert.KernelOptBIdeal.nD Cert.KernelOptBIdeal.τ Cert.KernelOptBIdeal.sig) → Buf (Elt Ideal) ℓ) (g : Dev Cert.KernelOptBIdeal.nD → PrngReg), Pre_KernelOptBIdeal m →
    θ_run (Cert.KernelOptBIdeal.defs (F := Ideal)) (onTc (τ := Cert.KernelOptBIdeal.τ) (Cert.KernelOptBIdeal.main (F := Ideal))) ⟨m, fun _ => 0, g⟩ (fun r => (∀ c : Dev Cert.KernelOptBIdeal.nD,
      r.2.mem ((c.tc : Thread Cert.KernelOptBIdeal.nD Cert.KernelOptBIdeal.τ).loc Cert.KernelOptBIdeal.main_arg0) = m ((c.tc : Thread Cert.KernelOptBIdeal.nD Cert.KernelOptBIdeal.τ).loc Cert.KernelOptBIdeal.main_arg0)
      ∧ r.2.mem ((c.tc : Thread Cert.KernelOptBIdeal.nD Cert.KernelOptBIdeal.τ).loc Cert.KernelOptBIdeal.main_arg1) = m ((c.tc : Thread Cert.KernelOptBIdeal.nD Cert.KernelOptBIdeal.τ).loc Cert.KernelOptBIdeal.main_arg1)
      ∧ r.2.mem ((c.tc : Thread Cert.KernelOptBIdeal.nD Cert.KernelOptBIdeal.τ).loc Cert.KernelOptBIdeal.main_arg2) = m ((c.tc : Thread Cert.KernelOptBIdeal.nD Cert.KernelOptBIdeal.τ).loc Cert.KernelOptBIdeal.main_arg2)
      ∧ r.2.mem ((c.tc : Thread Cert.KernelOptBIdeal.nD Cert.KernelOptBIdeal.τ).loc Cert.KernelOptBIdeal.main_arg3) = m ((c.tc : Thread Cert.KernelOptBIdeal.nD Cert.KernelOptBIdeal.τ).loc Cert.KernelOptBIdeal.main_arg3)
      ∧ r.2.mem ((c.tc : Thread Cert.KernelOptBIdeal.nD Cert.KernelOptBIdeal.τ).loc Cert.KernelOptBIdeal.main_arg4) = m ((c.tc : Thread Cert.KernelOptBIdeal.nD Cert.KernelOptBIdeal.τ).loc Cert.KernelOptBIdeal.main_arg4))
      ∧ r.2.sem = fun _ => 0)

def quiescent_ReferenceOptBIdeal [hReferenceOptBIdeal : Cert.ReferenceOptBIdeal.Facts] : Prop :=
  ∀ (m : (ℓ : Loc Cert.ReferenceOptBIdeal.nD Cert.ReferenceOptBIdeal.τ Cert.ReferenceOptBIdeal.sig) → Buf (Elt Ideal) ℓ) (g : Dev Cert.ReferenceOptBIdeal.nD → PrngReg), Pre_ReferenceOptBIdeal m →
    θ_run (Cert.ReferenceOptBIdeal.defs (F := Ideal)) (onTc (τ := Cert.ReferenceOptBIdeal.τ) (Cert.ReferenceOptBIdeal.main (F := Ideal))) ⟨m, fun _ => 0, g⟩ (fun r => (∀ c : Dev Cert.ReferenceOptBIdeal.nD,
      r.2.mem ((c.tc : Thread Cert.ReferenceOptBIdeal.nD Cert.ReferenceOptBIdeal.τ).loc Cert.ReferenceOptBIdeal.main_arg0) = m ((c.tc : Thread Cert.ReferenceOptBIdeal.nD Cert.ReferenceOptBIdeal.τ).loc Cert.ReferenceOptBIdeal.main_arg0)
      ∧ r.2.mem ((c.tc : Thread Cert.ReferenceOptBIdeal.nD Cert.ReferenceOptBIdeal.τ).loc Cert.ReferenceOptBIdeal.main_arg1) = m ((c.tc : Thread Cert.ReferenceOptBIdeal.nD Cert.ReferenceOptBIdeal.τ).loc Cert.ReferenceOptBIdeal.main_arg1)
      ∧ r.2.mem ((c.tc : Thread Cert.ReferenceOptBIdeal.nD Cert.ReferenceOptBIdeal.τ).loc Cert.ReferenceOptBIdeal.main_arg2) = m ((c.tc : Thread Cert.ReferenceOptBIdeal.nD Cert.ReferenceOptBIdeal.τ).loc Cert.ReferenceOptBIdeal.main_arg2)
      ∧ r.2.mem ((c.tc : Thread Cert.ReferenceOptBIdeal.nD Cert.ReferenceOptBIdeal.τ).loc Cert.ReferenceOptBIdeal.main_arg3) = m ((c.tc : Thread Cert.ReferenceOptBIdeal.nD Cert.ReferenceOptBIdeal.τ).loc Cert.ReferenceOptBIdeal.main_arg3)
      ∧ r.2.mem ((c.tc : Thread Cert.ReferenceOptBIdeal.nD Cert.ReferenceOptBIdeal.τ).loc Cert.ReferenceOptBIdeal.main_arg4) = m ((c.tc : Thread Cert.ReferenceOptBIdeal.nD Cert.ReferenceOptBIdeal.τ).loc Cert.ReferenceOptBIdeal.main_arg4))
      ∧ r.2.sem = fun _ => 0)

def quiescent_KernelOptP [hKernelOptP : Cert.KernelOptP.Facts] : Prop :=
  ∀ (m : (ℓ : Loc Cert.KernelOptP.nD Cert.KernelOptP.τ Cert.KernelOptP.sig) → Buf (Elt Bits) ℓ) (g : Dev Cert.KernelOptP.nD → PrngReg), Pre_KernelOptP m →
    θ_run (Cert.KernelOptP.defs (F := Bits)) (onTc (τ := Cert.KernelOptP.τ) (Cert.KernelOptP.main (F := Bits))) ⟨m, fun _ => 0, g⟩ (fun r => (∀ c : Dev Cert.KernelOptP.nD,
      r.2.mem ((c.tc : Thread Cert.KernelOptP.nD Cert.KernelOptP.τ).loc Cert.KernelOptP.main_arg0) = m ((c.tc : Thread Cert.KernelOptP.nD Cert.KernelOptP.τ).loc Cert.KernelOptP.main_arg0)
      ∧ r.2.mem ((c.tc : Thread Cert.KernelOptP.nD Cert.KernelOptP.τ).loc Cert.KernelOptP.main_arg1) = m ((c.tc : Thread Cert.KernelOptP.nD Cert.KernelOptP.τ).loc Cert.KernelOptP.main_arg1)
      ∧ r.2.mem ((c.tc : Thread Cert.KernelOptP.nD Cert.KernelOptP.τ).loc Cert.KernelOptP.main_arg2) = m ((c.tc : Thread Cert.KernelOptP.nD Cert.KernelOptP.τ).loc Cert.KernelOptP.main_arg2)
      ∧ r.2.mem ((c.tc : Thread Cert.KernelOptP.nD Cert.KernelOptP.τ).loc Cert.KernelOptP.main_arg3) = m ((c.tc : Thread Cert.KernelOptP.nD Cert.KernelOptP.τ).loc Cert.KernelOptP.main_arg3))
      ∧ r.2.sem = fun _ => 0)

def quiescent_KernelOptPIdeal [hKernelOptPIdeal : Cert.KernelOptPIdeal.Facts] : Prop :=
  ∀ (m : (ℓ : Loc Cert.KernelOptPIdeal.nD Cert.KernelOptPIdeal.τ Cert.KernelOptPIdeal.sig) → Buf (Elt Ideal) ℓ) (g : Dev Cert.KernelOptPIdeal.nD → PrngReg), Pre_KernelOptPIdeal m →
    θ_run (Cert.KernelOptPIdeal.defs (F := Ideal)) (onTc (τ := Cert.KernelOptPIdeal.τ) (Cert.KernelOptPIdeal.main (F := Ideal))) ⟨m, fun _ => 0, g⟩ (fun r => (∀ c : Dev Cert.KernelOptPIdeal.nD,
      r.2.mem ((c.tc : Thread Cert.KernelOptPIdeal.nD Cert.KernelOptPIdeal.τ).loc Cert.KernelOptPIdeal.main_arg0) = m ((c.tc : Thread Cert.KernelOptPIdeal.nD Cert.KernelOptPIdeal.τ).loc Cert.KernelOptPIdeal.main_arg0)
      ∧ r.2.mem ((c.tc : Thread Cert.KernelOptPIdeal.nD Cert.KernelOptPIdeal.τ).loc Cert.KernelOptPIdeal.main_arg1) = m ((c.tc : Thread Cert.KernelOptPIdeal.nD Cert.KernelOptPIdeal.τ).loc Cert.KernelOptPIdeal.main_arg1)
      ∧ r.2.mem ((c.tc : Thread Cert.KernelOptPIdeal.nD Cert.KernelOptPIdeal.τ).loc Cert.KernelOptPIdeal.main_arg2) = m ((c.tc : Thread Cert.KernelOptPIdeal.nD Cert.KernelOptPIdeal.τ).loc Cert.KernelOptPIdeal.main_arg2)
      ∧ r.2.mem ((c.tc : Thread Cert.KernelOptPIdeal.nD Cert.KernelOptPIdeal.τ).loc Cert.KernelOptPIdeal.main_arg3) = m ((c.tc : Thread Cert.KernelOptPIdeal.nD Cert.KernelOptPIdeal.τ).loc Cert.KernelOptPIdeal.main_arg3))
      ∧ r.2.sem = fun _ => 0)

def quiescent_ReferenceOptPIdeal [hReferenceOptPIdeal : Cert.ReferenceOptPIdeal.Facts] : Prop :=
  ∀ (m : (ℓ : Loc Cert.ReferenceOptPIdeal.nD Cert.ReferenceOptPIdeal.τ Cert.ReferenceOptPIdeal.sig) → Buf (Elt Ideal) ℓ) (g : Dev Cert.ReferenceOptPIdeal.nD → PrngReg), Pre_ReferenceOptPIdeal m →
    θ_run (Cert.ReferenceOptPIdeal.defs (F := Ideal)) (onTc (τ := Cert.ReferenceOptPIdeal.τ) (Cert.ReferenceOptPIdeal.main (F := Ideal))) ⟨m, fun _ => 0, g⟩ (fun r => (∀ c : Dev Cert.ReferenceOptPIdeal.nD,
      r.2.mem ((c.tc : Thread Cert.ReferenceOptPIdeal.nD Cert.ReferenceOptPIdeal.τ).loc Cert.ReferenceOptPIdeal.main_arg0) = m ((c.tc : Thread Cert.ReferenceOptPIdeal.nD Cert.ReferenceOptPIdeal.τ).loc Cert.ReferenceOptPIdeal.main_arg0)
      ∧ r.2.mem ((c.tc : Thread Cert.ReferenceOptPIdeal.nD Cert.ReferenceOptPIdeal.τ).loc Cert.ReferenceOptPIdeal.main_arg1) = m ((c.tc : Thread Cert.ReferenceOptPIdeal.nD Cert.ReferenceOptPIdeal.τ).loc Cert.ReferenceOptPIdeal.main_arg1)
      ∧ r.2.mem ((c.tc : Thread Cert.ReferenceOptPIdeal.nD Cert.ReferenceOptPIdeal.τ).loc Cert.ReferenceOptPIdeal.main_arg2) = m ((c.tc : Thread Cert.ReferenceOptPIdeal.nD Cert.ReferenceOptPIdeal.τ).loc Cert.ReferenceOptPIdeal.main_arg2)
      ∧ r.2.mem ((c.tc : Thread Cert.ReferenceOptPIdeal.nD Cert.ReferenceOptPIdeal.τ).loc Cert.ReferenceOptPIdeal.main_arg3) = m ((c.tc : Thread Cert.ReferenceOptPIdeal.nD Cert.ReferenceOptPIdeal.τ).loc Cert.ReferenceOptPIdeal.main_arg3))
      ∧ r.2.sem = fun _ => 0)

def quiescent_KernelSums [hKernelSums : Cert.KernelSums.Facts] : Prop :=
  ∀ (m : (ℓ : Loc Cert.KernelSums.nD Cert.KernelSums.τ Cert.KernelSums.sig) → Buf (Elt Bits) ℓ) (g : Dev Cert.KernelSums.nD → PrngReg), Pre_KernelSums m →
    θ_run (Cert.KernelSums.defs (F := Bits)) (onTc (τ := Cert.KernelSums.τ) (Cert.KernelSums.main (F := Bits))) ⟨m, fun _ => 0, g⟩ (fun r => (∀ c : Dev Cert.KernelSums.nD,
      r.2.mem ((c.tc : Thread Cert.KernelSums.nD Cert.KernelSums.τ).loc Cert.KernelSums.main_arg0) = m ((c.tc : Thread Cert.KernelSums.nD Cert.KernelSums.τ).loc Cert.KernelSums.main_arg0))
      ∧ r.2.sem = fun _ => 0)

def quiescent_KernelSumsIdeal [hKernelSumsIdeal : Cert.KernelSumsIdeal.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg), Pre_KernelSumsIdeal m →
    θ_run (Cert.KernelSumsIdeal.defs (F := Ideal)) (onTc (τ := Cert.KernelSumsIdeal.τ) (Cert.KernelSumsIdeal.main (F := Ideal))) ⟨m, fun _ => 0, g⟩ (fun r => (∀ c : Dev Cert.KernelSumsIdeal.nD,
      r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0))
      ∧ r.2.sem = fun _ => 0)

def quiescent_ReferenceSumsIdeal [hReferenceSumsIdeal : Cert.ReferenceSumsIdeal.Facts] : Prop :=
  ∀ (m : (ℓ : Loc Cert.ReferenceSumsIdeal.nD Cert.ReferenceSumsIdeal.τ Cert.ReferenceSumsIdeal.sig) → Buf (Elt Ideal) ℓ) (g : Dev Cert.ReferenceSumsIdeal.nD → PrngReg), Pre_ReferenceSumsIdeal m →
    θ_run (Cert.ReferenceSumsIdeal.defs (F := Ideal)) (onTc (τ := Cert.ReferenceSumsIdeal.τ) (Cert.ReferenceSumsIdeal.main (F := Ideal))) ⟨m, fun _ => 0, g⟩ (fun r => (∀ c : Dev Cert.ReferenceSumsIdeal.nD,
      r.2.mem ((c.tc : Thread Cert.ReferenceSumsIdeal.nD Cert.ReferenceSumsIdeal.τ).loc Cert.ReferenceSumsIdeal.main_arg0) = m ((c.tc : Thread Cert.ReferenceSumsIdeal.nD Cert.ReferenceSumsIdeal.τ).loc Cert.ReferenceSumsIdeal.main_arg0))
      ∧ r.2.sem = fun _ => 0)

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v2)) (v1 : (c : Dev Cert.KernelLossIdeal.nD) → Buf (Elt Ideal) ((c.tc : Thread Cert.KernelLossIdeal.nD Cert.KernelLossIdeal.τ).loc Cert.KernelLossIdeal.main_v1_0)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v2) = v0 c
          ∧ r.2.mem ((c.tc : Thread Cert.KernelLossIdeal.nD Cert.KernelLossIdeal.τ).loc Cert.KernelLossIdeal.main_v1_0) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v24) = v0 c
          ∧ r.2.mem ((c.tc : Thread Cert.ReferenceLossIdeal.nD Cert.ReferenceLossIdeal.τ).loc Cert.ReferenceLossIdeal.main_v50) = v1 c
          ∧ r.2.mem ((c.tc : Thread Cert.ReferenceLossIdeal.nD Cert.ReferenceLossIdeal.τ).loc Cert.ReferenceLossIdeal.main_v51) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelMixNorm_KernelMixNormIdeal : Prop :=
  True

def algebraic_KernelMixNormIdeal_ReferenceMixNormIdeal_pre_finite_mixnorm [hKernelMixNormIdeal : Cert.KernelMixNormIdeal.Facts] [hReferenceMixNormIdeal : Cert.ReferenceMixNormIdeal.Facts] [hPre_finite_mixnorm : Cert.Pre_finite_mixnorm.Facts] : Prop :=
  ∀ (m : (ℓ : Loc Cert.KernelMixNormIdeal.nD Cert.KernelMixNormIdeal.τ Cert.KernelMixNormIdeal.sig) → Buf (Elt Ideal) ℓ) (g : Dev Cert.KernelMixNormIdeal.nD → PrngReg)
    (m' : (ℓ : Loc Cert.ReferenceMixNormIdeal.nD Cert.ReferenceMixNormIdeal.τ Cert.ReferenceMixNormIdeal.sig) → Buf (Elt Ideal) ℓ) (g' : Dev Cert.ReferenceMixNormIdeal.nD → PrngReg), Pre_KernelMixNormIdeal_finite_mixnorm m →
    (∀ c : Dev Cert.KernelMixNormIdeal.nD,
      m' ((c.tc : Thread Cert.ReferenceMixNormIdeal.nD Cert.ReferenceMixNormIdeal.τ).loc Cert.ReferenceMixNormIdeal.main_arg0) = m ((c.tc : Thread Cert.KernelMixNormIdeal.nD Cert.KernelMixNormIdeal.τ).loc Cert.KernelMixNormIdeal.main_arg0)
      ∧ m' ((c.tc : Thread Cert.ReferenceMixNormIdeal.nD Cert.ReferenceMixNormIdeal.τ).loc Cert.ReferenceMixNormIdeal.main_arg1) = m ((c.tc : Thread Cert.KernelMixNormIdeal.nD Cert.KernelMixNormIdeal.τ).loc Cert.KernelMixNormIdeal.main_arg1)
      ∧ m' ((c.tc : Thread Cert.ReferenceMixNormIdeal.nD Cert.ReferenceMixNormIdeal.τ).loc Cert.ReferenceMixNormIdeal.main_arg2) = m ((c.tc : Thread Cert.KernelMixNormIdeal.nD Cert.KernelMixNormIdeal.τ).loc Cert.KernelMixNormIdeal.main_arg2)
      ∧ m' ((c.tc : Thread Cert.ReferenceMixNormIdeal.nD Cert.ReferenceMixNormIdeal.τ).loc Cert.ReferenceMixNormIdeal.main_arg3) = m ((c.tc : Thread Cert.KernelMixNormIdeal.nD Cert.KernelMixNormIdeal.τ).loc Cert.KernelMixNormIdeal.main_arg3)
      ∧ m' ((c.tc : Thread Cert.ReferenceMixNormIdeal.nD Cert.ReferenceMixNormIdeal.τ).loc Cert.ReferenceMixNormIdeal.main_arg4) = m ((c.tc : Thread Cert.KernelMixNormIdeal.nD Cert.KernelMixNormIdeal.τ).loc Cert.KernelMixNormIdeal.main_arg4)
      ∧ m' ((c.tc : Thread Cert.ReferenceMixNormIdeal.nD Cert.ReferenceMixNormIdeal.τ).loc Cert.ReferenceMixNormIdeal.main_arg5) = m ((c.tc : Thread Cert.KernelMixNormIdeal.nD Cert.KernelMixNormIdeal.τ).loc Cert.KernelMixNormIdeal.main_arg5)
      ∧ m' ((c.tc : Thread Cert.ReferenceMixNormIdeal.nD Cert.ReferenceMixNormIdeal.τ).loc Cert.ReferenceMixNormIdeal.main_arg6) = m ((c.tc : Thread Cert.KernelMixNormIdeal.nD Cert.KernelMixNormIdeal.τ).loc Cert.KernelMixNormIdeal.main_arg6)
      ∧ m' ((c.tc : Thread Cert.ReferenceMixNormIdeal.nD Cert.ReferenceMixNormIdeal.τ).loc Cert.ReferenceMixNormIdeal.main_arg7) = m ((c.tc : Thread Cert.KernelMixNormIdeal.nD Cert.KernelMixNormIdeal.τ).loc Cert.KernelMixNormIdeal.main_arg7)) →
    ∃ (v0 : (c : Dev Cert.KernelMixNormIdeal.nD) → Buf (Elt Ideal) ((c.tc : Thread Cert.KernelMixNormIdeal.nD Cert.KernelMixNormIdeal.τ).loc Cert.KernelMixNormIdeal.main_v9_0)) (v1 : (c : Dev Cert.KernelMixNormIdeal.nD) → Buf (Elt Ideal) ((c.tc : Thread Cert.KernelMixNormIdeal.nD Cert.KernelMixNormIdeal.τ).loc Cert.KernelMixNormIdeal.main_v9_1)) (v2 : (c : Dev Cert.KernelMixNormIdeal.nD) → Buf (Elt Ideal) ((c.tc : Thread Cert.KernelMixNormIdeal.nD Cert.KernelMixNormIdeal.τ).loc Cert.KernelMixNormIdeal.main_v9_2)) (v3 : (c : Dev Cert.KernelMixNormIdeal.nD) → Buf (Elt Ideal) ((c.tc : Thread Cert.KernelMixNormIdeal.nD Cert.KernelMixNormIdeal.τ).loc Cert.KernelMixNormIdeal.main_v9_3)),
      θ_run (Cert.KernelMixNormIdeal.defs (F := Ideal)) (onTc (τ := Cert.KernelMixNormIdeal.τ) (Cert.KernelMixNormIdeal.main (F := Ideal))) ⟨m, fun _ => 0, g⟩ (fun r => ∀ c : Dev Cert.KernelMixNormIdeal.nD,
          r.2.mem ((c.tc : Thread Cert.KernelMixNormIdeal.nD Cert.KernelMixNormIdeal.τ).loc Cert.KernelMixNormIdeal.main_v9_0) = v0 c
          ∧ r.2.mem ((c.tc : Thread Cert.KernelMixNormIdeal.nD Cert.KernelMixNormIdeal.τ).loc Cert.KernelMixNormIdeal.main_v9_1) = v1 c
          ∧ r.2.mem ((c.tc : Thread Cert.KernelMixNormIdeal.nD Cert.KernelMixNormIdeal.τ).loc Cert.KernelMixNormIdeal.main_v9_2) = v2 c
          ∧ r.2.mem ((c.tc : Thread Cert.KernelMixNormIdeal.nD Cert.KernelMixNormIdeal.τ).loc Cert.KernelMixNormIdeal.main_v9_3) = v3 c
          ∧ r.2.mem ((c.tc : Thread Cert.KernelMixNormIdeal.nD Cert.KernelMixNormIdeal.τ).loc Cert.KernelMixNormIdeal.main_arg0) = m ((c.tc : Thread Cert.KernelMixNormIdeal.nD Cert.KernelMixNormIdeal.τ).loc Cert.KernelMixNormIdeal.main_arg0)
          ∧ r.2.mem ((c.tc : Thread Cert.KernelMixNormIdeal.nD Cert.KernelMixNormIdeal.τ).loc Cert.KernelMixNormIdeal.main_arg1) = m ((c.tc : Thread Cert.KernelMixNormIdeal.nD Cert.KernelMixNormIdeal.τ).loc Cert.KernelMixNormIdeal.main_arg1)
          ∧ r.2.mem ((c.tc : Thread Cert.KernelMixNormIdeal.nD Cert.KernelMixNormIdeal.τ).loc Cert.KernelMixNormIdeal.main_arg2) = m ((c.tc : Thread Cert.KernelMixNormIdeal.nD Cert.KernelMixNormIdeal.τ).loc Cert.KernelMixNormIdeal.main_arg2)
          ∧ r.2.mem ((c.tc : Thread Cert.KernelMixNormIdeal.nD Cert.KernelMixNormIdeal.τ).loc Cert.KernelMixNormIdeal.main_arg3) = m ((c.tc : Thread Cert.KernelMixNormIdeal.nD Cert.KernelMixNormIdeal.τ).loc Cert.KernelMixNormIdeal.main_arg3)
          ∧ r.2.mem ((c.tc : Thread Cert.KernelMixNormIdeal.nD Cert.KernelMixNormIdeal.τ).loc Cert.KernelMixNormIdeal.main_arg4) = m ((c.tc : Thread Cert.KernelMixNormIdeal.nD Cert.KernelMixNormIdeal.τ).loc Cert.KernelMixNormIdeal.main_arg4)
          ∧ r.2.mem ((c.tc : Thread Cert.KernelMixNormIdeal.nD Cert.KernelMixNormIdeal.τ).loc Cert.KernelMixNormIdeal.main_arg5) = m ((c.tc : Thread Cert.KernelMixNormIdeal.nD Cert.KernelMixNormIdeal.τ).loc Cert.KernelMixNormIdeal.main_arg5)
          ∧ r.2.mem ((c.tc : Thread Cert.KernelMixNormIdeal.nD Cert.KernelMixNormIdeal.τ).loc Cert.KernelMixNormIdeal.main_arg6) = m ((c.tc : Thread Cert.KernelMixNormIdeal.nD Cert.KernelMixNormIdeal.τ).loc Cert.KernelMixNormIdeal.main_arg6)
          ∧ r.2.mem ((c.tc : Thread Cert.KernelMixNormIdeal.nD Cert.KernelMixNormIdeal.τ).loc Cert.KernelMixNormIdeal.main_arg7) = m ((c.tc : Thread Cert.KernelMixNormIdeal.nD Cert.KernelMixNormIdeal.τ).loc Cert.KernelMixNormIdeal.main_arg7))
      ∧ θ_run (Cert.ReferenceMixNormIdeal.defs (F := Ideal)) (onTc (τ := Cert.ReferenceMixNormIdeal.τ) (Cert.ReferenceMixNormIdeal.main (F := Ideal))) ⟨m', fun _ => 0, g'⟩ (fun r => ∀ c : Dev Cert.ReferenceMixNormIdeal.nD,
          r.2.mem ((c.tc : Thread Cert.ReferenceMixNormIdeal.nD Cert.ReferenceMixNormIdeal.τ).loc Cert.ReferenceMixNormIdeal.main_v60) = v0 c
          ∧ r.2.mem ((c.tc : Thread Cert.ReferenceMixNormIdeal.nD Cert.ReferenceMixNormIdeal.τ).loc Cert.ReferenceMixNormIdeal.main_v61) = v1 c
          ∧ r.2.mem ((c.tc : Thread Cert.ReferenceMixNormIdeal.nD Cert.ReferenceMixNormIdeal.τ).loc Cert.ReferenceMixNormIdeal.main_v62) = v2 c
          ∧ r.2.mem ((c.tc : Thread Cert.ReferenceMixNormIdeal.nD Cert.ReferenceMixNormIdeal.τ).loc Cert.ReferenceMixNormIdeal.main_v45) = v3 c
          ∧ r.2.mem ((c.tc : Thread Cert.ReferenceMixNormIdeal.nD Cert.ReferenceMixNormIdeal.τ).loc Cert.ReferenceMixNormIdeal.main_arg0) = m' ((c.tc : Thread Cert.ReferenceMixNormIdeal.nD Cert.ReferenceMixNormIdeal.τ).loc Cert.ReferenceMixNormIdeal.main_arg0)
          ∧ r.2.mem ((c.tc : Thread Cert.ReferenceMixNormIdeal.nD Cert.ReferenceMixNormIdeal.τ).loc Cert.ReferenceMixNormIdeal.main_arg1) = m' ((c.tc : Thread Cert.ReferenceMixNormIdeal.nD Cert.ReferenceMixNormIdeal.τ).loc Cert.ReferenceMixNormIdeal.main_arg1)
          ∧ r.2.mem ((c.tc : Thread Cert.ReferenceMixNormIdeal.nD Cert.ReferenceMixNormIdeal.τ).loc Cert.ReferenceMixNormIdeal.main_arg2) = m' ((c.tc : Thread Cert.ReferenceMixNormIdeal.nD Cert.ReferenceMixNormIdeal.τ).loc Cert.ReferenceMixNormIdeal.main_arg2)
          ∧ r.2.mem ((c.tc : Thread Cert.ReferenceMixNormIdeal.nD Cert.ReferenceMixNormIdeal.τ).loc Cert.ReferenceMixNormIdeal.main_arg3) = m' ((c.tc : Thread Cert.ReferenceMixNormIdeal.nD Cert.ReferenceMixNormIdeal.τ).loc Cert.ReferenceMixNormIdeal.main_arg3)
          ∧ r.2.mem ((c.tc : Thread Cert.ReferenceMixNormIdeal.nD Cert.ReferenceMixNormIdeal.τ).loc Cert.ReferenceMixNormIdeal.main_arg4) = m' ((c.tc : Thread Cert.ReferenceMixNormIdeal.nD Cert.ReferenceMixNormIdeal.τ).loc Cert.ReferenceMixNormIdeal.main_arg4)
          ∧ r.2.mem ((c.tc : Thread Cert.ReferenceMixNormIdeal.nD Cert.ReferenceMixNormIdeal.τ).loc Cert.ReferenceMixNormIdeal.main_arg5) = m' ((c.tc : Thread Cert.ReferenceMixNormIdeal.nD Cert.ReferenceMixNormIdeal.τ).loc Cert.ReferenceMixNormIdeal.main_arg5)
          ∧ r.2.mem ((c.tc : Thread Cert.ReferenceMixNormIdeal.nD Cert.ReferenceMixNormIdeal.τ).loc Cert.ReferenceMixNormIdeal.main_arg6) = m' ((c.tc : Thread Cert.ReferenceMixNormIdeal.nD Cert.ReferenceMixNormIdeal.τ).loc Cert.ReferenceMixNormIdeal.main_arg6)
          ∧ r.2.mem ((c.tc : Thread Cert.ReferenceMixNormIdeal.nD Cert.ReferenceMixNormIdeal.τ).loc Cert.ReferenceMixNormIdeal.main_arg7) = m' ((c.tc : Thread Cert.ReferenceMixNormIdeal.nD Cert.ReferenceMixNormIdeal.τ).loc Cert.ReferenceMixNormIdeal.main_arg7))

def preserves_KernelFfnNorm_KernelFfnNormIdeal : Prop :=
  True

def algebraic_KernelFfnNormIdeal_ReferenceFfnNormIdeal_pre_finite_ffnnorm [hKernelFfnNormIdeal : Cert.KernelFfnNormIdeal.Facts] [hReferenceFfnNormIdeal : Cert.ReferenceFfnNormIdeal.Facts] [hPre_finite_ffnnorm : Cert.Pre_finite_ffnnorm.Facts] : Prop :=
  ∀ (m : (ℓ : Loc Cert.KernelFfnNormIdeal.nD Cert.KernelFfnNormIdeal.τ Cert.KernelFfnNormIdeal.sig) → Buf (Elt Ideal) ℓ) (g : Dev Cert.KernelFfnNormIdeal.nD → PrngReg)
    (m' : (ℓ : Loc Cert.ReferenceFfnNormIdeal.nD Cert.ReferenceFfnNormIdeal.τ Cert.ReferenceFfnNormIdeal.sig) → Buf (Elt Ideal) ℓ) (g' : Dev Cert.ReferenceFfnNormIdeal.nD → PrngReg), Pre_KernelFfnNormIdeal_finite_ffnnorm m →
    (∀ c : Dev Cert.KernelFfnNormIdeal.nD,
      m' ((c.tc : Thread Cert.ReferenceFfnNormIdeal.nD Cert.ReferenceFfnNormIdeal.τ).loc Cert.ReferenceFfnNormIdeal.main_arg0) = m ((c.tc : Thread Cert.KernelFfnNormIdeal.nD Cert.KernelFfnNormIdeal.τ).loc Cert.KernelFfnNormIdeal.main_arg0)
      ∧ m' ((c.tc : Thread Cert.ReferenceFfnNormIdeal.nD Cert.ReferenceFfnNormIdeal.τ).loc Cert.ReferenceFfnNormIdeal.main_arg1) = m ((c.tc : Thread Cert.KernelFfnNormIdeal.nD Cert.KernelFfnNormIdeal.τ).loc Cert.KernelFfnNormIdeal.main_arg1)
      ∧ m' ((c.tc : Thread Cert.ReferenceFfnNormIdeal.nD Cert.ReferenceFfnNormIdeal.τ).loc Cert.ReferenceFfnNormIdeal.main_arg2) = m ((c.tc : Thread Cert.KernelFfnNormIdeal.nD Cert.KernelFfnNormIdeal.τ).loc Cert.KernelFfnNormIdeal.main_arg2)
      ∧ m' ((c.tc : Thread Cert.ReferenceFfnNormIdeal.nD Cert.ReferenceFfnNormIdeal.τ).loc Cert.ReferenceFfnNormIdeal.main_arg3) = m ((c.tc : Thread Cert.KernelFfnNormIdeal.nD Cert.KernelFfnNormIdeal.τ).loc Cert.KernelFfnNormIdeal.main_arg3)
      ∧ m' ((c.tc : Thread Cert.ReferenceFfnNormIdeal.nD Cert.ReferenceFfnNormIdeal.τ).loc Cert.ReferenceFfnNormIdeal.main_arg4) = m ((c.tc : Thread Cert.KernelFfnNormIdeal.nD Cert.KernelFfnNormIdeal.τ).loc Cert.KernelFfnNormIdeal.main_arg4)
      ∧ m' ((c.tc : Thread Cert.ReferenceFfnNormIdeal.nD Cert.ReferenceFfnNormIdeal.τ).loc Cert.ReferenceFfnNormIdeal.main_arg5) = m ((c.tc : Thread Cert.KernelFfnNormIdeal.nD Cert.KernelFfnNormIdeal.τ).loc Cert.KernelFfnNormIdeal.main_arg5)
      ∧ m' ((c.tc : Thread Cert.ReferenceFfnNormIdeal.nD Cert.ReferenceFfnNormIdeal.τ).loc Cert.ReferenceFfnNormIdeal.main_arg6) = m ((c.tc : Thread Cert.KernelFfnNormIdeal.nD Cert.KernelFfnNormIdeal.τ).loc Cert.KernelFfnNormIdeal.main_arg6)
      ∧ m' ((c.tc : Thread Cert.ReferenceFfnNormIdeal.nD Cert.ReferenceFfnNormIdeal.τ).loc Cert.ReferenceFfnNormIdeal.main_arg7) = m ((c.tc : Thread Cert.KernelFfnNormIdeal.nD Cert.KernelFfnNormIdeal.τ).loc Cert.KernelFfnNormIdeal.main_arg7)) →
    ∃ (v0 : (c : Dev Cert.KernelFfnNormIdeal.nD) → Buf (Elt Ideal) ((c.tc : Thread Cert.KernelFfnNormIdeal.nD Cert.KernelFfnNormIdeal.τ).loc Cert.KernelFfnNormIdeal.main_v9_0)) (v1 : (c : Dev Cert.KernelFfnNormIdeal.nD) → Buf (Elt Ideal) ((c.tc : Thread Cert.KernelFfnNormIdeal.nD Cert.KernelFfnNormIdeal.τ).loc Cert.KernelFfnNormIdeal.main_v9_1)) (v2 : (c : Dev Cert.KernelFfnNormIdeal.nD) → Buf (Elt Ideal) ((c.tc : Thread Cert.KernelFfnNormIdeal.nD Cert.KernelFfnNormIdeal.τ).loc Cert.KernelFfnNormIdeal.main_v9_2)) (v3 : (c : Dev Cert.KernelFfnNormIdeal.nD) → Buf (Elt Ideal) ((c.tc : Thread Cert.KernelFfnNormIdeal.nD Cert.KernelFfnNormIdeal.τ).loc Cert.KernelFfnNormIdeal.main_v9_3)),
      θ_run (Cert.KernelFfnNormIdeal.defs (F := Ideal)) (onTc (τ := Cert.KernelFfnNormIdeal.τ) (Cert.KernelFfnNormIdeal.main (F := Ideal))) ⟨m, fun _ => 0, g⟩ (fun r => ∀ c : Dev Cert.KernelFfnNormIdeal.nD,
          r.2.mem ((c.tc : Thread Cert.KernelFfnNormIdeal.nD Cert.KernelFfnNormIdeal.τ).loc Cert.KernelFfnNormIdeal.main_v9_0) = v0 c
          ∧ r.2.mem ((c.tc : Thread Cert.KernelFfnNormIdeal.nD Cert.KernelFfnNormIdeal.τ).loc Cert.KernelFfnNormIdeal.main_v9_1) = v1 c
          ∧ r.2.mem ((c.tc : Thread Cert.KernelFfnNormIdeal.nD Cert.KernelFfnNormIdeal.τ).loc Cert.KernelFfnNormIdeal.main_v9_2) = v2 c
          ∧ r.2.mem ((c.tc : Thread Cert.KernelFfnNormIdeal.nD Cert.KernelFfnNormIdeal.τ).loc Cert.KernelFfnNormIdeal.main_v9_3) = v3 c
          ∧ r.2.mem ((c.tc : Thread Cert.KernelFfnNormIdeal.nD Cert.KernelFfnNormIdeal.τ).loc Cert.KernelFfnNormIdeal.main_arg0) = m ((c.tc : Thread Cert.KernelFfnNormIdeal.nD Cert.KernelFfnNormIdeal.τ).loc Cert.KernelFfnNormIdeal.main_arg0)
          ∧ r.2.mem ((c.tc : Thread Cert.KernelFfnNormIdeal.nD Cert.KernelFfnNormIdeal.τ).loc Cert.KernelFfnNormIdeal.main_arg1) = m ((c.tc : Thread Cert.KernelFfnNormIdeal.nD Cert.KernelFfnNormIdeal.τ).loc Cert.KernelFfnNormIdeal.main_arg1)
          ∧ r.2.mem ((c.tc : Thread Cert.KernelFfnNormIdeal.nD Cert.KernelFfnNormIdeal.τ).loc Cert.KernelFfnNormIdeal.main_arg2) = m ((c.tc : Thread Cert.KernelFfnNormIdeal.nD Cert.KernelFfnNormIdeal.τ).loc Cert.KernelFfnNormIdeal.main_arg2)
          ∧ r.2.mem ((c.tc : Thread Cert.KernelFfnNormIdeal.nD Cert.KernelFfnNormIdeal.τ).loc Cert.KernelFfnNormIdeal.main_arg3) = m ((c.tc : Thread Cert.KernelFfnNormIdeal.nD Cert.KernelFfnNormIdeal.τ).loc Cert.KernelFfnNormIdeal.main_arg3)
          ∧ r.2.mem ((c.tc : Thread Cert.KernelFfnNormIdeal.nD Cert.KernelFfnNormIdeal.τ).loc Cert.KernelFfnNormIdeal.main_arg4) = m ((c.tc : Thread Cert.KernelFfnNormIdeal.nD Cert.KernelFfnNormIdeal.τ).loc Cert.KernelFfnNormIdeal.main_arg4)
          ∧ r.2.mem ((c.tc : Thread Cert.KernelFfnNormIdeal.nD Cert.KernelFfnNormIdeal.τ).loc Cert.KernelFfnNormIdeal.main_arg5) = m ((c.tc : Thread Cert.KernelFfnNormIdeal.nD Cert.KernelFfnNormIdeal.τ).loc Cert.KernelFfnNormIdeal.main_arg5)
          ∧ r.2.mem ((c.tc : Thread Cert.KernelFfnNormIdeal.nD Cert.KernelFfnNormIdeal.τ).loc Cert.KernelFfnNormIdeal.main_arg6) = m ((c.tc : Thread Cert.KernelFfnNormIdeal.nD Cert.KernelFfnNormIdeal.τ).loc Cert.KernelFfnNormIdeal.main_arg6)
          ∧ r.2.mem ((c.tc : Thread Cert.KernelFfnNormIdeal.nD Cert.KernelFfnNormIdeal.τ).loc Cert.KernelFfnNormIdeal.main_arg7) = m ((c.tc : Thread Cert.KernelFfnNormIdeal.nD Cert.KernelFfnNormIdeal.τ).loc Cert.KernelFfnNormIdeal.main_arg7))
      ∧ θ_run (Cert.ReferenceFfnNormIdeal.defs (F := Ideal)) (onTc (τ := Cert.ReferenceFfnNormIdeal.τ) (Cert.ReferenceFfnNormIdeal.main (F := Ideal))) ⟨m', fun _ => 0, g'⟩ (fun r => ∀ c : Dev Cert.ReferenceFfnNormIdeal.nD,
          r.2.mem ((c.tc : Thread Cert.ReferenceFfnNormIdeal.nD Cert.ReferenceFfnNormIdeal.τ).loc Cert.ReferenceFfnNormIdeal.main_v63) = v0 c
          ∧ r.2.mem ((c.tc : Thread Cert.ReferenceFfnNormIdeal.nD Cert.ReferenceFfnNormIdeal.τ).loc Cert.ReferenceFfnNormIdeal.main_v64) = v1 c
          ∧ r.2.mem ((c.tc : Thread Cert.ReferenceFfnNormIdeal.nD Cert.ReferenceFfnNormIdeal.τ).loc Cert.ReferenceFfnNormIdeal.main_v65) = v2 c
          ∧ r.2.mem ((c.tc : Thread Cert.ReferenceFfnNormIdeal.nD Cert.ReferenceFfnNormIdeal.τ).loc Cert.ReferenceFfnNormIdeal.main_v48) = v3 c
          ∧ r.2.mem ((c.tc : Thread Cert.ReferenceFfnNormIdeal.nD Cert.ReferenceFfnNormIdeal.τ).loc Cert.ReferenceFfnNormIdeal.main_arg0) = m' ((c.tc : Thread Cert.ReferenceFfnNormIdeal.nD Cert.ReferenceFfnNormIdeal.τ).loc Cert.ReferenceFfnNormIdeal.main_arg0)
          ∧ r.2.mem ((c.tc : Thread Cert.ReferenceFfnNormIdeal.nD Cert.ReferenceFfnNormIdeal.τ).loc Cert.ReferenceFfnNormIdeal.main_arg1) = m' ((c.tc : Thread Cert.ReferenceFfnNormIdeal.nD Cert.ReferenceFfnNormIdeal.τ).loc Cert.ReferenceFfnNormIdeal.main_arg1)
          ∧ r.2.mem ((c.tc : Thread Cert.ReferenceFfnNormIdeal.nD Cert.ReferenceFfnNormIdeal.τ).loc Cert.ReferenceFfnNormIdeal.main_arg2) = m' ((c.tc : Thread Cert.ReferenceFfnNormIdeal.nD Cert.ReferenceFfnNormIdeal.τ).loc Cert.ReferenceFfnNormIdeal.main_arg2)
          ∧ r.2.mem ((c.tc : Thread Cert.ReferenceFfnNormIdeal.nD Cert.ReferenceFfnNormIdeal.τ).loc Cert.ReferenceFfnNormIdeal.main_arg3) = m' ((c.tc : Thread Cert.ReferenceFfnNormIdeal.nD Cert.ReferenceFfnNormIdeal.τ).loc Cert.ReferenceFfnNormIdeal.main_arg3)
          ∧ r.2.mem ((c.tc : Thread Cert.ReferenceFfnNormIdeal.nD Cert.ReferenceFfnNormIdeal.τ).loc Cert.ReferenceFfnNormIdeal.main_arg4) = m' ((c.tc : Thread Cert.ReferenceFfnNormIdeal.nD Cert.ReferenceFfnNormIdeal.τ).loc Cert.ReferenceFfnNormIdeal.main_arg4)
          ∧ r.2.mem ((c.tc : Thread Cert.ReferenceFfnNormIdeal.nD Cert.ReferenceFfnNormIdeal.τ).loc Cert.ReferenceFfnNormIdeal.main_arg5) = m' ((c.tc : Thread Cert.ReferenceFfnNormIdeal.nD Cert.ReferenceFfnNormIdeal.τ).loc Cert.ReferenceFfnNormIdeal.main_arg5)
          ∧ r.2.mem ((c.tc : Thread Cert.ReferenceFfnNormIdeal.nD Cert.ReferenceFfnNormIdeal.τ).loc Cert.ReferenceFfnNormIdeal.main_arg6) = m' ((c.tc : Thread Cert.ReferenceFfnNormIdeal.nD Cert.ReferenceFfnNormIdeal.τ).loc Cert.ReferenceFfnNormIdeal.main_arg6)
          ∧ r.2.mem ((c.tc : Thread Cert.ReferenceFfnNormIdeal.nD Cert.ReferenceFfnNormIdeal.τ).loc Cert.ReferenceFfnNormIdeal.main_arg7) = m' ((c.tc : Thread Cert.ReferenceFfnNormIdeal.nD Cert.ReferenceFfnNormIdeal.τ).loc Cert.ReferenceFfnNormIdeal.main_arg7))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)) →
    ∃ (v0 : (c : Dev Cert.KernelConvIdeal.nD) → Buf (Elt Ideal) ((c.tc : Thread Cert.KernelConvIdeal.nD Cert.KernelConvIdeal.τ).loc Cert.KernelConvIdeal.main_v6_0)) (v1 : (c : Dev Cert.KernelConvIdeal.nD) → Buf (Elt Ideal) ((c.tc : Thread Cert.KernelConvIdeal.nD Cert.KernelConvIdeal.τ).loc Cert.KernelConvIdeal.main_v6_1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v6_0) = v0 c
          ∧ r.2.mem ((c.tc : Thread Cert.KernelConvIdeal.nD Cert.KernelConvIdeal.τ).loc Cert.KernelConvIdeal.main_v6_1) = v1 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v75) = v0 c
          ∧ r.2.mem ((c.tc : Thread Cert.ReferenceConvIdeal.nD Cert.ReferenceConvIdeal.τ).loc Cert.ReferenceConvIdeal.main_v77) = v1 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)) →
    ∃ (v0 : (c : Dev Cert.KernelMergeIdeal.nD) → Buf (Elt Ideal) ((c.tc : Thread Cert.KernelMergeIdeal.nD Cert.KernelMergeIdeal.τ).loc Cert.KernelMergeIdeal.main_v30_0)) (v1 : (c : Dev Cert.KernelMergeIdeal.nD) → Buf (Elt Ideal) ((c.tc : Thread Cert.KernelMergeIdeal.nD Cert.KernelMergeIdeal.τ).loc Cert.KernelMergeIdeal.main_v30_1)) (v2 : (c : Dev Cert.KernelMergeIdeal.nD) → Buf (Elt Ideal) ((c.tc : Thread Cert.KernelMergeIdeal.nD Cert.KernelMergeIdeal.τ).loc Cert.KernelMergeIdeal.main_v30_2)) (v3 : (c : Dev Cert.KernelMergeIdeal.nD) → Buf (Elt Ideal) ((c.tc : Thread Cert.KernelMergeIdeal.nD Cert.KernelMergeIdeal.τ).loc Cert.KernelMergeIdeal.main_v30_3)) (v4 : (c : Dev Cert.KernelMergeIdeal.nD) → Buf (Elt Ideal) ((c.tc : Thread Cert.KernelMergeIdeal.nD Cert.KernelMergeIdeal.τ).loc Cert.KernelMergeIdeal.main_v30_4)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v30_0) = v0 c
          ∧ r.2.mem ((c.tc : Thread Cert.KernelMergeIdeal.nD Cert.KernelMergeIdeal.τ).loc Cert.KernelMergeIdeal.main_v30_1) = v1 c
          ∧ r.2.mem ((c.tc : Thread Cert.KernelMergeIdeal.nD Cert.KernelMergeIdeal.τ).loc Cert.KernelMergeIdeal.main_v30_2) = v2 c
          ∧ r.2.mem ((c.tc : Thread Cert.KernelMergeIdeal.nD Cert.KernelMergeIdeal.τ).loc Cert.KernelMergeIdeal.main_v30_3) = v3 c
          ∧ r.2.mem ((c.tc : Thread Cert.KernelMergeIdeal.nD Cert.KernelMergeIdeal.τ).loc Cert.KernelMergeIdeal.main_v30_4) = v4 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v44) = v0 c
          ∧ r.2.mem ((c.tc : Thread Cert.ReferenceMergeIdeal.nD Cert.ReferenceMergeIdeal.τ).loc Cert.ReferenceMergeIdeal.main_v45) = v1 c
          ∧ r.2.mem ((c.tc : Thread Cert.ReferenceMergeIdeal.nD Cert.ReferenceMergeIdeal.τ).loc Cert.ReferenceMergeIdeal.main_v46) = v2 c
          ∧ r.2.mem ((c.tc : Thread Cert.ReferenceMergeIdeal.nD Cert.ReferenceMergeIdeal.τ).loc Cert.ReferenceMergeIdeal.main_v47) = v3 c
          ∧ r.2.mem ((c.tc : Thread Cert.ReferenceMergeIdeal.nD Cert.ReferenceMergeIdeal.τ).loc Cert.ReferenceMergeIdeal.main_v48) = v4 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)) →
    ∃ (v0 : (c : Dev Cert.KernelAdaIdeal.nD) → Buf (Elt Ideal) ((c.tc : Thread Cert.KernelAdaIdeal.nD Cert.KernelAdaIdeal.τ).loc Cert.KernelAdaIdeal.main_v1_0)) (v1 : (c : Dev Cert.KernelAdaIdeal.nD) → Buf (Elt Ideal) ((c.tc : Thread Cert.KernelAdaIdeal.nD Cert.KernelAdaIdeal.τ).loc Cert.KernelAdaIdeal.main_v1_1)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1_0) = v0 c
          ∧ r.2.mem ((c.tc : Thread Cert.KernelAdaIdeal.nD Cert.KernelAdaIdeal.τ).loc Cert.KernelAdaIdeal.main_v1_1) = v1 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v13) = v0 c
          ∧ r.2.mem ((c.tc : Thread Cert.ReferenceAdaIdeal.nD Cert.ReferenceAdaIdeal.τ).loc Cert.ReferenceAdaIdeal.main_v14) = v1 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1))

def preserves_KernelDisc_KernelDiscIdeal : Prop :=
  True

def algebraic_KernelDiscIdeal_ReferenceDiscIdeal [hKernelDiscIdeal : Cert.KernelDiscIdeal.Facts] [hReferenceDiscIdeal : Cert.ReferenceDiscIdeal.Facts] : Prop :=
  ∀ (m : (ℓ : Loc Cert.KernelDiscIdeal.nD Cert.KernelDiscIdeal.τ Cert.KernelDiscIdeal.sig) → Buf (Elt Ideal) ℓ) (g : Dev Cert.KernelDiscIdeal.nD → PrngReg)
    (m' : (ℓ : Loc Cert.ReferenceDiscIdeal.nD Cert.ReferenceDiscIdeal.τ Cert.ReferenceDiscIdeal.sig) → Buf (Elt Ideal) ℓ) (g' : Dev Cert.ReferenceDiscIdeal.nD → PrngReg), Pre_KernelDiscIdeal m →
    (∀ c : Dev Cert.KernelDiscIdeal.nD,
      m' ((c.tc : Thread Cert.ReferenceDiscIdeal.nD Cert.ReferenceDiscIdeal.τ).loc Cert.ReferenceDiscIdeal.main_arg0) = m ((c.tc : Thread Cert.KernelDiscIdeal.nD Cert.KernelDiscIdeal.τ).loc Cert.KernelDiscIdeal.main_arg0)
      ∧ m' ((c.tc : Thread Cert.ReferenceDiscIdeal.nD Cert.ReferenceDiscIdeal.τ).loc Cert.ReferenceDiscIdeal.main_arg1) = m ((c.tc : Thread Cert.KernelDiscIdeal.nD Cert.KernelDiscIdeal.τ).loc Cert.KernelDiscIdeal.main_arg1)
      ∧ m' ((c.tc : Thread Cert.ReferenceDiscIdeal.nD Cert.ReferenceDiscIdeal.τ).loc Cert.ReferenceDiscIdeal.main_arg2) = m ((c.tc : Thread Cert.KernelDiscIdeal.nD Cert.KernelDiscIdeal.τ).loc Cert.KernelDiscIdeal.main_arg2)
      ∧ m' ((c.tc : Thread Cert.ReferenceDiscIdeal.nD Cert.ReferenceDiscIdeal.τ).loc Cert.ReferenceDiscIdeal.main_arg3) = m ((c.tc : Thread Cert.KernelDiscIdeal.nD Cert.KernelDiscIdeal.τ).loc Cert.KernelDiscIdeal.main_arg3)
      ∧ m' ((c.tc : Thread Cert.ReferenceDiscIdeal.nD Cert.ReferenceDiscIdeal.τ).loc Cert.ReferenceDiscIdeal.main_arg4) = m ((c.tc : Thread Cert.KernelDiscIdeal.nD Cert.KernelDiscIdeal.τ).loc Cert.KernelDiscIdeal.main_arg4)
      ∧ m' ((c.tc : Thread Cert.ReferenceDiscIdeal.nD Cert.ReferenceDiscIdeal.τ).loc Cert.ReferenceDiscIdeal.main_arg5) = m ((c.tc : Thread Cert.KernelDiscIdeal.nD Cert.KernelDiscIdeal.τ).loc Cert.KernelDiscIdeal.main_arg5)
      ∧ m' ((c.tc : Thread Cert.ReferenceDiscIdeal.nD Cert.ReferenceDiscIdeal.τ).loc Cert.ReferenceDiscIdeal.main_arg6) = m ((c.tc : Thread Cert.KernelDiscIdeal.nD Cert.KernelDiscIdeal.τ).loc Cert.KernelDiscIdeal.main_arg6)
      ∧ m' ((c.tc : Thread Cert.ReferenceDiscIdeal.nD Cert.ReferenceDiscIdeal.τ).loc Cert.ReferenceDiscIdeal.main_arg7) = m ((c.tc : Thread Cert.KernelDiscIdeal.nD Cert.KernelDiscIdeal.τ).loc Cert.KernelDiscIdeal.main_arg7)
      ∧ m' ((c.tc : Thread Cert.ReferenceDiscIdeal.nD Cert.ReferenceDiscIdeal.τ).loc Cert.ReferenceDiscIdeal.main_arg8) = m ((c.tc : Thread Cert.KernelDiscIdeal.nD Cert.KernelDiscIdeal.τ).loc Cert.KernelDiscIdeal.main_arg8)) →
    ∃ (v0 : (c : Dev Cert.KernelDiscIdeal.nD) → Buf (Elt Ideal) ((c.tc : Thread Cert.KernelDiscIdeal.nD Cert.KernelDiscIdeal.τ).loc Cert.KernelDiscIdeal.main_v11_0)) (v1 : (c : Dev Cert.KernelDiscIdeal.nD) → Buf (Elt Ideal) ((c.tc : Thread Cert.KernelDiscIdeal.nD Cert.KernelDiscIdeal.τ).loc Cert.KernelDiscIdeal.main_v11_1)) (v2 : (c : Dev Cert.KernelDiscIdeal.nD) → Buf (Elt Ideal) ((c.tc : Thread Cert.KernelDiscIdeal.nD Cert.KernelDiscIdeal.τ).loc Cert.KernelDiscIdeal.main_v11_2)) (v3 : (c : Dev Cert.KernelDiscIdeal.nD) → Buf (Elt Ideal) ((c.tc : Thread Cert.KernelDiscIdeal.nD Cert.KernelDiscIdeal.τ).loc Cert.KernelDiscIdeal.main_v11_3)) (v4 : (c : Dev Cert.KernelDiscIdeal.nD) → Buf (Elt Ideal) ((c.tc : Thread Cert.KernelDiscIdeal.nD Cert.KernelDiscIdeal.τ).loc Cert.KernelDiscIdeal.main_v11_4)),
      θ_run (Cert.KernelDiscIdeal.defs (F := Ideal)) (onTc (τ := Cert.KernelDiscIdeal.τ) (Cert.KernelDiscIdeal.main (F := Ideal))) ⟨m, fun _ => 0, g⟩ (fun r => ∀ c : Dev Cert.KernelDiscIdeal.nD,
          r.2.mem ((c.tc : Thread Cert.KernelDiscIdeal.nD Cert.KernelDiscIdeal.τ).loc Cert.KernelDiscIdeal.main_v11_0) = v0 c
          ∧ r.2.mem ((c.tc : Thread Cert.KernelDiscIdeal.nD Cert.KernelDiscIdeal.τ).loc Cert.KernelDiscIdeal.main_v11_1) = v1 c
          ∧ r.2.mem ((c.tc : Thread Cert.KernelDiscIdeal.nD Cert.KernelDiscIdeal.τ).loc Cert.KernelDiscIdeal.main_v11_2) = v2 c
          ∧ r.2.mem ((c.tc : Thread Cert.KernelDiscIdeal.nD Cert.KernelDiscIdeal.τ).loc Cert.KernelDiscIdeal.main_v11_3) = v3 c
          ∧ r.2.mem ((c.tc : Thread Cert.KernelDiscIdeal.nD Cert.KernelDiscIdeal.τ).loc Cert.KernelDiscIdeal.main_v11_4) = v4 c
          ∧ r.2.mem ((c.tc : Thread Cert.KernelDiscIdeal.nD Cert.KernelDiscIdeal.τ).loc Cert.KernelDiscIdeal.main_arg0) = m ((c.tc : Thread Cert.KernelDiscIdeal.nD Cert.KernelDiscIdeal.τ).loc Cert.KernelDiscIdeal.main_arg0)
          ∧ r.2.mem ((c.tc : Thread Cert.KernelDiscIdeal.nD Cert.KernelDiscIdeal.τ).loc Cert.KernelDiscIdeal.main_arg1) = m ((c.tc : Thread Cert.KernelDiscIdeal.nD Cert.KernelDiscIdeal.τ).loc Cert.KernelDiscIdeal.main_arg1)
          ∧ r.2.mem ((c.tc : Thread Cert.KernelDiscIdeal.nD Cert.KernelDiscIdeal.τ).loc Cert.KernelDiscIdeal.main_arg2) = m ((c.tc : Thread Cert.KernelDiscIdeal.nD Cert.KernelDiscIdeal.τ).loc Cert.KernelDiscIdeal.main_arg2)
          ∧ r.2.mem ((c.tc : Thread Cert.KernelDiscIdeal.nD Cert.KernelDiscIdeal.τ).loc Cert.KernelDiscIdeal.main_arg3) = m ((c.tc : Thread Cert.KernelDiscIdeal.nD Cert.KernelDiscIdeal.τ).loc Cert.KernelDiscIdeal.main_arg3)
          ∧ r.2.mem ((c.tc : Thread Cert.KernelDiscIdeal.nD Cert.KernelDiscIdeal.τ).loc Cert.KernelDiscIdeal.main_arg4) = m ((c.tc : Thread Cert.KernelDiscIdeal.nD Cert.KernelDiscIdeal.τ).loc Cert.KernelDiscIdeal.main_arg4)
          ∧ r.2.mem ((c.tc : Thread Cert.KernelDiscIdeal.nD Cert.KernelDiscIdeal.τ).loc Cert.KernelDiscIdeal.main_arg5) = m ((c.tc : Thread Cert.KernelDiscIdeal.nD Cert.KernelDiscIdeal.τ).loc Cert.KernelDiscIdeal.main_arg5)
          ∧ r.2.mem ((c.tc : Thread Cert.KernelDiscIdeal.nD Cert.KernelDiscIdeal.τ).loc Cert.KernelDiscIdeal.main_arg6) = m ((c.tc : Thread Cert.KernelDiscIdeal.nD Cert.KernelDiscIdeal.τ).loc Cert.KernelDiscIdeal.main_arg6)
          ∧ r.2.mem ((c.tc : Thread Cert.KernelDiscIdeal.nD Cert.KernelDiscIdeal.τ).loc Cert.KernelDiscIdeal.main_arg7) = m ((c.tc : Thread Cert.KernelDiscIdeal.nD Cert.KernelDiscIdeal.τ).loc Cert.KernelDiscIdeal.main_arg7)
          ∧ r.2.mem ((c.tc : Thread Cert.KernelDiscIdeal.nD Cert.KernelDiscIdeal.τ).loc Cert.KernelDiscIdeal.main_arg8) = m ((c.tc : Thread Cert.KernelDiscIdeal.nD Cert.KernelDiscIdeal.τ).loc Cert.KernelDiscIdeal.main_arg8))
      ∧ θ_run (Cert.ReferenceDiscIdeal.defs (F := Ideal)) (onTc (τ := Cert.ReferenceDiscIdeal.τ) (Cert.ReferenceDiscIdeal.main (F := Ideal))) ⟨m', fun _ => 0, g'⟩ (fun r => ∀ c : Dev Cert.ReferenceDiscIdeal.nD,
          r.2.mem ((c.tc : Thread Cert.ReferenceDiscIdeal.nD Cert.ReferenceDiscIdeal.τ).loc Cert.ReferenceDiscIdeal.main_v133) = v0 c
          ∧ r.2.mem ((c.tc : Thread Cert.ReferenceDiscIdeal.nD Cert.ReferenceDiscIdeal.τ).loc Cert.ReferenceDiscIdeal.main_v134) = v1 c
          ∧ r.2.mem ((c.tc : Thread Cert.ReferenceDiscIdeal.nD Cert.ReferenceDiscIdeal.τ).loc Cert.ReferenceDiscIdeal.main_v135) = v2 c
          ∧ r.2.mem ((c.tc : Thread Cert.ReferenceDiscIdeal.nD Cert.ReferenceDiscIdeal.τ).loc Cert.ReferenceDiscIdeal.main_v137) = v3 c
          ∧ r.2.mem ((c.tc : Thread Cert.ReferenceDiscIdeal.nD Cert.ReferenceDiscIdeal.τ).loc Cert.ReferenceDiscIdeal.main_v139) = v4 c
          ∧ r.2.mem ((c.tc : Thread Cert.ReferenceDiscIdeal.nD Cert.ReferenceDiscIdeal.τ).loc Cert.ReferenceDiscIdeal.main_arg0) = m' ((c.tc : Thread Cert.ReferenceDiscIdeal.nD Cert.ReferenceDiscIdeal.τ).loc Cert.ReferenceDiscIdeal.main_arg0)
          ∧ r.2.mem ((c.tc : Thread Cert.ReferenceDiscIdeal.nD Cert.ReferenceDiscIdeal.τ).loc Cert.ReferenceDiscIdeal.main_arg1) = m' ((c.tc : Thread Cert.ReferenceDiscIdeal.nD Cert.ReferenceDiscIdeal.τ).loc Cert.ReferenceDiscIdeal.main_arg1)
          ∧ r.2.mem ((c.tc : Thread Cert.ReferenceDiscIdeal.nD Cert.ReferenceDiscIdeal.τ).loc Cert.ReferenceDiscIdeal.main_arg2) = m' ((c.tc : Thread Cert.ReferenceDiscIdeal.nD Cert.ReferenceDiscIdeal.τ).loc Cert.ReferenceDiscIdeal.main_arg2)
          ∧ r.2.mem ((c.tc : Thread Cert.ReferenceDiscIdeal.nD Cert.ReferenceDiscIdeal.τ).loc Cert.ReferenceDiscIdeal.main_arg3) = m' ((c.tc : Thread Cert.ReferenceDiscIdeal.nD Cert.ReferenceDiscIdeal.τ).loc Cert.ReferenceDiscIdeal.main_arg3)
          ∧ r.2.mem ((c.tc : Thread Cert.ReferenceDiscIdeal.nD Cert.ReferenceDiscIdeal.τ).loc Cert.ReferenceDiscIdeal.main_arg4) = m' ((c.tc : Thread Cert.ReferenceDiscIdeal.nD Cert.ReferenceDiscIdeal.τ).loc Cert.ReferenceDiscIdeal.main_arg4)
          ∧ r.2.mem ((c.tc : Thread Cert.ReferenceDiscIdeal.nD Cert.ReferenceDiscIdeal.τ).loc Cert.ReferenceDiscIdeal.main_arg5) = m' ((c.tc : Thread Cert.ReferenceDiscIdeal.nD Cert.ReferenceDiscIdeal.τ).loc Cert.ReferenceDiscIdeal.main_arg5)
          ∧ r.2.mem ((c.tc : Thread Cert.ReferenceDiscIdeal.nD Cert.ReferenceDiscIdeal.τ).loc Cert.ReferenceDiscIdeal.main_arg6) = m' ((c.tc : Thread Cert.ReferenceDiscIdeal.nD Cert.ReferenceDiscIdeal.τ).loc Cert.ReferenceDiscIdeal.main_arg6)
          ∧ r.2.mem ((c.tc : Thread Cert.ReferenceDiscIdeal.nD Cert.ReferenceDiscIdeal.τ).loc Cert.ReferenceDiscIdeal.main_arg7) = m' ((c.tc : Thread Cert.ReferenceDiscIdeal.nD Cert.ReferenceDiscIdeal.τ).loc Cert.ReferenceDiscIdeal.main_arg7)
          ∧ r.2.mem ((c.tc : Thread Cert.ReferenceDiscIdeal.nD Cert.ReferenceDiscIdeal.τ).loc Cert.ReferenceDiscIdeal.main_arg8) = m' ((c.tc : Thread Cert.ReferenceDiscIdeal.nD Cert.ReferenceDiscIdeal.τ).loc Cert.ReferenceDiscIdeal.main_arg8))

def preserves_KernelHid_KernelHidIdeal : Prop :=
  True

def algebraic_KernelHidIdeal_ReferenceHidIdeal_pre_finite_hid [hKernelHidIdeal : Cert.KernelHidIdeal.Facts] [hReferenceHidIdeal : Cert.ReferenceHidIdeal.Facts] [hPre_finite_hid : Cert.Pre_finite_hid.Facts] : Prop :=
  ∀ (m : (ℓ : Loc Cert.KernelHidIdeal.nD Cert.KernelHidIdeal.τ Cert.KernelHidIdeal.sig) → Buf (Elt Ideal) ℓ) (g : Dev Cert.KernelHidIdeal.nD → PrngReg)
    (m' : (ℓ : Loc Cert.ReferenceHidIdeal.nD Cert.ReferenceHidIdeal.τ Cert.ReferenceHidIdeal.sig) → Buf (Elt Ideal) ℓ) (g' : Dev Cert.ReferenceHidIdeal.nD → PrngReg), Pre_KernelHidIdeal_finite_hid m →
    (∀ c : Dev Cert.KernelHidIdeal.nD,
      m' ((c.tc : Thread Cert.ReferenceHidIdeal.nD Cert.ReferenceHidIdeal.τ).loc Cert.ReferenceHidIdeal.main_arg0) = m ((c.tc : Thread Cert.KernelHidIdeal.nD Cert.KernelHidIdeal.τ).loc Cert.KernelHidIdeal.main_arg0)
      ∧ m' ((c.tc : Thread Cert.ReferenceHidIdeal.nD Cert.ReferenceHidIdeal.τ).loc Cert.ReferenceHidIdeal.main_arg1) = m ((c.tc : Thread Cert.KernelHidIdeal.nD Cert.KernelHidIdeal.τ).loc Cert.KernelHidIdeal.main_arg1)
      ∧ m' ((c.tc : Thread Cert.ReferenceHidIdeal.nD Cert.ReferenceHidIdeal.τ).loc Cert.ReferenceHidIdeal.main_arg2) = m ((c.tc : Thread Cert.KernelHidIdeal.nD Cert.KernelHidIdeal.τ).loc Cert.KernelHidIdeal.main_arg2)
      ∧ m' ((c.tc : Thread Cert.ReferenceHidIdeal.nD Cert.ReferenceHidIdeal.τ).loc Cert.ReferenceHidIdeal.main_arg3) = m ((c.tc : Thread Cert.KernelHidIdeal.nD Cert.KernelHidIdeal.τ).loc Cert.KernelHidIdeal.main_arg3)
      ∧ m' ((c.tc : Thread Cert.ReferenceHidIdeal.nD Cert.ReferenceHidIdeal.τ).loc Cert.ReferenceHidIdeal.main_arg4) = m ((c.tc : Thread Cert.KernelHidIdeal.nD Cert.KernelHidIdeal.τ).loc Cert.KernelHidIdeal.main_arg4)
      ∧ m' ((c.tc : Thread Cert.ReferenceHidIdeal.nD Cert.ReferenceHidIdeal.τ).loc Cert.ReferenceHidIdeal.main_arg5) = m ((c.tc : Thread Cert.KernelHidIdeal.nD Cert.KernelHidIdeal.τ).loc Cert.KernelHidIdeal.main_arg5)) →
    ∃ (v0 : (c : Dev Cert.KernelHidIdeal.nD) → Buf (Elt Ideal) ((c.tc : Thread Cert.KernelHidIdeal.nD Cert.KernelHidIdeal.τ).loc Cert.KernelHidIdeal.main_v30_0)) (v1 : (c : Dev Cert.KernelHidIdeal.nD) → Buf (Elt Ideal) ((c.tc : Thread Cert.KernelHidIdeal.nD Cert.KernelHidIdeal.τ).loc Cert.KernelHidIdeal.main_v30_1)) (v2 : (c : Dev Cert.KernelHidIdeal.nD) → Buf (Elt Ideal) ((c.tc : Thread Cert.KernelHidIdeal.nD Cert.KernelHidIdeal.τ).loc Cert.KernelHidIdeal.main_v30_2)) (v3 : (c : Dev Cert.KernelHidIdeal.nD) → Buf (Elt Ideal) ((c.tc : Thread Cert.KernelHidIdeal.nD Cert.KernelHidIdeal.τ).loc Cert.KernelHidIdeal.main_v30_3)),
      θ_run (Cert.KernelHidIdeal.defs (F := Ideal)) (onTc (τ := Cert.KernelHidIdeal.τ) (Cert.KernelHidIdeal.main (F := Ideal))) ⟨m, fun _ => 0, g⟩ (fun r => ∀ c : Dev Cert.KernelHidIdeal.nD,
          r.2.mem ((c.tc : Thread Cert.KernelHidIdeal.nD Cert.KernelHidIdeal.τ).loc Cert.KernelHidIdeal.main_v30_0) = v0 c
          ∧ r.2.mem ((c.tc : Thread Cert.KernelHidIdeal.nD Cert.KernelHidIdeal.τ).loc Cert.KernelHidIdeal.main_v30_1) = v1 c
          ∧ r.2.mem ((c.tc : Thread Cert.KernelHidIdeal.nD Cert.KernelHidIdeal.τ).loc Cert.KernelHidIdeal.main_v30_2) = v2 c
          ∧ r.2.mem ((c.tc : Thread Cert.KernelHidIdeal.nD Cert.KernelHidIdeal.τ).loc Cert.KernelHidIdeal.main_v30_3) = v3 c
          ∧ r.2.mem ((c.tc : Thread Cert.KernelHidIdeal.nD Cert.KernelHidIdeal.τ).loc Cert.KernelHidIdeal.main_arg0) = m ((c.tc : Thread Cert.KernelHidIdeal.nD Cert.KernelHidIdeal.τ).loc Cert.KernelHidIdeal.main_arg0)
          ∧ r.2.mem ((c.tc : Thread Cert.KernelHidIdeal.nD Cert.KernelHidIdeal.τ).loc Cert.KernelHidIdeal.main_arg1) = m ((c.tc : Thread Cert.KernelHidIdeal.nD Cert.KernelHidIdeal.τ).loc Cert.KernelHidIdeal.main_arg1)
          ∧ r.2.mem ((c.tc : Thread Cert.KernelHidIdeal.nD Cert.KernelHidIdeal.τ).loc Cert.KernelHidIdeal.main_arg2) = m ((c.tc : Thread Cert.KernelHidIdeal.nD Cert.KernelHidIdeal.τ).loc Cert.KernelHidIdeal.main_arg2)
          ∧ r.2.mem ((c.tc : Thread Cert.KernelHidIdeal.nD Cert.KernelHidIdeal.τ).loc Cert.KernelHidIdeal.main_arg3) = m ((c.tc : Thread Cert.KernelHidIdeal.nD Cert.KernelHidIdeal.τ).loc Cert.KernelHidIdeal.main_arg3)
          ∧ r.2.mem ((c.tc : Thread Cert.KernelHidIdeal.nD Cert.KernelHidIdeal.τ).loc Cert.KernelHidIdeal.main_arg4) = m ((c.tc : Thread Cert.KernelHidIdeal.nD Cert.KernelHidIdeal.τ).loc Cert.KernelHidIdeal.main_arg4)
          ∧ r.2.mem ((c.tc : Thread Cert.KernelHidIdeal.nD Cert.KernelHidIdeal.τ).loc Cert.KernelHidIdeal.main_arg5) = m ((c.tc : Thread Cert.KernelHidIdeal.nD Cert.KernelHidIdeal.τ).loc Cert.KernelHidIdeal.main_arg5))
      ∧ θ_run (Cert.ReferenceHidIdeal.defs (F := Ideal)) (onTc (τ := Cert.ReferenceHidIdeal.τ) (Cert.ReferenceHidIdeal.main (F := Ideal))) ⟨m', fun _ => 0, g'⟩ (fun r => ∀ c : Dev Cert.ReferenceHidIdeal.nD,
          r.2.mem ((c.tc : Thread Cert.ReferenceHidIdeal.nD Cert.ReferenceHidIdeal.τ).loc Cert.ReferenceHidIdeal.main_v30) = v0 c
          ∧ r.2.mem ((c.tc : Thread Cert.ReferenceHidIdeal.nD Cert.ReferenceHidIdeal.τ).loc Cert.ReferenceHidIdeal.main_v31) = v1 c
          ∧ r.2.mem ((c.tc : Thread Cert.ReferenceHidIdeal.nD Cert.ReferenceHidIdeal.τ).loc Cert.ReferenceHidIdeal.main_v32) = v2 c
          ∧ r.2.mem ((c.tc : Thread Cert.ReferenceHidIdeal.nD Cert.ReferenceHidIdeal.τ).loc Cert.ReferenceHidIdeal.main_v33) = v3 c
          ∧ r.2.mem ((c.tc : Thread Cert.ReferenceHidIdeal.nD Cert.ReferenceHidIdeal.τ).loc Cert.ReferenceHidIdeal.main_arg0) = m' ((c.tc : Thread Cert.ReferenceHidIdeal.nD Cert.ReferenceHidIdeal.τ).loc Cert.ReferenceHidIdeal.main_arg0)
          ∧ r.2.mem ((c.tc : Thread Cert.ReferenceHidIdeal.nD Cert.ReferenceHidIdeal.τ).loc Cert.ReferenceHidIdeal.main_arg1) = m' ((c.tc : Thread Cert.ReferenceHidIdeal.nD Cert.ReferenceHidIdeal.τ).loc Cert.ReferenceHidIdeal.main_arg1)
          ∧ r.2.mem ((c.tc : Thread Cert.ReferenceHidIdeal.nD Cert.ReferenceHidIdeal.τ).loc Cert.ReferenceHidIdeal.main_arg2) = m' ((c.tc : Thread Cert.ReferenceHidIdeal.nD Cert.ReferenceHidIdeal.τ).loc Cert.ReferenceHidIdeal.main_arg2)
          ∧ r.2.mem ((c.tc : Thread Cert.ReferenceHidIdeal.nD Cert.ReferenceHidIdeal.τ).loc Cert.ReferenceHidIdeal.main_arg3) = m' ((c.tc : Thread Cert.ReferenceHidIdeal.nD Cert.ReferenceHidIdeal.τ).loc Cert.ReferenceHidIdeal.main_arg3)
          ∧ r.2.mem ((c.tc : Thread Cert.ReferenceHidIdeal.nD Cert.ReferenceHidIdeal.τ).loc Cert.ReferenceHidIdeal.main_arg4) = m' ((c.tc : Thread Cert.ReferenceHidIdeal.nD Cert.ReferenceHidIdeal.τ).loc Cert.ReferenceHidIdeal.main_arg4)
          ∧ r.2.mem ((c.tc : Thread Cert.ReferenceHidIdeal.nD Cert.ReferenceHidIdeal.τ).loc Cert.ReferenceHidIdeal.main_arg5) = m' ((c.tc : Thread Cert.ReferenceHidIdeal.nD Cert.ReferenceHidIdeal.τ).loc Cert.ReferenceHidIdeal.main_arg5))

def preserves_KernelNormF_KernelNormFIdeal : Prop :=
  True

def algebraic_KernelNormFIdeal_ReferenceNormFIdeal [hKernelNormFIdeal : Cert.KernelNormFIdeal.Facts] [hReferenceNormFIdeal : Cert.ReferenceNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg)
    (m' : (ℓ : Loc Cert.ReferenceNormFIdeal.nD Cert.ReferenceNormFIdeal.τ Cert.ReferenceNormFIdeal.sig) → Buf (Elt Ideal) ℓ) (g' : Dev Cert.ReferenceNormFIdeal.nD → PrngReg), Pre_KernelNormFIdeal m →
    (∀ c : Dev Cert.KernelNormFIdeal.nD,
      m' ((c.tc : Thread Cert.ReferenceNormFIdeal.nD Cert.ReferenceNormFIdeal.τ).loc Cert.ReferenceNormFIdeal.main_arg0) = m ((c.tc : Thread Cert.KernelNormFIdeal.nD Cert.KernelNormFIdeal.τ).loc Cert.KernelNormFIdeal.main_arg0)
      ∧ m' ((c.tc : Thread Cert.ReferenceNormFIdeal.nD Cert.ReferenceNormFIdeal.τ).loc Cert.ReferenceNormFIdeal.main_arg1) = m ((c.tc : Thread Cert.KernelNormFIdeal.nD Cert.KernelNormFIdeal.τ).loc Cert.KernelNormFIdeal.main_arg1)
      ∧ m' ((c.tc : Thread Cert.ReferenceNormFIdeal.nD Cert.ReferenceNormFIdeal.τ).loc Cert.ReferenceNormFIdeal.main_arg2) = m ((c.tc : Thread Cert.KernelNormFIdeal.nD Cert.KernelNormFIdeal.τ).loc Cert.KernelNormFIdeal.main_arg2)
      ∧ m' ((c.tc : Thread Cert.ReferenceNormFIdeal.nD Cert.ReferenceNormFIdeal.τ).loc Cert.ReferenceNormFIdeal.main_arg3) = m ((c.tc : Thread Cert.KernelNormFIdeal.nD Cert.KernelNormFIdeal.τ).loc Cert.KernelNormFIdeal.main_arg3)) →
    ∃ (v0 : (c : Dev Cert.KernelNormFIdeal.nD) → Buf (Elt Ideal) ((c.tc : Thread Cert.KernelNormFIdeal.nD Cert.KernelNormFIdeal.τ).loc Cert.KernelNormFIdeal.main_v2)),
      θ_run (Cert.KernelNormFIdeal.defs (F := Ideal)) (onTc (τ := Cert.KernelNormFIdeal.τ) (Cert.KernelNormFIdeal.main (F := Ideal))) ⟨m, fun _ => 0, g⟩ (fun r => ∀ c : Dev Cert.KernelNormFIdeal.nD,
          r.2.mem ((c.tc : Thread Cert.KernelNormFIdeal.nD Cert.KernelNormFIdeal.τ).loc Cert.KernelNormFIdeal.main_v2) = v0 c
          ∧ r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
          ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1)
          ∧ r.2.mem ((c.tc : Thread Cert.KernelNormFIdeal.nD Cert.KernelNormFIdeal.τ).loc Cert.KernelNormFIdeal.main_arg2) = m ((c.tc : Thread Cert.KernelNormFIdeal.nD Cert.KernelNormFIdeal.τ).loc Cert.KernelNormFIdeal.main_arg2)
          ∧ r.2.mem ((c.tc : Thread Cert.KernelNormFIdeal.nD Cert.KernelNormFIdeal.τ).loc Cert.KernelNormFIdeal.main_arg3) = m ((c.tc : Thread Cert.KernelNormFIdeal.nD Cert.KernelNormFIdeal.τ).loc Cert.KernelNormFIdeal.main_arg3))
      ∧ θ_run (Cert.ReferenceNormFIdeal.defs (F := Ideal)) (onTc (τ := Cert.ReferenceNormFIdeal.τ) (Cert.ReferenceNormFIdeal.main (F := Ideal))) ⟨m', fun _ => 0, g'⟩ (fun r => ∀ c : Dev Cert.ReferenceNormFIdeal.nD,
          r.2.mem ((c.tc : Thread Cert.ReferenceNormFIdeal.nD Cert.ReferenceNormFIdeal.τ).loc Cert.ReferenceNormFIdeal.main_v22) = v0 c
          ∧ r.2.mem ((c.tc : Thread Cert.ReferenceNormFIdeal.nD Cert.ReferenceNormFIdeal.τ).loc Cert.ReferenceNormFIdeal.main_arg0) = m' ((c.tc : Thread Cert.ReferenceNormFIdeal.nD Cert.ReferenceNormFIdeal.τ).loc Cert.ReferenceNormFIdeal.main_arg0)
          ∧ r.2.mem ((c.tc : Thread Cert.ReferenceNormFIdeal.nD Cert.ReferenceNormFIdeal.τ).loc Cert.ReferenceNormFIdeal.main_arg1) = m' ((c.tc : Thread Cert.ReferenceNormFIdeal.nD Cert.ReferenceNormFIdeal.τ).loc Cert.ReferenceNormFIdeal.main_arg1)
          ∧ r.2.mem ((c.tc : Thread Cert.ReferenceNormFIdeal.nD Cert.ReferenceNormFIdeal.τ).loc Cert.ReferenceNormFIdeal.main_arg2) = m' ((c.tc : Thread Cert.ReferenceNormFIdeal.nD Cert.ReferenceNormFIdeal.τ).loc Cert.ReferenceNormFIdeal.main_arg2)
          ∧ r.2.mem ((c.tc : Thread Cert.ReferenceNormFIdeal.nD Cert.ReferenceNormFIdeal.τ).loc Cert.ReferenceNormFIdeal.main_arg3) = m' ((c.tc : Thread Cert.ReferenceNormFIdeal.nD Cert.ReferenceNormFIdeal.τ).loc Cert.ReferenceNormFIdeal.main_arg3))

def preserves_KernelUpF_KernelUpFIdeal : Prop :=
  True

def algebraic_KernelUpFIdeal_ReferenceUpFIdeal_pre_finite_upf [hKernelUpFIdeal : Cert.KernelUpFIdeal.Facts] [hReferenceUpFIdeal : Cert.ReferenceUpFIdeal.Facts] [hPre_finite_upf : Cert.Pre_finite_upf.Facts] : Prop :=
  ∀ (m : (ℓ : Loc Cert.KernelUpFIdeal.nD Cert.KernelUpFIdeal.τ Cert.KernelUpFIdeal.sig) → Buf (Elt Ideal) ℓ) (g : Dev Cert.KernelUpFIdeal.nD → PrngReg)
    (m' : (ℓ : Loc Cert.ReferenceUpFIdeal.nD Cert.ReferenceUpFIdeal.τ Cert.ReferenceUpFIdeal.sig) → Buf (Elt Ideal) ℓ) (g' : Dev Cert.ReferenceUpFIdeal.nD → PrngReg), Pre_KernelUpFIdeal_finite_upf m →
    (∀ c : Dev Cert.KernelUpFIdeal.nD,
      m' ((c.tc : Thread Cert.ReferenceUpFIdeal.nD Cert.ReferenceUpFIdeal.τ).loc Cert.ReferenceUpFIdeal.main_arg0) = m ((c.tc : Thread Cert.KernelUpFIdeal.nD Cert.KernelUpFIdeal.τ).loc Cert.KernelUpFIdeal.main_arg0)
      ∧ m' ((c.tc : Thread Cert.ReferenceUpFIdeal.nD Cert.ReferenceUpFIdeal.τ).loc Cert.ReferenceUpFIdeal.main_arg1) = m ((c.tc : Thread Cert.KernelUpFIdeal.nD Cert.KernelUpFIdeal.τ).loc Cert.KernelUpFIdeal.main_arg1)
      ∧ m' ((c.tc : Thread Cert.ReferenceUpFIdeal.nD Cert.ReferenceUpFIdeal.τ).loc Cert.ReferenceUpFIdeal.main_arg2) = m ((c.tc : Thread Cert.KernelUpFIdeal.nD Cert.KernelUpFIdeal.τ).loc Cert.KernelUpFIdeal.main_arg2)) →
    ∃ (v0 : (c : Dev Cert.KernelUpFIdeal.nD) → Buf (Elt Ideal) ((c.tc : Thread Cert.KernelUpFIdeal.nD Cert.KernelUpFIdeal.τ).loc Cert.KernelUpFIdeal.main_v7_0)) (v1 : (c : Dev Cert.KernelUpFIdeal.nD) → Buf (Elt Ideal) ((c.tc : Thread Cert.KernelUpFIdeal.nD Cert.KernelUpFIdeal.τ).loc Cert.KernelUpFIdeal.main_v7_1)) (v2 : (c : Dev Cert.KernelUpFIdeal.nD) → Buf (Elt Ideal) ((c.tc : Thread Cert.KernelUpFIdeal.nD Cert.KernelUpFIdeal.τ).loc Cert.KernelUpFIdeal.main_v7_2)),
      θ_run (Cert.KernelUpFIdeal.defs (F := Ideal)) (onTc (τ := Cert.KernelUpFIdeal.τ) (Cert.KernelUpFIdeal.main (F := Ideal))) ⟨m, fun _ => 0, g⟩ (fun r => ∀ c : Dev Cert.KernelUpFIdeal.nD,
          r.2.mem ((c.tc : Thread Cert.KernelUpFIdeal.nD Cert.KernelUpFIdeal.τ).loc Cert.KernelUpFIdeal.main_v7_0) = v0 c
          ∧ r.2.mem ((c.tc : Thread Cert.KernelUpFIdeal.nD Cert.KernelUpFIdeal.τ).loc Cert.KernelUpFIdeal.main_v7_1) = v1 c
          ∧ r.2.mem ((c.tc : Thread Cert.KernelUpFIdeal.nD Cert.KernelUpFIdeal.τ).loc Cert.KernelUpFIdeal.main_v7_2) = v2 c
          ∧ r.2.mem ((c.tc : Thread Cert.KernelUpFIdeal.nD Cert.KernelUpFIdeal.τ).loc Cert.KernelUpFIdeal.main_arg0) = m ((c.tc : Thread Cert.KernelUpFIdeal.nD Cert.KernelUpFIdeal.τ).loc Cert.KernelUpFIdeal.main_arg0)
          ∧ r.2.mem ((c.tc : Thread Cert.KernelUpFIdeal.nD Cert.KernelUpFIdeal.τ).loc Cert.KernelUpFIdeal.main_arg1) = m ((c.tc : Thread Cert.KernelUpFIdeal.nD Cert.KernelUpFIdeal.τ).loc Cert.KernelUpFIdeal.main_arg1)
          ∧ r.2.mem ((c.tc : Thread Cert.KernelUpFIdeal.nD Cert.KernelUpFIdeal.τ).loc Cert.KernelUpFIdeal.main_arg2) = m ((c.tc : Thread Cert.KernelUpFIdeal.nD Cert.KernelUpFIdeal.τ).loc Cert.KernelUpFIdeal.main_arg2))
      ∧ θ_run (Cert.ReferenceUpFIdeal.defs (F := Ideal)) (onTc (τ := Cert.ReferenceUpFIdeal.τ) (Cert.ReferenceUpFIdeal.main (F := Ideal))) ⟨m', fun _ => 0, g'⟩ (fun r => ∀ c : Dev Cert.ReferenceUpFIdeal.nD,
          r.2.mem ((c.tc : Thread Cert.ReferenceUpFIdeal.nD Cert.ReferenceUpFIdeal.τ).loc Cert.ReferenceUpFIdeal.main_v10) = v0 c
          ∧ r.2.mem ((c.tc : Thread Cert.ReferenceUpFIdeal.nD Cert.ReferenceUpFIdeal.τ).loc Cert.ReferenceUpFIdeal.main_v11) = v1 c
          ∧ r.2.mem ((c.tc : Thread Cert.ReferenceUpFIdeal.nD Cert.ReferenceUpFIdeal.τ).loc Cert.ReferenceUpFIdeal.main_v12) = v2 c
          ∧ r.2.mem ((c.tc : Thread Cert.ReferenceUpFIdeal.nD Cert.ReferenceUpFIdeal.τ).loc Cert.ReferenceUpFIdeal.main_arg0) = m' ((c.tc : Thread Cert.ReferenceUpFIdeal.nD Cert.ReferenceUpFIdeal.τ).loc Cert.ReferenceUpFIdeal.main_arg0)
          ∧ r.2.mem ((c.tc : Thread Cert.ReferenceUpFIdeal.nD Cert.ReferenceUpFIdeal.τ).loc Cert.ReferenceUpFIdeal.main_arg1) = m' ((c.tc : Thread Cert.ReferenceUpFIdeal.nD Cert.ReferenceUpFIdeal.τ).loc Cert.ReferenceUpFIdeal.main_arg1)
          ∧ r.2.mem ((c.tc : Thread Cert.ReferenceUpFIdeal.nD Cert.ReferenceUpFIdeal.τ).loc Cert.ReferenceUpFIdeal.main_arg2) = m' ((c.tc : Thread Cert.ReferenceUpFIdeal.nD Cert.ReferenceUpFIdeal.τ).loc Cert.ReferenceUpFIdeal.main_arg2))

def preserves_KernelDownF_KernelDownFIdeal : Prop :=
  True

def algebraic_KernelDownFIdeal_ReferenceDownFIdeal [hKernelDownFIdeal : Cert.KernelDownFIdeal.Facts] [hReferenceDownFIdeal : Cert.ReferenceDownFIdeal.Facts] : Prop :=
  ∀ (m : (ℓ : Loc Cert.KernelDownFIdeal.nD Cert.KernelDownFIdeal.τ Cert.KernelDownFIdeal.sig) → Buf (Elt Ideal) ℓ) (g : Dev Cert.KernelDownFIdeal.nD → PrngReg)
    (m' : (ℓ : Loc Cert.ReferenceDownFIdeal.nD Cert.ReferenceDownFIdeal.τ Cert.ReferenceDownFIdeal.sig) → Buf (Elt Ideal) ℓ) (g' : Dev Cert.ReferenceDownFIdeal.nD → PrngReg), Pre_KernelDownFIdeal m →
    (∀ c : Dev Cert.KernelDownFIdeal.nD,
      m' ((c.tc : Thread Cert.ReferenceDownFIdeal.nD Cert.ReferenceDownFIdeal.τ).loc Cert.ReferenceDownFIdeal.main_arg0) = m ((c.tc : Thread Cert.KernelDownFIdeal.nD Cert.KernelDownFIdeal.τ).loc Cert.KernelDownFIdeal.main_arg0)
      ∧ m' ((c.tc : Thread Cert.ReferenceDownFIdeal.nD Cert.ReferenceDownFIdeal.τ).loc Cert.ReferenceDownFIdeal.main_arg1) = m ((c.tc : Thread Cert.KernelDownFIdeal.nD Cert.KernelDownFIdeal.τ).loc Cert.KernelDownFIdeal.main_arg1)
      ∧ m' ((c.tc : Thread Cert.ReferenceDownFIdeal.nD Cert.ReferenceDownFIdeal.τ).loc Cert.ReferenceDownFIdeal.main_arg2) = m ((c.tc : Thread Cert.KernelDownFIdeal.nD Cert.KernelDownFIdeal.τ).loc Cert.KernelDownFIdeal.main_arg2)
      ∧ m' ((c.tc : Thread Cert.ReferenceDownFIdeal.nD Cert.ReferenceDownFIdeal.τ).loc Cert.ReferenceDownFIdeal.main_arg3) = m ((c.tc : Thread Cert.KernelDownFIdeal.nD Cert.KernelDownFIdeal.τ).loc Cert.KernelDownFIdeal.main_arg3)) →
    ∃ (v0 : (c : Dev Cert.KernelDownFIdeal.nD) → Buf (Elt Ideal) ((c.tc : Thread Cert.KernelDownFIdeal.nD Cert.KernelDownFIdeal.τ).loc Cert.KernelDownFIdeal.main_v4_0)) (v1 : (c : Dev Cert.KernelDownFIdeal.nD) → Buf (Elt Ideal) ((c.tc : Thread Cert.KernelDownFIdeal.nD Cert.KernelDownFIdeal.τ).loc Cert.KernelDownFIdeal.main_v4_1)),
      θ_run (Cert.KernelDownFIdeal.defs (F := Ideal)) (onTc (τ := Cert.KernelDownFIdeal.τ) (Cert.KernelDownFIdeal.main (F := Ideal))) ⟨m, fun _ => 0, g⟩ (fun r => ∀ c : Dev Cert.KernelDownFIdeal.nD,
          r.2.mem ((c.tc : Thread Cert.KernelDownFIdeal.nD Cert.KernelDownFIdeal.τ).loc Cert.KernelDownFIdeal.main_v4_0) = v0 c
          ∧ r.2.mem ((c.tc : Thread Cert.KernelDownFIdeal.nD Cert.KernelDownFIdeal.τ).loc Cert.KernelDownFIdeal.main_v4_1) = v1 c
          ∧ r.2.mem ((c.tc : Thread Cert.KernelDownFIdeal.nD Cert.KernelDownFIdeal.τ).loc Cert.KernelDownFIdeal.main_arg0) = m ((c.tc : Thread Cert.KernelDownFIdeal.nD Cert.KernelDownFIdeal.τ).loc Cert.KernelDownFIdeal.main_arg0)
          ∧ r.2.mem ((c.tc : Thread Cert.KernelDownFIdeal.nD Cert.KernelDownFIdeal.τ).loc Cert.KernelDownFIdeal.main_arg1) = m ((c.tc : Thread Cert.KernelDownFIdeal.nD Cert.KernelDownFIdeal.τ).loc Cert.KernelDownFIdeal.main_arg1)
          ∧ r.2.mem ((c.tc : Thread Cert.KernelDownFIdeal.nD Cert.KernelDownFIdeal.τ).loc Cert.KernelDownFIdeal.main_arg2) = m ((c.tc : Thread Cert.KernelDownFIdeal.nD Cert.KernelDownFIdeal.τ).loc Cert.KernelDownFIdeal.main_arg2)
          ∧ r.2.mem ((c.tc : Thread Cert.KernelDownFIdeal.nD Cert.KernelDownFIdeal.τ).loc Cert.KernelDownFIdeal.main_arg3) = m ((c.tc : Thread Cert.KernelDownFIdeal.nD Cert.KernelDownFIdeal.τ).loc Cert.KernelDownFIdeal.main_arg3))
      ∧ θ_run (Cert.ReferenceDownFIdeal.defs (F := Ideal)) (onTc (τ := Cert.ReferenceDownFIdeal.τ) (Cert.ReferenceDownFIdeal.main (F := Ideal))) ⟨m', fun _ => 0, g'⟩ (fun r => ∀ c : Dev Cert.ReferenceDownFIdeal.nD,
          r.2.mem ((c.tc : Thread Cert.ReferenceDownFIdeal.nD Cert.ReferenceDownFIdeal.τ).loc Cert.ReferenceDownFIdeal.main_v2) = v0 c
          ∧ r.2.mem ((c.tc : Thread Cert.ReferenceDownFIdeal.nD Cert.ReferenceDownFIdeal.τ).loc Cert.ReferenceDownFIdeal.main_v8) = v1 c
          ∧ r.2.mem ((c.tc : Thread Cert.ReferenceDownFIdeal.nD Cert.ReferenceDownFIdeal.τ).loc Cert.ReferenceDownFIdeal.main_arg0) = m' ((c.tc : Thread Cert.ReferenceDownFIdeal.nD Cert.ReferenceDownFIdeal.τ).loc Cert.ReferenceDownFIdeal.main_arg0)
          ∧ r.2.mem ((c.tc : Thread Cert.ReferenceDownFIdeal.nD Cert.ReferenceDownFIdeal.τ).loc Cert.ReferenceDownFIdeal.main_arg1) = m' ((c.tc : Thread Cert.ReferenceDownFIdeal.nD Cert.ReferenceDownFIdeal.τ).loc Cert.ReferenceDownFIdeal.main_arg1)
          ∧ r.2.mem ((c.tc : Thread Cert.ReferenceDownFIdeal.nD Cert.ReferenceDownFIdeal.τ).loc Cert.ReferenceDownFIdeal.main_arg2) = m' ((c.tc : Thread Cert.ReferenceDownFIdeal.nD Cert.ReferenceDownFIdeal.τ).loc Cert.ReferenceDownFIdeal.main_arg2)
          ∧ r.2.mem ((c.tc : Thread Cert.ReferenceDownFIdeal.nD Cert.ReferenceDownFIdeal.τ).loc Cert.ReferenceDownFIdeal.main_arg3) = m' ((c.tc : Thread Cert.ReferenceDownFIdeal.nD Cert.ReferenceDownFIdeal.τ).loc Cert.ReferenceDownFIdeal.main_arg3))

def preserves_KernelConvF_KernelConvFIdeal : Prop :=
  True

def algebraic_KernelConvFIdeal_ReferenceConvFIdeal [hKernelConvFIdeal : Cert.KernelConvFIdeal.Facts] [hReferenceConvFIdeal : Cert.ReferenceConvFIdeal.Facts] : Prop :=
  ∀ (m : (ℓ : Loc Cert.KernelConvFIdeal.nD Cert.KernelConvFIdeal.τ Cert.KernelConvFIdeal.sig) → Buf (Elt Ideal) ℓ) (g : Dev Cert.KernelConvFIdeal.nD → PrngReg)
    (m' : (ℓ : Loc Cert.ReferenceConvFIdeal.nD Cert.ReferenceConvFIdeal.τ Cert.ReferenceConvFIdeal.sig) → Buf (Elt Ideal) ℓ) (g' : Dev Cert.ReferenceConvFIdeal.nD → PrngReg), Pre_KernelConvFIdeal m →
    (∀ c : Dev Cert.KernelConvFIdeal.nD,
      m' ((c.tc : Thread Cert.ReferenceConvFIdeal.nD Cert.ReferenceConvFIdeal.τ).loc Cert.ReferenceConvFIdeal.main_arg0) = m ((c.tc : Thread Cert.KernelConvFIdeal.nD Cert.KernelConvFIdeal.τ).loc Cert.KernelConvFIdeal.main_arg0)
      ∧ m' ((c.tc : Thread Cert.ReferenceConvFIdeal.nD Cert.ReferenceConvFIdeal.τ).loc Cert.ReferenceConvFIdeal.main_arg1) = m ((c.tc : Thread Cert.KernelConvFIdeal.nD Cert.KernelConvFIdeal.τ).loc Cert.KernelConvFIdeal.main_arg1)) →
    ∃ (v0 : (c : Dev Cert.KernelConvFIdeal.nD) → Buf (Elt Ideal) ((c.tc : Thread Cert.KernelConvFIdeal.nD Cert.KernelConvFIdeal.τ).loc Cert.KernelConvFIdeal.main_v3)),
      θ_run (Cert.KernelConvFIdeal.defs (F := Ideal)) (onTc (τ := Cert.KernelConvFIdeal.τ) (Cert.KernelConvFIdeal.main (F := Ideal))) ⟨m, fun _ => 0, g⟩ (fun r => ∀ c : Dev Cert.KernelConvFIdeal.nD,
          r.2.mem ((c.tc : Thread Cert.KernelConvFIdeal.nD Cert.KernelConvFIdeal.τ).loc Cert.KernelConvFIdeal.main_v3) = v0 c
          ∧ r.2.mem ((c.tc : Thread Cert.KernelConvFIdeal.nD Cert.KernelConvFIdeal.τ).loc Cert.KernelConvFIdeal.main_arg0) = m ((c.tc : Thread Cert.KernelConvFIdeal.nD Cert.KernelConvFIdeal.τ).loc Cert.KernelConvFIdeal.main_arg0)
          ∧ r.2.mem ((c.tc : Thread Cert.KernelConvFIdeal.nD Cert.KernelConvFIdeal.τ).loc Cert.KernelConvFIdeal.main_arg1) = m ((c.tc : Thread Cert.KernelConvFIdeal.nD Cert.KernelConvFIdeal.τ).loc Cert.KernelConvFIdeal.main_arg1))
      ∧ θ_run (Cert.ReferenceConvFIdeal.defs (F := Ideal)) (onTc (τ := Cert.ReferenceConvFIdeal.τ) (Cert.ReferenceConvFIdeal.main (F := Ideal))) ⟨m', fun _ => 0, g'⟩ (fun r => ∀ c : Dev Cert.ReferenceConvFIdeal.nD,
          r.2.mem ((c.tc : Thread Cert.ReferenceConvFIdeal.nD Cert.ReferenceConvFIdeal.τ).loc Cert.ReferenceConvFIdeal.main_v31) = v0 c
          ∧ r.2.mem ((c.tc : Thread Cert.ReferenceConvFIdeal.nD Cert.ReferenceConvFIdeal.τ).loc Cert.ReferenceConvFIdeal.main_arg0) = m' ((c.tc : Thread Cert.ReferenceConvFIdeal.nD Cert.ReferenceConvFIdeal.τ).loc Cert.ReferenceConvFIdeal.main_arg0)
          ∧ r.2.mem ((c.tc : Thread Cert.ReferenceConvFIdeal.nD Cert.ReferenceConvFIdeal.τ).loc Cert.ReferenceConvFIdeal.main_arg1) = m' ((c.tc : Thread Cert.ReferenceConvFIdeal.nD Cert.ReferenceConvFIdeal.τ).loc Cert.ReferenceConvFIdeal.main_arg1))

def preserves_KernelMergeF_KernelMergeFIdeal : Prop :=
  True

def algebraic_KernelMergeFIdeal_ReferenceMergeFIdeal [hKernelMergeFIdeal : Cert.KernelMergeFIdeal.Facts] [hReferenceMergeFIdeal : Cert.ReferenceMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg)
    (m' : (ℓ : Loc Cert.ReferenceMergeFIdeal.nD Cert.ReferenceMergeFIdeal.τ Cert.ReferenceMergeFIdeal.sig) → Buf (Elt Ideal) ℓ) (g' : Dev Cert.ReferenceMergeFIdeal.nD → PrngReg), Pre_KernelMergeFIdeal m →
    (∀ c : Dev Cert.KernelMergeFIdeal.nD,
      m' ((c.tc : Thread Cert.ReferenceMergeFIdeal.nD Cert.ReferenceMergeFIdeal.τ).loc Cert.ReferenceMergeFIdeal.main_arg0) = m ((c.tc : Thread Cert.KernelMergeFIdeal.nD Cert.KernelMergeFIdeal.τ).loc Cert.KernelMergeFIdeal.main_arg0)
      ∧ m' ((c.tc : Thread Cert.ReferenceMergeFIdeal.nD Cert.ReferenceMergeFIdeal.τ).loc Cert.ReferenceMergeFIdeal.main_arg1) = m ((c.tc : Thread Cert.KernelMergeFIdeal.nD Cert.KernelMergeFIdeal.τ).loc Cert.KernelMergeFIdeal.main_arg1)
      ∧ m' ((c.tc : Thread Cert.ReferenceMergeFIdeal.nD Cert.ReferenceMergeFIdeal.τ).loc Cert.ReferenceMergeFIdeal.main_arg2) = m ((c.tc : Thread Cert.KernelMergeFIdeal.nD Cert.KernelMergeFIdeal.τ).loc Cert.KernelMergeFIdeal.main_arg2)
      ∧ m' ((c.tc : Thread Cert.ReferenceMergeFIdeal.nD Cert.ReferenceMergeFIdeal.τ).loc Cert.ReferenceMergeFIdeal.main_arg3) = m ((c.tc : Thread Cert.KernelMergeFIdeal.nD Cert.KernelMergeFIdeal.τ).loc Cert.KernelMergeFIdeal.main_arg3)
      ∧ m' ((c.tc : Thread Cert.ReferenceMergeFIdeal.nD Cert.ReferenceMergeFIdeal.τ).loc Cert.ReferenceMergeFIdeal.main_arg4) = m ((c.tc : Thread Cert.KernelMergeFIdeal.nD Cert.KernelMergeFIdeal.τ).loc Cert.KernelMergeFIdeal.main_arg4)
      ∧ m' ((c.tc : Thread Cert.ReferenceMergeFIdeal.nD Cert.ReferenceMergeFIdeal.τ).loc Cert.ReferenceMergeFIdeal.main_arg5) = m ((c.tc : Thread Cert.KernelMergeFIdeal.nD Cert.KernelMergeFIdeal.τ).loc Cert.KernelMergeFIdeal.main_arg5)) →
    ∃ (v0 : (c : Dev Cert.KernelMergeFIdeal.nD) → Buf (Elt Ideal) ((c.tc : Thread Cert.KernelMergeFIdeal.nD Cert.KernelMergeFIdeal.τ).loc Cert.KernelMergeFIdeal.main_v6_0)) (v1 : (c : Dev Cert.KernelMergeFIdeal.nD) → Buf (Elt Ideal) ((c.tc : Thread Cert.KernelMergeFIdeal.nD Cert.KernelMergeFIdeal.τ).loc Cert.KernelMergeFIdeal.main_v6_1)) (v2 : (c : Dev Cert.KernelMergeFIdeal.nD) → Buf (Elt Ideal) ((c.tc : Thread Cert.KernelMergeFIdeal.nD Cert.KernelMergeFIdeal.τ).loc Cert.KernelMergeFIdeal.main_v6_2)),
      θ_run (Cert.KernelMergeFIdeal.defs (F := Ideal)) (onTc (τ := Cert.KernelMergeFIdeal.τ) (Cert.KernelMergeFIdeal.main (F := Ideal))) ⟨m, fun _ => 0, g⟩ (fun r => ∀ c : Dev Cert.KernelMergeFIdeal.nD,
          r.2.mem ((c.tc : Thread Cert.KernelMergeFIdeal.nD Cert.KernelMergeFIdeal.τ).loc Cert.KernelMergeFIdeal.main_v6_0) = v0 c
          ∧ r.2.mem ((c.tc : Thread Cert.KernelMergeFIdeal.nD Cert.KernelMergeFIdeal.τ).loc Cert.KernelMergeFIdeal.main_v6_1) = v1 c
          ∧ r.2.mem ((c.tc : Thread Cert.KernelMergeFIdeal.nD Cert.KernelMergeFIdeal.τ).loc Cert.KernelMergeFIdeal.main_v6_2) = v2 c
          ∧ r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
          ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
          ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2)
          ∧ r.2.mem ((c.tc : Thread Cert.KernelMergeFIdeal.nD Cert.KernelMergeFIdeal.τ).loc Cert.KernelMergeFIdeal.main_arg3) = m ((c.tc : Thread Cert.KernelMergeFIdeal.nD Cert.KernelMergeFIdeal.τ).loc Cert.KernelMergeFIdeal.main_arg3)
          ∧ r.2.mem ((c.tc : Thread Cert.KernelMergeFIdeal.nD Cert.KernelMergeFIdeal.τ).loc Cert.KernelMergeFIdeal.main_arg4) = m ((c.tc : Thread Cert.KernelMergeFIdeal.nD Cert.KernelMergeFIdeal.τ).loc Cert.KernelMergeFIdeal.main_arg4)
          ∧ r.2.mem ((c.tc : Thread Cert.KernelMergeFIdeal.nD Cert.KernelMergeFIdeal.τ).loc Cert.KernelMergeFIdeal.main_arg5) = m ((c.tc : Thread Cert.KernelMergeFIdeal.nD Cert.KernelMergeFIdeal.τ).loc Cert.KernelMergeFIdeal.main_arg5))
      ∧ θ_run (Cert.ReferenceMergeFIdeal.defs (F := Ideal)) (onTc (τ := Cert.ReferenceMergeFIdeal.τ) (Cert.ReferenceMergeFIdeal.main (F := Ideal))) ⟨m', fun _ => 0, g'⟩ (fun r => ∀ c : Dev Cert.ReferenceMergeFIdeal.nD,
          r.2.mem ((c.tc : Thread Cert.ReferenceMergeFIdeal.nD Cert.ReferenceMergeFIdeal.τ).loc Cert.ReferenceMergeFIdeal.main_v19) = v0 c
          ∧ r.2.mem ((c.tc : Thread Cert.ReferenceMergeFIdeal.nD Cert.ReferenceMergeFIdeal.τ).loc Cert.ReferenceMergeFIdeal.main_v20) = v1 c
          ∧ r.2.mem ((c.tc : Thread Cert.ReferenceMergeFIdeal.nD Cert.ReferenceMergeFIdeal.τ).loc Cert.ReferenceMergeFIdeal.main_v24) = v2 c
          ∧ r.2.mem ((c.tc : Thread Cert.ReferenceMergeFIdeal.nD Cert.ReferenceMergeFIdeal.τ).loc Cert.ReferenceMergeFIdeal.main_arg0) = m' ((c.tc : Thread Cert.ReferenceMergeFIdeal.nD Cert.ReferenceMergeFIdeal.τ).loc Cert.ReferenceMergeFIdeal.main_arg0)
          ∧ r.2.mem ((c.tc : Thread Cert.ReferenceMergeFIdeal.nD Cert.ReferenceMergeFIdeal.τ).loc Cert.ReferenceMergeFIdeal.main_arg1) = m' ((c.tc : Thread Cert.ReferenceMergeFIdeal.nD Cert.ReferenceMergeFIdeal.τ).loc Cert.ReferenceMergeFIdeal.main_arg1)
          ∧ r.2.mem ((c.tc : Thread Cert.ReferenceMergeFIdeal.nD Cert.ReferenceMergeFIdeal.τ).loc Cert.ReferenceMergeFIdeal.main_arg2) = m' ((c.tc : Thread Cert.ReferenceMergeFIdeal.nD Cert.ReferenceMergeFIdeal.τ).loc Cert.ReferenceMergeFIdeal.main_arg2)
          ∧ r.2.mem ((c.tc : Thread Cert.ReferenceMergeFIdeal.nD Cert.ReferenceMergeFIdeal.τ).loc Cert.ReferenceMergeFIdeal.main_arg3) = m' ((c.tc : Thread Cert.ReferenceMergeFIdeal.nD Cert.ReferenceMergeFIdeal.τ).loc Cert.ReferenceMergeFIdeal.main_arg3)
          ∧ r.2.mem ((c.tc : Thread Cert.ReferenceMergeFIdeal.nD Cert.ReferenceMergeFIdeal.τ).loc Cert.ReferenceMergeFIdeal.main_arg4) = m' ((c.tc : Thread Cert.ReferenceMergeFIdeal.nD Cert.ReferenceMergeFIdeal.τ).loc Cert.ReferenceMergeFIdeal.main_arg4)
          ∧ r.2.mem ((c.tc : Thread Cert.ReferenceMergeFIdeal.nD Cert.ReferenceMergeFIdeal.τ).loc Cert.ReferenceMergeFIdeal.main_arg5) = m' ((c.tc : Thread Cert.ReferenceMergeFIdeal.nD Cert.ReferenceMergeFIdeal.τ).loc Cert.ReferenceMergeFIdeal.main_arg5))

def preserves_KernelPostF_KernelPostFIdeal : Prop :=
  True

def algebraic_KernelPostFIdeal_ReferencePostFIdeal [hKernelPostFIdeal : Cert.KernelPostFIdeal.Facts] [hReferencePostFIdeal : Cert.ReferencePostFIdeal.Facts] : Prop :=
  ∀ (m : (ℓ : Loc Cert.KernelPostFIdeal.nD Cert.KernelPostFIdeal.τ Cert.KernelPostFIdeal.sig) → Buf (Elt Ideal) ℓ) (g : Dev Cert.KernelPostFIdeal.nD → PrngReg)
    (m' : (ℓ : Loc Cert.ReferencePostFIdeal.nD Cert.ReferencePostFIdeal.τ Cert.ReferencePostFIdeal.sig) → Buf (Elt Ideal) ℓ) (g' : Dev Cert.ReferencePostFIdeal.nD → PrngReg), Pre_KernelPostFIdeal m →
    (∀ c : Dev Cert.KernelPostFIdeal.nD,
      m' ((c.tc : Thread Cert.ReferencePostFIdeal.nD Cert.ReferencePostFIdeal.τ).loc Cert.ReferencePostFIdeal.main_arg0) = m ((c.tc : Thread Cert.KernelPostFIdeal.nD Cert.KernelPostFIdeal.τ).loc Cert.KernelPostFIdeal.main_arg0)
      ∧ m' ((c.tc : Thread Cert.ReferencePostFIdeal.nD Cert.ReferencePostFIdeal.τ).loc Cert.ReferencePostFIdeal.main_arg1) = m ((c.tc : Thread Cert.KernelPostFIdeal.nD Cert.KernelPostFIdeal.τ).loc Cert.KernelPostFIdeal.main_arg1)
      ∧ m' ((c.tc : Thread Cert.ReferencePostFIdeal.nD Cert.ReferencePostFIdeal.τ).loc Cert.ReferencePostFIdeal.main_arg2) = m ((c.tc : Thread Cert.KernelPostFIdeal.nD Cert.KernelPostFIdeal.τ).loc Cert.KernelPostFIdeal.main_arg2)
      ∧ m' ((c.tc : Thread Cert.ReferencePostFIdeal.nD Cert.ReferencePostFIdeal.τ).loc Cert.ReferencePostFIdeal.main_arg3) = m ((c.tc : Thread Cert.KernelPostFIdeal.nD Cert.KernelPostFIdeal.τ).loc Cert.KernelPostFIdeal.main_arg3)
      ∧ m' ((c.tc : Thread Cert.ReferencePostFIdeal.nD Cert.ReferencePostFIdeal.τ).loc Cert.ReferencePostFIdeal.main_arg4) = m ((c.tc : Thread Cert.KernelPostFIdeal.nD Cert.KernelPostFIdeal.τ).loc Cert.KernelPostFIdeal.main_arg4)) →
    ∃ (v0 : (c : Dev Cert.KernelPostFIdeal.nD) → Buf (Elt Ideal) ((c.tc : Thread Cert.KernelPostFIdeal.nD Cert.KernelPostFIdeal.τ).loc Cert.KernelPostFIdeal.main_v4_0)) (v1 : (c : Dev Cert.KernelPostFIdeal.nD) → Buf (Elt Ideal) ((c.tc : Thread Cert.KernelPostFIdeal.nD Cert.KernelPostFIdeal.τ).loc Cert.KernelPostFIdeal.main_v4_1)) (v2 : (c : Dev Cert.KernelPostFIdeal.nD) → Buf (Elt Ideal) ((c.tc : Thread Cert.KernelPostFIdeal.nD Cert.KernelPostFIdeal.τ).loc Cert.KernelPostFIdeal.main_v4_2)) (v3 : (c : Dev Cert.KernelPostFIdeal.nD) → Buf (Elt Ideal) ((c.tc : Thread Cert.KernelPostFIdeal.nD Cert.KernelPostFIdeal.τ).loc Cert.KernelPostFIdeal.main_v4_3)) (v4 : (c : Dev Cert.KernelPostFIdeal.nD) → Buf (Elt Ideal) ((c.tc : Thread Cert.KernelPostFIdeal.nD Cert.KernelPostFIdeal.τ).loc Cert.KernelPostFIdeal.main_v4_4)),
      θ_run (Cert.KernelPostFIdeal.defs (F := Ideal)) (onTc (τ := Cert.KernelPostFIdeal.τ) (Cert.KernelPostFIdeal.main (F := Ideal))) ⟨m, fun _ => 0, g⟩ (fun r => ∀ c : Dev Cert.KernelPostFIdeal.nD,
          r.2.mem ((c.tc : Thread Cert.KernelPostFIdeal.nD Cert.KernelPostFIdeal.τ).loc Cert.KernelPostFIdeal.main_v4_0) = v0 c
          ∧ r.2.mem ((c.tc : Thread Cert.KernelPostFIdeal.nD Cert.KernelPostFIdeal.τ).loc Cert.KernelPostFIdeal.main_v4_1) = v1 c
          ∧ r.2.mem ((c.tc : Thread Cert.KernelPostFIdeal.nD Cert.KernelPostFIdeal.τ).loc Cert.KernelPostFIdeal.main_v4_2) = v2 c
          ∧ r.2.mem ((c.tc : Thread Cert.KernelPostFIdeal.nD Cert.KernelPostFIdeal.τ).loc Cert.KernelPostFIdeal.main_v4_3) = v3 c
          ∧ r.2.mem ((c.tc : Thread Cert.KernelPostFIdeal.nD Cert.KernelPostFIdeal.τ).loc Cert.KernelPostFIdeal.main_v4_4) = v4 c
          ∧ r.2.mem ((c.tc : Thread Cert.KernelPostFIdeal.nD Cert.KernelPostFIdeal.τ).loc Cert.KernelPostFIdeal.main_arg0) = m ((c.tc : Thread Cert.KernelPostFIdeal.nD Cert.KernelPostFIdeal.τ).loc Cert.KernelPostFIdeal.main_arg0)
          ∧ r.2.mem ((c.tc : Thread Cert.KernelPostFIdeal.nD Cert.KernelPostFIdeal.τ).loc Cert.KernelPostFIdeal.main_arg1) = m ((c.tc : Thread Cert.KernelPostFIdeal.nD Cert.KernelPostFIdeal.τ).loc Cert.KernelPostFIdeal.main_arg1)
          ∧ r.2.mem ((c.tc : Thread Cert.KernelPostFIdeal.nD Cert.KernelPostFIdeal.τ).loc Cert.KernelPostFIdeal.main_arg2) = m ((c.tc : Thread Cert.KernelPostFIdeal.nD Cert.KernelPostFIdeal.τ).loc Cert.KernelPostFIdeal.main_arg2)
          ∧ r.2.mem ((c.tc : Thread Cert.KernelPostFIdeal.nD Cert.KernelPostFIdeal.τ).loc Cert.KernelPostFIdeal.main_arg3) = m ((c.tc : Thread Cert.KernelPostFIdeal.nD Cert.KernelPostFIdeal.τ).loc Cert.KernelPostFIdeal.main_arg3)
          ∧ r.2.mem ((c.tc : Thread Cert.KernelPostFIdeal.nD Cert.KernelPostFIdeal.τ).loc Cert.KernelPostFIdeal.main_arg4) = m ((c.tc : Thread Cert.KernelPostFIdeal.nD Cert.KernelPostFIdeal.τ).loc Cert.KernelPostFIdeal.main_arg4))
      ∧ θ_run (Cert.ReferencePostFIdeal.defs (F := Ideal)) (onTc (τ := Cert.ReferencePostFIdeal.τ) (Cert.ReferencePostFIdeal.main (F := Ideal))) ⟨m', fun _ => 0, g'⟩ (fun r => ∀ c : Dev Cert.ReferencePostFIdeal.nD,
          r.2.mem ((c.tc : Thread Cert.ReferencePostFIdeal.nD Cert.ReferencePostFIdeal.τ).loc Cert.ReferencePostFIdeal.main_v3) = v0 c
          ∧ r.2.mem ((c.tc : Thread Cert.ReferencePostFIdeal.nD Cert.ReferencePostFIdeal.τ).loc Cert.ReferencePostFIdeal.main_v18) = v1 c
          ∧ r.2.mem ((c.tc : Thread Cert.ReferencePostFIdeal.nD Cert.ReferencePostFIdeal.τ).loc Cert.ReferencePostFIdeal.main_v28) = v2 c
          ∧ r.2.mem ((c.tc : Thread Cert.ReferencePostFIdeal.nD Cert.ReferencePostFIdeal.τ).loc Cert.ReferencePostFIdeal.main_v29) = v3 c
          ∧ r.2.mem ((c.tc : Thread Cert.ReferencePostFIdeal.nD Cert.ReferencePostFIdeal.τ).loc Cert.ReferencePostFIdeal.main_v30) = v4 c
          ∧ r.2.mem ((c.tc : Thread Cert.ReferencePostFIdeal.nD Cert.ReferencePostFIdeal.τ).loc Cert.ReferencePostFIdeal.main_arg0) = m' ((c.tc : Thread Cert.ReferencePostFIdeal.nD Cert.ReferencePostFIdeal.τ).loc Cert.ReferencePostFIdeal.main_arg0)
          ∧ r.2.mem ((c.tc : Thread Cert.ReferencePostFIdeal.nD Cert.ReferencePostFIdeal.τ).loc Cert.ReferencePostFIdeal.main_arg1) = m' ((c.tc : Thread Cert.ReferencePostFIdeal.nD Cert.ReferencePostFIdeal.τ).loc Cert.ReferencePostFIdeal.main_arg1)
          ∧ r.2.mem ((c.tc : Thread Cert.ReferencePostFIdeal.nD Cert.ReferencePostFIdeal.τ).loc Cert.ReferencePostFIdeal.main_arg2) = m' ((c.tc : Thread Cert.ReferencePostFIdeal.nD Cert.ReferencePostFIdeal.τ).loc Cert.ReferencePostFIdeal.main_arg2)
          ∧ r.2.mem ((c.tc : Thread Cert.ReferencePostFIdeal.nD Cert.ReferencePostFIdeal.τ).loc Cert.ReferencePostFIdeal.main_arg3) = m' ((c.tc : Thread Cert.ReferencePostFIdeal.nD Cert.ReferencePostFIdeal.τ).loc Cert.ReferencePostFIdeal.main_arg3)
          ∧ r.2.mem ((c.tc : Thread Cert.ReferencePostFIdeal.nD Cert.ReferencePostFIdeal.τ).loc Cert.ReferencePostFIdeal.main_arg4) = m' ((c.tc : Thread Cert.ReferencePostFIdeal.nD Cert.ReferencePostFIdeal.τ).loc Cert.ReferencePostFIdeal.main_arg4))

def preserves_KernelAdaF_KernelAdaFIdeal : Prop :=
  True

def algebraic_KernelAdaFIdeal_ReferenceAdaFIdeal [hKernelAdaFIdeal : Cert.KernelAdaFIdeal.Facts] [hReferenceAdaFIdeal : Cert.ReferenceAdaFIdeal.Facts] : Prop :=
  ∀ (m : (ℓ : Loc Cert.KernelAdaFIdeal.nD Cert.KernelAdaFIdeal.τ Cert.KernelAdaFIdeal.sig) → Buf (Elt Ideal) ℓ) (g : Dev Cert.KernelAdaFIdeal.nD → PrngReg)
    (m' : (ℓ : Loc Cert.ReferenceAdaFIdeal.nD Cert.ReferenceAdaFIdeal.τ Cert.ReferenceAdaFIdeal.sig) → Buf (Elt Ideal) ℓ) (g' : Dev Cert.ReferenceAdaFIdeal.nD → PrngReg), Pre_KernelAdaFIdeal m →
    (∀ c : Dev Cert.KernelAdaFIdeal.nD,
      m' ((c.tc : Thread Cert.ReferenceAdaFIdeal.nD Cert.ReferenceAdaFIdeal.τ).loc Cert.ReferenceAdaFIdeal.main_arg0) = m ((c.tc : Thread Cert.KernelAdaFIdeal.nD Cert.KernelAdaFIdeal.τ).loc Cert.KernelAdaFIdeal.main_arg0)
      ∧ m' ((c.tc : Thread Cert.ReferenceAdaFIdeal.nD Cert.ReferenceAdaFIdeal.τ).loc Cert.ReferenceAdaFIdeal.main_arg1) = m ((c.tc : Thread Cert.KernelAdaFIdeal.nD Cert.KernelAdaFIdeal.τ).loc Cert.KernelAdaFIdeal.main_arg1)
      ∧ m' ((c.tc : Thread Cert.ReferenceAdaFIdeal.nD Cert.ReferenceAdaFIdeal.τ).loc Cert.ReferenceAdaFIdeal.main_arg2) = m ((c.tc : Thread Cert.KernelAdaFIdeal.nD Cert.KernelAdaFIdeal.τ).loc Cert.KernelAdaFIdeal.main_arg2)) →
    ∃ (v0 : (c : Dev Cert.KernelAdaFIdeal.nD) → Buf (Elt Ideal) ((c.tc : Thread Cert.KernelAdaFIdeal.nD Cert.KernelAdaFIdeal.τ).loc Cert.KernelAdaFIdeal.main_v0)),
      θ_run (Cert.KernelAdaFIdeal.defs (F := Ideal)) (onTc (τ := Cert.KernelAdaFIdeal.τ) (Cert.KernelAdaFIdeal.main (F := Ideal))) ⟨m, fun _ => 0, g⟩ (fun r => ∀ c : Dev Cert.KernelAdaFIdeal.nD,
          r.2.mem ((c.tc : Thread Cert.KernelAdaFIdeal.nD Cert.KernelAdaFIdeal.τ).loc Cert.KernelAdaFIdeal.main_v0) = v0 c
          ∧ r.2.mem ((c.tc : Thread Cert.KernelAdaFIdeal.nD Cert.KernelAdaFIdeal.τ).loc Cert.KernelAdaFIdeal.main_arg0) = m ((c.tc : Thread Cert.KernelAdaFIdeal.nD Cert.KernelAdaFIdeal.τ).loc Cert.KernelAdaFIdeal.main_arg0)
          ∧ r.2.mem ((c.tc : Thread Cert.KernelAdaFIdeal.nD Cert.KernelAdaFIdeal.τ).loc Cert.KernelAdaFIdeal.main_arg1) = m ((c.tc : Thread Cert.KernelAdaFIdeal.nD Cert.KernelAdaFIdeal.τ).loc Cert.KernelAdaFIdeal.main_arg1)
          ∧ r.2.mem ((c.tc : Thread Cert.KernelAdaFIdeal.nD Cert.KernelAdaFIdeal.τ).loc Cert.KernelAdaFIdeal.main_arg2) = m ((c.tc : Thread Cert.KernelAdaFIdeal.nD Cert.KernelAdaFIdeal.τ).loc Cert.KernelAdaFIdeal.main_arg2))
      ∧ θ_run (Cert.ReferenceAdaFIdeal.defs (F := Ideal)) (onTc (τ := Cert.ReferenceAdaFIdeal.τ) (Cert.ReferenceAdaFIdeal.main (F := Ideal))) ⟨m', fun _ => 0, g'⟩ (fun r => ∀ c : Dev Cert.ReferenceAdaFIdeal.nD,
          r.2.mem ((c.tc : Thread Cert.ReferenceAdaFIdeal.nD Cert.ReferenceAdaFIdeal.τ).loc Cert.ReferenceAdaFIdeal.main_v4) = v0 c
          ∧ r.2.mem ((c.tc : Thread Cert.ReferenceAdaFIdeal.nD Cert.ReferenceAdaFIdeal.τ).loc Cert.ReferenceAdaFIdeal.main_arg0) = m' ((c.tc : Thread Cert.ReferenceAdaFIdeal.nD Cert.ReferenceAdaFIdeal.τ).loc Cert.ReferenceAdaFIdeal.main_arg0)
          ∧ r.2.mem ((c.tc : Thread Cert.ReferenceAdaFIdeal.nD Cert.ReferenceAdaFIdeal.τ).loc Cert.ReferenceAdaFIdeal.main_arg1) = m' ((c.tc : Thread Cert.ReferenceAdaFIdeal.nD Cert.ReferenceAdaFIdeal.τ).loc Cert.ReferenceAdaFIdeal.main_arg1)
          ∧ r.2.mem ((c.tc : Thread Cert.ReferenceAdaFIdeal.nD Cert.ReferenceAdaFIdeal.τ).loc Cert.ReferenceAdaFIdeal.main_arg2) = m' ((c.tc : Thread Cert.ReferenceAdaFIdeal.nD Cert.ReferenceAdaFIdeal.τ).loc Cert.ReferenceAdaFIdeal.main_arg2))

def preserves_KernelDiscF_KernelDiscFIdeal : Prop :=
  True

def algebraic_KernelDiscFIdeal_ReferenceDiscFIdeal [hKernelDiscFIdeal : Cert.KernelDiscFIdeal.Facts] [hReferenceDiscFIdeal : Cert.ReferenceDiscFIdeal.Facts] : Prop :=
  ∀ (m : (ℓ : Loc Cert.KernelDiscFIdeal.nD Cert.KernelDiscFIdeal.τ Cert.KernelDiscFIdeal.sig) → Buf (Elt Ideal) ℓ) (g : Dev Cert.KernelDiscFIdeal.nD → PrngReg)
    (m' : (ℓ : Loc Cert.ReferenceDiscFIdeal.nD Cert.ReferenceDiscFIdeal.τ Cert.ReferenceDiscFIdeal.sig) → Buf (Elt Ideal) ℓ) (g' : Dev Cert.ReferenceDiscFIdeal.nD → PrngReg), Pre_KernelDiscFIdeal m →
    (∀ c : Dev Cert.KernelDiscFIdeal.nD,
      m' ((c.tc : Thread Cert.ReferenceDiscFIdeal.nD Cert.ReferenceDiscFIdeal.τ).loc Cert.ReferenceDiscFIdeal.main_arg0) = m ((c.tc : Thread Cert.KernelDiscFIdeal.nD Cert.KernelDiscFIdeal.τ).loc Cert.KernelDiscFIdeal.main_arg0)
      ∧ m' ((c.tc : Thread Cert.ReferenceDiscFIdeal.nD Cert.ReferenceDiscFIdeal.τ).loc Cert.ReferenceDiscFIdeal.main_arg1) = m ((c.tc : Thread Cert.KernelDiscFIdeal.nD Cert.KernelDiscFIdeal.τ).loc Cert.KernelDiscFIdeal.main_arg1)
      ∧ m' ((c.tc : Thread Cert.ReferenceDiscFIdeal.nD Cert.ReferenceDiscFIdeal.τ).loc Cert.ReferenceDiscFIdeal.main_arg2) = m ((c.tc : Thread Cert.KernelDiscFIdeal.nD Cert.KernelDiscFIdeal.τ).loc Cert.KernelDiscFIdeal.main_arg2)
      ∧ m' ((c.tc : Thread Cert.ReferenceDiscFIdeal.nD Cert.ReferenceDiscFIdeal.τ).loc Cert.ReferenceDiscFIdeal.main_arg3) = m ((c.tc : Thread Cert.KernelDiscFIdeal.nD Cert.KernelDiscFIdeal.τ).loc Cert.KernelDiscFIdeal.main_arg3)
      ∧ m' ((c.tc : Thread Cert.ReferenceDiscFIdeal.nD Cert.ReferenceDiscFIdeal.τ).loc Cert.ReferenceDiscFIdeal.main_arg4) = m ((c.tc : Thread Cert.KernelDiscFIdeal.nD Cert.KernelDiscFIdeal.τ).loc Cert.KernelDiscFIdeal.main_arg4)) →
    ∃ (v0 : (c : Dev Cert.KernelDiscFIdeal.nD) → Buf (Elt Ideal) ((c.tc : Thread Cert.KernelDiscFIdeal.nD Cert.KernelDiscFIdeal.τ).loc Cert.KernelDiscFIdeal.main_v11_0)) (v1 : (c : Dev Cert.KernelDiscFIdeal.nD) → Buf (Elt Ideal) ((c.tc : Thread Cert.KernelDiscFIdeal.nD Cert.KernelDiscFIdeal.τ).loc Cert.KernelDiscFIdeal.main_v11_1)) (v2 : (c : Dev Cert.KernelDiscFIdeal.nD) → Buf (Elt Ideal) ((c.tc : Thread Cert.KernelDiscFIdeal.nD Cert.KernelDiscFIdeal.τ).loc Cert.KernelDiscFIdeal.main_v11_2)) (v3 : (c : Dev Cert.KernelDiscFIdeal.nD) → Buf (Elt Ideal) ((c.tc : Thread Cert.KernelDiscFIdeal.nD Cert.KernelDiscFIdeal.τ).loc Cert.KernelDiscFIdeal.main_v11_3)),
      θ_run (Cert.KernelDiscFIdeal.defs (F := Ideal)) (onTc (τ := Cert.KernelDiscFIdeal.τ) (Cert.KernelDiscFIdeal.main (F := Ideal))) ⟨m, fun _ => 0, g⟩ (fun r => ∀ c : Dev Cert.KernelDiscFIdeal.nD,
          r.2.mem ((c.tc : Thread Cert.KernelDiscFIdeal.nD Cert.KernelDiscFIdeal.τ).loc Cert.KernelDiscFIdeal.main_v11_0) = v0 c
          ∧ r.2.mem ((c.tc : Thread Cert.KernelDiscFIdeal.nD Cert.KernelDiscFIdeal.τ).loc Cert.KernelDiscFIdeal.main_v11_1) = v1 c
          ∧ r.2.mem ((c.tc : Thread Cert.KernelDiscFIdeal.nD Cert.KernelDiscFIdeal.τ).loc Cert.KernelDiscFIdeal.main_v11_2) = v2 c
          ∧ r.2.mem ((c.tc : Thread Cert.KernelDiscFIdeal.nD Cert.KernelDiscFIdeal.τ).loc Cert.KernelDiscFIdeal.main_v11_3) = v3 c
          ∧ r.2.mem ((c.tc : Thread Cert.KernelDiscFIdeal.nD Cert.KernelDiscFIdeal.τ).loc Cert.KernelDiscFIdeal.main_arg0) = m ((c.tc : Thread Cert.KernelDiscFIdeal.nD Cert.KernelDiscFIdeal.τ).loc Cert.KernelDiscFIdeal.main_arg0)
          ∧ r.2.mem ((c.tc : Thread Cert.KernelDiscFIdeal.nD Cert.KernelDiscFIdeal.τ).loc Cert.KernelDiscFIdeal.main_arg1) = m ((c.tc : Thread Cert.KernelDiscFIdeal.nD Cert.KernelDiscFIdeal.τ).loc Cert.KernelDiscFIdeal.main_arg1)
          ∧ r.2.mem ((c.tc : Thread Cert.KernelDiscFIdeal.nD Cert.KernelDiscFIdeal.τ).loc Cert.KernelDiscFIdeal.main_arg2) = m ((c.tc : Thread Cert.KernelDiscFIdeal.nD Cert.KernelDiscFIdeal.τ).loc Cert.KernelDiscFIdeal.main_arg2)
          ∧ r.2.mem ((c.tc : Thread Cert.KernelDiscFIdeal.nD Cert.KernelDiscFIdeal.τ).loc Cert.KernelDiscFIdeal.main_arg3) = m ((c.tc : Thread Cert.KernelDiscFIdeal.nD Cert.KernelDiscFIdeal.τ).loc Cert.KernelDiscFIdeal.main_arg3)
          ∧ r.2.mem ((c.tc : Thread Cert.KernelDiscFIdeal.nD Cert.KernelDiscFIdeal.τ).loc Cert.KernelDiscFIdeal.main_arg4) = m ((c.tc : Thread Cert.KernelDiscFIdeal.nD Cert.KernelDiscFIdeal.τ).loc Cert.KernelDiscFIdeal.main_arg4))
      ∧ θ_run (Cert.ReferenceDiscFIdeal.defs (F := Ideal)) (onTc (τ := Cert.ReferenceDiscFIdeal.τ) (Cert.ReferenceDiscFIdeal.main (F := Ideal))) ⟨m', fun _ => 0, g'⟩ (fun r => ∀ c : Dev Cert.ReferenceDiscFIdeal.nD,
          r.2.mem ((c.tc : Thread Cert.ReferenceDiscFIdeal.nD Cert.ReferenceDiscFIdeal.τ).loc Cert.ReferenceDiscFIdeal.main_v32) = v0 c
          ∧ r.2.mem ((c.tc : Thread Cert.ReferenceDiscFIdeal.nD Cert.ReferenceDiscFIdeal.τ).loc Cert.ReferenceDiscFIdeal.main_v33) = v1 c
          ∧ r.2.mem ((c.tc : Thread Cert.ReferenceDiscFIdeal.nD Cert.ReferenceDiscFIdeal.τ).loc Cert.ReferenceDiscFIdeal.main_v40) = v2 c
          ∧ r.2.mem ((c.tc : Thread Cert.ReferenceDiscFIdeal.nD Cert.ReferenceDiscFIdeal.τ).loc Cert.ReferenceDiscFIdeal.main_v47) = v3 c
          ∧ r.2.mem ((c.tc : Thread Cert.ReferenceDiscFIdeal.nD Cert.ReferenceDiscFIdeal.τ).loc Cert.ReferenceDiscFIdeal.main_arg0) = m' ((c.tc : Thread Cert.ReferenceDiscFIdeal.nD Cert.ReferenceDiscFIdeal.τ).loc Cert.ReferenceDiscFIdeal.main_arg0)
          ∧ r.2.mem ((c.tc : Thread Cert.ReferenceDiscFIdeal.nD Cert.ReferenceDiscFIdeal.τ).loc Cert.ReferenceDiscFIdeal.main_arg1) = m' ((c.tc : Thread Cert.ReferenceDiscFIdeal.nD Cert.ReferenceDiscFIdeal.τ).loc Cert.ReferenceDiscFIdeal.main_arg1)
          ∧ r.2.mem ((c.tc : Thread Cert.ReferenceDiscFIdeal.nD Cert.ReferenceDiscFIdeal.τ).loc Cert.ReferenceDiscFIdeal.main_arg2) = m' ((c.tc : Thread Cert.ReferenceDiscFIdeal.nD Cert.ReferenceDiscFIdeal.τ).loc Cert.ReferenceDiscFIdeal.main_arg2)
          ∧ r.2.mem ((c.tc : Thread Cert.ReferenceDiscFIdeal.nD Cert.ReferenceDiscFIdeal.τ).loc Cert.ReferenceDiscFIdeal.main_arg3) = m' ((c.tc : Thread Cert.ReferenceDiscFIdeal.nD Cert.ReferenceDiscFIdeal.τ).loc Cert.ReferenceDiscFIdeal.main_arg3)
          ∧ r.2.mem ((c.tc : Thread Cert.ReferenceDiscFIdeal.nD Cert.ReferenceDiscFIdeal.τ).loc Cert.ReferenceDiscFIdeal.main_arg4) = m' ((c.tc : Thread Cert.ReferenceDiscFIdeal.nD Cert.ReferenceDiscFIdeal.τ).loc Cert.ReferenceDiscFIdeal.main_arg4))

def preserves_KernelMm_KernelMmIdeal : Prop :=
  True

def algebraic_KernelMmIdeal_ReferenceMmIdeal [hKernelMmIdeal : Cert.KernelMmIdeal.Facts] [hReferenceMmIdeal : Cert.ReferenceMmIdeal.Facts] : Prop :=
  ∀ (m : (ℓ : Loc Cert.KernelMmIdeal.nD Cert.KernelMmIdeal.τ Cert.KernelMmIdeal.sig) → Buf (Elt Ideal) ℓ) (g : Dev Cert.KernelMmIdeal.nD → PrngReg)
    (m' : (ℓ : Loc Cert.ReferenceMmIdeal.nD Cert.ReferenceMmIdeal.τ Cert.ReferenceMmIdeal.sig) → Buf (Elt Ideal) ℓ) (g' : Dev Cert.ReferenceMmIdeal.nD → PrngReg), Pre_KernelMmIdeal m →
    (∀ c : Dev Cert.KernelMmIdeal.nD,
      m' ((c.tc : Thread Cert.ReferenceMmIdeal.nD Cert.ReferenceMmIdeal.τ).loc Cert.ReferenceMmIdeal.main_arg0) = m ((c.tc : Thread Cert.KernelMmIdeal.nD Cert.KernelMmIdeal.τ).loc Cert.KernelMmIdeal.main_arg0)
      ∧ m' ((c.tc : Thread Cert.ReferenceMmIdeal.nD Cert.ReferenceMmIdeal.τ).loc Cert.ReferenceMmIdeal.main_arg1) = m ((c.tc : Thread Cert.KernelMmIdeal.nD Cert.KernelMmIdeal.τ).loc Cert.KernelMmIdeal.main_arg1)) →
    ∃ (v0 : (c : Dev Cert.KernelMmIdeal.nD) → Buf (Elt Ideal) ((c.tc : Thread Cert.KernelMmIdeal.nD Cert.KernelMmIdeal.τ).loc Cert.KernelMmIdeal.main_v4)),
      θ_run (Cert.KernelMmIdeal.defs (F := Ideal)) (onTc (τ := Cert.KernelMmIdeal.τ) (Cert.KernelMmIdeal.main (F := Ideal))) ⟨m, fun _ => 0, g⟩ (fun r => ∀ c : Dev Cert.KernelMmIdeal.nD,
          r.2.mem ((c.tc : Thread Cert.KernelMmIdeal.nD Cert.KernelMmIdeal.τ).loc Cert.KernelMmIdeal.main_v4) = v0 c
          ∧ r.2.mem ((c.tc : Thread Cert.KernelMmIdeal.nD Cert.KernelMmIdeal.τ).loc Cert.KernelMmIdeal.main_arg0) = m ((c.tc : Thread Cert.KernelMmIdeal.nD Cert.KernelMmIdeal.τ).loc Cert.KernelMmIdeal.main_arg0)
          ∧ r.2.mem ((c.tc : Thread Cert.KernelMmIdeal.nD Cert.KernelMmIdeal.τ).loc Cert.KernelMmIdeal.main_arg1) = m ((c.tc : Thread Cert.KernelMmIdeal.nD Cert.KernelMmIdeal.τ).loc Cert.KernelMmIdeal.main_arg1))
      ∧ θ_run (Cert.ReferenceMmIdeal.defs (F := Ideal)) (onTc (τ := Cert.ReferenceMmIdeal.τ) (Cert.ReferenceMmIdeal.main (F := Ideal))) ⟨m', fun _ => 0, g'⟩ (fun r => ∀ c : Dev Cert.ReferenceMmIdeal.nD,
          r.2.mem ((c.tc : Thread Cert.ReferenceMmIdeal.nD Cert.ReferenceMmIdeal.τ).loc Cert.ReferenceMmIdeal.main_v4) = v0 c
          ∧ r.2.mem ((c.tc : Thread Cert.ReferenceMmIdeal.nD Cert.ReferenceMmIdeal.τ).loc Cert.ReferenceMmIdeal.main_arg0) = m' ((c.tc : Thread Cert.ReferenceMmIdeal.nD Cert.ReferenceMmIdeal.τ).loc Cert.ReferenceMmIdeal.main_arg0)
          ∧ r.2.mem ((c.tc : Thread Cert.ReferenceMmIdeal.nD Cert.ReferenceMmIdeal.τ).loc Cert.ReferenceMmIdeal.main_arg1) = m' ((c.tc : Thread Cert.ReferenceMmIdeal.nD Cert.ReferenceMmIdeal.τ).loc Cert.ReferenceMmIdeal.main_arg1))

def preserves_KernelOptR_KernelOptRIdeal : Prop :=
  True

def algebraic_KernelOptRIdeal_ReferenceOptRIdeal [hKernelOptRIdeal : Cert.KernelOptRIdeal.Facts] [hReferenceOptRIdeal : Cert.ReferenceOptRIdeal.Facts] : Prop :=
  ∀ (m : (ℓ : Loc Cert.KernelOptRIdeal.nD Cert.KernelOptRIdeal.τ Cert.KernelOptRIdeal.sig) → Buf (Elt Ideal) ℓ) (g : Dev Cert.KernelOptRIdeal.nD → PrngReg)
    (m' : (ℓ : Loc Cert.ReferenceOptRIdeal.nD Cert.ReferenceOptRIdeal.τ Cert.ReferenceOptRIdeal.sig) → Buf (Elt Ideal) ℓ) (g' : Dev Cert.ReferenceOptRIdeal.nD → PrngReg), Pre_KernelOptRIdeal m →
    (∀ c : Dev Cert.KernelOptRIdeal.nD,
      m' ((c.tc : Thread Cert.ReferenceOptRIdeal.nD Cert.ReferenceOptRIdeal.τ).loc Cert.ReferenceOptRIdeal.main_arg0) = m ((c.tc : Thread Cert.KernelOptRIdeal.nD Cert.KernelOptRIdeal.τ).loc Cert.KernelOptRIdeal.main_arg0)
      ∧ m' ((c.tc : Thread Cert.ReferenceOptRIdeal.nD Cert.ReferenceOptRIdeal.τ).loc Cert.ReferenceOptRIdeal.main_arg1) = m ((c.tc : Thread Cert.KernelOptRIdeal.nD Cert.KernelOptRIdeal.τ).loc Cert.KernelOptRIdeal.main_arg1)
      ∧ m' ((c.tc : Thread Cert.ReferenceOptRIdeal.nD Cert.ReferenceOptRIdeal.τ).loc Cert.ReferenceOptRIdeal.main_arg2) = m ((c.tc : Thread Cert.KernelOptRIdeal.nD Cert.KernelOptRIdeal.τ).loc Cert.KernelOptRIdeal.main_arg2)
      ∧ m' ((c.tc : Thread Cert.ReferenceOptRIdeal.nD Cert.ReferenceOptRIdeal.τ).loc Cert.ReferenceOptRIdeal.main_arg3) = m ((c.tc : Thread Cert.KernelOptRIdeal.nD Cert.KernelOptRIdeal.τ).loc Cert.KernelOptRIdeal.main_arg3)) →
    ∃ (v0 : (c : Dev Cert.KernelOptRIdeal.nD) → Buf (Elt Ideal) ((c.tc : Thread Cert.KernelOptRIdeal.nD Cert.KernelOptRIdeal.τ).loc Cert.KernelOptRIdeal.main_v0_0)) (v1 : (c : Dev Cert.KernelOptRIdeal.nD) → Buf (Elt Ideal) ((c.tc : Thread Cert.KernelOptRIdeal.nD Cert.KernelOptRIdeal.τ).loc Cert.KernelOptRIdeal.main_v0_1)) (v2 : (c : Dev Cert.KernelOptRIdeal.nD) → Buf (Elt Ideal) ((c.tc : Thread Cert.KernelOptRIdeal.nD Cert.KernelOptRIdeal.τ).loc Cert.KernelOptRIdeal.main_v0_2)),
      θ_run (Cert.KernelOptRIdeal.defs (F := Ideal)) (onTc (τ := Cert.KernelOptRIdeal.τ) (Cert.KernelOptRIdeal.main (F := Ideal))) ⟨m, fun _ => 0, g⟩ (fun r => ∀ c : Dev Cert.KernelOptRIdeal.nD,
          r.2.mem ((c.tc : Thread Cert.KernelOptRIdeal.nD Cert.KernelOptRIdeal.τ).loc Cert.KernelOptRIdeal.main_v0_0) = v0 c
          ∧ r.2.mem ((c.tc : Thread Cert.KernelOptRIdeal.nD Cert.KernelOptRIdeal.τ).loc Cert.KernelOptRIdeal.main_v0_1) = v1 c
          ∧ r.2.mem ((c.tc : Thread Cert.KernelOptRIdeal.nD Cert.KernelOptRIdeal.τ).loc Cert.KernelOptRIdeal.main_v0_2) = v2 c
          ∧ r.2.mem ((c.tc : Thread Cert.KernelOptRIdeal.nD Cert.KernelOptRIdeal.τ).loc Cert.KernelOptRIdeal.main_arg0) = m ((c.tc : Thread Cert.KernelOptRIdeal.nD Cert.KernelOptRIdeal.τ).loc Cert.KernelOptRIdeal.main_arg0)
          ∧ r.2.mem ((c.tc : Thread Cert.KernelOptRIdeal.nD Cert.KernelOptRIdeal.τ).loc Cert.KernelOptRIdeal.main_arg1) = m ((c.tc : Thread Cert.KernelOptRIdeal.nD Cert.KernelOptRIdeal.τ).loc Cert.KernelOptRIdeal.main_arg1)
          ∧ r.2.mem ((c.tc : Thread Cert.KernelOptRIdeal.nD Cert.KernelOptRIdeal.τ).loc Cert.KernelOptRIdeal.main_arg2) = m ((c.tc : Thread Cert.KernelOptRIdeal.nD Cert.KernelOptRIdeal.τ).loc Cert.KernelOptRIdeal.main_arg2)
          ∧ r.2.mem ((c.tc : Thread Cert.KernelOptRIdeal.nD Cert.KernelOptRIdeal.τ).loc Cert.KernelOptRIdeal.main_arg3) = m ((c.tc : Thread Cert.KernelOptRIdeal.nD Cert.KernelOptRIdeal.τ).loc Cert.KernelOptRIdeal.main_arg3))
      ∧ θ_run (Cert.ReferenceOptRIdeal.defs (F := Ideal)) (onTc (τ := Cert.ReferenceOptRIdeal.τ) (Cert.ReferenceOptRIdeal.main (F := Ideal))) ⟨m', fun _ => 0, g'⟩ (fun r => ∀ c : Dev Cert.ReferenceOptRIdeal.nD,
          r.2.mem ((c.tc : Thread Cert.ReferenceOptRIdeal.nD Cert.ReferenceOptRIdeal.τ).loc Cert.ReferenceOptRIdeal.main_v24) = v0 c
          ∧ r.2.mem ((c.tc : Thread Cert.ReferenceOptRIdeal.nD Cert.ReferenceOptRIdeal.τ).loc Cert.ReferenceOptRIdeal.main_v5) = v1 c
          ∧ r.2.mem ((c.tc : Thread Cert.ReferenceOptRIdeal.nD Cert.ReferenceOptRIdeal.τ).loc Cert.ReferenceOptRIdeal.main_v11) = v2 c
          ∧ r.2.mem ((c.tc : Thread Cert.ReferenceOptRIdeal.nD Cert.ReferenceOptRIdeal.τ).loc Cert.ReferenceOptRIdeal.main_arg0) = m' ((c.tc : Thread Cert.ReferenceOptRIdeal.nD Cert.ReferenceOptRIdeal.τ).loc Cert.ReferenceOptRIdeal.main_arg0)
          ∧ r.2.mem ((c.tc : Thread Cert.ReferenceOptRIdeal.nD Cert.ReferenceOptRIdeal.τ).loc Cert.ReferenceOptRIdeal.main_arg1) = m' ((c.tc : Thread Cert.ReferenceOptRIdeal.nD Cert.ReferenceOptRIdeal.τ).loc Cert.ReferenceOptRIdeal.main_arg1)
          ∧ r.2.mem ((c.tc : Thread Cert.ReferenceOptRIdeal.nD Cert.ReferenceOptRIdeal.τ).loc Cert.ReferenceOptRIdeal.main_arg2) = m' ((c.tc : Thread Cert.ReferenceOptRIdeal.nD Cert.ReferenceOptRIdeal.τ).loc Cert.ReferenceOptRIdeal.main_arg2)
          ∧ r.2.mem ((c.tc : Thread Cert.ReferenceOptRIdeal.nD Cert.ReferenceOptRIdeal.τ).loc Cert.ReferenceOptRIdeal.main_arg3) = m' ((c.tc : Thread Cert.ReferenceOptRIdeal.nD Cert.ReferenceOptRIdeal.τ).loc Cert.ReferenceOptRIdeal.main_arg3))

def preserves_KernelOptB_KernelOptBIdeal : Prop :=
  True

def algebraic_KernelOptBIdeal_ReferenceOptBIdeal [hKernelOptBIdeal : Cert.KernelOptBIdeal.Facts] [hReferenceOptBIdeal : Cert.ReferenceOptBIdeal.Facts] : Prop :=
  ∀ (m : (ℓ : Loc Cert.KernelOptBIdeal.nD Cert.KernelOptBIdeal.τ Cert.KernelOptBIdeal.sig) → Buf (Elt Ideal) ℓ) (g : Dev Cert.KernelOptBIdeal.nD → PrngReg)
    (m' : (ℓ : Loc Cert.ReferenceOptBIdeal.nD Cert.ReferenceOptBIdeal.τ Cert.ReferenceOptBIdeal.sig) → Buf (Elt Ideal) ℓ) (g' : Dev Cert.ReferenceOptBIdeal.nD → PrngReg), Pre_KernelOptBIdeal m →
    (∀ c : Dev Cert.KernelOptBIdeal.nD,
      m' ((c.tc : Thread Cert.ReferenceOptBIdeal.nD Cert.ReferenceOptBIdeal.τ).loc Cert.ReferenceOptBIdeal.main_arg0) = m ((c.tc : Thread Cert.KernelOptBIdeal.nD Cert.KernelOptBIdeal.τ).loc Cert.KernelOptBIdeal.main_arg0)
      ∧ m' ((c.tc : Thread Cert.ReferenceOptBIdeal.nD Cert.ReferenceOptBIdeal.τ).loc Cert.ReferenceOptBIdeal.main_arg1) = m ((c.tc : Thread Cert.KernelOptBIdeal.nD Cert.KernelOptBIdeal.τ).loc Cert.KernelOptBIdeal.main_arg1)
      ∧ m' ((c.tc : Thread Cert.ReferenceOptBIdeal.nD Cert.ReferenceOptBIdeal.τ).loc Cert.ReferenceOptBIdeal.main_arg2) = m ((c.tc : Thread Cert.KernelOptBIdeal.nD Cert.KernelOptBIdeal.τ).loc Cert.KernelOptBIdeal.main_arg2)
      ∧ m' ((c.tc : Thread Cert.ReferenceOptBIdeal.nD Cert.ReferenceOptBIdeal.τ).loc Cert.ReferenceOptBIdeal.main_arg3) = m ((c.tc : Thread Cert.KernelOptBIdeal.nD Cert.KernelOptBIdeal.τ).loc Cert.KernelOptBIdeal.main_arg3)
      ∧ m' ((c.tc : Thread Cert.ReferenceOptBIdeal.nD Cert.ReferenceOptBIdeal.τ).loc Cert.ReferenceOptBIdeal.main_arg4) = m ((c.tc : Thread Cert.KernelOptBIdeal.nD Cert.KernelOptBIdeal.τ).loc Cert.KernelOptBIdeal.main_arg4)) →
    ∃ (v0 : (c : Dev Cert.KernelOptBIdeal.nD) → Buf (Elt Ideal) ((c.tc : Thread Cert.KernelOptBIdeal.nD Cert.KernelOptBIdeal.τ).loc Cert.KernelOptBIdeal.main_v0_0)) (v1 : (c : Dev Cert.KernelOptBIdeal.nD) → Buf (Elt Ideal) ((c.tc : Thread Cert.KernelOptBIdeal.nD Cert.KernelOptBIdeal.τ).loc Cert.KernelOptBIdeal.main_v0_1)) (v2 : (c : Dev Cert.KernelOptBIdeal.nD) → Buf (Elt Ideal) ((c.tc : Thread Cert.KernelOptBIdeal.nD Cert.KernelOptBIdeal.τ).loc Cert.KernelOptBIdeal.main_v0_2)) (v3 : (c : Dev Cert.KernelOptBIdeal.nD) → Buf (Elt Ideal) ((c.tc : Thread Cert.KernelOptBIdeal.nD Cert.KernelOptBIdeal.τ).loc Cert.KernelOptBIdeal.main_v0_3)),
      θ_run (Cert.KernelOptBIdeal.defs (F := Ideal)) (onTc (τ := Cert.KernelOptBIdeal.τ) (Cert.KernelOptBIdeal.main (F := Ideal))) ⟨m, fun _ => 0, g⟩ (fun r => ∀ c : Dev Cert.KernelOptBIdeal.nD,
          r.2.mem ((c.tc : Thread Cert.KernelOptBIdeal.nD Cert.KernelOptBIdeal.τ).loc Cert.KernelOptBIdeal.main_v0_0) = v0 c
          ∧ r.2.mem ((c.tc : Thread Cert.KernelOptBIdeal.nD Cert.KernelOptBIdeal.τ).loc Cert.KernelOptBIdeal.main_v0_1) = v1 c
          ∧ r.2.mem ((c.tc : Thread Cert.KernelOptBIdeal.nD Cert.KernelOptBIdeal.τ).loc Cert.KernelOptBIdeal.main_v0_2) = v2 c
          ∧ r.2.mem ((c.tc : Thread Cert.KernelOptBIdeal.nD Cert.KernelOptBIdeal.τ).loc Cert.KernelOptBIdeal.main_v0_3) = v3 c
          ∧ r.2.mem ((c.tc : Thread Cert.KernelOptBIdeal.nD Cert.KernelOptBIdeal.τ).loc Cert.KernelOptBIdeal.main_arg0) = m ((c.tc : Thread Cert.KernelOptBIdeal.nD Cert.KernelOptBIdeal.τ).loc Cert.KernelOptBIdeal.main_arg0)
          ∧ r.2.mem ((c.tc : Thread Cert.KernelOptBIdeal.nD Cert.KernelOptBIdeal.τ).loc Cert.KernelOptBIdeal.main_arg1) = m ((c.tc : Thread Cert.KernelOptBIdeal.nD Cert.KernelOptBIdeal.τ).loc Cert.KernelOptBIdeal.main_arg1)
          ∧ r.2.mem ((c.tc : Thread Cert.KernelOptBIdeal.nD Cert.KernelOptBIdeal.τ).loc Cert.KernelOptBIdeal.main_arg2) = m ((c.tc : Thread Cert.KernelOptBIdeal.nD Cert.KernelOptBIdeal.τ).loc Cert.KernelOptBIdeal.main_arg2)
          ∧ r.2.mem ((c.tc : Thread Cert.KernelOptBIdeal.nD Cert.KernelOptBIdeal.τ).loc Cert.KernelOptBIdeal.main_arg3) = m ((c.tc : Thread Cert.KernelOptBIdeal.nD Cert.KernelOptBIdeal.τ).loc Cert.KernelOptBIdeal.main_arg3)
          ∧ r.2.mem ((c.tc : Thread Cert.KernelOptBIdeal.nD Cert.KernelOptBIdeal.τ).loc Cert.KernelOptBIdeal.main_arg4) = m ((c.tc : Thread Cert.KernelOptBIdeal.nD Cert.KernelOptBIdeal.τ).loc Cert.KernelOptBIdeal.main_arg4))
      ∧ θ_run (Cert.ReferenceOptBIdeal.defs (F := Ideal)) (onTc (τ := Cert.ReferenceOptBIdeal.τ) (Cert.ReferenceOptBIdeal.main (F := Ideal))) ⟨m', fun _ => 0, g'⟩ (fun r => ∀ c : Dev Cert.ReferenceOptBIdeal.nD,
          r.2.mem ((c.tc : Thread Cert.ReferenceOptBIdeal.nD Cert.ReferenceOptBIdeal.τ).loc Cert.ReferenceOptBIdeal.main_v5) = v0 c
          ∧ r.2.mem ((c.tc : Thread Cert.ReferenceOptBIdeal.nD Cert.ReferenceOptBIdeal.τ).loc Cert.ReferenceOptBIdeal.main_v29) = v1 c
          ∧ r.2.mem ((c.tc : Thread Cert.ReferenceOptBIdeal.nD Cert.ReferenceOptBIdeal.τ).loc Cert.ReferenceOptBIdeal.main_v10) = v2 c
          ∧ r.2.mem ((c.tc : Thread Cert.ReferenceOptBIdeal.nD Cert.ReferenceOptBIdeal.τ).loc Cert.ReferenceOptBIdeal.main_v16) = v3 c
          ∧ r.2.mem ((c.tc : Thread Cert.ReferenceOptBIdeal.nD Cert.ReferenceOptBIdeal.τ).loc Cert.ReferenceOptBIdeal.main_arg0) = m' ((c.tc : Thread Cert.ReferenceOptBIdeal.nD Cert.ReferenceOptBIdeal.τ).loc Cert.ReferenceOptBIdeal.main_arg0)
          ∧ r.2.mem ((c.tc : Thread Cert.ReferenceOptBIdeal.nD Cert.ReferenceOptBIdeal.τ).loc Cert.ReferenceOptBIdeal.main_arg1) = m' ((c.tc : Thread Cert.ReferenceOptBIdeal.nD Cert.ReferenceOptBIdeal.τ).loc Cert.ReferenceOptBIdeal.main_arg1)
          ∧ r.2.mem ((c.tc : Thread Cert.ReferenceOptBIdeal.nD Cert.ReferenceOptBIdeal.τ).loc Cert.ReferenceOptBIdeal.main_arg2) = m' ((c.tc : Thread Cert.ReferenceOptBIdeal.nD Cert.ReferenceOptBIdeal.τ).loc Cert.ReferenceOptBIdeal.main_arg2)
          ∧ r.2.mem ((c.tc : Thread Cert.ReferenceOptBIdeal.nD Cert.ReferenceOptBIdeal.τ).loc Cert.ReferenceOptBIdeal.main_arg3) = m' ((c.tc : Thread Cert.ReferenceOptBIdeal.nD Cert.ReferenceOptBIdeal.τ).loc Cert.ReferenceOptBIdeal.main_arg3)
          ∧ r.2.mem ((c.tc : Thread Cert.ReferenceOptBIdeal.nD Cert.ReferenceOptBIdeal.τ).loc Cert.ReferenceOptBIdeal.main_arg4) = m' ((c.tc : Thread Cert.ReferenceOptBIdeal.nD Cert.ReferenceOptBIdeal.τ).loc Cert.ReferenceOptBIdeal.main_arg4))

def preserves_KernelOptP_KernelOptPIdeal : Prop :=
  True

def algebraic_KernelOptPIdeal_ReferenceOptPIdeal [hKernelOptPIdeal : Cert.KernelOptPIdeal.Facts] [hReferenceOptPIdeal : Cert.ReferenceOptPIdeal.Facts] : Prop :=
  ∀ (m : (ℓ : Loc Cert.KernelOptPIdeal.nD Cert.KernelOptPIdeal.τ Cert.KernelOptPIdeal.sig) → Buf (Elt Ideal) ℓ) (g : Dev Cert.KernelOptPIdeal.nD → PrngReg)
    (m' : (ℓ : Loc Cert.ReferenceOptPIdeal.nD Cert.ReferenceOptPIdeal.τ Cert.ReferenceOptPIdeal.sig) → Buf (Elt Ideal) ℓ) (g' : Dev Cert.ReferenceOptPIdeal.nD → PrngReg), Pre_KernelOptPIdeal m →
    (∀ c : Dev Cert.KernelOptPIdeal.nD,
      m' ((c.tc : Thread Cert.ReferenceOptPIdeal.nD Cert.ReferenceOptPIdeal.τ).loc Cert.ReferenceOptPIdeal.main_arg0) = m ((c.tc : Thread Cert.KernelOptPIdeal.nD Cert.KernelOptPIdeal.τ).loc Cert.KernelOptPIdeal.main_arg0)
      ∧ m' ((c.tc : Thread Cert.ReferenceOptPIdeal.nD Cert.ReferenceOptPIdeal.τ).loc Cert.ReferenceOptPIdeal.main_arg1) = m ((c.tc : Thread Cert.KernelOptPIdeal.nD Cert.KernelOptPIdeal.τ).loc Cert.KernelOptPIdeal.main_arg1)
      ∧ m' ((c.tc : Thread Cert.ReferenceOptPIdeal.nD Cert.ReferenceOptPIdeal.τ).loc Cert.ReferenceOptPIdeal.main_arg2) = m ((c.tc : Thread Cert.KernelOptPIdeal.nD Cert.KernelOptPIdeal.τ).loc Cert.KernelOptPIdeal.main_arg2)
      ∧ m' ((c.tc : Thread Cert.ReferenceOptPIdeal.nD Cert.ReferenceOptPIdeal.τ).loc Cert.ReferenceOptPIdeal.main_arg3) = m ((c.tc : Thread Cert.KernelOptPIdeal.nD Cert.KernelOptPIdeal.τ).loc Cert.KernelOptPIdeal.main_arg3)) →
    ∃ (v0 : (c : Dev Cert.KernelOptPIdeal.nD) → Buf (Elt Ideal) ((c.tc : Thread Cert.KernelOptPIdeal.nD Cert.KernelOptPIdeal.τ).loc Cert.KernelOptPIdeal.main_v0_0)) (v1 : (c : Dev Cert.KernelOptPIdeal.nD) → Buf (Elt Ideal) ((c.tc : Thread Cert.KernelOptPIdeal.nD Cert.KernelOptPIdeal.τ).loc Cert.KernelOptPIdeal.main_v0_1)) (v2 : (c : Dev Cert.KernelOptPIdeal.nD) → Buf (Elt Ideal) ((c.tc : Thread Cert.KernelOptPIdeal.nD Cert.KernelOptPIdeal.τ).loc Cert.KernelOptPIdeal.main_v0_2)),
      θ_run (Cert.KernelOptPIdeal.defs (F := Ideal)) (onTc (τ := Cert.KernelOptPIdeal.τ) (Cert.KernelOptPIdeal.main (F := Ideal))) ⟨m, fun _ => 0, g⟩ (fun r => ∀ c : Dev Cert.KernelOptPIdeal.nD,
          r.2.mem ((c.tc : Thread Cert.KernelOptPIdeal.nD Cert.KernelOptPIdeal.τ).loc Cert.KernelOptPIdeal.main_v0_0) = v0 c
          ∧ r.2.mem ((c.tc : Thread Cert.KernelOptPIdeal.nD Cert.KernelOptPIdeal.τ).loc Cert.KernelOptPIdeal.main_v0_1) = v1 c
          ∧ r.2.mem ((c.tc : Thread Cert.KernelOptPIdeal.nD Cert.KernelOptPIdeal.τ).loc Cert.KernelOptPIdeal.main_v0_2) = v2 c
          ∧ r.2.mem ((c.tc : Thread Cert.KernelOptPIdeal.nD Cert.KernelOptPIdeal.τ).loc Cert.KernelOptPIdeal.main_arg0) = m ((c.tc : Thread Cert.KernelOptPIdeal.nD Cert.KernelOptPIdeal.τ).loc Cert.KernelOptPIdeal.main_arg0)
          ∧ r.2.mem ((c.tc : Thread Cert.KernelOptPIdeal.nD Cert.KernelOptPIdeal.τ).loc Cert.KernelOptPIdeal.main_arg1) = m ((c.tc : Thread Cert.KernelOptPIdeal.nD Cert.KernelOptPIdeal.τ).loc Cert.KernelOptPIdeal.main_arg1)
          ∧ r.2.mem ((c.tc : Thread Cert.KernelOptPIdeal.nD Cert.KernelOptPIdeal.τ).loc Cert.KernelOptPIdeal.main_arg2) = m ((c.tc : Thread Cert.KernelOptPIdeal.nD Cert.KernelOptPIdeal.τ).loc Cert.KernelOptPIdeal.main_arg2)
          ∧ r.2.mem ((c.tc : Thread Cert.KernelOptPIdeal.nD Cert.KernelOptPIdeal.τ).loc Cert.KernelOptPIdeal.main_arg3) = m ((c.tc : Thread Cert.KernelOptPIdeal.nD Cert.KernelOptPIdeal.τ).loc Cert.KernelOptPIdeal.main_arg3))
      ∧ θ_run (Cert.ReferenceOptPIdeal.defs (F := Ideal)) (onTc (τ := Cert.ReferenceOptPIdeal.τ) (Cert.ReferenceOptPIdeal.main (F := Ideal))) ⟨m', fun _ => 0, g'⟩ (fun r => ∀ c : Dev Cert.ReferenceOptPIdeal.nD,
          r.2.mem ((c.tc : Thread Cert.ReferenceOptPIdeal.nD Cert.ReferenceOptPIdeal.τ).loc Cert.ReferenceOptPIdeal.main_v23) = v0 c
          ∧ r.2.mem ((c.tc : Thread Cert.ReferenceOptPIdeal.nD Cert.ReferenceOptPIdeal.τ).loc Cert.ReferenceOptPIdeal.main_v4) = v1 c
          ∧ r.2.mem ((c.tc : Thread Cert.ReferenceOptPIdeal.nD Cert.ReferenceOptPIdeal.τ).loc Cert.ReferenceOptPIdeal.main_v10) = v2 c
          ∧ r.2.mem ((c.tc : Thread Cert.ReferenceOptPIdeal.nD Cert.ReferenceOptPIdeal.τ).loc Cert.ReferenceOptPIdeal.main_arg0) = m' ((c.tc : Thread Cert.ReferenceOptPIdeal.nD Cert.ReferenceOptPIdeal.τ).loc Cert.ReferenceOptPIdeal.main_arg0)
          ∧ r.2.mem ((c.tc : Thread Cert.ReferenceOptPIdeal.nD Cert.ReferenceOptPIdeal.τ).loc Cert.ReferenceOptPIdeal.main_arg1) = m' ((c.tc : Thread Cert.ReferenceOptPIdeal.nD Cert.ReferenceOptPIdeal.τ).loc Cert.ReferenceOptPIdeal.main_arg1)
          ∧ r.2.mem ((c.tc : Thread Cert.ReferenceOptPIdeal.nD Cert.ReferenceOptPIdeal.τ).loc Cert.ReferenceOptPIdeal.main_arg2) = m' ((c.tc : Thread Cert.ReferenceOptPIdeal.nD Cert.ReferenceOptPIdeal.τ).loc Cert.ReferenceOptPIdeal.main_arg2)
          ∧ r.2.mem ((c.tc : Thread Cert.ReferenceOptPIdeal.nD Cert.ReferenceOptPIdeal.τ).loc Cert.ReferenceOptPIdeal.main_arg3) = m' ((c.tc : Thread Cert.ReferenceOptPIdeal.nD Cert.ReferenceOptPIdeal.τ).loc Cert.ReferenceOptPIdeal.main_arg3))

def preserves_KernelSums_KernelSumsIdeal : Prop :=
  True

def algebraic_KernelSumsIdeal_ReferenceSumsIdeal [hKernelSumsIdeal : Cert.KernelSumsIdeal.Facts] [hReferenceSumsIdeal : Cert.ReferenceSumsIdeal.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg)
    (m' : (ℓ : Loc Cert.ReferenceSumsIdeal.nD Cert.ReferenceSumsIdeal.τ Cert.ReferenceSumsIdeal.sig) → Buf (Elt Ideal) ℓ) (g' : Dev Cert.ReferenceSumsIdeal.nD → PrngReg), Pre_KernelSumsIdeal m →
    (∀ c : Dev Cert.KernelSumsIdeal.nD,
      m' ((c.tc : Thread Cert.ReferenceSumsIdeal.nD Cert.ReferenceSumsIdeal.τ).loc Cert.ReferenceSumsIdeal.main_arg0) = m ((c.tc : Thread Cert.KernelSumsIdeal.nD Cert.KernelSumsIdeal.τ).loc Cert.KernelSumsIdeal.main_arg0)) →
    ∃ (v0 : (c : Dev Cert.KernelSumsIdeal.nD) → Buf (Elt Ideal) ((c.tc : Thread Cert.KernelSumsIdeal.nD Cert.KernelSumsIdeal.τ).loc Cert.KernelSumsIdeal.main_v0)),
      θ_run (Cert.KernelSumsIdeal.defs (F := Ideal)) (onTc (τ := Cert.KernelSumsIdeal.τ) (Cert.KernelSumsIdeal.main (F := Ideal))) ⟨m, fun _ => 0, g⟩ (fun r => ∀ c : Dev Cert.KernelSumsIdeal.nD,
          r.2.mem ((c.tc : Thread Cert.KernelSumsIdeal.nD Cert.KernelSumsIdeal.τ).loc Cert.KernelSumsIdeal.main_v0) = v0 c
          ∧ r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0))
      ∧ θ_run (Cert.ReferenceSumsIdeal.defs (F := Ideal)) (onTc (τ := Cert.ReferenceSumsIdeal.τ) (Cert.ReferenceSumsIdeal.main (F := Ideal))) ⟨m', fun _ => 0, g'⟩ (fun r => ∀ c : Dev Cert.ReferenceSumsIdeal.nD,
          r.2.mem ((c.tc : Thread Cert.ReferenceSumsIdeal.nD Cert.ReferenceSumsIdeal.τ).loc Cert.ReferenceSumsIdeal.main_v0) = v0 c
          ∧ r.2.mem ((c.tc : Thread Cert.ReferenceSumsIdeal.nD Cert.ReferenceSumsIdeal.τ).loc Cert.ReferenceSumsIdeal.main_arg0) = m' ((c.tc : Thread Cert.ReferenceSumsIdeal.nD Cert.ReferenceSumsIdeal.τ).loc Cert.ReferenceSumsIdeal.main_arg0))

def Claim : Prop :=
  ∃ (hKernelLoss : Cert.KernelLoss.Facts) (hKernelLossIdeal : Cert.KernelLossIdeal.Facts) (hReferenceLossIdeal : Cert.ReferenceLossIdeal.Facts) (hKernelMixNorm : Cert.KernelMixNorm.Facts) (hKernelMixNormIdeal : Cert.KernelMixNormIdeal.Facts) (hReferenceMixNormIdeal : Cert.ReferenceMixNormIdeal.Facts) (hKernelFfnNorm : Cert.KernelFfnNorm.Facts) (hKernelFfnNormIdeal : Cert.KernelFfnNormIdeal.Facts) (hReferenceFfnNormIdeal : Cert.ReferenceFfnNormIdeal.Facts) (hKernelConv : Cert.KernelConv.Facts) (hKernelConvIdeal : Cert.KernelConvIdeal.Facts) (hReferenceConvIdeal : Cert.ReferenceConvIdeal.Facts) (hKernelMerge : Cert.KernelMerge.Facts) (hKernelMergeIdeal : Cert.KernelMergeIdeal.Facts) (hReferenceMergeIdeal : Cert.ReferenceMergeIdeal.Facts) (hKernelAda : Cert.KernelAda.Facts) (hKernelAdaIdeal : Cert.KernelAdaIdeal.Facts) (hReferenceAdaIdeal : Cert.ReferenceAdaIdeal.Facts) (hKernelDisc : Cert.KernelDisc.Facts) (hKernelDiscIdeal : Cert.KernelDiscIdeal.Facts) (hReferenceDiscIdeal : Cert.ReferenceDiscIdeal.Facts) (hKernelHid : Cert.KernelHid.Facts) (hKernelHidIdeal : Cert.KernelHidIdeal.Facts) (hReferenceHidIdeal : Cert.ReferenceHidIdeal.Facts) (hKernelNormF : Cert.KernelNormF.Facts) (hKernelNormFIdeal : Cert.KernelNormFIdeal.Facts) (hReferenceNormFIdeal : Cert.ReferenceNormFIdeal.Facts) (hKernelUpF : Cert.KernelUpF.Facts) (hKernelUpFIdeal : Cert.KernelUpFIdeal.Facts) (hReferenceUpFIdeal : Cert.ReferenceUpFIdeal.Facts) (hKernelDownF : Cert.KernelDownF.Facts) (hKernelDownFIdeal : Cert.KernelDownFIdeal.Facts) (hReferenceDownFIdeal : Cert.ReferenceDownFIdeal.Facts) (hKernelConvF : Cert.KernelConvF.Facts) (hKernelConvFIdeal : Cert.KernelConvFIdeal.Facts) (hReferenceConvFIdeal : Cert.ReferenceConvFIdeal.Facts) (hKernelMergeF : Cert.KernelMergeF.Facts) (hKernelMergeFIdeal : Cert.KernelMergeFIdeal.Facts) (hReferenceMergeFIdeal : Cert.ReferenceMergeFIdeal.Facts) (hKernelPostF : Cert.KernelPostF.Facts) (hKernelPostFIdeal : Cert.KernelPostFIdeal.Facts) (hReferencePostFIdeal : Cert.ReferencePostFIdeal.Facts) (hKernelAdaF : Cert.KernelAdaF.Facts) (hKernelAdaFIdeal : Cert.KernelAdaFIdeal.Facts) (hReferenceAdaFIdeal : Cert.ReferenceAdaFIdeal.Facts) (hKernelDiscF : Cert.KernelDiscF.Facts) (hKernelDiscFIdeal : Cert.KernelDiscFIdeal.Facts) (hReferenceDiscFIdeal : Cert.ReferenceDiscFIdeal.Facts) (hKernelMm : Cert.KernelMm.Facts) (hKernelMmIdeal : Cert.KernelMmIdeal.Facts) (hReferenceMmIdeal : Cert.ReferenceMmIdeal.Facts) (hKernelOptR : Cert.KernelOptR.Facts) (hKernelOptRIdeal : Cert.KernelOptRIdeal.Facts) (hReferenceOptRIdeal : Cert.ReferenceOptRIdeal.Facts) (hKernelOptB : Cert.KernelOptB.Facts) (hKernelOptBIdeal : Cert.KernelOptBIdeal.Facts) (hReferenceOptBIdeal : Cert.ReferenceOptBIdeal.Facts) (hKernelOptP : Cert.KernelOptP.Facts) (hKernelOptPIdeal : Cert.KernelOptPIdeal.Facts) (hReferenceOptPIdeal : Cert.ReferenceOptPIdeal.Facts) (hKernelSums : Cert.KernelSums.Facts) (hKernelSumsIdeal : Cert.KernelSumsIdeal.Facts) (hReferenceSumsIdeal : Cert.ReferenceSumsIdeal.Facts) (hPre_finite_loss : Cert.Pre_finite_loss.Facts) (hPre_finite_mixnorm : Cert.Pre_finite_mixnorm.Facts) (hPre_finite_ffnnorm : Cert.Pre_finite_ffnnorm.Facts) (hPre_finite_hid : Cert.Pre_finite_hid.Facts) (hPre_finite_upf : Cert.Pre_finite_upf.Facts),
    quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelMixNorm (hKernelMixNorm := hKernelMixNorm)
    ∧ quiescent_KernelMixNormIdeal (hKernelMixNormIdeal := hKernelMixNormIdeal)
    ∧ quiescent_KernelMixNormIdeal_pre_finite_mixnorm (hKernelMixNormIdeal := hKernelMixNormIdeal) (hPre_finite_mixnorm := hPre_finite_mixnorm)
    ∧ quiescent_ReferenceMixNormIdeal (hReferenceMixNormIdeal := hReferenceMixNormIdeal)
    ∧ quiescent_ReferenceMixNormIdeal_pre_finite_mixnorm (hReferenceMixNormIdeal := hReferenceMixNormIdeal) (hPre_finite_mixnorm := hPre_finite_mixnorm)
    ∧ quiescent_KernelFfnNorm (hKernelFfnNorm := hKernelFfnNorm)
    ∧ quiescent_KernelFfnNormIdeal (hKernelFfnNormIdeal := hKernelFfnNormIdeal)
    ∧ quiescent_KernelFfnNormIdeal_pre_finite_ffnnorm (hKernelFfnNormIdeal := hKernelFfnNormIdeal) (hPre_finite_ffnnorm := hPre_finite_ffnnorm)
    ∧ quiescent_ReferenceFfnNormIdeal (hReferenceFfnNormIdeal := hReferenceFfnNormIdeal)
    ∧ quiescent_ReferenceFfnNormIdeal_pre_finite_ffnnorm (hReferenceFfnNormIdeal := hReferenceFfnNormIdeal) (hPre_finite_ffnnorm := hPre_finite_ffnnorm)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelDisc (hKernelDisc := hKernelDisc)
    ∧ quiescent_KernelDiscIdeal (hKernelDiscIdeal := hKernelDiscIdeal)
    ∧ quiescent_ReferenceDiscIdeal (hReferenceDiscIdeal := hReferenceDiscIdeal)
    ∧ quiescent_KernelHid (hKernelHid := hKernelHid)
    ∧ quiescent_KernelHidIdeal (hKernelHidIdeal := hKernelHidIdeal)
    ∧ quiescent_KernelHidIdeal_pre_finite_hid (hKernelHidIdeal := hKernelHidIdeal) (hPre_finite_hid := hPre_finite_hid)
    ∧ quiescent_ReferenceHidIdeal (hReferenceHidIdeal := hReferenceHidIdeal)
    ∧ quiescent_ReferenceHidIdeal_pre_finite_hid (hReferenceHidIdeal := hReferenceHidIdeal) (hPre_finite_hid := hPre_finite_hid)
    ∧ quiescent_KernelNormF (hKernelNormF := hKernelNormF)
    ∧ quiescent_KernelNormFIdeal (hKernelNormFIdeal := hKernelNormFIdeal)
    ∧ quiescent_ReferenceNormFIdeal (hReferenceNormFIdeal := hReferenceNormFIdeal)
    ∧ quiescent_KernelUpF (hKernelUpF := hKernelUpF)
    ∧ quiescent_KernelUpFIdeal (hKernelUpFIdeal := hKernelUpFIdeal)
    ∧ quiescent_KernelUpFIdeal_pre_finite_upf (hKernelUpFIdeal := hKernelUpFIdeal) (hPre_finite_upf := hPre_finite_upf)
    ∧ quiescent_ReferenceUpFIdeal (hReferenceUpFIdeal := hReferenceUpFIdeal)
    ∧ quiescent_ReferenceUpFIdeal_pre_finite_upf (hReferenceUpFIdeal := hReferenceUpFIdeal) (hPre_finite_upf := hPre_finite_upf)
    ∧ quiescent_KernelDownF (hKernelDownF := hKernelDownF)
    ∧ quiescent_KernelDownFIdeal (hKernelDownFIdeal := hKernelDownFIdeal)
    ∧ quiescent_ReferenceDownFIdeal (hReferenceDownFIdeal := hReferenceDownFIdeal)
    ∧ quiescent_KernelConvF (hKernelConvF := hKernelConvF)
    ∧ quiescent_KernelConvFIdeal (hKernelConvFIdeal := hKernelConvFIdeal)
    ∧ quiescent_ReferenceConvFIdeal (hReferenceConvFIdeal := hReferenceConvFIdeal)
    ∧ quiescent_KernelMergeF (hKernelMergeF := hKernelMergeF)
    ∧ quiescent_KernelMergeFIdeal (hKernelMergeFIdeal := hKernelMergeFIdeal)
    ∧ quiescent_ReferenceMergeFIdeal (hReferenceMergeFIdeal := hReferenceMergeFIdeal)
    ∧ quiescent_KernelPostF (hKernelPostF := hKernelPostF)
    ∧ quiescent_KernelPostFIdeal (hKernelPostFIdeal := hKernelPostFIdeal)
    ∧ quiescent_ReferencePostFIdeal (hReferencePostFIdeal := hReferencePostFIdeal)
    ∧ quiescent_KernelAdaF (hKernelAdaF := hKernelAdaF)
    ∧ quiescent_KernelAdaFIdeal (hKernelAdaFIdeal := hKernelAdaFIdeal)
    ∧ quiescent_ReferenceAdaFIdeal (hReferenceAdaFIdeal := hReferenceAdaFIdeal)
    ∧ quiescent_KernelDiscF (hKernelDiscF := hKernelDiscF)
    ∧ quiescent_KernelDiscFIdeal (hKernelDiscFIdeal := hKernelDiscFIdeal)
    ∧ quiescent_ReferenceDiscFIdeal (hReferenceDiscFIdeal := hReferenceDiscFIdeal)
    ∧ quiescent_KernelMm (hKernelMm := hKernelMm)
    ∧ quiescent_KernelMmIdeal (hKernelMmIdeal := hKernelMmIdeal)
    ∧ quiescent_ReferenceMmIdeal (hReferenceMmIdeal := hReferenceMmIdeal)
    ∧ quiescent_KernelOptR (hKernelOptR := hKernelOptR)
    ∧ quiescent_KernelOptRIdeal (hKernelOptRIdeal := hKernelOptRIdeal)
    ∧ quiescent_ReferenceOptRIdeal (hReferenceOptRIdeal := hReferenceOptRIdeal)
    ∧ quiescent_KernelOptB (hKernelOptB := hKernelOptB)
    ∧ quiescent_KernelOptBIdeal (hKernelOptBIdeal := hKernelOptBIdeal)
    ∧ quiescent_ReferenceOptBIdeal (hReferenceOptBIdeal := hReferenceOptBIdeal)
    ∧ quiescent_KernelOptP (hKernelOptP := hKernelOptP)
    ∧ quiescent_KernelOptPIdeal (hKernelOptPIdeal := hKernelOptPIdeal)
    ∧ quiescent_ReferenceOptPIdeal (hReferenceOptPIdeal := hReferenceOptPIdeal)
    ∧ quiescent_KernelSums (hKernelSums := hKernelSums)
    ∧ quiescent_KernelSumsIdeal (hKernelSumsIdeal := hKernelSumsIdeal)
    ∧ quiescent_ReferenceSumsIdeal (hReferenceSumsIdeal := hReferenceSumsIdeal)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelMixNorm_KernelMixNormIdeal
    ∧ algebraic_KernelMixNormIdeal_ReferenceMixNormIdeal_pre_finite_mixnorm (hKernelMixNormIdeal := hKernelMixNormIdeal) (hReferenceMixNormIdeal := hReferenceMixNormIdeal) (hPre_finite_mixnorm := hPre_finite_mixnorm)
    ∧ preserves_KernelFfnNorm_KernelFfnNormIdeal
    ∧ algebraic_KernelFfnNormIdeal_ReferenceFfnNormIdeal_pre_finite_ffnnorm (hKernelFfnNormIdeal := hKernelFfnNormIdeal) (hReferenceFfnNormIdeal := hReferenceFfnNormIdeal) (hPre_finite_ffnnorm := hPre_finite_ffnnorm)
    ∧ preserves_KernelConv_KernelConvIdeal
    ∧ algebraic_KernelConvIdeal_ReferenceConvIdeal (hKernelConvIdeal := hKernelConvIdeal) (hReferenceConvIdeal := hReferenceConvIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelDisc_KernelDiscIdeal
    ∧ algebraic_KernelDiscIdeal_ReferenceDiscIdeal (hKernelDiscIdeal := hKernelDiscIdeal) (hReferenceDiscIdeal := hReferenceDiscIdeal)
    ∧ preserves_KernelHid_KernelHidIdeal
    ∧ algebraic_KernelHidIdeal_ReferenceHidIdeal_pre_finite_hid (hKernelHidIdeal := hKernelHidIdeal) (hReferenceHidIdeal := hReferenceHidIdeal) (hPre_finite_hid := hPre_finite_hid)
    ∧ preserves_KernelNormF_KernelNormFIdeal
    ∧ algebraic_KernelNormFIdeal_ReferenceNormFIdeal (hKernelNormFIdeal := hKernelNormFIdeal) (hReferenceNormFIdeal := hReferenceNormFIdeal)
    ∧ preserves_KernelUpF_KernelUpFIdeal
    ∧ algebraic_KernelUpFIdeal_ReferenceUpFIdeal_pre_finite_upf (hKernelUpFIdeal := hKernelUpFIdeal) (hReferenceUpFIdeal := hReferenceUpFIdeal) (hPre_finite_upf := hPre_finite_upf)
    ∧ preserves_KernelDownF_KernelDownFIdeal
    ∧ algebraic_KernelDownFIdeal_ReferenceDownFIdeal (hKernelDownFIdeal := hKernelDownFIdeal) (hReferenceDownFIdeal := hReferenceDownFIdeal)
    ∧ preserves_KernelConvF_KernelConvFIdeal
    ∧ algebraic_KernelConvFIdeal_ReferenceConvFIdeal (hKernelConvFIdeal := hKernelConvFIdeal) (hReferenceConvFIdeal := hReferenceConvFIdeal)
    ∧ preserves_KernelMergeF_KernelMergeFIdeal
    ∧ algebraic_KernelMergeFIdeal_ReferenceMergeFIdeal (hKernelMergeFIdeal := hKernelMergeFIdeal) (hReferenceMergeFIdeal := hReferenceMergeFIdeal)
    ∧ preserves_KernelPostF_KernelPostFIdeal
    ∧ algebraic_KernelPostFIdeal_ReferencePostFIdeal (hKernelPostFIdeal := hKernelPostFIdeal) (hReferencePostFIdeal := hReferencePostFIdeal)
    ∧ preserves_KernelAdaF_KernelAdaFIdeal
    ∧ algebraic_KernelAdaFIdeal_ReferenceAdaFIdeal (hKernelAdaFIdeal := hKernelAdaFIdeal) (hReferenceAdaFIdeal := hReferenceAdaFIdeal)
    ∧ preserves_KernelDiscF_KernelDiscFIdeal
    ∧ algebraic_KernelDiscFIdeal_ReferenceDiscFIdeal (hKernelDiscFIdeal := hKernelDiscFIdeal) (hReferenceDiscFIdeal := hReferenceDiscFIdeal)
    ∧ preserves_KernelMm_KernelMmIdeal
    ∧ algebraic_KernelMmIdeal_ReferenceMmIdeal (hKernelMmIdeal := hKernelMmIdeal) (hReferenceMmIdeal := hReferenceMmIdeal)
    ∧ preserves_KernelOptR_KernelOptRIdeal
    ∧ algebraic_KernelOptRIdeal_ReferenceOptRIdeal (hKernelOptRIdeal := hKernelOptRIdeal) (hReferenceOptRIdeal := hReferenceOptRIdeal)
    ∧ preserves_KernelOptB_KernelOptBIdeal
    ∧ algebraic_KernelOptBIdeal_ReferenceOptBIdeal (hKernelOptBIdeal := hKernelOptBIdeal) (hReferenceOptBIdeal := hReferenceOptBIdeal)
    ∧ preserves_KernelOptP_KernelOptPIdeal
    ∧ algebraic_KernelOptPIdeal_ReferenceOptPIdeal (hKernelOptPIdeal := hKernelOptPIdeal) (hReferenceOptPIdeal := hReferenceOptPIdeal)
    ∧ preserves_KernelSums_KernelSumsIdeal
    ∧ algebraic_KernelSumsIdeal_ReferenceSumsIdeal (hKernelSumsIdeal := hKernelSumsIdeal) (hReferenceSumsIdeal := hReferenceSumsIdeal)
-- ==== Pre_finite_ffnnorm.lean ====
abbrev S4x2048x2816 : Shape := ⟨3, ![4, 2048, 2816]⟩
abbrev S1x1024x2816 : Shape := ⟨3, ![1, 1024, 2816]⟩
abbrev S4x2048x1024 : Shape := ⟨3, ![4, 2048, 1024]⟩
abbrev S1x1024 : Shape := ⟨2, ![1, 1024]⟩
abbrev S4x1024 : Shape := ⟨2, ![4, 1024]⟩
abbrev S_ : Shape := ⟨0, ![]⟩

class Facts : Prop where
  bcast_S_S4x2048x2816 : S_.BroadcastsInDim S4x2048x2816 (![] : Fin 0 → Fin S4x2048x2816.rank)
  reducesTo_S4x2048x2816_S_d0_1_2 : S4x2048x2816.ReducesTo [0, 1, 2] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x2048x1024 .f32) (main_arg5 : FVec F S1x1024 .f32) (main_arg6 : FVec F S4x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S4x2048x1024 .f32 := Host.absf main_arg4
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4x2048x2816 .f32) (main_arg1 : FVec F S4x2048x2816 .f32) (main_arg2 : FVec F S1x1024x2816 .f32) (main_arg3 : FVec F S1x1024x2816 .f32) (main_arg4 : FVec F S4x2048x1024 .f32) (main_arg5 : FVec F S1x1024 .f32) (main_arg6 : FVec F S4x1024 .f32) (main_arg7 : FVec F S4x2048x1024 .f32) : IVec S_ 1 :=
  let main_v0 : FVec F S4x2048x2816 .f32 := Host.absf main_arg0
  let main_cst : FVec F S_ .f32 := constant S_ .f32 0x7F800000#32
  let main_v1 : FVec F S4x2048x2816 .f32 := broadcastInDim S4x2048x2816 ![] bcast_S_S4x2048x2816 main_cst
  let main_v2 : IVec S4x2048x2816 1 := cmpf .olt main_v0 main_v1
  let main_c : IVec S_ 1 := constantI S_ 1 1#1
  let main_v3 : IVec S_ 1 := (fun x v => Host.reduce IntOp.andi x v reducesTo_S4x2048x2816_S_d0_1_2 h_S_) main_v2 main_c
  let main_v4 : FVec F S4x2048x2816 .f32 := Host.absf main_arg1
  let main_cst_0 : FVec F S_ .f32 := constant S_ .f32 0x7F800000#32
  let main_v5 : FVec F S4x2048x2816 .f32 := broadcastInDim S4x2048x2816 ![] bcast_S_S4x2048x2816 main_cst_0
  let main_v6 : IVec S4x2048x2816 1 := cmpf .olt main_v4 main_v5
  let main_c_1 : IVec S_ 1 := constantI S_ 1 1#1
  let main_v7 : IVec S_ 1 := (fun x v => Host.reduce IntOp.andi x v reducesTo_S4x2048x2816_S_d0_1_2 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_arg6 main_v13 main_v16
-- ==== Pre_finite_hid.lean ====
abbrev S4x2048x1024 : Shape := ⟨3, ![4, 2048, 1024]⟩
abbrev S1x1024x2816 : Shape := ⟨3, ![1, 1024, 2816]⟩
abbrev S1x2816x1024 : Shape := ⟨3, ![1, 2816, 1024]⟩
abbrev S4x1024 : Shape := ⟨2, ![4, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg5 : FVec F S4x2048x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4x2048x1024 .f32 := Host.absf main_arg5
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : IVec S_ 1 := andi main_v18 main_v22
  main_v23

def fn {F : FTy → Type} [FloatOps F] (main_arg0 : FVec F S4x2048x1024 .f32) (main_arg1 : FVec F S1x1024x2816 .f32) (main_arg2 : FVec F S1x1024x2816 .f32) (main_arg3 : FVec F S1x2816x1024 .f32) (main_arg4 : FVec F S4x1024 .f32) (main_arg5 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1x1024x2816 .f32 := Host.absf main_arg2
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_c_1 : IVec S_ 1 := constantI S_ 1 1#1
  let main_v7 : IVec S_ 1 := (fun x v => Host.reduce IntOp.andi x v reducesTo_S1x1024x2816_S_d0_1_2 h_S_) main_v6 main_c_1
  let main_v8 : IVec S_ 1 := andi main_v3 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S4x1024 .f32 := Host.absf main_arg4
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg5 main_v13 main_v16
-- ==== Pre_finite_loss.lean ====
abbrev S4x2048x1024 : Shape := ⟨3, ![4, 2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x2048x1024 .f32) (main_arg1 : FVec F S1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Pre_finite_mixnorm.lean ====
abbrev S4x2048x3072 : Shape := ⟨3, ![4, 2048, 3072]⟩
abbrev S4x2048x512 : Shape := ⟨3, ![4, 2048, 512]⟩
abbrev S4x2048x2048 : Shape := ⟨3, ![4, 2048, 2048]⟩
abbrev S1x1024x5632 : Shape := ⟨3, ![1, 1024, 5632]⟩
abbrev S4x2048x1024 : Shape := ⟨3, ![4, 2048, 1024]⟩
abbrev S1x1024 : Shape := ⟨2, ![1, 1024]⟩
abbrev S4x1024 : Shape := ⟨2, ![4, 1024]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x2048x1024 .f32) (main_arg5 : FVec F S1x1024 .f32) (main_arg6 : FVec F S4x1024 .f32) (main_v13 : IVec S_ 1) (main_v16 : IVec S1x1024x5632 1) : IVec S_ 1 :=
  let main_c_5 : IVec S_ 1 := constantI S_ 1 1#1
  let main_v17 : IVec S_ 1 := (fun x v => Host.reduce IntOp.andi x v reducesTo_S1x1024x5632_S_d0_1_2 h_S_) main_v16 main_c_5
  let main_v18 : IVec S_ 1 := andi main_v13 main_v17
  let main_v19 : FVec F S4x2048x1024 .f32 := Host.absf main_arg4
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4x2048x3072 .f32) (main_arg1 : FVec F S4x2048x512 .f32) (main_arg2 : FVec F S4x2048x2048 .f32) (main_arg3 : FVec F S1x1024x5632 .f32) (main_arg4 : FVec F S4x2048x1024 .f32) (main_arg5 : FVec F S1x1024 .f32) (main_arg6 : FVec F S4x1024 .f32) (main_arg7 : FVec F S4x2048x1024 .f32) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S1x1024x5632 .f32 := Host.absf main_arg3
  let main_cst_4 : FVec F S_ .f32 := constant S_ .f32 0x7F800000#32
  let main_v15 : FVec F S1x1024x5632 .f32 := broadcastInDim S1x1024x5632 ![] bcast_S_S1x1024x5632 main_cst_4
  let main_v16 : IVec S1x1024x5632 1 := cmpf .olt main_v14 main_v15
  fn_part1 (F := F) main_arg4 main_arg5 main_arg6 main_v13 main_v16
-- ==== Pre_finite_upf.lean ====
abbrev S4x2048x1024 : Shape := ⟨3, ![4, 2048, 1024]⟩
abbrev S1x1024x2816 : Shape := ⟨3, ![1, 1024, 2816]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_

variable [Facts]

def fn {F : FTy → Type} [FloatOps F] (main_arg0 : FVec F S4x2048x1024 .f32) (main_arg1 : FVec F S1x1024x2816 .f32) (main_arg2 : FVec F S1x1024x2816 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1x1024x2816 .f32 := Host.absf main_arg2
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_c_1 : IVec S_ 1 := constantI S_ 1 1#1
  let main_v7 : IVec S_ 1 := (fun x v => Host.reduce IntOp.andi x v reducesTo_S1x1024x2816_S_d0_1_2 h_S_) main_v6 main_c_1
  let main_v8 : IVec S_ 1 := andi main_v3 main_v7
  main_v8
-- ==== KernelLoss.lean ====
abbrev S4x2048x1024 : Shape := ⟨3, ![4, 2048, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S1x1024, .f32⟩
  | .hbm, ⟨4, _⟩ => ⟨S4x2048x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x1024, .f32⟩
  | .local _ .vmem, ⟨8, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v44 : BitVec 1 := Scalar.cmpi .eq arg1 c0_i32
  let arg0 : BitVec 32 := BitVec.ofNat 32 (i 0).val
  let c0_i32_18 : BitVec 32 := 0#32
  let v45 : BitVec 1 := Scalar.cmpi .eq arg0 c0_i32_18
  let v46 : BitVec 1 := Scalar.andi v44 v45
  let v47 : BitVec 32 := Scalar.extui v46
  let c0_i32_19 : BitVec 32 := 0#32
  let v48 : BitVec 1 := Scalar.cmpi .ne v47 c0_i32_19
  v48

def k0_cond2 (i : grid0.Coords) : BitVec 1 :=
  let arg1 : BitVec 32 := BitVec.ofNat 32 (i 1).val
  let c0_i32_20 : BitVec 32 := 0#32
  let v49 : BitVec 1 := Scalar.cmpi .sgt arg1 c0_i32_20
  let arg0 : BitVec 32 := BitVec.ofNat 32 (i 0).val
  let c0_i32_21 : BitVec 32 := 0#32
  let v50 : BitVec 1 := Scalar.cmpi .sgt arg0 c0_i32_21
  let v51 : BitVec 1 := Scalar.ori v49 v50
  let v52 : BitVec 32 := Scalar.extui v51
  let c0_i32_22 : BitVec 32 := 0#32
  let v53 : BitVec 1 := Scalar.cmpi .ne v52 c0_i32_22
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceLossIdeal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== KernelMixNorm.lean ====
abbrev S4x2048x3072 : Shape := ⟨3, ![4, 2048, 3072]⟩
abbrev S4x2048x512 : Shape := ⟨3, ![4, 2048, 512]⟩
abbrev S4x2048x2048 : Shape := ⟨3, ![4, 2048, 2048]⟩
abbrev S1x1024x5632 : Shape := ⟨3, ![1, 1024, 5632]⟩
abbrev S4x2048x1024 : Shape := ⟨3, ![4, 2048, 1024]⟩
abbrev S1x1024 : Shape := ⟨2, ![1, 1024]⟩
abbrev S4x1024 : Shape := ⟨2, ![4, 1024]⟩
abbrev S1024x5632 : Shape := ⟨2, ![1024, 5632]⟩
abbrev S1024x3072 : Shape := ⟨2, ![1024, 3072]⟩
abbrev S1024x512 : Shape := ⟨2, ![1024, 512]⟩
abbrev S1024x2048 : Shape := ⟨2, ![1024, 2048]⟩
abbrev S4x1x1024 : Shape := ⟨3, ![4, 1, 1024]⟩
abbrev S1x512x3072 : Shape := ⟨3, ![1, 512, 3072]⟩
abbrev S1x512x512 : Shape := ⟨3, ![1, 512, 512]⟩
abbrev S1x512x2048 : Shape := ⟨3, ![1, 512, 2048]⟩
abbrev S1x512x1024 : Shape := ⟨3, ![1, 512, 1024]⟩
abbrev S1x1x1024 : Shape := ⟨3, ![1, 1, 1024]⟩
abbrev S_ : Shape := ⟨0, ![]⟩
abbrev S512x3072 : Shape := ⟨2, ![512, 3072]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 21
  | .vmem => 23
  | .smem => 0
  | _ => 0

abbrev bufTy : (tb : Table) → Fin (tcTables nBuf tb) → BufTy
  | .hbm, ⟨0, _⟩ => ⟨S4x2048x3072, .f32⟩
  | .hbm, ⟨1, _⟩ => ⟨S4x2048x512, .f32⟩
  | .hbm, ⟨2, _⟩ => ⟨S4x2048x2048, .f32⟩
  | .hbm, ⟨3, _⟩ => ⟨S1x1024x5632, .f32⟩
  | .hbm, ⟨4, _⟩ => ⟨S4x2048x1024, .f32⟩
  | .hbm, ⟨5, _⟩ => ⟨S1x1024, .f32⟩
  | .hbm, ⟨6, _⟩ => ⟨S4x1024, .f32⟩
  | .hbm, ⟨7, _⟩ => ⟨S4x2048x1024, .f32⟩
  | .hbm, ⟨8, _⟩ => ⟨S1024x5632, .f32⟩
  | .hbm, ⟨9, _⟩ => ⟨S1024x5632, .bf16⟩
  | .hbm, ⟨10, _⟩ => ⟨S1024x3072, .bf16⟩
  | .hbm, ⟨11, _⟩ => ⟨S1024x512, .bf16⟩
  | .hbm, ⟨12, _⟩ => ⟨S1024x2048, .bf16⟩
  | .hbm, ⟨13, _⟩ => ⟨S4x2048x3072, .bf16⟩
  | .hbm, ⟨14, _⟩ => ⟨S4x2048x512, .bf16⟩
  | .hbm, ⟨15, _⟩ => ⟨S4x2048x2048, .bf16⟩
  | .hbm, ⟨16, _⟩ => ⟨S4x1x1024, .f32⟩
  | .hbm, ⟨17, _⟩ => ⟨S4x2048x1024, .f32⟩
  | .hbm, ⟨18, _⟩ => ⟨S4x1x1024, .f32⟩
  | .hbm, ⟨19, _⟩ => ⟨S4x1x1024, .f32⟩
  | .hbm, ⟨20, _⟩ => ⟨S1x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1024x3072, .bf16⟩
  | .local _ .vmem, ⟨21, _⟩ => ⟨S1024x512, .bf16⟩
  | .local _ .vmem, ⟨22, _⟩ => ⟨S1024x2048, .bf16⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_41 : BitVec 32 := 0#32
  let v66 : BitVec 1 := Scalar.cmpi .eq arg1 c0_i32_41
  let v67 : BitVec 32 := Scalar.extui v66
  let c0_i32_42 : BitVec 32 := 0#32
  let v68 : BitVec 1 := Scalar.cmpi .ne v67 c0_i32_42
  v68

def k0_cond3 (i : grid0.Coords) : BitVec 1 :=
  let arg1 : BitVec 32 := BitVec.ofNat 32 (i 1).val
  let c0_i32_43 : BitVec 32 := 0#32
  let v69 : BitVec 1 := Scalar.cmpi .sgt arg1 c0_i32_43
  let v70 : BitVec 32 := Scalar.extui v69
  let c0_i32_44 : BitVec 32 := 0#32
  let v71 : BitVec 1 := Scalar.cmpi .ne v70 c0_i32_44
  v71

def k0_cond4 (i : grid0.Coords) : BitVec 1 :=
  let arg1 : BitVec 32 := BitVec.ofNat 32 (i 1).val
  let c0_i32_45 : BitVec 32 := 0#32
  let v72 : BitVec 1 := Scalar.cmpi .eq arg1 c0_i32_45
  let arg0 : BitVec 32 := BitVec.ofNat 32 (i 0).val
  let c0_i32_46 : BitVec 32 := 0#32
  let v73 : BitVec 1 := Scalar.cmpi .eq arg0 c0_i32_46
  let v74 : BitVec 1 := Scalar.andi v72 v73
  let v75 : BitVec 32 := Scalar.extui v74
  let c0_i32_47 : BitVec 32 := 0#32
  let v76 : BitVec 1 := Scalar.cmpi .ne v75 c0_i32_47
  v76

def k0_cond5 (i : grid0.Coords) : BitVec 1 :=
  let arg1 : BitVec 32 := BitVec.ofNat 32 (i 1).val
  let c0_i32_48 : BitVec 32 := 0#32
  let v77 : BitVec 1 := Scalar.cmpi .sgt arg1 c0_i32_48
  let arg0 : BitVec 32 := BitVec.ofNat 32 (i 0).val
  let c0_i32_49 : BitVec 32 := 0#32
  let v78 : BitVec 1 := Scalar.cmpi .sgt arg0 c0_i32_49
  let v79 : BitVec 1 := Scalar.ori v77 v78
  let v80 : BitVec 32 := Scalar.extui v79
  let c0_i32_50 : BitVec 32 := 0#32
  let v81 : BitVec 1 := Scalar.cmpi .ne v80 c0_i32_50
  v81

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceMixNormIdeal.lean ====
abbrev S4x2048x3072 : Shape := ⟨3, ![4, 2048, 3072]⟩
abbrev S4x2048x512 : Shape := ⟨3, ![4, 2048, 512]⟩
abbrev S4x2048x2048 : Shape := ⟨3, ![4, 2048, 2048]⟩
abbrev S1x1024x5632 : Shape := ⟨3, ![1, 1024, 5632]⟩
abbrev S4x2048x1024 : Shape := ⟨3, ![4, 2048, 1024]⟩
abbrev S1x1024 : Shape := ⟨2, ![1, 1024]⟩
abbrev S4x1024 : Shape := ⟨2, ![4, 1024]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x1x1024 : Shape := ⟨3, ![4, 1, 1024]⟩
abbrev S1024x5632 : Shape := ⟨2, ![1024, 5632]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x512, .f32⟩
  | .hbm, ⟨2, _⟩ => ⟨S4x2048x2048, .f32⟩
  | .hbm, ⟨3, _⟩ => ⟨S1x1024x5632, .f32⟩
  | .hbm, ⟨4, _⟩ => ⟨S4x2048x1024, .f32⟩
  | .hbm, ⟨5, _⟩ => ⟨S1x1024, .f32⟩
  | .hbm, ⟨6, _⟩ => ⟨S4x1024, .f32⟩
  | .hbm, ⟨7, _⟩ => ⟨S4x2048x1024, .f32⟩
  | .hbm, ⟨8, _⟩ => ⟨S4x2048x5632, .f32⟩
  | .hbm, ⟨9, _⟩ => ⟨S_, .f32⟩
  | .hbm, ⟨10, _⟩ => ⟨S4x1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x2048x1024, .f32⟩
  | .hbm, ⟨37, _⟩ => ⟨S4x2048x1024, .f32⟩
  | .hbm, ⟨38, _⟩ => ⟨S4x1x1024, .f32⟩
  | .hbm, ⟨39, _⟩ => ⟨S4x2048x1024, .f32⟩
  | .hbm, ⟨40, _⟩ => ⟨S4x2048x1024, .f32⟩
  | .hbm, ⟨41, _⟩ => ⟨S1024x5632, .f32⟩
  | .hbm, ⟨42, _⟩ => ⟨S4x2048x5632, .f32⟩
  | .hbm, ⟨43, _⟩ => ⟨S4x2048x1024, .f32⟩
  | .hbm, ⟨44, _⟩ => ⟨S_, .f32⟩
  | .hbm, ⟨45, _⟩ => ⟨S4x1024, .f32⟩
  | .hbm, ⟨46, _⟩ => ⟨S4x1x1024, .f32⟩
  | .hbm, ⟨47, _⟩ => ⟨S_, .f32⟩
  | .hbm, ⟨48, _⟩ => ⟨S4x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x1x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S4x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4x2048x1024, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1, .f32⟩
  | .hbm, ⟨74, _⟩ => ⟨S_, .f32⟩
  | .hbm, ⟨75, _⟩ => ⟨S4x2048x1, .f32⟩
  | .hbm, ⟨76, _⟩ => ⟨S4x2048x1, .f32⟩
  | .hbm, ⟨77, _⟩ => ⟨S_, .f32⟩
  | .hbm, ⟨78, _⟩ => ⟨S4x2048, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S4x1x1024, .f32⟩
  | .hbm, ⟨85, _⟩ => ⟨S4x1x1024, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== KernelFfnNorm.lean ====
abbrev S4x2048x2816 : Shape := ⟨3, ![4, 2048, 2816]⟩
abbrev S1x1024x2816 : Shape := ⟨3, ![1, 1024, 2816]⟩
abbrev S4x2048x1024 : Shape := ⟨3, ![4, 2048, 1024]⟩
abbrev S1x1024 : Shape := ⟨2, ![1, 1024]⟩
abbrev S4x1024 : Shape := ⟨2, ![4, 1024]⟩
abbrev S1x2816x1024 : Shape := ⟨3, ![1, 2816, 1024]⟩
abbrev S2816x1024 : Shape := ⟨2, ![2816, 1024]⟩
abbrev S4x1x1024 : Shape := ⟨3, ![4, 1, 1024]⟩
abbrev S1x512x2816 : Shape := ⟨3, ![1, 512, 2816]⟩
abbrev S1x512x1024 : Shape := ⟨3, ![1, 512, 1024]⟩
abbrev S1x1x1024 : Shape := ⟨3, ![1, 1, 1024]⟩
abbrev S_ : Shape := ⟨0, ![]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 21
  | .vmem => 20
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S1x1024x2816, .f32⟩
  | .hbm, ⟨3, _⟩ => ⟨S1x1024x2816, .f32⟩
  | .hbm, ⟨4, _⟩ => ⟨S4x2048x1024, .f32⟩
  | .hbm, ⟨5, _⟩ => ⟨S1x1024, .f32⟩
  | .hbm, ⟨6, _⟩ => ⟨S4x1024, .f32⟩
  | .hbm, ⟨7, _⟩ => ⟨S4x2048x1024, .f32⟩
  | .hbm, ⟨8, _⟩ => ⟨S1x2816x1024, .f32⟩
  | .hbm, ⟨9, _⟩ => ⟨S2816x1024, .f32⟩
  | .hbm, ⟨10, _⟩ => ⟨S2816x1024, .bf16⟩
  | .hbm, ⟨11, _⟩ => ⟨S1x2816x1024, .f32⟩
  | .hbm, ⟨12, _⟩ => ⟨S2816x1024, .f32⟩
  | .hbm, ⟨13, _⟩ => ⟨S2816x1024, .bf16⟩
  | .hbm, ⟨14, _⟩ => ⟨S4x2048x2816, .bf16⟩
  | .hbm, ⟨15, _⟩ => ⟨S4x2048x2816, .bf16⟩
  | .hbm, ⟨16, _⟩ => ⟨S4x1x1024, .f32⟩
  | .hbm, ⟨17, _⟩ => ⟨S4x2048x1024, .f32⟩
  | .hbm, ⟨18, _⟩ => ⟨S4x1x1024, .f32⟩
  | .hbm, ⟨19, _⟩ => ⟨S4x1x1024, .f32⟩
  | .hbm, ⟨20, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S2816x1024, .bf16⟩
  | .local _ .vmem, ⟨19, _⟩ => ⟨S2816x1024, .bf16⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_35 : BitVec 32 := 0#32
  let v61 : BitVec 1 := Scalar.cmpi .eq arg1 c0_i32_35
  let v62 : BitVec 32 := Scalar.extui v61
  let c0_i32_36 : BitVec 32 := 0#32
  let v63 : BitVec 1 := Scalar.cmpi .ne v62 c0_i32_36
  v63

def k0_cond3 (i : grid0.Coords) : BitVec 1 :=
  let arg1 : BitVec 32 := BitVec.ofNat 32 (i 1).val
  let c0_i32_37 : BitVec 32 := 0#32
  let v64 : BitVec 1 := Scalar.cmpi .sgt arg1 c0_i32_37
  let v65 : BitVec 32 := Scalar.extui v64
  let c0_i32_38 : BitVec 32 := 0#32
  let v66 : BitVec 1 := Scalar.cmpi .ne v65 c0_i32_38
  v66

def k0_cond4 (i : grid0.Coords) : BitVec 1 :=
  let arg1 : BitVec 32 := BitVec.ofNat 32 (i 1).val
  let c0_i32_39 : BitVec 32 := 0#32
  let v67 : BitVec 1 := Scalar.cmpi .eq arg1 c0_i32_39
  let arg0 : BitVec 32 := BitVec.ofNat 32 (i 0).val
  let c0_i32_40 : BitVec 32 := 0#32
  let v68 : BitVec 1 := Scalar.cmpi .eq arg0 c0_i32_40
  let v69 : BitVec 1 := Scalar.andi v67 v68
  let v70 : BitVec 32 := Scalar.extui v69
  let c0_i32_41 : BitVec 32 := 0#32
  let v71 : BitVec 1 := Scalar.cmpi .ne v70 c0_i32_41
  v71

def k0_cond5 (i : grid0.Coords) : BitVec 1 :=
  let arg1 : BitVec 32 := BitVec.ofNat 32 (i 1).val
  let c0_i32_42 : BitVec 32 := 0#32
  let v72 : BitVec 1 := Scalar.cmpi .sgt arg1 c0_i32_42
  let arg0 : BitVec 32 := BitVec.ofNat 32 (i 0).val
  let c0_i32_43 : BitVec 32 := 0#32
  let v73 : BitVec 1 := Scalar.cmpi .sgt arg0 c0_i32_43
  let v74 : BitVec 1 := Scalar.ori v72 v73
  let v75 : BitVec 32 := Scalar.extui v74
  let c0_i32_44 : BitVec 32 := 0#32
  let v76 : BitVec 1 := Scalar.cmpi .ne v75 c0_i32_44
  v76

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceFfnNormIdeal.lean ====
abbrev S4x2048x2816 : Shape := ⟨3, ![4, 2048, 2816]⟩
abbrev S1x1024x2816 : Shape := ⟨3, ![1, 1024, 2816]⟩
abbrev S4x2048x1024 : Shape := ⟨3, ![4, 2048, 1024]⟩
abbrev S1x1024 : Shape := ⟨2, ![1, 1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x1x1024 : Shape := ⟨3, ![4, 1, 1024]⟩
abbrev S1024x2816 : Shape := ⟨2, ![1024, 2816]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S1x1024x2816, .f32⟩
  | .hbm, ⟨3, _⟩ => ⟨S1x1024x2816, .f32⟩
  | .hbm, ⟨4, _⟩ => ⟨S4x2048x1024, .f32⟩
  | .hbm, ⟨5, _⟩ => ⟨S1x1024, .f32⟩
  | .hbm, ⟨6, _⟩ => ⟨S4x1024, .f32⟩
  | .hbm, ⟨7, _⟩ => ⟨S4x2048x1024, .f32⟩
  | .hbm, ⟨8, _⟩ => ⟨S_, .f32⟩
  | .hbm, ⟨9, _⟩ => ⟨S4x1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S4x1x1024, .f32⟩
  | .hbm, ⟨38, _⟩ => ⟨S4x2048x1024, .f32⟩
  | .hbm, ⟨39, _⟩ => ⟨S4x2048x1024, .f32⟩
  | .hbm, ⟨40, _⟩ => ⟨S1024x2816, .f32⟩
  | .hbm, ⟨41, _⟩ => ⟨S4x2048x2816, .f32⟩
  | .hbm, ⟨42, _⟩ => ⟨S1024x2816, .f32⟩
  | .hbm, ⟨43, _⟩ => ⟨S4x2048x2816, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x1024, .f32⟩
  | .hbm, ⟨49, _⟩ => ⟨S4x1x1024, .f32⟩
  | .hbm, ⟨50, _⟩ => ⟨S_, .f32⟩
  | .hbm, ⟨51, _⟩ => ⟨S4x1024, .f32⟩
  | .hbm, ⟨52, _⟩ => ⟨S4x2048x1024, .f32⟩
  | .hbm, ⟨53, _⟩ => ⟨S_, .f32⟩
  | .hbm, ⟨54, _⟩ => ⟨S4x1024, .f32⟩
  | .hbm, ⟨55, _⟩ => ⟨S4x1x1024, .f32⟩
  | .hbm, ⟨56, _⟩ => ⟨S4x2048x1024, .f32⟩
  | .hbm, ⟨57, _⟩ => ⟨S4x2048x1024, .f32⟩
  | .hbm, ⟨58, _⟩ => ⟨S_, .f32⟩
  | .hbm, ⟨59, _⟩ => ⟨S4x1024, .f32⟩
  | .hbm, ⟨60, _⟩ => ⟨S4x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4x2048x1024, .f32⟩
  | .hbm, ⟨70, _⟩ => ⟨S_, .f32⟩
  | .hbm, ⟨71, _⟩ => ⟨S4x2048, .f32⟩
  | .hbm, ⟨72, _⟩ => ⟨S4x2048x1, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1, .f32⟩
  | .hbm, ⟨77, _⟩ => ⟨S_, .f32⟩
  | .hbm, ⟨78, _⟩ => ⟨S4x2048x1, .f32⟩
  | .hbm, ⟨79, _⟩ => ⟨S4x2048x1, .f32⟩
  | .hbm, ⟨80, _⟩ => ⟨S_, .f32⟩
  | .hbm, ⟨81, _⟩ => ⟨S4x2048, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S4x1x1024, .f32⟩
  | .hbm, ⟨88, _⟩ => ⟨S4x1x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== KernelConv.lean ====
abbrev S4x2048x1024 : Shape := ⟨3, ![4, 2048, 1024]⟩
abbrev S1x1024x1024 : Shape := ⟨3, ![1, 1024, 1024]⟩
abbrev S4x2048x3072 : Shape := ⟨3, ![4, 2048, 3072]⟩
abbrev S1x3x1024 : Shape := ⟨3, ![1, 3, 1024]⟩
abbrev S3x1024 : Shape := ⟨2, ![3, 1024]⟩
abbrev S_ : Shape := ⟨0, ![]⟩
abbrev S8x1024 : Shape := ⟨2, ![8, 1024]⟩
abbrev S1024x1024 : Shape := ⟨2, ![1024, 1024]⟩
abbrev S1x512x1024 : Shape := ⟨3, ![1, 512, 1024]⟩
abbrev S1x16x1024 : Shape := ⟨3, ![1, 16, 1024]⟩
abbrev S1x512x3072 : Shape := ⟨3, ![1, 512, 3072]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩
abbrev S528x1 : Shape := ⟨2, ![528, 1]⟩
abbrev S1024 : Shape := ⟨1, ![1024]⟩
abbrev S5x1024 : Shape := ⟨2, ![5, 1024]⟩

abbrev nBuf : Space → Nat
  | .hbm => 14
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1x1024x1024, .f32⟩
  | .hbm, ⟨2, _⟩ => ⟨S4x2048x3072, .f32⟩
  | .hbm, ⟨3, _⟩ => ⟨S1x3x1024, .f32⟩
  | .hbm, ⟨4, _⟩ => ⟨S3x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S4x2048x1024, .bf16⟩
  | .hbm, ⟨9, _⟩ => ⟨S1024x1024, .f32⟩
  | .hbm, ⟨10, _⟩ => ⟨S1024x1024, .bf16⟩
  | .hbm, ⟨11, _⟩ => ⟨S4x2048x3072, .bf16⟩
  | .hbm, ⟨12, _⟩ => ⟨S4x2048x3072, .bf16⟩
  | .hbm, ⟨13, _⟩ => ⟨S8x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x16x1024, .bf16⟩
  | .local _ .vmem, ⟨8, _⟩ => ⟨S1x16x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x16x1024, .bf16⟩
  | .local _ .vmem, ⟨14, _⟩ => ⟨S1x16x1024, .bf16⟩
  | .local _ .vmem, ⟨15, _⟩ => ⟨S1x16x1024, .bf16⟩
  | .local _ .vmem, ⟨16, _⟩ => ⟨S1x16x1024, .bf16⟩
  | .local _ .vmem, ⟨17, _⟩ => ⟨S8x1024, .f32⟩
  | .local _ .vmem, ⟨18, _⟩ => ⟨S1x512x3072, .bf16⟩
  | .local _ .vmem, ⟨19, _⟩ => ⟨S1x512x3072, .bf16⟩
  | .local _ .vmem, ⟨20, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_40 : BitVec 32 := 0#32
  let v103 : BitVec 1 := Scalar.cmpi .eq arg1 c0_i32_40
  let arg0 : BitVec 32 := BitVec.ofNat 32 (i 0).val
  let c0_i32_41 : BitVec 32 := 0#32
  let v104 : BitVec 1 := Scalar.cmpi .eq arg0 c0_i32_41
  let v105 : BitVec 1 := Scalar.andi v103 v104
  let v106 : BitVec 32 := Scalar.extui v105
  let c0_i32_42 : BitVec 32 := 0#32
  let v107 : BitVec 1 := Scalar.cmpi .ne v106 c0_i32_42
  v107

def k0_cond2 (i : grid0.Coords) : BitVec 1 :=
  let arg1 : BitVec 32 := BitVec.ofNat 32 (i 1).val
  let c0_i32_43 : BitVec 32 := 0#32
  let v108 : BitVec 1 := Scalar.cmpi .sgt arg1 c0_i32_43
  let arg0 : BitVec 32 := BitVec.ofNat 32 (i 0).val
  let c0_i32_44 : BitVec 32 := 0#32
  let v109 : BitVec 1 := Scalar.cmpi .sgt arg0 c0_i32_44
  let v110 : BitVec 1 := Scalar.ori v108 v109
  let v111 : BitVec 32 := Scalar.extui v110
  let c0_i32_45 : BitVec 32 := 0#32
  let v112 : BitVec 1 := Scalar.cmpi .ne v111 c0_i32_45
  v112

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceConvIdeal.lean ====
abbrev S4x2048x1024 : Shape := ⟨3, ![4, 2048, 1024]⟩
abbrev S1x1024x1024 : Shape := ⟨3, ![1, 1024, 1024]⟩
abbrev S4x2048x3072 : Shape := ⟨3, ![4, 2048, 3072]⟩
abbrev S1x3x1024 : Shape := ⟨3, ![1, 3, 1024]⟩
abbrev S3x1024 : Shape := ⟨2, ![3, 1024]⟩
abbrev S4x2x1024 : Shape := ⟨3, ![4, 2, 1024]⟩
abbrev S_ : Shape := ⟨0, ![]⟩
abbrev S4x2046x1024 : Shape := ⟨3, ![4, 2046, 1024]⟩
abbrev S4x1x1024 : Shape := ⟨3, ![4, 1, 1024]⟩
abbrev S4x2047x1024 : Shape := ⟨3, ![4, 2047, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩
abbrev S5x1024 : Shape := ⟨2, ![5, 1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024x1024, .f32⟩
  | .hbm, ⟨2, _⟩ => ⟨S4x2048x3072, .f32⟩
  | .hbm, ⟨3, _⟩ => ⟨S1x3x1024, .f32⟩
  | .hbm, ⟨4, _⟩ => ⟨S3x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2x1024, .f32⟩
  | .hbm, ⟨10, _⟩ => ⟨S_, .f32⟩
  | .hbm, ⟨11, _⟩ => ⟨S4x2x1024, .f32⟩
  | .hbm, ⟨12, _⟩ => ⟨S4x2046x1024, .f32⟩
  | .hbm, ⟨13, _⟩ => ⟨S4x2048x1024, .f32⟩
  | .hbm, ⟨14, _⟩ => ⟨S_, .f32⟩
  | .hbm, ⟨15, _⟩ => ⟨S4x2x1024, .f32⟩
  | .hbm, ⟨16, _⟩ => ⟨S4x1x1024, .f32⟩
  | .hbm, ⟨17, _⟩ => ⟨S_, .f32⟩
  | .hbm, ⟨18, _⟩ => ⟨S4x1x1024, .f32⟩
  | .hbm, ⟨19, _⟩ => ⟨S4x2047x1024, .f32⟩
  | .hbm, ⟨20, _⟩ => ⟨S4x2048x1024, .f32⟩
  | .hbm, ⟨21, _⟩ => ⟨S_, .f32⟩
  | .hbm, ⟨22, _⟩ => ⟨S4x1x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S1024x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S3x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S4x2048x1024, .f32⟩
  | .hbm, ⟨70, _⟩ => ⟨S_, .f32⟩
  | .hbm, ⟨71, _⟩ => ⟨S1024, .f32⟩
  | .hbm, ⟨72, _⟩ => ⟨S1x1x1024, .f32⟩
  | .hbm, ⟨73, _⟩ => ⟨S4x2048x1024, .f32⟩
  | .hbm, ⟨74, _⟩ => ⟨S4x2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S4x1x1024, .f32⟩
  | .hbm, ⟨82, _⟩ => ⟨S4x2047x1024, .f32⟩
  | .hbm, ⟨83, _⟩ => ⟨S_, .f32⟩
  | .hbm, ⟨84, _⟩ => ⟨S4x2048x1024, .f32⟩
  | .hbm, ⟨85, _⟩ => ⟨S4x2048x1024, .f32⟩
  | .hbm, ⟨86, _⟩ => ⟨S4x2x1024, .f32⟩
  | .hbm, ⟨87, _⟩ => ⟨S4x2046x1024, .f32⟩
  | .hbm, ⟨88, _⟩ => ⟨S_, .f32⟩
  | .hbm, ⟨89, _⟩ => ⟨S4x2048x1024, .f32⟩
  | .hbm, ⟨90, _⟩ => ⟨S4x2048x1024, .f32⟩
  | .hbm, ⟨91, _⟩ => ⟨S4x2048x1024, .f32⟩
  | .hbm, ⟨92, _⟩ => ⟨S4x2048x1024, .f32⟩
  | .hbm, ⟨93, _⟩ => ⟨S4x2048x3072, .f32⟩
  | .hbm, ⟨94, _⟩ => ⟨S4x2048x3072, .bf16⟩
  | .hbm, ⟨95, _⟩ => ⟨S_, .f32⟩
  | .hbm, ⟨96, _⟩ => ⟨S5x1024, .f32⟩
  | .hbm, ⟨97, _⟩ => ⟨S8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== KernelMerge.lean ====
abbrev S4x2048x1024 : Shape := ⟨3, ![4, 2048, 1024]⟩
abbrev S4x2048x2048 : Shape := ⟨3, ![4, 2048, 2048]⟩
abbrev S1x1024x1024 : Shape := ⟨3, ![1, 1024, 1024]⟩
abbrev S4x1024 : Shape := ⟨2, ![4, 1024]⟩
abbrev S1024x1024 : Shape := ⟨2, ![1024, 1024]⟩
abbrev S_ : Shape := ⟨0, ![]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S1x1024 : Shape := ⟨2, ![1, 1024]⟩
abbrev S1024 : Shape := ⟨1, ![1024]⟩

abbrev nBuf : Space → Nat
  | .hbm => 45
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x1024x1024, .f32⟩
  | .hbm, ⟨4, _⟩ => ⟨S4x1024, .f32⟩
  | .hbm, ⟨5, _⟩ => ⟨S4x2048x1024, .f32⟩
  | .hbm, ⟨6, _⟩ => ⟨S4x2048x1024, .bf16⟩
  | .hbm, ⟨7, _⟩ => ⟨S4x2048x1024, .bf16⟩
  | .hbm, ⟨8, _⟩ => ⟨S4x2048x2048, .bf16⟩
  | .hbm, ⟨9, _⟩ => ⟨S1024x1024, .f32⟩
  | .hbm, ⟨10, _⟩ => ⟨S1024x1024, .bf16⟩
  | .hbm, ⟨11, _⟩ => ⟨S4x2048x1024, .bf16⟩
  | .hbm, ⟨12, _⟩ => ⟨S4x2048x1024, .f32⟩
  | .hbm, ⟨13, _⟩ => ⟨S4x2048x1024, .bf16⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .bf16⟩
  | .hbm, ⟨37, _⟩ => ⟨S4x2048x1024, .f32⟩
  | .hbm, ⟨38, _⟩ => ⟨S4x2048x1024, .bf16⟩
  | .hbm, ⟨39, _⟩ => ⟨S4x1x1024, .f32⟩
  | .hbm, ⟨40, _⟩ => ⟨S4x2048x1024, .bf16⟩
  | .hbm, ⟨41, _⟩ => ⟨S4x2048x1024, .bf16⟩
  | .hbm, ⟨42, _⟩ => ⟨S4x2048x1024, .bf16⟩
  | .hbm, ⟨43, _⟩ => ⟨S4x2048x2048, .bf16⟩
  | .hbm, ⟨44, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1024x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x2048, .bf16⟩
  | .local _ .vmem, ⟨22, _⟩ => ⟨S1x512x2048, .bf16⟩
  | .local _ .vmem, ⟨23, _⟩ => ⟨S1x1x1024, .f32⟩
  | .local _ .vmem, ⟨24, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev main_v30_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg1 : BitVec 32 := BitVec.ofNat 32 (i 1).val
  let c0_i32_12 : BitVec 32 := 0#32
  let v19 : BitVec 1 := Scalar.cmpi .sgt arg1 c0_i32_12
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceMergeIdeal.lean ====
abbrev S4x2048x1024 : Shape := ⟨3, ![4, 2048, 1024]⟩
abbrev S4x2048x2048 : Shape := ⟨3, ![4, 2048, 2048]⟩
abbrev S1x1024x1024 : Shape := ⟨3, ![1, 1024, 1024]⟩
abbrev S4x1024 : Shape := ⟨2, ![4, 1024]⟩
abbrev S_ : Shape := ⟨0, ![]⟩
abbrev S4x1x1024 : Shape := ⟨3, ![4, 1, 1024]⟩
abbrev S1024x1024 : Shape := ⟨2, ![1024, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x1024x1024, .f32⟩
  | .hbm, ⟨4, _⟩ => ⟨S4x1024, .f32⟩
  | .hbm, ⟨5, _⟩ => ⟨S4x2048x1024, .f32⟩
  | .hbm, ⟨6, _⟩ => ⟨S_, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x1x1024, .f32⟩
  | .hbm, ⟨38, _⟩ => ⟨S1024x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x1024, .f32⟩
  | .hbm, ⟨48, _⟩ => ⟨S4x1x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S4x2048x2048, .f32⟩
  | .hbm, ⟨59, _⟩ => ⟨S4x2048x1024, .bf16⟩
  | .hbm, ⟨60, _⟩ => ⟨S4x2048x1024, .bf16⟩
  | .hbm, ⟨61, _⟩ => ⟨S4x2048x1024, .bf16⟩
  | .hbm, ⟨62, _⟩ => ⟨S4x2048x2048, .bf16⟩
  | .hbm, ⟨63, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== KernelAda.lean ====
abbrev S32x1024 : Shape := ⟨2, ![32, 1024]⟩
abbrev S32x9216 : Shape := ⟨2, ![32, 9216]⟩
abbrev S32x2304 : Shape := ⟨2, ![32, 2304]⟩
abbrev S1024x2304 : Shape := ⟨2, ![1024, 2304]⟩
abbrev S1x9216 : Shape := ⟨2, ![1, 9216]⟩
abbrev S9216 : Shape := ⟨1, ![9216]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S32x9216, .f32⟩
  | .hbm, ⟨2, _⟩ => ⟨S32x2304, .f32⟩
  | .hbm, ⟨3, _⟩ => ⟨S1024x2304, .f32⟩
  | .hbm, ⟨4, _⟩ => ⟨S1x9216, .f32⟩
  | .local _ .vmem, ⟨0, _⟩ => ⟨S32x1024, .f32⟩
  | .local _ .vmem, ⟨1, _⟩ => ⟨S32x2304, .f32⟩
  | .local _ .vmem, ⟨2, _⟩ => ⟨S32x9216, .f32⟩
  | .local _ .vmem, ⟨3, _⟩ => ⟨S1024x2304, .f32⟩
  | .local _ .vmem, ⟨4, _⟩ => ⟨S1x9216, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceAdaIdeal.lean ====
abbrev S32x1024 : Shape := ⟨2, ![32, 1024]⟩
abbrev S32x9216 : Shape := ⟨2, ![32, 9216]⟩
abbrev S_ : Shape := ⟨0, ![]⟩
abbrev S1024x9216 : Shape := ⟨2, ![1024, 9216]⟩
abbrev S9216 : Shape := ⟨1, ![9216]⟩
abbrev S1x9216 : Shape := ⟨2, ![1, 9216]⟩
abbrev S9216x1024 : Shape := ⟨2, ![9216, 1024]⟩
abbrev S1024x2304 : Shape := ⟨2, ![1024, 2304]⟩

abbrev nBuf : Space → Nat
  | .hbm => 29
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x9216, .f32⟩
  | .hbm, ⟨2, _⟩ => ⟨S_, .f32⟩
  | .hbm, ⟨3, _⟩ => ⟨S1024x9216, .f32⟩
  | .hbm, ⟨4, _⟩ => ⟨S_, .f32⟩
  | .hbm, ⟨5, _⟩ => ⟨S9216, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x9216, .f32⟩
  | .hbm, ⟨16, _⟩ => ⟨S1x9216, .f32⟩
  | .hbm, ⟨17, _⟩ => ⟨S32x9216, .f32⟩
  | .hbm, ⟨18, _⟩ => ⟨S32x9216, .f32⟩
  | .hbm, ⟨19, _⟩ => ⟨S32x9216, .f32⟩
  | .hbm, ⟨20, _⟩ => ⟨S_, .f32⟩
  | .hbm, ⟨21, _⟩ => ⟨S9216, .f32⟩
  | .hbm, ⟨22, _⟩ => ⟨S1x9216, .f32⟩
  | .hbm, ⟨23, _⟩ => ⟨S_, .f32⟩
  | .hbm, ⟨24, _⟩ => ⟨S9216, .f32⟩
  | .hbm, ⟨25, _⟩ => ⟨S9216x1024, .f32⟩
  | .hbm, ⟨26, _⟩ => ⟨S1024x9216, .f32⟩
  | .hbm, ⟨27, _⟩ => ⟨S1024x2304, .f32⟩
  | .hbm, ⟨28, _⟩ => ⟨S1x9216, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== KernelDisc.lean ====
abbrev S1x32x64 : Shape := ⟨3, ![1, 32, 64]⟩
abbrev S1x32 : Shape := ⟨2, ![1, 32]⟩
abbrev S1x32x64x16 : Shape := ⟨4, ![1, 32, 64, 16]⟩
abbrev S1x2048 : Shape := ⟨2, ![1, 2048]⟩
abbrev S16x2048 : Shape := ⟨2, ![16, 2048]⟩
abbrev S32x1 : Shape := ⟨2, ![32, 1]⟩
abbrev S32x64 : Shape := ⟨2, ![32, 64]⟩
abbrev S32x64x16 : Shape := ⟨3, ![32, 64, 16]⟩
abbrev S16x32x64 : Shape := ⟨3, ![16, 32, 64]⟩
abbrev S2048 : Shape := ⟨1, ![2048]⟩

abbrev nBuf : Space → Nat
  | .hbm => 25
  | .vmem => 14
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S1x2048, .f32⟩
  | .hbm, ⟨6, _⟩ => ⟨S1x2048, .f32⟩
  | .hbm, ⟨7, _⟩ => ⟨S16x2048, .f32⟩
  | .hbm, ⟨8, _⟩ => ⟨S16x2048, .f32⟩
  | .hbm, ⟨9, _⟩ => ⟨S1x2048, .f32⟩
  | .hbm, ⟨10, _⟩ => ⟨S1x2048, .f32⟩
  | .hbm, ⟨11, _⟩ => ⟨S32x1, .f32⟩
  | .hbm, ⟨12, _⟩ => ⟨S32x64, .f32⟩
  | .hbm, ⟨13, _⟩ => ⟨S1x2048, .f32⟩
  | .hbm, ⟨14, _⟩ => ⟨S32x64x16, .f32⟩
  | .hbm, ⟨15, _⟩ => ⟨S16x32x64, .f32⟩
  | .hbm, ⟨16, _⟩ => ⟨S16x2048, .f32⟩
  | .hbm, ⟨17, _⟩ => ⟨S32x64x16, .f32⟩
  | .hbm, ⟨18, _⟩ => ⟨S16x32x64, .f32⟩
  | .hbm, ⟨19, _⟩ => ⟨S16x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S16x2048, .f32⟩
  | .hbm, ⟨24, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S16x2048, .f32⟩
  | .local _ .vmem, ⟨13, _⟩ => ⟨S16x2048, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceDiscIdeal.lean ====
abbrev S1x32x64 : Shape := ⟨3, ![1, 32, 64]⟩
abbrev S1x32 : Shape := ⟨2, ![1, 32]⟩
abbrev S1x32x64x16 : Shape := ⟨4, ![1, 32, 64, 16]⟩
abbrev S1x2048 : Shape := ⟨2, ![1, 2048]⟩
abbrev S16x2048 : Shape := ⟨2, ![16, 2048]⟩
abbrev S32x64 : Shape := ⟨2, ![32, 64]⟩
abbrev S32 : Shape := ⟨1, ![32]⟩
abbrev S32x1 : Shape := ⟨2, ![32, 1]⟩
abbrev S32x64x16 : Shape := ⟨3, ![32, 64, 16]⟩
abbrev S_ : Shape := ⟨0, ![]⟩
abbrev S32x64x1 : Shape := ⟨3, ![32, 64, 1]⟩
abbrev S16x32x64 : Shape := ⟨3, ![16, 32, 64]⟩

abbrev nBuf : Space → Nat
  | .hbm => 159
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S1x2048, .f32⟩
  | 6 => ⟨S1x2048, .f32⟩
  | 7 => ⟨S16x2048, .f32⟩
  | 8 => ⟨S16x2048, .f32⟩
  | 9 => ⟨S32x64, .f32⟩
  | 10 => ⟨S32x64, .f32⟩
  | 11 => ⟨S32, .f32⟩
  | 12 => ⟨S32x1, .f32⟩
  | 13 => ⟨S32x64, .f32⟩
  | 14 => ⟨S32x64x16, .f32⟩
  | 15 => ⟨S32x64x16, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S_, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S_, .f32⟩
  | 49 => ⟨S32x64, .f32⟩
  | 50 => ⟨S32x64, .f32⟩
  | 51 => ⟨S32x64x1, .f32⟩
  | 52 => ⟨S32x64x1, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64, .f32⟩
  | 64 => ⟨S32x64, .f32⟩
  | 65 => ⟨S16x32x64, .f32⟩
  | 66 => ⟨S32x64x16, .f32⟩
  | 67 => ⟨S16x32x64, .f32⟩
  | 68 => ⟨S32x64x16, .f32⟩
  | 69 => ⟨S32x64x16, .f32⟩
  | 70 => ⟨S32x64x16, .f32⟩
  | 71 => ⟨S32x64x16, .f32⟩
  | 72 => ⟨S_, .f32⟩
  | 73 => ⟨S32x64, .f32⟩
  | 74 => ⟨S32x64x1, .f32⟩
  | 75 => ⟨S32x64x16, .f32⟩
  | 76 => ⟨S32x64x16, .f32⟩
  | 77 => ⟨S32x64x16, .f32⟩
  | 78 => ⟨S_, .f32⟩
  | 79 => ⟨S32x64, .f32⟩
  | 80 => ⟨S32x64x1, .f32⟩
  | 81 => ⟨S32x64x16, .f32⟩
  | 82 => ⟨S32x64x16, .f32⟩
  | 83 => ⟨S32x64x16, .f32⟩
  | 84 => ⟨S32x64x16, .f32⟩
  | 85 => ⟨S32x64x16, .f32⟩
  | 86 => ⟨S_, .f32⟩
  | 87 => ⟨S32x64, .f32⟩
  | 88 => ⟨S32x64x1, .f32⟩
  | 89 => ⟨S32x64x1, .f32⟩
  | 90 => ⟨S32x64x16, .f32⟩
  | 91 => ⟨S32x64x16, .f32⟩
  | 92 => ⟨S32x64x16, .f32⟩
  | 93 => ⟨S32x64x16, .f32⟩
  | 94 => ⟨S_, .f32⟩
  | 95 => ⟨S32x64, .f32⟩
  | 96 => ⟨S32x64x1, .f32⟩
  | 97 => ⟨S32x64x1, .f32⟩
  | 98 => ⟨S_, .f32⟩
  | 99 => ⟨S32x64, .f32⟩
  | 100 => ⟨S_, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S1x2048, .f32⟩
  | 25 => ⟨S1x2048, .f32⟩
  | 26 => ⟨S1x2048, .f32⟩
  | 27 => ⟨S16x32x64, .f32⟩
  | 28 => ⟨S16x2048, .f32⟩
  | 29 => ⟨S16x32x64, .f32⟩
  | 30 => ⟨S16x2048, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_3 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_6 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_7 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩

abbrev nD : Nat := 1
abbrev τ : Topo := Topo.v7x

variable {F : FTy → Type} [FloatOps F]
-- ==== KernelHid.lean ====
abbrev S4x2048x1024 : Shape := ⟨3, ![4, 2048, 1024]⟩
abbrev S1x1024x2816 : Shape := ⟨3, ![1, 1024, 2816]⟩
abbrev S1x2816x1024 : Shape := ⟨3, ![1, 2816, 1024]⟩
abbrev S4x1024 : Shape := ⟨2, ![4, 1024]⟩
abbrev S2816x1024 : Shape := ⟨2, ![2816, 1024]⟩
abbrev S1024x2816 : Shape := ⟨2, ![1024, 2816]⟩
abbrev S4x2048x2816 : Shape := ⟨3, ![4, 2048, 2816]⟩
abbrev S_ : Shape := ⟨0, ![]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x512x1408 : Shape := ⟨3, ![1, 512, 1408]⟩
abbrev S512x1024 : Shape := ⟨2, ![512, 1024]⟩
abbrev S1x1024 : Shape := ⟨2, ![1, 1024]⟩
abbrev S1024 : Shape := ⟨1, ![1024]⟩
abbrev S1408x1024 : Shape := ⟨2, ![1408, 1024]⟩
abbrev S512x1408 : Shape := ⟨2, ![512, 1408]⟩

abbrev nBuf : Space → Nat
  | .hbm => 44
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4x1024, .f32⟩
  | .hbm, ⟨5, _⟩ => ⟨S4x2048x1024, .f32⟩
  | .hbm, ⟨6, _⟩ => ⟨S4x2048x1024, .bf16⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S1024x2816, .bf16⟩
  | .hbm, ⟨11, _⟩ => ⟨S4x2048x2816, .f32⟩
  | .hbm, ⟨12, _⟩ => ⟨S1024x2816, .f32⟩
  | .hbm, ⟨13, _⟩ => ⟨S1024x2816, .bf16⟩
  | .hbm, ⟨14, _⟩ => ⟨S4x2048x2816, .f32⟩
  | .hbm, ⟨15, _⟩ => ⟨S4x2048x2816, .f32⟩
  | .hbm, ⟨16, _⟩ => ⟨S4x2048x2816, .f32⟩
  | .hbm, ⟨17, _⟩ => ⟨S_, .f32⟩
  | .hbm, ⟨18, _⟩ => ⟨S4x2048x2816, .f32⟩
  | .hbm, ⟨19, _⟩ => ⟨S4x2048x2816, .f32⟩
  | .hbm, ⟨20, _⟩ => ⟨S_, .f32⟩
  | .hbm, ⟨21, _⟩ => ⟨S4x2048x2816, .f32⟩
  | .hbm, ⟨22, _⟩ => ⟨S4x2048x2816, .f32⟩
  | .hbm, ⟨23, _⟩ => ⟨S4x2048x2816, .f32⟩
  | .hbm, ⟨24, _⟩ => ⟨S_, .f32⟩
  | .hbm, ⟨25, _⟩ => ⟨S4x2048x2816, .f32⟩
  | .hbm, ⟨26, _⟩ => ⟨S4x2048x2816, .f32⟩
  | .hbm, ⟨27, _⟩ => ⟨S4x2048x2816, .f32⟩
  | .hbm, ⟨28, _⟩ => ⟨S_, .f32⟩
  | .hbm, ⟨29, _⟩ => ⟨S4x2048x2816, .f32⟩
  | .hbm, ⟨30, _⟩ => ⟨S4x2048x2816, .f32⟩
  | .hbm, ⟨31, _⟩ => ⟨S4x2048x2816, .f32⟩
  | .hbm, ⟨32, _⟩ => ⟨S4x2048x2816, .f32⟩
  | .hbm, ⟨33, _⟩ => ⟨S4x2048x2816, .bf16⟩
  | .hbm, ⟨34, _⟩ => ⟨S4x2048x2816, .bf16⟩
  | .hbm, ⟨35, _⟩ => ⟨S4x2048x2816, .f32⟩
  | .hbm, ⟨36, _⟩ => ⟨S4x2048x2816, .bf16⟩
  | .hbm, ⟨37, _⟩ => ⟨S4x2048x1024, .f32⟩
  | .hbm, ⟨38, _⟩ => ⟨S4x2048x1024, .bf16⟩
  | .hbm, ⟨39, _⟩ => ⟨S4x1x1024, .f32⟩
  | .hbm, ⟨40, _⟩ => ⟨S4x2048x1024, .bf16⟩
  | .hbm, ⟨41, _⟩ => ⟨S4x2048x2816, .bf16⟩
  | .hbm, ⟨42, _⟩ => ⟨S4x2048x2816, .bf16⟩
  | .hbm, ⟨43, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S2816x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1408, .bf16⟩
  | .local _ .vmem, ⟨14, _⟩ => ⟨S1x512x1408, .bf16⟩
  | .local _ .vmem, ⟨15, _⟩ => ⟨S1x512x1408, .bf16⟩
  | .local _ .vmem, ⟨16, _⟩ => ⟨S1x512x1408, .bf16⟩
  | .local _ .vmem, ⟨17, _⟩ => ⟨S1x1x1024, .f32⟩
  | .local _ .vmem, ⟨18, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 2], ![false, false, false]⟩

def k0_mult1 (i : grid0.Coords) : BitVec 32 :=
  let arg2 : BitVec 32 := BitVec.ofNat 32 (i 2).val
  let c1408_i32 : BitVec 32 := 1408#32
  let v5 : BitVec 32 := Scalar.muli arg2 c1408_i32
  v5
def k0_off1 (i : grid0.Coords) : Fin 2 → Nat :=
  let arg2 : BitVec 32 := BitVec.ofNat 32 (i 2).val
  let c1408_i32 : BitVec 32 := 1408#32
  let v5 : BitVec 32 := Scalar.muli arg2 c1408_i32
  let v6 : BitVec 32 := v5
  let v7 : Index := Scalar.indexCast v6
  let c0_3 : Index := 0#32
  ![v7.toNat, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_31 : BitVec 32 := 0#32
  let v44 : BitVec 1 := Scalar.cmpi .eq arg1 c0_i32_31
  let v45 : BitVec 32 := Scalar.extui v44
  let c0_i32_32 : BitVec 32 := 0#32
  let v46 : BitVec 1 := Scalar.cmpi .ne v45 c0_i32_32
  v46

def k0_cond3 (i : grid0.Coords) : BitVec 1 :=
  let arg1 : BitVec 32 := BitVec.ofNat 32 (i 1).val
  let c0_i32_33 : BitVec 32 := 0#32
  let v47 : BitVec 1 := Scalar.cmpi .sgt arg1 c0_i32_33
  let v48 : BitVec 32 := Scalar.extui v47
  let c0_i32_34 : BitVec 32 := 0#32
  let v49 : BitVec 1 := Scalar.cmpi .ne v48 c0_i32_34
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceHidIdeal.lean ====
abbrev S4x2048x1024 : Shape := ⟨3, ![4, 2048, 1024]⟩
abbrev S1x1024x2816 : Shape := ⟨3, ![1, 1024, 2816]⟩
abbrev S1x2816x1024 : Shape := ⟨3, ![1, 2816, 1024]⟩
abbrev S4x1024 : Shape := ⟨2, ![4, 1024]⟩
abbrev S_ : Shape := ⟨0, ![]⟩
abbrev S4x2048x2816 : Shape := ⟨3, ![4, 2048, 2816]⟩
abbrev S1024x2816 : Shape := ⟨2, ![1024, 2816]⟩
abbrev S4x1x1024 : Shape := ⟨3, ![4, 1, 1024]⟩
abbrev S2816x1024 : Shape := ⟨2, ![2816, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4x1024, .f32⟩
  | .hbm, ⟨5, _⟩ => ⟨S4x2048x1024, .f32⟩
  | .hbm, ⟨6, _⟩ => ⟨S_, .f32⟩
  | .hbm, ⟨7, _⟩ => ⟨S4x2048x2816, .f32⟩
  | .hbm, ⟨8, _⟩ => ⟨S_, .f32⟩
  | .hbm, ⟨9, _⟩ => ⟨S4x2048x1024, .f32⟩
  | .hbm, ⟨10, _⟩ => ⟨S1024x2816, .f32⟩
  | .hbm, ⟨11, _⟩ => ⟨S4x2048x2816, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S_, .f32⟩
  | .hbm, ⟨19, _⟩ => ⟨S4x2048x2816, .f32⟩
  | .hbm, ⟨20, _⟩ => ⟨S4x2048x2816, .f32⟩
  | .hbm, ⟨21, _⟩ => ⟨S_, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S1024x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S4x1x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S2816x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x1024, .f32⟩
  | .hbm, ⟨44, _⟩ => ⟨S4x1x1024, .f32⟩
  | .hbm, ⟨45, _⟩ => ⟨S4x2048x2816, .f32⟩
  | .hbm, ⟨46, _⟩ => ⟨S_, .f32⟩
  | .hbm, ⟨47, _⟩ => ⟨S4x1x1024, .f32⟩
  | .hbm, ⟨48, _⟩ => ⟨S4x1x1024, .f32⟩
  | .hbm, ⟨49, _⟩ => ⟨S_, .f32⟩
  | .hbm, ⟨50, _⟩ => ⟨S4x1024, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x1024, .bf16⟩
  | .hbm, ⟨58, _⟩ => ⟨S4x2048x2816, .bf16⟩
  | .hbm, ⟨59, _⟩ => ⟨S4x2048x2816, .bf16⟩
  | .hbm, ⟨60, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v5_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v5_1 : Ref sig .tc := ⟨.hbm, 24, rfl⟩
abbrev main_v5_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== KernelNormF.lean ====
abbrev S4x2048x1024 : Shape := ⟨3, ![4, 2048, 1024]⟩
abbrev S1x1024 : Shape := ⟨2, ![1, 1024]⟩
abbrev S4x1024 : Shape := ⟨2, ![4, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S4x1024, .f32⟩
  | .hbm, ⟨3, _⟩ => ⟨S4x1024, .f32⟩
  | .hbm, ⟨4, _⟩ => ⟨S4x1x1024, .f32⟩
  | .hbm, ⟨5, _⟩ => ⟨S4x1x1024, .f32⟩
  | .hbm, ⟨6, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceNormFIdeal.lean ====
abbrev S4x2048x1024 : Shape := ⟨3, ![4, 2048, 1024]⟩
abbrev S1x1024 : Shape := ⟨2, ![1, 1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x1x1024 : Shape := ⟨3, ![4, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S4x1024, .f32⟩
  | .hbm, ⟨3, _⟩ => ⟨S4x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== KernelUpF.lean ====
abbrev S4x2048x1024 : Shape := ⟨3, ![4, 2048, 1024]⟩
abbrev S1x1024x2816 : Shape := ⟨3, ![1, 1024, 2816]⟩
abbrev S1x2816x1024 : Shape := ⟨3, ![1, 2816, 1024]⟩
abbrev S2816x1024 : Shape := ⟨2, ![2816, 1024]⟩
abbrev S4x2048x2816 : Shape := ⟨3, ![4, 2048, 2816]⟩
abbrev S1x512x1024 : Shape := ⟨3, ![1, 512, 1024]⟩
abbrev S1408x1024 : Shape := ⟨2, ![1408, 1024]⟩
abbrev S1x512x1408 : Shape := ⟨3, ![1, 512, 1408]⟩
abbrev S512x1024 : Shape := ⟨2, ![512, 1024]⟩
abbrev S512x1408 : Shape := ⟨2, ![512, 1408]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2816x1024, .f32⟩
  | .hbm, ⟨5, _⟩ => ⟨S2816x1024, .bf16⟩
  | .hbm, ⟨6, _⟩ => ⟨S1x2816x1024, .f32⟩
  | .hbm, ⟨7, _⟩ => ⟨S2816x1024, .f32⟩
  | .hbm, ⟨8, _⟩ => ⟨S2816x1024, .bf16⟩
  | .hbm, ⟨9, _⟩ => ⟨S4x2048x1024, .bf16⟩
  | .hbm, ⟨10, _⟩ => ⟨S4x2048x2816, .bf16⟩
  | .hbm, ⟨11, _⟩ => ⟨S4x2048x2816, .bf16⟩
  | .hbm, ⟨12, _⟩ => ⟨S4x2048x2816, .bf16⟩
  | .local _ .vmem, ⟨0, _⟩ => ⟨S1x512x1024, .bf16⟩
  | .local _ .vmem, ⟨1, _⟩ => ⟨S1x512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceUpFIdeal.lean ====
abbrev S4x2048x1024 : Shape := ⟨3, ![4, 2048, 1024]⟩
abbrev S1x1024x2816 : Shape := ⟨3, ![1, 1024, 2816]⟩
abbrev S1024x2816 : Shape := ⟨2, ![1024, 2816]⟩
abbrev S4x2048x2816 : Shape := ⟨3, ![4, 2048, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024x2816, .f32⟩
  | .hbm, ⟨2, _⟩ => ⟨S1x1024x2816, .f32⟩
  | .hbm, ⟨3, _⟩ => ⟨S1024x2816, .f32⟩
  | .hbm, ⟨4, _⟩ => ⟨S4x2048x2816, .f32⟩
  | .hbm, ⟨5, _⟩ => ⟨S1024x2816, .f32⟩
  | .hbm, ⟨6, _⟩ => ⟨S4x2048x2816, .f32⟩
  | .hbm, ⟨7, _⟩ => ⟨S4x2048x2816, .f32⟩
  | .hbm, ⟨8, _⟩ => ⟨S4x2048x2816, .f32⟩
  | .hbm, ⟨9, _⟩ => ⟨S_, .f32⟩
  | .hbm, ⟨10, _⟩ => ⟨S4x2048x2816, .f32⟩
  | .hbm, ⟨11, _⟩ => ⟨S4x2048x2816, .f32⟩
  | .hbm, ⟨12, _⟩ => ⟨S_, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S4x2048x2816, .f32⟩
  | .hbm, ⟨20, _⟩ => ⟨S4x2048x2816, .f32⟩
  | .hbm, ⟨21, _⟩ => ⟨S_, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S4x2048x2816, .f32⟩
  | .hbm, ⟨27, _⟩ => ⟨S4x2048x2816, .f32⟩
  | .hbm, ⟨28, _⟩ => ⟨S4x2048x2816, .f32⟩
  | .hbm, ⟨29, _⟩ => ⟨S4x2048x2816, .bf16⟩
  | .hbm, ⟨30, _⟩ => ⟨S4x2048x2816, .bf16⟩
  | .hbm, ⟨31, _⟩ => ⟨S4x2048x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== KernelDownF.lean ====
abbrev S4x2048x2816 : Shape := ⟨3, ![4, 2048, 2816]⟩
abbrev S1x2816x1024 : Shape := ⟨3, ![1, 2816, 1024]⟩
abbrev S4x2048x1024 : Shape := ⟨3, ![4, 2048, 1024]⟩
abbrev S4x1024 : Shape := ⟨2, ![4, 1024]⟩
abbrev S2816x1024 : Shape := ⟨2, ![2816, 1024]⟩
abbrev S4x1x1024 : Shape := ⟨3, ![4, 1, 1024]⟩
abbrev S1x512x2816 : Shape := ⟨3, ![1, 512, 2816]⟩
abbrev S1x512x1024 : Shape := ⟨3, ![1, 512, 1024]⟩
abbrev S1x1x1024 : Shape := ⟨3, ![1, 1, 1024]⟩
abbrev S512x2816 : Shape := ⟨2, ![512, 2816]⟩
abbrev S512x1024 : Shape := ⟨2, ![512, 1024]⟩
abbrev S1x1024 : Shape := ⟨2, ![1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x2816, .f32⟩
  | .hbm, ⟨1, _⟩ => ⟨S1x2816x1024, .f32⟩
  | .hbm, ⟨2, _⟩ => ⟨S4x2048x1024, .f32⟩
  | .hbm, ⟨3, _⟩ => ⟨S4x1024, .f32⟩
  | .hbm, ⟨4, _⟩ => ⟨S4x2048x2816, .bf16⟩
  | .hbm, ⟨5, _⟩ => ⟨S2816x1024, .f32⟩
  | .hbm, ⟨6, _⟩ => ⟨S2816x1024, .bf16⟩
  | .hbm, ⟨7, _⟩ => ⟨S4x1x1024, .f32⟩
  | .hbm, ⟨8, _⟩ => ⟨S4x2048x1024, .bf16⟩
  | .hbm, ⟨9, _⟩ => ⟨S4x2048x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2816x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .f32⟩
  | .local _ .vmem, ⟨10, _⟩ => ⟨S1x512x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceDownFIdeal.lean ====
abbrev S4x2048x2816 : Shape := ⟨3, ![4, 2048, 2816]⟩
abbrev S1x2816x1024 : Shape := ⟨3, ![1, 2816, 1024]⟩
abbrev S4x2048x1024 : Shape := ⟨3, ![4, 2048, 1024]⟩
abbrev S4x1024 : Shape := ⟨2, ![4, 1024]⟩
abbrev S2816x1024 : Shape := ⟨2, ![2816, 1024]⟩
abbrev S4x1x1024 : Shape := ⟨3, ![4, 1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S1x2816x1024, .f32⟩
  | .hbm, ⟨2, _⟩ => ⟨S4x2048x1024, .f32⟩
  | .hbm, ⟨3, _⟩ => ⟨S4x1024, .f32⟩
  | .hbm, ⟨4, _⟩ => ⟨S2816x1024, .f32⟩
  | .hbm, ⟨5, _⟩ => ⟨S4x2048x1024, .f32⟩
  | .hbm, ⟨6, _⟩ => ⟨S4x2048x1024, .bf16⟩
  | .hbm, ⟨7, _⟩ => ⟨S4x1x1024, .f32⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelConvF.lean ====
abbrev S4x2048x3072 : Shape := ⟨3, ![4, 2048, 3072]⟩
abbrev S1x3x1024 : Shape := ⟨3, ![1, 3, 1024]⟩
abbrev S3x1024 : Shape := ⟨2, ![3, 1024]⟩
abbrev S_ : Shape := ⟨0, ![]⟩
abbrev S8x1024 : Shape := ⟨2, ![8, 1024]⟩
abbrev S4x2048x1024 : Shape := ⟨3, ![4, 2048, 1024]⟩
abbrev S1x512x1024 : Shape := ⟨3, ![1, 512, 1024]⟩
abbrev S1x16x1024 : Shape := ⟨3, ![1, 16, 1024]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x3072, .f32⟩
  | .hbm, ⟨1, _⟩ => ⟨S1x3x1024, .f32⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S4x2048x3072, .bf16⟩
  | .hbm, ⟨7, _⟩ => ⟨S4x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S8x1024, .f32⟩
  | .local _ .vmem, ⟨11, _⟩ => ⟨S1x512x1024, .bf16⟩
  | .local _ .vmem, ⟨12, _⟩ => ⟨S1x512x1024, .bf16⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceConvFIdeal.lean ====
abbrev S4x2048x3072 : Shape := ⟨3, ![4, 2048, 3072]⟩
abbrev S1x3x1024 : Shape := ⟨3, ![1, 3, 1024]⟩
abbrev S4x2048x1024 : Shape := ⟨3, ![4, 2048, 1024]⟩
abbrev S3x1024 : Shape := ⟨2, ![3, 1024]⟩
abbrev S4x2x1024 : Shape := ⟨3, ![4, 2, 1024]⟩
abbrev S_ : Shape := ⟨0, ![]⟩
abbrev S4x2046x1024 : Shape := ⟨3, ![4, 2046, 1024]⟩
abbrev S4x1x1024 : Shape := ⟨3, ![4, 1, 1024]⟩
abbrev S4x2047x1024 : Shape := ⟨3, ![4, 2047, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S1x3x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S3x1024, .f32⟩
  | .hbm, ⟨7, _⟩ => ⟨S4x2x1024, .f32⟩
  | .hbm, ⟨8, _⟩ => ⟨S_, .f32⟩
  | .hbm, ⟨9, _⟩ => ⟨S4x2x1024, .f32⟩
  | .hbm, ⟨10, _⟩ => ⟨S4x2046x1024, .f32⟩
  | .hbm, ⟨11, _⟩ => ⟨S4x2048x1024, .f32⟩
  | .hbm, ⟨12, _⟩ => ⟨S4x1x1024, .f32⟩
  | .hbm, ⟨13, _⟩ => ⟨S_, .f32⟩
  | .hbm, ⟨14, _⟩ => ⟨S4x1x1024, .f32⟩
  | .hbm, ⟨15, _⟩ => ⟨S4x2047x1024, .f32⟩
  | .hbm, ⟨16, _⟩ => ⟨S4x2048x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .bf16⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== KernelMergeF.lean ====
abbrev S4x2048x1024 : Shape := ⟨3, ![4, 2048, 1024]⟩
abbrev S4x2048x2048 : Shape := ⟨3, ![4, 2048, 2048]⟩
abbrev S1x1024x1024 : Shape := ⟨3, ![1, 1024, 1024]⟩
abbrev S4x1024 : Shape := ⟨2, ![4, 1024]⟩
abbrev S1024x1024 : Shape := ⟨2, ![1024, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 15
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x1024x1024, .f32⟩
  | .hbm, ⟨4, _⟩ => ⟨S4x2048x1024, .f32⟩
  | .hbm, ⟨5, _⟩ => ⟨S4x1024, .f32⟩
  | .hbm, ⟨6, _⟩ => ⟨S4x2048x1024, .bf16⟩
  | .hbm, ⟨7, _⟩ => ⟨S4x2048x1024, .bf16⟩
  | .hbm, ⟨8, _⟩ => ⟨S4x2048x2048, .bf16⟩
  | .hbm, ⟨9, _⟩ => ⟨S1024x1024, .f32⟩
  | .hbm, ⟨10, _⟩ => ⟨S1024x1024, .bf16⟩
  | .hbm, ⟨11, _⟩ => ⟨S4x1x1024, .f32⟩
  | .hbm, ⟨12, _⟩ => ⟨S4x2048x1024, .bf16⟩
  | .hbm, ⟨13, _⟩ => ⟨S4x2048x1024, .bf16⟩
  | .hbm, ⟨14, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMergeFIdeal.lean ====
abbrev S4x2048x1024 : Shape := ⟨3, ![4, 2048, 1024]⟩
abbrev S4x2048x2048 : Shape := ⟨3, ![4, 2048, 2048]⟩
abbrev S1x1024x1024 : Shape := ⟨3, ![1, 1024, 1024]⟩
abbrev S4x1024 : Shape := ⟨2, ![4, 1024]⟩
abbrev S_ : Shape := ⟨0, ![]⟩
abbrev S1024x1024 : Shape := ⟨2, ![1024, 1024]⟩
abbrev S4x1x1024 : Shape := ⟨3, ![4, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x1024x1024, .f32⟩
  | .hbm, ⟨4, _⟩ => ⟨S4x2048x1024, .f32⟩
  | .hbm, ⟨5, _⟩ => ⟨S4x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S1024x1024, .f32⟩
  | .hbm, ⟨28, _⟩ => ⟨S4x2048x1024, .f32⟩
  | .hbm, ⟨29, _⟩ => ⟨S4x2048x1024, .bf16⟩
  | .hbm, ⟨30, _⟩ => ⟨S4x2048x1024, .bf16⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== KernelPostF.lean ====
abbrev S4x2048x512 : Shape := ⟨3, ![4, 2048, 512]⟩
abbrev S1x512 : Shape := ⟨2, ![1, 512]⟩
abbrev S1x512x512 : Shape := ⟨3, ![1, 512, 512]⟩
abbrev S1x512x1024 : Shape := ⟨3, ![1, 512, 1024]⟩
abbrev S512x512 : Shape := ⟨2, ![512, 512]⟩
abbrev S512x1024 : Shape := ⟨2, ![512, 1024]⟩
abbrev S4x2048x1024 : Shape := ⟨3, ![4, 2048, 1024]⟩

abbrev nBuf : Space → Nat
  | .hbm => 14
  | .vmem => 17
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1x512, .f32⟩
  | .hbm, ⟨3, _⟩ => ⟨S1x512x512, .f32⟩
  | .hbm, ⟨4, _⟩ => ⟨S1x512x1024, .f32⟩
  | .hbm, ⟨5, _⟩ => ⟨S512x512, .f32⟩
  | .hbm, ⟨6, _⟩ => ⟨S512x512, .bf16⟩
  | .hbm, ⟨7, _⟩ => ⟨S512x1024, .f32⟩
  | .hbm, ⟨8, _⟩ => ⟨S512x1024, .bf16⟩
  | .hbm, ⟨9, _⟩ => ⟨S4x2048x512, .f32⟩
  | .hbm, ⟨10, _⟩ => ⟨S4x2048x512, .f32⟩
  | .hbm, ⟨11, _⟩ => ⟨S4x2048x512, .bf16⟩
  | .hbm, ⟨12, _⟩ => ⟨S4x2048x512, .bf16⟩
  | .hbm, ⟨13, _⟩ => ⟨S4x2048x1024, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512, .f32⟩
  | .local _ .vmem, ⟨5, _⟩ => ⟨S512x512, .bf16⟩
  | .local _ .vmem, ⟨6, _⟩ => ⟨S512x1024, .bf16⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x1024, .bf16⟩
  | .local _ .vmem, ⟨16, _⟩ => ⟨S1x512x1024, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferencePostFIdeal.lean ====
abbrev S4x2048x512 : Shape := ⟨3, ![4, 2048, 512]⟩
abbrev S1x512 : Shape := ⟨2, ![1, 512]⟩
abbrev S1x512x512 : Shape := ⟨3, ![1, 512, 512]⟩
abbrev S1x512x1024 : Shape := ⟨3, ![1, 512, 1024]⟩
abbrev S1x1x512 : Shape := ⟨3, ![1, 1, 512]⟩
abbrev S_ : Shape := ⟨0, ![]⟩
abbrev S512x512 : Shape := ⟨2, ![512, 512]⟩
abbrev S512x1024 : Shape := ⟨2, ![512, 1024]⟩
abbrev S4x2048x1024 : Shape := ⟨3, ![4, 2048, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1x512, .f32⟩
  | .hbm, ⟨3, _⟩ => ⟨S1x512x512, .f32⟩
  | .hbm, ⟨4, _⟩ => ⟨S1x512x1024, .f32⟩
  | .hbm, ⟨5, _⟩ => ⟨S1x1x512, .f32⟩
  | .hbm, ⟨6, _⟩ => ⟨S4x2048x512, .f32⟩
  | .hbm, ⟨7, _⟩ => ⟨S4x2048x512, .f32⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S_, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S_, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S_, .f32⟩
  | .hbm, ⟨20, _⟩ => ⟨S4x2048x512, .f32⟩
  | .hbm, ⟨21, _⟩ => ⟨S4x2048x512, .f32⟩
  | .hbm, ⟨22, _⟩ => ⟨S_, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S512x512, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S_, .f32⟩
  | .hbm, ⟨31, _⟩ => ⟨S4x2048x512, .f32⟩
  | .hbm, ⟨32, _⟩ => ⟨S4x2048x512, .f32⟩
  | .hbm, ⟨33, _⟩ => ⟨S_, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S512x1024, .f32⟩
  | .hbm, ⟨38, _⟩ => ⟨S4x2048x1024, .f32⟩
  | .hbm, ⟨39, _⟩ => ⟨S4x2048x512, .bf16⟩
  | .hbm, ⟨40, _⟩ => ⟨S4x2048x512, .bf16⟩
  | .hbm, ⟨41, _⟩ => ⟨S4x2048x1024, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== KernelAdaF.lean ====
abbrev S32x1024 : Shape := ⟨2, ![32, 1024]⟩
abbrev S1x1024x2304 : Shape := ⟨3, ![1, 1024, 2304]⟩
abbrev S1x2304 : Shape := ⟨2, ![1, 2304]⟩
abbrev S32x2304 : Shape := ⟨2, ![32, 2304]⟩
abbrev S1024x2304 : Shape := ⟨2, ![1024, 2304]⟩

abbrev nBuf : Space → Nat
  | .hbm => 4
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1x1024x2304, .f32⟩
  | .hbm, ⟨2, _⟩ => ⟨S1x2304, .f32⟩
  | .hbm, ⟨3, _⟩ => ⟨S32x2304, .f32⟩
  | .local _ .vmem, ⟨0, _⟩ => ⟨S32x1024, .f32⟩
  | .local _ .vmem, ⟨1, _⟩ => ⟨S1x1024x2304, .f32⟩
  | .local _ .vmem, ⟨2, _⟩ => ⟨S1x2304, .f32⟩
  | .local _ .vmem, ⟨3, _⟩ => ⟨S32x2304, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceAdaFIdeal.lean ====
abbrev S32x1024 : Shape := ⟨2, ![32, 1024]⟩
abbrev S1x1024x2304 : Shape := ⟨3, ![1, 1024, 2304]⟩
abbrev S1x2304 : Shape := ⟨2, ![1, 2304]⟩
abbrev S_ : Shape := ⟨0, ![]⟩
abbrev S1024x2304 : Shape := ⟨2, ![1024, 2304]⟩
abbrev S32x2304 : Shape := ⟨2, ![32, 2304]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x2304, .f32⟩
  | .hbm, ⟨2, _⟩ => ⟨S1x2304, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1024x2304, .f32⟩
  | .hbm, ⟨13, _⟩ => ⟨S32x2304, .f32⟩
  | .hbm, ⟨14, _⟩ => ⟨S32x2304, .f32⟩
  | .hbm, ⟨15, _⟩ => ⟨S32x2304, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelDiscF.lean ====
abbrev S1x32x64 : Shape := ⟨3, ![1, 32, 64]⟩
abbrev S1x32 : Shape := ⟨2, ![1, 32]⟩
abbrev S1x32x64x16 : Shape := ⟨4, ![1, 32, 64, 16]⟩
abbrev S1x2048 : Shape := ⟨2, ![1, 2048]⟩
abbrev S32x1 : Shape := ⟨2, ![32, 1]⟩
abbrev S32x64 : Shape := ⟨2, ![32, 64]⟩
abbrev S32x64x16 : Shape := ⟨3, ![32, 64, 16]⟩
abbrev S16x32x64 : Shape := ⟨3, ![16, 32, 64]⟩
abbrev S16x2048 : Shape := ⟨2, ![16, 2048]⟩

abbrev nBuf : Space → Nat
  | .hbm => 20
  | .vmem => 9
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S1x2048, .f32⟩
  | .hbm, ⟨6, _⟩ => ⟨S1x2048, .f32⟩
  | .hbm, ⟨7, _⟩ => ⟨S32x1, .f32⟩
  | .hbm, ⟨8, _⟩ => ⟨S32x64, .f32⟩
  | .hbm, ⟨9, _⟩ => ⟨S1x2048, .f32⟩
  | .hbm, ⟨10, _⟩ => ⟨S32x64x16, .f32⟩
  | .hbm, ⟨11, _⟩ => ⟨S16x32x64, .f32⟩
  | .hbm, ⟨12, _⟩ => ⟨S16x2048, .f32⟩
  | .hbm, ⟨13, _⟩ => ⟨S32x64x16, .f32⟩
  | .hbm, ⟨14, _⟩ => ⟨S16x32x64, .f32⟩
  | .hbm, ⟨15, _⟩ => ⟨S16x2048, .f32⟩
  | .hbm, ⟨16, _⟩ => ⟨S1x2048, .f32⟩
  | .hbm, ⟨17, _⟩ => ⟨S1x2048, .f32⟩
  | .hbm, ⟨18, _⟩ => ⟨S16x2048, .f32⟩
  | .hbm, ⟨19, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceDiscFIdeal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S1x2048 : Shape := ⟨2, ![1, 2048]⟩
abbrev S16x32x64 : Shape := ⟨3, ![16, 32, 64]⟩
abbrev S16x2048 : Shape := ⟨2, ![16, 2048]⟩

abbrev nBuf : Space → Nat
  | .hbm => 55
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64x1, .f32⟩
  | .hbm, ⟨38, _⟩ => ⟨S32x64x1, .f32⟩
  | .hbm, ⟨39, _⟩ => ⟨S1x2048, .f32⟩
  | .hbm, ⟨40, _⟩ => ⟨S1x2048, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S16x32x64, .f32⟩
  | .hbm, ⟨47, _⟩ => ⟨S16x2048, .f32⟩
  | .hbm, ⟨48, _⟩ => ⟨S32x64x16, .f32⟩
  | .hbm, ⟨49, _⟩ => ⟨S32x64x16, .f32⟩
  | .hbm, ⟨50, _⟩ => ⟨S32x64x16, .f32⟩
  | .hbm, ⟨51, _⟩ => ⟨S32x64x16, .f32⟩
  | .hbm, ⟨52, _⟩ => ⟨S32x64x16, .f32⟩
  | .hbm, ⟨53, _⟩ => ⟨S16x32x64, .f32⟩
  | .hbm, ⟨54, _⟩ => ⟨S16x2048, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩

abbrev nD : Nat := 1
abbrev τ : Topo := Topo.v7x

variable {F : FTy → Type} [FloatOps F]
-- ==== KernelMm.lean ====
abbrev S4x2048x1024 : Shape := ⟨3, ![4, 2048, 1024]⟩
abbrev S4x2048x3072 : Shape := ⟨3, ![4, 2048, 3072]⟩
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3072, .f32⟩
  | .hbm, ⟨2, _⟩ => ⟨S4x2048x1024, .bf16⟩
  | .hbm, ⟨3, _⟩ => ⟨S8192x1024, .bf16⟩
  | .hbm, ⟨4, _⟩ => ⟨S4x2048x3072, .bf16⟩
  | .hbm, ⟨5, _⟩ => ⟨S8192x3072, .bf16⟩
  | .hbm, ⟨6, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMmIdeal.lean ====
abbrev S4x2048x1024 : Shape := ⟨3, ![4, 2048, 1024]⟩
abbrev S4x2048x3072 : Shape := ⟨3, ![4, 2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3072, .f32⟩
  | .hbm, ⟨2, _⟩ => ⟨S_, .f32⟩
  | .hbm, ⟨3, _⟩ => ⟨S1024x3072, .f32⟩
  | .hbm, ⟨4, _⟩ => ⟨S4x2048x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOptR.lean ====
abbrev S1x1024x2304 : Shape := ⟨3, ![1, 1024, 2304]⟩
abbrev S1024x2304 : Shape := ⟨2, ![1024, 2304]⟩
abbrev S1x128x2304 : Shape := ⟨3, ![1, 128, 2304]⟩
abbrev S128x2304 : Shape := ⟨2, ![128, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1024x2304, .f32⟩
  | .hbm, ⟨4, _⟩ => ⟨S1x1024x2304, .f32⟩
  | .hbm, ⟨5, _⟩ => ⟨S1x1024x2304, .f32⟩
  | .hbm, ⟨6, _⟩ => ⟨S1x1024x2304, .f32⟩
  | .local _ .vmem, ⟨0, _⟩ => ⟨S1x128x2304, .f32⟩
  | .local _ .vmem, ⟨1, _⟩ => ⟨S1x128x2304, .f32⟩
  | .local _ .vmem, ⟨2, _⟩ => ⟨S1x128x2304, .f32⟩
  | .local _ .vmem, ⟨3, _⟩ => ⟨S1x128x2304, .f32⟩
  | .local _ .vmem, ⟨4, _⟩ => ⟨S1x128x2304, .f32⟩
  | .local _ .vmem, ⟨5, _⟩ => ⟨S1x128x2304, .f32⟩
  | .local _ .vmem, ⟨6, _⟩ => ⟨S128x2304, .f32⟩
  | .local _ .vmem, ⟨7, _⟩ => ⟨S128x2304, .f32⟩
  | .local _ .vmem, ⟨8, _⟩ => ⟨S1x128x2304, .f32⟩
  | .local _ .vmem, ⟨9, _⟩ => ⟨S1x128x2304, .f32⟩
  | .local _ .vmem, ⟨10, _⟩ => ⟨S1x128x2304, .f32⟩
  | .local _ .vmem, ⟨11, _⟩ => ⟨S1x128x2304, .f32⟩
  | .local _ .vmem, ⟨12, _⟩ => ⟨S1x128x2304, .f32⟩
  | .local _ .vmem, ⟨13, _⟩ => ⟨S1x128x2304, .f32⟩
  | _, _ => ⟨S1x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOptRIdeal.lean ====
abbrev S1x1024x2304 : Shape := ⟨3, ![1, 1024, 2304]⟩
abbrev S1024x2304 : Shape := ⟨2, ![1024, 2304]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1024x2304, .f32⟩
  | .hbm, ⟨4, _⟩ => ⟨S1x1024x2304, .f32⟩
  | .hbm, ⟨5, _⟩ => ⟨S_, .f32⟩
  | .hbm, ⟨6, _⟩ => ⟨S1x1024x2304, .f32⟩
  | .hbm, ⟨7, _⟩ => ⟨S1x1024x2304, .f32⟩
  | .hbm, ⟨8, _⟩ => ⟨S_, .f32⟩
  | .hbm, ⟨9, _⟩ => ⟨S1x1024x2304, .f32⟩
  | .hbm, ⟨10, _⟩ => ⟨S1x1024x2304, .f32⟩
  | .hbm, ⟨11, _⟩ => ⟨S1x1024x2304, .f32⟩
  | .hbm, ⟨12, _⟩ => ⟨S_, .f32⟩
  | .hbm, ⟨13, _⟩ => ⟨S1x1024x2304, .f32⟩
  | .hbm, ⟨14, _⟩ => ⟨S1x1024x2304, .f32⟩
  | .hbm, ⟨15, _⟩ => ⟨S1x1024x2304, .f32⟩
  | .hbm, ⟨16, _⟩ => ⟨S_, .f32⟩
  | .hbm, ⟨17, _⟩ => ⟨S1x1024x2304, .f32⟩
  | .hbm, ⟨18, _⟩ => ⟨S1x1024x2304, .f32⟩
  | .hbm, ⟨19, _⟩ => ⟨S1x1024x2304, .f32⟩
  | .hbm, ⟨20, _⟩ => ⟨S_, .f32⟩
  | .hbm, ⟨21, _⟩ => ⟨S1x1024x2304, .f32⟩
  | .hbm, ⟨22, _⟩ => ⟨S1x1024x2304, .f32⟩
  | .hbm, ⟨23, _⟩ => ⟨S_, .f32⟩
  | .hbm, ⟨24, _⟩ => ⟨S1x1024x2304, .f32⟩
  | .hbm, ⟨25, _⟩ => ⟨S1x1024x2304, .f32⟩
  | .hbm, ⟨26, _⟩ => ⟨S1x1024x2304, .f32⟩
  | .hbm, ⟨27, _⟩ => ⟨S_, .f32⟩
  | .hbm, ⟨28, _⟩ => ⟨S1x1024x2304, .f32⟩
  | .hbm, ⟨29, _⟩ => ⟨S1x1024x2304, .f32⟩
  | .hbm, ⟨30, _⟩ => ⟨S1x1024x2304, .f32⟩
  | .hbm, ⟨31, _⟩ => ⟨S_, .f32⟩
  | .hbm, ⟨32, _⟩ => ⟨S1x1024x2304, .f32⟩
  | .hbm, ⟨33, _⟩ => ⟨S1x1024x2304, .f32⟩
  | .hbm, ⟨34, _⟩ => ⟨S1x1024x2304, .f32⟩
  | .hbm, ⟨35, _⟩ => ⟨S_, .f32⟩
  | .hbm, ⟨36, _⟩ => ⟨S1x1024x2304, .f32⟩
  | .hbm, ⟨37, _⟩ => ⟨S1x1024x2304, .f32⟩
  | _, _ => ⟨S1x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelOptB.lean ====
abbrev S1x1024x1408 : Shape := ⟨3, ![1, 1024, 1408]⟩
abbrev S4x1024x1408 : Shape := ⟨3, ![4, 1024, 1408]⟩
abbrev S1x128x1408 : Shape := ⟨3, ![1, 128, 1408]⟩
abbrev S4x128x1408 : Shape := ⟨3, ![4, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S4x1024x1408, .bf16⟩
  | .hbm, ⟨4, _⟩ => ⟨S4x1024x1408, .bf16⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S4x128x1408, .bf16⟩
  | .local _ .vmem, ⟨7, _⟩ => ⟨S4x128x1408, .bf16⟩
  | .local _ .vmem, ⟨8, _⟩ => ⟨S4x128x1408, .bf16⟩
  | .local _ .vmem, ⟨9, _⟩ => ⟨S4x128x1408, .bf16⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOptBIdeal.lean ====
abbrev S1x1024x1408 : Shape := ⟨3, ![1, 1024, 1408]⟩
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S4x1024x1408, .bf16⟩
  | .hbm, ⟨4, _⟩ => ⟨S4x1024x1408, .bf16⟩
  | .hbm, ⟨5, _⟩ => ⟨S4x1024x1408, .f32⟩
  | .hbm, ⟨6, _⟩ => ⟨S_, .f32⟩
  | .hbm, ⟨7, _⟩ => ⟨S1024x1408, .f32⟩
  | .hbm, ⟨8, _⟩ => ⟨S4x1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1x1024x1408, .f32⟩
  | .hbm, ⟨13, _⟩ => ⟨S_, .f32⟩
  | .hbm, ⟨14, _⟩ => ⟨S1x1024x1408, .f32⟩
  | .hbm, ⟨15, _⟩ => ⟨S1x1024x1408, .f32⟩
  | .hbm, ⟨16, _⟩ => ⟨S_, .f32⟩
  | .hbm, ⟨17, _⟩ => ⟨S1x1024x1408, .f32⟩
  | .hbm, ⟨18, _⟩ => ⟨S1x1024x1408, .f32⟩
  | .hbm, ⟨19, _⟩ => ⟨S1x1024x1408, .f32⟩
  | .hbm, ⟨20, _⟩ => ⟨S_, .f32⟩
  | .hbm, ⟨21, _⟩ => ⟨S1x1024x1408, .f32⟩
  | .hbm, ⟨22, _⟩ => ⟨S1x1024x1408, .f32⟩
  | .hbm, ⟨23, _⟩ => ⟨S1x1024x1408, .f32⟩
  | .hbm, ⟨24, _⟩ => ⟨S_, .f32⟩
  | .hbm, ⟨25, _⟩ => ⟨S1x1024x1408, .f32⟩
  | .hbm, ⟨26, _⟩ => ⟨S1x1024x1408, .f32⟩
  | .hbm, ⟨27, _⟩ => ⟨S1x1024x1408, .f32⟩
  | .hbm, ⟨28, _⟩ => ⟨S_, .f32⟩
  | .hbm, ⟨29, _⟩ => ⟨S1x1024x1408, .f32⟩
  | .hbm, ⟨30, _⟩ => ⟨S1x1024x1408, .f32⟩
  | .hbm, ⟨31, _⟩ => ⟨S_, .f32⟩
  | .hbm, ⟨32, _⟩ => ⟨S1x1024x1408, .f32⟩
  | .hbm, ⟨33, _⟩ => ⟨S1x1024x1408, .f32⟩
  | .hbm, ⟨34, _⟩ => ⟨S1x1024x1408, .f32⟩
  | .hbm, ⟨35, _⟩ => ⟨S_, .f32⟩
  | .hbm, ⟨36, _⟩ => ⟨S1x1024x1408, .f32⟩
  | .hbm, ⟨37, _⟩ => ⟨S1x1024x1408, .f32⟩
  | .hbm, ⟨38, _⟩ => ⟨S1x1024x1408, .f32⟩
  | .hbm, ⟨39, _⟩ => ⟨S_, .f32⟩
  | .hbm, ⟨40, _⟩ => ⟨S1x1024x1408, .f32⟩
  | .hbm, ⟨41, _⟩ => ⟨S1x1024x1408, .f32⟩
  | .hbm, ⟨42, _⟩ => ⟨S1x1024x1408, .f32⟩
  | .hbm, ⟨43, _⟩ => ⟨S_, .f32⟩
  | .hbm, ⟨44, _⟩ => ⟨S1x1024x1408, .f32⟩
  | .hbm, ⟨45, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== KernelOptP.lean ====
abbrev S152x1024 : Shape := ⟨2, ![152, 1024]⟩

abbrev nBuf : Space → Nat
  | .hbm => 7
  | .vmem => 7
  | .smem => 0
  | _ => 0

abbrev bufTy : (tb : Table) → Fin (tcTables nBuf tb) → BufTy
  | .hbm, ⟨0, _⟩ => ⟨S152x1024, .f32⟩
  | .hbm, ⟨1, _⟩ => ⟨S152x1024, .f32⟩
  | .hbm, ⟨2, _⟩ => ⟨S152x1024, .f32⟩
  | .hbm, ⟨3, _⟩ => ⟨S152x1024, .f32⟩
  | .hbm, ⟨4, _⟩ => ⟨S152x1024, .f32⟩
  | .hbm, ⟨5, _⟩ => ⟨S152x1024, .f32⟩
  | .hbm, ⟨6, _⟩ => ⟨S152x1024, .f32⟩
  | .local _ .vmem, ⟨0, _⟩ => ⟨S152x1024, .f32⟩
  | .local _ .vmem, ⟨1, _⟩ => ⟨S152x1024, .f32⟩
  | .local _ .vmem, ⟨2, _⟩ => ⟨S152x1024, .f32⟩
  | .local _ .vmem, ⟨3, _⟩ => ⟨S152x1024, .f32⟩
  | .local _ .vmem, ⟨4, _⟩ => ⟨S152x1024, .f32⟩
  | .local _ .vmem, ⟨5, _⟩ => ⟨S152x1024, .f32⟩
  | .local _ .vmem, ⟨6, _⟩ => ⟨S152x1024, .f32⟩
  | _, _ => ⟨S152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S152x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S152x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S152x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S152x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S152x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S152x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S152x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceOptPIdeal.lean ====
abbrev S152x1024 : Shape := ⟨2, ![152, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S152x1024, .f32⟩
  | .hbm, ⟨1, _⟩ => ⟨S152x1024, .f32⟩
  | .hbm, ⟨2, _⟩ => ⟨S152x1024, .f32⟩
  | .hbm, ⟨3, _⟩ => ⟨S152x1024, .f32⟩
  | .hbm, ⟨4, _⟩ => ⟨S_, .f32⟩
  | .hbm, ⟨5, _⟩ => ⟨S152x1024, .f32⟩
  | .hbm, ⟨6, _⟩ => ⟨S152x1024, .f32⟩
  | .hbm, ⟨7, _⟩ => ⟨S_, .f32⟩
  | .hbm, ⟨8, _⟩ => ⟨S152x1024, .f32⟩
  | .hbm, ⟨9, _⟩ => ⟨S152x1024, .f32⟩
  | .hbm, ⟨10, _⟩ => ⟨S152x1024, .f32⟩
  | .hbm, ⟨11, _⟩ => ⟨S_, .f32⟩
  | .hbm, ⟨12, _⟩ => ⟨S152x1024, .f32⟩
  | .hbm, ⟨13, _⟩ => ⟨S152x1024, .f32⟩
  | .hbm, ⟨14, _⟩ => ⟨S152x1024, .f32⟩
  | .hbm, ⟨15, _⟩ => ⟨S_, .f32⟩
  | .hbm, ⟨16, _⟩ => ⟨S152x1024, .f32⟩
  | .hbm, ⟨17, _⟩ => ⟨S152x1024, .f32⟩
  | .hbm, ⟨18, _⟩ => ⟨S152x1024, .f32⟩
  | .hbm, ⟨19, _⟩ => ⟨S_, .f32⟩
  | .hbm, ⟨20, _⟩ => ⟨S152x1024, .f32⟩
  | .hbm, ⟨21, _⟩ => ⟨S152x1024, .f32⟩
  | .hbm, ⟨22, _⟩ => ⟨S_, .f32⟩
  | .hbm, ⟨23, _⟩ => ⟨S152x1024, .f32⟩
  | .hbm, ⟨24, _⟩ => ⟨S152x1024, .f32⟩
  | .hbm, ⟨25, _⟩ => ⟨S152x1024, .f32⟩
  | .hbm, ⟨26, _⟩ => ⟨S_, .f32⟩
  | .hbm, ⟨27, _⟩ => ⟨S152x1024, .f32⟩
  | .hbm, ⟨28, _⟩ => ⟨S152x1024, .f32⟩
  | .hbm, ⟨29, _⟩ => ⟨S152x1024, .f32⟩
  | .hbm, ⟨30, _⟩ => ⟨S_, .f32⟩
  | .hbm, ⟨31, _⟩ => ⟨S152x1024, .f32⟩
  | .hbm, ⟨32, _⟩ => ⟨S152x1024, .f32⟩
  | .hbm, ⟨33, _⟩ => ⟨S152x1024, .f32⟩
  | .hbm, ⟨34, _⟩ => ⟨S_, .f32⟩
  | .hbm, ⟨35, _⟩ => ⟨S152x1024, .f32⟩
  | .hbm, ⟨36, _⟩ => ⟨S152x1024, .f32⟩
  | _, _ => ⟨S152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSums.lean ====
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .local _ .vmem, ⟨0, _⟩ => ⟨S8x144x1024, .f32⟩
  | .local _ .vmem, ⟨1, _⟩ => ⟨S144x1024, .f32⟩
  | _, _ => ⟨S8x144x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSumsIdeal.lean ====
abbrev S8x144x1024 : Shape := ⟨3, ![8, 144, 1024]⟩
abbrev S_ : Shape := ⟨0, ![]⟩
abbrev S144x1024 : Shape := ⟨2, ![144, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S_, .f32⟩
  | .hbm, ⟨2, _⟩ => ⟨S144x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.LossRun.lean ====
/-
The run of the loss kernel with its three results named: the two arrays it writes, and the sum of the third array that
the host takes afterwards.
-/
module

public import proofs.«01_k».proof.Proof.Gen.KernelLossIdeal.Frame
public import Idealize.ShloMosaic.Lib.Claim

@[expose] public section

noncomputable section

namespace Cert.LossRun

open Cert.KernelLossIdeal Cert.KernelLossIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem arr_inj : Function.Injective (Pipeline.arrRef spec0) := by decide

/-- The host's sum, read off the region's exit contents. -/
theorem tail_v2 (c : Dev nD) :
    Pipeline.afterTail₀ cfgs (dats m) 0 (V0 m) [hostOps1] c main_v2
      = Host.reduceAdd ((dats m 0 c).arrAt 4 cfg0.N) (constant S_ .f32 0x00000000#32) reducesTo_S1x1024_S_d0_1 h_S_ := by
  have h := Pipeline.withArrays_arr spec0 arr_inj c (V0 m c) (fun w => (dats m 0 c).arrAt w cfg0.N) 4
  rw [← h]
  unfold Pipeline.afterTail₀
  after_results_simp
  rfl

theorem run : θ_run defs (onTc (τ := τ) (main (F := F))) ⟨m, fun _ => 0, ρ⟩ fun r => ∀ c : Dev nD,
      r.2.mem ((c : Thread nD τ).loc main_v2)
          = Host.reduceAdd ((dats m 0 c).arrAt 4 cfg0.N) (constant S_ .f32 0x00000000#32) reducesTo_S1x1024_S_d0_1 h_S_
      ∧ r.2.mem ((c : Thread nD τ).loc main_v1_0) = (dats m 0 c).arrAt 3 cfg0.N
      ∧ r.2.mem ((c : Thread nD τ).loc main_v1_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h.1 c).2 main_v2 (Pipeline.mem_restRefs_of main_v2 (by decide) (by decide))).trans (tail_v2 m c),
      (h.1 c).1 3, (h.1 c).1 5, h.2 c⟩)
    (θ_run_and (run_main m ρ) (unchanged m ρ))

end Cert.LossRun

end
-- ==== Proof.Reals.lean ====
/-
Extended reals that are real numbers: what the preconditions say of an argument, and the sums, products and quotients
the programs take of such values, computed in the reals.
-/
module

public import Idealize.ShloMosaic.Lib.StableHlo
public import Idealize.ShloMosaic.Lib.ReduceAll
public import Idealize.ShloMosaic.Lib.Pointwise
public import Idealize.ShloMosaic.Lib.IdealHost

@[expose] public section

noncomputable section

namespace Cert.Reals

open Idealize.ShloMosaic

theorem ofBits_inf : Ideal.ofBits .f32 0x7F800000#32 = ⊤ := by
  simp [Ideal.ofBits, Ideal.ieee]

/-- A value whose absolute value lies below `+∞` is a real number. -/
theorem real_of_abs_lt (x : EReal) (h : FloatOps.cmpf (F := Ideal) (φ := .f32) .olt (FloatOps.hostAbsf (F := Ideal) (φ := .f32) x) ⊤ = 1#1) :
    ∃ r : ℝ, x = r := by
  induction x with
  | bot => exfalso; revert h; simp [FloatOps.cmpf, FloatOps.absf, Ideal.cmp]
  | top => exfalso; revert h; simp [FloatOps.cmpf, FloatOps.absf, Ideal.cmp]
  | coe r => exact ⟨r, rfl⟩

/-- What `jnp.all(jnp.abs(x) < jnp.inf)` says of an array: it holds real numbers. -/
theorem reals_of_all {s t u z : Shape} {axes : List (Fin s.rank)} [Subsingleton t.Idx] (x : FVec Ideal s .f32)
    {bm : Fin z.rank → Fin s.rank} (hb : z.BroadcastsInDim s bm) (init : u.Idx → BitVec 1) (hr : s.ReducesTo axes t)
    (hu : 0 < u.numel) (j : t.Idx)
    (e : Host.reduce IntOp.andi (cmpf .olt (Host.absf x) (broadcastInDim s bm hb (constant z .f32 0x7F800000#32))) init hr hu j
      = 1#1) : ∃ X : s.Idx → ℝ, x = fun i => (X i : EReal) := by
  have h : ∀ i, ∃ r : ℝ, x i = r := fun i => by
    have h1 := Host.reduce_andi_all _ _ hr hu j e i
    refine real_of_abs_lt (x i) ?_
    rw [← ofBits_inf]
    exact h1
  choose X hX using h
  exact ⟨X, funext hX⟩

/-! ## The constants the programs spell -/

theorem ofBits_1024 : Ideal.ofBits .f32 0x44800000#32 = ((1024 : ℝ) : EReal) := by
  simp [Ideal.ofBits, Ideal.ieee]; rw [← EReal.coe_mul]; norm_num

/-- `1e-6` as the programs round it. -/
def eps : ℝ := 8796093 / 8796093022208

theorem eps_pos : 0 < eps := by norm_num [eps]

theorem ofBits_eps : Ideal.ofBits .f32 0x358637BD#32 = (eps : EReal) := by
  simp [Ideal.ofBits, Ideal.ieee, eps]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_one : Ideal.ofBits .f32 0x3F800000#32 = ((1 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_inv_1024 : Ideal.ofBits .f32 0x3A800000#32 = ((1 / 1024 : ℝ) : EReal) := by
  simp [Ideal.ofBits, Ideal.ieee]; rw [← EReal.coe_mul]; norm_num

theorem ofBits_inv_2048 : Ideal.ofBits .f32 0x3A000000#32 = ((1 / 2048 : ℝ) : EReal) := by
  simp [Ideal.ofBits, Ideal.ieee]; rw [← EReal.coe_mul]; norm_num

/-! ## Sums of reals -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_1024 (a : ℝ) : Ideal.div (a : EReal) (Ideal.ofBits .f32 0x44800000#32) = ((a / 1024 : ℝ) : EReal) := by
  rw [ofBits_1024, Ideal.div_coe (by norm_num), ← EReal.coe_mul]
  congr 1; ring

/-! ## The root mean square norm of a row, and its gradient -/

/-- The mean of a row's squares, with the norm's constant added. -/
def ms (x : Fin 1024 → EReal) : EReal :=
  Ideal.div (∑ k, x k * x k) (Ideal.ofBits .f32 0x44800000#32) + Ideal.ofBits .f32 0x358637BD#32

/-- One over the row's root mean square. -/
def rms (x : Fin 1024 → EReal) : EReal := Ideal.rsqrt (ms x)

/-- The gradient at `k` of `x ↦ x * rms x` at cotangent `d`, as the kernels write it. -/
def normBwd (x d : Fin 1024 → EReal) (k : Fin 1024) : EReal :=
  rms x * (d k - x k * rms x * Ideal.div (∑ j, d j * (x j * rms x)) (Ideal.ofBits .f32 0x44800000#32))

/-- The part of the gradient that goes through the mean. -/
def viaMean (x d : Fin 1024 → EReal) : EReal :=
  ∑ _ : Fin 1, Ideal.div ((∑ j, x j * d j) * (Ideal.ofBits .f32 0xBF000000#32 * Ideal.div (rms x) (ms x)))
    (Ideal.ofBits .f32 0x44800000#32)

/-- The same gradient as differentiation of `x * rsqrt (mean (x * x) + eps)` writes it. -/
def normVjp (x d : Fin 1024 → EReal) (k : Fin 1024) : EReal :=
  d k * rms x + x k * viaMean x d + viaMean x d * x k

section
variable (X D : Fin 1024 → ℝ)

/-- `ms` of a row of reals. -/
def msR : ℝ := (∑ k, X k * X k) / 1024 + eps

theorem msR_pos : 0 < msR X := by
  unfold msR
  have : 0 ≤ ∑ k, X k * X k := Finset.sum_nonneg fun k _ => mul_self_nonneg _
  have := eps_pos
  positivity

theorem ms_coe : ms (fun k => (X k : EReal)) = (msR X : EReal) := by
  unfold ms msR
  simp only [← EReal.coe_mul, coe_sum]
  rw [div_1024, ofBits_eps, ← EReal.coe_add]

/-- `rms` of a row of reals. -/
def rmsR : ℝ := (Real.sqrt (msR X))⁻¹

theorem rms_coe : rms (fun k => (X k : EReal)) = (rmsR X : EReal) := by
  unfold rms
  rw [ms_coe, Ideal.rsqrt_coe, if_neg (not_lt.2 (msR_pos X).le), if_neg (msR_pos X).ne']
  rfl

theorem rmsR_sq : rmsR X * rmsR X * msR X = 1 := by
  have h := Real.mul_self_sqrt (msR_pos X).le
  have h0 : Real.sqrt (msR X) ≠ 0 := (Real.sqrt_pos.2 (msR_pos X)).ne'
  unfold rmsR
  nth_rw 3 [← h]
  field_simp

theorem viaMean_coe : viaMean (fun k => (X k : EReal)) (fun k => (D k : EReal))
    = (((∑ j, X j * D j) * (-(1 / 2) * (rmsR X / msR X)) / 1024 : ℝ) : EReal) := by
  unfold viaMean
  rw [rms_coe, ms_coe, Ideal.div_coe (msR_pos X).ne', ofBits_neg_half]
  simp only [← EReal.coe_mul, coe_sum, div_1024, Finset.univ_unique, Finset.sum_singleton]
  congr 1; ring

/-- The two spellings of the norm's gradient agree on reals. -/
theorem normBwd_eq (k : Fin 1024) : normBwd (fun k => (X k : EReal)) (fun k => (D k : EReal)) k
    = normVjp (fun k => (X k : EReal)) (fun k => (D k : EReal)) k := by
  unfold normBwd normVjp
  rw [viaMean_coe, rms_coe]
  simp only [← EReal.coe_mul, coe_sum, div_1024, ← EReal.coe_sub, ← EReal.coe_add]
  congr 1
  have h := rmsR_sq X
  have hm := (msR_pos X).ne'
  have hq : rmsR X / msR X = rmsR X * rmsR X * rmsR X := by
    rw [div_eq_iff hm]; linear_combination -(rmsR X) * h
  have hs : ∑ j, D j * (X j * rmsR X) = rmsR X * ∑ j, X j * D j := by
    rw [Finset.mul_sum]; exact Finset.sum_congr rfl fun j _ => by ring
  rw [hs, hq]; ring

end

end Cert.Reals

end
-- ==== Proof.Rows.lean ====
/-
A host sum over the first two axes of a rank-3 array, read at an index.
-/
module

public import Idealize.ShloMosaic.Lib.Pointwise

@[expose] public section

namespace Cert.Rows

open Idealize.ShloMosaic

variable {n0 n1 n2 : Nat} {t : Shape}

theorem rank_eq (h : (⟨3, ![n0, n1, n2]⟩ : Shape).ReducesTo [0, 1] t) : t.rank = 1 := h.1

theorem lt_rank (h : (⟨3, ![n0, n1, n2]⟩ : Shape).ReducesTo [0, 1] t) : 0 < t.rank := rank_eq h ▸ (by decide)

/-- The coordinate that is kept. -/
def kept (h : (⟨3, ![n0, n1, n2]⟩ : Shape).ReducesTo [0, 1] t) (j : t.Idx) : Fin n2 :=
  ⟨(j ⟨0, lt_rank h⟩).val, Shape.coordLt (j ⟨0, lt_rank h⟩) (h.2 ⟨0, lt_rank h⟩)⟩

/-- The entries summed into `j` are those whose last coordinate is `j`'s. -/
theorem fiber (h : (⟨3, ![n0, n1, n2]⟩ : Shape).ReducesTo [0, 1] t) (j : t.Idx)
    (i : (⟨3, ![n0, n1, n2]⟩ : Shape).Idx) : h.drop i = j ↔ ∃ k : Fin n0 × Fin n1, ix3 k.1 k.2 (kept h j) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt_rank h⟩)).symm
  · rintro ⟨k, rfl⟩
    funext b
    apply Fin.ext
    match b with
    | ⟨0, _⟩ => rfl
    | ⟨_ + 1, hb⟩ => exact absurd hb (by have : t.rank = 1 := h.1; omega)

@[pointwise] theorem hostReduceAdd_first_two (h : (⟨3, ![n0, n1, n2]⟩ : Shape).ReducesTo [0, 1] t)
    (v : (⟨3, ![n0, n1, n2]⟩ : Shape).Idx → EReal) (init : EReal) (j : t.Idx) :
    Ideal.hostReduceAdd h v init j = init + ∑ a : Fin n0, ∑ b : Fin n1,
      v (ix3 a b ⟨(j ⟨0, lt_rank h⟩).val, Shape.coordLt (j ⟨0, lt_rank h⟩) (h.2 ⟨0, lt_rank h⟩)⟩) := by
  refine congrArg (init + ·) ?_
  refine (Finset.sum_filter_eq_sum_of_fiber _ (fun k : Fin n0 × Fin n1 => ix3 k.1 k.2 (kept h j))
    (fun _ _ e => Prod.ext (congrFun e 0) (congrFun e 1)) (fiber h j) v).trans ?_
  simp only [Fintype.sum_prod_type]
  rfl

end Cert.Rows
-- ==== Proof.LossValue.lean ====
module

public import proofs.«01_k».proof.Proof.Gen.KernelLossIdeal.Frame
public import proofs.«01_k».proof.Proof.Gen.ReferenceLossIdeal.Run
public import proofs.«01_k».proof.Proof.Reals
public import Idealize.ShloMosaic.Lib.Pipeline.ValueKit
public import proofs.«01_k».proof.Proof.Rows

@[expose] public section

set_option maxRecDepth 16384

noncomputable section

namespace Cert.LossValue

open Cert.Reals Cert.KernelLossIdeal Cert.KernelLossIdeal.Gen Idealize.ShloMosaic Idealize.ShloMosaic.TcCoe Idealize.SL.Sem

/-- Row `(b, p)` of an array of rows. -/
def row (A : FVec Ideal S4x2048x1024 .f32) (b : Fin 4) (p : Fin 2048) (k : Fin 1024) : EReal := A (ix3 b p k)

/-- The weights as a function of the column. -/
def col (G : FVec Ideal S1024 .f32) (k : Fin 1024) : EReal := G (ix1 k)

variable (m : (ℓ : Loc nD τ sig) → Buf (Elt Ideal) ℓ)

/-- The error at `k` of a row `x` with weights `g` and target `t`. -/
def err (x g t : Fin 1024 → EReal) (k : Fin 1024) : EReal := x k * rms x * g k - t k

/-- The cotangent of the normed row as the kernel takes it. -/
def dn (x g t : Fin 1024 → EReal) (k : Fin 1024) : EReal := err x g t k * Ideal.ofBits .f32 0x3A800000#32 * g k

/-- The same cotangent as differentiation writes it. -/
def dnVjp (x g t : Fin 1024 → EReal) (k : Fin 1024) : EReal :=
  Ideal.div (Ideal.ofBits .f32 0x3F000000#32) (Ideal.ofBits .f32 0x44800000#32)
    * (Ideal.ofBits .f32 0x40000000#32 * err x g t k) * g k

/-- A row's part of the weights' gradient. -/
def dgPart (x g t : Fin 1024 → EReal) (k : Fin 1024) : EReal :=
  err x g t k * Ideal.ofBits .f32 0x3A800000#32 * (x k * rms x)

/-- A row's part of the weights' gradient as differentiation writes it. -/
def dgVjp (x g t : Fin 1024 → EReal) (k : Fin 1024) : EReal :=
  x k * rms x * (Ideal.div (Ideal.ofBits .f32 0x3F000000#32) (Ideal.ofBits .f32 0x44800000#32)
    * (Ideal.ofBits .f32 0x40000000#32 * err x g t k))

/-! ## What a block computes -/

theorem pay11_at (x0 : FVec Ideal S1x512x1024 .f32) (x1 : FVec Ideal S1x1024 .f32) (x2 : FVec Ideal S1x512x1024 .f32)
    (z : Fin 1) (p : Fin 512) (k : Fin 1024) : k0_pay11 (F := Ideal) x0 x1 x2 (ix3 z p k)
      = normBwd (fun k => x0 (ix3 0 p k)) (dn (fun k => x0 (ix3 0 p k)) (fun k => x1 (ix2 0 k)) fun k => x2 (ix3 0 p k)) k := by
  pointwise [k0_pay11, k0_pay10, k0_pay9, k0_pay8, k0_pay7, k0_pay6, k0_pay5]
  rfl

theorem pay2_at (x0 : FVec Ideal S1x512x1024 .f32) (x1 : FVec Ideal S1x1024 .f32) (x2 : FVec Ideal S1x512x1024 .f32)
    (j : S1x1024.Idx) : k0_pay2 (F := Ideal) (k0_pay8 x0) (k0_pay10 x0 x1 x2) j
      = ∑ p : Fin 512, dgPart (fun k => x0 (ix3 0 p k)) (fun k => x1 (ix2 0 k)) (fun k => x2 (ix3 0 p k)) (j 1) := by
  idx_vars j
  pointwise [k0_pay2, k0_pay10, k0_pay9, k0_pay8, k0_pay7, k0_pay6, k0_pay5]
  rfl

theorem pay1_at (x0 : FVec Ideal S1x512x1024 .f32) (x1 : FVec Ideal S1x1024 .f32) (x2 : FVec Ideal S1x512x1024 .f32)
    (j : S1x1024.Idx) : k0_pay1 (F := Ideal) (k0_pay12 x0 x1 x2) j
      = (∑ p : Fin 512, err (fun k => x0 (ix3 0 p k)) (fun k => x1 (ix2 0 k)) (fun k => x2 (ix3 0 p k)) (j 1)
          * err (fun k => x0 (ix3 0 p k)) (fun k => x1 (ix2 0 k)) (fun k => x2 (ix3 0 p k)) (j 1))
          * Ideal.ofBits .f32 0x3A000000#32 := by
  idx_vars j
  pointwise [k0_pay1, k0_pay12, k0_pay9, k0_pay8, k0_pay7, k0_pay6, k0_pay5]
  rfl

theorem pay4_at (v13 v20 : FVec Ideal S512x1024 .f32) (a : Vec Ideal S1x1024 .f32) (j : S1x1024.Idx) :
    k0_pay4 v13 v20 a j = a j + k0_pay2 v13 v20 j := by
  idx_vars j
  pointwise [k0_pay4]

theorem pay3_at (v38 : FVec Ideal S1x1024 .f32) (a : Vec Ideal S1x1024 .f32) (j : S1x1024.Idx) :
    k0_pay3 v38 a j = a j + k0_pay1 v38 j := by
  idx_vars j
  pointwise [k0_pay3]

/-! ## What the arrays hold after the grid -/

theorem idx : ∀ t : Fin cfg0.N, win0_0.index t = ![t.val / 4, t.val % 4, 0] ∧ win0_1.index t = ![0, 0]
    ∧ win0_2.index t = ![t.val / 4, t.val % 4, 0] ∧ win0_3.index t = ![t.val / 4, t.val % 4, 0] :=
  (by decide +kernel : ∀ t : Fin grid0.N, _)

theorem point_lt (t : Fin cfg0.N) : t.val / 4 < 4 := by have := lt_of_lt_of_eq t.isLt N_0; omega

theorem lane_lt (t : Fin cfg0.N) (p : Fin 512) : t.val % 4 * 512 + p.val < 2048 := by omega

theorem blk0 (c : Dev nD) (t : Fin cfg0.N) (z : Fin 1) (p : Fin 512) (k : Fin 1024) : iblk m c 0 t (ix3 z p k)
    = row (m (c.tc.loc main_arg0)) ⟨t.val / 4, point_lt t⟩ ⟨t.val % 4 * 512 + p.val, lane_lt t p⟩ k := by
  unfold row
  blk_point [iblk, V, idx t]

theorem blk1 (c : Dev nD) (t : Fin cfg0.N) (z : Fin 1) (k : Fin 1024) : iblk m c 1 t (ix2 z k)
    = col (m (c.tc.loc main_arg1)) k := by
  unfold col
  have hv : V m c main_v0 = shapeCast S1x1024 (m (c.tc.loc main_arg1)) shapeCasts_S1024_S1x1024 := by
    unfold V

    rfl
  have he : (win0_1.blk t).view.emb (ix2 z k) = ix2 z k := by blk_ext [idx t]
  refine (congrArg (V m c main_v0) he).trans ((congrFun hv (ix2 z k)).trans ?_)
  pointwise

theorem blk2 (c : Dev nD) (t : Fin cfg0.N) (z : Fin 1) (p : Fin 512) (k : Fin 1024) : iblk m c 2 t (ix3 z p k)
    = row (m (c.tc.loc main_arg2)) ⟨t.val / 4, point_lt t⟩ ⟨t.val % 4 * 512 + p.val, lane_lt t p⟩ k := by
  unfold row
  blk_point [iblk, V, idx t]

/-- The kernel's gradient of the rows, as a function of the three arrays. -/
def dxK (A : FVec Ideal S4x2048x1024 .f32) (G : FVec Ideal S1024 .f32) (T : FVec Ideal S4x2048x1024 .f32) :
    FVec Ideal S4x2048x1024 .f32 := fun j =>
  normBwd (row A (j 0) (j 1)) (dn (row A (j 0) (j 1)) (col G) (row T (j 0) (j 1))) (j 2)

theorem dxK_at (A : FVec Ideal S4x2048x1024 .f32) (G : FVec Ideal S1024 .f32) (T : FVec Ideal S4x2048x1024 .f32)
    (b : Fin 4) (p : Fin 2048) (k : Fin 1024) :
    dxK A G T (ix3 b p k) = normBwd (row A b p) (dn (row A b p) (col G) (row T b p)) k := rfl

theorem final3 (c : Dev nD) : (dats m 0 c).arrAt 3 cfg0.N
    = dxK (m (c.tc.loc main_arg0)) (m (c.tc.loc main_arg1)) (m (c.tc.loc main_arg2)) := by
  refine (dats m 0 c).arrAt_eq_of_covers 3 _ (by decide +kernel) fun t _ y => ?_
  blk_simp
  rw [after0_3]
  have hp : (outsAt0 m c t.val t.isLt).1 = k0_pay11 (iblk m c 0 t) (iblk m c 1 t) (iblk m c 2 t) := by
    rcases Nat.lt_or_ge t.val 1 with h | h
    · rw [outsAt0_A m c t (by omega) (by omega)]
      frame_out
    · rw [outsAt0_B m c t (by have := lt_of_lt_of_eq t.isLt N_0; omega) h]
      frame_out
  rw [hp]
  idx_vars y
  rw [pay11_at]
  simp only [blk0, blk1, blk2]
  rw [show ((View.whole main_v1_0).slice (win0_3.rect t)).emb (ix3 y0 y1 y2)
    = ix3 ⟨t.val / 4, point_lt t⟩ ⟨t.val % 4 * 512 + y1.val, lane_lt t y1⟩ y2 from by blk_ext [idx t]]
  rfl

theorem final5 (c : Dev nD) : (dats m 0 c).arrAt 5 cfg0.N = fun j => ∑ b : Fin 4, ∑ p : Fin 2048,
    dgPart (row (m (c.tc.loc main_arg0)) b p) (col (m (c.tc.loc main_arg1))) (row (m (c.tc.loc main_arg2)) b p) (j 1) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0) _
    (fun t h j => by rw [outsAt0_A m c t h (by have := lt_of_lt_of_eq t.isLt N_0; omega)]; frame_out; rw [pay2_at, zero_add])
    (fun t h j => by rw [outsAt0_B m c t h (by omega)]; frame_out; rw [pay4_at, pay2_at])
    (le_of_eq N_0) t0_15 rfl j, zero_add]
  refine Fin.sum_points_lanes_congr 4 fun t k ha hl => ?_
  simp only [blk0, blk1, blk2]

/-- The kernel's sums of squared errors, column by column. -/
def sqK (A : FVec Ideal S4x2048x1024 .f32) (G : FVec Ideal S1024 .f32) (T : FVec Ideal S4x2048x1024 .f32) (k : Fin 1024) : EReal :=
  ∑ b : Fin 4, ∑ s : Fin 4, (∑ q : Fin 512,
    err (row A b ⟨s.val * 512 + q.val, by omega⟩) (col G) (row T b ⟨s.val * 512 + q.val, by omega⟩) k
      * err (row A b ⟨s.val * 512 + q.val, by omega⟩) (col G) (row T b ⟨s.val * 512 + q.val, by omega⟩) k)
    * Ideal.ofBits .f32 0x3A000000#32

theorem final4 (c : Dev nD) : (dats m 0 c).arrAt 4 cfg0.N
    = fun j => sqK (m (c.tc.loc main_arg0)) (m (c.tc.loc main_arg1)) (m (c.tc.loc main_arg2)) (j 1) := by
  refine (dats m 0 c).arrAt_eq_of_after_last 4 t0_15 (by decide +kernel) _ fun j => ?_
  blk_simp
  rw [after0_4, Pipeline.eq_sum_fin_of_reset_step_apply_last (fun n h => (outsAt0 m c n h).2.1) 16 (fun _ => 0) _
    (fun t h j => by rw [outsAt0_A m c t h (by have := lt_of_lt_of_eq t.isLt N_0; omega)]; frame_out; rw [pay1_at, zero_add])
    (fun t h j => by rw [outsAt0_B m c t h (by omega)]; frame_out; rw [pay3_at, pay1_at])
    (le_of_eq N_0) t0_15 rfl j, zero_add]
  refine Fin.sum_divmod_congr fun t ha hs => ?_
  simp only [blk0, blk1, blk2]

/-! ## What the reference's arrays hold -/

section Ref

variable (m' : (ℓ : Loc Cert.ReferenceLossIdeal.nD Cert.ReferenceLossIdeal.τ Cert.ReferenceLossIdeal.sig) → Buf (Elt Ideal) ℓ)

theorem ref_dx (c : Dev Cert.ReferenceLossIdeal.nD) (b : Fin 4) (p : Fin 2048) (k : Fin 1024) :
    (Cert.ReferenceLossIdeal.Value.res_main_v50 m' c : FVec Ideal S4x2048x1024 .f32) (ix3 b p k)
      = normVjp (row (m' (c.tc.loc Cert.ReferenceLossIdeal.main_arg0)) b p)
          (dnVjp (row (m' (c.tc.loc Cert.ReferenceLossIdeal.main_arg0)) b p)
            (col (m' (c.tc.loc Cert.ReferenceLossIdeal.main_arg1)))
            (row (m' (c.tc.loc Cert.ReferenceLossIdeal.main_arg2)) b p)) k := by
  pointwise [Cert.ReferenceLossIdeal.Value.res_main_v50]
  rfl

/-- The reference's run with its results as sums over rows. -/
theorem ref_run (ρ' : Dev Cert.ReferenceLossIdeal.nD → PrngReg) :
    θ_run Cert.ReferenceLossIdeal.defs (onTc (τ := Cert.ReferenceLossIdeal.τ) (Cert.ReferenceLossIdeal.main (F := Ideal)))
      ⟨m', fun _ => 0, ρ'⟩ fun r => ∀ c : Dev Cert.ReferenceLossIdeal.nD,
      (r.2.mem (c.tc.loc Cert.ReferenceLossIdeal.main_v24) = fun _ => Ideal.ofBits .f32 0x3F000000#32
        * ∑ b : Fin 4, ∑ p : Fin 2048, Ideal.div (∑ k : Fin 1024,
          err (row (m' (c.tc.loc Cert.ReferenceLossIdeal.main_arg0)) b p) (col (m' (c.tc.loc Cert.ReferenceLossIdeal.main_arg1)))
              (row (m' (c.tc.loc Cert.ReferenceLossIdeal.main_arg2)) b p) k
            * err (row (m' (c.tc.loc Cert.ReferenceLossIdeal.main_arg0)) b p) (col (m' (c.tc.loc Cert.ReferenceLossIdeal.main_arg1)))
              (row (m' (c.tc.loc Cert.ReferenceLossIdeal.main_arg2)) b p) k) (Ideal.ofBits .f32 0x44800000#32))
      ∧ r.2.mem (c.tc.loc Cert.ReferenceLossIdeal.main_v50) = Cert.ReferenceLossIdeal.Value.res_main_v50 m' c
      ∧ (r.2.mem (c.tc.loc Cert.ReferenceLossIdeal.main_v51) = fun j => ∑ _ : Fin 1, ∑ _ : Fin 1, ∑ b : Fin 4, ∑ p : Fin 2048,
          dgVjp (row (m' (c.tc.loc Cert.ReferenceLossIdeal.main_arg0)) b p) (col (m' (c.tc.loc Cert.ReferenceLossIdeal.main_arg1)))
            (row (m' (c.tc.loc Cert.ReferenceLossIdeal.main_arg2)) b p) (j 1))
      ∧ r.2.mem (c.tc.loc Cert.ReferenceLossIdeal.main_arg0) = m' (c.tc.loc Cert.ReferenceLossIdeal.main_arg0)
      ∧ r.2.mem (c.tc.loc Cert.ReferenceLossIdeal.main_arg1) = m' (c.tc.loc Cert.ReferenceLossIdeal.main_arg1)
      ∧ r.2.mem (c.tc.loc Cert.ReferenceLossIdeal.main_arg2) = m' (c.tc.loc Cert.ReferenceLossIdeal.main_arg2) :=
  (θ_run Cert.ReferenceLossIdeal.defs _ _).mono (fun r h c =>
    ⟨(h c).1.trans (by funext j; pointwise; rfl), (h c).2.1,
     (h c).2.2.1.trans (by funext j; idx_vars j; pointwise; rfl), (h c).2.2.2⟩)
    (Cert.ReferenceLossIdeal.Value.run m' ρ')

end Ref

/-! ## The two programs over the reals -/

section Real

variable (X G T : Fin 1024 → ℝ)

/-- The error over the reals. -/
def errR (k : Fin 1024) : ℝ := X k * rmsR X * G k - T k

theorem err_coe (k : Fin 1024) : err (fun k => (X k : EReal)) (fun k => (G k : EReal)) (fun k => (T k : EReal)) k = (errR X G T k : EReal) := by
  unfold err errR
  rw [rms_coe, ← EReal.coe_mul, ← EReal.coe_mul, ← EReal.coe_sub]

theorem dn_coe : dn (fun k => (X k : EReal)) (fun k => (G k : EReal)) (fun k => (T k : EReal))
    = fun k => ((errR X G T k / 1024 * G k : ℝ) : EReal) := by
  funext k
  unfold dn
  rw [err_coe, ofBits_inv_1024, ← EReal.coe_mul, ← EReal.coe_mul]
  congr 1; ring

theorem dnVjp_coe : dnVjp (fun k => (X k : EReal)) (fun k => (G k : EReal)) (fun k => (T k : EReal))
    = fun k => ((errR X G T k / 1024 * G k : ℝ) : EReal) := by
  funext k
  unfold dnVjp
  rw [err_coe, ofBits_half, ofBits_two, div_1024, ← EReal.coe_mul, ← EReal.coe_mul, ← EReal.coe_mul]
  congr 1; ring

theorem dgVjp_eq : dgVjp (fun k => (X k : EReal)) (fun k => (G k : EReal)) (fun k => (T k : EReal))
    = dgPart (fun k => (X k : EReal)) (fun k => (G k : EReal)) (fun k => (T k : EReal)) := by
  funext k
  unfold dgVjp dgPart
  rw [err_coe, rms_coe, ofBits_half, ofBits_two, div_1024, ofBits_inv_1024]
  simp only [← EReal.coe_mul]
  congr 1; ring

end Real

theorem row_coe (A : S4x2048x1024.Idx → ℝ) (b : Fin 4) (p : Fin 2048) :
    row (fun i => (A i : EReal)) b p = fun k => (A (ix3 b p k) : EReal) := rfl

theorem col_coe (G : S1024.Idx → ℝ) : col (fun i => (G i : EReal)) = fun k => (G (ix1 k) : EReal) := rfl

variable (A T : S4x2048x1024.Idx → ℝ) (G : S1024.Idx → ℝ)

/-- The sum of the squared errors over all columns and rows, scaled block by block, is half the sum of the rows' means. -/
theorem loss_eq : ∑ k : Fin 1024, sqK (fun i => (A i : EReal)) (fun i => (G i : EReal)) (fun i => (T i : EReal)) k
    = Ideal.ofBits .f32 0x3F000000#32 * ∑ b : Fin 4, ∑ p : Fin 2048, Ideal.div (∑ k : Fin 1024,
        err (row (fun i => (A i : EReal)) b p) (col fun i => (G i : EReal)) (row (fun i => (T i : EReal)) b p) k
          * err (row (fun i => (A i : EReal)) b p) (col fun i => (G i : EReal)) (row (fun i => (T i : EReal)) b p) k)
        (Ideal.ofBits .f32 0x44800000#32) := by
  unfold sqK
  simp only [row_coe, col_coe, err_coe, ofBits_inv_2048, ofBits_half, ← EReal.coe_mul, coe_sum, div_1024]
  congr 1
  have hs : ∀ (f : Fin 2048 → ℝ), ∑ s : Fin 4, ∑ q : Fin 512, f ⟨s.val * 512 + q.val, by omega⟩ = ∑ p, f p :=
    fun f => Fin.sum_mul_add_congr fun s k hl => rfl
  simp only [← Finset.sum_mul, ← Finset.sum_div]
  rw [Finset.sum_comm]
  have he : ∀ F : Fin 4 → Fin 1024 → Fin 2048 → ℝ, ∑ b, ∑ k, ∑ s : Fin 4, ∑ q : Fin 512, F b k ⟨s.val * 512 + q.val, by omega⟩
      = ∑ b, ∑ p, ∑ k, F b k p := fun F =>
    Finset.sum_congr rfl fun b _ => (Finset.sum_congr rfl fun k _ => hs (F b k)).trans Finset.sum_comm
  rw [he fun b k p => errR (fun k => A (ix3 b p k)) (fun k => G (ix1 k)) (fun k => T (ix3 b p k)) k
    * errR (fun k => A (ix3 b p k)) (fun k => G (ix1 k)) (fun k => T (ix3 b p k)) k]
  ring

end Cert.LossValue

end
-- ==== Proof.LossClaim.lean ====
/-
The loss kernel and the loss with its gradients, equal over the reals.
-/
module

public import proofs.«01_k».proof.Defs
public import proofs.«01_k».proof.Proof.Gen.Pre_finite_loss
public import proofs.«01_k».proof.Proof.LossRun
public import proofs.«01_k».proof.Proof.LossValue

@[expose] public section

set_option maxRecDepth 16384

noncomputable section

namespace Cert.LossClaim

open Cert.Reals Cert.LossValue Cert.KernelLossIdeal Cert.KernelLossIdeal.Gen Idealize.ShloMosaic Idealize.ShloMosaic.TcCoe
open Idealize.SL.Sem

/-- The precondition says that the three arrays hold real numbers. -/
theorem reals (x : FVec Ideal S4x2048x1024 .f32) (g : FVec Ideal S1024 .f32) (t : FVec Ideal S4x2048x1024 .f32)
    (h : Cert.Pre_finite_loss.fn (F := Ideal) x g t = fun _ => 1#1) :
    (∃ X : S4x2048x1024.Idx → ℝ, x = fun i => (X i : EReal)) ∧ (∃ G : S1024.Idx → ℝ, g = fun i => (G i : EReal))
      ∧ ∃ T : S4x2048x1024.Idx → ℝ, t = fun i => (T i : EReal) := by
  have : Subsingleton S_.Idx := ⟨fun a b => funext fun d => d.elim0⟩
  have h0 := congrFun h (fun d => d.elim0)
  obtain ⟨h1, h2⟩ := IntOp.andi_eq_one.mp h0
  obtain ⟨h3, h4⟩ := IntOp.andi_eq_one.mp h1
  exact ⟨reals_of_all x _ _ _ _ _ h3, reals_of_all g _ _ _ _ _ h4, reals_of_all t _ _ _ _ _ h2⟩

theorem algebraic : Cert.algebraic_KernelLossIdeal_ReferenceLossIdeal_pre_finite_loss := by
  intro m g m' g' hpre hargs
  refine ⟨_, _, _, LossRun.run m g, ?_⟩
  refine (θ_run Cert.ReferenceLossIdeal.defs _ _).mono (fun r h c => ?_) (ref_run m' g')
  obtain ⟨h0, h1, h2⟩ := hargs c
  obtain ⟨⟨X, hX⟩, ⟨G, hG⟩, ⟨T, hT⟩⟩ := reals _ _ _ (hpre c)
  obtain ⟨e0, e1, e2, hr⟩ := h c
  refine ⟨e0.trans ?_, e1.trans ?_, e2.trans ?_, hr⟩
  · rw [h0, h1, h2, final4, hX, hG, hT]
    funext j
    pointwise
    refine (loss_eq X T G).symm.trans ?_
    rw [Fin.sum_univ_one]
  · rw [final3, hX, hG, hT]
    funext j
    idx_vars j
    refine (ref_dx m' c j0 j1 j2).trans ?_
    rw [h0, h1, h2, hX, hG, hT]
    refine Eq.trans ?_ (dxK_at _ _ _ j0 j1 j2).symm
    simp only [row_coe, col_coe, dn_coe, dnVjp_coe]
    exact (normBwd_eq _ _ _).symm
  · rw [h0, h1, h2, final5, hX, hG, hT]
    funext j
    simp only [row_coe, col_coe, dgVjp_eq, Fin.sum_univ_one]

end Cert.LossClaim

end
-- ==== Proof.NormGrad.lean ====
/-
The gradient of a modulated root mean square norm, `x ↦ x * rms x * g * (1 + sc) + sh`, at the cotangent `d` of its
value: the parts that the kernels write and the parts that differentiation writes, row by row and summed over the rows.
-/
module

public import proofs.«01_k».proof.Proof.Reals
public import Idealize.ShloMosaic.Lib.Pipeline.ValueKit

@[expose] public section

noncomputable section

namespace Cert.NormGrad

open Cert.Reals Idealize.ShloMosaic

/-! ## A buffer filled in one piece -/

section
variable {Val : EltTy → Type} [∀ e, Nonempty (Val e)] {S : Shape} {e : EltTy}

theorem canon_whole (w : S.Idx → Val e) : View.canon [(⟨Rect.whole S, w⟩ : View.Piece Val S e)] = w :=
  View.canon_unit_zero rfl (fun _ => by simp) w

theorem readCov_whole {sig : RefSig} {κ : Kind} {sp : Space} (v : View sig κ sp S e) {off : Fin S.rank → Nat}
    (inb : ∀ a, off a + S.size a ≤ S.size a) (w : S.Idx → Val e) (h : ∀ a, off a = 0) :
    v.readCov [(⟨Rect.whole S, w⟩ : View.Piece Val S e)] (Rect.unit off (no_index S.size) inb).toLoadRect = w :=
  View.readCov_cons_unit_lit' v (off := fun _ => 0) (fun _ => by simp) inb w [] (fun _ => rfl) h

end

/-! ## One row -/

/-- `1 + sc`. -/
def onePlus (sc : Fin 1024 → EReal) (k : Fin 1024) : EReal := 1 + sc k

/-- The cotangent of the normed row without its weights. -/
def scaled (g sc d : Fin 1024 → EReal) (k : Fin 1024) : EReal := d k * onePlus sc k * g k

/-- A row's part of the gradient of the scale. -/
def scPart (x g d : Fin 1024 → EReal) (k : Fin 1024) : EReal := d k * (x k * rms x * g k)

/-- The same part as differentiation writes it. -/
def scVjp (x g d : Fin 1024 → EReal) (k : Fin 1024) : EReal := x k * rms x * g k * d k

/-- A row's part of the gradient of the weights. -/
def gPart (x sc d : Fin 1024 → EReal) (k : Fin 1024) : EReal := d k * onePlus sc k * (x k * rms x)

/-- The same part as differentiation writes it. -/
def gVjp (x sc d : Fin 1024 → EReal) (k : Fin 1024) : EReal := x k * rms x * (d k * onePlus sc k)

/-- The gradient of the row, added to a gradient `o` that came another way, as differentiation writes it. -/
def dxVjp (x d o : Fin 1024 → EReal) (k : Fin 1024) : EReal :=
  o k + d k * rms x + x k * viaMean x d + viaMean x d * x k

theorem scVjp_eq (x g d : Fin 1024 → EReal) : scVjp x g d = scPart x g d := funext fun _ => mul_comm _ _

theorem gVjp_eq (x sc d : Fin 1024 → EReal) : gVjp x sc d = gPart x sc d := funext fun _ => mul_comm _ _

/-- On reals the gradient of the row is what the kernels write, whatever it is added to. -/
theorem dxVjp_eq (X G S D : Fin 1024 → ℝ) (o : Fin 1024 → EReal) (k : Fin 1024) :
    dxVjp (fun k => (X k : EReal)) (scaled (fun k => (G k : EReal)) (fun k => (S k : EReal)) fun k => (D k : EReal)) o k
      = o k + normBwd (fun k => (X k : EReal))
          (scaled (fun k => (G k : EReal)) (fun k => (S k : EReal)) fun k => (D k : EReal)) k := by
  have h : scaled (fun k => (G k : EReal)) (fun k => (S k : EReal)) (fun k => (D k : EReal))
      = fun k => ((D k * (1 + S k) * G k : ℝ) : EReal) := by
    funext k
    simp only [scaled, onePlus, ← EReal.coe_one, ← EReal.coe_add, ← EReal.coe_mul]
  rw [h, normBwd_eq]
  simp only [dxVjp, normVjp, add_assoc]

/-! ## All rows -/

/-- Row `(b, p)` of an array of rows. -/
def row (A : FVec Ideal ⟨3, ![4, 2048, 1024]⟩ .f32) (b : Fin 4) (p : Fin 2048) (k : Fin 1024) : EReal := A (ix3 b p k)

/-- The weights as a function of the column. -/
def vec (G : FVec Ideal ⟨2, ![1, 1024]⟩ .f32) (k : Fin 1024) : EReal := G (ix2 0 k)

/-- The scale of batch `b`. -/
def scale (S : FVec Ideal ⟨2, ![4, 1024]⟩ .f32) (b : Fin 4) (k : Fin 1024) : EReal := S (ix2 b k)

section
variable (D : Fin 4 → Fin 2048 → Fin 1024 → EReal) (X : FVec Ideal ⟨3, ![4, 2048, 1024]⟩ .f32)
  (G : FVec Ideal ⟨2, ![1, 1024]⟩ .f32) (S : FVec Ideal ⟨2, ![4, 1024]⟩ .f32) (O : FVec Ideal ⟨3, ![4, 2048, 1024]⟩ .f32)

/-- The rows' gradient. -/
def dx : FVec Ideal ⟨3, ![4, 2048, 1024]⟩ .f32 := fun j => O (ix3 (j 0) (j 1) (j 2))
  + normBwd (row X (j 0) (j 1)) (scaled (vec G) (scale S (j 0)) (D (j 0) (j 1))) (j 2)

/-- The gradient of the shift. -/
def dsh : FVec Ideal ⟨3, ![4, 1, 1024]⟩ .f32 := fun j => ∑ p : Fin 2048, D (j 0) p (j 2)

/-- The gradient of the scale. -/
def dsc : FVec Ideal ⟨3, ![4, 1, 1024]⟩ .f32 := fun j =>
  ∑ p : Fin 2048, scPart (row X (j 0) p) (vec G) (D (j 0) p) (j 2)

/-- The gradient of the weights. -/
def dg : FVec Ideal ⟨2, ![1, 1024]⟩ .f32 := fun j =>
  ∑ b : Fin 4, ∑ p : Fin 2048, gPart (row X b p) (scale S b) (D b p) (j 1)

end

/-- Sixteen points, four to a batch and 512 rows to a point: what starts anew at each batch and adds each point's rows
is, at a batch's last point, the sum over the batch's rows. -/
theorem batch_sum {N : Nat} (hN : N = 16) {ι : Type} (f : (n : Nat) → n < N → ι → EReal)
    (T : Fin 4 → Fin 2048 → ι → EReal)
    (h0 : ∀ t : Fin N, t.val % 4 = 0 → ∀ i, f t.val t.isLt i
      = ∑ q : Fin 512, T ⟨t.val / 4, by omega⟩ ⟨t.val % 4 * 512 + q.val, by omega⟩ i)
    (hs : ∀ t : Fin N, ¬t.val % 4 = 0 → ∀ i, f t.val t.isLt i = f (t.val - 1) (by omega) i
      + ∑ q : Fin 512, T ⟨t.val / 4, by omega⟩ ⟨t.val % 4 * 512 + q.val, by omega⟩ i)
    (t : Fin N) (ht : t.val % 4 = 3) (i : ι) : f t.val t.isLt i = ∑ p : Fin 2048, T ⟨t.val / 4, by omega⟩ p i := by
  refine (Pipeline.eq_sum_fin_of_reset_step_apply_of_flush f 4 (fun _ => 0)
    (fun t i => ∑ q : Fin 512, T ⟨t.val / 4, by omega⟩ ⟨t.val % 4 * 512 + q.val, by omega⟩ i)
    (fun t h i => (h0 t h i).trans (zero_add _).symm) hs t ht i).trans ?_
  rw [zero_add]
  refine Fin.sum_mul_add_congr fun s q hl => ?_
  have ha : (4 * (t.val / 4) + s.val) / 4 = t.val / 4 := by omega
  have hb : (4 * (t.val / 4) + s.val) % 4 = s.val := by omega
  simp only [ha, hb]

/-- A product of rows of reals is real. -/
theorem dot_real {n : Nat} (f g : Fin n → ℝ) : ∃ r : ℝ, (∑ e, (f e : EReal) * (g e : EReal)) = (r : EReal) :=
  ⟨∑ e, f e * g e, by simp only [← EReal.coe_mul, coe_sum]⟩

theorem dot_congr {n : Nat} (f : Fin n → EReal) {g g' : Fin n → EReal} (h : ∀ e, g e = g' e) :
    ∑ e, f e * g e = ∑ e, f e * g' e := by
  simp only [h]

end Cert.NormGrad

end
-- ==== Proof.MixNormValue.lean ====
/-
The gradient through a projection's norm, as the kernel computes it and as differentiation writes it.
-/
module

public import proofs.«01_k».proof.Proof.Gen.KernelMixNormIdeal.Frame
public import proofs.«01_k».proof.Proof.Gen.KernelMixNormIdeal.Value
public import proofs.«01_k».proof.Proof.Gen.ReferenceMixNormIdeal.Run
public import proofs.«01_k».proof.Proof.NormGrad
public import proofs.«01_k».proof.Proof.Rows
public import Idealize.ShloMosaic.Lib.Pipeline.ReadBack

@[expose] public section

set_option maxRecDepth 16384

noncomputable section

namespace Cert.MixNormValue

open Cert.Reals Cert.NormGrad Cert.KernelMixNormIdeal Cert.KernelMixNormIdeal.Gen Idealize.ShloMosaic Idealize.ShloMosaic.TcCoe Idealize.SL.Sem

variable (m : (ℓ : Loc nD τ sig) → Buf (Elt Ideal) ℓ)

/-! ## What a block computes -/

section Block
variable (d : FVec Ideal S512x1024 .f32) (x : FVec Ideal S1x512x1024 .f32) (g : FVec Ideal S1x1024 .f32)
  (sc : FVec Ideal S1x1x1024 .f32) (o : FVec Ideal S1x512x1024 .f32)

theorem dx_at (z : Fin 1) (p : Fin 512) (k : Fin 1024) :
    k0_pay14 (F := Ideal) d (k0_pay5 x) g (k0_pay6 x) k0_pay7 sc o (ix3 z p k) = o (ix3 0 p k)
      + normBwd (fun k => x (ix3 0 p k)) (scaled (fun k => g (ix2 0 k)) (fun k => sc (ix3 0 0 k)) fun k => d (ix2 p k)) k := by
  pointwise [k0_pay14, k0_pay10, k0_pay9, k0_pay8, k0_pay7, k0_pay6, k0_pay5]
  rfl

theorem dsh_at (j0 j1 : Fin 1) (j2 : Fin 1024) : k0_pay15 (F := Ideal) d (ix3 j0 j1 j2) = ∑ p : Fin 512, d (ix2 p j2) := by
  pointwise [k0_pay15, k0_pay11]

theorem dsh_step (a : FVec Ideal S1x1x1024 .f32) (j0 j1 : Fin 1) (j2 : Fin 1024) : k0_pay1 (F := Ideal) (k0_pay11 d) a (ix3 j0 j1 j2)
    = a (ix3 j0 j1 j2) + ∑ p : Fin 512, d (ix2 p j2) := by
  rw [Subsingleton.elim j0 0, Subsingleton.elim j1 0]
  pointwise [k0_pay1, k0_pay11]

theorem dsc_at (j0 j1 : Fin 1) (j2 : Fin 1024) : k0_pay16 (F := Ideal) d (k0_pay5 x) g (k0_pay6 x) k0_pay7 (ix3 j0 j1 j2)
    = ∑ p : Fin 512, scPart (fun k => x (ix3 0 p k)) (fun k => g (ix2 0 k)) (fun k => d (ix2 p k)) j2 := by
  pointwise [k0_pay16, k0_pay12, k0_pay9, k0_pay8, k0_pay7, k0_pay6, k0_pay5]
  rfl

theorem dsc_step (a : FVec Ideal S1x1x1024 .f32) (j0 j1 : Fin 1) (j2 : Fin 1024) :
    k0_pay2 (F := Ideal) (k0_pay12 d (k0_pay5 x) g (k0_pay6 x) k0_pay7) a (ix3 j0 j1 j2)
    = a (ix3 j0 j1 j2) + ∑ p : Fin 512, scPart (fun k => x (ix3 0 p k)) (fun k => g (ix2 0 k)) (fun k => d (ix2 p k)) j2 := by
  rw [Subsingleton.elim j0 0, Subsingleton.elim j1 0]
  pointwise [k0_pay2, k0_pay12, k0_pay9, k0_pay8, k0_pay7, k0_pay6, k0_pay5]
  rfl

theorem dg_at (j : S1x1024.Idx) : k0_pay13 (F := Ideal) d (k0_pay5 x) (k0_pay6 x) k0_pay7 sc j
    = ∑ p : Fin 512, gPart (fun k => x (ix3 0 p k)) (fun k => sc (ix3 0 0 k)) (fun k => d (ix2 p k)) (j 1) := by
  idx_vars j
  pointwise [k0_pay13, k0_pay10, k0_pay9, k0_pay8, k0_pay7, k0_pay6, k0_pay5]
  rfl

theorem dg_step (a v : FVec Ideal S1x1024 .f32) (j : S1x1024.Idx) : k0_pay3 (F := Ideal) v a j = a j + v j := by
  idx_vars j
  pointwise [k0_pay3]

end Block

/-! ## The blocks of the operands -/

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![0, 0]
    ∧ win0_5.index t = ![t.val / 4, 0, 0] ∧ win0_6.index t = ![t.val / 4, t.val % 4, 0]
    ∧ win0_7.index t = ![t.val / 4, t.val % 4, 0] ∧ win0_8.index t = ![t.val / 4, 0, 0] ∧ win0_9.index t = ![t.val / 4, 0, 0] :=
  (by decide +kernel : ∀ t : Fin grid0.N, _)

theorem weights (c : Dev nD) : ∀ (n : Nat) (h : n < cfg0.N), (outsAt0 m c n h).2.2.2.2.1 = V m c main_v2
    ∧ (outsAt0 m c n h).2.2.2.2.2.1 = V m c main_v3 ∧ (outsAt0 m c n h).2.2.2.2.2.2 = V m c main_v4 := by
  intro n h
  induction n with
  | zero =>
    rw [outsAt0_A m c ⟨0, h⟩ rfl rfl (by simp) rfl (by simp)]
    refine ⟨?_, ?_, ?_⟩
    all_goals
      frame_out
      rw [canon_whole]
      rfl
  | succ n ih =>
    have hn := lt_of_lt_of_eq h N_0
    have e := ih (Nat.lt_of_succ_lt h)
    by_cases h4 : (n + 1) % 4 = 0
    · rw [outsAt0_C m c ⟨n + 1, h⟩ (by simp; omega) h4 (by simp; omega) (by simp; omega) (by simp)]
      simpa only [sout0_C_0, sout0_C_1, sout0_C_2, Nat.add_sub_cancel] using e
    · rw [outsAt0_B m c ⟨n + 1, h⟩ (by simp; omega) h4 (by simp; omega) (by simp; omega) (by simp)]
      simpa only [sout0_B_0, sout0_B_1, sout0_B_2, Nat.add_sub_cancel] using e

/-- The cotangents of the modulated rows of a block. -/
def dhB (c : Dev nD) (t : Fin cfg0.N) : FVec Ideal S512x1024 .f32 :=
  k0_pay4 (iblk m c 0 t) (V m c main_v2) (iblk m c 1 t) (V m c main_v3) (iblk m c 2 t) (V m c main_v4)

theorem out_A (c : Dev nD) (t : Fin cfg0.N) (h : t.val % 16 = 0) :
    (outsAt0 m c t.val t.isLt).1
      = k0_pay14 (dhB m c t) (k0_pay5 (iblk m c 3 t)) (iblk m c 4 t) (k0_pay6 (iblk m c 3 t)) k0_pay7 (iblk m c 5 t) (iblk m c 6 t)
    ∧ (outsAt0 m c t.val t.isLt).2.1 = k0_pay15 (dhB m c t)
    ∧ (outsAt0 m c t.val t.isLt).2.2.1
      = k0_pay16 (dhB m c t) (k0_pay5 (iblk m c 3 t)) (iblk m c 4 t) (k0_pay6 (iblk m c 3 t)) k0_pay7
    ∧ (outsAt0 m c t.val t.isLt).2.2.2.1
      = k0_pay13 (dhB m c t) (k0_pay5 (iblk m c 3 t)) (k0_pay6 (iblk m c 3 t)) k0_pay7 (iblk m c 5 t) := by
  have r0 : (View.whole cc0_scratch0).readCov [⟨Rect.whole S1024x3072, ReadAs.same.apply (V m c main_v2)⟩]
      (Rect.unit ![0, 0] ![1024, 3072] inb_S1024x3072_S1024x3072_0_0).toLoadRect = V m c main_v2 :=
    readCov_whole _ _ _ (by decide)
  have r1 : (View.whole cc0_scratch1).readCov [⟨Rect.whole S1024x512, ReadAs.same.apply (V m c main_v3)⟩]
      (Rect.unit ![0, 0] ![1024, 512] inb_S1024x512_S1024x512_0_0).toLoadRect = V m c main_v3 :=
    readCov_whole _ _ _ (by decide)
  have r2 : (View.whole cc0_scratch2).readCov [⟨Rect.whole S1024x2048, ReadAs.same.apply (V m c main_v4)⟩]
      (Rect.unit ![0, 0] ![1024, 2048] inb_S1024x2048_S1024x2048_0_0).toLoadRect = V m c main_v4 :=
    readCov_whole _ _ _ (by decide)
  rw [outsAt0_A m c t h (by omega) (by omega) h (by have := lt_of_lt_of_eq t.isLt N_0; omega)]
  refine ⟨?_, ?_, ?_, ?_⟩
  all_goals
    frame_out
    simp only [View.read_whole, r0, r1, r2, dhB]

theorem out_C (c : Dev nD) (t : Fin cfg0.N) (h : ¬t.val % 16 = 0) (h4 : t.val % 4 = 0) :
    (outsAt0 m c t.val t.isLt).1
      = k0_pay14 (dhB m c t) (k0_pay5 (iblk m c 3 t)) (iblk m c 4 t) (k0_pay6 (iblk m c 3 t)) k0_pay7 (iblk m c 5 t) (iblk m c 6 t)
    ∧ (outsAt0 m c t.val t.isLt).2.1 = k0_pay15 (dhB m c t)
    ∧ (outsAt0 m c t.val t.isLt).2.2.1
      = k0_pay16 (dhB m c t) (k0_pay5 (iblk m c 3 t)) (iblk m c 4 t) (k0_pay6 (iblk m c 3 t)) k0_pay7
    ∧ (outsAt0 m c t.val t.isLt).2.2.2.1
      = k0_pay3 (k0_pay13 (dhB m c t) (k0_pay5 (iblk m c 3 t)) (k0_pay6 (iblk m c 3 t)) k0_pay7 (iblk m c 5 t))
          (outsAt0 m c (t.val - 1) (Nat.lt_of_le_of_lt (Nat.sub_le _ _) t.isLt)).2.2.2.1 := by
  obtain ⟨e0, e1, e2⟩ := weights m c (t.val - 1) (Nat.lt_of_le_of_lt (Nat.sub_le _ _) t.isLt)
  rw [outsAt0_C m c t h h4 (by omega) h (by omega)]
  refine ⟨?_, ?_, ?_, ?_⟩
  all_goals
    frame_out
    simp only [read_unread_whole, e0, e1, e2, dhB]

theorem out_B (c : Dev nD) (t : Fin cfg0.N) (h : ¬t.val % 4 = 0) :
    (outsAt0 m c t.val t.isLt).1
      = k0_pay14 (dhB m c t) (k0_pay5 (iblk m c 3 t)) (iblk m c 4 t) (k0_pay6 (iblk m c 3 t)) k0_pay7 (iblk m c 5 t) (iblk m c 6 t)
    ∧ (outsAt0 m c t.val t.isLt).2.1
      = k0_pay1 (k0_pay11 (dhB m c t)) (outsAt0 m c (t.val - 1) (Nat.lt_of_le_of_lt (Nat.sub_le _ _) t.isLt)).2.1
    ∧ (outsAt0 m c t.val t.isLt).2.2.1
      = k0_pay2 (k0_pay12 (dhB m c t) (k0_pay5 (iblk m c 3 t)) (iblk m c 4 t) (k0_pay6 (iblk m c 3 t)) k0_pay7)
          (outsAt0 m c (t.val - 1) (Nat.lt_of_le_of_lt (Nat.sub_le _ _) t.isLt)).2.2.1
    ∧ (outsAt0 m c t.val t.isLt).2.2.2.1
      = k0_pay3 (k0_pay13 (dhB m c t) (k0_pay5 (iblk m c 3 t)) (k0_pay6 (iblk m c 3 t)) k0_pay7 (iblk m c 5 t))
          (outsAt0 m c (t.val - 1) (Nat.lt_of_le_of_lt (Nat.sub_le _ _) t.isLt)).2.2.2.1 := by
  obtain ⟨e0, e1, e2⟩ := weights m c (t.val - 1) (Nat.lt_of_le_of_lt (Nat.sub_le _ _) t.isLt)
  rw [outsAt0_B m c t (by omega) h (by omega) (by omega) (by omega)]
  refine ⟨?_, ?_, ?_, ?_⟩
  all_goals
    frame_out
    simp only [read_unread_whole, e0, e1, e2, dhB]

/-- At a batch's first point the sums start anew. -/
theorem out_new (c : Dev nD) (t : Fin cfg0.N) (h4 : t.val % 4 = 0) :
    (outsAt0 m c t.val t.isLt).1
      = k0_pay14 (dhB m c t) (k0_pay5 (iblk m c 3 t)) (iblk m c 4 t) (k0_pay6 (iblk m c 3 t)) k0_pay7 (iblk m c 5 t) (iblk m c 6 t)
    ∧ (outsAt0 m c t.val t.isLt).2.1 = k0_pay15 (dhB m c t)
    ∧ (outsAt0 m c t.val t.isLt).2.2.1
      = k0_pay16 (dhB m c t) (k0_pay5 (iblk m c 3 t)) (iblk m c 4 t) (k0_pay6 (iblk m c 3 t)) k0_pay7 := by
  by_cases h : t.val % 16 = 0
  · obtain ⟨a, b, e, -⟩ := out_A m c t h
    exact ⟨a, b, e⟩
  · obtain ⟨a, b, e, -⟩ := out_C m c t h h4
    exact ⟨a, b, e⟩

theorem out_dx (c : Dev nD) (t : Fin cfg0.N) : (outsAt0 m c t.val t.isLt).1
    = k0_pay14 (dhB m c t) (k0_pay5 (iblk m c 3 t)) (iblk m c 4 t) (k0_pay6 (iblk m c 3 t)) k0_pay7 (iblk m c 5 t) (iblk m c 6 t) := by
  by_cases h4 : t.val % 4 = 0
  · exact (out_new m c t h4).1
  · exact (out_B m c t h4).1

/-! ## The operands' blocks over the arguments -/

theorem point_lt (t : Fin cfg0.N) : t.val / 4 < 4 := by have := lt_of_lt_of_eq t.isLt N_0; omega

theorem lane_lt (t : Fin cfg0.N) (p : Fin 512) : t.val % 4 * 512 + p.val < 2048 := by omega

theorem cols_at {n o : Nat} (W : FVec Ideal S1x1024x5632 .f32) (h : S1024x5632.Slices ![0, o] ⟨2, ![1024, n]⟩)
    (k : Fin 1024) (e : Fin n) (e' : Fin 5632) (he : e'.val = o + e.val) :
    (extractStridedSlice ⟨2, ![1024, n]⟩ ![0, o] (truncf .bf16 (shapeCast S1024x5632 W shapeCasts_S1x1024x5632_S1024x5632)
      bitsLt_bf16_f32) h : FVec Ideal ⟨2, ![1024, n]⟩ .bf16) (ix2 k e) = W (ix3 0 k e') := by
  refine (extractStridedSlice_apply _ _ h _ (ix2 k e') (by intro a; fin_cases a <;> simp [ix2, he])).trans ?_
  pointwise

section
variable (c : Dev nD) (t : Fin cfg0.N) (z : Fin 1) (p : Fin 512) (k : Fin 1024)

theorem blk0 (e : Fin 3072) : iblk m c 0 t (ix3 z p e)
    = (m (c.tc.loc main_arg0) : FVec Ideal S4x2048x3072 .f32) (ix3 ⟨t.val / 4, point_lt t⟩ ⟨t.val % 4 * 512 + p.val, lane_lt t p⟩ e) := by
  blk_point [iblk, V, idx t]

theorem blk1 (e : Fin 512) : iblk m c 1 t (ix3 z p e)
    = (m (c.tc.loc main_arg1) : FVec Ideal S4x2048x512 .f32) (ix3 ⟨t.val / 4, point_lt t⟩ ⟨t.val % 4 * 512 + p.val, lane_lt t p⟩ e) := by
  blk_point [iblk, V, idx t]

theorem blk2 (e : Fin 2048) : iblk m c 2 t (ix3 z p e)
    = (m (c.tc.loc main_arg2) : FVec Ideal S4x2048x2048 .f32) (ix3 ⟨t.val / 4, point_lt t⟩ ⟨t.val % 4 * 512 + p.val, lane_lt t p⟩ e) := by
  blk_point [iblk, V, idx t]

theorem blk3 : iblk m c 3 t (ix3 z p k)
    = row (m (c.tc.loc main_arg4)) ⟨t.val / 4, point_lt t⟩ ⟨t.val % 4 * 512 + p.val, lane_lt t p⟩ k := by
  unfold row
  blk_point [iblk, V, idx t]

theorem blk4 : iblk m c 4 t (ix2 z k) = vec (m (c.tc.loc main_arg5)) k := by
  unfold vec
  blk_point [iblk, V, idx t]

theorem blk5 (y : Fin 1) : iblk m c 5 t (ix3 z y k) = scale (m (c.tc.loc main_arg6)) ⟨t.val / 4, point_lt t⟩ k := by
  unfold scale
  blk_point [iblk, V, idx t]

theorem blk6 : iblk m c 6 t (ix3 z p k)
    = (m (c.tc.loc main_arg7) : FVec Ideal S4x2048x1024 .f32) (ix3 ⟨t.val / 4, point_lt t⟩ ⟨t.val % 4 * 512 + p.val, lane_lt t p⟩ k) := by
  blk_point [iblk, V, idx t]

theorem w2 (e : Fin 3072) : V m c main_v2 (ix2 k e)
    = (m (c.tc.loc main_arg3) : FVec Ideal S1x1024x5632 .f32) (ix3 0 k ⟨e.val, by omega⟩) := by
  have hv : V m c main_v2 = (extractStridedSlice S1024x3072 ![0, 0] (truncf .bf16
      (shapeCast S1024x5632 (m (c.tc.loc main_arg3)) shapeCasts_S1x1024x5632_S1024x5632) bitsLt_bf16_f32)
      slices_S1024x5632_S1024x3072_0_0 : FVec Ideal S1024x3072 .bf16) := by
    unfold V
    rfl
  exact (congrFun hv _).trans (cols_at _ _ k e _ (by simp))

theorem w3 (e : Fin 512) : V m c main_v3 (ix2 k e)
    = (m (c.tc.loc main_arg3) : FVec Ideal S1x1024x5632 .f32) (ix3 0 k ⟨3072 + e.val, by omega⟩) := by
  have hv : V m c main_v3 = (extractStridedSlice S1024x512 ![0, 3072] (truncf .bf16
      (shapeCast S1024x5632 (m (c.tc.loc main_arg3)) shapeCasts_S1x1024x5632_S1024x5632) bitsLt_bf16_f32)
      slices_S1024x5632_S1024x512_0_3072 : FVec Ideal S1024x512 .bf16) := by
    unfold V
    rfl
  exact (congrFun hv _).trans (cols_at _ _ k e _ (by simp))

theorem w4 (e : Fin 2048) : V m c main_v4 (ix2 k e)
    = (m (c.tc.loc main_arg3) : FVec Ideal S1x1024x5632 .f32) (ix3 0 k ⟨3584 + e.val, by omega⟩) := by
  have hv : V m c main_v4 = (extractStridedSlice S1024x2048 ![0, 3584] (truncf .bf16
      (shapeCast S1024x5632 (m (c.tc.loc main_arg3)) shapeCasts_S1x1024x5632_S1024x5632) bitsLt_bf16_f32)
      slices_S1024x5632_S1024x2048_0_3584 : FVec Ideal S1024x2048 .bf16) := by
    unfold V
    rfl
  exact (congrFun hv _).trans (cols_at _ _ k e _ (by simp))

end

/-- The cotangents of the modulated rows: each row's three parts through the projection's columns. -/
def dh (A0 : FVec Ideal S4x2048x3072 .f32) (A1 : FVec Ideal S4x2048x512 .f32) (A2 : FVec Ideal S4x2048x2048 .f32)
    (W : FVec Ideal S1x1024x5632 .f32) (b : Fin 4) (p : Fin 2048) (k : Fin 1024) : EReal :=
  ∑ e : Fin 3072, A0 (ix3 b p e) * W (ix3 0 k ⟨e.val, by omega⟩) + ∑ e : Fin 512, A1 (ix3 b p e) * W (ix3 0 k ⟨3072 + e.val, by omega⟩)
    + ∑ e : Fin 2048, A2 (ix3 b p e) * W (ix3 0 k ⟨3584 + e.val, by omega⟩)

theorem dhB_at (c : Dev nD) (t : Fin cfg0.N) (p : Fin 512) (k : Fin 1024) : dhB m c t (ix2 p k)
    = dh (m (c.tc.loc main_arg0)) (m (c.tc.loc main_arg1)) (m (c.tc.loc main_arg2)) (m (c.tc.loc main_arg3))
        ⟨t.val / 4, point_lt t⟩ ⟨t.val % 4 * 512 + p.val, lane_lt t p⟩ k := by
  unfold dhB dh
  pointwise [k0_pay4]
  simp only [blk0, blk1, blk2]
  exact congrArg₂ (· + ·) (congrArg₂ (· + ·) (dot_congr _ (w2 m c k)) (dot_congr _ (w3 m c k))) (dot_congr _ (w4 m c k))

/-! ## What the arrays hold after the grid -/

theorem final7 (c : Dev nD) : (dats m 0 c).arrAt 7 cfg0.N
    = dx (dh (m (c.tc.loc main_arg0)) (m (c.tc.loc main_arg1)) (m (c.tc.loc main_arg2)) (m (c.tc.loc main_arg3)))
        (m (c.tc.loc main_arg4)) (m (c.tc.loc main_arg5)) (m (c.tc.loc main_arg6)) (m (c.tc.loc main_arg7)) := by
  refine (dats m 0 c).arrAt_eq_of_covers 7 _ (by decide +kernel) fun t _ y => ?_
  blk_simp
  rw [after0_7]
  rw [out_dx]
  idx_vars y
  rw [dx_at]
  simp only [dhB_at, blk3, blk4, blk5, blk6]
  rw [show ((View.whole main_v9_0).slice (win0_7.rect t)).emb (ix3 y0 y1 y2)
    = ix3 ⟨t.val / 4, point_lt t⟩ ⟨t.val % 4 * 512 + y1.val, lane_lt t y1⟩ y2 from by blk_ext [idx t]]
  rfl

theorem final8 (c : Dev nD) : (dats m 0 c).arrAt 8 cfg0.N = dsh
        (dh (m (c.tc.loc main_arg0)) (m (c.tc.loc main_arg1)) (m (c.tc.loc main_arg2)) (m (c.tc.loc main_arg3))) := by
  refine (dats m 0 c).arrAt_eq_of_covers 8 _ (by decide +kernel) fun t ht y => ?_
  blk_simp
  rw [after0_8]
  have hf : t.val % 4 = 3 := (flush0_8 t).mp ht
  rw [batch_sum N_0 (fun n h => (outsAt0 m c n h).2.1)
    (fun b p j => dh (m (c.tc.loc main_arg0)) (m (c.tc.loc main_arg1)) (m (c.tc.loc main_arg2)) (m (c.tc.loc main_arg3)) b p (j 2))
    (fun t h j => ?_) (fun t h j => ?_) t hf y]
  · idx_vars y
    rw [show ((View.whole main_v9_1).slice (win0_8.rect t)).emb (ix3 y0 y1 y2) = ix3 ⟨t.val / 4, point_lt t⟩ 0 y2 from by
      blk_ext [idx t]]
    rfl
  · idx_vars j
    refine (congrFun (out_new m c t h).2.1 _).trans ?_
    rw [dsh_at]
    simp only [dhB_at]
  · idx_vars j
    refine (congrFun (out_B m c t h).2.1 _).trans ?_
    rw [dsh_step]
    simp only [dhB_at]

theorem final9 (c : Dev nD) : (dats m 0 c).arrAt 9 cfg0.N = dsc
        (dh (m (c.tc.loc main_arg0)) (m (c.tc.loc main_arg1)) (m (c.tc.loc main_arg2)) (m (c.tc.loc main_arg3)))
        (m (c.tc.loc main_arg4)) (m (c.tc.loc main_arg5)) := by
  refine (dats m 0 c).arrAt_eq_of_covers 9 _ (by decide +kernel) fun t ht y => ?_
  blk_simp
  rw [after0_9]
  have hf : t.val % 4 = 3 := (flush0_9 t).mp ht
  rw [batch_sum N_0 (fun n h => (outsAt0 m c n h).2.2.1)
    (fun b p j => scPart (row (m (c.tc.loc main_arg4)) b p) (vec (m (c.tc.loc main_arg5)))
      (dh (m (c.tc.loc main_arg0)) (m (c.tc.loc main_arg1)) (m (c.tc.loc main_arg2)) (m (c.tc.loc main_arg3)) b p) (j 2))
    (fun t h j => ?_) (fun t h j => ?_) t hf y]
  · idx_vars y
    rw [show ((View.whole main_v9_2).slice (win0_9.rect t)).emb (ix3 y0 y1 y2) = ix3 ⟨t.val / 4, point_lt t⟩ 0 y2 from by
      blk_ext [idx t]]
    rfl
  · idx_vars j
    refine (congrFun (out_new m c t h).2.2 _).trans ?_
    rw [dsc_at]
    simp only [dhB_at, blk3, blk4]
  · idx_vars j
    refine (congrFun (out_B m c t h).2.2.1 _).trans ?_
    rw [dsc_step]
    simp only [dhB_at, blk3, blk4]

theorem final10 (c : Dev nD) : (dats m 0 c).arrAt 10 cfg0.N
    = dg (dh (m (c.tc.loc main_arg0)) (m (c.tc.loc main_arg1)) (m (c.tc.loc main_arg2)) (m (c.tc.loc main_arg3)))
        (m (c.tc.loc main_arg4)) (m (c.tc.loc main_arg6)) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0) _
    (fun t h j => by rw [(out_A m c t h).2.2.2, dg_at, zero_add])
    (fun t h j => by
      by_cases h4 : t.val % 4 = 0
      · rw [(out_C m c t h h4).2.2.2, dg_step, dg_at]
      · rw [(out_B m c t h4).2.2.2, dg_step, dg_at])
    (le_of_eq N_0) t0_15 rfl j, zero_add]
  refine Fin.sum_points_lanes_congr 4 fun t k ha hl => ?_
  simp only [dhB_at, blk3, blk5]

/-! ## What the reference's arrays hold -/

/-- The cotangents of the modulated rows, each row's parts side by side. -/
def dhR (A0 : FVec Ideal S4x2048x3072 .f32) (A1 : FVec Ideal S4x2048x512 .f32) (A2 : FVec Ideal S4x2048x2048 .f32)
    (W : FVec Ideal S1x1024x5632 .f32) (b : Fin 4) (p : Fin 2048) (k : Fin 1024) : EReal :=
  ∑ e : Fin 5632, (if h : e.val < 3072 then A0 (ix3 b p ⟨e.val, h⟩) else if h' : e.val - 3072 < 512 then A1 (ix3 b p ⟨e.val - 3072, h'⟩)
    else A2 (ix3 b p ⟨e.val - 3072 - 512, by omega⟩)) * W (ix3 0 k e)

theorem dot_at (A0 : FVec Ideal S4x2048x3072 .f32) (A1 : FVec Ideal S4x2048x512 .f32) (A2 : FVec Ideal S4x2048x2048 .f32)
    (W : FVec Ideal S1x1024x5632 .f32) (b : Fin 4) (p : Fin 2048) (k : Fin 1024) :
    (Host.dotGeneral Cert.ReferenceMixNormIdeal.dot_S4x2048x5632_S1024x5632_S4x2048x1024_2_1_01_0_n_n none
      (concatenate Cert.ReferenceMixNormIdeal.S4x2048x5632 2 [⟨S4x2048x3072, A0⟩, ⟨S4x2048x512, A1⟩, ⟨S4x2048x2048, A2⟩]
        Cert.ReferenceMixNormIdeal.Facts₀.concatenates_S4x2048x3072_S4x2048x512_S4x2048x2048_S4x2048x5632_d2)
      (shapeCast Cert.ReferenceMixNormIdeal.S1024x5632 W Cert.ReferenceMixNormIdeal.Facts₀.shapeCasts_S1x1024x5632_S1024x5632) : FVec Ideal S4x2048x1024 .f32) (ix3 b p k)
      = dhR A0 A1 A2 W b p k := by
  unfold dhR
  pointwise

section Ref

variable (m' : (ℓ : Loc Cert.ReferenceMixNormIdeal.nD Cert.ReferenceMixNormIdeal.τ Cert.ReferenceMixNormIdeal.sig) → Buf (Elt Ideal) ℓ)

set_option maxHeartbeats 2000000 in
theorem ref_dx (c : Dev Cert.ReferenceMixNormIdeal.nD) (b : Fin 4) (p : Fin 2048) (k : Fin 1024) :
    (Cert.ReferenceMixNormIdeal.Value.res_main_v60 m' c : FVec Ideal S4x2048x1024 .f32) (ix3 b p k)
      = dxVjp (row (m' (c.tc.loc Cert.ReferenceMixNormIdeal.main_arg4)) b p) (scaled (vec (m' (c.tc.loc Cert.ReferenceMixNormIdeal.main_arg5))) (scale (m' (c.tc.loc Cert.ReferenceMixNormIdeal.main_arg6)) b) ((dhR (m' (c.tc.loc Cert.ReferenceMixNormIdeal.main_arg0)) (m' (c.tc.loc Cert.ReferenceMixNormIdeal.main_arg1)) (m' (c.tc.loc Cert.ReferenceMixNormIdeal.main_arg2)) (m' (c.tc.loc Cert.ReferenceMixNormIdeal.main_arg3))) b p)) (row (m' (c.tc.loc Cert.ReferenceMixNormIdeal.main_arg7)) b p) k := by
  have hD := dot_at (m' (c.tc.loc Cert.ReferenceMixNormIdeal.main_arg0)) (m' (c.tc.loc Cert.ReferenceMixNormIdeal.main_arg1)) (m' (c.tc.loc Cert.ReferenceMixNormIdeal.main_arg2)) (m' (c.tc.loc Cert.ReferenceMixNormIdeal.main_arg3))
  revert hD
  unfold Cert.ReferenceMixNormIdeal.Value.res_main_v60
  generalize Host.dotGeneral (F := Ideal) Cert.ReferenceMixNormIdeal.dot_S4x2048x5632_S1024x5632_S4x2048x1024_2_1_01_0_n_n none _ _ = D
  generalize (dhR (m' (c.tc.loc Cert.ReferenceMixNormIdeal.main_arg0)) (m' (c.tc.loc Cert.ReferenceMixNormIdeal.main_arg1)) (m' (c.tc.loc Cert.ReferenceMixNormIdeal.main_arg2)) (m' (c.tc.loc Cert.ReferenceMixNormIdeal.main_arg3))) = D'
  intro hD
  pointwise
  simp only [hD]
  rfl

set_option maxHeartbeats 2000000 in
/-- The reference's run with its results as sums over rows. -/
theorem ref_run (ρ' : Dev Cert.ReferenceMixNormIdeal.nD → PrngReg) :
    θ_run Cert.ReferenceMixNormIdeal.defs (onTc (τ := Cert.ReferenceMixNormIdeal.τ) (Cert.ReferenceMixNormIdeal.main (F := Ideal))) ⟨m', fun _ => 0, ρ'⟩ fun r => ∀ c : Dev Cert.ReferenceMixNormIdeal.nD,
      r.2.mem (c.tc.loc Cert.ReferenceMixNormIdeal.main_v60) = Cert.ReferenceMixNormIdeal.Value.res_main_v60 m' c
      ∧ r.2.mem (c.tc.loc Cert.ReferenceMixNormIdeal.main_v61) = dsh (dhR (m' (c.tc.loc Cert.ReferenceMixNormIdeal.main_arg0)) (m' (c.tc.loc Cert.ReferenceMixNormIdeal.main_arg1)) (m' (c.tc.loc Cert.ReferenceMixNormIdeal.main_arg2)) (m' (c.tc.loc Cert.ReferenceMixNormIdeal.main_arg3)))
      ∧ r.2.mem (c.tc.loc Cert.ReferenceMixNormIdeal.main_v62) = dsc (dhR (m' (c.tc.loc Cert.ReferenceMixNormIdeal.main_arg0)) (m' (c.tc.loc Cert.ReferenceMixNormIdeal.main_arg1)) (m' (c.tc.loc Cert.ReferenceMixNormIdeal.main_arg2)) (m' (c.tc.loc Cert.ReferenceMixNormIdeal.main_arg3))) (m' (c.tc.loc Cert.ReferenceMixNormIdeal.main_arg4)) (m' (c.tc.loc Cert.ReferenceMixNormIdeal.main_arg5))
      ∧ r.2.mem (c.tc.loc Cert.ReferenceMixNormIdeal.main_v45) = dg (dhR (m' (c.tc.loc Cert.ReferenceMixNormIdeal.main_arg0)) (m' (c.tc.loc Cert.ReferenceMixNormIdeal.main_arg1)) (m' (c.tc.loc Cert.ReferenceMixNormIdeal.main_arg2)) (m' (c.tc.loc Cert.ReferenceMixNormIdeal.main_arg3))) (m' (c.tc.loc Cert.ReferenceMixNormIdeal.main_arg4)) (m' (c.tc.loc Cert.ReferenceMixNormIdeal.main_arg6))
      ∧ (r.2.mem (c.tc.loc Cert.ReferenceMixNormIdeal.main_arg0) = m' (c.tc.loc Cert.ReferenceMixNormIdeal.main_arg0)
      ∧ r.2.mem (c.tc.loc Cert.ReferenceMixNormIdeal.main_arg1) = m' (c.tc.loc Cert.ReferenceMixNormIdeal.main_arg1)
      ∧ r.2.mem (c.tc.loc Cert.ReferenceMixNormIdeal.main_arg2) = m' (c.tc.loc Cert.ReferenceMixNormIdeal.main_arg2)
      ∧ r.2.mem (c.tc.loc Cert.ReferenceMixNormIdeal.main_arg3) = m' (c.tc.loc Cert.ReferenceMixNormIdeal.main_arg3)
      ∧ r.2.mem (c.tc.loc Cert.ReferenceMixNormIdeal.main_arg4) = m' (c.tc.loc Cert.ReferenceMixNormIdeal.main_arg4)
      ∧ r.2.mem (c.tc.loc Cert.ReferenceMixNormIdeal.main_arg5) = m' (c.tc.loc Cert.ReferenceMixNormIdeal.main_arg5)
      ∧ r.2.mem (c.tc.loc Cert.ReferenceMixNormIdeal.main_arg6) = m' (c.tc.loc Cert.ReferenceMixNormIdeal.main_arg6)
      ∧ r.2.mem (c.tc.loc Cert.ReferenceMixNormIdeal.main_arg7) = m' (c.tc.loc Cert.ReferenceMixNormIdeal.main_arg7)) := by
  refine (θ_run Cert.ReferenceMixNormIdeal.defs _ _).mono (fun r h c => ?_) (Cert.ReferenceMixNormIdeal.Value.run m' ρ')
  obtain ⟨e0, e1, e2, e3, er⟩ := h c
  have hD := dot_at (m' (c.tc.loc Cert.ReferenceMixNormIdeal.main_arg0)) (m' (c.tc.loc Cert.ReferenceMixNormIdeal.main_arg1)) (m' (c.tc.loc Cert.ReferenceMixNormIdeal.main_arg2)) (m' (c.tc.loc Cert.ReferenceMixNormIdeal.main_arg3))
  refine ⟨e0, e1.trans ?_, e2.trans ?_, e3.trans ?_, er⟩
  all_goals
    clear e0 e1 e2 e3 er h
    revert hD
    generalize Host.dotGeneral (F := Ideal) Cert.ReferenceMixNormIdeal.dot_S4x2048x5632_S1024x5632_S4x2048x1024_2_1_01_0_n_n none _ _ = D
    generalize (dhR (m' (c.tc.loc Cert.ReferenceMixNormIdeal.main_arg0)) (m' (c.tc.loc Cert.ReferenceMixNormIdeal.main_arg1)) (m' (c.tc.loc Cert.ReferenceMixNormIdeal.main_arg2)) (m' (c.tc.loc Cert.ReferenceMixNormIdeal.main_arg3))) = D'
    intro hD
    funext j
    idx_vars j
  · unfold dsh
    pointwise
    simp only [hD, Fin.sum_univ_one]
  · unfold dsc
    simp only [← scVjp_eq]
    pointwise
    simp only [hD, Fin.sum_univ_one]
    rfl
  · unfold dg
    simp only [← gVjp_eq]
    pointwise
    simp only [hD, Fin.sum_univ_one]
    rfl

end Ref

/-- A sum over the projection's columns is the sum over its three stretches. -/
theorem sum_cols (f : Fin 5632 → EReal) : ∑ e, f e = ∑ e : Fin 3072, f ⟨e.val, by omega⟩
    + ∑ e : Fin 512, f ⟨3072 + e.val, by omega⟩ + ∑ e : Fin 2048, f ⟨3584 + e.val, by omega⟩ :=
  (Fin.sum_univ_add (a := 3584) (b := 2048) f).trans
    (congrArg (· + _) (Fin.sum_univ_add (a := 3072) (b := 512) fun e => f (Fin.castAdd 2048 e)))

theorem dhR_eq (A0 : FVec Ideal S4x2048x3072 .f32) (A1 : FVec Ideal S4x2048x512 .f32) (A2 : FVec Ideal S4x2048x2048 .f32)
    (W : FVec Ideal S1x1024x5632 .f32) : dhR A0 A1 A2 W = dh A0 A1 A2 W := by
  funext b p k
  unfold dhR dh
  rw [sum_cols]
  refine congrArg₂ (· + ·) (congrArg₂ (· + ·) ?_ ?_) ?_
  · exact Finset.sum_congr rfl fun e _ => by rw [dif_pos e.isLt]
  · refine Finset.sum_congr rfl fun e _ => ?_
    rw [dif_neg (by simp), dif_pos (by simp)]
    simp only [Nat.add_sub_cancel_left]
  · refine Finset.sum_congr rfl fun e _ => ?_
    rw [dif_neg (by simp; omega), dif_neg (by simp; omega)]
    simp only [show 3584 + e.val - 3072 - 512 = e.val by omega]

/-- On reals the cotangent of the normed rows is real. -/
theorem dh_coe (A0 : S4x2048x3072.Idx → ℝ) (A1 : S4x2048x512.Idx → ℝ) (A2 : S4x2048x2048.Idx → ℝ) (W : S1x1024x5632.Idx → ℝ) :
    ∃ D : Fin 4 → Fin 2048 → Fin 1024 → ℝ, dh (fun i => (A0 i : EReal)) (fun i => (A1 i : EReal)) (fun i => (A2 i : EReal))
      (fun i => (W i : EReal)) = fun b p k => (D b p k : EReal) := by
  have h : ∀ b p k, ∃ r : ℝ, dh (fun i => (A0 i : EReal)) (fun i => (A1 i : EReal)) (fun i => (A2 i : EReal))
      (fun i => (W i : EReal)) b p k = (r : EReal) := fun b p k => by
    obtain ⟨r0, h0⟩ := dot_real (fun e => A0 (ix3 b p e)) fun e : Fin 3072 => W (ix3 0 k ⟨e.val, by omega⟩)
    obtain ⟨r1, h1⟩ := dot_real (fun e => A1 (ix3 b p e)) fun e : Fin 512 => W (ix3 0 k ⟨3072 + e.val, by omega⟩)
    obtain ⟨r2, h2⟩ := dot_real (fun e => A2 (ix3 b p e)) fun e : Fin 2048 => W (ix3 0 k ⟨3584 + e.val, by omega⟩)
    exact ⟨r0 + r1 + r2, by rw [EReal.coe_add, EReal.coe_add, ← h0, ← h1, ← h2]; rfl⟩
  choose D hD using h
  exact ⟨D, funext fun b => funext fun p => funext fun k => hD b p k⟩

end Cert.MixNormValue

end
-- ==== Proof.MixNormClaim.lean ====
/-
The gradient through a projection's norm, kernel and differentiation, equal over the reals.
-/
module

public import proofs.«01_k».proof.Defs
public import proofs.«01_k».proof.Proof.Gen.Pre_finite_mixnorm
public import proofs.«01_k».proof.Proof.MixNormValue

@[expose] public section

set_option maxRecDepth 16384

noncomputable section

namespace Cert.MixNormClaim

open Cert.Reals Cert.NormGrad Cert.MixNormValue Cert.KernelMixNormIdeal Cert.KernelMixNormIdeal.Gen Idealize.ShloMosaic
open Idealize.ShloMosaic.TcCoe Idealize.SL.Sem

/-- The precondition says that every array but the last holds real numbers. -/
theorem reals (a0 : FVec Ideal S4x2048x3072 .f32) (a1 : FVec Ideal S4x2048x512 .f32) (a2 : FVec Ideal S4x2048x2048 .f32)
    (w : FVec Ideal S1x1024x5632 .f32) (x : FVec Ideal S4x2048x1024 .f32) (g : FVec Ideal S1x1024 .f32) (s : FVec Ideal S4x1024 .f32)
    (o : FVec Ideal S4x2048x1024 .f32) (h : Cert.Pre_finite_mixnorm.fn (F := Ideal) a0 a1 a2 w x g s o = fun _ => 1#1) :
    (∃ A : S4x2048x3072.Idx → ℝ, a0 = fun i => (A i : EReal)) ∧ (∃ A : S4x2048x512.Idx → ℝ, a1 = fun i => (A i : EReal))
      ∧ (∃ A : S4x2048x2048.Idx → ℝ, a2 = fun i => (A i : EReal)) ∧ (∃ A : S1x1024x5632.Idx → ℝ, w = fun i => (A i : EReal))
      ∧ (∃ A : S4x2048x1024.Idx → ℝ, x = fun i => (A i : EReal)) ∧ (∃ A : S1x1024.Idx → ℝ, g = fun i => (A i : EReal))
      ∧ ∃ A : S4x1024.Idx → ℝ, s = fun i => (A i : EReal) := by
  have : Subsingleton S_.Idx := ⟨fun a b => funext fun d => d.elim0⟩
  have h0 := congrFun h (fun d => d.elim0)
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨reals_of_all a0 _ _ _ _ _ e0, reals_of_all a1 _ _ _ _ _ e1, reals_of_all a2 _ _ _ _ _ e2, reals_of_all w _ _ _ _ _ e3,
    reals_of_all x _ _ _ _ _ e4, reals_of_all g _ _ _ _ _ e5, reals_of_all s _ _ _ _ _ e6⟩

theorem algebraic : Cert.algebraic_KernelMixNormIdeal_ReferenceMixNormIdeal_pre_finite_mixnorm := by
  intro m g m' g' hpre hargs
  refine ⟨_, _, _, _, Value.run_blocks m g, ?_⟩
  refine (θ_run Cert.ReferenceMixNormIdeal.defs _ _).mono (fun r h c => ?_) (ref_run m' g')
  obtain ⟨h0, h1, h2, h3, h4, h5, h6, h7⟩ := hargs c
  obtain ⟨e0, e1, e2, e3, hr⟩ := h c
  refine ⟨e0.trans ?_, e1.trans ?_, e2.trans ?_, e3.trans ?_, hr⟩
  · obtain ⟨⟨A0, hA0⟩, ⟨A1, hA1⟩, ⟨A2, hA2⟩, ⟨W, hW⟩, ⟨X, hX⟩, ⟨G, hG⟩, ⟨S, hS⟩⟩ := reals _ _ _ _ _ _ _ _ (hpre c)
    obtain ⟨D, hD⟩ := dh_coe A0 A1 A2 W
    rw [final7, hA0, hA1, hA2, hW, hD, hX, hG, hS]
    funext j
    idx_vars j
    refine (ref_dx m' c j0 j1 j2).trans ?_
    rw [h0, h1, h2, h3, h4, h5, h6, h7, hA0, hA1, hA2, hW, dhR_eq, hD, hX, hG, hS]
    exact dxVjp_eq _ _ _ _ _ j2
  · rw [final8, h0, h1, h2, h3, dhR_eq]
  · rw [final9, h0, h1, h2, h3, h4, h5, dhR_eq]
  · rw [final10, h0, h1, h2, h3, h4, h6, dhR_eq]

end Cert.MixNormClaim

end
-- ==== Proof.FfnNormValue.lean ====
/-
The gradient through the norm before the two gates, as the kernel computes it and as differentiation writes it.
-/
module

public import proofs.«01_k».proof.Proof.Gen.KernelFfnNormIdeal.Frame
public import proofs.«01_k».proof.Proof.Gen.KernelFfnNormIdeal.Value
public import proofs.«01_k».proof.Proof.Gen.ReferenceFfnNormIdeal.Run
public import proofs.«01_k».proof.Proof.NormGrad
public import proofs.«01_k».proof.Proof.Rows
public import Idealize.ShloMosaic.Lib.Pipeline.ReadBack

@[expose] public section

set_option maxRecDepth 16384

noncomputable section

namespace Cert.FfnNormValue

open Cert.Reals Cert.NormGrad Cert.KernelFfnNormIdeal Cert.KernelFfnNormIdeal.Gen Idealize.ShloMosaic Idealize.ShloMosaic.TcCoe Idealize.SL.Sem

variable (m : (ℓ : Loc nD τ sig) → Buf (Elt Ideal) ℓ)

/-! ## What a block computes -/

section Block
variable (d : FVec Ideal S512x1024 .f32) (x : FVec Ideal S1x512x1024 .f32) (g : FVec Ideal S1x1024 .f32)
  (sc : FVec Ideal S1x1x1024 .f32) (o : FVec Ideal S1x512x1024 .f32)

theorem dx_at (z : Fin 1) (p : Fin 512) (k : Fin 1024) :
    k0_pay12 (F := Ideal) d g (k0_pay4 x) (k0_pay5 x) (k0_pay6 sc) k0_pay7 o (ix3 z p k) = o (ix3 0 p k)
      + normBwd (fun k => x (ix3 0 p k)) (scaled (fun k => g (ix2 0 k)) (fun k => sc (ix3 0 0 k)) fun k => d (ix2 p k)) k := by
  pointwise [k0_pay12, k0_pay8, k0_pay7, k0_pay6, k0_pay5, k0_pay4, k0_pay3]
  rfl

theorem dsh_at (j0 j1 : Fin 1) (j2 : Fin 1024) : k0_pay13 (F := Ideal) d (ix3 j0 j1 j2) = ∑ p : Fin 512, d (ix2 p j2) := by
  pointwise [k0_pay13, k0_pay9]

theorem dsh_step (a : FVec Ideal S1x1x1024 .f32) (j0 j1 : Fin 1) (j2 : Fin 1024) : k0_pay15 (F := Ideal) d a (ix3 j0 j1 j2)
    = a (ix3 j0 j1 j2) + ∑ p : Fin 512, d (ix2 p j2) := by
  rw [Subsingleton.elim j0 0, Subsingleton.elim j1 0]
  pointwise [k0_pay15, k0_pay9]

theorem dsc_at (j0 j1 : Fin 1) (j2 : Fin 1024) : k0_pay14 (F := Ideal) d g (k0_pay5 x) (ix3 j0 j1 j2)
    = ∑ p : Fin 512, scPart (fun k => x (ix3 0 p k)) (fun k => g (ix2 0 k)) (fun k => d (ix2 p k)) j2 := by
  pointwise [k0_pay14, k0_pay10, k0_pay5, k0_pay4, k0_pay3]
  rfl

theorem dsc_step (a : FVec Ideal S1x1x1024 .f32) (j0 j1 : Fin 1) (j2 : Fin 1024) :
    k0_pay16 (F := Ideal) d g (k0_pay5 x) a (ix3 j0 j1 j2)
    = a (ix3 j0 j1 j2) + ∑ p : Fin 512, scPart (fun k => x (ix3 0 p k)) (fun k => g (ix2 0 k)) (fun k => d (ix2 p k)) j2 := by
  rw [Subsingleton.elim j0 0, Subsingleton.elim j1 0]
  pointwise [k0_pay16, k0_pay10, k0_pay5, k0_pay4, k0_pay3]
  rfl

theorem dg_at (j : S1x1024.Idx) : k0_pay11 (F := Ideal) d (k0_pay5 x) (k0_pay6 sc) k0_pay7 j
    = ∑ p : Fin 512, gPart (fun k => x (ix3 0 p k)) (fun k => sc (ix3 0 0 k)) (fun k => d (ix2 p k)) (j 1) := by
  idx_vars j
  pointwise [k0_pay11, k0_pay8, k0_pay7, k0_pay6, k0_pay5, k0_pay4, k0_pay3]
  rfl

theorem dg_step (a v : FVec Ideal S1x1024 .f32) (j : S1x1024.Idx) : k0_pay1 (F := Ideal) v a j = a j + v j := by
  idx_vars j
  pointwise [k0_pay1]

end Block

/-! ## The blocks of the operands -/

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![0, 0] ∧ win0_4.index t = ![t.val / 4, 0, 0]
    ∧ win0_5.index t = ![t.val / 4, t.val % 4, 0] ∧ win0_6.index t = ![t.val / 4, t.val % 4, 0]
    ∧ win0_7.index t = ![t.val / 4, 0, 0] ∧ win0_8.index t = ![t.val / 4, 0, 0] :=
  (by decide +kernel : ∀ t : Fin grid0.N, _)

theorem weights (c : Dev nD) : ∀ (n : Nat) (h : n < cfg0.N), (outsAt0 m c n h).2.2.2.2.1 = V m c main_v2
    ∧ (outsAt0 m c n h).2.2.2.2.2 = V m c main_v5 := by
  intro n h
  induction n with
  | zero =>
    rw [outsAt0_A m c ⟨0, h⟩ rfl rfl (by simp) rfl (by simp)]
    refine ⟨?_, ?_⟩
    all_goals
      frame_out
      rw [canon_whole]
      rfl
  | succ n ih =>
    have hn := lt_of_lt_of_eq h N_0
    have e := ih (Nat.lt_of_succ_lt h)
    by_cases h4 : (n + 1) % 4 = 0
    · rw [outsAt0_C m c ⟨n + 1, h⟩ (by simp; omega) h4 (by simp; omega) (by simp; omega) (by simp)]
      simpa only [sout0_C_0, sout0_C_1, Nat.add_sub_cancel] using e
    · rw [outsAt0_B m c ⟨n + 1, h⟩ (by simp; omega) h4 (by simp; omega) (by simp; omega) (by simp)]
      simpa only [sout0_B_0, sout0_B_1, Nat.add_sub_cancel] using e

/-- The cotangents of the modulated rows of a block. -/
def dhB (c : Dev nD) (t : Fin cfg0.N) : FVec Ideal S512x1024 .f32 :=
  k0_pay2 (iblk m c 0 t) (V m c main_v2) (iblk m c 1 t) (V m c main_v5)

theorem out_A (c : Dev nD) (t : Fin cfg0.N) (h : t.val % 16 = 0) :
    (outsAt0 m c t.val t.isLt).1
      = k0_pay12 (dhB m c t) (iblk m c 3 t) (k0_pay4 (iblk m c 2 t)) (k0_pay5 (iblk m c 2 t)) (k0_pay6 (iblk m c 4 t)) k0_pay7 (iblk m c 5 t)
    ∧ (outsAt0 m c t.val t.isLt).2.1 = k0_pay13 (dhB m c t)
    ∧ (outsAt0 m c t.val t.isLt).2.2.1
      = k0_pay14 (dhB m c t) (iblk m c 3 t) (k0_pay5 (iblk m c 2 t))
    ∧ (outsAt0 m c t.val t.isLt).2.2.2.1
      = k0_pay11 (dhB m c t) (k0_pay5 (iblk m c 2 t)) (k0_pay6 (iblk m c 4 t)) k0_pay7 := by
  have r0 : (View.whole cc0_scratch0).readCov [⟨Rect.whole S2816x1024, ReadAs.same.apply (V m c main_v2)⟩]
      (Rect.unit ![0, 0] ![2816, 1024] inb_S2816x1024_S2816x1024_0_0).toLoadRect = V m c main_v2 :=
    readCov_whole _ _ _ (by decide)
  have r1 : (View.whole cc0_scratch1).readCov [⟨Rect.whole S2816x1024, ReadAs.same.apply (V m c main_v5)⟩]
      (Rect.unit ![0, 0] ![2816, 1024] inb_S2816x1024_S2816x1024_0_0).toLoadRect = V m c main_v5 :=
    readCov_whole _ _ _ (by decide)
  rw [outsAt0_A m c t h (by omega) (by omega) h (by have := lt_of_lt_of_eq t.isLt N_0; omega)]
  refine ⟨?_, ?_, ?_, ?_⟩
  all_goals
    frame_out
    simp only [View.read_whole, r0, r1, dhB]

theorem out_C (c : Dev nD) (t : Fin cfg0.N) (h : ¬t.val % 16 = 0) (h4 : t.val % 4 = 0) :
    (outsAt0 m c t.val t.isLt).1
      = k0_pay12 (dhB m c t) (iblk m c 3 t) (k0_pay4 (iblk m c 2 t)) (k0_pay5 (iblk m c 2 t)) (k0_pay6 (iblk m c 4 t)) k0_pay7 (iblk m c 5 t)
    ∧ (outsAt0 m c t.val t.isLt).2.1 = k0_pay13 (dhB m c t)
    ∧ (outsAt0 m c t.val t.isLt).2.2.1
      = k0_pay14 (dhB m c t) (iblk m c 3 t) (k0_pay5 (iblk m c 2 t))
    ∧ (outsAt0 m c t.val t.isLt).2.2.2.1
      = k0_pay1 (k0_pay11 (dhB m c t) (k0_pay5 (iblk m c 2 t)) (k0_pay6 (iblk m c 4 t)) k0_pay7)
          (outsAt0 m c (t.val - 1) (Nat.lt_of_le_of_lt (Nat.sub_le _ _) t.isLt)).2.2.2.1 := by
  obtain ⟨e0, e1⟩ := weights m c (t.val - 1) (Nat.lt_of_le_of_lt (Nat.sub_le _ _) t.isLt)
  rw [outsAt0_C m c t h h4 (by omega) h (by omega)]
  refine ⟨?_, ?_, ?_, ?_⟩
  all_goals
    frame_out
    simp only [read_unread_whole, e0, e1, dhB]

theorem out_B (c : Dev nD) (t : Fin cfg0.N) (h : ¬t.val % 4 = 0) :
    (outsAt0 m c t.val t.isLt).1
      = k0_pay12 (dhB m c t) (iblk m c 3 t) (k0_pay4 (iblk m c 2 t)) (k0_pay5 (iblk m c 2 t)) (k0_pay6 (iblk m c 4 t)) k0_pay7 (iblk m c 5 t)
    ∧ (outsAt0 m c t.val t.isLt).2.1
      = k0_pay15 (dhB m c t) (outsAt0 m c (t.val - 1) (Nat.lt_of_le_of_lt (Nat.sub_le _ _) t.isLt)).2.1
    ∧ (outsAt0 m c t.val t.isLt).2.2.1
      = k0_pay16 (dhB m c t) (iblk m c 3 t) (k0_pay5 (iblk m c 2 t))
          (outsAt0 m c (t.val - 1) (Nat.lt_of_le_of_lt (Nat.sub_le _ _) t.isLt)).2.2.1
    ∧ (outsAt0 m c t.val t.isLt).2.2.2.1
      = k0_pay1 (k0_pay11 (dhB m c t) (k0_pay5 (iblk m c 2 t)) (k0_pay6 (iblk m c 4 t)) k0_pay7)
          (outsAt0 m c (t.val - 1) (Nat.lt_of_le_of_lt (Nat.sub_le _ _) t.isLt)).2.2.2.1 := by
  obtain ⟨e0, e1⟩ := weights m c (t.val - 1) (Nat.lt_of_le_of_lt (Nat.sub_le _ _) t.isLt)
  rw [outsAt0_B m c t (by omega) h (by omega) (by omega) (by omega)]
  refine ⟨?_, ?_, ?_, ?_⟩
  all_goals
    frame_out
    simp only [read_unread_whole, e0, e1, dhB]

/-- At a batch's first point the sums start anew. -/
theorem out_new (c : Dev nD) (t : Fin cfg0.N) (h4 : t.val % 4 = 0) :
    (outsAt0 m c t.val t.isLt).1
      = k0_pay12 (dhB m c t) (iblk m c 3 t) (k0_pay4 (iblk m c 2 t)) (k0_pay5 (iblk m c 2 t)) (k0_pay6 (iblk m c 4 t)) k0_pay7 (iblk m c 5 t)
    ∧ (outsAt0 m c t.val t.isLt).2.1 = k0_pay13 (dhB m c t)
    ∧ (outsAt0 m c t.val t.isLt).2.2.1
      = k0_pay14 (dhB m c t) (iblk m c 3 t) (k0_pay5 (iblk m c 2 t)) := by
  by_cases h : t.val % 16 = 0
  · obtain ⟨a, b, e, -⟩ := out_A m c t h
    exact ⟨a, b, e⟩
  · obtain ⟨a, b, e, -⟩ := out_C m c t h h4
    exact ⟨a, b, e⟩

theorem out_dx (c : Dev nD) (t : Fin cfg0.N) : (outsAt0 m c t.val t.isLt).1
    = k0_pay12 (dhB m c t) (iblk m c 3 t) (k0_pay4 (iblk m c 2 t)) (k0_pay5 (iblk m c 2 t)) (k0_pay6 (iblk m c 4 t)) k0_pay7 (iblk m c 5 t) := by
  by_cases h4 : t.val % 4 = 0
  · exact (out_new m c t h4).1
  · exact (out_B m c t h4).1

/-! ## The operands' blocks over the arguments -/

theorem point_lt (t : Fin cfg0.N) : t.val / 4 < 4 := by have := lt_of_lt_of_eq t.isLt N_0; omega

theorem lane_lt (t : Fin cfg0.N) (p : Fin 512) : t.val % 4 * 512 + p.val < 2048 := by omega

/-- The weights as the kernel reads them: the columns as rows. -/
theorem cols_at (W : FVec Ideal S1x1024x2816 .f32) (e : Fin 2816) (k : Fin 1024) :
    (truncf .bf16 (shapeCast S2816x1024 (transpose S1x2816x1024 [0, 2, 1] W transposes_S1x1024x2816_S1x2816x1024_0_2_1)
      shapeCasts_S1x2816x1024_S2816x1024) bitsLt_bf16_f32 : FVec Ideal S2816x1024 .bf16) (ix2 e k) = W (ix3 0 k e) := by
  pointwise

section
variable (c : Dev nD) (t : Fin cfg0.N) (z : Fin 1) (p : Fin 512) (k : Fin 1024)

theorem blk0 (e : Fin 2816) : iblk m c 0 t (ix3 z p e)
    = (m (c.tc.loc main_arg0) : FVec Ideal S4x2048x2816 .f32) (ix3 ⟨t.val / 4, point_lt t⟩ ⟨t.val % 4 * 512 + p.val, lane_lt t p⟩ e) := by
  blk_point [iblk, V, idx t]

theorem blk1 (e : Fin 2816) : iblk m c 1 t (ix3 z p e)
    = (m (c.tc.loc main_arg1) : FVec Ideal S4x2048x2816 .f32) (ix3 ⟨t.val / 4, point_lt t⟩ ⟨t.val % 4 * 512 + p.val, lane_lt t p⟩ e) := by
  blk_point [iblk, V, idx t]

theorem blk2 : iblk m c 2 t (ix3 z p k)
    = row (m (c.tc.loc main_arg4)) ⟨t.val / 4, point_lt t⟩ ⟨t.val % 4 * 512 + p.val, lane_lt t p⟩ k := by
  unfold row
  blk_point [iblk, V, idx t]

theorem blk3 : iblk m c 3 t (ix2 z k) = vec (m (c.tc.loc main_arg5)) k := by
  unfold vec
  blk_point [iblk, V, idx t]

theorem blk4 (y : Fin 1) : iblk m c 4 t (ix3 z y k) = scale (m (c.tc.loc main_arg6)) ⟨t.val / 4, point_lt t⟩ k := by
  unfold scale
  blk_point [iblk, V, idx t]

theorem blk5 : iblk m c 5 t (ix3 z p k)
    = (m (c.tc.loc main_arg7) : FVec Ideal S4x2048x1024 .f32) (ix3 ⟨t.val / 4, point_lt t⟩ ⟨t.val % 4 * 512 + p.val, lane_lt t p⟩ k) := by
  blk_point [iblk, V, idx t]

theorem w2 (e : Fin 2816) : V m c main_v2 (ix2 e k) = (m (c.tc.loc main_arg2) : FVec Ideal S1x1024x2816 .f32) (ix3 0 k e) := by
  have hv : V m c main_v2 = (truncf .bf16 (shapeCast S2816x1024 (transpose S1x2816x1024 [0, 2, 1] (m (c.tc.loc main_arg2))
      transposes_S1x1024x2816_S1x2816x1024_0_2_1) shapeCasts_S1x2816x1024_S2816x1024) bitsLt_bf16_f32 : FVec Ideal S2816x1024 .bf16) := by
    unfold V
    rfl
  exact (congrFun hv _).trans (cols_at _ e k)

theorem w5 (e : Fin 2816) : V m c main_v5 (ix2 e k) = (m (c.tc.loc main_arg3) : FVec Ideal S1x1024x2816 .f32) (ix3 0 k e) := by
  have hv : V m c main_v5 = (truncf .bf16 (shapeCast S2816x1024 (transpose S1x2816x1024 [0, 2, 1] (m (c.tc.loc main_arg3))
      transposes_S1x1024x2816_S1x2816x1024_0_2_1) shapeCasts_S1x2816x1024_S2816x1024) bitsLt_bf16_f32 : FVec Ideal S2816x1024 .bf16) := by
    unfold V
    rfl
  exact (congrFun hv _).trans (cols_at _ e k)

end

/-- The cotangents of the modulated rows. -/
def dh (A0 A1 : FVec Ideal S4x2048x2816 .f32) (W1 W3 : FVec Ideal S1x1024x2816 .f32) (b : Fin 4) (p : Fin 2048) (k : Fin 1024) : EReal :=
  ∑ e : Fin 2816, A0 (ix3 b p e) * W1 (ix3 0 k e) + ∑ e : Fin 2816, A1 (ix3 b p e) * W3 (ix3 0 k e)

theorem dhB_at (c : Dev nD) (t : Fin cfg0.N) (p : Fin 512) (k : Fin 1024) : dhB m c t (ix2 p k)
    = dh (m (c.tc.loc main_arg0)) (m (c.tc.loc main_arg1)) (m (c.tc.loc main_arg2)) (m (c.tc.loc main_arg3))
        ⟨t.val / 4, point_lt t⟩ ⟨t.val % 4 * 512 + p.val, lane_lt t p⟩ k := by
  unfold dhB dh
  pointwise [k0_pay2]
  simp only [blk0, blk1]
  exact congrArg₂ (· + ·) (dot_congr _ (w2 m c k)) (dot_congr _ (w5 m c k))

/-! ## What the arrays hold after the grid -/

theorem final6 (c : Dev nD) : (dats m 0 c).arrAt 6 cfg0.N
    = dx (dh (m (c.tc.loc main_arg0)) (m (c.tc.loc main_arg1)) (m (c.tc.loc main_arg2)) (m (c.tc.loc main_arg3)))
        (m (c.tc.loc main_arg4)) (m (c.tc.loc main_arg5)) (m (c.tc.loc main_arg6)) (m (c.tc.loc main_arg7)) := by
  refine (dats m 0 c).arrAt_eq_of_covers 6 _ (by decide +kernel) fun t _ y => ?_
  blk_simp
  rw [after0_6]
  rw [out_dx]
  idx_vars y
  rw [dx_at]
  simp only [dhB_at, blk2, blk3, blk4, blk5]
  rw [show ((View.whole main_v9_0).slice (win0_6.rect t)).emb (ix3 y0 y1 y2)
    = ix3 ⟨t.val / 4, point_lt t⟩ ⟨t.val % 4 * 512 + y1.val, lane_lt t y1⟩ y2 from by blk_ext [idx t]]
  rfl

theorem final7 (c : Dev nD) : (dats m 0 c).arrAt 7 cfg0.N = dsh
        (dh (m (c.tc.loc main_arg0)) (m (c.tc.loc main_arg1)) (m (c.tc.loc main_arg2)) (m (c.tc.loc main_arg3))) := by
  refine (dats m 0 c).arrAt_eq_of_covers 7 _ (by decide +kernel) fun t ht y => ?_
  blk_simp
  rw [after0_7]
  have hf : t.val % 4 = 3 := (flush0_7 t).mp ht
  rw [batch_sum N_0 (fun n h => (outsAt0 m c n h).2.1)
    (fun b p j => dh (m (c.tc.loc main_arg0)) (m (c.tc.loc main_arg1)) (m (c.tc.loc main_arg2)) (m (c.tc.loc main_arg3)) b p (j 2))
    (fun t h j => ?_) (fun t h j => ?_) t hf y]
  · idx_vars y
    rw [show ((View.whole main_v9_1).slice (win0_7.rect t)).emb (ix3 y0 y1 y2) = ix3 ⟨t.val / 4, point_lt t⟩ 0 y2 from by
      blk_ext [idx t]]
    rfl
  · idx_vars j
    refine (congrFun (out_new m c t h).2.1 _).trans ?_
    rw [dsh_at]
    simp only [dhB_at]
  · idx_vars j
    refine (congrFun (out_B m c t h).2.1 _).trans ?_
    rw [dsh_step]
    simp only [dhB_at]

theorem final8 (c : Dev nD) : (dats m 0 c).arrAt 8 cfg0.N = dsc
        (dh (m (c.tc.loc main_arg0)) (m (c.tc.loc main_arg1)) (m (c.tc.loc main_arg2)) (m (c.tc.loc main_arg3)))
        (m (c.tc.loc main_arg4)) (m (c.tc.loc main_arg5)) := by
  refine (dats m 0 c).arrAt_eq_of_covers 8 _ (by decide +kernel) fun t ht y => ?_
  blk_simp
  rw [after0_8]
  have hf : t.val % 4 = 3 := (flush0_8 t).mp ht
  rw [batch_sum N_0 (fun n h => (outsAt0 m c n h).2.2.1)
    (fun b p j => scPart (row (m (c.tc.loc main_arg4)) b p) (vec (m (c.tc.loc main_arg5)))
      (dh (m (c.tc.loc main_arg0)) (m (c.tc.loc main_arg1)) (m (c.tc.loc main_arg2)) (m (c.tc.loc main_arg3)) b p) (j 2))
    (fun t h j => ?_) (fun t h j => ?_) t hf y]
  · idx_vars y
    rw [show ((View.whole main_v9_2).slice (win0_8.rect t)).emb (ix3 y0 y1 y2) = ix3 ⟨t.val / 4, point_lt t⟩ 0 y2 from by
      blk_ext [idx t]]
    rfl
  · idx_vars j
    refine (congrFun (out_new m c t h).2.2 _).trans ?_
    rw [dsc_at]
    simp only [dhB_at, blk2, blk3]
  · idx_vars j
    refine (congrFun (out_B m c t h).2.2.1 _).trans ?_
    rw [dsc_step]
    simp only [dhB_at, blk2, blk3]

theorem final9 (c : Dev nD) : (dats m 0 c).arrAt 9 cfg0.N
    = dg (dh (m (c.tc.loc main_arg0)) (m (c.tc.loc main_arg1)) (m (c.tc.loc main_arg2)) (m (c.tc.loc main_arg3)))
        (m (c.tc.loc main_arg4)) (m (c.tc.loc main_arg6)) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) _
    (fun t h j => by rw [(out_A m c t h).2.2.2, dg_at, zero_add])
    (fun t h j => by
      by_cases h4 : t.val % 4 = 0
      · rw [(out_C m c t h h4).2.2.2, dg_step, dg_at]
      · rw [(out_B m c t h4).2.2.2, dg_step, dg_at])
    (le_of_eq N_0) t0_15 rfl j, zero_add]
  refine Fin.sum_points_lanes_congr 4 fun t k ha hl => ?_
  simp only [dhB_at, blk2, blk4]

/-! ## What the reference's arrays hold -/

theorem dot_at (A0 A1 : FVec Ideal S4x2048x2816 .f32) (W1 W3 : FVec Ideal S1x1024x2816 .f32) (b : Fin 4) (p : Fin 2048) (k : Fin 1024) :
    (addf (Host.dotGeneral (F := Ideal) Cert.ReferenceFfnNormIdeal.dot_S4x2048x2816_S1024x2816_S4x2048x1024_2_1_01_0_n_n none A1 (shapeCast Cert.ReferenceFfnNormIdeal.S1024x2816 W3 Cert.ReferenceFfnNormIdeal.Facts₀.shapeCasts_S1x1024x2816_S1024x2816))
      (Host.dotGeneral (F := Ideal) Cert.ReferenceFfnNormIdeal.dot_S4x2048x2816_S1024x2816_S4x2048x1024_2_1_01_0_n_n none A0 (shapeCast Cert.ReferenceFfnNormIdeal.S1024x2816 W1 Cert.ReferenceFfnNormIdeal.Facts₀.shapeCasts_S1x1024x2816_S1024x2816)) : FVec Ideal S4x2048x1024 .f32)
      (ix3 b p k) = dh A0 A1 W1 W3 b p k := by
  rw [dh, add_comm]
  pointwise

section Ref

variable (m' : (ℓ : Loc Cert.ReferenceFfnNormIdeal.nD Cert.ReferenceFfnNormIdeal.τ Cert.ReferenceFfnNormIdeal.sig) → Buf (Elt Ideal) ℓ)

set_option maxHeartbeats 2000000 in
theorem ref_dx (c : Dev Cert.ReferenceFfnNormIdeal.nD) (b : Fin 4) (p : Fin 2048) (k : Fin 1024) :
    (Cert.ReferenceFfnNormIdeal.Value.res_main_v63 m' c : FVec Ideal S4x2048x1024 .f32) (ix3 b p k)
      = dxVjp (row (m' (c.tc.loc Cert.ReferenceFfnNormIdeal.main_arg4)) b p) (scaled (vec (m' (c.tc.loc Cert.ReferenceFfnNormIdeal.main_arg5))) (scale (m' (c.tc.loc Cert.ReferenceFfnNormIdeal.main_arg6)) b) ((dh (m' (c.tc.loc Cert.ReferenceFfnNormIdeal.main_arg0)) (m' (c.tc.loc Cert.ReferenceFfnNormIdeal.main_arg1)) (m' (c.tc.loc Cert.ReferenceFfnNormIdeal.main_arg2)) (m' (c.tc.loc Cert.ReferenceFfnNormIdeal.main_arg3))) b p)) (row (m' (c.tc.loc Cert.ReferenceFfnNormIdeal.main_arg7)) b p) k := by
  have hD := dot_at (m' (c.tc.loc Cert.ReferenceFfnNormIdeal.main_arg0)) (m' (c.tc.loc Cert.ReferenceFfnNormIdeal.main_arg1)) (m' (c.tc.loc Cert.ReferenceFfnNormIdeal.main_arg2)) (m' (c.tc.loc Cert.ReferenceFfnNormIdeal.main_arg3))
  revert hD
  unfold Cert.ReferenceFfnNormIdeal.Value.res_main_v63
  generalize addf (F := Ideal) (Host.dotGeneral (F := Ideal) Cert.ReferenceFfnNormIdeal.dot_S4x2048x2816_S1024x2816_S4x2048x1024_2_1_01_0_n_n none _ _) (Host.dotGeneral (F := Ideal) Cert.ReferenceFfnNormIdeal.dot_S4x2048x2816_S1024x2816_S4x2048x1024_2_1_01_0_n_n none _ _) = D
  generalize (dh (m' (c.tc.loc Cert.ReferenceFfnNormIdeal.main_arg0)) (m' (c.tc.loc Cert.ReferenceFfnNormIdeal.main_arg1)) (m' (c.tc.loc Cert.ReferenceFfnNormIdeal.main_arg2)) (m' (c.tc.loc Cert.ReferenceFfnNormIdeal.main_arg3))) = D'
  intro hD
  pointwise
  simp only [hD]
  rfl

set_option maxHeartbeats 2000000 in
/-- The reference's run with its results as sums over rows. -/
theorem ref_run (ρ' : Dev Cert.ReferenceFfnNormIdeal.nD → PrngReg) :
    θ_run Cert.ReferenceFfnNormIdeal.defs (onTc (τ := Cert.ReferenceFfnNormIdeal.τ) (Cert.ReferenceFfnNormIdeal.main (F := Ideal))) ⟨m', fun _ => 0, ρ'⟩ fun r => ∀ c : Dev Cert.ReferenceFfnNormIdeal.nD,
      r.2.mem (c.tc.loc Cert.ReferenceFfnNormIdeal.main_v63) = Cert.ReferenceFfnNormIdeal.Value.res_main_v63 m' c
      ∧ r.2.mem (c.tc.loc Cert.ReferenceFfnNormIdeal.main_v64) = dsh (dh (m' (c.tc.loc Cert.ReferenceFfnNormIdeal.main_arg0)) (m' (c.tc.loc Cert.ReferenceFfnNormIdeal.main_arg1)) (m' (c.tc.loc Cert.ReferenceFfnNormIdeal.main_arg2)) (m' (c.tc.loc Cert.ReferenceFfnNormIdeal.main_arg3)))
      ∧ r.2.mem (c.tc.loc Cert.ReferenceFfnNormIdeal.main_v65) = dsc (dh (m' (c.tc.loc Cert.ReferenceFfnNormIdeal.main_arg0)) (m' (c.tc.loc Cert.ReferenceFfnNormIdeal.main_arg1)) (m' (c.tc.loc Cert.ReferenceFfnNormIdeal.main_arg2)) (m' (c.tc.loc Cert.ReferenceFfnNormIdeal.main_arg3))) (m' (c.tc.loc Cert.ReferenceFfnNormIdeal.main_arg4)) (m' (c.tc.loc Cert.ReferenceFfnNormIdeal.main_arg5))
      ∧ r.2.mem (c.tc.loc Cert.ReferenceFfnNormIdeal.main_v48) = dg (dh (m' (c.tc.loc Cert.ReferenceFfnNormIdeal.main_arg0)) (m' (c.tc.loc Cert.ReferenceFfnNormIdeal.main_arg1)) (m' (c.tc.loc Cert.ReferenceFfnNormIdeal.main_arg2)) (m' (c.tc.loc Cert.ReferenceFfnNormIdeal.main_arg3))) (m' (c.tc.loc Cert.ReferenceFfnNormIdeal.main_arg4)) (m' (c.tc.loc Cert.ReferenceFfnNormIdeal.main_arg6))
      ∧ (r.2.mem (c.tc.loc Cert.ReferenceFfnNormIdeal.main_arg0) = m' (c.tc.loc Cert.ReferenceFfnNormIdeal.main_arg0)
      ∧ r.2.mem (c.tc.loc Cert.ReferenceFfnNormIdeal.main_arg1) = m' (c.tc.loc Cert.ReferenceFfnNormIdeal.main_arg1)
      ∧ r.2.mem (c.tc.loc Cert.ReferenceFfnNormIdeal.main_arg2) = m' (c.tc.loc Cert.ReferenceFfnNormIdeal.main_arg2)
      ∧ r.2.mem (c.tc.loc Cert.ReferenceFfnNormIdeal.main_arg3) = m' (c.tc.loc Cert.ReferenceFfnNormIdeal.main_arg3)
      ∧ r.2.mem (c.tc.loc Cert.ReferenceFfnNormIdeal.main_arg4) = m' (c.tc.loc Cert.ReferenceFfnNormIdeal.main_arg4)
      ∧ r.2.mem (c.tc.loc Cert.ReferenceFfnNormIdeal.main_arg5) = m' (c.tc.loc Cert.ReferenceFfnNormIdeal.main_arg5)
      ∧ r.2.mem (c.tc.loc Cert.ReferenceFfnNormIdeal.main_arg6) = m' (c.tc.loc Cert.ReferenceFfnNormIdeal.main_arg6)
      ∧ r.2.mem (c.tc.loc Cert.ReferenceFfnNormIdeal.main_arg7) = m' (c.tc.loc Cert.ReferenceFfnNormIdeal.main_arg7)) := by
  refine (θ_run Cert.ReferenceFfnNormIdeal.defs _ _).mono (fun r h c => ?_) (Cert.ReferenceFfnNormIdeal.Value.run m' ρ')
  obtain ⟨e0, e1, e2, e3, er⟩ := h c
  have hD := dot_at (m' (c.tc.loc Cert.ReferenceFfnNormIdeal.main_arg0)) (m' (c.tc.loc Cert.ReferenceFfnNormIdeal.main_arg1)) (m' (c.tc.loc Cert.ReferenceFfnNormIdeal.main_arg2)) (m' (c.tc.loc Cert.ReferenceFfnNormIdeal.main_arg3))
  refine ⟨e0, e1.trans ?_, e2.trans ?_, e3.trans ?_, er⟩
  all_goals
    clear e0 e1 e2 e3 er h
    revert hD
    generalize addf (F := Ideal) (Host.dotGeneral (F := Ideal) Cert.ReferenceFfnNormIdeal.dot_S4x2048x2816_S1024x2816_S4x2048x1024_2_1_01_0_n_n none _ _) (Host.dotGeneral (F := Ideal) Cert.ReferenceFfnNormIdeal.dot_S4x2048x2816_S1024x2816_S4x2048x1024_2_1_01_0_n_n none _ _) = D
    generalize (dh (m' (c.tc.loc Cert.ReferenceFfnNormIdeal.main_arg0)) (m' (c.tc.loc Cert.ReferenceFfnNormIdeal.main_arg1)) (m' (c.tc.loc Cert.ReferenceFfnNormIdeal.main_arg2)) (m' (c.tc.loc Cert.ReferenceFfnNormIdeal.main_arg3))) = D'
    intro hD
    funext j
    idx_vars j
  · unfold dsh
    pointwise
    simp only [hD, Fin.sum_univ_one]
  · unfold dsc
    simp only [← scVjp_eq]
    pointwise
    simp only [hD, Fin.sum_univ_one]
    rfl
  · unfold dg
    simp only [← gVjp_eq]
    pointwise
    simp only [hD, Fin.sum_univ_one]
    rfl

end Ref

/-- On reals the cotangent of the normed rows is real. -/
theorem dh_coe (A0 A1 : S4x2048x2816.Idx → ℝ) (W1 W3 : S1x1024x2816.Idx → ℝ) :
    ∃ D : Fin 4 → Fin 2048 → Fin 1024 → ℝ, dh (fun i => (A0 i : EReal)) (fun i => (A1 i : EReal)) (fun i => (W1 i : EReal))
      (fun i => (W3 i : EReal)) = fun b p k => (D b p k : EReal) := by
  have h : ∀ b p k, ∃ r : ℝ, dh (fun i => (A0 i : EReal)) (fun i => (A1 i : EReal)) (fun i => (W1 i : EReal))
      (fun i => (W3 i : EReal)) b p k = (r : EReal) := fun b p k => by
    obtain ⟨r0, h0⟩ := dot_real (fun e => A0 (ix3 b p e)) fun e => W1 (ix3 0 k e)
    obtain ⟨r1, h1⟩ := dot_real (fun e => A1 (ix3 b p e)) fun e => W3 (ix3 0 k e)
    exact ⟨r0 + r1, by rw [EReal.coe_add, ← h0, ← h1]; rfl⟩
  choose D hD using h
  exact ⟨D, funext fun b => funext fun p => funext fun k => hD b p k⟩

end Cert.FfnNormValue

end
-- ==== Proof.FfnNormClaim.lean ====
/-
The gradient through the norm before the two gates, kernel and differentiation, equal over the reals.
-/
module

public import proofs.«01_k».proof.Defs
public import proofs.«01_k».proof.Proof.Gen.Pre_finite_ffnnorm
public import proofs.«01_k».proof.Proof.FfnNormValue

@[expose] public section

set_option maxRecDepth 16384

noncomputable section

namespace Cert.FfnNormClaim

open Cert.Reals Cert.NormGrad Cert.FfnNormValue Cert.KernelFfnNormIdeal Cert.KernelFfnNormIdeal.Gen Idealize.ShloMosaic
open Idealize.ShloMosaic.TcCoe Idealize.SL.Sem

/-- The precondition says that every array but the last holds real numbers. -/
theorem reals (a0 : FVec Ideal S4x2048x2816 .f32) (a1 : FVec Ideal S4x2048x2816 .f32) (a2 : FVec Ideal S1x1024x2816 .f32)
    (w : FVec Ideal S1x1024x2816 .f32) (x : FVec Ideal S4x2048x1024 .f32) (g : FVec Ideal S1x1024 .f32) (s : FVec Ideal S4x1024 .f32)
    (o : FVec Ideal S4x2048x1024 .f32) (h : Cert.Pre_finite_ffnnorm.fn (F := Ideal) a0 a1 a2 w x g s o = fun _ => 1#1) :
    (∃ A : S4x2048x2816.Idx → ℝ, a0 = fun i => (A i : EReal)) ∧ (∃ A : S4x2048x2816.Idx → ℝ, a1 = fun i => (A i : EReal))
      ∧ (∃ A : S1x1024x2816.Idx → ℝ, a2 = fun i => (A i : EReal)) ∧ (∃ A : S1x1024x2816.Idx → ℝ, w = fun i => (A i : EReal))
      ∧ (∃ A : S4x2048x1024.Idx → ℝ, x = fun i => (A i : EReal)) ∧ (∃ A : S1x1024.Idx → ℝ, g = fun i => (A i : EReal))
      ∧ ∃ A : S4x1024.Idx → ℝ, s = fun i => (A i : EReal) := by
  have : Subsingleton S_.Idx := ⟨fun a b => funext fun d => d.elim0⟩
  have h0 := congrFun h (fun d => d.elim0)
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨reals_of_all a0 _ _ _ _ _ e0, reals_of_all a1 _ _ _ _ _ e1, reals_of_all a2 _ _ _ _ _ e2, reals_of_all w _ _ _ _ _ e3,
    reals_of_all x _ _ _ _ _ e4, reals_of_all g _ _ _ _ _ e5, reals_of_all s _ _ _ _ _ e6⟩

theorem algebraic : Cert.algebraic_KernelFfnNormIdeal_ReferenceFfnNormIdeal_pre_finite_ffnnorm := by
  intro m g m' g' hpre hargs
  refine ⟨_, _, _, _, Value.run_blocks m g, ?_⟩
  refine (θ_run Cert.ReferenceFfnNormIdeal.defs _ _).mono (fun r h c => ?_) (ref_run m' g')
  obtain ⟨h0, h1, h2, h3, h4, h5, h6, h7⟩ := hargs c
  obtain ⟨e0, e1, e2, e3, hr⟩ := h c
  refine ⟨e0.trans ?_, e1.trans ?_, e2.trans ?_, e3.trans ?_, hr⟩
  · obtain ⟨⟨A0, hA0⟩, ⟨A1, hA1⟩, ⟨A2, hA2⟩, ⟨W, hW⟩, ⟨X, hX⟩, ⟨G, hG⟩, ⟨S, hS⟩⟩ := reals _ _ _ _ _ _ _ _ (hpre c)
    obtain ⟨D, hD⟩ := dh_coe A0 A1 A2 W
    rw [final6, hA0, hA1, hA2, hW, hD, hX, hG, hS]
    funext j
    idx_vars j
    refine (ref_dx m' c j0 j1 j2).trans ?_
    rw [h0, h1, h2, h3, h4, h5, h6, h7, hA0, hA1, hA2, hW, hD, hX, hG, hS]
    exact dxVjp_eq _ _ _ _ _ j2
  · rw [final7, h0, h1, h2, h3]
  · rw [final8, h0, h1, h2, h3, h4, h5]
  · rw [final9, h0, h1, h2, h3, h4, h6]

end Cert.FfnNormClaim

end
-- ==== Proof.ConvBlock.lean ====
/-
What one block of the convolution's gradient computes, entry by entry.
-/
module

public import proofs.«01_k».proof.Proof.Gen.KernelConvIdeal.Frame
public import proofs.«01_k».proof.Proof.Gen.KernelConvIdeal.Value
public import proofs.«01_k».proof.Proof.NormGrad
public import Idealize.ShloMosaic.Lib.KernelVsHost

@[expose] public section

set_option maxRecDepth 16384

noncomputable section

namespace Cert.ConvBlock

open Cert.KernelConvIdeal Cert.KernelConvIdeal.Gen Idealize.ShloMosaic Idealize.ShloMosaic.TcCoe Idealize.SL.Sem

/-- The rows of a matrix moved down around the end by `d`. -/
theorem rotate_at (x : FVec Ideal S528x1024 .f32) (h : S528x1024.Rotates 0 none) (d : BitVec 32) (r e : Fin 528) (k : Fin 1024)
    (he : e.val = (r.val + 528 - d.toNat % 528) % 528) : dynamicRotate 0 d none x h (ix2 r k) = x (ix2 e k) :=
  dynamicRotate_apply 0 d x h _ _ fun b => by
    match b with
    | ⟨0, _⟩ => exact he
    | ⟨1, _⟩ => rfl

section
variable (i : grid0.Coords) (w : FVec Ideal S8x1024 .f32) (gc v : FVec Ideal S1x512x1024 .bf16) (gch vh : FVec Ideal S1x16x1024 .bf16)
  (p : Fin 512) (k : Fin 1024)

theorem first_eq : ∀ n : Fin 4, Scalar.cmpi .eq (BitVec.ofNat 32 n.val) 0#32 = if n.val = 0 then 1#1 else 0#1 := by decide

theorem here_eq : ∀ (n : Fin 4) (r : Fin 528), IntOp.ori (IntOp.cmpi .slt (BitVec.ofNat 32 r.val) 512#32)
    (Scalar.cmpi .slt (BitVec.ofNat 32 n.val) 3#32) = if r.val < 512 ∨ n.val < 3 then 1#1 else 0#1 := by decide +kernel

/-- The rows of a block after the sixteen rows before it. -/
def extAt (i : grid0.Coords) (gc v : FVec Ideal S1x512x1024 .bf16) (gch vh : FVec Ideal S1x16x1024 .bf16) (r : Fin 528) (k : Fin 1024) : EReal :=
  if h : r.val < 16 then (if (i 1).val = 0 then 0 else gch (ix3 0 ⟨r.val, h⟩ k) * vh (ix3 0 ⟨r.val, h⟩ k))
  else gc (ix3 0 ⟨r.val - 16, by omega⟩ k) * v (ix3 0 ⟨r.val - 16, by omega⟩ k)

theorem ext_at (r : Fin 528) : k0_pay10 (F := Ideal) i gc v gch vh (ix2 r k) = extAt i gc v gch vh r k := by
  unfold extAt
  pointwise [k0_pay10, k0_pay9, k0_pay8, k0_pay7]
  rw [first_eq (i 1)]
  refine dite_congr rfl (fun _ => ?_) fun _ => rfl
  by_cases h : (i 1).val = 0
  · rw [if_pos h, if_pos h]
    rfl
  · rw [if_neg h, if_neg h]
    rfl

theorem cv_at : k0_pay9 (F := Ideal) gc v (ix2 p k) = gc (ix3 0 p k) * v (ix3 0 p k) := by
  pointwise [k0_pay9, k0_pay8, k0_pay7]

theorem cv1_at : k0_pay11 (F := Ideal) i gc v gch vh (ix2 p k) = extAt i gc v gch vh ⟨p.val + 15, by omega⟩ k := by
  unfold k0_pay11
  refine (extractStridedSlice_apply _ _ _ _ (ix2 (⟨p.val + 16, by omega⟩ : Fin 528) k) (by intro a; fin_cases a <;> simp [ix2, Nat.add_comm])).trans ?_
  rw [rotate_at _ _ _ _ ⟨p.val + 15, by omega⟩ k (by simp; omega), ext_at]

theorem cv2_at : k0_pay12 (F := Ideal) i gc v gch vh (ix2 p k) = extAt i gc v gch vh ⟨p.val + 14, by omega⟩ k := by
  unfold k0_pay12
  refine (extractStridedSlice_apply _ _ _ _ (ix2 (⟨p.val + 16, by omega⟩ : Fin 528) k) (by intro a; fin_cases a <;> simp [ix2, Nat.add_comm])).trans ?_
  rw [rotate_at _ _ _ _ ⟨p.val + 14, by omega⟩ k (by simp; omega), ext_at]

theorem conv_at : k0_pay13 (F := Ideal) i w gc v gch vh (ix2 p k) = w (ix2 0 k) * extAt i gc v gch vh ⟨p.val + 14, by omega⟩ k
    + w (ix2 1 k) * extAt i gc v gch vh ⟨p.val + 15, by omega⟩ k + w (ix2 2 k) * (gc (ix3 0 p k) * v (ix3 0 p k)) := by
  rw [← cv1_at, ← cv2_at, ← cv_at]
  pointwise [k0_pay13, k0_pay6]

end

section
variable (n : Fin 4) (w : FVec Ideal S8x1024 .f32) (d : FVec Ideal S512x1024 .bf16) (dn : FVec Ideal S1x16x1024 .bf16)
  (W : FVec Ideal S1024x1024 .bf16) (g : FVec Ideal S1x512x1024 .bf16) (gn : FVec Ideal S1x16x1024 .bf16) (p : Fin 512) (k : Fin 1024)

/-- The cotangents through the product, of a block's rows and the sixteen rows after it. -/
def dyExt (d : FVec Ideal S512x1024 .bf16) (dn : FVec Ideal S1x16x1024 .bf16)
  (W : FVec Ideal S1024x1024 .bf16) (r : Fin 528) (k : Fin 1024) : EReal :=
  ∑ e : Fin 1024, (if h : r.val < 512 then d (ix2 ⟨r.val, h⟩ e) else dn (ix3 0 ⟨r.val - 512, by omega⟩ e)) * W (ix2 k e)

theorem dy_at (r : Fin 528) : k0_pay15 (F := Ideal) d dn W (ix2 r k) = dyExt d dn W r k := by
  unfold dyExt
  pointwise [k0_pay15]

/-- The cotangents of the convolution, of a block's rows and the sixteen rows after it. -/
def dcExt (n : Fin 4) (d : FVec Ideal S512x1024 .bf16) (dn : FVec Ideal S1x16x1024 .bf16)
  (W : FVec Ideal S1024x1024 .bf16) (g : FVec Ideal S1x512x1024 .bf16) (gn : FVec Ideal S1x16x1024 .bf16) (r : Fin 528) (k : Fin 1024) : EReal :=
  if r.val < 512 ∨ n.val < 3 then dyExt d dn W r k * (if h : r.val < 512 then g (ix3 0 ⟨r.val, h⟩ k) else gn (ix3 0 ⟨r.val - 512, by omega⟩ k))
  else 0

theorem dc_at (r : Fin 528) : k0_pay16 (F := Ideal) (BitVec.ofNat 32 n.val) d dn W g gn (ix2 r k) = dcExt n d dn W g gn r k := by
  unfold dcExt
  rw [← dy_at]
  unfold k0_pay16
  generalize k0_pay15 (F := Ideal) d dn W = Y
  pointwise
  rw [here_eq n r]
  by_cases h : r.val < 512 ∨ n.val < 3
  · rw [if_pos h, if_pos h]
    rfl
  · rw [if_neg h, if_neg h]
    rfl

theorem dc0_at : k0_pay17 (F := Ideal) (BitVec.ofNat 32 n.val) d dn W g gn (ix2 p k) = dcExt n d dn W g gn ⟨p.val, by omega⟩ k := by
  rw [← dc_at]
  pointwise [k0_pay17]

theorem rot_at (x : FVec Ideal S528x1024 .f32) (h : S528x1024.Rotates 0 none) (hs : S528x1024.Slices ![0, 0] S512x1024) (a : BitVec 32) (e : Fin 528)
    (he : e.val = (p.val + 528 - a.toNat % 528) % 528) :
    extractStridedSlice S512x1024 ![0, 0] (dynamicRotate 0 a none x h) hs (ix2 p k) = x (ix2 e k) := by
  refine (extractStridedSlice_apply _ _ _ _ (ix2 (⟨p.val, by omega⟩ : Fin 528) k) (by intro a; fin_cases a <;> simp [ix2])).trans ?_
  exact rotate_at _ _ _ _ e k he

/-- The gradient of what is convolved. -/
theorem dcv_at : k0_pay18 (F := Ideal) (BitVec.ofNat 32 n.val) w d dn W g gn (ix2 p k) = w (ix2 2 k) * dcExt n d dn W g gn ⟨p.val, by omega⟩ k
    + w (ix2 1 k) * dcExt n d dn W g gn ⟨p.val + 1, by omega⟩ k + w (ix2 0 k) * dcExt n d dn W g gn ⟨p.val + 2, by omega⟩ k := by
  rw [← dc0_at, ← dc_at, ← dc_at]
  rw [← rot_at p k (k0_pay16 (F := Ideal) (BitVec.ofNat 32 n.val) d dn W g gn) rotates_S528x1024_d0 slices_S528x1024_o0_0_S512x1024 527#32 ⟨p.val + 1, by omega⟩ (by simp; omega),
    ← rot_at p k (k0_pay16 (F := Ideal) (BitVec.ofNat 32 n.val) d dn W g gn) rotates_S528x1024_d0 slices_S528x1024_o0_0_S512x1024 526#32 ⟨p.val + 2, by omega⟩ (by simp; omega)]
  unfold k0_pay18
  generalize k0_pay17 (F := Ideal) (BitVec.ofNat 32 n.val) d dn W g gn = Y
  generalize extractStridedSlice S512x1024 _ (dynamicRotate 0 527#32 none (k0_pay16 (F := Ideal) (BitVec.ofNat 32 n.val) d dn W g gn) _) _ = Y1
  generalize extractStridedSlice S512x1024 _ (dynamicRotate 0 526#32 none (k0_pay16 (F := Ideal) (BitVec.ofNat 32 n.val) d dn W g gn) _) _ = Y2
  pointwise

theorem dp0_at (x : FVec Ideal S512x1024 .f32) (z : Fin 1) : k0_pay1 (k0_pay19 (F := Ideal) x d dn W) (ix3 z p k)
    = dyExt d dn W ⟨p.val, by omega⟩ k * x (ix2 p k) := by
  rw [← dy_at]
  unfold k0_pay19
  generalize k0_pay15 (F := Ideal) d dn W = Y
  pointwise [k0_pay1]

theorem dp1_at (x y : FVec Ideal S512x1024 .f32) (z : Fin 1) : k0_pay2 (F := Ideal) x y (ix3 z p k) = y (ix2 p k) * x (ix2 p k) := by
  pointwise [k0_pay2]

theorem dp2_at (x y : FVec Ideal S512x1024 .f32) (z : Fin 1) : k0_pay3 (F := Ideal) x y (ix3 z p k) = y (ix2 p k) * x (ix2 p k) := by
  pointwise [k0_pay3]

theorem dw_at (c0 c1 c2 y : FVec Ideal S512x1024 .f32) (r : Fin 8) : k0_pay4 (F := Ideal) c0 c1 c2 y (ix2 r k)
    = if r.val = 0 then ∑ p : Fin 512, y (ix2 p k) * c2 (ix2 p k) else if r.val = 1 then ∑ p : Fin 512, y (ix2 p k) * c1 (ix2 p k)
      else if r.val = 2 then ∑ p : Fin 512, y (ix2 p k) * c0 (ix2 p k) else 0 := by
  pointwise [k0_pay4]
  fin_cases r <;> rfl

theorem dw_step (c0 c1 c2 y : FVec Ideal S512x1024 .f32) (a : FVec Ideal S8x1024 .f32) (j : S8x1024.Idx) :
    k0_pay5 (F := Ideal) c0 c1 c2 y a j = a j + k0_pay4 (F := Ideal) c0 c1 c2 y j := by
  idx_vars j
  unfold k0_pay5
  generalize k0_pay4 (F := Ideal) c0 c1 c2 y = Y
  pointwise

end
end Cert.ConvBlock

end
-- ==== Proof.ConvValue.lean ====
/-
The convolution's gradient over whole arrays: what the kernel leaves.
-/
module

public import proofs.«01_k».proof.Proof.ConvBlock
public import Idealize.ShloMosaic.Lib.Pipeline.ReadBack

@[expose] public section

set_option maxRecDepth 16384

noncomputable section

namespace Cert.ConvValue

open Cert.ConvBlock Cert.NormGrad Cert.KernelConvIdeal Cert.KernelConvIdeal.Gen Idealize.ShloMosaic Idealize.ShloMosaic.TcCoe Idealize.SL.Sem

/-- A sequence `n` steps late, zeros before it. -/
def late (n : Nat) (f : Fin 2048 → EReal) (s : Fin 2048) : EReal := if h : n ≤ s.val then f ⟨s.val - n, by omega⟩ else 0

/-- A sequence `n` steps early, zeros after it. -/
def early (n : Nat) (f : Fin 2048 → EReal) (s : Fin 2048) : EReal := if h : s.val + n < 2048 then f ⟨s.val + n, h⟩ else 0

section Whole
variable (A : FVec Ideal S4x2048x1024 .f32) (W : FVec Ideal S1x1024x1024 .f32) (P : FVec Ideal S4x2048x3072 .f32)
  (w : FVec Ideal S1x3x1024 .f32) (b : Fin 4) (k : Fin 1024) (s : Fin 2048)

def gateB : EReal := P (ix3 b s ⟨k.val, by omega⟩)
def gateC : EReal := P (ix3 b s ⟨1024 + k.val, by omega⟩)
def val : EReal := P (ix3 b s ⟨2048 + k.val, by omega⟩)

/-- What is convolved. -/
def cv : EReal := gateC P b k s * val P b k s

/-- The cotangents through the product. -/
def dy : EReal := ∑ e : Fin 1024, A (ix3 b s e) * W (ix3 0 k e)

/-- The cotangents of the convolution. -/
def dc : EReal := dy A W b k s * gateB P b k s

/-- The convolution. -/
def conv : EReal := w (ix3 0 0 k) * late 2 (cv P b k) s + w (ix3 0 1 k) * late 1 (cv P b k) s + w (ix3 0 2 k) * cv P b k s

/-- The gradient of what is convolved. -/
def dcv : EReal := w (ix3 0 2 k) * dc A W P b k s + w (ix3 0 1 k) * early 1 (dc A W P b k) s
  + w (ix3 0 0 k) * early 2 (dc A W P b k) s

end Whole

/-- The gradient of the gates and the values. -/
def dp (A : FVec Ideal S4x2048x1024 .f32) (W : FVec Ideal S1x1024x1024 .f32) (P : FVec Ideal S4x2048x3072 .f32)
    (w : FVec Ideal S1x3x1024 .f32) : FVec Ideal S4x2048x3072 .bf16 := fun j =>
  if h : (j 2).val < 1024 then dy A W (j 0) ⟨(j 2).val, h⟩ (j 1) * conv P w (j 0) ⟨(j 2).val, h⟩ (j 1)
  else if h' : (j 2).val - 1024 < 1024 then dcv A W P w (j 0) ⟨(j 2).val - 1024, h'⟩ (j 1) * val P (j 0) ⟨(j 2).val - 1024, h'⟩ (j 1)
  else dcv A W P w (j 0) ⟨(j 2).val - 1024 - 1024, by have : (j 2).val < 3072 := (j 2).isLt; omega⟩ (j 1)
    * gateC P (j 0) ⟨(j 2).val - 1024 - 1024, by have : (j 2).val < 3072 := (j 2).isLt; omega⟩ (j 1)

/-- A row of the gradient of the convolution's weights, of one position. -/
def dwPart (A : FVec Ideal S4x2048x1024 .f32) (W : FVec Ideal S1x1024x1024 .f32) (P : FVec Ideal S4x2048x3072 .f32)
    (r : Fin 8) (k : Fin 1024) (b : Fin 4) (s : Fin 2048) : EReal :=
  if r.val = 0 then dc A W P b k s * late 2 (cv P b k) s else if r.val = 1 then dc A W P b k s * late 1 (cv P b k) s
  else if r.val = 2 then dc A W P b k s * cv P b k s else 0

/-- The gradient of the convolution's weights. -/
def dw (A : FVec Ideal S4x2048x1024 .f32) (W : FVec Ideal S1x1024x1024 .f32) (P : FVec Ideal S4x2048x3072 .f32) :
    FVec Ideal S8x1024 .f32 := fun j => ∑ b : Fin 4, ∑ s : Fin 2048, dwPart A W P (j 0) (j 1) b s

variable (m : (ℓ : Loc nD τ sig) → Buf (Elt Ideal) ℓ)

/-! ## The blocks of the operands -/

theorem idx : ∀ t : Fin cfg0.N, win0_0.index t = ![t.val / 4, t.val % 4, 0] ∧ win0_1.index t = ![t.val / 4, min (t.val % 4 * 32 + 32) 127, 0]
    ∧ win0_2.index t = ![0, 0] ∧ win0_3.index t = ![t.val / 4, t.val % 4, 0] ∧ win0_4.index t = ![t.val / 4, min (t.val % 4 * 32 + 32) 127, 0]
    ∧ win0_5.index t = ![t.val / 4, t.val % 4, 1] ∧ win0_6.index t = ![t.val / 4, t.val % 4, 2]
    ∧ win0_7.index t = ![t.val / 4, t.val % 4 * 32 - 1, 1] ∧ win0_8.index t = ![t.val / 4, t.val % 4 * 32 - 1, 2]
    ∧ win0_9.index t = ![0, 0] ∧ win0_10.index t = ![t.val / 4, t.val % 4, 0] ∧ win0_11.index t = ![0, 0] :=
  (by decide +kernel : ∀ t : Fin grid0.N, _)

theorem coord : ∀ t : Fin cfg0.N, grid0.coords t 1 = ⟨t.val % 4, Nat.mod_lt _ (by decide)⟩ := (by decide +kernel : ∀ t : Fin grid0.N, _)

theorem point_lt (t : Fin cfg0.N) : t.val / 4 < 4 := by have := lt_of_lt_of_eq t.isLt N_0; omega

theorem lane_lt (t : Fin cfg0.N) (p : Fin 512) : t.val % 4 * 512 + p.val < 2048 := by omega

theorem next_lt (t : Fin cfg0.N) (p : Fin 16) : min (t.val % 4 * 32 + 32) 127 * 16 + p.val < 2048 := by omega

theorem prev_lt (t : Fin cfg0.N) (p : Fin 16) : (t.val % 4 * 32 - 1) * 16 + p.val < 2048 := by omega

theorem weights_at (x : FVec Ideal S1x1024x1024 .f32) (k e : Fin 1024) :
    (truncf .bf16 (shapeCast S1024x1024 x shapeCasts_S1x1024x1024_S1024x1024) bitsLt_bf16_f32 : FVec Ideal S1024x1024 .bf16) (ix2 k e)
      = x (ix3 0 k e) := by
  pointwise

theorem taps_at (x : FVec Ideal S1x3x1024 .f32) (z : FVec Ideal S_ .f32) (r : Fin 8) (r' : Fin 3) (h : r'.val = r.val) (k : Fin 1024) :
    (pad S8x1024 ![0, 0] ![5, 0] ![0, 0] (shapeCast S3x1024 x shapeCasts_S1x3x1024_S3x1024) z pads_S3x1024_S8x1024_050_000 h_S_
      : FVec Ideal S8x1024 .f32) (ix2 r k) = x (ix3 0 r' k) := by
  have e : r = ⟨r'.val, by omega⟩ := Fin.ext h.symm
  rw [e]
  pointwise

section
variable (c : Dev nD) (t : Fin cfg0.N) (z : Fin 1) (p : Fin 512) (q : Fin 16) (k e : Fin 1024)

theorem blk0 : iblk m c 0 t (ix3 z p k)
    = (m (c.tc.loc main_arg0) : FVec Ideal S4x2048x1024 .f32) (ix3 ⟨t.val / 4, point_lt t⟩ ⟨t.val % 4 * 512 + p.val, lane_lt t p⟩ k) := by
  blk_point [iblk, V, idx t]

theorem blk1 : iblk m c 1 t (ix3 z q k)
    = (m (c.tc.loc main_arg0) : FVec Ideal S4x2048x1024 .f32) (ix3 ⟨t.val / 4, point_lt t⟩ ⟨min (t.val % 4 * 32 + 32) 127 * 16 + q.val, next_lt t q⟩ k) := by
  blk_point [iblk, V, idx t]

theorem blk2 : iblk m c 2 t (ix2 k e) = (m (c.tc.loc main_arg1) : FVec Ideal S1x1024x1024 .f32) (ix3 0 k e) := by
  have hv : V m c main_v4 = (truncf .bf16 (shapeCast S1024x1024 (m (c.tc.loc main_arg1)) shapeCasts_S1x1024x1024_S1024x1024)
      bitsLt_bf16_f32 : FVec Ideal S1024x1024 .bf16) := by
    unfold V
    rfl
  refine Eq.trans ?_ ((congrFun hv _).trans (weights_at _ k e))
  blk_point [iblk, idx t]

theorem blk3 : iblk m c 3 t (ix3 z p k)
    = gateB (m (c.tc.loc main_arg2)) ⟨t.val / 4, point_lt t⟩ k ⟨t.val % 4 * 512 + p.val, lane_lt t p⟩ := by
  unfold gateB
  blk_point [iblk, V, idx t]

theorem blk4 : iblk m c 4 t (ix3 z q k)
    = gateB (m (c.tc.loc main_arg2)) ⟨t.val / 4, point_lt t⟩ k ⟨min (t.val % 4 * 32 + 32) 127 * 16 + q.val, next_lt t q⟩ := by
  unfold gateB
  blk_point [iblk, V, idx t]

theorem blk5 : iblk m c 5 t (ix3 z p k)
    = gateC (m (c.tc.loc main_arg2)) ⟨t.val / 4, point_lt t⟩ k ⟨t.val % 4 * 512 + p.val, lane_lt t p⟩ := by
  unfold gateC
  blk_point [iblk, V, idx t]

theorem blk6 : iblk m c 6 t (ix3 z p k)
    = val (m (c.tc.loc main_arg2)) ⟨t.val / 4, point_lt t⟩ k ⟨t.val % 4 * 512 + p.val, lane_lt t p⟩ := by
  unfold val
  blk_point [iblk, V, idx t]

theorem blk7 : iblk m c 7 t (ix3 z q k)
    = gateC (m (c.tc.loc main_arg2)) ⟨t.val / 4, point_lt t⟩ k ⟨(t.val % 4 * 32 - 1) * 16 + q.val, prev_lt t q⟩ := by
  unfold gateC
  blk_point [iblk, V, idx t]

theorem blk8 : iblk m c 8 t (ix3 z q k)
    = val (m (c.tc.loc main_arg2)) ⟨t.val / 4, point_lt t⟩ k ⟨(t.val % 4 * 32 - 1) * 16 + q.val, prev_lt t q⟩ := by
  unfold val
  blk_point [iblk, V, idx t]

theorem blk9 (r : Fin 8) (r' : Fin 3) (h : r'.val = r.val) : iblk m c 9 t (ix2 r k) = (m (c.tc.loc main_arg3) : FVec Ideal S1x3x1024 .f32) (ix3 0 r' k) := by
  have hv : V m c main_v1 = (pad S8x1024 ![0, 0] ![5, 0] ![0, 0] (shapeCast S3x1024 (m (c.tc.loc main_arg3)) shapeCasts_S1x3x1024_S3x1024)
      (sitofp .f32 (constantI S_ 32 0#32)) pads_S3x1024_S8x1024_050_000 h_S_ : FVec Ideal S8x1024 .f32) := by
    unfold V
    rfl
  refine Eq.trans ?_ ((congrFun hv _).trans (taps_at _ _ r r' h k))
  blk_point [iblk, idx t]

end

/-! ## The shifted sequences, block by block -/

section
variable (c : Dev nD) (t : Fin cfg0.N) (p : Fin 512) (k : Fin 1024)

theorem cv_prod (x y : FVec Ideal S1x512x1024 .bf16) (hx : x = iblk m c 5 t) (hy : y = iblk m c 6 t) : x (ix3 0 p k) * y (ix3 0 p k)
    = cv (m (c.tc.loc main_arg2)) ⟨t.val / 4, point_lt t⟩ k ⟨t.val % 4 * 512 + p.val, lane_lt t p⟩ := by
  rw [hx, hy, blk5, blk6]
  rfl

theorem lateB (n : Nat) (hn : n ≤ 16) (r : Fin 528) (hr : r.val + n = p.val + 16) :
    extAt (grid0.coords t) (iblk m c 5 t) (iblk m c 6 t) (iblk m c 7 t) (iblk m c 8 t) r k
      = late n (cv (m (c.tc.loc main_arg2)) ⟨t.val / 4, point_lt t⟩ k) ⟨t.val % 4 * 512 + p.val, lane_lt t p⟩ := by
  unfold extAt late
  simp only [coord t]
  by_cases h : r.val < 16
  · rw [dif_pos h]
    by_cases h0 : t.val % 4 = 0
    · rw [if_pos h0, dif_neg (by omega)]
    · rw [if_neg h0, dif_pos (by omega), blk7, blk8]
      exact congrArg (cv (m (c.tc.loc main_arg2)) ⟨t.val / 4, point_lt t⟩ k) (Fin.ext (by show (t.val % 4 * 32 - 1) * 16 + r.val = t.val % 4 * 512 + p.val - n; omega))
  · rw [dif_neg h, dif_pos (by omega), cv_prod m c t _ k _ _ rfl rfl]
    exact congrArg (cv (m (c.tc.loc main_arg2)) ⟨t.val / 4, point_lt t⟩ k) (Fin.ext (by show t.val % 4 * 512 + (r.val - 16) = t.val % 4 * 512 + p.val - n; omega))

/-- The block's rows as `k0_pay14` reads them. -/
theorem rows_at (x : FVec Ideal S1x512x1024 .bf16) : k0_pay14 (F := Ideal) x (ix2 p k) = x (ix3 0 p k) := by
  pointwise [k0_pay14]

theorem earlyB (n : Nat) (hn : n ≤ 16) (r : Fin 528) (hr : r.val = p.val + n) (i : Fin 4) (hi : i.val = t.val % 4) :
    dcExt i (k0_pay14 (iblk m c 0 t)) (iblk m c 1 t) (iblk m c 2 t) (iblk m c 3 t) (iblk m c 4 t) r k
      = early n (dc (m (c.tc.loc main_arg0)) (m (c.tc.loc main_arg1)) (m (c.tc.loc main_arg2)) ⟨t.val / 4, point_lt t⟩ k)
        ⟨t.val % 4 * 512 + p.val, lane_lt t p⟩ := by
  unfold dcExt dyExt early
  simp only [hi, rows_at, blk0, blk1, blk2, blk3, blk4]
  by_cases h : r.val < 512
  · rw [if_pos (Or.inl h)]
    simp only [dif_pos h]
    rw [dif_pos (by omega)]
    have e : (⟨t.val % 4 * 512 + r.val, lane_lt t ⟨r.val, h⟩⟩ : Fin 2048) = ⟨t.val % 4 * 512 + p.val + n, by omega⟩ := Fin.ext (by show t.val % 4 * 512 + r.val = t.val % 4 * 512 + p.val + n; omega)
    simp only [e]
    rfl
  · by_cases h3 : t.val % 4 < 3
    · rw [if_pos (Or.inr h3)]
      simp only [dif_neg h]
      rw [dif_pos (by omega)]
      have e : (⟨min (t.val % 4 * 32 + 32) 127 * 16 + (r.val - 512), next_lt t ⟨r.val - 512, by omega⟩⟩ : Fin 2048) = ⟨t.val % 4 * 512 + p.val + n, by omega⟩ := Fin.ext (by show min (t.val % 4 * 32 + 32) 127 * 16 + (r.val - 512) = t.val % 4 * 512 + p.val + n; omega)
      simp only [e]
      rfl
    · rw [if_neg (by omega), dif_neg (by omega)]

end

/-! ## What the arrays hold after the grid -/

/-- The gradient's rows that a point stores. -/
def dpB (c : Dev nD) (t : Fin cfg0.N) : FVec Ideal S1x512x3072 .bf16 := fun y =>
  dp (m (c.tc.loc main_arg0)) (m (c.tc.loc main_arg1)) (m (c.tc.loc main_arg2)) (m (c.tc.loc main_arg3))
    (ix3 ⟨t.val / 4, point_lt t⟩ ⟨t.val % 4 * 512 + (y 1).val, lane_lt t (y 1)⟩ (y 2))

section
variable (c : Dev nD) (t : Fin cfg0.N) (z : Fin 1) (p : Fin 512) (k : Fin 1024)

theorem taps_block (r : Fin 8) (r' : Fin 3) (h : r'.val = r.val) : k0_pay6 (F := Ideal) (iblk m c 9 t) (ix2 r k)
    = (m (c.tc.loc main_arg3) : FVec Ideal S1x3x1024 .f32) (ix3 0 r' k) := by
  rw [← blk9 m c t k r r' h]
  pointwise [k0_pay6]

theorem dcvB : k0_pay18 (F := Ideal) (BitVec.ofNat 32 (grid0.coords t 1).val) (k0_pay6 (iblk m c 9 t)) (k0_pay14 (iblk m c 0 t))
      (iblk m c 1 t) (iblk m c 2 t) (iblk m c 3 t) (iblk m c 4 t) (ix2 p k)
    = dcv (m (c.tc.loc main_arg0)) (m (c.tc.loc main_arg1)) (m (c.tc.loc main_arg2)) (m (c.tc.loc main_arg3))
        ⟨t.val / 4, point_lt t⟩ k ⟨t.val % 4 * 512 + p.val, lane_lt t p⟩ := by
  rw [coord t]
  refine (dcv_at ⟨t.val % 4, Nat.mod_lt _ (by decide)⟩ _ _ _ _ _ _ p k).trans ?_
  rw [earlyB m c t p k 0 (by omega) ⟨p.val, by omega⟩ rfl _ rfl, earlyB m c t p k 1 (by omega) ⟨p.val + 1, by omega⟩ rfl _ rfl,
    earlyB m c t p k 2 (by omega) ⟨p.val + 2, by omega⟩ rfl _ rfl, taps_block m c t k 0 0 rfl, taps_block m c t k 1 1 rfl,
    taps_block m c t k 2 2 rfl]
  unfold dcv
  rw [show early 0 (dc (m (c.tc.loc main_arg0)) (m (c.tc.loc main_arg1)) (m (c.tc.loc main_arg2)) ⟨t.val / 4, point_lt t⟩ k)
      ⟨t.val % 4 * 512 + p.val, lane_lt t p⟩ = dc (m (c.tc.loc main_arg0)) (m (c.tc.loc main_arg1)) (m (c.tc.loc main_arg2))
        ⟨t.val / 4, point_lt t⟩ k ⟨t.val % 4 * 512 + p.val, lane_lt t p⟩ from dif_pos (lane_lt t p)]

theorem convB : k0_pay13 (F := Ideal) (grid0.coords t) (iblk m c 9 t) (iblk m c 5 t) (iblk m c 6 t) (iblk m c 7 t) (iblk m c 8 t) (ix2 p k)
    = conv (m (c.tc.loc main_arg2)) (m (c.tc.loc main_arg3)) ⟨t.val / 4, point_lt t⟩ k ⟨t.val % 4 * 512 + p.val, lane_lt t p⟩ := by
  refine (conv_at _ _ _ _ _ _ p k).trans ?_
  rw [lateB m c t p k 2 (by omega) _ rfl, lateB m c t p k 1 (by omega) _ rfl, cv_prod m c t p k _ _ rfl rfl,
    blk9 m c t k 0 0 rfl, blk9 m c t k 1 1 rfl, blk9 m c t k 2 2 rfl]
  rfl

theorem dyB : dyExt (k0_pay14 (F := Ideal) (iblk m c 0 t)) (iblk m c 1 t) (iblk m c 2 t) ⟨p.val, by omega⟩ k
    = dy (m (c.tc.loc main_arg0)) (m (c.tc.loc main_arg1)) ⟨t.val / 4, point_lt t⟩ k ⟨t.val % 4 * 512 + p.val, lane_lt t p⟩ := by
  unfold dyExt dy
  simp only [dif_pos p.isLt, rows_at, blk0, blk2]

theorem col0 : k0_pay1 (k0_pay19 (k0_pay13 (F := Ideal) (grid0.coords t) (iblk m c 9 t) (iblk m c 5 t) (iblk m c 6 t) (iblk m c 7 t) (iblk m c 8 t))
      (k0_pay14 (iblk m c 0 t)) (iblk m c 1 t) (iblk m c 2 t)) (ix3 z p k) = dpB m c t (ix3 z p ⟨k.val, by omega⟩) := by
  rw [dp0_at, convB, dyB]
  unfold dpB dp
  rw [dif_pos (by exact k.isLt)]
  rfl

theorem col1 : k0_pay2 (F := Ideal) (k0_pay8 (iblk m c 6 t)) (k0_pay18 (BitVec.ofNat 32 (grid0.coords t 1).val) (k0_pay6 (iblk m c 9 t))
      (k0_pay14 (iblk m c 0 t)) (iblk m c 1 t) (iblk m c 2 t) (iblk m c 3 t) (iblk m c 4 t)) (ix3 z p k)
    = dpB m c t (ix3 z p ⟨1024 + k.val, by omega⟩) := by
  rw [dp1_at, dcvB, show k0_pay8 (F := Ideal) (iblk m c 6 t) (ix2 p k) = iblk m c 6 t (ix3 0 p k) from by pointwise [k0_pay8], blk6]
  unfold dpB dp
  have e : (⟨1024 + k.val - 1024, by omega⟩ : Fin 1024) = k := Fin.ext (Nat.add_sub_cancel_left _ _)
  rw [dif_neg (by show ¬1024 + k.val < 1024; omega), dif_pos (by show 1024 + k.val - 1024 < 1024; omega)]
  exact (congrArg (fun k => dcv (m (c.tc.loc main_arg0)) (m (c.tc.loc main_arg1)) (m (c.tc.loc main_arg2)) (m (c.tc.loc main_arg3))
        ⟨t.val / 4, point_lt t⟩ k ⟨t.val % 4 * 512 + p.val, lane_lt t p⟩
      * val (m (c.tc.loc main_arg2)) ⟨t.val / 4, point_lt t⟩ k ⟨t.val % 4 * 512 + p.val, lane_lt t p⟩) e).symm

theorem col2 : k0_pay3 (F := Ideal) (k0_pay7 (iblk m c 5 t)) (k0_pay18 (BitVec.ofNat 32 (grid0.coords t 1).val) (k0_pay6 (iblk m c 9 t))
      (k0_pay14 (iblk m c 0 t)) (iblk m c 1 t) (iblk m c 2 t) (iblk m c 3 t) (iblk m c 4 t)) (ix3 z p k)
    = dpB m c t (ix3 z p ⟨2048 + k.val, by omega⟩) := by
  rw [dp2_at, dcvB, show k0_pay7 (F := Ideal) (iblk m c 5 t) (ix2 p k) = iblk m c 5 t (ix3 0 p k) from by pointwise [k0_pay7], blk5]
  unfold dpB dp
  have e : (⟨2048 + k.val - 1024 - 1024, by omega⟩ : Fin 1024) = k := Fin.ext (by show 2048 + k.val - 1024 - 1024 = k.val; omega)
  rw [dif_neg (by show ¬2048 + k.val < 1024; omega), dif_neg (by show ¬2048 + k.val - 1024 < 1024; omega)]
  exact (congrArg (fun k => dcv (m (c.tc.loc main_arg0)) (m (c.tc.loc main_arg1)) (m (c.tc.loc main_arg2)) (m (c.tc.loc main_arg3))
        ⟨t.val / 4, point_lt t⟩ k ⟨t.val % 4 * 512 + p.val, lane_lt t p⟩
      * gateC (m (c.tc.loc main_arg2)) ⟨t.val / 4, point_lt t⟩ k ⟨t.val % 4 * 512 + p.val, lane_lt t p⟩) e).symm

/-- Three stores that are blocks of `G` leave `G` where one of them reaches. -/
theorem canon_three {s : Shape} {e : EltTy} (G : s.Idx → Elt Ideal e) (r1 r2 r3 : Rect s) (w1 : r1.shape.Idx → Elt Ideal e)
    (w2 : r2.shape.Idx → Elt Ideal e) (w3 : r3.shape.Idx → Elt Ideal e) (y : s.Idx)
    (hc : ∃ p ∈ ([⟨r1, w1⟩, ⟨r2, w2⟩, ⟨r3, w3⟩] : List (View.Piece (Elt Ideal) s e)), y ∈ p.1.set) (h1 : ∀ x, w1 x = G (r1.emb x))
    (h2 : ∀ x, w2 x = G (r2.emb x)) (h3 : ∀ x, w3 x = G (r3.emb x)) : View.canon [⟨r1, w1⟩, ⟨r2, w2⟩, ⟨r3, w3⟩] y = G y :=
  View.canon_append_of_piecesOf G [] [⟨r1, w1⟩, ⟨r2, w2⟩, ⟨r3, w3⟩] ⟨h1, h2, h3, trivial⟩ y hc

/-- The three columns a point stores. -/
theorem columns (y : S1x512x3072.Idx) :
    View.canon (Val := Elt Ideal) (e := .bf16)
      [⟨Rect.unit ![0, 0, 2048] ![1, 512, 1024] inb_S1x512x3072_S1x512x1024_0_0_2048,
          k0_pay3 (F := Ideal) (k0_pay7 (iblk m c 5 t))
            (k0_pay18 (BitVec.ofNat 32 (grid0.coords t 1).val) (k0_pay6 (iblk m c 9 t)) (k0_pay14 (iblk m c 0 t))
              (iblk m c 1 t) (iblk m c 2 t) (iblk m c 3 t) (iblk m c 4 t))⟩,
        ⟨Rect.unit ![0, 0, 1024] ![1, 512, 1024] inb_S1x512x3072_S1x512x1024_0_0_1024,
          k0_pay2 (F := Ideal) (k0_pay8 (iblk m c 6 t))
            (k0_pay18 (BitVec.ofNat 32 (grid0.coords t 1).val) (k0_pay6 (iblk m c 9 t)) (k0_pay14 (iblk m c 0 t))
              (iblk m c 1 t) (iblk m c 2 t) (iblk m c 3 t) (iblk m c 4 t))⟩,
        ⟨Rect.unit ![0, 0, 0] ![1, 512, 1024] inb_S1x512x3072_S1x512x1024_0_0_0,
          k0_pay1 (F := Ideal)
            (k0_pay19
              (k0_pay13 (grid0.coords t) (iblk m c 9 t) (iblk m c 5 t) (iblk m c 6 t) (iblk m c 7 t) (iblk m c 8 t))
              (k0_pay14 (iblk m c 0 t)) (iblk m c 1 t) (iblk m c 2 t))⟩] y
    = dpB m c t y := by
  refine canon_three (e := .bf16) (dpB m c t) _ _ _ _ _ _ y ?_ (fun x => ?_) (fun x => ?_) (fun x => ?_)
  · exact View.cover_of_tiled_head _ _ _ (by rfl) y
  all_goals idx_vars x
  · refine (col2 m c t x0 x1 x2).trans (congrArg (dpB m c t) ?_)
    blk_ext
  · refine (col1 m c t x0 x1 x2).trans (congrArg (dpB m c t) ?_)
    blk_ext
  · refine (col0 m c t x0 x1 x2).trans (congrArg (dpB m c t) ?_)
    blk_ext

theorem part_at (r : Fin 8) : k0_pay4 (F := Ideal) (k0_pay9 (iblk m c 5 t) (iblk m c 6 t))
      (k0_pay11 (grid0.coords t) (iblk m c 5 t) (iblk m c 6 t) (iblk m c 7 t) (iblk m c 8 t))
      (k0_pay12 (grid0.coords t) (iblk m c 5 t) (iblk m c 6 t) (iblk m c 7 t) (iblk m c 8 t))
      (k0_pay17 (BitVec.ofNat 32 (grid0.coords t 1).val) (k0_pay14 (iblk m c 0 t)) (iblk m c 1 t) (iblk m c 2 t) (iblk m c 3 t) (iblk m c 4 t))
      (ix2 r k) = ∑ p : Fin 512, dwPart (m (c.tc.loc main_arg0)) (m (c.tc.loc main_arg1)) (m (c.tc.loc main_arg2)) r k
        ⟨t.val / 4, point_lt t⟩ ⟨t.val % 4 * 512 + p.val, lane_lt t p⟩ := by
  rw [dw_at, coord t]
  have ed : ∀ p : Fin 512, k0_pay17 (F := Ideal) (BitVec.ofNat 32 (t.val % 4)) (k0_pay14 (iblk m c 0 t)) (iblk m c 1 t) (iblk m c 2 t)
      (iblk m c 3 t) (iblk m c 4 t) (ix2 p k) = dc (m (c.tc.loc main_arg0)) (m (c.tc.loc main_arg1)) (m (c.tc.loc main_arg2))
        ⟨t.val / 4, point_lt t⟩ k ⟨t.val % 4 * 512 + p.val, lane_lt t p⟩ := fun p =>
    (dc0_at ⟨t.val % 4, Nat.mod_lt _ (by decide)⟩ _ _ _ _ _ p k).trans
      ((earlyB m c t p k 0 (by omega) ⟨p.val, by omega⟩ rfl _ rfl).trans (dif_pos (lane_lt t p)))
  simp only [ed, cv1_at, cv2_at, cv_at, fun p : Fin 512 => lateB m c t p k 2 (by omega) ⟨p.val + 14, by omega⟩ rfl,
    fun p : Fin 512 => lateB m c t p k 1 (by omega) ⟨p.val + 15, by omega⟩ rfl, cv_prod m c t _ k _ _ rfl rfl]
  unfold dwPart
  by_cases h0 : r.val = 0
  · simp only [if_pos h0]
  by_cases h1 : r.val = 1
  · simp only [if_neg h0, if_pos h1]
  by_cases h2 : r.val = 2
  · simp only [if_neg h0, if_neg h1, if_pos h2]
  · simp only [if_neg h0, if_neg h1, if_neg h2, Finset.sum_const_zero]

end

theorem out_A (c : Dev nD) (t : Fin cfg0.N) (h : t.val % 16 = 0) :
    (outsAt0 m c t.val t.isLt).1 = dpB m c t ∧ ∀ (r : Fin 8) (k : Fin 1024), (outsAt0 m c t.val t.isLt).2 (ix2 r k)
      = ∑ p : Fin 512, dwPart (m (c.tc.loc main_arg0)) (m (c.tc.loc main_arg1)) (m (c.tc.loc main_arg2)) r k
        ⟨t.val / 4, point_lt t⟩ ⟨t.val % 4 * 512 + p.val, lane_lt t p⟩ := by
  rw [outsAt0_A m c t h (by have := lt_of_lt_of_eq t.isLt N_0; omega)]
  refine ⟨funext fun y => ?_, fun r k => ?_⟩
  · frame_out
    exact columns m c t y
  · frame_out
    exact part_at m c t k r

theorem out_B (c : Dev nD) (t : Fin cfg0.N) (h : ¬t.val % 16 = 0) :
    (outsAt0 m c t.val t.isLt).1 = dpB m c t ∧ ∀ (r : Fin 8) (k : Fin 1024), (outsAt0 m c t.val t.isLt).2 (ix2 r k)
      = (outsAt0 m c (t.val - 1) (Nat.lt_of_le_of_lt (Nat.sub_le _ _) t.isLt)).2 (ix2 r k)
        + ∑ p : Fin 512, dwPart (m (c.tc.loc main_arg0)) (m (c.tc.loc main_arg1)) (m (c.tc.loc main_arg2)) r k
        ⟨t.val / 4, point_lt t⟩ ⟨t.val % 4 * 512 + p.val, lane_lt t p⟩ := by
  rw [outsAt0_B m c t h (by omega)]
  refine ⟨funext fun y => ?_, fun r k => ?_⟩
  · frame_out
    exact columns m c t y
  · frame_out
    exact (dw_step _ _ _ _ _ _).trans (congrArg _ (part_at m c t k r))

theorem out_dp (c : Dev nD) (t : Fin cfg0.N) : (outsAt0 m c t.val t.isLt).1 = dpB m c t := by
  by_cases h : t.val % 16 = 0
  · exact (out_A m c t h).1
  · exact (out_B m c t h).1

theorem final10 (c : Dev nD) : (dats m 0 c).arrAt 10 cfg0.N
    = dp (m (c.tc.loc main_arg0)) (m (c.tc.loc main_arg1)) (m (c.tc.loc main_arg2)) (m (c.tc.loc main_arg3)) := by
  refine (dats m 0 c).arrAt_eq_of_covers 10 _ (by decide +kernel) fun t _ y => ?_
  blk_simp
  rw [after0_10]
  rw [out_dp]
  idx_vars y
  rw [show ((View.whole main_v6_0).slice (win0_10.rect t)).emb (ix3 y0 y1 y2)
    = ix3 ⟨t.val / 4, point_lt t⟩ ⟨t.val % 4 * 512 + y1.val, lane_lt t y1⟩ y2 from by blk_ext [idx t]]
  rfl

theorem final11 (c : Dev nD) : (dats m 0 c).arrAt 11 cfg0.N
    = dw (m (c.tc.loc main_arg0)) (m (c.tc.loc main_arg1)) (m (c.tc.loc main_arg2)) := by
  refine (dats m 0 c).arrAt_eq_of_after_last 11 t0_15 (by decide +kernel) _ fun j => ?_
  blk_simp
  rw [after0_11, Pipeline.eq_sum_fin_of_reset_step_apply_last (fun n h => (outsAt0 m c n h).2) 16 (fun _ => 0)
    (fun t j => ∑ p : Fin 512, dwPart (m (c.tc.loc main_arg0)) (m (c.tc.loc main_arg1)) (m (c.tc.loc main_arg2)) (j 0) (j 1)
        ⟨t.val / 4, point_lt t⟩ ⟨t.val % 4 * 512 + p.val, lane_lt t p⟩)
    (fun t h j => by idx_vars j; exact ((out_A m c t h).2 j0 j1).trans (zero_add _).symm)
    (fun t h j => by idx_vars j; exact (out_B m c t h).2 j0 j1)
    (le_of_eq N_0) t0_15 rfl j, zero_add]
  refine Fin.sum_points_lanes_congr 4 fun t k ha hl => ?_
  rfl

end Cert.ConvValue

end
-- ==== Proof.ConvReference.lean ====
/-
The convolution's gradient over whole arrays: what the reference leaves.
-/
module

public import proofs.«01_k».proof.Proof.ConvValue
public import proofs.«01_k».proof.Proof.Rows
public import proofs.«01_k».proof.Proof.Gen.ReferenceConvIdeal.Run

@[expose] public section

set_option maxRecDepth 16384

noncomputable section

namespace Cert.ConvReference

open Cert.ConvValue Cert.ReferenceConvIdeal Cert.ReferenceConvIdeal.Facts₀ Idealize.ShloMosaic Idealize.ShloMosaic.TcCoe Idealize.SL.Sem

/-! ## Sequences moved along -/

theorem early_mul (n : Nat) (f g : Fin 2048 → EReal) (w : EReal) (h : ∀ s, f s = g s * w) (s : Fin 2048) :
    early n f s = w * early n g s := by
  unfold early
  split
  · rw [h, mul_comm]
  · rw [mul_zero]

section Moved
variable (X : FVec Ideal S4x2048x1024 .f32) (b : Fin 4) (s : Fin 2048) (k : Fin 1024)

theorem late_one : (concatenate S4x2048x1024 1 [⟨S4x1x1024, broadcastInDim S4x1x1024 ![] bcast_S_S4x1x1024 (constant (F := Ideal) S_ .f32 0x00000000#32)⟩,
      ⟨S4x2047x1024, extractStridedSlice S4x2047x1024 ![0, 0, 0] X slices_S4x2048x1024_S4x2047x1024_0_0_0⟩]
      concatenates_S4x1x1024_S4x2047x1024_S4x2048x1024_d1 : FVec Ideal S4x2048x1024 .f32) (ix3 b s k) = late 1 (fun s => X (ix3 b s k)) s := by
  unfold late
  by_cases h : 1 ≤ s.val
  · rw [dif_pos h]
    pointwise
    rw [dif_neg (by omega)]
  · rw [dif_neg h]
    pointwise
    rw [dif_pos (by omega)]

theorem late_two : (concatenate S4x2048x1024 1 [⟨S4x2x1024, broadcastInDim S4x2x1024 ![] bcast_S_S4x2x1024 (constant (F := Ideal) S_ .f32 0x00000000#32)⟩,
      ⟨S4x2046x1024, extractStridedSlice S4x2046x1024 ![0, 0, 0] X slices_S4x2048x1024_S4x2046x1024_0_0_0⟩]
      concatenates_S4x2x1024_S4x2046x1024_S4x2048x1024_d1 : FVec Ideal S4x2048x1024 .f32) (ix3 b s k) = late 2 (fun s => X (ix3 b s k)) s := by
  unfold late
  by_cases h : 2 ≤ s.val
  · rw [dif_pos h]
    pointwise
    rw [dif_neg (by omega)]
  · rw [dif_neg h]
    pointwise
    rw [dif_pos (by omega)]

theorem early_one : (pad S4x2048x1024 ![0, 0, 0] ![0, 1, 0] ![0, 0, 0]
      (extractStridedSlice S4x2047x1024 ![0, 1, 0] X slices_S4x2048x1024_S4x2047x1024_0_1_0) (constant S_ .f32 0x00000000#32 : FVec Ideal S_ .f32)
      pads_S4x2047x1024_S4x2048x1024_000_010_000 h_S_ : FVec Ideal S4x2048x1024 .f32) (ix3 b s k) = early 1 (fun s => X (ix3 b s k)) s := by
  unfold early
  by_cases h : s.val + 1 < 2048
  · rw [dif_pos h]
    pointwise
    rw [dif_pos (by omega)]
    exact congrArg (fun r => X (ix3 b r k)) (Fin.ext (Nat.add_comm _ _))
  · rw [dif_neg h]
    pointwise
    rw [dif_neg (by omega)]

theorem early_two : (pad S4x2048x1024 ![0, 0, 0] ![0, 2, 0] ![0, 0, 0]
      (extractStridedSlice S4x2046x1024 ![0, 2, 0] X slices_S4x2048x1024_S4x2046x1024_0_2_0) (constant S_ .f32 0x00000000#32 : FVec Ideal S_ .f32)
      pads_S4x2046x1024_S4x2048x1024_000_020_000 h_S_ : FVec Ideal S4x2048x1024 .f32) (ix3 b s k) = early 2 (fun s => X (ix3 b s k)) s := by
  unfold early
  by_cases h : s.val + 2 < 2048
  · rw [dif_pos h]
    pointwise
    rw [dif_pos (by omega)]
    exact congrArg (fun r => X (ix3 b r k)) (Fin.ext (Nat.add_comm _ _))
  · rw [dif_neg h]
    pointwise
    rw [dif_neg (by omega)]

end Moved

/-! ## The reference's intermediate arrays -/

section Arrays
variable (A0 : FVec Ideal S4x2048x1024 .f32) (A1 : FVec Ideal S1x1024x1024 .f32) (A2 : FVec Ideal S4x2048x3072 .f32)
  (A3 : FVec Ideal S1x3x1024 .f32) (b : Fin 4) (s : Fin 2048) (k : Fin 1024)

/-- The cotangents through the product. -/
def dyA : FVec Ideal S4x2048x1024 .f32 := Host.dotGeneral dot_S4x2048x1024_S1024x1024_S4x2048x1024_2_1_01_0_n_n none A0
  (shapeCast S1024x1024 A1 shapeCasts_S1x1024x1024_S1024x1024)

/-- What is convolved. -/
def cvA : FVec Ideal S4x2048x1024 .f32 := mulf (extractStridedSlice S4x2048x1024 ![0, 0, 1024] A2 slices_S4x2048x3072_S4x2048x1024_0_0_1024)
  (extractStridedSlice S4x2048x1024 ![0, 0, 2048] A2 slices_S4x2048x3072_S4x2048x1024_0_0_2048)

/-- The cotangents of the convolution. -/
def dcA : FVec Ideal S4x2048x1024 .f32 := mulf (extractStridedSlice S4x2048x1024 ![0, 0, 0] A2 slices_S4x2048x3072_S4x2048x1024_0_0_0) (dyA A0 A1)

theorem dyA_at : dyA A0 A1 (ix3 b s k) = dy A0 A1 b k s := by
  unfold dyA dy
  pointwise

theorem cvA_at : cvA A2 (ix3 b s k) = cv A2 b k s := by
  unfold cvA cv gateC val
  pointwise

theorem dcA_at : dcA A0 A1 A2 (ix3 b s k) = dc A0 A1 A2 b k s := by
  refine (mul_comm _ _).trans (congrArg₂ (· * ·) (dyA_at A0 A1 b s k) ?_)
  unfold gateB
  pointwise

theorem late_cv (n : Nat) : late n (fun s => cvA A2 (ix3 b s k)) s = late n (cv A2 b k) s := by
  simp only [cvA_at]

/-- What is convolved, one step late. -/
def late1A : FVec Ideal S4x2048x1024 .f32 := concatenate S4x2048x1024 1
  [⟨S4x1x1024, broadcastInDim S4x1x1024 ![] bcast_S_S4x1x1024 (constant (F := Ideal) S_ .f32 0x00000000#32)⟩,
    ⟨S4x2047x1024, extractStridedSlice S4x2047x1024 ![0, 0, 0] (cvA A2) slices_S4x2048x1024_S4x2047x1024_0_0_0⟩]
  concatenates_S4x1x1024_S4x2047x1024_S4x2048x1024_d1

/-- What is convolved, two steps late. -/
def late2A : FVec Ideal S4x2048x1024 .f32 := concatenate S4x2048x1024 1
  [⟨S4x2x1024, broadcastInDim S4x2x1024 ![] bcast_S_S4x2x1024 (constant (F := Ideal) S_ .f32 0x00000000#32)⟩,
    ⟨S4x2046x1024, extractStridedSlice S4x2046x1024 ![0, 0, 0] (cvA A2) slices_S4x2048x1024_S4x2046x1024_0_0_0⟩]
  concatenates_S4x2x1024_S4x2046x1024_S4x2048x1024_d1

/-- A tap's weights at every position. -/
def tapA (off : Fin 2 → Nat) (h : S3x1024.Slices off S1x1024) : FVec Ideal S4x2048x1024 .f32 :=
  broadcastInDim S4x2048x1024 ![0, 1, 2] bcast_S1x1x1024_S4x2048x1024_0_1_2 (broadcastInDim S1x1x1024 ![2] bcast_S1024_S1x1x1024_2
    (shapeCast S1024 (extractStridedSlice S1x1024 off (shapeCast S3x1024 A3 shapeCasts_S1x3x1024_S3x1024) h) shapeCasts_S1x1024_S1024))

/-- The convolution. -/
def convA : FVec Ideal S4x2048x1024 .f32 := addf (addf (mulf (late2A A2) (tapA A3 ![0, 0] slices_S3x1024_S1x1024_0_0))
  (mulf (late1A A2) (tapA A3 ![1, 0] slices_S3x1024_S1x1024_1_0))) (mulf (cvA A2) (tapA A3 ![2, 0] slices_S3x1024_S1x1024_2_0))

/-- The gradient of what is convolved. -/
def dcvA : FVec Ideal S4x2048x1024 .f32 := addf (addf (mulf (dcA A0 A1 A2) (tapA A3 ![2, 0] slices_S3x1024_S1x1024_2_0))
    (pad S4x2048x1024 ![0, 0, 0] ![0, 1, 0] ![0, 0, 0] (extractStridedSlice S4x2047x1024 ![0, 1, 0]
      (mulf (dcA A0 A1 A2) (tapA A3 ![1, 0] slices_S3x1024_S1x1024_1_0)) slices_S4x2048x1024_S4x2047x1024_0_1_0)
      (constant S_ .f32 0x00000000#32 : FVec Ideal S_ .f32) pads_S4x2047x1024_S4x2048x1024_000_010_000 h_S_))
  (pad S4x2048x1024 ![0, 0, 0] ![0, 2, 0] ![0, 0, 0] (extractStridedSlice S4x2046x1024 ![0, 2, 0]
    (mulf (dcA A0 A1 A2) (tapA A3 ![0, 0] slices_S3x1024_S1x1024_0_0)) slices_S4x2048x1024_S4x2046x1024_0_2_0)
    (constant S_ .f32 0x00000000#32 : FVec Ideal S_ .f32) pads_S4x2046x1024_S4x2048x1024_000_020_000 h_S_)

theorem tapA_at (r : Fin 3) (off : Fin 2 → Nat) (h : S3x1024.Slices off S1x1024) (h0 : off 0 = r.val) (h1 : off 1 = 0) :
    tapA A3 off h (ix3 b s k) = A3 (ix3 0 r k) := by
  unfold tapA
  pointwise
  exact congrArg₂ (fun a e => A3 (ix3 0 a e)) (Fin.ext h0) (Fin.ext (by show off 1 + k.val = k.val; omega))

theorem convA_at : convA A2 A3 (ix3 b s k) = conv A2 A3 b k s := by
  refine congrArg₂ (· + ·) (congrArg₂ (· + ·) ((mul_comm _ _).trans (congrArg₂ (· * ·) (tapA_at A3 b s k 0 _ _ rfl rfl) ?_))
    ((mul_comm _ _).trans (congrArg₂ (· * ·) (tapA_at A3 b s k 1 _ _ rfl rfl) ?_)))
    ((mul_comm _ _).trans (congrArg₂ (· * ·) (tapA_at A3 b s k 2 _ _ rfl rfl) (cvA_at A2 b s k)))
  · exact (late_two _ b s k).trans (late_cv A2 b s k 2)
  · exact (late_one _ b s k).trans (late_cv A2 b s k 1)

theorem dcvA_at : dcvA A0 A1 A2 A3 (ix3 b s k) = dcv A0 A1 A2 A3 b k s := by
  refine congrArg₂ (· + ·) (congrArg₂ (· + ·)
    ((mul_comm _ _).trans (congrArg₂ (· * ·) (tapA_at A3 b s k 2 _ _ rfl rfl) (dcA_at A0 A1 A2 b s k)))
    ((early_one _ b s k).trans (early_mul 1 _ _ _ (fun s => ?_) s))) ((early_two _ b s k).trans (early_mul 2 _ _ _ (fun s => ?_) s))
  · exact congrArg₂ (· * ·) (dcA_at A0 A1 A2 b s k) (tapA_at A3 b s k 1 _ _ rfl rfl)
  · exact congrArg₂ (· * ·) (dcA_at A0 A1 A2 b s k) (tapA_at A3 b s k 0 _ _ rfl rfl)

end Arrays

section Columns
variable (X Y Z : FVec Ideal S4x2048x1024 .f32) (b : Fin 4) (s : Fin 2048) (k : Fin 3072)

theorem columns_at : (truncf .bf16 (concatenate S4x2048x3072 2 [⟨S4x2048x1024, X⟩, ⟨S4x2048x1024, Y⟩, ⟨S4x2048x1024, Z⟩]
      concatenates_S4x2048x1024_S4x2048x1024_S4x2048x1024_S4x2048x3072_d2 : FVec Ideal S4x2048x3072 .f32) bitsLt_bf16_f32
      : FVec Ideal S4x2048x3072 .bf16) (ix3 b s k)
    = if h : k.val < 1024 then X (ix3 b s ⟨k.val, h⟩) else if h' : k.val - 1024 < 1024 then Y (ix3 b s ⟨k.val - 1024, h'⟩)
      else Z (ix3 b s ⟨k.val - 1024 - 1024, by omega⟩) := by
  pointwise

end Columns

/-- A row of the weights' gradient: a sum over all positions, put in one of three rows. -/
def rowA (X : FVec Ideal S4x2048x1024 .f32) (lo hi : Fin 2 → Nat) (h : S1x1024.Pads lo hi ![0, 0] S3x1024) : FVec Ideal S3x1024 .f32 :=
  pad S3x1024 lo hi ![0, 0] (broadcastInDim S1x1024 ![1] bcast_S1024_S1x1024_1 (Host.reduceAdd (shapeCast S1x1x1024
    (Host.reduceAdd X (constant S_ .f32 0x00000000#32) reducesTo_S4x2048x1024_S1024_d0_1 h_S_) shapeCasts_S1024_S1x1x1024)
    (constant S_ .f32 0x00000000#32) reducesTo_S1x1x1024_S1024_d0_1 h_S_)) (constant S_ .f32 0x00000000#32 : FVec Ideal S_ .f32) h h_S_

theorem rowA_at (X : FVec Ideal S4x2048x1024 .f32) (n : Nat) (lo hi : Fin 2 → Nat) (h : S1x1024.Pads lo hi ![0, 0] S3x1024) (r : Fin 3) (k : Fin 1024)
    (hlo : lo = ![n, 0]) (hhi : hi = ![2 - n, 0]) :
    rowA X lo hi h (ix2 r k) = if r.val = n then ∑ b : Fin 4, ∑ s : Fin 2048, X (ix3 b s k) else 0 := by
  subst hlo hhi
  unfold rowA
  pointwise
  by_cases e : r.val = n
  · rw [dif_pos (by omega), if_pos e]
    simp only [Fin.sum_univ_one]
  · rw [dif_neg (by omega), if_neg e]

/-- A row of the weights' gradient as a sum of products. -/
theorem rowA_mul (X Y : FVec Ideal S4x2048x1024 .f32) (n : Nat) (lo hi : Fin 2 → Nat) (h : S1x1024.Pads lo hi ![0, 0] S3x1024) (r : Fin 3)
    (k : Fin 1024) (hlo : lo = ![n, 0]) (hhi : hi = ![2 - n, 0]) (f g : Fin 4 → Fin 2048 → EReal) (hf : ∀ b s, X (ix3 b s k) = f b s)
    (hg : ∀ b s, Y (ix3 b s k) = g b s) :
    rowA (mulf X Y) lo hi h (ix2 r k) = if r.val = n then ∑ b : Fin 4, ∑ s : Fin 2048, g b s * f b s else 0 := by
  rw [rowA_at _ n lo hi h r k hlo hhi]
  have e : ∀ b s, (mulf X Y) (ix3 b s k) = g b s * f b s := fun b s => (mul_comm _ _).trans (congrArg₂ (· * ·) (hg b s) (hf b s))
  simp only [e]

variable (m : (ℓ : Loc nD τ sig) → Buf (Elt Ideal) ℓ) (c : Dev nD)

theorem res_eq : (Value.res_main_v75 m c : FVec Ideal S4x2048x3072 .bf16)
    = dp (m (c.tc.loc main_arg0)) (m (c.tc.loc main_arg1)) (m (c.tc.loc main_arg2)) (m (c.tc.loc main_arg3)) := by
  funext j
  idx_vars j
  refine (columns_at (mulf (dyA (m (c.tc.loc main_arg0)) (m (c.tc.loc main_arg1))) (convA (m (c.tc.loc main_arg2)) (m (c.tc.loc main_arg3))))
    (mulf (dcvA (m (c.tc.loc main_arg0)) (m (c.tc.loc main_arg1)) (m (c.tc.loc main_arg2)) (m (c.tc.loc main_arg3)))
      (extractStridedSlice S4x2048x1024 ![0, 0, 2048] (m (c.tc.loc main_arg2)) slices_S4x2048x3072_S4x2048x1024_0_0_2048))
    (mulf (extractStridedSlice S4x2048x1024 ![0, 0, 1024] (m (c.tc.loc main_arg2)) slices_S4x2048x3072_S4x2048x1024_0_0_1024)
      (dcvA (m (c.tc.loc main_arg0)) (m (c.tc.loc main_arg1)) (m (c.tc.loc main_arg2)) (m (c.tc.loc main_arg3)))) j0 j1 j2).trans ?_
  refine dite_congr rfl (fun h => ?_) fun h => dite_congr rfl (fun h' => ?_) fun h' => ?_
  · exact congrArg₂ (· * ·) (dyA_at _ _ _ _ _) (convA_at _ _ _ _ _)
  · refine congrArg₂ (· * ·) (dcvA_at _ _ _ _ _ _ _) ?_
    unfold val
    pointwise
  · refine (mul_comm _ _).trans (congrArg₂ (· * ·) (dcvA_at _ _ _ _ _ _ _) ?_)
    unfold gateC
    pointwise

theorem dw_eq : (concatenate S8x1024 0 [⟨S3x1024, addf (addf
      (rowA (mulf (cvA (m (c.tc.loc main_arg2))) (dcA (m (c.tc.loc main_arg0)) (m (c.tc.loc main_arg1)) (m (c.tc.loc main_arg2)))) ![2, 0] ![0, 0] pads_S1x1024_S3x1024_200_000)
      (rowA (mulf (late1A (m (c.tc.loc main_arg2))) (dcA (m (c.tc.loc main_arg0)) (m (c.tc.loc main_arg1)) (m (c.tc.loc main_arg2)))) ![1, 0] ![1, 0] pads_S1x1024_S3x1024_110_000))
      (rowA (mulf (late2A (m (c.tc.loc main_arg2))) (dcA (m (c.tc.loc main_arg0)) (m (c.tc.loc main_arg1)) (m (c.tc.loc main_arg2)))) ![0, 0] ![2, 0] pads_S1x1024_S3x1024_020_000)⟩,
      ⟨S5x1024, broadcastInDim S5x1024 ![] bcast_S_S5x1024 (constant (F := Ideal) S_ .f32 0x00000000#32)⟩]
      concatenates_S3x1024_S5x1024_S8x1024_d0 : FVec Ideal S8x1024 .f32)
    = dw (m (c.tc.loc main_arg0)) (m (c.tc.loc main_arg1)) (m (c.tc.loc main_arg2)) := by
  funext j
  idx_vars j
  generalize m (c.tc.loc main_arg0) = A
  generalize m (c.tc.loc main_arg1) = W
  generalize m (c.tc.loc main_arg2) = P
  have hd := fun b s => dcA_at A W P b s j1
  have h2 := fun r => rowA_mul (cvA P) (dcA A W P) 2 _ _ pads_S1x1024_S3x1024_200_000 r j1 rfl rfl _ _ (fun b s => cvA_at P b s j1) hd
  have h1 := fun r => rowA_mul (late1A P) (dcA A W P) 1 _ _ pads_S1x1024_S3x1024_110_000 r j1 rfl rfl _ _
    (fun b s => (late_one _ b s j1).trans (late_cv P b s j1 1)) hd
  have h0 := fun r => rowA_mul (late2A P) (dcA A W P) 0 _ _ pads_S1x1024_S3x1024_020_000 r j1 rfl rfl _ _
    (fun b s => (late_two _ b s j1).trans (late_cv P b s j1 2)) hd
  revert h0 h1 h2
  generalize rowA _ _ _ pads_S1x1024_S3x1024_200_000 = R2
  generalize rowA _ _ _ pads_S1x1024_S3x1024_110_000 = R1
  generalize rowA _ _ _ pads_S1x1024_S3x1024_020_000 = R0
  intro h0 h1 h2
  show _ = ∑ b : Fin 4, ∑ s : Fin 2048, dwPart A W P j0 j1 b s
  unfold dwPart
  pointwise
  simp only [h0, h1, h2]
  by_cases e0 : j0.val = 0
  · simp [e0]
  by_cases e1 : j0.val = 1
  · simp [e1]
  by_cases e2 : j0.val = 2
  · simp [e2]
  · simp [e0, e1, e2]

set_option maxHeartbeats 2000000 in
/-- The reference's run with its results as arrays of the arguments. -/
theorem ref_run (ρ : Dev nD → PrngReg) :
    θ_run defs (onTc (τ := τ) (main (F := Ideal))) ⟨m, fun _ => 0, ρ⟩ fun r => ∀ c : Dev nD,
      r.2.mem (c.tc.loc main_v75) = dp (m (c.tc.loc main_arg0)) (m (c.tc.loc main_arg1)) (m (c.tc.loc main_arg2)) (m (c.tc.loc main_arg3))
      ∧ r.2.mem (c.tc.loc main_v77) = dw (m (c.tc.loc main_arg0)) (m (c.tc.loc main_arg1)) (m (c.tc.loc main_arg2))
      ∧ (r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)) := by
  refine (θ_run defs _ _).mono (fun r h c => ?_) (Value.run m ρ)
  obtain ⟨e0, e1, er⟩ := h c
  exact ⟨e0.trans (res_eq m c), e1.trans (dw_eq m c), er⟩

end Cert.ConvReference

end
-- ==== Proof.ConvClaim.lean ====
/-
The convolution's gradient, kernel and reference, equal.
-/
module

public import proofs.«01_k».proof.Defs
public import proofs.«01_k».proof.Proof.ConvReference

@[expose] public section

set_option maxRecDepth 16384

noncomputable section

namespace Cert.ConvClaim

open Cert.ConvValue Cert.ConvReference Cert.KernelConvIdeal Cert.KernelConvIdeal.Gen Idealize.ShloMosaic Idealize.ShloMosaic.TcCoe
open Idealize.SL.Sem

theorem algebraic : Cert.algebraic_KernelConvIdeal_ReferenceConvIdeal := by
  intro m g m' g' hpre hargs
  refine ⟨_, _, Value.run_blocks m g, ?_⟩
  refine (θ_run Cert.ReferenceConvIdeal.defs _ _).mono (fun r h c => ?_) (ref_run m' g')
  obtain ⟨h0, h1, h2, h3⟩ := hargs c
  obtain ⟨e0, e1, hr⟩ := h c
  refine ⟨e0.trans ?_, e1.trans ?_, hr⟩
  · rw [final10, h0, h1, h2, h3]
  · rw [final11, h0, h1, h2]

end Cert.ConvClaim

end
-- ==== Proof.MergeValue.lean ====
/-
The gradient of the merge of the two branches over whole arrays: what the kernel leaves.
-/
module

public import proofs.«01_k».proof.Proof.NormGrad
public import proofs.«01_k».proof.Proof.Gen.KernelMergeIdeal.Value
public import Idealize.ShloMosaic.Lib.Pipeline.ReadBack

@[expose] public section

set_option maxRecDepth 16384

noncomputable section

namespace Cert.MergeValue

open Cert.NormGrad Cert.KernelMergeIdeal Cert.KernelMergeIdeal.Gen Idealize.ShloMosaic Idealize.ShloMosaic.TcCoe Idealize.SL.Sem

section Whole
variable (YA YB : FVec Ideal S4x2048x1024 .f32) (P : FVec Ideal S4x2048x2048 .f32) (W : FVec Ideal S1x1024x1024 .f32)
  (G : FVec Ideal S4x1024 .f32) (X : FVec Ideal S4x2048x1024 .f32) (b : Fin 4) (s : Fin 2048) (k : Fin 1024)

/-- The cotangents of the projection's value. -/
def dm : EReal := G (ix2 b k) * X (ix3 b s k)

/-- The cotangents of what is projected. -/
def dg : EReal := ∑ e : Fin 1024, dm G X b s e * W (ix3 0 k e)

def gateA : EReal := Ideal.logistic (P (ix3 b s ⟨k.val, by omega⟩))
def gateB : EReal := Ideal.logistic (P (ix3 b s ⟨1024 + k.val, by omega⟩))

/-- The projection's value. -/
def mix : EReal := ∑ e : Fin 1024, (gateA P b s e * YA (ix3 b s e) + gateB P b s e * YB (ix3 b s e)) * W (ix3 0 e k)

end Whole

section Results
variable (YA YB : FVec Ideal S4x2048x1024 .f32) (P : FVec Ideal S4x2048x2048 .f32) (W : FVec Ideal S1x1024x1024 .f32)
  (G : FVec Ideal S4x1024 .f32) (X : FVec Ideal S4x2048x1024 .f32)

def dmix : FVec Ideal S4x2048x1024 .bf16 := fun j => dm G X (j 0) (j 1) (j 2)

/-- The gradient of a branch. -/
def dya : FVec Ideal S4x2048x1024 .bf16 := fun j => dg W G X (j 0) (j 1) (j 2) * gateA P (j 0) (j 1) (j 2)

def dyb : FVec Ideal S4x2048x1024 .bf16 := fun j => dg W G X (j 0) (j 1) (j 2) * gateB P (j 0) (j 1) (j 2)

/-- The gradient of the two gates' logits. -/
def dp : FVec Ideal S4x2048x2048 .bf16 := fun j =>
  if h : (j 2).val < 1024 then dg W G X (j 0) (j 1) ⟨(j 2).val, h⟩ * YA (ix3 (j 0) (j 1) ⟨(j 2).val, h⟩) * gateA P (j 0) (j 1) ⟨(j 2).val, h⟩
    * (1 - gateA P (j 0) (j 1) ⟨(j 2).val, h⟩)
  else dg W G X (j 0) (j 1) ⟨(j 2).val - 1024, by have : (j 2).val < 2048 := (j 2).isLt; omega⟩
    * YB (ix3 (j 0) (j 1) ⟨(j 2).val - 1024, by have : (j 2).val < 2048 := (j 2).isLt; omega⟩)
    * gateB P (j 0) (j 1) ⟨(j 2).val - 1024, by have : (j 2).val < 2048 := (j 2).isLt; omega⟩
    * (1 - gateB P (j 0) (j 1) ⟨(j 2).val - 1024, by have : (j 2).val < 2048 := (j 2).isLt; omega⟩)

/-- A position's part of the gradient of the branch's scale. -/
def gtPart (b : Fin 4) (s : Fin 2048) (k : Fin 1024) : EReal := X (ix3 b s k) * mix YA YB P W b s k

/-- The gradient of the branch's scale. -/
def dgt : FVec Ideal S4x1x1024 .f32 := fun j => ∑ s : Fin 2048, gtPart YA YB P W X (j 0) s (j 2)

end Results

/-! ## The values a point stores -/

section Payloads
variable (v0 : FVec Ideal S1x512x1024 .f32) (v2 : FVec Ideal S1x1x1024 .f32) (v10 x3 x4 x5 x6 : FVec Ideal S1x512x1024 .bf16)
  (v22 : FVec Ideal S1024x1024 .bf16) (z : Fin 1) (p : Fin 512) (k : Fin 1024)

def dgB (p : Fin 512) (k : Fin 1024) : EReal := ∑ e : Fin 1024, v2 (ix3 0 0 e) * v0 (ix3 0 p e) * v22 (ix2 k e)

theorem dmix_at : k0_pay4 (F := Ideal) v0 v2 (ix3 z p k) = v2 (ix3 0 0 k) * v0 (ix3 0 p k) := by
  pointwise [k0_pay4, k0_pay3, k0_pay2]

theorem dg_at : k0_pay8 (F := Ideal) v0 v2 v22 (ix2 p k) = dgB v0 v2 v22 p k := by
  unfold dgB
  pointwise [k0_pay8, k0_pay3, k0_pay2]

theorem gate_at : k0_pay9 (F := Ideal) x5 (ix2 p k) = Ideal.logistic (x5 (ix3 0 p k)) := by
  pointwise [k0_pay9]

theorem gate'_at : k0_pay10 (F := Ideal) x6 (ix2 p k) = Ideal.logistic (x6 (ix3 0 p k)) := by
  pointwise [k0_pay10]

theorem dya_at (D E : FVec Ideal S512x1024 .f32) : k0_pay11 (F := Ideal) D E (ix3 z p k) = D (ix2 p k) * E (ix2 p k) := by
  pointwise [k0_pay11]

theorem dyb_at (D : FVec Ideal S512x1024 .f32) : k0_pay12 (F := Ideal) D x6 (ix3 z p k) = D (ix2 p k) * k0_pay10 (F := Ideal) x6 (ix2 p k) := by
  pointwise [k0_pay12]

theorem dp0_at (D E : FVec Ideal S512x1024 .f32) : k0_pay13 (F := Ideal) D E x3 (ix3 z p k)
    = D (ix2 p k) * x3 (ix3 0 p k) * E (ix2 p k) * (1 - E (ix2 p k)) := by
  pointwise [k0_pay13]

theorem dp1_at (D : FVec Ideal S512x1024 .f32) : k0_pay1 (F := Ideal) (k0_pay14 D x6 x4) (ix3 z p k)
    = D (ix2 p k) * x4 (ix3 0 p k) * k0_pay10 (F := Ideal) x6 (ix2 p k) * (1 - k0_pay10 (F := Ideal) x6 (ix2 p k)) := by
  pointwise [k0_pay1, k0_pay14]

theorem dgt_at (z' : Fin 1) : k0_pay6 (F := Ideal) v0 v10 (ix3 z z' k) = ∑ p : Fin 512, v0 (ix3 0 p k) * v10 (ix3 0 p k) := by
  pointwise [k0_pay6, k0_pay5, k0_pay2]

theorem dgt_step (z' : Fin 1) (w : FVec Ideal S1x1x1024 .f32) : k0_pay7 (F := Ideal) v0 v10 w (ix3 z z' k)
    = w (ix3 z z' k) + ∑ p : Fin 512, v0 (ix3 0 p k) * v10 (ix3 0 p k) := by
  rw [Subsingleton.elim z 0, Subsingleton.elim z' 0]
  pointwise [k0_pay7, k0_pay5, k0_pay2]

end Payloads

variable (m : (ℓ : Loc nD τ sig) → Buf (Elt Ideal) ℓ)

/-! ## The blocks of the operands -/

theorem idx : ∀ t : Fin cfg0.N, win0_0.index t = ![t.val / 4, t.val % 4, 0] ∧ win0_1.index t = ![t.val / 4, 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 1] ∧ win0_7.index t = ![0, 0]
    ∧ win0_8.index t = ![t.val / 4, t.val % 4, 0] ∧ win0_9.index t = ![t.val / 4, t.val % 4, 0] ∧ win0_10.index t = ![t.val / 4, t.val % 4, 0]
    ∧ win0_11.index t = ![t.val / 4, t.val % 4, 0] ∧ win0_12.index t = ![t.val / 4, 0, 0] :=
  (by decide +kernel : ∀ t : Fin grid0.N, _)

theorem point_lt (t : Fin cfg0.N) : t.val / 4 < 4 := by have := lt_of_lt_of_eq t.isLt N_0; omega

theorem lane_lt (t : Fin cfg0.N) (p : Fin 512) : t.val % 4 * 512 + p.val < 2048 := by omega

section Host
variable (YA YB : FVec Ideal S4x2048x1024 .f32) (P : FVec Ideal S4x2048x2048 .f32) (W : FVec Ideal S1x1024x1024 .f32)
  (G : FVec Ideal S4x1024 .f32) (b : Fin 4) (s : Fin 2048) (k e : Fin 1024)

theorem weights_at : (truncf .bf16 (shapeCast S1024x1024 W shapeCasts_S1x1024x1024_S1024x1024) bitsLt_bf16_f32 : FVec Ideal S1024x1024 .bf16) (ix2 k e)
    = W (ix3 0 k e) := by
  pointwise

theorem scale_at (z : Fin 1) : (broadcastInDim S4x1x1024 ![0, 2] bcast_S4x1024_S4x1x1024_0_2 G : FVec Ideal S4x1x1024 .f32) (ix3 b z k) = G (ix2 b k) := by
  pointwise

/-- A logistic gate as the host writes it. -/
def gateH (off : Fin 3 → Nat) (h : S4x2048x2048.Slices off S4x2048x1024) : FVec Ideal S4x2048x1024 .f32 :=
  Host.divf (broadcastInDim S4x2048x1024 ![] bcast_S_S4x2048x1024 (constant S_ .f32 0x3F800000#32))
    (addf (broadcastInDim S4x2048x1024 ![] bcast_S_S4x2048x1024 (constant S_ .f32 0x3F800000#32))
      (Host.exp (Host.negf (extf .f32 (extractStridedSlice S4x2048x1024 off (truncf .bf16 P bitsLt_bf16_f32 : FVec Ideal S4x2048x2048 .bf16) h) bitsLt_bf16_f32))))

/-- The projection's value as the host writes it. -/
def mixH : FVec Ideal S4x2048x1024 .bf16 := truncf .bf16 (Host.dotGeneral dot_S4x2048x1024_S1024x1024_S4x2048x1024_2_0_01_1_n_n none
  (truncf .bf16 (addf
    (mulf (gateH P ![0, 0, 0] slices_S4x2048x2048_S4x2048x1024_0_0_0) (extf .f32 (truncf .bf16 YA bitsLt_bf16_f32 : FVec Ideal S4x2048x1024 .bf16) bitsLt_bf16_f32))
    (mulf (gateH P ![0, 0, 1024] slices_S4x2048x2048_S4x2048x1024_0_0_1024) (extf .f32 (truncf .bf16 YB bitsLt_bf16_f32 : FVec Ideal S4x2048x1024 .bf16) bitsLt_bf16_f32)))
    bitsLt_bf16_f32 : FVec Ideal S4x2048x1024 .bf16)
  (truncf .bf16 (shapeCast S1024x1024 W shapeCasts_S1x1024x1024_S1024x1024) bitsLt_bf16_f32 : FVec Ideal S1024x1024 .bf16) : FVec Ideal S4x2048x1024 .f32) bitsLt_bf16_f32

theorem gateA_at : gateH P ![0, 0, 0] slices_S4x2048x2048_S4x2048x1024_0_0_0 (ix3 b s k) = gateA P b s k := by
  unfold gateH gateA Ideal.logistic
  pointwise

theorem gateB_at : gateH P ![0, 0, 1024] slices_S4x2048x2048_S4x2048x1024_0_0_1024 (ix3 b s k) = gateB P b s k := by
  unfold gateH gateB Ideal.logistic
  pointwise

theorem mix_at : mixH YA YB P W (ix3 b s k) = mix YA YB P W b s k := by
  have ha := fun e => gateA_at P b s e
  have hb := fun e => gateB_at P b s e
  unfold mixH mix
  revert ha hb
  generalize gateH P ![0, 0, 0] _ = A
  generalize gateH P ![0, 0, 1024] _ = B
  intro ha hb
  pointwise
  simp only [ha, hb]

end Host

section
variable (c : Dev nD) (t : Fin cfg0.N) (z : Fin 1) (p : Fin 512) (k e : Fin 1024)

theorem blk0 : iblk m c 0 t (ix3 z p k)
    = (m (c.tc.loc main_arg5) : FVec Ideal S4x2048x1024 .f32) (ix3 ⟨t.val / 4, point_lt t⟩ ⟨t.val % 4 * 512 + p.val, lane_lt t p⟩ k) := by
  blk_point [iblk, V, idx t]

theorem blk1 (z' : Fin 1) : iblk m c 1 t (ix3 z z' k) = (m (c.tc.loc main_arg4) : FVec Ideal S4x1024 .f32) (ix2 ⟨t.val / 4, point_lt t⟩ k) := by
  have hv : V m c main_v29 = (broadcastInDim S4x1x1024 ![0, 2] bcast_S4x1024_S4x1x1024_0_2 (m (c.tc.loc main_arg4)) : FVec Ideal S4x1x1024 .f32) := by
    unfold V
    rfl
  refine Eq.trans ?_ ((congrFun hv _).trans (scale_at _ ⟨t.val / 4, point_lt t⟩ k 0))
  blk_point [iblk, idx t]

theorem blk2 : iblk m c 2 t (ix3 z p k) = mix (m (c.tc.loc main_arg0)) (m (c.tc.loc main_arg1)) (m (c.tc.loc main_arg2)) (m (c.tc.loc main_arg3))
    ⟨t.val / 4, point_lt t⟩ ⟨t.val % 4 * 512 + p.val, lane_lt t p⟩ k := by
  have hv : V m c main_v28 = mixH (m (c.tc.loc main_arg0)) (m (c.tc.loc main_arg1)) (m (c.tc.loc main_arg2)) (m (c.tc.loc main_arg3)) := by
    unfold V
    rfl
  refine Eq.trans ?_ ((congrFun hv _).trans (mix_at _ _ _ _ _ _ k))
  blk_point [iblk, idx t]

theorem blk3 : iblk m c 3 t (ix3 z p k)
    = (m (c.tc.loc main_arg0) : FVec Ideal S4x2048x1024 .f32) (ix3 ⟨t.val / 4, point_lt t⟩ ⟨t.val % 4 * 512 + p.val, lane_lt t p⟩ k) := by
  blk_point [iblk, V, idx t]

theorem blk4 : iblk m c 4 t (ix3 z p k)
    = (m (c.tc.loc main_arg1) : FVec Ideal S4x2048x1024 .f32) (ix3 ⟨t.val / 4, point_lt t⟩ ⟨t.val % 4 * 512 + p.val, lane_lt t p⟩ k) := by
  blk_point [iblk, V, idx t]

theorem blk5 : Ideal.logistic (iblk m c 5 t (ix3 z p k))
    = gateA (m (c.tc.loc main_arg2)) ⟨t.val / 4, point_lt t⟩ ⟨t.val % 4 * 512 + p.val, lane_lt t p⟩ k := by
  unfold gateA
  refine congrArg Ideal.logistic ?_
  blk_point [iblk, V, idx t]

theorem blk6 : Ideal.logistic (iblk m c 6 t (ix3 z p k))
    = gateB (m (c.tc.loc main_arg2)) ⟨t.val / 4, point_lt t⟩ ⟨t.val % 4 * 512 + p.val, lane_lt t p⟩ k := by
  unfold gateB
  refine congrArg Ideal.logistic ?_
  blk_point [iblk, V, idx t]

theorem blk7 : iblk m c 7 t (ix2 k e) = (m (c.tc.loc main_arg3) : FVec Ideal S1x1024x1024 .f32) (ix3 0 k e) := by
  have hv : V m c main_v4 = (truncf .bf16 (shapeCast S1024x1024 (m (c.tc.loc main_arg3)) shapeCasts_S1x1024x1024_S1024x1024)
      bitsLt_bf16_f32 : FVec Ideal S1024x1024 .bf16) := by
    unfold V
    rfl
  refine Eq.trans ?_ ((congrFun hv _).trans (weights_at _ k e))
  blk_point [iblk, idx t]

theorem dgBlk : k0_pay8 (F := Ideal) (iblk m c 0 t) (iblk m c 1 t) (iblk m c 7 t) (ix2 p k)
    = dg (m (c.tc.loc main_arg3)) (m (c.tc.loc main_arg4)) (m (c.tc.loc main_arg5)) ⟨t.val / 4, point_lt t⟩ ⟨t.val % 4 * 512 + p.val, lane_lt t p⟩ k := by
  rw [dg_at]
  unfold dgB dg dm
  simp only [blk0, blk1, blk7]

end

/-! ## What a point leaves -/

/-- A point's block of the gates' gradient. -/
def dpB (c : Dev nD) (t : Fin cfg0.N) : FVec Ideal S1x512x2048 .bf16 := fun y =>
  dp (m (c.tc.loc main_arg0)) (m (c.tc.loc main_arg1)) (m (c.tc.loc main_arg2)) (m (c.tc.loc main_arg3)) (m (c.tc.loc main_arg4)) (m (c.tc.loc main_arg5))
    (ix3 ⟨t.val / 4, point_lt t⟩ ⟨t.val % 4 * 512 + (y 1).val, lane_lt t (y 1)⟩ (y 2))

section
variable (c : Dev nD) (t : Fin cfg0.N)

theorem col0 (z : Fin 1) (p : Fin 512) (k : Fin 1024) :
    k0_pay13 (F := Ideal) (k0_pay8 (iblk m c 0 t) (iblk m c 1 t) (iblk m c 7 t)) (k0_pay9 (iblk m c 5 t)) (iblk m c 3 t) (ix3 z p k)
      = dpB m c t (ix3 z p ⟨k.val, by omega⟩) := by
  rw [dp0_at, dgBlk, gate_at, blk5, blk3]
  refine Eq.trans ?_ (dif_pos (by show k.val < 1024; omega)).symm
  rfl

theorem col1 (z : Fin 1) (p : Fin 512) (k : Fin 1024) :
    k0_pay1 (F := Ideal) (k0_pay14 (k0_pay8 (iblk m c 0 t) (iblk m c 1 t) (iblk m c 7 t)) (iblk m c 6 t) (iblk m c 4 t)) (ix3 z p k)
      = dpB m c t (ix3 z p ⟨1024 + k.val, by omega⟩) := by
  rw [dp1_at, dgBlk, gate'_at, blk6, blk4]
  refine Eq.trans ?_ (dif_neg (by show ¬1024 + k.val < 1024; omega)).symm
  have e : k = ⟨1024 + k.val - 1024, by omega⟩ := Fin.ext (by simp)
  exact congrArg (fun k => dg (m (c.tc.loc main_arg3)) (m (c.tc.loc main_arg4)) (m (c.tc.loc main_arg5)) ⟨t.val / 4, point_lt t⟩ ⟨t.val % 4 * 512 + p.val, lane_lt t p⟩ k
    * (m (c.tc.loc main_arg1) : FVec Ideal S4x2048x1024 .f32) (ix3 ⟨t.val / 4, point_lt t⟩ ⟨t.val % 4 * 512 + p.val, lane_lt t p⟩ k)
    * gateB (m (c.tc.loc main_arg2)) ⟨t.val / 4, point_lt t⟩ ⟨t.val % 4 * 512 + p.val, lane_lt t p⟩ k
    * (1 - gateB (m (c.tc.loc main_arg2)) ⟨t.val / 4, point_lt t⟩ ⟨t.val % 4 * 512 + p.val, lane_lt t p⟩ k)) e

/-- Two stores that are blocks of `H` leave `H` where one of them reaches. -/
theorem canon_two {S : Shape} {e : EltTy} (H : S.Idx → Elt Ideal e) (r1 r2 : Rect S) (w1 : r1.shape.Idx → Elt Ideal e)
    (w2 : r2.shape.Idx → Elt Ideal e) (y : S.Idx) (hc : ∃ p ∈ ([⟨r1, w1⟩, ⟨r2, w2⟩] : List (View.Piece (Elt Ideal) S e)), y ∈ p.1.set)
    (h1 : ∀ x, w1 x = H (r1.emb x)) (h2 : ∀ x, w2 x = H (r2.emb x)) : View.canon [⟨r1, w1⟩, ⟨r2, w2⟩] y = H y :=
  View.canon_append_of_piecesOf H [] [⟨r1, w1⟩, ⟨r2, w2⟩] ⟨h1, h2, trivial⟩ y hc

/-- The two columns a point stores. -/
theorem columns (y : S1x512x2048.Idx) :
    View.canon (Val := Elt Ideal) (e := .bf16)
      [⟨Rect.unit ![0, 0, 1024] ![1, 512, 1024] inb_S1x512x2048_S1x512x1024_0_0_1024,
          k0_pay1 (F := Ideal) (k0_pay14 (k0_pay8 (iblk m c 0 t) (iblk m c 1 t) (iblk m c 7 t)) (iblk m c 6 t) (iblk m c 4 t))⟩,
        ⟨Rect.unit ![0, 0, 0] ![1, 512, 1024] inb_S1x512x2048_S1x512x1024_0_0_0,
          k0_pay13 (F := Ideal) (k0_pay8 (iblk m c 0 t) (iblk m c 1 t) (iblk m c 7 t)) (k0_pay9 (iblk m c 5 t)) (iblk m c 3 t)⟩] y
    = dpB m c t y := by
  refine canon_two (e := .bf16) (dpB m c t) _ _ _ _ y ?_ (fun x => ?_) (fun x => ?_)
  · exact View.cover_of_tiled_head _ _ _ (by rfl) y
  all_goals idx_vars x
  · refine (col1 m c t x0 x1 x2).trans (congrArg (dpB m c t) ?_)
    blk_ext
  · refine (col0 m c t x0 x1 x2).trans (congrArg (dpB m c t) ?_)
    blk_ext

theorem out_A (h : t.val % 4 = 0) :
    (outsAt0 m c t.val t.isLt).1 = k0_pay4 (F := Ideal) (iblk m c 0 t) (iblk m c 1 t)
    ∧ (outsAt0 m c t.val t.isLt).2.1 = k0_pay11 (F := Ideal) (k0_pay8 (iblk m c 0 t) (iblk m c 1 t) (iblk m c 7 t)) (k0_pay9 (iblk m c 5 t))
    ∧ (outsAt0 m c t.val t.isLt).2.2.1 = k0_pay12 (F := Ideal) (k0_pay8 (iblk m c 0 t) (iblk m c 1 t) (iblk m c 7 t)) (iblk m c 6 t)
    ∧ (outsAt0 m c t.val t.isLt).2.2.2.1 = dpB m c t
    ∧ (outsAt0 m c t.val t.isLt).2.2.2.2 = k0_pay6 (F := Ideal) (iblk m c 0 t) (iblk m c 2 t) := by
  rw [outsAt0_A m c t h (by omega)]
  refine ⟨?_, ?_, ?_, funext fun y => ?_, ?_⟩
  all_goals frame_out
  exact columns m c t y

theorem out_B (h : ¬t.val % 4 = 0) :
    (outsAt0 m c t.val t.isLt).1 = k0_pay4 (F := Ideal) (iblk m c 0 t) (iblk m c 1 t)
    ∧ (outsAt0 m c t.val t.isLt).2.1 = k0_pay11 (F := Ideal) (k0_pay8 (iblk m c 0 t) (iblk m c 1 t) (iblk m c 7 t)) (k0_pay9 (iblk m c 5 t))
    ∧ (outsAt0 m c t.val t.isLt).2.2.1 = k0_pay12 (F := Ideal) (k0_pay8 (iblk m c 0 t) (iblk m c 1 t) (iblk m c 7 t)) (iblk m c 6 t)
    ∧ (outsAt0 m c t.val t.isLt).2.2.2.1 = dpB m c t
    ∧ (outsAt0 m c t.val t.isLt).2.2.2.2 = k0_pay7 (F := Ideal) (iblk m c 0 t) (iblk m c 2 t)
        (outsAt0 m c (t.val - 1) (Nat.lt_of_le_of_lt (Nat.sub_le _ _) t.isLt)).2.2.2.2 := by
  rw [outsAt0_B m c t h (by omega)]
  refine ⟨?_, ?_, ?_, funext fun y => ?_, ?_⟩
  all_goals frame_out
  exact columns m c t y

theorem out_each :
    (outsAt0 m c t.val t.isLt).1 = k0_pay4 (F := Ideal) (iblk m c 0 t) (iblk m c 1 t)
    ∧ (outsAt0 m c t.val t.isLt).2.1 = k0_pay11 (F := Ideal) (k0_pay8 (iblk m c 0 t) (iblk m c 1 t) (iblk m c 7 t)) (k0_pay9 (iblk m c 5 t))
    ∧ (outsAt0 m c t.val t.isLt).2.2.1 = k0_pay12 (F := Ideal) (k0_pay8 (iblk m c 0 t) (iblk m c 1 t) (iblk m c 7 t)) (iblk m c 6 t)
    ∧ (outsAt0 m c t.val t.isLt).2.2.2.1 = dpB m c t := by
  by_cases h : t.val % 4 = 0
  · exact ⟨(out_A m c t h).1, (out_A m c t h).2.1, (out_A m c t h).2.2.1, (out_A m c t h).2.2.2.1⟩
  · exact ⟨(out_B m c t h).1, (out_B m c t h).2.1, (out_B m c t h).2.2.1, (out_B m c t h).2.2.2.1⟩

end

/-! ## The result arrays -/

theorem final8 (c : Dev nD) : (dats m 0 c).arrAt 8 cfg0.N = dmix (m (c.tc.loc main_arg4)) (m (c.tc.loc main_arg5)) := by
  refine (dats m 0 c).arrAt_eq_of_covers 8 _ (by decide +kernel) fun t _ y => ?_
  blk_simp
  rw [after0_8]
  rw [(out_each m c t).1]
  idx_vars y
  rw [dmix_at, blk0, blk1]
  rw [show ((View.whole main_v30_0).slice (win0_8.rect t)).emb (ix3 y0 y1 y2)
    = ix3 ⟨t.val / 4, point_lt t⟩ ⟨t.val % 4 * 512 + y1.val, lane_lt t y1⟩ y2 from by blk_ext [idx t]]
  rfl

theorem final9 (c : Dev nD) : (dats m 0 c).arrAt 9 cfg0.N
    = dya (m (c.tc.loc main_arg2)) (m (c.tc.loc main_arg3)) (m (c.tc.loc main_arg4)) (m (c.tc.loc main_arg5)) := by
  refine (dats m 0 c).arrAt_eq_of_covers 9 _ (by decide +kernel) fun t _ y => ?_
  blk_simp
  rw [after0_9]
  rw [(out_each m c t).2.1]
  idx_vars y
  rw [dya_at, dgBlk, gate_at, blk5]
  rw [show ((View.whole main_v30_1).slice (win0_9.rect t)).emb (ix3 y0 y1 y2)
    = ix3 ⟨t.val / 4, point_lt t⟩ ⟨t.val % 4 * 512 + y1.val, lane_lt t y1⟩ y2 from by blk_ext [idx t]]
  rfl

theorem final10 (c : Dev nD) : (dats m 0 c).arrAt 10 cfg0.N
    = dyb (m (c.tc.loc main_arg2)) (m (c.tc.loc main_arg3)) (m (c.tc.loc main_arg4)) (m (c.tc.loc main_arg5)) := by
  refine (dats m 0 c).arrAt_eq_of_covers 10 _ (by decide +kernel) fun t _ y => ?_
  blk_simp
  rw [after0_10]
  rw [(out_each m c t).2.2.1]
  idx_vars y
  rw [dyb_at, dgBlk, gate'_at, blk6]
  rw [show ((View.whole main_v30_2).slice (win0_10.rect t)).emb (ix3 y0 y1 y2)
    = ix3 ⟨t.val / 4, point_lt t⟩ ⟨t.val % 4 * 512 + y1.val, lane_lt t y1⟩ y2 from by blk_ext [idx t]]
  rfl

theorem final11 (c : Dev nD) : (dats m 0 c).arrAt 11 cfg0.N = dp (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 11 _ (by decide +kernel) fun t _ y => ?_
  blk_simp
  rw [after0_11]
  rw [(out_each m c t).2.2.2]
  idx_vars y
  rw [show ((View.whole main_v30_3).slice (win0_11.rect t)).emb (ix3 y0 y1 y2)
    = ix3 ⟨t.val / 4, point_lt t⟩ ⟨t.val % 4 * 512 + y1.val, lane_lt t y1⟩ y2 from by blk_ext [idx t]]
  rfl

theorem final12 (c : Dev nD) : (dats m 0 c).arrAt 12 cfg0.N = dgt (m (c.tc.loc main_arg0)) (m (c.tc.loc main_arg1)) (m (c.tc.loc main_arg2))
    (m (c.tc.loc main_arg3)) (m (c.tc.loc main_arg5)) := by
  refine (dats m 0 c).arrAt_eq_of_covers 12 _ (by decide +kernel) fun t ht y => ?_
  blk_simp
  rw [after0_12]
  have hf : t.val % 4 = 3 := (flush0_12 t).mp ht
  rw [batch_sum N_0 (fun n h => (outsAt0 m c n h).2.2.2.2)
    (fun b s j => gtPart (m (c.tc.loc main_arg0)) (m (c.tc.loc main_arg1)) (m (c.tc.loc main_arg2)) (m (c.tc.loc main_arg3))
      (m (c.tc.loc main_arg5)) b s (j 2))
    (fun t h j => ?_) (fun t h j => ?_) t hf y]
  · idx_vars y
    rw [show ((View.whole main_v30_4).slice (win0_12.rect t)).emb (ix3 y0 y1 y2) = ix3 ⟨t.val / 4, point_lt t⟩ 0 y2 from by
      blk_ext [idx t]]
    rfl
  · idx_vars j
    refine (congrFun (out_A m c t h).2.2.2.2 _).trans ?_
    rw [dgt_at]
    simp only [blk0, blk2]
    rfl
  · idx_vars j
    refine (congrFun (out_B m c t h).2.2.2.2 _).trans ?_
    rw [dgt_step]
    simp only [blk0, blk2]
    rfl

end Cert.MergeValue

end
-- ==== Proof.MergeReference.lean ====
/-
The gradient of the merge of the two branches over whole arrays: what the reference leaves.
-/
module

public import proofs.«01_k».proof.Proof.MergeValue
public import proofs.«01_k».proof.Proof.Rows
public import proofs.«01_k».proof.Proof.Gen.ReferenceMergeIdeal.Run

@[expose] public section

set_option maxRecDepth 16384

noncomputable section

namespace Cert.MergeReference

open Cert.MergeValue Cert.ReferenceMergeIdeal Cert.ReferenceMergeIdeal.Facts₀ Idealize.ShloMosaic Idealize.ShloMosaic.TcCoe Idealize.SL.Sem

section Arrays
variable (YA YB : FVec Ideal S4x2048x1024 .f32) (P : FVec Ideal S4x2048x2048 .f32) (W : FVec Ideal S1x1024x1024 .f32)
  (G : FVec Ideal S4x1024 .f32) (X : FVec Ideal S4x2048x1024 .f32) (b : Fin 4) (s : Fin 2048) (k : Fin 1024)

/-- One at every entry. -/
def oneA : FVec Ideal S4x2048x1024 .f32 := broadcastInDim S4x2048x1024 ![] bcast_S_S4x2048x1024 (constant (F := Ideal) S_ .f32 0x3F800000#32)

/-- A logistic gate. -/
def gateA (off : Fin 3 → Nat) (h : S4x2048x2048.Slices off S4x2048x1024) : FVec Ideal S4x2048x1024 .f32 :=
  Host.divf oneA (addf oneA (Host.exp (Host.negf (extractStridedSlice S4x2048x1024 off P h))))

/-- The cotangents of the projection's value. -/
def dmA : FVec Ideal S4x2048x1024 .f32 := mulf (broadcastInDim S4x2048x1024 ![0, 1, 2] bcast_S4x1x1024_S4x2048x1024_0_1_2
  (broadcastInDim S4x1x1024 ![0, 2] bcast_S4x1024_S4x1x1024_0_2 G)) X

/-- The cotangents of what is projected. -/
def dgA : FVec Ideal S4x2048x1024 .f32 := Host.dotGeneral dot_S4x2048x1024_S1024x1024_S4x2048x1024_2_1_01_0_n_n none (dmA G X)
  (shapeCast S1024x1024 W shapeCasts_S1x1024x1024_S1024x1024)

/-- The projection's value. -/
def mixA : FVec Ideal S4x2048x1024 .f32 := Host.dotGeneral dot_S4x2048x1024_S1024x1024_S4x2048x1024_2_0_01_1_n_n none
  (addf (mulf (gateA P ![0, 0, 0] slices_S4x2048x2048_S4x2048x1024_0_0_0) YA) (mulf (gateA P ![0, 0, 1024] slices_S4x2048x2048_S4x2048x1024_0_0_1024) YB))
  (shapeCast S1024x1024 W shapeCasts_S1x1024x1024_S1024x1024)

/-- A gate's gradient: the cotangents times the branch times the logistic function's derivative. -/
def gateGrad (Y S : FVec Ideal S4x2048x1024 .f32) : FVec Ideal S4x2048x1024 .f32 := mulf (mulf (dgA W G X) Y) (mulf S (subf oneA S))

theorem one_at : oneA (ix3 b s k) = 1 := by
  unfold oneA
  pointwise

theorem gate0_at : gateA P ![0, 0, 0] slices_S4x2048x2048_S4x2048x1024_0_0_0 (ix3 b s k) = MergeValue.gateA P b s k := by
  unfold gateA oneA MergeValue.gateA Ideal.logistic
  pointwise

theorem gate1_at : gateA P ![0, 0, 1024] slices_S4x2048x2048_S4x2048x1024_0_0_1024 (ix3 b s k) = gateB P b s k := by
  unfold gateA oneA gateB Ideal.logistic
  pointwise

theorem dmA_at : dmA G X (ix3 b s k) = dm G X b s k := by
  unfold dmA dm
  pointwise

theorem dgA_at : dgA W G X (ix3 b s k) = dg W G X b s k := by
  have h := fun e => dmA_at G X b s e
  unfold dgA dg
  revert h
  generalize dmA G X = D
  intro h
  pointwise
  simp only [h]

theorem mixA_at : mixA YA YB P W (ix3 b s k) = mix YA YB P W b s k := by
  have ha := fun e => gate0_at P b s e
  have hb := fun e => gate1_at P b s e
  unfold mixA mix
  revert ha hb
  generalize gateA P ![0, 0, 0] _ = A
  generalize gateA P ![0, 0, 1024] _ = B
  intro ha hb
  pointwise
  simp only [ha, hb]

theorem gateGrad_at (Y S : FVec Ideal S4x2048x1024 .f32) (x : EReal) (hS : S (ix3 b s k) = x) :
    gateGrad W G X Y S (ix3 b s k) = dg W G X b s k * Y (ix3 b s k) * x * (1 - x) := by
  refine Eq.trans ?_ (mul_assoc _ _ _).symm
  exact congrArg₂ (· * ·) (congrArg (· * _) (dgA_at W G X b s k)) (congrArg₂ (· * ·) hS (congrArg₂ (· - ·) (one_at b s k) hS))

end Arrays

section Columns
variable (A B : FVec Ideal S4x2048x1024 .f32) (b : Fin 4) (s : Fin 2048) (k : Fin 2048)

theorem columns_at : (truncf .bf16 (concatenate S4x2048x2048 2 [⟨S4x2048x1024, A⟩, ⟨S4x2048x1024, B⟩]
      concatenates_S4x2048x1024_S4x2048x1024_S4x2048x2048_d2 : FVec Ideal S4x2048x2048 .f32) bitsLt_bf16_f32
      : FVec Ideal S4x2048x2048 .bf16) (ix3 b s k)
    = if h : k.val < 1024 then A (ix3 b s ⟨k.val, h⟩) else B (ix3 b s ⟨k.val - 1024, by omega⟩) := by
  pointwise

theorem sums_at (X Y : FVec Ideal S4x2048x1024 .f32) (z : Fin 1) (k : Fin 1024) :
    (broadcastInDim S4x1x1024 ![0, 2] bcast_S4x1024_S4x1x1024_0_2 (Host.reduceAdd (shapeCast S4x1x1024 (Host.reduceAdd (mulf X (addf Y
        (broadcastInDim S4x2048x1024 ![] bcast_S_S4x2048x1024 (constant S_ .f32 0x00000000#32)))) (constant S_ .f32 0x00000000#32)
        reducesTo_S4x2048x1024_S4x1024_d1 h_S_) shapeCasts_S4x1024_S4x1x1024) (constant S_ .f32 0x00000000#32) reducesTo_S4x1x1024_S4x1024_d1 h_S_)
      : FVec Ideal S4x1x1024 .f32) (ix3 b z k) = ∑ s : Fin 2048, X (ix3 b s k) * Y (ix3 b s k) := by
  pointwise
  simp only [Fin.sum_univ_one]

end Columns

variable (m : (ℓ : Loc nD τ sig) → Buf (Elt Ideal) ℓ) (c : Dev nD)

set_option maxHeartbeats 2000000 in
/-- The reference's run with its results as arrays of the arguments. -/
theorem ref_run (ρ : Dev nD → PrngReg) :
    θ_run defs (onTc (τ := τ) (main (F := Ideal))) ⟨m, fun _ => 0, ρ⟩ fun r => ∀ c : Dev nD,
      r.2.mem (c.tc.loc main_v44) = dmix (m (c.tc.loc main_arg4)) (m (c.tc.loc main_arg5))
      ∧ r.2.mem (c.tc.loc main_v45) = dya (m (c.tc.loc main_arg2)) (m (c.tc.loc main_arg3)) (m (c.tc.loc main_arg4)) (m (c.tc.loc main_arg5))
      ∧ r.2.mem (c.tc.loc main_v46) = dyb (m (c.tc.loc main_arg2)) (m (c.tc.loc main_arg3)) (m (c.tc.loc main_arg4)) (m (c.tc.loc main_arg5))
      ∧ r.2.mem (c.tc.loc main_v47) = dp (m (c.tc.loc main_arg0)) (m (c.tc.loc main_arg1)) (m (c.tc.loc main_arg2))
        (m (c.tc.loc main_arg3)) (m (c.tc.loc main_arg4)) (m (c.tc.loc main_arg5))
      ∧ r.2.mem (c.tc.loc main_v48) = dgt (m (c.tc.loc main_arg0)) (m (c.tc.loc main_arg1)) (m (c.tc.loc main_arg2))
        (m (c.tc.loc main_arg3)) (m (c.tc.loc main_arg5))
      ∧ (r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) := by
  refine (θ_run defs _ _).mono (fun r h c => ?_) (Value.run m ρ)
  obtain ⟨e0, e1, e2, e3, e4, er⟩ := h c
  refine ⟨e0.trans ?_, e1.trans ?_, e2.trans ?_, e3.trans ?_, e4.trans ?_, er⟩
  all_goals
    clear e0 e1 e2 e3 e4 er h
    funext j
    idx_vars j
  · exact dmA_at (m (c.tc.loc main_arg4)) (m (c.tc.loc main_arg5)) j0 j1 j2
  · exact (mul_comm _ _).trans (congrArg₂ (· * ·) (dgA_at (m (c.tc.loc main_arg3)) (m (c.tc.loc main_arg4)) (m (c.tc.loc main_arg5)) j0 j1 j2)
      (gate0_at (m (c.tc.loc main_arg2)) j0 j1 j2))
  · exact (mul_comm _ _).trans (congrArg₂ (· * ·) (dgA_at (m (c.tc.loc main_arg3)) (m (c.tc.loc main_arg4)) (m (c.tc.loc main_arg5)) j0 j1 j2)
      (gate1_at (m (c.tc.loc main_arg2)) j0 j1 j2))
  · refine (columns_at (gateGrad (m (c.tc.loc main_arg3)) (m (c.tc.loc main_arg4)) (m (c.tc.loc main_arg5)) (m (c.tc.loc main_arg0))
        (gateA (m (c.tc.loc main_arg2)) ![0, 0, 0] slices_S4x2048x2048_S4x2048x1024_0_0_0))
      (gateGrad (m (c.tc.loc main_arg3)) (m (c.tc.loc main_arg4)) (m (c.tc.loc main_arg5)) (m (c.tc.loc main_arg1))
        (gateA (m (c.tc.loc main_arg2)) ![0, 0, 1024] slices_S4x2048x2048_S4x2048x1024_0_0_1024)) j0 j1 j2).trans ?_
    refine dite_congr rfl (fun h => ?_) fun h => ?_
    · exact gateGrad_at _ _ _ _ _ _ _ _ _ (gate0_at _ _ _ _)
    · exact gateGrad_at _ _ _ _ _ _ _ _ _ (gate1_at _ _ _ _)
  · refine (sums_at j0 (m (c.tc.loc main_arg5)) (mixA (m (c.tc.loc main_arg0)) (m (c.tc.loc main_arg1)) (m (c.tc.loc main_arg2))
      (m (c.tc.loc main_arg3))) j1 j2).trans ?_
    exact Finset.sum_congr rfl fun s _ => congrArg₂ (· * ·) rfl (mixA_at _ _ _ _ j0 s j2)

end Cert.MergeReference

end
-- ==== Proof.MergeClaim.lean ====
/-
The gradient of the merge of the two branches, kernel and differentiation, equal.
-/
module

public import proofs.«01_k».proof.Defs
public import proofs.«01_k».proof.Proof.MergeReference

@[expose] public section

set_option maxRecDepth 16384

noncomputable section

namespace Cert.MergeClaim

open Cert.MergeValue Cert.MergeReference Cert.KernelMergeIdeal Cert.KernelMergeIdeal.Gen Idealize.ShloMosaic Idealize.ShloMosaic.TcCoe
open Idealize.SL.Sem

theorem algebraic : Cert.algebraic_KernelMergeIdeal_ReferenceMergeIdeal := by
  intro m g m' g' hpre hargs
  refine ⟨_, _, _, _, _, Value.run_blocks m g, ?_⟩
  refine (θ_run Cert.ReferenceMergeIdeal.defs _ _).mono (fun r h c => ?_) (ref_run m' g')
  obtain ⟨h0, h1, h2, h3, h4, h5⟩ := hargs c
  obtain ⟨e0, e1, e2, e3, e4, hr⟩ := h c
  refine ⟨e0.trans ?_, e1.trans ?_, e2.trans ?_, e3.trans ?_, e4.trans ?_, hr⟩
  · rw [final8, h4, h5]
  · rw [final9, h2, h3, h4, h5]
  · rw [final10, h2, h3, h4, h5]
  · rw [final11, h0, h1, h2, h3, h4, h5]
  · rw [final12, h0, h1, h2, h3, h5]

end Cert.MergeClaim

end
-- ==== Proof.AdaValue.lean ====
/-
The gradients of the modulation's weights (the first shard of their columns) and bias over whole arrays: what the kernel leaves.
-/
module

public import proofs.«01_k».proof.Proof.NormGrad
public import proofs.«01_k».proof.Proof.Gen.KernelAdaIdeal.Value
public import Idealize.ShloMosaic.Lib.Pipeline.ReadBack

@[expose] public section

set_option maxRecDepth 16384

noncomputable section

namespace Cert.AdaValue

open Cert.NormGrad Cert.KernelAdaIdeal Cert.KernelAdaIdeal.Gen Idealize.ShloMosaic Idealize.ShloMosaic.TcCoe Idealize.SL.Sem

section Whole
variable (C : FVec Ideal S32x1024 .f32) (X : FVec Ideal S32x9216 .f32)

/-- A condition after its activation. -/
def act (r : Fin 32) (k : Fin 1024) : EReal := C (ix2 r k) * Ideal.logistic (C (ix2 r k))

/-- The gradient of the weights, in the first quarter of their columns. -/
def gw : FVec Ideal S1024x2304 .f32 := fun j => ∑ r : Fin 32, act C r (j 0) * X (ix2 r ⟨(j 1).val, by have : (j 1).val < 2304 := (j 1).isLt; omega⟩)

/-- The gradient of the bias. -/
def gb : FVec Ideal S1x9216 .f32 := fun j => ∑ r : Fin 32, X (ix2 r (j 1))

end Whole

theorem gw_at (v0 : FVec Ideal S32x1024 .f32) (v4 : FVec Ideal S32x2304 .f32) (k : Fin 1024) (n : Fin 2304) :
    k0_pay1 (F := Ideal) v0 v4 (ix2 k n) = ∑ r : Fin 32, act v0 r k * v4 (ix2 r n) := by
  unfold act
  pointwise [k0_pay1]

theorem gb_at (v9 : FVec Ideal S32x9216 .f32) (z : Fin 1) (n : Fin 9216) :
    k0_pay2 (F := Ideal) v9 (ix2 z n) = ∑ r : Fin 32, v9 (ix2 r n) := by
  pointwise [k0_pay2]

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

section
variable (c : Dev nD) (t : Fin cfg0.N) (r : Fin 32) (k : Fin 1024)

theorem blk0 : iblk m c 0 t (ix2 r k) = (m (c.tc.loc main_arg0) : FVec Ideal S32x1024 .f32) (ix2 r k) := by
  blk_point [iblk, V, idx t]

theorem blk1 (n : Fin 2304) : iblk m c 1 t (ix2 r n) = (m (c.tc.loc main_arg1) : FVec Ideal S32x9216 .f32) (ix2 r ⟨n.val, by omega⟩) := by
  blk_point [iblk, V, idx t]

theorem blk2 (n : Fin 9216) : iblk m c 2 t (ix2 r n) = (m (c.tc.loc main_arg1) : FVec Ideal S32x9216 .f32) (ix2 r n) := by
  blk_point [iblk, V, idx t]

theorem out3 : out0_3 (iblk m c 0 t) (iblk m c 1 t) (iblk m c 2 t) = k0_pay1 (F := Ideal) (iblk m c 0 t) (iblk m c 1 t) := by
  unfold out0_3
  frame_out

theorem out4 : out0_4 (iblk m c 0 t) (iblk m c 1 t) (iblk m c 2 t) = k0_pay2 (F := Ideal) (iblk m c 2 t) := by
  unfold out0_4
  frame_out

end

theorem final3 (c : Dev nD) : (dats m 0 c).arrAt 3 cfg0.N = gw (m (c.tc.loc main_arg0)) (m (c.tc.loc main_arg1)) := by
  refine (dats m 0 c).arrAt_eq_of_covers 3 _ (by decide +kernel) fun t _ y => ?_
  blk_simp
  rw [after0_3, out3]
  idx_vars y
  rw [gw_at]
  unfold act
  simp only [blk0, blk1]
  rw [show ((View.whole main_v1_0).slice (win0_3.rect t)).emb (ix2 y0 y1) = ix2 y0 y1 from by blk_ext [idx t]]
  rfl

theorem final4 (c : Dev nD) : (dats m 0 c).arrAt 4 cfg0.N = gb (m (c.tc.loc main_arg1)) := by
  refine (dats m 0 c).arrAt_eq_of_covers 4 _ (by decide +kernel) fun t _ y => ?_
  blk_simp
  rw [after0_4, out4]
  idx_vars y
  rw [gb_at]
  simp only [blk2]
  rw [show ((View.whole main_v1_1).slice (win0_4.rect t)).emb (ix2 y0 y1) = ix2 y0 y1 from by blk_ext [idx t]]
  rfl

end Cert.AdaValue

end
-- ==== Proof.AdaClaim.lean ====
/-
The gradients of the modulation's weights and bias, kernel and differentiation, equal.
-/
module

public import proofs.«01_k».proof.Defs
public import proofs.«01_k».proof.Proof.AdaValue
public import proofs.«01_k».proof.Proof.Rows
public import proofs.«01_k».proof.Proof.Gen.ReferenceAdaIdeal.Run

@[expose] public section

set_option maxRecDepth 16384

noncomputable section

namespace Cert.AdaReference

open Cert.AdaValue Cert.ReferenceAdaIdeal Cert.ReferenceAdaIdeal.Facts₀ Idealize.ShloMosaic Idealize.ShloMosaic.TcCoe Idealize.SL.Sem

variable (C : FVec Ideal S32x1024 .f32) (X : FVec Ideal S32x9216 .f32)

/-- The conditions after their activation. -/
def condA : FVec Ideal S32x1024 .f32 := mulf C (Host.divf (broadcastInDim S32x1024 ![] bcast_S_S32x1024 (constant S_ .f32 0x3F800000#32))
  (addf (broadcastInDim S32x1024 ![] bcast_S_S32x1024 (constant S_ .f32 0x3F800000#32)) (Host.exp (Host.negf C))))

theorem condA_at (r : Fin 32) (k : Fin 1024) : condA C (ix2 r k) = act C r k := by
  unfold condA act Ideal.logistic
  pointwise

theorem weights_at (A : FVec Ideal S32x1024 .f32) (k : Fin 1024) (n : Fin 2304) :
    (extractStridedSlice S1024x2304 ![0, 0] (transpose S1024x9216 [1, 0] (Host.dotGeneral dot_S32x9216_S32x1024_S9216x1024_0_0_1_1_n_n none
      (shapeCast S32x9216 X shapeCasts_S32x9216_S32x9216) A) transposes_S9216x1024_S1024x9216_1_0) slices_S1024x9216_S1024x2304_0_0
      : FVec Ideal S1024x2304 .f32) (ix2 k n) = ∑ r : Fin 32, X (ix2 r ⟨n.val, by omega⟩) * A (ix2 r k) := by
  pointwise

theorem bias_at (z : Fin 1) (n : Fin 9216) :
    (broadcastInDim S1x9216 ![1] bcast_S9216_S1x9216_1 (Host.reduceAdd (shapeCast S1x9216 (Host.reduceAdd X (constant S_ .f32 0x00000000#32)
      reducesTo_S32x9216_S9216_d0 h_S_) shapeCasts_S9216_S1x9216) (constant S_ .f32 0x00000000#32) reducesTo_S1x9216_S9216_d0 h_S_)
      : FVec Ideal S1x9216 .f32) (ix2 z n) = ∑ r : Fin 32, X (ix2 r n) := by
  pointwise
  simp only [Fin.sum_univ_one]

/-- The reference's run with its results as arrays of the arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v13) = gw (m (c.tc.loc main_arg0)) (m (c.tc.loc main_arg1))
      ∧ r.2.mem (c.tc.loc main_v14) = gb (m (c.tc.loc main_arg1))
      ∧ (r.2.mem (c.tc.loc main_arg0) = m (c.tc.loc main_arg0) ∧ r.2.mem (c.tc.loc main_arg1) = m (c.tc.loc main_arg1)) := by
  refine (θ_run defs _ _).mono (fun r h c => ?_) (Value.run m ρ)
  obtain ⟨e0, e1, er⟩ := h c
  refine ⟨e0.trans ?_, e1.trans ?_, er⟩
  all_goals
    clear e0 e1 er h
    funext j
    idx_vars j
  · refine (weights_at (m (c.tc.loc main_arg1)) (condA (m (c.tc.loc main_arg0))) j0 j1).trans ?_
    exact Finset.sum_congr rfl fun r _ => (mul_comm _ _).trans (congrArg (· * _) (condA_at (m (c.tc.loc main_arg0)) r j0))
  · exact bias_at (m (c.tc.loc main_arg1)) j0 j1

end Cert.AdaReference

namespace Cert.AdaClaim

open Cert.AdaValue Cert.AdaReference Cert.KernelAdaIdeal Cert.KernelAdaIdeal.Gen Idealize.ShloMosaic Idealize.ShloMosaic.TcCoe
open Idealize.SL.Sem

theorem algebraic : Cert.algebraic_KernelAdaIdeal_ReferenceAdaIdeal := by
  intro m g m' g' hpre hargs
  refine ⟨_, _, Value.run_blocks m g, ?_⟩
  refine (θ_run Cert.ReferenceAdaIdeal.defs _ _).mono (fun r h c => ?_) (ref_run m' g')
  obtain ⟨h0, h1⟩ := hargs c
  obtain ⟨e0, e1, hr⟩ := h c
  refine ⟨e0.trans ?_, e1.trans ?_, hr⟩
  · rw [final3, h0, h1]
  · rw [final4, h1]

end Cert.AdaClaim

end
-- ==== Proof.DiscValue.lean ====
/-
The gradient of the scan's discretization over whole arrays: the kernel's rows against the derivative's arrays.
-/
module

public import proofs.«01_k».proof.Proof.NormGrad
public import proofs.«01_k».proof.Proof.Rows
public import proofs.«01_k».proof.Proof.Gen.KernelDiscIdeal.Frame
public import proofs.«01_k».proof.Proof.Gen.ReferenceDiscIdeal.Run
public import Idealize.ShloMosaic.Lib.Pipeline.ReadBack
public import Idealize.ShloMosaic.Lib.Pipeline.Value

@[expose] public section

set_option maxRecDepth 16384

noncomputable section

namespace Cert.DiscValue

open Cert.NormGrad Cert.KernelDiscIdeal Cert.KernelDiscIdeal.Gen Idealize.ShloMosaic Idealize.ShloMosaic.TcCoe Idealize.SL.Sem

/-! ## The derivative's arrays, laid out by group, state and input, against the kernel's rows of states -/

/-- The place of a group's state in a row. -/
def at2 (g : Fin 32) (p : Fin 64) : Fin 2048 := ⟨g.val * 64 + p.val, by omega⟩

/-- The same numbers: one per state. -/
def Same (A : FVec Ideal ReferenceDiscIdeal.S32x64 .f32) (B : FVec Ideal S1x2048 .f32) : Prop := ∀ (g : Fin 32) (p : Fin 64), A (ix2 g p) = B (ix2 0 (at2 g p))

/-- The same numbers: one per state and input. -/
def SameI (A : FVec Ideal ReferenceDiscIdeal.S32x64x16 .f32) (B : FVec Ideal S16x2048 .f32) : Prop :=
  ∀ (g : Fin 32) (p : Fin 64) (h : Fin 16), A (ix3 g p h) = B (ix2 h (at2 g p))

section
variable {A A' : FVec Ideal ReferenceDiscIdeal.S32x64 .f32} {B B' : FVec Ideal S1x2048 .f32}
  {I I' : FVec Ideal ReferenceDiscIdeal.S32x64x16 .f32} {J J' : FVec Ideal S16x2048 .f32}

theorem Same.mul (h : Same A B) (h' : Same A' B') : Same (mulf A A') (mulf B B') := fun g p => congrArg₂ (· * ·) (h g p) (h' g p)

theorem Same.add (h : Same A B) (h' : Same A' B') : Same (addf A A') (addf B B') := fun g p => congrArg₂ (· + ·) (h g p) (h' g p)

theorem Same.sub (h : Same A B) (h' : Same A' B') : Same (subf A A') (subf B B') := fun g p => congrArg₂ (· - ·) (h g p) (h' g p)

theorem Same.div (h : Same A B) (h' : Same A' B') : Same (Host.divf A A') (divf B B') := fun g p => congrArg₂ Ideal.div (h g p) (h' g p)

theorem Same.exp (h : Same A B) : Same (Host.exp A) (exp B) := fun g p => congrArg Ideal.exp (h g p)

theorem Same.cos (h : Same A B) : Same (Host.cos A) (cos B) := fun g p => congrArg Ideal.cos (h g p)

theorem Same.sin (h : Same A B) : Same (Host.sin A) (sin B) := fun g p => congrArg Ideal.sin (h g p)

theorem Same.neg (h : Same A B) : Same (Host.negf A) (subf (broadcast S1x2048 (Scalar.ofBits .f32 0x00000000#32 : Ideal .f32)) B) := by
  intro g p
  pointwise
  rw [zero_sub]
  exact congrArg (- ·) (h g p)

theorem SameI.mul (h : SameI I J) (h' : SameI I' J') : SameI (mulf I I') (mulf J J') := fun g p i => congrArg₂ (· * ·) (h g p i) (h' g p i)

theorem SameI.add (h : SameI I J) (h' : SameI I' J') : SameI (addf I I') (addf J J') := fun g p i => congrArg₂ (· + ·) (h g p i) (h' g p i)

theorem SameI.neg (h : SameI I J) : SameI (Host.negf I) (subf (broadcast S16x2048 (Scalar.ofBits .f32 0x00000000#32 : Ideal .f32)) J) := by
  intro g p i
  pointwise
  rw [zero_sub]
  exact congrArg (- ·) (h g p i)

theorem Same.cast (h : Same A B) : Same A (shapeCast S1x2048 B shapeCasts_S1x2048_S1x2048) := by
  intro g p
  pointwise
  exact h g p

theorem SameI.cast (h : SameI I J) : SameI I (shapeCast S16x2048 J shapeCasts_S16x2048_S16x2048) := by
  intro g p i
  pointwise
  exact h g p i

theorem Same.one : Same (broadcastInDim ReferenceDiscIdeal.S32x64 ![] ReferenceDiscIdeal.Facts₀.bcast_S_S32x64 (constant ReferenceDiscIdeal.S_ .f32 0x3F800000#32))
    (broadcast S1x2048 (Scalar.ofBits .f32 0x3F800000#32 : Ideal .f32)) := by
  intro g p
  pointwise

/-- A number per state, for every input. -/
theorem Same.inputs (h : Same A B) : SameI (broadcastInDim ReferenceDiscIdeal.S32x64x16 ![0, 1, 2] ReferenceDiscIdeal.Facts₀.bcast_S32x64x1_S32x64x16_0_1_2
    (broadcastInDim ReferenceDiscIdeal.S32x64x1 ![0, 1] ReferenceDiscIdeal.Facts₀.bcast_S32x64_S32x64x1_0_1 A))
    (broadcastTo S16x2048 B broadcasts_S1x2048_S16x2048) := by
  intro g p i
  pointwise
  exact h g p

/-- Sums over the inputs. -/
theorem SameI.sums (h : SameI I J) (h' : SameI I' J') :
    Same (Host.reduceAdd (addf
        (shapeCast ReferenceDiscIdeal.S32x64x1 (Host.reduceAdd I (constant ReferenceDiscIdeal.S_ .f32 0x00000000#32) ReferenceDiscIdeal.Facts₀.reducesTo_S32x64x16_S32x64_d2 ReferenceDiscIdeal.Facts₀.h_S_)
          ReferenceDiscIdeal.Facts₀.shapeCasts_S32x64_S32x64x1)
        (shapeCast ReferenceDiscIdeal.S32x64x1 (Host.reduceAdd I' (constant ReferenceDiscIdeal.S_ .f32 0x00000000#32) ReferenceDiscIdeal.Facts₀.reducesTo_S32x64x16_S32x64_d2 ReferenceDiscIdeal.Facts₀.h_S_)
          ReferenceDiscIdeal.Facts₀.shapeCasts_S32x64_S32x64x1)) (constant ReferenceDiscIdeal.S_ .f32 0x00000000#32) ReferenceDiscIdeal.Facts₀.reducesTo_S32x64x1_S32x64_d2 ReferenceDiscIdeal.Facts₀.h_S_)
      (addf (shapeCast S1x2048 (multiReduction .add [0] S2048 J 0x00000000#32 reduces_S16x2048_S2048 (.inl rfl) rfl) shapeCasts_S2048_S1x2048)
        (shapeCast S1x2048 (multiReduction .add [0] S2048 J' 0x00000000#32 reduces_S16x2048_S2048 (.inl rfl) rfl) shapeCasts_S2048_S1x2048)) := by
  intro g p
  pointwise
  simp only [Fin.sum_univ_one]
  exact congrArg₂ (· + ·) (Finset.sum_congr rfl fun i _ => h g p i) (Finset.sum_congr rfl fun i _ => h' g p i)

/-- The kernel's row is the derivative's array read by rows. -/
theorem Same.row (h : Same A B) : shapeCast S1x2048 A ReferenceDiscIdeal.Facts₀.shapeCasts_S32x64_S1x2048 = B := by
  funext j
  idx_vars j
  rw [Subsingleton.elim j0 0]
  refine Eq.trans (b := A (ix2 ⟨j1.val / 64, by omega⟩ ⟨j1.val % 64, by omega⟩)) (by pointwise) ((h _ _).trans (congrArg (fun k => B (ix2 0 k)) ?_))
  exact Fin.ext (by show j1.val / 64 * 64 + j1.val % 64 = j1.val; omega)

theorem SameI.rows (h : SameI I J) : shapeCast S16x2048 (transpose ReferenceDiscIdeal.S16x32x64 [2, 0, 1] I
    ReferenceDiscIdeal.Facts₀.transposes_S32x64x16_S16x32x64_2_0_1) ReferenceDiscIdeal.Facts₀.shapeCasts_S16x32x64_S16x2048 = J := by
  funext j
  idx_vars j
  refine Eq.trans (b := I (ix3 ⟨j1.val / 64, by omega⟩ ⟨j1.val % 64, by omega⟩ j0)) (by pointwise) ((h _ _ _).trans (congrArg (fun k => J (ix2 j0 k)) ?_))
  exact Fin.ext (by show j1.val / 64 * 64 + j1.val % 64 = j1.val; omega)

end

/-! ## What the kernel leaves -/

/-- The kernel's nine operands hold the reference's nine arguments. -/
structure Operands (m : (ℓ : Loc ReferenceDiscIdeal.nD ReferenceDiscIdeal.τ ReferenceDiscIdeal.sig) → Buf (Elt Ideal) ℓ) (c : Dev ReferenceDiscIdeal.nD)
    (x0 x1 x2 : FVec Ideal S1x2048 .f32) (x3 x4 : FVec Ideal S16x2048 .f32) (x5 x6 : FVec Ideal S1x2048 .f32) (x7 x8 : FVec Ideal S16x2048 .f32) : Prop where
  h0 : Same (shapeCast _ (m (c.tc.loc ReferenceDiscIdeal.main_arg0)) ReferenceDiscIdeal.Facts₀.shapeCasts_S1x32x64_S32x64) x0
  h1 : Same (shapeCast _ (m (c.tc.loc ReferenceDiscIdeal.main_arg1)) ReferenceDiscIdeal.Facts₀.shapeCasts_S1x32x64_S32x64) x1
  h2 : Same (broadcastInDim ReferenceDiscIdeal.S32x64 ![0, 1] ReferenceDiscIdeal.Facts₀.bcast_S32x1_S32x64_0_1
    (broadcastInDim ReferenceDiscIdeal.S32x1 ![0] ReferenceDiscIdeal.Facts₀.bcast_S32_S32x1_0
      (shapeCast _ (m (c.tc.loc ReferenceDiscIdeal.main_arg2)) ReferenceDiscIdeal.Facts₀.shapeCasts_S1x32_S32))) x2
  h3 : SameI (shapeCast _ (m (c.tc.loc ReferenceDiscIdeal.main_arg3)) ReferenceDiscIdeal.Facts₀.shapeCasts_S1x32x64x16_S32x64x16) x3
  h4 : SameI (shapeCast _ (m (c.tc.loc ReferenceDiscIdeal.main_arg4)) ReferenceDiscIdeal.Facts₀.shapeCasts_S1x32x64x16_S32x64x16) x4
  h5 : Same (shapeCast _ (m (c.tc.loc ReferenceDiscIdeal.main_arg5)) ReferenceDiscIdeal.Facts₀.shapeCasts_S1x2048_S32x64) x5
  h6 : Same (shapeCast _ (m (c.tc.loc ReferenceDiscIdeal.main_arg6)) ReferenceDiscIdeal.Facts₀.shapeCasts_S1x2048_S32x64) x6
  h7 : SameI (transpose ReferenceDiscIdeal.S32x64x16 [1, 2, 0]
    (shapeCast _ (m (c.tc.loc ReferenceDiscIdeal.main_arg7)) ReferenceDiscIdeal.Facts₀.shapeCasts_S16x2048_S16x32x64)
    ReferenceDiscIdeal.Facts₀.transposes_S16x32x64_S32x64x16_1_2_0) x7
  h8 : SameI (transpose ReferenceDiscIdeal.S32x64x16 [1, 2, 0]
    (shapeCast _ (m (c.tc.loc ReferenceDiscIdeal.main_arg8)) ReferenceDiscIdeal.Facts₀.shapeCasts_S16x2048_S16x32x64)
    ReferenceDiscIdeal.Facts₀.transposes_S16x32x64_S32x64x16_1_2_0) x8

section
variable {m : (ℓ : Loc ReferenceDiscIdeal.nD ReferenceDiscIdeal.τ ReferenceDiscIdeal.sig) → Buf (Elt Ideal) ℓ} {c : Dev ReferenceDiscIdeal.nD}
  {x0 x1 x2 x5 x6 : FVec Ideal S1x2048 .f32} {x3 x4 x7 x8 : FVec Ideal S16x2048 .f32}

set_option maxHeartbeats 4000000 in
/-- Every result of the reference is the block that the kernel stores: operation by operation the same. -/
theorem results (o : Operands m c x0 x1 x2 x3 x4 x5 x6 x7 x8) :
    ReferenceDiscIdeal.Value.res_main_v133 m c = out0_9 (F := Ideal) x0 x1 x2 x3 x4 x5 x6 x7 x8
    ∧ ReferenceDiscIdeal.Value.res_main_v134 m c = out0_10 (F := Ideal) x0 x1 x2 x3 x4 x5 x6 x7 x8
    ∧ ReferenceDiscIdeal.Value.res_main_v135 m c = out0_11 (F := Ideal) x0 x1 x2 x3 x4 x5 x6 x7 x8
    ∧ ReferenceDiscIdeal.Value.res_main_v137 m c = out0_12 (F := Ideal) x0 x1 x2 x3 x4 x5 x6 x7 x8
    ∧ ReferenceDiscIdeal.Value.res_main_v139 m c = out0_13 (F := Ideal) x0 x1 x2 x3 x4 x5 x6 x7 x8 := by
  obtain ⟨h0, h1, h2, h3, h4, h5, h6, h7, h8⟩ := o
  refine ⟨?_, ?_, ?_, ?_, ?_⟩
  all_goals
    symm
    first
      | unfold out0_9
      | unfold out0_10
      | unfold out0_11
      | unfold out0_12
      | unfold out0_13
    simp only [k0_pay62, k0_pay61, k0_pay60, k0_pay59, k0_pay58, k0_pay57, k0_pay56, k0_pay55, k0_pay54, k0_pay53, k0_pay52, k0_pay51, k0_pay50, k0_pay49,
      k0_pay48, k0_pay47, k0_pay46, k0_pay45, k0_pay44]
    frame_out
    simp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27, k0_pay28,
      k0_pay29, k0_pay30, k0_pay31, k0_pay32, k0_pay33, k0_pay34, k0_pay35, k0_pay36, k0_pay37, k0_pay38, k0_pay39, k0_pay40, k0_pay41, k0_pay42,
      k0_pay43]
    symm
    first
      | unfold ReferenceDiscIdeal.Value.res_main_v133
      | unfold ReferenceDiscIdeal.Value.res_main_v134
      | unfold ReferenceDiscIdeal.Value.res_main_v135
      | unfold ReferenceDiscIdeal.Value.res_main_v137
      | unfold ReferenceDiscIdeal.Value.res_main_v139
    first
      | refine Same.row ?_
      | refine SameI.rows ?_
    repeat' with_reducible first
      | assumption
      | apply Same.add
      | apply Same.mul
      | apply Same.neg
      | apply Same.sub
      | apply Same.div
      | apply Same.exp
      | apply Same.cos
      | apply Same.sin
      | apply Same.one
      | apply Same.cast
      | apply SameI.sums
      | apply SameI.mul
      | apply SameI.add
      | apply SameI.neg
      | apply SameI.cast
      | apply Same.inputs

end

end Cert.DiscValue

end
-- ==== Proof.DiscClaim.lean ====
/-
The gradient of the scan's discretization, kernel and differentiation, equal.
-/
module

public import proofs.«01_k».proof.Defs
public import proofs.«01_k».proof.Proof.DiscValue

@[expose] public section

set_option maxRecDepth 16384

noncomputable section

namespace Cert.DiscClaim

open Cert.DiscValue Cert.KernelDiscIdeal Cert.KernelDiscIdeal.Gen Idealize.ShloMosaic Idealize.ShloMosaic.TcCoe Idealize.SL.Sem

section
variable (m : (ℓ : Loc nD τ sig) → Buf (Elt Ideal) ℓ) (ρ : Dev nD → PrngReg)

/-- The kernel's run: every result array as the pipeline leaves it, the arguments as they were. -/
theorem kernel_run : θ_run defs (onTc (τ := τ) (main (F := Ideal))) ⟨m, fun _ => 0, ρ⟩ fun r => ∀ c : Dev nD,
    r.2.mem (c.tc.loc main_v11_0) = (dats m 0 c).arrAt 9 cfg0.N
    ∧ r.2.mem (c.tc.loc main_v11_1) = (dats m 0 c).arrAt 10 cfg0.N
    ∧ r.2.mem (c.tc.loc main_v11_2) = (dats m 0 c).arrAt 11 cfg0.N
    ∧ r.2.mem (c.tc.loc main_v11_3) = (dats m 0 c).arrAt 12 cfg0.N
    ∧ r.2.mem (c.tc.loc main_v11_4) = (dats m 0 c).arrAt 13 cfg0.N
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8) :=
  (θ_run defs _ _).mono (fun r h c => ⟨(h c).1 9, (h c).1 10, (h c).1 11, (h c).1 12, (h c).1 13,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c)))⟩) (run_main m ρ)

end

section
variable {m : (ℓ : Loc nD τ sig) → Buf (Elt Ideal) ℓ} {c : Dev nD} (t : Fin cfg0.N)

theorem same_of {A : FVec Ideal S1x32x64 .f32} {B : FVec Ideal S1x2048 .f32} (h : B = shapeCast S1x2048 A shapeCasts_S1x32x64_S1x2048) :
    Same (shapeCast ReferenceDiscIdeal.S32x64 A ReferenceDiscIdeal.Facts₀.shapeCasts_S1x32x64_S32x64) B := by
  subst h
  intro g p
  pointwise
  exact congrArg₂ (fun a b => A (ix3 0 a b)) (Fin.ext (by show g.val = (g.val * 64 + p.val) / 64; omega))
    (Fin.ext (by show p.val = (g.val * 64 + p.val) % 64; omega))

theorem sameI_of {A : FVec Ideal S1x32x64x16 .f32} {B : FVec Ideal S16x2048 .f32}
    (h : B = shapeCast S16x2048 (transpose S16x32x64 [2, 0, 1] (shapeCast S32x64x16 A shapeCasts_S1x32x64x16_S32x64x16)
      transposes_S32x64x16_S16x32x64_2_0_1) shapeCasts_S16x32x64_S16x2048) :
    SameI (shapeCast ReferenceDiscIdeal.S32x64x16 A ReferenceDiscIdeal.Facts₀.shapeCasts_S1x32x64x16_S32x64x16) B := by
  subst h
  intro g p i
  pointwise
  exact congrArg₂ (fun a b => A (ix4 0 a b i)) (Fin.ext (by show g.val = (g.val * 64 + p.val) / 64; omega))
    (Fin.ext (by show p.val = (g.val * 64 + p.val) % 64; omega))

theorem same_step {A : FVec Ideal S1x32 .f32} {B : FVec Ideal S1x2048 .f32}
    (h : B = shapeCast S1x2048 (broadcastInDim S32x64 ![0, 1] bcast_S32x1_S32x64_0_1 (shapeCast S32x1 A shapeCasts_S1x32_S32x1))
      shapeCasts_S32x64_S1x2048) :
    Same (broadcastInDim ReferenceDiscIdeal.S32x64 ![0, 1] ReferenceDiscIdeal.Facts₀.bcast_S32x1_S32x64_0_1
      (broadcastInDim ReferenceDiscIdeal.S32x1 ![0] ReferenceDiscIdeal.Facts₀.bcast_S32_S32x1_0
        (shapeCast ReferenceDiscIdeal.S32 A ReferenceDiscIdeal.Facts₀.shapeCasts_S1x32_S32))) B := by
  subst h
  intro g p
  pointwise
  exact congrArg (fun a => A (ix2 0 a)) (Fin.ext (by show g.val = (g.val * 64 + p.val) / 64; omega))

theorem same_flat (A : FVec Ideal S1x2048 .f32) :
    Same (shapeCast ReferenceDiscIdeal.S32x64 A ReferenceDiscIdeal.Facts₀.shapeCasts_S1x2048_S32x64) A := by
  intro g p
  pointwise
  rfl

theorem sameI_flat (A : FVec Ideal S16x2048 .f32) :
    SameI (transpose ReferenceDiscIdeal.S32x64x16 [1, 2, 0]
      (shapeCast ReferenceDiscIdeal.S16x32x64 A ReferenceDiscIdeal.Facts₀.shapeCasts_S16x2048_S16x32x64)
      ReferenceDiscIdeal.Facts₀.transposes_S16x32x64_S32x64x16_1_2_0) A := by
  intro g p i
  pointwise
  rfl

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

theorem block0 : (iblk m c 0 t : FVec Ideal _ .f32) = V m c main_v0 := by
  funext j
  idx_vars j
  blk_point [iblk, idx t]

theorem block1 : (iblk m c 1 t : FVec Ideal _ .f32) = V m c main_v1 := by
  funext j
  idx_vars j
  blk_point [iblk, idx t]

theorem block2 : (iblk m c 2 t : FVec Ideal _ .f32) = V m c main_v4 := by
  funext j
  idx_vars j
  blk_point [iblk, idx t]

theorem block3 : (iblk m c 3 t : FVec Ideal _ .f32) = V m c main_v7 := by
  funext j
  idx_vars j
  blk_point [iblk, idx t]

theorem block4 : (iblk m c 4 t : FVec Ideal _ .f32) = V m c main_v10 := by
  funext j
  idx_vars j
  blk_point [iblk, idx t]

theorem block5 : (iblk m c 5 t : FVec Ideal _ .f32) = V m c main_arg5 := by
  funext j
  idx_vars j
  blk_point [iblk, V, idx t]

theorem block6 : (iblk m c 6 t : FVec Ideal _ .f32) = V m c main_arg6 := by
  funext j
  idx_vars j
  blk_point [iblk, V, idx t]

theorem block7 : (iblk m c 7 t : FVec Ideal _ .f32) = V m c main_arg7 := by
  funext j
  idx_vars j
  blk_point [iblk, V, idx t]

theorem block8 : (iblk m c 8 t : FVec Ideal _ .f32) = V m c main_arg8 := by
  funext j
  idx_vars j
  blk_point [iblk, V, idx t]

theorem final9 {f : FVec Ideal S1x2048 .f32} (hf : ∀ t, f = out0_9 (F := Ideal) (iblk m c 0 t) (iblk m c 1 t) (iblk m c 2 t) (iblk m c 3 t) (iblk m c 4 t) (iblk m c 5 t) (iblk m c 6 t) (iblk m c 7 t) (iblk m c 8 t)) :
    (dats m 0 c).arrAt 9 cfg0.N = f := by
  refine (dats m 0 c).arrAt_eq_of_covers 9 _ (by decide +kernel) fun t _ y => ?_
  blk_simp
  rw [after0_9, ← hf t]
  idx_vars y
  rw [show ((View.whole main_v11_0).slice (win0_9.rect t)).emb (ix2 y0 y1) = ix2 y0 y1 from by blk_ext [idx t]]

theorem final10 {f : FVec Ideal S1x2048 .f32} (hf : ∀ t, f = out0_10 (F := Ideal) (iblk m c 0 t) (iblk m c 1 t) (iblk m c 2 t) (iblk m c 3 t) (iblk m c 4 t) (iblk m c 5 t) (iblk m c 6 t) (iblk m c 7 t) (iblk m c 8 t)) :
    (dats m 0 c).arrAt 10 cfg0.N = f := by
  refine (dats m 0 c).arrAt_eq_of_covers 10 _ (by decide +kernel) fun t _ y => ?_
  blk_simp
  rw [after0_10, ← hf t]
  idx_vars y
  rw [show ((View.whole main_v11_1).slice (win0_10.rect t)).emb (ix2 y0 y1) = ix2 y0 y1 from by blk_ext [idx t]]

theorem final11 {f : FVec Ideal S1x2048 .f32} (hf : ∀ t, f = out0_11 (F := Ideal) (iblk m c 0 t) (iblk m c 1 t) (iblk m c 2 t) (iblk m c 3 t) (iblk m c 4 t) (iblk m c 5 t) (iblk m c 6 t) (iblk m c 7 t) (iblk m c 8 t)) :
    (dats m 0 c).arrAt 11 cfg0.N = f := by
  refine (dats m 0 c).arrAt_eq_of_covers 11 _ (by decide +kernel) fun t _ y => ?_
  blk_simp
  rw [after0_11, ← hf t]
  idx_vars y
  rw [show ((View.whole main_v11_2).slice (win0_11.rect t)).emb (ix2 y0 y1) = ix2 y0 y1 from by blk_ext [idx t]]

theorem final12 {f : FVec Ideal S16x2048 .f32} (hf : ∀ t, f = out0_12 (F := Ideal) (iblk m c 0 t) (iblk m c 1 t) (iblk m c 2 t) (iblk m c 3 t) (iblk m c 4 t) (iblk m c 5 t) (iblk m c 6 t) (iblk m c 7 t) (iblk m c 8 t)) :
    (dats m 0 c).arrAt 12 cfg0.N = f := by
  refine (dats m 0 c).arrAt_eq_of_covers 12 _ (by decide +kernel) fun t _ y => ?_
  blk_simp
  rw [after0_12, ← hf t]
  idx_vars y
  rw [show ((View.whole main_v11_3).slice (win0_12.rect t)).emb (ix2 y0 y1) = ix2 y0 y1 from by blk_ext [idx t]]

theorem final13 {f : FVec Ideal S16x2048 .f32} (hf : ∀ t, f = out0_13 (F := Ideal) (iblk m c 0 t) (iblk m c 1 t) (iblk m c 2 t) (iblk m c 3 t) (iblk m c 4 t) (iblk m c 5 t) (iblk m c 6 t) (iblk m c 7 t) (iblk m c 8 t)) :
    (dats m 0 c).arrAt 13 cfg0.N = f := by
  refine (dats m 0 c).arrAt_eq_of_covers 13 _ (by decide +kernel) fun t _ y => ?_
  blk_simp
  rw [after0_13, ← hf t]
  idx_vars y
  rw [show ((View.whole main_v11_4).slice (win0_13.rect t)).emb (ix2 y0 y1) = ix2 y0 y1 from by blk_ext [idx t]]

end

theorem algebraic : Cert.algebraic_KernelDiscIdeal_ReferenceDiscIdeal := by
  intro m g m' g' hpre hargs
  refine ⟨_, _, _, _, _, kernel_run m g, ?_⟩
  refine (θ_run Cert.ReferenceDiscIdeal.defs _ _).mono (fun r h c => ?_) (ReferenceDiscIdeal.Value.run m' g')
  obtain ⟨h0, h1, h2, h3, h4, h5, h6, h7, h8⟩ := hargs c
  have o : ∀ t : Fin cfg0.N, Operands m' c (iblk m c 0 t) (iblk m c 1 t) (iblk m c 2 t) (iblk m c 3 t) (iblk m c 4 t)
      (iblk m c 5 t) (iblk m c 6 t) (iblk m c 7 t) (iblk m c 8 t) := fun t => {
    h0 := by rw [h0]; exact same_of ((block0 t).trans (by unfold V; rfl))
    h1 := by rw [h1]; exact same_of ((block1 t).trans (by unfold V; rfl))
    h2 := by rw [h2]; exact same_step ((block2 t).trans (by unfold V; rfl))
    h3 := by rw [h3]; exact sameI_of ((block3 t).trans (by unfold V; rfl))
    h4 := by rw [h4]; exact sameI_of ((block4 t).trans (by unfold V; rfl))
    h5 := by rw [h5, block5 t, V_main_arg5]; exact same_flat _
    h6 := by rw [h6, block6 t, V_main_arg6]; exact same_flat _
    h7 := by rw [h7, block7 t, V_main_arg7]; exact sameI_flat _
    h8 := by rw [h8, block8 t, V_main_arg8]; exact sameI_flat _ }
  obtain ⟨e0, e1, e2, e3, e4, hr⟩ := h c
  exact ⟨e0.trans (final9 fun t => (results (o t)).1).symm, e1.trans (final10 fun t => (results (o t)).2.1).symm,
    e2.trans (final11 fun t => (results (o t)).2.2.1).symm, e3.trans (final12 fun t => (results (o t)).2.2.2.1).symm,
    e4.trans (final13 fun t => (results (o t)).2.2.2.2).symm, hr⟩

end Cert.DiscClaim

end
-- ==== Proof.HidRun.lean ====
/-
The run of the backward kernel of the feed-forward's hidden layer with its four results named. The grid walks batch,
row block and half of the hidden columns; the scaled cotangents and the running sum of the scale's gradient are stored at
the first half and kept at the second, which is where the pipeline writes them back.
-/
module

public import proofs.«01_k».proof.Proof.Gen.KernelHidIdeal.Frame
public import proofs.«01_k».proof.Proof.Gen.KernelHidIdeal.Points
public import proofs.«01_k».proof.Proof.Gen.KernelHidIdeal.Skeleton
public import Idealize.ShloMosaic.Lib.Pipeline.ValueKit
public import Idealize.ShloMosaic.Lib.Pipeline.TableIdle
public import Idealize.ShloMosaic.Lib.Claim

@[expose] public section

set_option maxRecDepth 16384

noncomputable section

namespace Cert.HidRun

open Cert.KernelHidIdeal Cert.KernelHidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Model (F : FTy → Type) [FloatOps F] := MT nD τ sig Unit (Elt F) ℕ (UR sig nD τ) ℕ

/-- The rows of `w2` that a point reads. -/
abbrev part (i : grid0.Coords) (x5 : Vec F S2816x1024 .bf16) : Vec F S1408x1024 .bf16 :=
  View.ld x5 (Rect.unit (s := S2816x1024) (k0_off1 i) S1408x1024.size (k0_off1_inb i))

/-- What a run of the body at coordinates `i` says: from the six inputs, whatever `P6` and `P9` say of the two kept
buffers, and the other two at anything, it ends with the buffers at the named contents. -/
def Runs (c : Dev nD) (i : grid0.Coords)
    (a3 : Memref sig .tc .vmem S1x512x1024 .f32) (h3 : a3.IsWhole) (a4 : Memref sig .tc .vmem S1x1x1024 .f32) (h4 : a4.IsWhole)
    (a5 : Memref sig .tc .vmem S1x512x1024 .bf16) (h5 : a5.IsWhole) (a6 : Memref sig .tc .vmem S1x512x1408 .bf16) (h6 : a6.IsWhole)
    (a7 : Memref sig .tc .vmem S1x512x1408 .bf16) (h7 : a7.IsWhole) (a8 : Memref sig .tc .vmem S2816x1024 .bf16) (h8 : a8.IsWhole)
    (a9 : Memref sig .tc .vmem S1x512x1024 .bf16) (h9 : a9.IsWhole) (a10 : Memref sig .tc .vmem S1x512x1408 .bf16) (h10 : a10.IsWhole)
    (a11 : Memref sig .tc .vmem S1x512x1408 .bf16) (h11 : a11.IsWhole) (a12 : Memref sig .tc .vmem S1x1x1024 .f32) (h12 : a12.IsWhole)
    (P6 P9 : sProp (Model F)) (x0 : Vec F S1x512x1024 .f32) (x1 : Vec F S1x1x1024 .f32) (x2 : Vec F S1x512x1024 .bf16) (x3 : Vec F S1x512x1408 .bf16) (x4 : Vec F S1x512x1408 .bf16) (x5 : Vec F S2816x1024 .bf16)
    (y6 : Vec F S1x512x1024 .bf16) (y9 : Vec F S1x1x1024 .f32) : Prop :=
  ∀ (E : Set ℕ) (K : PUnit → sProp (Model F)),
    iprop(owns (c : Thread nD τ) a3 fullShare x0 ∗ owns (c : Thread nD τ) a4 fullShare x1 ∗ owns (c : Thread nD τ) a5 fullShare x2
          ∗ owns (c : Thread nD τ) a6 fullShare x3 ∗ owns (c : Thread nD τ) a7 fullShare x4 ∗ owns (c : Thread nD τ) a8 fullShare x5
          ∗ P6 ∗ (∃ d, owns (c : Thread nD τ) a10 fullShare d) ∗ (∃ d, owns (c : Thread nD τ) a11 fullShare d) ∗ P9
          ∗ (iprop(owns (c : Thread nD τ) a3 fullShare x0 ∗ owns (c : Thread nD τ) a4 fullShare x1 ∗ owns (c : Thread nD τ) a5 fullShare x2
          ∗ owns (c : Thread nD τ) a6 fullShare x3 ∗ owns (c : Thread nD τ) a7 fullShare x4 ∗ owns (c : Thread nD τ) a8 fullShare x5
              ∗ owns (c : Thread nD τ) a9 fullShare y6 ∗ owns (c : Thread nD τ) a10 fullShare (k0_pay7 y6 (part i x5) x3)
              ∗ owns (c : Thread nD τ) a11 fullShare (k0_pay8 y6 (part i x5) x4) ∗ owns (c : Thread nD τ) a12 fullShare y9) -∗ K ⟨⟩))
      ⊢ wp frame (wpE (defs₀ (F := F)) Variants.none c none) E (cc0_ffn_bwd_hid i a3 h3 a4 h4 a5 h5 a6 h6 a7 h7 a8 h8 a9 h9 a10 h10 a11 h11 a12 h12) K

abbrev whole1024 : Rect S1x512x1024 := Rect.unit (s := S1x512x1024) ![0, 0, 0] S1x512x1024.size inb_S1x512x1024_S1x512x1024_0_0_0
abbrev whole1408 : Rect S1x512x1408 := Rect.unit (s := S1x512x1408) ![0, 0, 0] S1x512x1408.size inb_S1x512x1408_S1x512x1408_0_0_0
abbrev wholeRow : Rect S1x1x1024 := Rect.unit (s := S1x1x1024) ![0, 0, 0] S1x1x1024.size inb_S1x1x1024_S1x1x1024_0_0_0

theorem cover1024 (p : Vec F S1x512x1024 .bf16) (y : S1x512x1024.Idx) :
    ∃ pc ∈ ([⟨whole1024, p⟩] : List (View.Piece (Elt F) S1x512x1024 .bf16)), y ∈ pc.1.set :=
  View.cover_of_tiled [⟨whole1024, p⟩] S1x512x1024.size (by rfl) y

theorem cover1408 (p : Vec F S1x512x1408 .bf16) (y : S1x512x1408.Idx) :
    ∃ pc ∈ ([⟨whole1408, p⟩] : List (View.Piece (Elt F) S1x512x1408 .bf16)), y ∈ pc.1.set :=
  View.cover_of_tiled [⟨whole1408, p⟩] S1x512x1408.size (by rfl) y

theorem coverRow (p : Vec F S1x1x1024 .f32) (y : S1x1x1024.Idx) :
    ∃ pc ∈ ([⟨wholeRow, p⟩] : List (View.Piece (Elt F) S1x1x1024 .f32)), y ∈ pc.1.set :=
  View.cover_of_tiled [⟨wholeRow, p⟩] S1x1x1024.size (by rfl) y

section
variable (c : Dev nD) (i : grid0.Coords)
    (a3 : Memref sig .tc .vmem S1x512x1024 .f32) (h3 : a3.IsWhole) (a4 : Memref sig .tc .vmem S1x1x1024 .f32) (h4 : a4.IsWhole)
    (a5 : Memref sig .tc .vmem S1x512x1024 .bf16) (h5 : a5.IsWhole) (a6 : Memref sig .tc .vmem S1x512x1408 .bf16) (h6 : a6.IsWhole)
    (a7 : Memref sig .tc .vmem S1x512x1408 .bf16) (h7 : a7.IsWhole) (a8 : Memref sig .tc .vmem S2816x1024 .bf16) (h8 : a8.IsWhole)
    (a9 : Memref sig .tc .vmem S1x512x1024 .bf16) (h9 : a9.IsWhole) (a10 : Memref sig .tc .vmem S1x512x1408 .bf16) (h10 : a10.IsWhole)
    (a11 : Memref sig .tc .vmem S1x512x1408 .bf16) (h11 : a11.IsWhole) (a12 : Memref sig .tc .vmem S1x1x1024 .f32) (h12 : a12.IsWhole)
    (x0 : Vec F S1x512x1024 .f32) (x1 : Vec F S1x1x1024 .f32) (x2 : Vec F S1x512x1024 .bf16) (x3 : Vec F S1x512x1408 .bf16) (x4 : Vec F S1x512x1408 .bf16) (x5 : Vec F S2816x1024 .bf16)

set_option maxHeartbeats 1000000 in
/-- At the first row block of a batch the scale's gradient begins. -/
theorem run_first (c1 : k0_cond1 i = 1#1) (c2 : k0_cond2 i = 1#1) (c3 : ¬k0_cond3 i = 1#1) :
    Runs c i a3 h3 a4 h4 a5 h5 a6 h6 a7 h7 a8 h8 a9 h9 a10 h10 a11 h11 a12 h12
      iprop(∃ d, owns (c : Thread nD τ) a9 fullShare d)
      iprop(∃ d, owns (c : Thread nD τ) a12 fullShare d)
      x0 x1 x2 x3 x4 x5 (k0_pay2 x0 x1) (k0_pay4 x0 x2) := by
  intro E K
  simp only [cc0_ffn_bwd_hid_eq_skeleton]; unfold cc0_ffn_bwd_hid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec (disch := first | sl_exact c1 | sl_exact c2 | sl_exact c3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact (View.read_writes_eq_canon _ _ _ (cover1024 _)).trans (by frame_open; simp (disch := decide) only [View.canon_cons_unit_lit', View.ld_unit_lit', View.readCov_unit_lit', View.readCov_cons_unit_lit', View.readAt_eq_ld])
  isplitl [H7]
  · iexists _; isplitr
    swap; · iexact H7
    ipureintro
    exact (View.read_writes_eq_canon _ _ _ (cover1408 _)).trans (by frame_open; simp (disch := decide) only [View.canon_cons_unit_lit', View.ld_unit_lit', View.readCov_unit_lit', View.readCov_cons_unit_lit', View.readAt_eq_ld])
  isplitl [H8]
  · iexists _; isplitr
    swap; · iexact H8
    ipureintro
    exact (View.read_writes_eq_canon _ _ _ (cover1408 _)).trans (by frame_open; simp (disch := decide) only [View.canon_cons_unit_lit', View.ld_unit_lit', View.readCov_unit_lit', View.readCov_cons_unit_lit', View.readAt_eq_ld])
  iexists _; isplitr
  swap; · iexact H9
  ipureintro
  exact (View.read_writes_eq_canon _ _ _ (coverRow _)).trans (by frame_open; simp (disch := decide) only [View.canon_cons_unit_lit', View.ld_unit_lit', View.readCov_unit_lit', View.readCov_cons_unit_lit', View.readAt_eq_ld])

set_option maxHeartbeats 1000000 in
/-- At a later row block it is added to what the buffer holds. -/
theorem run_add (x9 : Vec F S1x1x1024 .f32) (c1 : k0_cond1 i = 1#1) (c2 : ¬k0_cond2 i = 1#1) (c3 : k0_cond3 i = 1#1) :
    Runs c i a3 h3 a4 h4 a5 h5 a6 h6 a7 h7 a8 h8 a9 h9 a10 h10 a11 h11 a12 h12
      iprop(∃ d, owns (c : Thread nD τ) a9 fullShare d)
      (owns (c : Thread nD τ) a12 fullShare x9)
      x0 x1 x2 x3 x4 x5 (k0_pay2 x0 x1) (k0_pay5 x0 x2 x9) := by
  intro E K
  simp only [cc0_ffn_bwd_hid_eq_skeleton]; unfold cc0_ffn_bwd_hid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  subst hf0 hf1 hf2 hf3 hf4 hf5 hf9
  sl_exec (disch := first | sl_exact c1 | sl_exact c2 | sl_exact c3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact (View.read_writes_eq_canon _ _ _ (cover1024 _)).trans (by frame_open; simp (disch := decide) only [View.canon_cons_unit_lit', View.ld_unit_lit', View.readCov_unit_lit', View.readCov_cons_unit_lit', View.readAt_eq_ld])
  isplitl [H7]
  · iexists _; isplitr
    swap; · iexact H7
    ipureintro
    exact (View.read_writes_eq_canon _ _ _ (cover1408 _)).trans (by frame_open; simp (disch := decide) only [View.canon_cons_unit_lit', View.ld_unit_lit', View.readCov_unit_lit', View.readCov_cons_unit_lit', View.readAt_eq_ld])
  isplitl [H8]
  · iexists _; isplitr
    swap; · iexact H8
    ipureintro
    exact (View.read_writes_eq_canon _ _ _ (cover1408 _)).trans (by frame_open; simp (disch := decide) only [View.canon_cons_unit_lit', View.ld_unit_lit', View.readCov_unit_lit', View.readCov_cons_unit_lit', View.readAt_eq_ld])
  iexists _; isplitr
  swap; · iexact H9
  ipureintro
  exact (View.read_writes_eq_canon _ _ _ (coverRow _)).trans (by frame_open; simp (disch := decide) only [View.canon_cons_unit_lit', View.ld_unit_lit', View.readCov_unit_lit', View.readCov_cons_unit_lit', View.readAt_eq_ld])

set_option maxHeartbeats 1000000 in
/-- At the second half of the columns both buffers are kept. -/
theorem run_keep (x6 : Vec F S1x512x1024 .bf16) (x9 : Vec F S1x1x1024 .f32) (c1 : ¬k0_cond1 i = 1#1) :
    Runs c i a3 h3 a4 h4 a5 h5 a6 h6 a7 h7 a8 h8 a9 h9 a10 h10 a11 h11 a12 h12
      (owns (c : Thread nD τ) a9 fullShare x6)
      (owns (c : Thread nD τ) a12 fullShare x9)
      x0 x1 x2 x3 x4 x5 x6 x9 := by
  intro E K
  simp only [cc0_ffn_bwd_hid_eq_skeleton]; unfold cc0_ffn_bwd_hid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf0 hf1 hf2 hf3 hf4 hf5 hf6 hf9
  sl_exec (disch := first | sl_exact c1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact (View.read_writes_eq_canon _ _ _ (cover1408 _)).trans (by frame_open; simp (disch := decide) only [View.canon_cons_unit_lit', View.ld_unit_lit', View.readCov_unit_lit', View.readCov_cons_unit_lit', View.readAt_eq_ld])
  isplitl [H8]
  · iexists _; isplitr
    swap; · iexact H8
    ipureintro
    exact (View.read_writes_eq_canon _ _ _ (cover1408 _)).trans (by frame_open; simp (disch := decide) only [View.canon_cons_unit_lit', View.ld_unit_lit', View.readCov_unit_lit', View.readCov_cons_unit_lit', View.readAt_eq_ld])
  iexists f9; isplitr; · ipureintro; rfl
  iexact H9

end

section
variable (m : (ℓ : Loc nD τ sig) → Buf (Elt F) ℓ) (ρ : Dev nD → PrngReg) (c : Dev nD) (t : Fin cfg0.N)

theorem N_eq : cfg0.N = 32 := N_0

theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)
theorem cond2_iff : ∀ t : Fin cfg0.N, k0_cond2 (grid0.coords t) = 1#1 ↔ t.val / 2 % 4 = 0 :=
  (by decide +kernel : ∀ t : Fin grid0.N, k0_cond2 (grid0.coords t) = 1#1 ↔ t.val / 2 % 4 = 0)
theorem cond3_iff : ∀ t : Fin cfg0.N, k0_cond3 (grid0.coords t) = 1#1 ↔ 1 ≤ t.val / 2 % 4 :=
  (by decide +kernel : ∀ t : Fin grid0.N, k0_cond3 (grid0.coords t) = 1#1 ↔ 1 ≤ t.val / 2 % 4)

/-- The first half's point of the `k`-th pair of batch and row block. -/
def pt (k : ℕ) : Fin cfg0.N := ⟨2 * (k % 16), by rw [N_eq]; omega⟩

theorem pt_half (h : t.val % 2 = 0) : pt (t.val / 2) = t :=
  Fin.ext (by have := lt_of_lt_of_eq t.isLt N_eq; show 2 * (t.val / 2 % 16) = t.val; omega)

/-- The scaled cotangents of a pair. -/
def scaled (k : ℕ) : Vec F S1x512x1024 .bf16 := k0_pay2 (iblk m c 0 (pt k)) (iblk m c 1 (pt k))

/-- The running sum of the scale's gradient. -/
def acc : ℕ → Vec F S1x1x1024 .f32
  | 0 => k0_pay4 (iblk m c 0 (pt 0)) (iblk m c 2 (pt 0))
  | k + 1 => if (k + 1) % 4 = 0 then k0_pay4 (iblk m c 0 (pt (k + 1))) (iblk m c 2 (pt (k + 1)))
      else k0_pay5 (iblk m c 0 (pt (k + 1))) (iblk m c 2 (pt (k + 1))) (acc k)

theorem acc_first {k : ℕ} (h : k % 4 = 0) : acc m c k = k0_pay4 (iblk m c 0 (pt k)) (iblk m c 2 (pt k)) := by
  cases k with
  | zero => rfl
  | succ k => rw [acc, if_pos h]

theorem acc_next {k : ℕ} (h : ¬k % 4 = 0) : acc m c k = k0_pay5 (iblk m c 0 (pt k)) (iblk m c 2 (pt k)) (acc m c (k - 1)) := by
  cases k with
  | zero => exact absurd rfl h
  | succ k => rw [acc, if_neg h]; rfl

/-- What each buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => scaled m c (t.val / 2)
    | ⟨7, _⟩ => k0_pay7 (scaled m c (t.val / 2)) (part (grid0.coords t) (iblk m c 5 t)) (iblk m c 3 t)
    | ⟨8, _⟩ => k0_pay8 (scaled m c (t.val / 2)) (part (grid0.coords t) (iblk m c 5 t)) (iblk m c 4 t)
    | ⟨9, _⟩ => acc m c (t.val / 2)
  Φ _ := Pipeline.ΦA spec0 c
  q _ := fullShare
  owed _ := 0

theorem A_eq (w : Fin cfg0.W) : (dats m 0 c).A w = V m c (Pipeline.arrRef spec0 w) := by dsimp only [dats]

theorem before0 (d) : (dats m 0 c).before 0 t d = iblk m c 0 t :=
  before0_0_of m (dats m 0 c) (A_eq m c 0) (fun t => by dsimp only [dats]) t d
theorem before1 (d) : (dats m 0 c).before 1 t d = iblk m c 1 t :=
  before0_1_of m (dats m 0 c) (A_eq m c 1) (fun t => by dsimp only [dats]) t d
theorem before2 (d) : (dats m 0 c).before 2 t d = iblk m c 2 t :=
  before0_2_of m (dats m 0 c) (A_eq m c 2) (fun t => by dsimp only [dats]) t d
theorem before3 (d) : (dats m 0 c).before 3 t d = iblk m c 3 t :=
  before0_3_of m (dats m 0 c) (A_eq m c 3) (fun t => by dsimp only [dats]) t d
theorem before4 (d) : (dats m 0 c).before 4 t d = iblk m c 4 t :=
  before0_4_of m (dats m 0 c) (A_eq m c 4) (fun t => by dsimp only [dats]) t d
theorem before5 (d) : (dats m 0 c).before 5 t d = iblk m c 5 t :=
  before0_5_of m (dats m 0 c) (A_eq m c 5) (fun t => by dsimp only [dats]) t d

theorem after6 : (dats m 0 c).after 6 t = scaled m c (t.val / 2) := by dsimp only [dats]
theorem after7 : (dats m 0 c).after 7 t = k0_pay7 (scaled m c (t.val / 2)) (part (grid0.coords t) (iblk m c 5 t)) (iblk m c 3 t) := by
  dsimp only [dats]
theorem after8 : (dats m 0 c).after 8 t = k0_pay8 (scaled m c (t.val / 2)) (part (grid0.coords t) (iblk m c 5 t)) (iblk m c 4 t) := by
  dsimp only [dats]
theorem after9 : (dats m 0 c).after 9 t = acc m c (t.val / 2) := by dsimp only [dats]

theorem idle6 : ∀ t : Fin cfg0.N, cfg0.idle 6 (grid0.coords t) = decide (t.val % 2 = 1) :=
  (by decide +kernel : ∀ t : Fin cfg0.N, cfg0.idle 6 (grid0.coords t) = decide (t.val % 2 = 1))
theorem idle9 : ∀ t : Fin cfg0.N, cfg0.idle 9 (grid0.coords t) = decide (t.val % 2 = 1) :=
  (by decide +kernel : ∀ t : Fin cfg0.N, cfg0.idle 9 (grid0.coords t) = decide (t.val % 2 = 1))

theorem fresh6 : ∀ n, n ≤ cfg0.N → cfg0.fresh 6 n = decide (n % 2 = 0) :=
  cfg0.fresh_tab 6 (fun n => decide (n % 2 = 0)) rfl (by decide +kernel)
theorem fresh9 : ∀ n, n ≤ cfg0.N → cfg0.fresh 9 n = decide (n % 8 = 0) :=
  cfg0.fresh_tab 9 (fun n => decide (n % 8 = 0)) rfl (by decide +kernel)

theorem half_pred (h : t.val % 2 = 1) : (t.val - 1) / 2 = t.val / 2 := by omega

theorem before6 (h : t.val % 2 = 1) (d) : (dats m 0 c).before 6 t d = scaled m c (t.val / 2) := by
  rw [Dat.before_out_traj _ 6 rfl (fun _ _ => rfl) (fun t _ hi _ => by
      have ho : t.val % 2 = 1 := of_decide_eq_true ((idle6 t).symm.trans hi)
      rw [after6, after6]; exact congrArg (scaled m c) (half_pred t ho).symm) t.val t rfl d,
    fresh6 _ (Nat.le_of_lt t.isLt), if_neg (by rw [decide_eq_true_eq]; omega), after6]
  exact congrArg (scaled m c) (half_pred t h)

theorem before9 (h : ¬t.val % 8 = 0) (d) : (dats m 0 c).before 9 t d = acc m c ((t.val - 1) / 2) := by
  rw [Dat.before_out_traj _ 9 rfl (fun _ _ => rfl) (fun t _ hi _ => by
      have ho : t.val % 2 = 1 := of_decide_eq_true ((idle9 t).symm.trans hi)
      rw [after9, after9]; exact congrArg (acc m c) (half_pred t ho).symm) t.val t rfl d,
    fresh9 _ (Nat.le_of_lt t.isLt), if_neg (by rw [decide_eq_true_eq]; exact h), after9]

/-- The current buffer of window `w`. -/
abbrev ms (w : Fin cfg0.W) := (cfg0.win w).stage (cfg0.slots t w)

theorem leaves6 : (dats m 0 c).leavesExact 6 t = owns (c : Thread nD τ) (ms t 6) fullShare (scaled m c (t.val / 2)) := by
  rw [← after6]
  unfold Dat.leavesExact
  rw [show cfg0.idle 6 (cfg0.grid.coords t) = _ from idle6 t]
  rcases Nat.mod_two_eq_zero_or_one t.val with h | h
  · rw [decide_eq_false (by omega)]
  · rw [decide_eq_true h, (flush0_6 t).mpr h]

theorem leaves9 : owns (c : Thread nD τ) (ms t 9) fullShare (acc m c (t.val / 2)) ⊢ (dats m 0 c).leavesExact 9 t := by
  unfold Dat.leavesExact
  rw [show cfg0.idle 9 (cfg0.grid.coords t) = _ from idle9 t]
  rcases Nat.mod_two_eq_zero_or_one t.val with h | h
  · rw [decide_eq_false (by omega), after9]
  · rw [decide_eq_true h]
    cases hf : (cfg0.win 9).flush t
    · simp only [before9 m c t (by omega), half_pred t h]
      iintro H
      iexists (acc m c (t.val / 2))
      iexact H
    · rw [after9]

def bodyPre : sProp (Model F) :=
  iprop((dats m 0 c).Φ t.castSucc ∗ (dats m 0 c).owesAt () t.castSucc
    ∗ (∃ d, owns (c : Thread nD τ) (ms t 0) fullShare ((dats m 0 c).before 0 t d))
    ∗ (∃ d, owns (c : Thread nD τ) (ms t 1) fullShare ((dats m 0 c).before 1 t d))
    ∗ (∃ d, owns (c : Thread nD τ) (ms t 2) fullShare ((dats m 0 c).before 2 t d))
    ∗ (∃ d, owns (c : Thread nD τ) (ms t 3) fullShare ((dats m 0 c).before 3 t d))
    ∗ (∃ d, owns (c : Thread nD τ) (ms t 4) fullShare ((dats m 0 c).before 4 t d))
    ∗ (∃ d, owns (c : Thread nD τ) (ms t 5) fullShare ((dats m 0 c).before 5 t d))
    ∗ (∃ d, owns (c : Thread nD τ) (ms t 6) fullShare ((dats m 0 c).before 6 t d))
    ∗ (∃ d, owns (c : Thread nD τ) (ms t 7) fullShare ((dats m 0 c).before 7 t d))
    ∗ (∃ d, owns (c : Thread nD τ) (ms t 8) fullShare ((dats m 0 c).before 8 t d))
    ∗ (∃ d, owns (c : Thread nD τ) (ms t 9) fullShare ((dats m 0 c).before 9 t d)))

def bodyPost : sProp (Model F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The body at a point, from a run that takes the two kept buffers as they are found. -/
theorem body_of {P6 P9 : sProp (Model F)}
    (h : Runs c (grid0.coords t) (ms t 0) (hstage0_0 ((cfg0.slots t 0).cast nbuf0_0)) (ms t 1) (hstage0_1 ((cfg0.slots t 1).cast nbuf0_1)) (ms t 2) (hstage0_2 ((cfg0.slots t 2).cast nbuf0_2)) (ms t 3) (hstage0_3 ((cfg0.slots t 3).cast nbuf0_3)) (ms t 4) (hstage0_4 ((cfg0.slots t 4).cast nbuf0_4)) (ms t 5) (hstage0_5 ((cfg0.slots t 5).cast nbuf0_5)) (ms t 6) (hstage0_6 ((cfg0.slots t 6).cast nbuf0_6)) (ms t 7) (hstage0_7 ((cfg0.slots t 7).cast nbuf0_7)) (ms t 8) (hstage0_8 ((cfg0.slots t 8).cast nbuf0_8)) (ms t 9) (hstage0_9 ((cfg0.slots t 9).cast nbuf0_9))
      P6 P9 (iblk m c 0 t) (iblk m c 1 t) (iblk m c 2 t) (iblk m c 3 t) (iblk m c 4 t) (iblk m c 5 t)
      (scaled m c (t.val / 2)) (acc m c (t.val / 2)))
    (h6 : iprop(∃ d, owns (c : Thread nD τ) (ms t 6) fullShare ((dats m 0 c).before 6 t d)) ⊢ P6)
    (h9 : iprop(∃ d, owns (c : Thread nD τ) (ms t 9) fullShare ((dats m 0 c).before 9 t d)) ⊢ P9) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl, leaves6]
  rw [show (dats m 0 c).leavesExact 0 t = owns (c : Thread nD τ) (ms t 0) fullShare ((dats m 0 c).after 0 t) from rfl]
  rw [show (dats m 0 c).leavesExact 1 t = owns (c : Thread nD τ) (ms t 1) fullShare ((dats m 0 c).after 1 t) from rfl]
  rw [show (dats m 0 c).leavesExact 2 t = owns (c : Thread nD τ) (ms t 2) fullShare ((dats m 0 c).after 2 t) from rfl]
  rw [show (dats m 0 c).leavesExact 3 t = owns (c : Thread nD τ) (ms t 3) fullShare ((dats m 0 c).after 3 t) from rfl]
  rw [show (dats m 0 c).leavesExact 4 t = owns (c : Thread nD τ) (ms t 4) fullShare ((dats m 0 c).after 4 t) from rfl]
  rw [show (dats m 0 c).leavesExact 5 t = owns (c : Thread nD τ) (ms t 5) fullShare ((dats m 0 c).after 5 t) from rfl]
  rw [show (dats m 0 c).leavesExact 7 t = owns (c : Thread nD τ) (ms t 7) fullShare ((dats m 0 c).after 7 t) from rfl]
  rw [show (dats m 0 c).leavesExact 8 t = owns (c : Thread nD τ) (ms t 8) fullShare ((dats m 0 c).after 8 t) from rfl]
  iintro ⟨HΦ, Ho, ⟨%d0, H0⟩, ⟨%d1, H1⟩, ⟨%d2, H2⟩, ⟨%d3, H3⟩, ⟨%d4, H4⟩, ⟨%d5, H5⟩, H6, ⟨%d7, H7⟩, ⟨%d8, H8⟩, H9⟩
  iapply (h Set.univ _)
  isplitl [H0]; · iexact H0
  isplitl [H1]; · iexact H1
  isplitl [H2]; · iexact H2
  isplitl [H3]; · iexact H3
  isplitl [H4]; · iexact H4
  isplitl [H5]; · iexact H5
  isplitl [H6]; · iapply h6; iexact H6
  isplitl [H7]; · iexists _; iexact H7
  isplitl [H8]; · iexists _; iexact H8
  isplitl [H9]; · iapply h9; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves9 m c t); iexact H9

theorem sound_body :
    bodyPre m c t ⊢ wp frame (wpE (defs₀ (F := F)) Variants.none c none) Set.univ (bodyAt0 t) (fun _ => bodyPost m c t) := by
  by_cases h0 : t.val % 2 = 0
  · have hs : scaled m c (t.val / 2) = k0_pay2 (iblk m c 0 t) (iblk m c 1 t) := by rw [scaled, pt_half t h0]
    by_cases h1 : t.val / 2 % 4 = 0
    · have ha : acc m c (t.val / 2) = k0_pay4 (iblk m c 0 t) (iblk m c 2 t) := by rw [acc_first m c h1, pt_half t h0]
      refine body_of m c t (hs ▸ ha ▸ run_first c (grid0.coords t) _ _ _ _ _ _ _ _ _ _ _ _ _ _ _ _ _ _ _ _ _ _ _ _ _ _
        ((cond1_iff t).mpr h0) ((cond2_iff t).mpr h1) (fun h => by have := (cond3_iff t).mp h; omega)) ?_ ?_
      · iintro ⟨%d, H⟩; iexists _; iexact H
      · iintro ⟨%d, H⟩; iexists _; iexact H
    · have ha : acc m c (t.val / 2) = k0_pay5 (iblk m c 0 t) (iblk m c 2 t) (acc m c (t.val / 2 - 1)) := by
        rw [acc_next m c h1, pt_half t h0]
      have hp : (t.val - 1) / 2 = t.val / 2 - 1 := by omega
      refine body_of m c t (hs ▸ ha ▸ run_add c (grid0.coords t) _ _ _ _ _ _ _ _ _ _ _ _ _ _ _ _ _ _ _ _ _ _ _ _ _ _ _
        ((cond1_iff t).mpr h0) (fun h => h1 ((cond2_iff t).mp h)) ((cond3_iff t).mpr (by omega))) ?_ ?_
      · iintro ⟨%d, H⟩; iexists _; iexact H
      · simp only [before9 m c t (by omega), hp]
        iintro ⟨%d, H⟩; iexact H
  · refine body_of m c t (run_keep c (grid0.coords t) _ _ _ _ _ _ _ _ _ _ _ _ _ _ _ _ _ _ _ _ _ _ _ _ _ _ _ _ (fun h => h0 ((cond1_iff t).mp h))) ?_ ?_
    · simp only [before6 m c t (by omega)]
      iintro ⟨%d, H⟩; iexact H
    · simp only [before9 m c t (by omega), half_pred t (by omega)]
      iintro ⟨%d, H⟩; iexact H

theorem defs₀_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

/-- The results are what the pipeline writes back. -/
theorem run : θ_run defs (onTc (τ := τ) (main (F := F))) ⟨m, fun _ => 0, ρ⟩ fun r => ∀ c : Dev nD,
      r.2.mem ((c : Thread nD τ).loc main_v30_0) = (dats m 0 c).arrAt 6 cfg0.N
      ∧ r.2.mem ((c : Thread nD τ).loc main_v30_1) = (dats m 0 c).arrAt 7 cfg0.N
      ∧ r.2.mem ((c : Thread nD τ).loc main_v30_2) = (dats m 0 c).arrAt 8 cfg0.N
      ∧ r.2.mem ((c : Thread nD τ).loc main_v30_3) = (dats m 0 c).arrAt 9 cfg0.N :=
  (θ_run defs _ _).mono (fun r h c => ⟨(h c).1 6, (h c).1 7, (h c).1 8, (h c).1 9⟩) (run_main m ρ)

end

end Cert.HidRun

end
-- ==== Proof.HidValue.lean ====
/-
The gradient of the feed-forward's hidden layer, as the kernel leaves it.
-/
module

public import proofs.«01_k».proof.Proof.HidRun
public import proofs.«01_k».proof.Proof.NormGrad
public import Idealize.ShloMosaic.Lib.Pipeline.ReadBack

@[expose] public section

set_option maxRecDepth 16384

noncomputable section

namespace Cert.HidValue

open Cert.NormGrad (batch_sum)
open Cert.HidRun Cert.KernelHidIdeal Cert.KernelHidIdeal.Gen Idealize.ShloMosaic Idealize.ShloMosaic.TcCoe Idealize.SL.Sem

abbrev half : EReal := (Scalar.ofBits .f32 0x3F000000#32 : Ideal .f32)

/-- The derivative of the gate, times the factor. -/
def slopeOf (a b : EReal) : EReal := b * (Ideal.logistic a * (1 + a * (1 - Ideal.logistic a)))

def act (a : EReal) : EReal := a * Ideal.logistic a

section Arrays
variable (H X : FVec Ideal S4x2048x1024 .f32) (W W1 W3 : FVec Ideal S1x1024x2816 .f32) (W2 : FVec Ideal S1x2816x1024 .f32) (G : FVec Ideal S4x1024 .f32)

/-- An entry of a product with a weight. -/
def up (b : Fin 4) (s : Fin 2048) (n : Fin 2816) : EReal := ∑ e : Fin 1024, H (ix3 b s e) * W (ix3 0 e n)

/-- An entry of the layer's value. -/
def value (b : Fin 4) (s : Fin 2048) (k : Fin 1024) : EReal := ∑ n : Fin 2816, act (up H W1 b s n) * up H W3 b s n * W2 (ix3 0 n k)

/-- The scaled cotangents. -/
def df (b : Fin 4) (s : Fin 2048) (k : Fin 1024) : EReal := half * G (ix2 b k) * X (ix3 b s k)

/-- The hidden layer's cotangents. -/
def dhid (b : Fin 4) (s : Fin 2048) (n : Fin 2816) : EReal := ∑ e : Fin 1024, df X G b s e * W2 (ix3 0 n e)

def dfA : FVec Ideal S4x2048x1024 .bf16 := fun j => df X G (j 0) (j 1) (j 2)

def daA : FVec Ideal S4x2048x2816 .bf16 := fun j =>
  dhid X W2 G (j 0) (j 1) (j 2) * slopeOf (up H W1 (j 0) (j 1) (j 2)) (up H W3 (j 0) (j 1) (j 2))

def dbA : FVec Ideal S4x2048x2816 .bf16 := fun j => dhid X W2 G (j 0) (j 1) (j 2) * act (up H W1 (j 0) (j 1) (j 2))

/-- The gradient of the scale. -/
def dgA : FVec Ideal S4x1x1024 .f32 := fun j => ∑ s : Fin 2048, half * X (ix3 (j 0) s (j 2)) * value H W1 W3 W2 (j 0) s (j 2)

/-! ## What the host computes before the call -/

def upK : FVec Ideal S4x2048x2816 .f32 := Host.dotGeneral dot_S4x2048x1024_S1024x2816_S4x2048x2816_2_0_01_1_n_n none
  (truncf .bf16 H bitsLt_bf16_f32) (truncf .bf16 (shapeCast S1024x2816 W shapeCasts_S1x1024x2816_S1024x2816) bitsLt_bf16_f32)

def oneK : FVec Ideal S4x2048x2816 .f32 := broadcastInDim S4x2048x2816 ![] bcast_S_S4x2048x2816 (constant S_ .f32 0x3F800000#32)

def gateK : FVec Ideal S4x2048x2816 .f32 := Host.divf oneK (addf oneK (Host.exp (Host.negf (upK H W1))))

def slopeK : FVec Ideal S4x2048x2816 .bf16 := truncf .bf16 (mulf (upK H W3) (mulf (gateK H W1) (addf oneK (mulf (upK H W1)
  (subf oneK (gateK H W1)))))) bitsLt_bf16_f32

def actK : FVec Ideal S4x2048x2816 .f32 := mulf (upK H W1) (gateK H W1)

def w2K : FVec Ideal S2816x1024 .bf16 := truncf .bf16 (shapeCast S2816x1024 W2 shapeCasts_S1x2816x1024_S2816x1024) bitsLt_bf16_f32

def valueK : FVec Ideal S4x2048x1024 .bf16 := truncf .bf16 (Host.dotGeneral dot_S4x2048x2816_S2816x1024_S4x2048x1024_2_0_01_1_n_n none
  (truncf .bf16 (mulf (actK H W1) (upK H W3)) bitsLt_bf16_f32) (w2K W2)) bitsLt_bf16_f32

variable (b : Fin 4) (s : Fin 2048)

theorem upK_at (n : Fin 2816) : upK H W (ix3 b s n) = up H W b s n := by
  unfold up
  pointwise [upK]

theorem gateK_at (n : Fin 2816) : gateK H W1 (ix3 b s n) = Ideal.logistic (up H W1 b s n) := by
  rw [← upK_at]
  unfold Ideal.logistic gateK
  generalize upK H W1 = X
  pointwise [oneK]

theorem slopeK_at (n : Fin 2816) : slopeK H W1 W3 (ix3 b s n) = slopeOf (up H W1 b s n) (up H W3 b s n) := by
  unfold slopeOf slopeK
  rw [← gateK_at, ← upK_at, ← upK_at]
  generalize gateK H W1 = G
  generalize upK H W1 = X
  generalize upK H W3 = Y
  pointwise [oneK]

theorem actK_at (n : Fin 2816) : actK H W1 (ix3 b s n) = act (up H W1 b s n) := by
  unfold act actK
  rw [← gateK_at, ← upK_at]
  generalize gateK H W1 = G
  generalize upK H W1 = X
  pointwise

theorem w2K_at (n : Fin 2816) (k : Fin 1024) : w2K W2 (ix2 n k) = W2 (ix3 0 n k) := by
  pointwise [w2K]

theorem valueK_at (k : Fin 1024) : valueK H W1 W3 W2 (ix3 b s k) = value H W1 W3 W2 b s k := by
  unfold value valueK
  simp only [← actK_at, ← upK_at _ W3, ← w2K_at]
  generalize actK H W1 = A
  generalize upK H W3 = Y
  generalize w2K W2 = Z
  pointwise

theorem row_at (G : FVec Ideal S4x1024 .f32) (b : Fin 4) (z : Fin 1) (k : Fin 1024) :
    (broadcastInDim S4x1x1024 ![0, 2] bcast_S4x1024_S4x1x1024_0_2 G : FVec Ideal S4x1x1024 .f32) (ix3 b z k) = G (ix2 b k) := by
  pointwise

end Arrays

section
variable (v24 : FVec Ideal S1x512x1024 .f32) (v26 v50 : FVec Ideal S1x1x1024 .f32) (v38 v3 : FVec Ideal S1x512x1024 .bf16)
  (v8 : FVec Ideal S1408x1024 .bf16) (v12 : FVec Ideal S1x512x1408 .bf16) (z z' : Fin 1) (p : Fin 512) (k : Fin 1024) (n : Fin 1408)

theorem scaled_at : k0_pay2 (F := Ideal) v24 v26 (ix3 z p k) = half * v26 (ix3 0 0 k) * v24 (ix3 0 p k) := by
  pointwise [k0_pay2, k0_pay1]

theorem first_at : k0_pay4 (F := Ideal) v24 v38 (ix3 z z' k) = ∑ p : Fin 512, half * v24 (ix3 0 p k) * v38 (ix3 0 p k) := by
  pointwise [k0_pay4, k0_pay3, k0_pay1]

theorem step_at : k0_pay5 (F := Ideal) v24 v38 v50 (ix3 z z' k)
    = v50 (ix3 z z' k) + ∑ p : Fin 512, half * v24 (ix3 0 p k) * v38 (ix3 0 p k) := by
  obtain rfl : z = 0 := Subsingleton.elim _ _
  obtain rfl : z' = 0 := Subsingleton.elim _ _
  pointwise [k0_pay5, k0_pay3, k0_pay1]

theorem hid_at : k0_pay6 (F := Ideal) v3 v8 (ix2 p n) = ∑ e : Fin 1024, v3 (ix3 0 p e) * v8 (ix2 n e) := by
  pointwise [k0_pay6]

theorem da_at : k0_pay7 (F := Ideal) v3 v8 v12 (ix3 z p n) = (∑ e : Fin 1024, v3 (ix3 0 p e) * v8 (ix2 n e)) * v12 (ix3 0 p n) := by
  rw [← hid_at]
  unfold k0_pay7
  generalize k0_pay6 (F := Ideal) v3 v8 = D
  pointwise

theorem db_at : k0_pay8 (F := Ideal) v3 v8 v12 (ix3 z p n) = (∑ e : Fin 1024, v3 (ix3 0 p e) * v8 (ix2 n e)) * v12 (ix3 0 p n) := da_at v3 v8 v12 z p n

end

theorem idx : ∀ t : Fin cfg0.N, win0_0.index t = ![t.val / 8, t.val / 2 % 4, 0] ∧ win0_1.index t = ![t.val / 8, 0, 0] ∧ win0_2.index t = ![t.val / 8, t.val / 2 % 4, 0] ∧
    win0_3.index t = ![t.val / 8, t.val / 2 % 4, t.val % 2] ∧ win0_4.index t = ![t.val / 8, t.val / 2 % 4, t.val % 2] ∧ win0_5.index t = ![0, 0]
    ∧ win0_6.index t = ![t.val / 8, t.val / 2 % 4, 0] ∧ win0_7.index t = ![t.val / 8, t.val / 2 % 4, t.val % 2] ∧ win0_8.index t = ![t.val / 8,
    t.val / 2 % 4, t.val % 2] ∧ win0_9.index t = ![t.val / 8, 0, 0] :=
  (by decide +kernel : ∀ t : Fin grid0.N, _)

theorem offset : ∀ t : Fin cfg0.N, k0_off1 (grid0.coords t) = ![t.val % 2 * 1408, 0] :=
  (by decide +kernel : ∀ t : Fin grid0.N, _)

theorem batch_lt (t : Fin cfg0.N) : t.val / 8 < 4 := by have := lt_of_lt_of_eq t.isLt N_eq; omega

theorem lane_lt (t : Fin cfg0.N) (p : Fin 512) : t.val / 2 % 4 * 512 + p.val < 2048 := by omega

theorem col_lt (t : Fin cfg0.N) (n : Fin 1408) : t.val % 2 * 1408 + n.val < 2816 := by omega

theorem part_at (t : Fin cfg0.N) (x : FVec Ideal S2816x1024 .bf16) (n : Fin 1408) (e : Fin 1024) :
    part (F := Ideal) (grid0.coords t) x (ix2 n e) = x (ix2 ⟨t.val % 2 * 1408 + n.val, col_lt t n⟩ e) := by
  unfold part View.ld
  refine congrArg x ?_
  funext a
  refine Fin.ext ?_
  refine (Rect.idx_unit_val _ _ _ _ a).trans ?_
  have h := congrFun (offset t) a
  fin_cases a
  · exact congrArg (· + n.val) h
  · exact (congrArg (· + e.val) h).trans (Nat.zero_add _)

section
variable (m : (ℓ : Loc nD τ sig) → Buf (Elt Ideal) ℓ) (c : Dev nD) (t : Fin cfg0.N)

theorem blk0 (z : Fin 1) (p : Fin 512) (k : Fin 1024) : iblk m c 0 t (ix3 z p k)
    = (m (c.tc.loc main_arg5) : FVec Ideal S4x2048x1024 .f32) (ix3 ⟨t.val / 8, batch_lt t⟩ ⟨t.val / 2 % 4 * 512 + p.val, lane_lt t p⟩ k) := by
  blk_point [iblk, V, idx t]

theorem blk1 (z z' : Fin 1) (k : Fin 1024) : iblk m c 1 t (ix3 z z' k) = (m (c.tc.loc main_arg4) : FVec Ideal S4x1024 .f32) (ix2 ⟨t.val / 8, batch_lt t⟩ k) := by
  have hv : V m c main_v29 = (broadcastInDim S4x1x1024 ![0, 2] bcast_S4x1024_S4x1x1024_0_2 (m (c.tc.loc main_arg4)) : FVec Ideal S4x1x1024 .f32) := by
    unfold V
    rfl
  refine Eq.trans ?_ ((congrFun hv _).trans (row_at _ ⟨t.val / 8, batch_lt t⟩ 0 k))
  blk_point [iblk, idx t]

theorem blk2 (z : Fin 1) (p : Fin 512) (k : Fin 1024) : iblk m c 2 t (ix3 z p k) = value (m (c.tc.loc main_arg0)) (m (c.tc.loc main_arg1)) (m (c.tc.loc main_arg2)) (m (c.tc.loc main_arg3)) ⟨t.val / 8, batch_lt t⟩ ⟨t.val / 2 % 4 * 512 + p.val, lane_lt t p⟩ k := by
  have hv : V m c main_v28 = (valueK (m (c.tc.loc main_arg0)) (m (c.tc.loc main_arg1)) (m (c.tc.loc main_arg2)) (m (c.tc.loc main_arg3)) : FVec Ideal S4x2048x1024 .bf16) := by
    unfold V
    rfl
  refine Eq.trans ?_ ((congrFun hv _).trans (valueK_at _ _ _ _ ⟨t.val / 8, batch_lt t⟩ ⟨t.val / 2 % 4 * 512 + p.val, lane_lt t p⟩ k))
  blk_point [iblk, idx t]

theorem blk3 (z : Fin 1) (p : Fin 512) (n : Fin 1408) : iblk m c 3 t (ix3 z p n) = slopeOf (up (m (c.tc.loc main_arg0)) (m (c.tc.loc main_arg1)) ⟨t.val / 8, batch_lt t⟩ ⟨t.val / 2 % 4 * 512 + p.val, lane_lt t p⟩ ⟨t.val % 2 * 1408 + n.val, col_lt t n⟩) (up (m (c.tc.loc main_arg0)) (m (c.tc.loc main_arg2)) ⟨t.val / 8, batch_lt t⟩ ⟨t.val / 2 % 4 * 512 + p.val, lane_lt t p⟩ ⟨t.val % 2 * 1408 + n.val, col_lt t n⟩) := by
  have hv : V m c main_v23 = (slopeK (m (c.tc.loc main_arg0)) (m (c.tc.loc main_arg1)) (m (c.tc.loc main_arg2)) : FVec Ideal S4x2048x2816 .bf16) := by
    unfold V
    rfl
  refine Eq.trans ?_ ((congrFun hv _).trans (slopeK_at _ _ _ ⟨t.val / 8, batch_lt t⟩ ⟨t.val / 2 % 4 * 512 + p.val, lane_lt t p⟩ ⟨t.val % 2 * 1408 + n.val, col_lt t n⟩))
  blk_point [iblk, idx t]

theorem blk4 (z : Fin 1) (p : Fin 512) (n : Fin 1408) : iblk m c 4 t (ix3 z p n) = act (up (m (c.tc.loc main_arg0)) (m (c.tc.loc main_arg1)) ⟨t.val / 8, batch_lt t⟩ ⟨t.val / 2 % 4 * 512 + p.val, lane_lt t p⟩ ⟨t.val % 2 * 1408 + n.val, col_lt t n⟩) := by
  have hv : V m c main_v24 = (truncf .bf16 (actK (m (c.tc.loc main_arg0)) (m (c.tc.loc main_arg1))) bitsLt_bf16_f32 : FVec Ideal S4x2048x2816 .bf16) := by
    unfold V
    rfl
  refine Eq.trans ?_ ((congrFun hv _).trans (actK_at _ _ ⟨t.val / 8, batch_lt t⟩ ⟨t.val / 2 % 4 * 512 + p.val, lane_lt t p⟩ ⟨t.val % 2 * 1408 + n.val, col_lt t n⟩))
  blk_point [iblk, idx t]

theorem blk5 (n : Fin 2816) (k : Fin 1024) : iblk m c 5 t (ix2 n k) = (m (c.tc.loc main_arg3) : FVec Ideal S1x2816x1024 .f32) (ix3 0 n k) := by
  have hv : V m c main_v2 = (w2K (m (c.tc.loc main_arg3)) : FVec Ideal S2816x1024 .bf16) := by
    unfold V
    rfl
  refine Eq.trans ?_ ((congrFun hv _).trans (w2K_at _ n k))
  blk_point [iblk, idx t]

/-- The point where a pair of batch and row block begins has that batch and block. -/
theorem pt_batch : (⟨(pt (t.val / 2)).val / 8, batch_lt _⟩ : Fin 4) = ⟨t.val / 8, batch_lt t⟩ :=
  Fin.ext (by have := lt_of_lt_of_eq t.isLt N_eq; show 2 * (t.val / 2 % 16) / 8 = t.val / 8; omega)

theorem pt_lane (p : Fin 512) : (⟨(pt (t.val / 2)).val / 2 % 4 * 512 + p.val, lane_lt _ p⟩ : Fin 2048) = ⟨t.val / 2 % 4 * 512 + p.val, lane_lt t p⟩ :=
  Fin.ext (by have := lt_of_lt_of_eq t.isLt N_eq; show 2 * (t.val / 2 % 16) / 2 % 4 * 512 + p.val = t.val / 2 % 4 * 512 + p.val; omega)

theorem scaledBlk (z : Fin 1) (p : Fin 512) (k : Fin 1024) : scaled m c (t.val / 2) (ix3 z p k) = df (m (c.tc.loc main_arg5)) (m (c.tc.loc main_arg4)) ⟨t.val / 8, batch_lt t⟩ ⟨t.val / 2 % 4 * 512 + p.val, lane_lt t p⟩ k := by
  unfold scaled df
  rw [scaled_at, blk0, blk1, pt_batch, pt_lane]

theorem hidBlk (p : Fin 512) (n : Fin 1408) :
    (∑ e : Fin 1024, (scaled m c (t.val / 2) : FVec Ideal S1x512x1024 .bf16) (ix3 0 p e) * part (F := Ideal) (grid0.coords t) (iblk m c 5 t) (ix2 n e))
      = dhid (m (c.tc.loc main_arg5)) (m (c.tc.loc main_arg3)) (m (c.tc.loc main_arg4)) ⟨t.val / 8, batch_lt t⟩ ⟨t.val / 2 % 4 * 512 + p.val, lane_lt t p⟩ ⟨t.val % 2 * 1408 + n.val, col_lt t n⟩ := by
  unfold dhid
  refine Finset.sum_congr rfl fun e _ => ?_
  rw [scaledBlk, part_at, blk5]

theorem final6 : (dats m 0 c).arrAt 6 cfg0.N = dfA (m (c.tc.loc main_arg5)) (m (c.tc.loc main_arg4)) := by
  refine (dats m 0 c).arrAt_eq_of_covers 6 _ (by decide +kernel) fun t _ y => ?_
  blk_simp
  rw [after6]
  idx_vars y
  rw [scaledBlk]
  rw [show ((View.whole main_v30_0).slice (win0_6.rect t)).emb (ix3 y0 y1 y2)
    = ix3 ⟨t.val / 8, batch_lt t⟩ ⟨t.val / 2 % 4 * 512 + y1.val, lane_lt t y1⟩ y2 from by blk_ext [idx t]]
  rfl

theorem final7 : (dats m 0 c).arrAt 7 cfg0.N = daA (m (c.tc.loc main_arg0)) (m (c.tc.loc main_arg5)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after7]
  idx_vars y
  rw [da_at, hidBlk, blk3]
  rw [show ((View.whole main_v30_1).slice (win0_7.rect t)).emb (ix3 y0 y1 y2)
    = ix3 ⟨t.val / 8, batch_lt t⟩ ⟨t.val / 2 % 4 * 512 + y1.val, lane_lt t y1⟩ ⟨t.val % 2 * 1408 + y2.val, col_lt t y2⟩ from by blk_ext [idx t]]
  rfl

theorem final8 : (dats m 0 c).arrAt 8 cfg0.N = dbA (m (c.tc.loc main_arg0)) (m (c.tc.loc main_arg5)) (m (c.tc.loc main_arg1)) (m (c.tc.loc main_arg3)) (m (c.tc.loc main_arg4)) := by
  refine (dats m 0 c).arrAt_eq_of_covers 8 _ (by decide +kernel) fun t _ y => ?_
  blk_simp
  rw [after8]
  idx_vars y
  rw [db_at, hidBlk, blk4]
  rw [show ((View.whole main_v30_2).slice (win0_8.rect t)).emb (ix3 y0 y1 y2)
    = ix3 ⟨t.val / 8, batch_lt t⟩ ⟨t.val / 2 % 4 * 512 + y1.val, lane_lt t y1⟩ ⟨t.val % 2 * 1408 + y2.val, col_lt t y2⟩ from by blk_ext [idx t]]
  rfl

theorem rowsBlk (q : Fin 16) (k : Fin 1024) : (∑ p : Fin 512, half * (iblk m c 0 (pt q.val) : FVec Ideal S1x512x1024 .f32) (ix3 0 p k)
      * (iblk m c 2 (pt q.val) : FVec Ideal S1x512x1024 .bf16) (ix3 0 p k))
    = ∑ p : Fin 512, half * (m (c.tc.loc main_arg5) : FVec Ideal S4x2048x1024 .f32) (ix3 ⟨q.val / 4, by omega⟩ ⟨q.val % 4 * 512 + p.val, by omega⟩ k)
      * value (m (c.tc.loc main_arg0)) (m (c.tc.loc main_arg1)) (m (c.tc.loc main_arg2)) (m (c.tc.loc main_arg3)) ⟨q.val / 4, by omega⟩ ⟨q.val % 4 * 512 + p.val, by omega⟩ k := by
  refine Finset.sum_congr rfl fun p _ => ?_
  have hb : (⟨(pt q.val).val / 8, batch_lt _⟩ : Fin 4) = ⟨q.val / 4, by omega⟩ := Fin.ext (by show 2 * (q.val % 16) / 8 = q.val / 4; omega)
  have hl : (⟨(pt q.val).val / 2 % 4 * 512 + p.val, lane_lt _ p⟩ : Fin 2048) = ⟨q.val % 4 * 512 + p.val, by omega⟩ :=
    Fin.ext (by show 2 * (q.val % 16) / 2 % 4 * 512 + p.val = q.val % 4 * 512 + p.val; omega)
  rw [blk0, blk2, hb, hl]

theorem final9 : (dats m 0 c).arrAt 9 cfg0.N = dgA (m (c.tc.loc main_arg0)) (m (c.tc.loc main_arg5)) (m (c.tc.loc main_arg1)) (m (c.tc.loc main_arg2)) (m (c.tc.loc main_arg3)) := by
  refine (dats m 0 c).arrAt_eq_of_covers 9 _ (by decide +kernel) fun t ht y => ?_
  blk_simp
  rw [after9]
  have hf : t.val % 8 = 7 := (flush0_9 t).mp ht
  have hN := lt_of_lt_of_eq t.isLt N_eq
  rw [show acc m c (t.val / 2) y = _ from batch_sum (N := 16) rfl (fun k _ => acc m c k)
    (fun b s j => half * (m (c.tc.loc main_arg5) : FVec Ideal S4x2048x1024 .f32) (ix3 b s (j 2)) * value (m (c.tc.loc main_arg0)) (m (c.tc.loc main_arg1)) (m (c.tc.loc main_arg2)) (m (c.tc.loc main_arg3)) b s (j 2))
    (fun q h j => ?_) (fun q h j => ?_) ⟨t.val / 2, by omega⟩ (by show t.val / 2 % 4 = 3; omega) y]
  · idx_vars y
    rw [show ((View.whole main_v30_3).slice (win0_9.rect t)).emb (ix3 y0 y1 y2) = ix3 ⟨t.val / 8, batch_lt t⟩ 0 y2 from by
      blk_ext [idx t]]
    have hb : (⟨t.val / 2 / 4, by omega⟩ : Fin 4) = ⟨t.val / 8, batch_lt t⟩ := Fin.ext (by show t.val / 2 / 4 = t.val / 8; omega)
    rw [hb]
    rfl
  · idx_vars j
    rw [acc_first m c h, first_at, rowsBlk]
  · idx_vars j
    rw [acc_next m c h, step_at, rowsBlk]

end

end Cert.HidValue

end
-- ==== Proof.HidClaim.lean ====
/-
The gradient of the feed-forward's hidden layer: the reference's results, and the two programs equal.
-/
module

public import proofs.«01_k».proof.Defs
public import proofs.«01_k».proof.Proof.HidValue
public import proofs.«01_k».proof.Proof.Reals
public import proofs.«01_k».proof.Proof.Gen.ReferenceHidIdeal.Run
public import proofs.«01_k».proof.Proof.Gen.Pre_finite_hid

@[expose] public section

set_option maxRecDepth 16384

noncomputable section

namespace Cert.HidReference

open Cert.NormGrad (dot_real)
open Cert.HidValue Cert.ReferenceHidIdeal Cert.ReferenceHidIdeal.Facts₀ Idealize.ShloMosaic Idealize.ShloMosaic.TcCoe Idealize.SL.Sem

theorem half_eq : half = ((1 / 2 : ℝ) : EReal) := Cert.Reals.ofBits_half

/-- A positive number outside a sum of any entries moves inside. -/
theorem half_sum {ι : Type} [Fintype ι] (f : ι → EReal) : half * ∑ i, f i = ∑ i, half * f i := by
  classical
  induction (Finset.univ : Finset ι) using Finset.induction_on with
  | empty => simp
  | insert a s ha ih =>
    rw [Finset.sum_insert ha, Finset.sum_insert ha, ← ih]
    refine EReal.left_distrib_of_nonneg_of_ne_top ?_ ?_ _ _
    · rw [half_eq]
      exact EReal.coe_nonneg.mpr (by norm_num)
    · rw [half_eq]
      exact EReal.coe_ne_top _

/-- The gate's derivative, with its two terms apart. -/
theorem slope_eq (a : EReal) (d b : ℝ) : (d : EReal) * b * Ideal.logistic a + a * ((d : EReal) * b) * (Ideal.logistic a * (1 - Ideal.logistic a))
    = d * slopeOf a b := by
  unfold slopeOf
  induction a using EReal.rec with
  | bot => simp
  | top =>
    have h : (1 : EReal) - 1 = 0 := by rw [← EReal.coe_one, ← EReal.coe_sub, sub_self, EReal.coe_zero]
    simp [h]
  | coe a =>
    rw [Ideal.logistic_coe]
    norm_cast
    ring

section
variable (H X : FVec Ideal S4x2048x1024 .f32) (W W1 W3 : FVec Ideal S1x1024x2816 .f32) (W2 : FVec Ideal S1x2816x1024 .f32) (G : FVec Ideal S4x1024 .f32)
  (b : Fin 4) (s : Fin 2048)

def upA : FVec Ideal S4x2048x2816 .f32 := addf (Host.dotGeneral dot_S4x2048x1024_S1024x2816_S4x2048x2816_2_0_01_1_n_n none H
  (shapeCast _ W shapeCasts_S1x1024x2816_S1024x2816)) (broadcastInDim S4x2048x2816 ![] bcast_S_S4x2048x2816 (constant S_ .f32 0x00000000#32))

def oneA : FVec Ideal S4x2048x2816 .f32 := broadcastInDim S4x2048x2816 ![] bcast_S_S4x2048x2816 (constant S_ .f32 0x3F800000#32)

def gateA : FVec Ideal S4x2048x2816 .f32 := Host.divf oneA (addf oneA (Host.exp (Host.negf (upA H W1))))

def dfR : FVec Ideal S4x2048x1024 .f32 := mulf (broadcastInDim S4x2048x1024 ![0, 1, 2] bcast_S4x1x1024_S4x2048x1024_0_1_2
  (mulf (broadcastInDim S4x1x1024 ![] bcast_S_S4x1x1024 (constant S_ .f32 0x3F000000#32))
    (broadcastInDim S4x1x1024 ![0, 2] bcast_S4x1024_S4x1x1024_0_2 G))) X

def dhidR : FVec Ideal S4x2048x2816 .f32 := Host.dotGeneral dot_S4x2048x1024_S2816x1024_S4x2048x2816_2_1_01_0_n_n none (dfR X G)
  (shapeCast _ W2 shapeCasts_S1x2816x1024_S2816x1024)

def valueR : FVec Ideal S4x2048x1024 .f32 := addf (Host.dotGeneral dot_S4x2048x2816_S2816x1024_S4x2048x1024_2_0_01_1_n_n none
  (mulf (mulf (upA H W1) (gateA H W1)) (upA H W3)) (shapeCast _ W2 shapeCasts_S1x2816x1024_S2816x1024))
  (broadcastInDim S4x2048x1024 ![] bcast_S_S4x2048x1024 (constant S_ .f32 0x00000000#32))

theorem upA_at (n : Fin 2816) : upA H W (ix3 b s n) = up H W b s n := by
  unfold up
  pointwise [upA]

theorem gateA_at (n : Fin 2816) : gateA H W1 (ix3 b s n) = Ideal.logistic (up H W1 b s n) := by
  rw [← upA_at]
  unfold Ideal.logistic gateA
  generalize upA H W1 = X
  pointwise [oneA]

theorem dfR_at (k : Fin 1024) : dfR X G (ix3 b s k) = df X G b s k := by
  unfold df
  pointwise [dfR]

theorem dhidR_at (n : Fin 2816) : dhidR X W2 G (ix3 b s n) = dhid X W2 G b s n := by
  unfold dhid dhidR
  simp only [← dfR_at]
  generalize dfR X G = D
  pointwise

theorem valueR_at (k : Fin 1024) : valueR H W1 W3 W2 (ix3 b s k) = value H W1 W3 W2 b s k := by
  unfold value valueR act
  simp only [← gateA_at]
  simp only [← upA_at]
  generalize gateA H W1 = Z
  generalize upA H W1 = X
  generalize upA H W3 = Y
  pointwise

theorem real_up (h : ∃ A : S4x2048x1024.Idx → ℝ, H = fun i => (A i : EReal)) (h' : ∃ A : S1x1024x2816.Idx → ℝ, W = fun i => (A i : EReal))
    (n : Fin 2816) : ∃ r : ℝ, up H W b s n = (r : EReal) := by
  obtain ⟨A, rfl⟩ := h
  obtain ⟨B, rfl⟩ := h'
  exact dot_real _ _

theorem real_dhid (h : ∃ A : S4x2048x1024.Idx → ℝ, X = fun i => (A i : EReal)) (h' : ∃ A : S1x2816x1024.Idx → ℝ, W2 = fun i => (A i : EReal))
    (h'' : ∃ A : S4x1024.Idx → ℝ, G = fun i => (A i : EReal)) (n : Fin 2816) : ∃ r : ℝ, dhid X W2 G b s n = (r : EReal) := by
  obtain ⟨A, rfl⟩ := h
  obtain ⟨B, rfl⟩ := h'
  obtain ⟨C, rfl⟩ := h''
  unfold dhid df
  rw [half_eq]
  simp only [← EReal.coe_mul]
  exact dot_real (fun e => 1 / 2 * C (ix2 b e) * A (ix3 b s e)) _

theorem da_at (n : Fin 2816) (h : ∃ r : ℝ, up H W3 b s n = (r : EReal)) (h' : ∃ r : ℝ, dhid X W2 G b s n = (r : EReal)) :
    (truncf .bf16 (addf (mulf (mulf (dhidR X W2 G) (upA H W3)) (gateA H W1)) (mulf (mulf (upA H W1) (mulf (dhidR X W2 G) (upA H W3)))
      (mulf (gateA H W1) (subf oneA (gateA H W1))))) bitsLt_bf16_f32 : FVec Ideal S4x2048x2816 .bf16) (ix3 b s n)
      = dhid X W2 G b s n * slopeOf (up H W1 b s n) (up H W3 b s n) := by
  obtain ⟨r, hr⟩ := h
  obtain ⟨d, hd⟩ := h'
  rw [hr, hd, ← slope_eq, ← hr, ← hd, ← gateA_at, ← upA_at, ← upA_at, ← dhidR_at]
  generalize gateA H W1 = Z
  generalize upA H W1 = A
  generalize upA H W3 = Y
  generalize dhidR X W2 G = D
  pointwise [oneA]

theorem db_at (n : Fin 2816) : (truncf .bf16 (mulf (mulf (upA H W1) (gateA H W1)) (dhidR X W2 G)) bitsLt_bf16_f32
    : FVec Ideal S4x2048x2816 .bf16) (ix3 b s n) = dhid X W2 G b s n * act (up H W1 b s n) := by
  unfold act
  rw [mul_comm (dhid X W2 G b s n), ← gateA_at, ← upA_at, ← dhidR_at]
  generalize gateA H W1 = Z
  generalize upA H W1 = A
  generalize dhidR X W2 G = D
  pointwise

theorem df_at (k : Fin 1024) : (truncf .bf16 (dfR X G) bitsLt_bf16_f32 : FVec Ideal S4x2048x1024 .bf16) (ix3 b s k) = df X G b s k := by
  rw [← dfR_at]
  generalize dfR X G = D
  pointwise

/-- Half the sums over the rows. -/
theorem sums_at (X Y : FVec Ideal S4x2048x1024 .f32) (z : Fin 1) (k : Fin 1024) :
    (broadcastInDim S4x1x1024 ![0, 2] bcast_S4x1024_S4x1x1024_0_2 (Host.reduceAdd (mulf (broadcastInDim S4x1x1024 ![] bcast_S_S4x1x1024
      (constant S_ .f32 0x3F000000#32)) (shapeCast S4x1x1024 (Host.reduceAdd (mulf X Y) (constant S_ .f32 0x00000000#32)
        reducesTo_S4x2048x1024_S4x1024_d1 h_S_) shapeCasts_S4x1024_S4x1x1024)) (constant S_ .f32 0x00000000#32) reducesTo_S4x1x1024_S4x1024_d1 h_S_)
      : FVec Ideal S4x1x1024 .f32) (ix3 b z k) = half * ∑ s : Fin 2048, X (ix3 b s k) * Y (ix3 b s k) := by
  pointwise
  simp only [Fin.sum_univ_one]

theorem dg_at (z : Fin 1) (k : Fin 1024) :
    (broadcastInDim S4x1x1024 ![0, 2] bcast_S4x1024_S4x1x1024_0_2 (Host.reduceAdd (mulf (broadcastInDim S4x1x1024 ![] bcast_S_S4x1x1024
      (constant S_ .f32 0x3F000000#32)) (shapeCast S4x1x1024 (Host.reduceAdd (mulf X (valueR H W1 W3 W2)) (constant S_ .f32 0x00000000#32)
        reducesTo_S4x2048x1024_S4x1024_d1 h_S_) shapeCasts_S4x1024_S4x1x1024)) (constant S_ .f32 0x00000000#32) reducesTo_S4x1x1024_S4x1024_d1 h_S_)
      : FVec Ideal S4x1x1024 .f32) (ix3 b z k) = dgA H X W1 W3 W2 (ix3 b z k) := by
  refine (sums_at b X _ z k).trans ((half_sum _).trans (Finset.sum_congr rfl fun s _ => ?_))
  rw [valueR_at]
  exact (mul_assoc _ _ _).symm

end

/-- The precondition says that the arguments it names hold real numbers. -/
theorem reals (h : FVec Ideal S4x2048x1024 .f32) (w1 w3 : FVec Ideal S1x1024x2816 .f32) (w2 : FVec Ideal S1x2816x1024 .f32)
    (g : FVec Ideal S4x1024 .f32) (x : FVec Ideal S4x2048x1024 .f32) (hp : Cert.Pre_finite_hid.fn (F := Ideal) h w1 w3 w2 g x = fun _ => 1#1) :
    (∃ A : S4x2048x1024.Idx → ℝ, h = fun i => (A i : EReal)) ∧ (∃ A : S1x1024x2816.Idx → ℝ, w3 = fun i => (A i : EReal))
      ∧ (∃ A : S1x2816x1024.Idx → ℝ, w2 = fun i => (A i : EReal)) ∧ (∃ A : S4x1024.Idx → ℝ, g = fun i => (A i : EReal))
      ∧ ∃ A : S4x2048x1024.Idx → ℝ, x = fun i => (A i : EReal) := by
  have : Subsingleton S_.Idx := ⟨fun a b => funext fun d => d.elim0⟩
  obtain ⟨e, e4⟩ := IntOp.andi_eq_one.mp (congrFun hp (fun d => d.elim0))
  obtain ⟨e, e3⟩ := IntOp.andi_eq_one.mp e
  obtain ⟨e, e2⟩ := IntOp.andi_eq_one.mp e
  obtain ⟨e0, e1⟩ := IntOp.andi_eq_one.mp e
  exact ⟨Cert.Reals.reals_of_all h _ _ _ _ _ e0, Cert.Reals.reals_of_all w3 _ _ _ _ _ e1, Cert.Reals.reals_of_all w2 _ _ _ _ _ e2,
    Cert.Reals.reals_of_all g _ _ _ _ _ e3, Cert.Reals.reals_of_all x _ _ _ _ _ e4⟩

end Cert.HidReference

namespace Cert.HidClaim

open Cert.HidValue Cert.HidReference Cert.HidRun Cert.KernelHidIdeal Cert.KernelHidIdeal.Gen Idealize.ShloMosaic Idealize.ShloMosaic.TcCoe
open Idealize.SL.Sem

theorem algebraic : Cert.algebraic_KernelHidIdeal_ReferenceHidIdeal_pre_finite_hid := by
  intro m g m' g' hpre hargs
  refine ⟨_, _, _, _, (θ_run Cert.KernelHidIdeal.defs _ _).mono
    (fun r h c => ⟨(h.2 c).1, (h.2 c).2.1, (h.2 c).2.2.1, (h.2 c).2.2.2, h.1.1 c⟩) (θ_run_and (frame m g) (HidRun.run m g)), ?_⟩
  refine (θ_run Cert.ReferenceHidIdeal.defs _ _).mono (fun r h c => ?_) (ReferenceHidIdeal.Value.run m' g')
  obtain ⟨h0, h1, h2, h3, h4, h5⟩ := hargs c
  obtain ⟨e0, e1, e2, e3, hr⟩ := h c
  refine ⟨e0.trans ?_, e1.trans ?_, e2.trans ?_, e3.trans ?_, hr⟩
  all_goals
    clear hr h
    obtain ⟨p0, p2, p3, p4, p5⟩ := reals _ _ _ _ _ _ (hpre c)
  · rw [final6, h4, h5]
    funext j
    idx_vars j
    exact df_at _ _ j0 j1 j2
  · rw [final7, h0, h1, h2, h3, h4, h5]
    funext j
    idx_vars j
    exact da_at _ _ _ _ _ _ j0 j1 j2 (real_up _ _ j0 j1 p0 p2 j2) (real_dhid _ _ _ j0 j1 p5 p3 p4 j2)
  · rw [final8, h0, h1, h3, h4, h5]
    funext j
    idx_vars j
    exact db_at _ _ _ _ _ j0 j1 j2
  · rw [final9, h0, h1, h2, h3, h5]
    funext j
    idx_vars j
    exact dg_at _ _ _ _ _ j0 j1 j2

end Cert.HidClaim

end
-- ==== Proof.HidFrame.lean ====
/-
The run of the feed-forward's backward kernel as it was written. No operation of it is rewritten in the idealized program,
so the two programs are the same at every reading of the floats and the run of the one is the run of the other.
-/
module

public import proofs.«01_k».proof.Proof.HidRun
public import proofs.«01_k».proof.Proof.Gen.KernelHid.Frame
public import proofs.«01_k».proof.Defs

@[expose] public section

set_option maxRecDepth 16384

namespace Cert.HidFrame

open Idealize.ShloMosaic Idealize.SL.Sem

theorem body_eq : (@Cert.KernelHid.cc0_ffn_bwd_hid Bits _ Cert.KernelHid.Gen.facts)
    = (@Cert.KernelHidIdeal.cc0_ffn_bwd_hid Bits _ Cert.KernelHidIdeal.Gen.facts) := rfl

set_option maxHeartbeats 8000000 in
theorem defs₀_eq : Cert.KernelHid.defs₀ (F := Bits) = Cert.KernelHidIdeal.defs₀ (F := Bits) := by
  unfold Cert.KernelHid.defs₀ Cert.KernelHidIdeal.defs₀
  congr 1
  funext l a
  match l, a with
  | 0, (t, s) =>
    dsimp only
    rw [body_eq]
    rfl

theorem defs_eq : Cert.KernelHid.defs (F := Bits) = Cert.KernelHidIdeal.defs (F := Bits) :=
  congrArg (Pipeline.defs Cert.KernelHidIdeal.pcfgs) defs₀_eq

set_option maxHeartbeats 4000000 in
theorem main_eq : Cert.KernelHid.main (F := Bits) = Cert.KernelHidIdeal.main (F := Bits) := rfl

/-- The arguments end as they were, every counter at zero. -/
theorem frame : Cert.quiescent_KernelHid := fun m ρ _ => by
  have h := Cert.HidRun.frame (F := Bits) m ρ
  rw [← main_eq, ← defs_eq] at h
  exact h

end Cert.HidFrame
-- ==== Proof.NormFClaim.lean ====
/-
The forward norm with its modulation, kernel and reference, equal.
-/
module

public import proofs.«01_k».proof.Defs
public import proofs.«01_k».proof.Proof.NormGrad
public import proofs.«01_k».proof.Proof.Gen.KernelNormFIdeal.Value
public import proofs.«01_k».proof.Proof.Gen.ReferenceNormFIdeal.Run
public import Idealize.ShloMosaic.Lib.Pipeline.ReadBack

@[expose] public section

set_option maxRecDepth 16384

noncomputable section

namespace Cert.NormFValue

open Cert.KernelNormFIdeal Cert.KernelNormFIdeal.Gen Idealize.ShloMosaic Idealize.ShloMosaic.TcCoe Idealize.SL.Sem

/-- A row's normed and modulated entry. -/
def entry (x : Fin 1024 → EReal) (g sh sc : EReal) (k : Fin 1024) : EReal :=
  x k * Ideal.rsqrt (Ideal.div (∑ e : Fin 1024, x e * x e) (Scalar.ofBits .f32 0x44800000#32 : Ideal .f32) + (Scalar.ofBits .f32 0x358637BD#32 : Ideal .f32)) * g
    * ((Scalar.ofBits .f32 0x3F800000#32 : Ideal .f32) + sc) + sh

/-- The normed and modulated rows. -/
def normed (X : FVec Ideal S4x2048x1024 .f32) (G : FVec Ideal S1x1024 .f32) (SH SC : FVec Ideal S4x1024 .f32) : FVec Ideal S4x2048x1024 .bf16 :=
  fun j => entry (fun e => X (ix3 (j 0) (j 1) e)) (G (ix2 0 (j 2))) (SH (ix2 (j 0) (j 2))) (SC (ix2 (j 0) (j 2))) (j 2)

theorem stored_at (v0 : FVec Ideal S1x512x1024 .f32) (v1 : FVec Ideal S1x1024 .f32) (v2 v3 : FVec Ideal S1x1x1024 .f32) (z : Fin 1) (p : Fin 512)
    (k : Fin 1024) : k0_pay1 (F := Ideal) v0 v1 v3 v2 (ix3 z p k)
      = entry (fun e => v0 (ix3 0 p e)) (v1 (ix2 0 k)) (v2 (ix3 0 0 k)) (v3 (ix3 0 0 k)) k := by
  unfold entry
  pointwise [k0_pay1]

theorem row_at (G : FVec Ideal S4x1024 .f32) (b : Fin 4) (z : Fin 1) (k : Fin 1024) :
    (broadcastInDim S4x1x1024 ![0, 2] bcast_S4x1024_S4x1x1024_0_2 G : FVec Ideal S4x1x1024 .f32) (ix3 b z k) = G (ix2 b k) := by
  pointwise

theorem idx : ∀ t : Fin cfg0.N, win0_0.index t = ![t.val / 4, t.val % 4, 0] ∧ win0_1.index t = ![0, 0]
    ∧ win0_2.index t = ![t.val / 4, 0, 0] ∧ win0_3.index t = ![t.val / 4, 0, 0] ∧ win0_4.index t = ![t.val / 4, t.val % 4, 0] :=
  (by decide +kernel : ∀ t : Fin grid0.N, _)

theorem point_lt (t : Fin cfg0.N) : t.val / 4 < 4 := by have := lt_of_lt_of_eq t.isLt N_0; omega

theorem lane_lt (t : Fin cfg0.N) (p : Fin 512) : t.val % 4 * 512 + p.val < 2048 := by omega

section
variable (m : (ℓ : Loc nD τ sig) → Buf (Elt Ideal) ℓ) (c : Dev nD) (t : Fin cfg0.N)

theorem blk0 (z : Fin 1) (p : Fin 512) (k : Fin 1024) : iblk m c 0 t (ix3 z p k)
    = (m (c.tc.loc main_arg0) : FVec Ideal S4x2048x1024 .f32) (ix3 ⟨t.val / 4, point_lt t⟩ ⟨t.val % 4 * 512 + p.val, lane_lt t p⟩ k) := by
  blk_point [iblk, V, idx t]

theorem blk1 (z : Fin 1) (k : Fin 1024) : iblk m c 1 t (ix2 z k) = (m (c.tc.loc main_arg1) : FVec Ideal S1x1024 .f32) (ix2 0 k) := by
  blk_point [iblk, V, idx t]

theorem blk2 (z z' : Fin 1) (k : Fin 1024) : iblk m c 2 t (ix3 z z' k)
    = (m (c.tc.loc main_arg2) : FVec Ideal S4x1024 .f32) (ix2 ⟨t.val / 4, point_lt t⟩ k) := by
  have hv : V m c main_v0 = (broadcastInDim S4x1x1024 ![0, 2] bcast_S4x1024_S4x1x1024_0_2 (m (c.tc.loc main_arg2)) : FVec Ideal S4x1x1024 .f32) := by
    unfold V
    rfl
  refine Eq.trans ?_ ((congrFun hv _).trans (row_at _ ⟨t.val / 4, point_lt t⟩ 0 k))
  blk_point [iblk, idx t]

theorem blk3 (z z' : Fin 1) (k : Fin 1024) : iblk m c 3 t (ix3 z z' k)
    = (m (c.tc.loc main_arg3) : FVec Ideal S4x1024 .f32) (ix2 ⟨t.val / 4, point_lt t⟩ k) := by
  have hv : V m c main_v1 = (broadcastInDim S4x1x1024 ![0, 2] bcast_S4x1024_S4x1x1024_0_2 (m (c.tc.loc main_arg3)) : FVec Ideal S4x1x1024 .f32) := by
    unfold V
    rfl
  refine Eq.trans ?_ ((congrFun hv _).trans (row_at _ ⟨t.val / 4, point_lt t⟩ 0 k))
  blk_point [iblk, idx t]

theorem final4 : (dats m 0 c).arrAt 4 cfg0.N
    = normed (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4, show out0_4 (F := Ideal) (iblk m c 0 t) (iblk m c 1 t) (iblk m c 2 t) (iblk m c 3 t)
    = k0_pay1 (F := Ideal) (iblk m c 0 t) (iblk m c 1 t) (iblk m c 3 t) (iblk m c 2 t) from by unfold out0_4; frame_out]
  idx_vars y
  rw [stored_at]
  simp only [blk0, blk1, blk2, blk3]
  rw [show ((View.whole main_v2).slice (win0_4.rect t)).emb (ix3 y0 y1 y2)
    = ix3 ⟨t.val / 4, point_lt t⟩ ⟨t.val % 4 * 512 + y1.val, lane_lt t y1⟩ y2 from by blk_ext [idx t]]
  rfl

end

end Cert.NormFValue

namespace Cert.NormFReference

open Cert.NormFValue Cert.ReferenceNormFIdeal Cert.ReferenceNormFIdeal.Facts₀ Idealize.ShloMosaic Idealize.ShloMosaic.TcCoe Idealize.SL.Sem

theorem ref_at (X : FVec Ideal S4x2048x1024 .f32) (G : FVec Ideal S1x1024 .f32) (SH SC : FVec Ideal S4x1024 .f32) (b : Fin 4) (s : Fin 2048)
    (k : Fin 1024) :
    (truncf .bf16 (addf (mulf (mulf (mulf X (broadcastInDim S4x2048x1024 ![0, 1, 2] bcast_S4x2048x1_S4x2048x1024_0_1_2 (Host.rsqrt (addf
      (Host.divf (broadcastInDim S4x2048x1 ![0, 1] bcast_S4x2048_S4x2048x1_0_1 (Host.reduceAdd (mulf X X) (constant S_ .f32 0x00000000#32)
      reducesTo_S4x2048x1024_S4x2048_d2 h_S_)) (broadcastInDim S4x2048x1 ![] bcast_S_S4x2048x1 (constant S_ .f32 0x44800000#32))) (broadcastInDim
      S4x2048x1 ![] bcast_S_S4x2048x1 (constant S_ .f32 0x358637BD#32)))))) (broadcastInDim S4x2048x1024 ![0, 1, 2]
      bcast_S1x1x1024_S4x2048x1024_0_1_2 (broadcastInDim S1x1x1024 ![2] bcast_S1024_S1x1x1024_2 (shapeCast _ G shapeCasts_S1x1024_S1024))))
      (broadcastInDim S4x2048x1024 ![0, 1, 2] bcast_S4x1x1024_S4x2048x1024_0_1_2 (addf (broadcastInDim S4x1x1024 ![] bcast_S_S4x1x1024 (constant
      S_ .f32 0x3F800000#32)) (broadcastInDim S4x1x1024 ![0, 2] bcast_S4x1024_S4x1x1024_0_2 SC)))) (broadcastInDim S4x2048x1024 ![0, 1, 2]
      bcast_S4x1x1024_S4x2048x1024_0_1_2 (broadcastInDim S4x1x1024 ![0, 2] bcast_S4x1024_S4x1x1024_0_2 SH))) bitsLt_bf16_f32
      : FVec Ideal S4x2048x1024 .bf16) (ix3 b s k)
    = entry (fun e => X (ix3 b s e)) (G (ix2 0 k)) (SH (ix2 b k)) (SC (ix2 b k)) k := by
  unfold entry
  pointwise

end Cert.NormFReference

namespace Cert.NormFClaim

open Cert.NormFValue Cert.NormFReference Cert.KernelNormFIdeal Cert.KernelNormFIdeal.Gen Idealize.ShloMosaic Idealize.ShloMosaic.TcCoe
open Idealize.SL.Sem

theorem algebraic : Cert.algebraic_KernelNormFIdeal_ReferenceNormFIdeal := by
  intro m g m' g' hpre hargs
  refine ⟨_, Value.run_blocks m g, ?_⟩
  refine (θ_run Cert.ReferenceNormFIdeal.defs _ _).mono (fun r h c => ?_) (ReferenceNormFIdeal.Value.run m' g')
  obtain ⟨h0, h1, h2, h3⟩ := hargs c
  obtain ⟨e0, hr⟩ := h c
  refine ⟨e0.trans ?_, hr⟩
  all_goals
    clear hr h
  · rw [final4, h0, h1, h2, h3]
    funext j
    idx_vars j
    exact ref_at _ _ _ _ j0 j1 j2

end Cert.NormFClaim

end
-- ==== Proof.UpFClaim.lean ====
/-
The feed-forward gates and their derivatives, kernel and reference, equal.
-/
module

public import proofs.«01_k».proof.Defs
public import proofs.«01_k».proof.Proof.Gen.Pre_finite_upf
public import proofs.«01_k».proof.Proof.NormGrad
public import proofs.«01_k».proof.Proof.Gen.KernelUpFIdeal.Value
public import proofs.«01_k».proof.Proof.Gen.ReferenceUpFIdeal.Run
public import Idealize.ShloMosaic.Lib.Pipeline.ReadBack

@[expose] public section

set_option maxRecDepth 16384

noncomputable section

namespace Cert.UpFValue

open Cert.KernelUpFIdeal Cert.KernelUpFIdeal.Gen Idealize.ShloMosaic Idealize.ShloMosaic.TcCoe Idealize.SL.Sem

/-- An entry of a product with a weight. -/
def up (H : FVec Ideal S4x2048x1024 .f32) (W : FVec Ideal S1x1024x2816 .f32) (b : Fin 4) (s : Fin 2048) (n : Fin 2816) : EReal :=
  ∑ e : Fin 1024, H (ix3 b s e) * W (ix3 0 e n)

/-- The derivative of the gate, times the factor. -/
def slopeOf (a b : EReal) : EReal := b * (Ideal.logistic a * (1 + a * (1 - Ideal.logistic a)))

def act (a : EReal) : EReal := a * Ideal.logistic a

section
variable (H : FVec Ideal S4x2048x1024 .f32) (W1 W3 : FVec Ideal S1x1024x2816 .f32)

def slopes : FVec Ideal S4x2048x2816 .bf16 := fun j => slopeOf (up H W1 (j 0) (j 1) (j 2)) (up H W3 (j 0) (j 1) (j 2))

def acts : FVec Ideal S4x2048x2816 .bf16 := fun j => act (up H W1 (j 0) (j 1) (j 2))

def hidden : FVec Ideal S4x2048x2816 .bf16 := fun j => act (up H W1 (j 0) (j 1) (j 2)) * up H W3 (j 0) (j 1) (j 2)

end

section
variable (v0 : FVec Ideal S1x512x1024 .bf16) (v2 v5 : FVec Ideal S1408x1024 .bf16) (z : Fin 1) (p : Fin 512) (k : Fin 1408)

theorem up1_at : k0_pay2 (F := Ideal) v0 v2 (ix2 p k) = ∑ e : Fin 1024, v0 (ix3 0 p e) * v2 (ix2 k e) := by
  pointwise [k0_pay2, k0_pay1]

theorem up3_at : k0_pay3 (F := Ideal) v0 v5 (ix2 p k) = ∑ e : Fin 1024, v0 (ix3 0 p e) * v5 (ix2 k e) := by
  pointwise [k0_pay3, k0_pay1]

theorem slope_at : k0_pay6 (F := Ideal) v0 v2 v5 (ix3 z p k) = slopeOf (k0_pay2 (F := Ideal) v0 v2 (ix2 p k)) (k0_pay3 (F := Ideal) v0 v5 (ix2 p k)) := by
  unfold slopeOf k0_pay6 k0_pay4
  generalize k0_pay2 (F := Ideal) v0 v2 = A
  generalize k0_pay3 (F := Ideal) v0 v5 = B
  pointwise

theorem act_at : k0_pay5 (F := Ideal) v0 v2 (ix2 p k) = act (k0_pay2 (F := Ideal) v0 v2 (ix2 p k)) := by
  unfold act k0_pay5 k0_pay4
  generalize k0_pay2 (F := Ideal) v0 v2 = A
  pointwise

theorem acts_at : k0_pay7 (F := Ideal) v0 v2 (ix3 z p k) = act (k0_pay2 (F := Ideal) v0 v2 (ix2 p k)) := by
  rw [← act_at]
  pointwise [k0_pay7]

theorem hidden_at : k0_pay8 (F := Ideal) v0 v2 v5 (ix3 z p k) = act (k0_pay2 (F := Ideal) v0 v2 (ix2 p k)) * k0_pay3 (F := Ideal) v0 v5 (ix2 p k) := by
  rw [← act_at]
  pointwise [k0_pay8]

end

theorem weights_at (W : FVec Ideal S1x1024x2816 .f32) (n : Fin 2816) (e : Fin 1024) :
    (truncf .bf16 (shapeCast S2816x1024 (transpose S1x2816x1024 [0, 2, 1] W transposes_S1x1024x2816_S1x2816x1024_0_2_1) shapeCasts_S1x2816x1024_S2816x1024) bitsLt_bf16_f32
      : FVec Ideal S2816x1024 .bf16) (ix2 n e) = W (ix3 0 e n) := by
  pointwise

theorem rows_at (H : FVec Ideal S4x2048x1024 .f32) (b : Fin 4) (s : Fin 2048) (e : Fin 1024) :
    (truncf .bf16 H bitsLt_bf16_f32 : FVec Ideal S4x2048x1024 .bf16) (ix3 b s e) = H (ix3 b s e) := by
  pointwise

theorem idx : ∀ t : Fin cfg0.N, win0_0.index t = ![t.val / 4 % 4, t.val % 4, 0] ∧ win0_1.index t = ![t.val / 16, 0] ∧ win0_2.index t = ![t.val / 16, 0] ∧ win0_3.index t =
    ![t.val / 4 % 4, t.val % 4, t.val / 16] ∧ win0_4.index t = ![t.val / 4 % 4, t.val % 4, t.val / 16] ∧ win0_5.index t = ![t.val / 4 % 4, t.val
    % 4, t.val / 16] :=
  (by decide +kernel : ∀ t : Fin grid0.N, _)

theorem batch_lt (t : Fin cfg0.N) : t.val / 4 % 4 < 4 := by omega

theorem lane_lt (t : Fin cfg0.N) (p : Fin 512) : t.val % 4 * 512 + p.val < 2048 := by omega

theorem col_lt (t : Fin cfg0.N) (k : Fin 1408) : t.val / 16 * 1408 + k.val < 2816 := by
  have := lt_of_lt_of_eq t.isLt N_0; omega

section
variable (m : (ℓ : Loc nD τ sig) → Buf (Elt Ideal) ℓ) (c : Dev nD) (t : Fin cfg0.N)

theorem blk0 (z : Fin 1) (p : Fin 512) (e : Fin 1024) : iblk m c 0 t (ix3 z p e) = (m (c.tc.loc main_arg0) : FVec Ideal S4x2048x1024 .f32) (ix3 ⟨t.val / 4 % 4, batch_lt t⟩ ⟨t.val % 4 * 512 + p.val, lane_lt t p⟩ e) := by
  have hv : V m c main_v6 = (truncf .bf16 (m (c.tc.loc main_arg0)) bitsLt_bf16_f32 : FVec Ideal S4x2048x1024 .bf16) := by
    unfold V
    rfl
  refine Eq.trans ?_ ((congrFun hv _).trans (rows_at _ ⟨t.val / 4 % 4, batch_lt t⟩ ⟨t.val % 4 * 512 + p.val, lane_lt t p⟩ e))
  blk_point [iblk, idx t]

theorem blk1 (k : Fin 1408) (e : Fin 1024) : iblk m c 1 t (ix2 k e) = (m (c.tc.loc main_arg1) : FVec Ideal S1x1024x2816 .f32) (ix3 0 e ⟨t.val / 16 * 1408 + k.val, col_lt t k⟩) := by
  have hv : V m c main_v2 = (truncf .bf16 (shapeCast S2816x1024 (transpose S1x2816x1024 [0, 2, 1] (m (c.tc.loc main_arg1)) transposes_S1x1024x2816_S1x2816x1024_0_2_1) shapeCasts_S1x2816x1024_S2816x1024) bitsLt_bf16_f32 : FVec Ideal S2816x1024 .bf16) := by
    unfold V
    rfl
  refine Eq.trans ?_ ((congrFun hv _).trans (weights_at _ ⟨t.val / 16 * 1408 + k.val, col_lt t k⟩ e))
  blk_point [iblk, idx t]

theorem blk2 (k : Fin 1408) (e : Fin 1024) : iblk m c 2 t (ix2 k e) = (m (c.tc.loc main_arg2) : FVec Ideal S1x1024x2816 .f32) (ix3 0 e ⟨t.val / 16 * 1408 + k.val, col_lt t k⟩) := by
  have hv : V m c main_v5 = (truncf .bf16 (shapeCast S2816x1024 (transpose S1x2816x1024 [0, 2, 1] (m (c.tc.loc main_arg2)) transposes_S1x1024x2816_S1x2816x1024_0_2_1) shapeCasts_S1x2816x1024_S2816x1024) bitsLt_bf16_f32 : FVec Ideal S2816x1024 .bf16) := by
    unfold V
    rfl
  refine Eq.trans ?_ ((congrFun hv _).trans (weights_at _ ⟨t.val / 16 * 1408 + k.val, col_lt t k⟩ e))
  blk_point [iblk, idx t]

theorem final3 : (dats m 0 c).arrAt 3 cfg0.N = slopes (m (c.tc.loc main_arg0)) (m (c.tc.loc main_arg1)) (m (c.tc.loc main_arg2)) := by
  refine (dats m 0 c).arrAt_eq_of_covers 3 _ (by decide +kernel) fun t _ y => ?_
  blk_simp
  rw [after0_3, show out0_3 (F := Ideal) (iblk m c 0 t) (iblk m c 1 t) (iblk m c 2 t)
    = k0_pay6 (F := Ideal) (iblk m c 0 t) (iblk m c 1 t) (iblk m c 2 t) from by unfold out0_3; frame_out]
  idx_vars y
  rw [slope_at, up1_at, up3_at]
  simp only [blk0, blk1, blk2]
  rw [show ((View.whole main_v7_0).slice (win0_3.rect t)).emb (ix3 y0 y1 y2)
    = ix3 ⟨t.val / 4 % 4, batch_lt t⟩ ⟨t.val % 4 * 512 + y1.val, lane_lt t y1⟩ ⟨t.val / 16 * 1408 + y2.val, col_lt t y2⟩ from by blk_ext [idx t]]
  rfl

theorem final4 : (dats m 0 c).arrAt 4 cfg0.N = acts (m (c.tc.loc main_arg0)) (m (c.tc.loc main_arg1)) := by
  refine (dats m 0 c).arrAt_eq_of_covers 4 _ (by decide +kernel) fun t _ y => ?_
  blk_simp
  rw [after0_4, show out0_4 (F := Ideal) (iblk m c 0 t) (iblk m c 1 t) (iblk m c 2 t)
    = k0_pay7 (F := Ideal) (iblk m c 0 t) (iblk m c 1 t) from by unfold out0_4; frame_out]
  idx_vars y
  rw [acts_at, up1_at]
  simp only [blk0, blk1]
  rw [show ((View.whole main_v7_1).slice (win0_4.rect t)).emb (ix3 y0 y1 y2)
    = ix3 ⟨t.val / 4 % 4, batch_lt t⟩ ⟨t.val % 4 * 512 + y1.val, lane_lt t y1⟩ ⟨t.val / 16 * 1408 + y2.val, col_lt t y2⟩ from by blk_ext [idx t]]
  rfl

theorem final5 : (dats m 0 c).arrAt 5 cfg0.N = hidden (m (c.tc.loc main_arg0)) (m (c.tc.loc main_arg1)) (m (c.tc.loc main_arg2)) := by
  refine (dats m 0 c).arrAt_eq_of_covers 5 _ (by decide +kernel) fun t _ y => ?_
  blk_simp
  rw [after0_5, show out0_5 (F := Ideal) (iblk m c 0 t) (iblk m c 1 t) (iblk m c 2 t)
    = k0_pay8 (F := Ideal) (iblk m c 0 t) (iblk m c 1 t) (iblk m c 2 t) from by unfold out0_5; frame_out]
  idx_vars y
  rw [hidden_at, up1_at, up3_at]
  simp only [blk0, blk1, blk2]
  rw [show ((View.whole main_v7_2).slice (win0_5.rect t)).emb (ix3 y0 y1 y2)
    = ix3 ⟨t.val / 4 % 4, batch_lt t⟩ ⟨t.val % 4 * 512 + y1.val, lane_lt t y1⟩ ⟨t.val / 16 * 1408 + y2.val, col_lt t y2⟩ from by blk_ext [idx t]]
  rfl

end

end Cert.UpFValue

namespace Cert.UpFReference

open Cert.NormGrad (dot_real)
open Cert.UpFValue Cert.ReferenceUpFIdeal Cert.ReferenceUpFIdeal.Facts₀ Idealize.ShloMosaic Idealize.ShloMosaic.TcCoe Idealize.SL.Sem

/-- The gate's derivative, with its two terms apart. -/
theorem slope_eq (a : EReal) (b : ℝ) : 1 * (b : EReal) * Ideal.logistic a + a * (1 * (b : EReal)) * (Ideal.logistic a * (1 - Ideal.logistic a))
    = slopeOf a b := by
  unfold slopeOf
  induction a using EReal.rec with
  | bot => simp
  | top =>
    have h : (1 : EReal) - 1 = 0 := by rw [← EReal.coe_one, ← EReal.coe_sub, sub_self, EReal.coe_zero]
    simp [h]
  | coe a =>
    rw [Ideal.logistic_coe]
    norm_cast
    ring

section
variable (H : FVec Ideal S4x2048x1024 .f32) (W1 W3 W : FVec Ideal S1x1024x2816 .f32) (b : Fin 4) (s : Fin 2048) (k : Fin 2816)

def upA : FVec Ideal S4x2048x2816 .f32 := Host.dotGeneral dot_S4x2048x1024_S1024x2816_S4x2048x2816_2_0_01_1_n_n none H
  (shapeCast _ W shapeCasts_S1x1024x2816_S1024x2816)

def oneA : FVec Ideal S4x2048x2816 .f32 := broadcastInDim S4x2048x2816 ![] bcast_S_S4x2048x2816 (constant S_ .f32 0x3F800000#32)

def gateA : FVec Ideal S4x2048x2816 .f32 := Host.divf oneA (addf oneA (Host.exp (Host.negf (upA H W1))))

theorem upA_at : upA H W (ix3 b s k) = up H W b s k := by
  unfold up
  pointwise [upA]

theorem gateA_at : gateA H W1 (ix3 b s k) = Ideal.logistic (up H W1 b s k) := by
  rw [← upA_at]
  unfold Ideal.logistic gateA
  generalize upA H W1 = X
  pointwise [oneA]

theorem real_up (h : ∃ A : S4x2048x1024.Idx → ℝ, H = fun i => (A i : EReal)) (h' : ∃ A : S1x1024x2816.Idx → ℝ, W = fun i => (A i : EReal)) :
    ∃ r : ℝ, up H W b s k = (r : EReal) := by
  obtain ⟨A, rfl⟩ := h
  obtain ⟨B, rfl⟩ := h'
  exact dot_real _ _

theorem ref0_at (h : ∃ r : ℝ, up H W3 b s k = (r : EReal)) :
    (truncf .bf16 (addf (mulf (mulf oneA (upA H W3)) (gateA H W1)) (mulf (mulf (upA H W1) (mulf oneA (upA H W3)))
      (mulf (gateA H W1) (subf oneA (gateA H W1))))) bitsLt_bf16_f32 : FVec Ideal S4x2048x2816 .bf16) (ix3 b s k)
      = slopeOf (up H W1 b s k) (up H W3 b s k) := by
  obtain ⟨r, hr⟩ := h
  rw [hr, ← slope_eq, ← hr, ← gateA_at, ← upA_at, ← upA_at]
  generalize gateA H W1 = G
  generalize upA H W1 = X
  generalize upA H W3 = Y
  pointwise [oneA]

theorem ref1_at : (truncf .bf16 (mulf (mulf (upA H W1) (gateA H W1)) oneA) bitsLt_bf16_f32 : FVec Ideal S4x2048x2816 .bf16) (ix3 b s k)
    = act (up H W1 b s k) := by
  unfold act
  rw [← gateA_at, ← upA_at]
  generalize gateA H W1 = G
  generalize upA H W1 = X
  pointwise [oneA]

theorem ref2_at : (truncf .bf16 (mulf (mulf (upA H W1) (gateA H W1)) (upA H W3)) bitsLt_bf16_f32 : FVec Ideal S4x2048x2816 .bf16) (ix3 b s k)
    = act (up H W1 b s k) * up H W3 b s k := by
  unfold act
  rw [← gateA_at, ← upA_at, ← upA_at]
  generalize gateA H W1 = G
  generalize upA H W1 = X
  generalize upA H W3 = Y
  pointwise

end

/-- The precondition says that the rows and the factor's weights hold real numbers. -/
theorem reals (h : FVec Ideal S4x2048x1024 .f32) (w1 w3 : FVec Ideal S1x1024x2816 .f32)
    (hp : Cert.Pre_finite_upf.fn (F := Ideal) h w1 w3 = fun _ => 1#1) :
    (∃ A : S4x2048x1024.Idx → ℝ, h = fun i => (A i : EReal)) ∧ ∃ A : S1x1024x2816.Idx → ℝ, w3 = fun i => (A i : EReal) := by
  have : Subsingleton S_.Idx := ⟨fun a b => funext fun d => d.elim0⟩
  obtain ⟨e0, e1⟩ := IntOp.andi_eq_one.mp (congrFun hp (fun d => d.elim0))
  exact ⟨Cert.Reals.reals_of_all h _ _ _ _ _ e0, Cert.Reals.reals_of_all w3 _ _ _ _ _ e1⟩

end Cert.UpFReference

namespace Cert.UpFClaim

open Cert.UpFValue Cert.UpFReference Cert.KernelUpFIdeal Cert.KernelUpFIdeal.Gen Idealize.ShloMosaic Idealize.ShloMosaic.TcCoe
open Idealize.SL.Sem

theorem algebraic : Cert.algebraic_KernelUpFIdeal_ReferenceUpFIdeal_pre_finite_upf := by
  intro m g m' g' hpre hargs
  refine ⟨_, _, _, Value.run_blocks m g, ?_⟩
  refine (θ_run Cert.ReferenceUpFIdeal.defs _ _).mono (fun r h c => ?_) (ReferenceUpFIdeal.Value.run m' g')
  obtain ⟨h0, h1, h2⟩ := hargs c
  obtain ⟨e0, e1, e2, hr⟩ := h c
  refine ⟨e0.trans ?_, e1.trans ?_, e2.trans ?_, hr⟩
  all_goals
    clear hr h
  · rw [final3, h0, h1, h2]
    funext j
    idx_vars j
    exact ref0_at _ _ _ j0 j1 j2 (real_up _ _ j0 j1 j2 (reals _ _ _ (hpre c)).1 (reals _ _ _ (hpre c)).2)
  · rw [final4, h0, h1]
    funext j
    idx_vars j
    exact ref1_at _ _ j0 j1 j2
  · rw [final5, h0, h1, h2]
    funext j
    idx_vars j
    exact ref2_at _ _ _ j0 j1 j2

end Cert.UpFClaim

end
-- ==== Proof.DownFClaim.lean ====
/-
The end of the feed-forward layer, kernel and reference, equal.
-/
module

public import proofs.«01_k».proof.Defs
public import proofs.«01_k».proof.Proof.NormGrad
public import proofs.«01_k».proof.Proof.Gen.KernelDownFIdeal.Value
public import proofs.«01_k».proof.Proof.Gen.ReferenceDownFIdeal.Run
public import Idealize.ShloMosaic.Lib.Pipeline.ReadBack

@[expose] public section

set_option maxRecDepth 16384

noncomputable section

namespace Cert.DownFValue

open Cert.KernelDownFIdeal Cert.KernelDownFIdeal.Gen Idealize.ShloMosaic Idealize.ShloMosaic.TcCoe Idealize.SL.Sem

/-- A row's entry of the product. -/
def entry (h w : Fin 2816 → EReal) : EReal := ∑ e : Fin 2816, h e * w e

/-- The layer's value. -/
def value (H : FVec Ideal S4x2048x2816 .f32) (W : FVec Ideal S1x2816x1024 .f32) : FVec Ideal S4x2048x1024 .bf16 :=
  fun j => entry (fun e => H (ix3 (j 0) (j 1) e)) (fun e => W (ix3 0 e (j 2)))

/-- The rows with half the scaled value added. -/
def added (H : FVec Ideal S4x2048x2816 .f32) (W : FVec Ideal S1x2816x1024 .f32) (X : FVec Ideal S4x2048x1024 .f32) (G : FVec Ideal S4x1024 .f32) :
    FVec Ideal S4x2048x1024 .f32 :=
  fun j => X (ix3 (j 0) (j 1) (j 2)) + (Scalar.ofBits .f32 0x3F000000#32 : Ideal .f32) * G (ix2 (j 0) (j 2))
    * entry (fun e => H (ix3 (j 0) (j 1) e)) (fun e => W (ix3 0 e (j 2)))

section
variable (v0 : FVec Ideal S1x512x2816 .bf16) (v1 : FVec Ideal S2816x1024 .bf16) (v2 : FVec Ideal S1x512x1024 .f32) (v3 : FVec Ideal S1x1x1024 .f32)
  (z : Fin 1) (p : Fin 512) (k : Fin 1024)

theorem value_at : k0_pay2 (F := Ideal) v0 v1 (ix3 z p k) = entry (fun e => v0 (ix3 0 p e)) (fun e => v1 (ix2 e k)) := by
  unfold entry
  pointwise [k0_pay2, k0_pay1]

theorem added_at : k0_pay3 (F := Ideal) v0 v1 v2 v3 (ix3 z p k) = v2 (ix3 0 p k)
    + (Scalar.ofBits .f32 0x3F000000#32 : Ideal .f32) * v3 (ix3 0 0 k) * entry (fun e => v0 (ix3 0 p e)) (fun e => v1 (ix2 e k)) := by
  unfold entry
  pointwise [k0_pay3, k0_pay1]

end

theorem row_at (G : FVec Ideal S4x1024 .f32) (b : Fin 4) (z : Fin 1) (k : Fin 1024) :
    (broadcastInDim S4x1x1024 ![0, 2] bcast_S4x1024_S4x1x1024_0_2 G : FVec Ideal S4x1x1024 .f32) (ix3 b z k) = G (ix2 b k) := by
  pointwise

theorem weights_at (W : FVec Ideal S1x2816x1024 .f32) (e : Fin 2816) (k : Fin 1024) :
    (truncf .bf16 (shapeCast S2816x1024 W shapeCasts_S1x2816x1024_S2816x1024) bitsLt_bf16_f32 : FVec Ideal S2816x1024 .bf16) (ix2 e k) = W (ix3 0 e k) := by
  pointwise

theorem idx : ∀ t : Fin cfg0.N, win0_0.index t = ![t.val / 4, t.val % 4, 0] ∧ win0_1.index t = ![0, 0] ∧ win0_2.index t = ![t.val / 4, t.val % 4, 0] ∧ win0_3.index t =
    ![t.val / 4, 0, 0] ∧ win0_4.index t = ![t.val / 4, t.val % 4, 0] ∧ win0_5.index t = ![t.val / 4, t.val % 4, 0] :=
  (by decide +kernel : ∀ t : Fin grid0.N, _)

theorem point_lt (t : Fin cfg0.N) : t.val / 4 < 4 := by have := lt_of_lt_of_eq t.isLt N_0; omega

theorem lane_lt (t : Fin cfg0.N) (p : Fin 512) : t.val % 4 * 512 + p.val < 2048 := by omega

section
variable (m : (ℓ : Loc nD τ sig) → Buf (Elt Ideal) ℓ) (c : Dev nD) (t : Fin cfg0.N)

theorem blk0 (z : Fin 1) (p : Fin 512) (k : Fin 2816) : iblk m c 0 t (ix3 z p k)
    = (m (c.tc.loc main_arg0) : FVec Ideal S4x2048x2816 .f32) (ix3 ⟨t.val / 4, point_lt t⟩ ⟨t.val % 4 * 512 + p.val, lane_lt t p⟩ k) := by
  blk_point [iblk, V, idx t]

theorem blk1 (e : Fin 2816) (k : Fin 1024) : iblk m c 1 t (ix2 e k) = (m (c.tc.loc main_arg1) : FVec Ideal S1x2816x1024 .f32) (ix3 0 e k) := by
  have hv : V m c main_v2 = (truncf .bf16 (shapeCast S2816x1024 (m (c.tc.loc main_arg1)) shapeCasts_S1x2816x1024_S2816x1024) bitsLt_bf16_f32 : FVec Ideal S2816x1024 .bf16) := by
    unfold V
    rfl
  refine Eq.trans ?_ ((congrFun hv _).trans (weights_at _ e k))
  blk_point [iblk, idx t]

theorem blk2 (z : Fin 1) (p : Fin 512) (k : Fin 1024) : iblk m c 2 t (ix3 z p k)
    = (m (c.tc.loc main_arg2) : FVec Ideal S4x2048x1024 .f32) (ix3 ⟨t.val / 4, point_lt t⟩ ⟨t.val % 4 * 512 + p.val, lane_lt t p⟩ k) := by
  blk_point [iblk, V, idx t]

theorem blk3 (z z' : Fin 1) (k : Fin 1024) : iblk m c 3 t (ix3 z z' k) = (m (c.tc.loc main_arg3) : FVec Ideal S4x1024 .f32) (ix2 ⟨t.val / 4, point_lt t⟩ k) := by
  have hv : V m c main_v3 = (broadcastInDim S4x1x1024 ![0, 2] bcast_S4x1024_S4x1x1024_0_2 (m (c.tc.loc main_arg3)) : FVec Ideal S4x1x1024 .f32) := by
    unfold V
    rfl
  refine Eq.trans ?_ ((congrFun hv _).trans (row_at _ ⟨t.val / 4, point_lt t⟩ 0 k))
  blk_point [iblk, idx t]

theorem final4 : (dats m 0 c).arrAt 4 cfg0.N = value (m (c.tc.loc main_arg0)) (m (c.tc.loc main_arg1)) := by
  refine (dats m 0 c).arrAt_eq_of_covers 4 _ (by decide +kernel) fun t _ y => ?_
  blk_simp
  rw [after0_4, show out0_4 (F := Ideal) (iblk m c 0 t) (iblk m c 1 t) (iblk m c 2 t) (iblk m c 3 t)
    = k0_pay2 (F := Ideal) (iblk m c 0 t) (iblk m c 1 t) from by unfold out0_4; frame_out]
  idx_vars y
  rw [value_at]
  simp only [blk0, blk1]
  rw [show ((View.whole main_v4_0).slice (win0_4.rect t)).emb (ix3 y0 y1 y2)
    = ix3 ⟨t.val / 4, point_lt t⟩ ⟨t.val % 4 * 512 + y1.val, lane_lt t y1⟩ y2 from by blk_ext [idx t]]
  rfl

theorem final5 : (dats m 0 c).arrAt 5 cfg0.N = added (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5, show out0_5 (F := Ideal) (iblk m c 0 t) (iblk m c 1 t) (iblk m c 2 t) (iblk m c 3 t)
    = k0_pay3 (F := Ideal) (iblk m c 0 t) (iblk m c 1 t) (iblk m c 2 t) (iblk m c 3 t) from by unfold out0_5; frame_out]
  idx_vars y
  rw [added_at]
  simp only [blk0, blk1, blk2, blk3]
  rw [show ((View.whole main_v4_1).slice (win0_5.rect t)).emb (ix3 y0 y1 y2)
    = ix3 ⟨t.val / 4, point_lt t⟩ ⟨t.val % 4 * 512 + y1.val, lane_lt t y1⟩ y2 from by blk_ext [idx t]]
  rfl

end

end Cert.DownFValue

namespace Cert.DownFReference

open Cert.DownFValue Cert.ReferenceDownFIdeal Cert.ReferenceDownFIdeal.Facts₀ Idealize.ShloMosaic Idealize.ShloMosaic.TcCoe Idealize.SL.Sem

section
variable (H : FVec Ideal S4x2048x2816 .f32) (W : FVec Ideal S1x2816x1024 .f32) (X : FVec Ideal S4x2048x1024 .f32) (G : FVec Ideal S4x1024 .f32)
  (b : Fin 4) (s : Fin 2048) (k : Fin 1024)

theorem ref0_at :
    (truncf .bf16 (Host.dotGeneral dot_S4x2048x2816_S2816x1024_S4x2048x1024_2_0_01_1_n_n none H (shapeCast _ W
      shapeCasts_S1x2816x1024_S2816x1024)) bitsLt_bf16_f32
      : FVec Ideal S4x2048x1024 .bf16) (ix3 b s k) = entry (fun e => H (ix3 b s e)) (fun e => W (ix3 0 e k)) := by
  unfold entry
  pointwise

theorem ref1_at :
    (addf X (mulf (broadcastInDim S4x2048x1024 ![0, 1, 2] bcast_S4x1x1024_S4x2048x1024_0_1_2 (mulf (broadcastInDim S4x1x1024 ![]
      bcast_S_S4x1x1024 (constant S_ .f32 0x3F000000#32)) (broadcastInDim S4x1x1024 ![0, 2] bcast_S4x1024_S4x1x1024_0_2 G))) (Host.dotGeneral
      dot_S4x2048x2816_S2816x1024_S4x2048x1024_2_0_01_1_n_n none H (shapeCast _ W shapeCasts_S1x2816x1024_S2816x1024)))
      : FVec Ideal S4x2048x1024 .f32) (ix3 b s k) = X (ix3 b s k)
    + (Scalar.ofBits .f32 0x3F000000#32 : Ideal .f32) * G (ix2 b k) * entry (fun e => H (ix3 b s e)) (fun e => W (ix3 0 e k)) := by
  unfold entry
  pointwise

end

end Cert.DownFReference

namespace Cert.DownFClaim

open Cert.DownFValue Cert.DownFReference Cert.KernelDownFIdeal Cert.KernelDownFIdeal.Gen Idealize.ShloMosaic Idealize.ShloMosaic.TcCoe
open Idealize.SL.Sem

theorem algebraic : Cert.algebraic_KernelDownFIdeal_ReferenceDownFIdeal := by
  intro m g m' g' hpre hargs
  refine ⟨_, _, Value.run_blocks m g, ?_⟩
  refine (θ_run Cert.ReferenceDownFIdeal.defs _ _).mono (fun r h c => ?_) (ReferenceDownFIdeal.Value.run m' g')
  obtain ⟨h0, h1, h2, h3⟩ := hargs c
  obtain ⟨e0, e1, hr⟩ := h c
  refine ⟨e0.trans ?_, e1.trans ?_, hr⟩
  all_goals
    clear hr h
  · rw [final4, h0, h1]
    funext j
    idx_vars j
    exact ref0_at _ _ j0 j1 j2
  · rw [final5, h0, h1, h2, h3]
    funext j
    idx_vars j
    exact ref1_at _ _ _ _ j0 j1 j2

end Cert.DownFClaim

end
-- ==== Proof.ConvFClaim.lean ====
/-
The forward gated convolution, kernel and reference, equal.
-/
module

public import proofs.«01_k».proof.Defs
public import proofs.«01_k».proof.Proof.ConvReference
public import proofs.«01_k».proof.Proof.Gen.KernelConvFIdeal.Value
public import proofs.«01_k».proof.Proof.Gen.ReferenceConvFIdeal.Run
public import Idealize.ShloMosaic.Lib.Pipeline.ReadBack

@[expose] public section

set_option maxRecDepth 16384

noncomputable section

namespace Cert.ConvFValue

open Cert.ConvBlock (extAt)
open Cert.ConvValue (late gateB gateC val cv conv taps_at)
open Cert.KernelConvFIdeal Cert.KernelConvFIdeal.Gen Idealize.ShloMosaic Idealize.ShloMosaic.TcCoe Idealize.SL.Sem

section
variable (P : FVec Ideal S4x2048x3072 .f32) (w : FVec Ideal S1x3x1024 .f32)

/-- The gated convolution of a position. -/
def outAt (b : Fin 4) (s : Fin 2048) (k : Fin 1024) : EReal := gateB P b k s * conv P w b k s

def out : FVec Ideal S4x2048x1024 .bf16 := fun j => outAt P w (j 0) (j 1) (j 2)

end

section
variable (i : grid0.Coords) (v0 v1 v2 : FVec Ideal S1x512x1024 .bf16) (v3 v4 : FVec Ideal S1x16x1024 .bf16) (v5 : FVec Ideal S8x1024 .f32)
  (z : Fin 1) (p : Fin 512) (k : Fin 1024)

/-- The block's convolution is the one that the gradient's block convolves with. -/
theorem conv_eq : k0_pay2 (F := Ideal) i v1 v2 v3 v4 v5 = Cert.KernelConvIdeal.Gen.k0_pay13 (F := Ideal) i v5 v1 v2 v3 v4 := rfl

theorem out_at : k0_pay1 (F := Ideal) (k0_pay2 i v1 v2 v3 v4 v5) (k0_pay3 v0) (ix3 z p k)
    = v0 (ix3 0 p k) * k0_pay2 (F := Ideal) i v1 v2 v3 v4 v5 (ix2 p k) := by
  generalize k0_pay2 (F := Ideal) i v1 v2 v3 v4 v5 = D
  pointwise [k0_pay1, k0_pay3]

end

theorem idx : ∀ t : Fin cfg0.N, win0_0.index t = ![t.val / 4, t.val % 4, 0] ∧ win0_1.index t = ![t.val / 4, t.val % 4, 1] ∧ win0_2.index t = ![t.val / 4, t.val % 4, 2] ∧
    win0_3.index t = ![t.val / 4, t.val % 4 * 32 - 1, 1] ∧ win0_4.index t = ![t.val / 4, t.val % 4 * 32 - 1, 2] ∧ win0_5.index t = ![0, 0] ∧
    win0_6.index t = ![t.val / 4, t.val % 4, 0] :=
  (by decide +kernel : ∀ t : Fin grid0.N, _)

theorem coord : ∀ t : Fin cfg0.N, (grid0.coords t 1).val = t.val % 4 :=
  (by decide +kernel : ∀ t : Fin grid0.N, _)

theorem point_lt (t : Fin cfg0.N) : t.val / 4 < 4 := by have := lt_of_lt_of_eq t.isLt N_0; omega

theorem lane_lt (t : Fin cfg0.N) (p : Fin 512) : t.val % 4 * 512 + p.val < 2048 := by omega

theorem prev_lt (t : Fin cfg0.N) (p : Fin 16) : (t.val % 4 * 32 - 1) * 16 + p.val < 2048 := by omega

section
variable (m : (ℓ : Loc nD τ sig) → Buf (Elt Ideal) ℓ) (c : Dev nD) (t : Fin cfg0.N)

theorem blk0 (z : Fin 1) (p : Fin 512) (k : Fin 1024) : iblk m c 0 t (ix3 z p k)
    = gateB (m (c.tc.loc main_arg0)) ⟨t.val / 4, point_lt t⟩ k ⟨t.val % 4 * 512 + p.val, lane_lt t p⟩ := by
  unfold gateB
  blk_point [iblk, V, idx t]

theorem blk1 (z : Fin 1) (p : Fin 512) (k : Fin 1024) : iblk m c 1 t (ix3 z p k)
    = gateC (m (c.tc.loc main_arg0)) ⟨t.val / 4, point_lt t⟩ k ⟨t.val % 4 * 512 + p.val, lane_lt t p⟩ := by
  unfold gateC
  blk_point [iblk, V, idx t]

theorem blk2 (z : Fin 1) (p : Fin 512) (k : Fin 1024) : iblk m c 2 t (ix3 z p k)
    = val (m (c.tc.loc main_arg0)) ⟨t.val / 4, point_lt t⟩ k ⟨t.val % 4 * 512 + p.val, lane_lt t p⟩ := by
  unfold val
  blk_point [iblk, V, idx t]

theorem blk3 (z : Fin 1) (p : Fin 16) (k : Fin 1024) : iblk m c 3 t (ix3 z p k)
    = gateC (m (c.tc.loc main_arg0)) ⟨t.val / 4, point_lt t⟩ k ⟨(t.val % 4 * 32 - 1) * 16 + p.val, prev_lt t p⟩ := by
  unfold gateC
  blk_point [iblk, V, idx t]

theorem blk4 (z : Fin 1) (p : Fin 16) (k : Fin 1024) : iblk m c 4 t (ix3 z p k)
    = val (m (c.tc.loc main_arg0)) ⟨t.val / 4, point_lt t⟩ k ⟨(t.val % 4 * 32 - 1) * 16 + p.val, prev_lt t p⟩ := by
  unfold val
  blk_point [iblk, V, idx t]

theorem blk5 (r : Fin 8) (r' : Fin 3) (h : r'.val = r.val) (k : Fin 1024) :
    iblk m c 5 t (ix2 r k) = (m (c.tc.loc main_arg1) : FVec Ideal S1x3x1024 .f32) (ix3 0 r' k) := by
  have hv : V m c main_v1 = (pad S8x1024 ![0, 0] ![5, 0] ![0, 0] (shapeCast S3x1024 (m (c.tc.loc main_arg1)) shapeCasts_S1x3x1024_S3x1024)
      (sitofp .f32 (constantI S_ 32 0#32)) pads_S3x1024_S8x1024_050_000 h_S_ : FVec Ideal S8x1024 .f32) := by
    unfold V
    rfl
  refine Eq.trans ?_ ((congrFun hv _).trans (taps_at _ _ r r' h k))
  blk_point [iblk, idx t]

theorem mul_eq {x y a b : EReal} (h : x = a) (h' : y = b) : x * y = a * b := by rw [h, h']

/-- A block with the rows before it holds the gated values some positions late. -/
theorem lateF (n : Nat) (hn : n ≤ 16) (p : Fin 512) (k : Fin 1024) (r : Fin 528) (hr : r.val + n = p.val + 16) :
    extAt (grid0.coords t) (iblk m c 1 t) (iblk m c 2 t) (iblk m c 3 t) (iblk m c 4 t) r k
      = late n (cv (m (c.tc.loc main_arg0)) ⟨t.val / 4, point_lt t⟩ k) ⟨t.val % 4 * 512 + p.val, lane_lt t p⟩ := by
  have hc : (Cert.KernelConvIdeal.grid0.coords t 1).val = t.val % 4 := coord t
  unfold extAt late
  by_cases h : r.val < 16
  · rw [dif_pos h]
    by_cases h0 : t.val % 4 = 0
    · rw [dif_neg (by dsimp only; omega)]
      exact if_pos (hc.trans h0)
    · rw [dif_pos (by dsimp only; omega)]
      refine (if_neg (fun e => h0 (hc.symm.trans e))).trans ?_
      refine (mul_eq (blk3 m c t 0 ⟨r.val, h⟩ k) (blk4 m c t 0 ⟨r.val, h⟩ k)).trans ?_
      exact congrArg (cv (m (c.tc.loc main_arg0)) ⟨t.val / 4, point_lt t⟩ k) (Fin.ext (by show (t.val % 4 * 32 - 1) * 16 + r.val = t.val % 4 * 512 + p.val - n; omega))
  · rw [dif_neg h, dif_pos (by dsimp only; omega)]
    refine (mul_eq (blk1 m c t 0 ⟨r.val - 16, by omega⟩ k) (blk2 m c t 0 ⟨r.val - 16, by omega⟩ k)).trans ?_
    exact congrArg (cv (m (c.tc.loc main_arg0)) ⟨t.val / 4, point_lt t⟩ k) (Fin.ext (by show t.val % 4 * 512 + (r.val - 16) = t.val % 4 * 512 + p.val - n; omega))

theorem convF_at (p : Fin 512) (k : Fin 1024) :
    k0_pay2 (F := Ideal) (grid0.coords t) (iblk m c 1 t) (iblk m c 2 t) (iblk m c 3 t) (iblk m c 4 t) (iblk m c 5 t) (ix2 p k)
      = conv (m (c.tc.loc main_arg0)) (m (c.tc.loc main_arg1)) ⟨t.val / 4, point_lt t⟩ k ⟨t.val % 4 * 512 + p.val, lane_lt t p⟩ := by
  rw [conv_eq]
  refine (Cert.ConvBlock.conv_at _ _ _ _ _ _ _ _).trans ?_
  rw [lateF m c t 2 (by omega) p k _ rfl, lateF m c t 1 (by omega) p k _ rfl,
    blk5 m c t 0 0 rfl, blk5 m c t 1 1 rfl, blk5 m c t 2 2 rfl]
  unfold conv
  refine congrArg₂ (· + ·) rfl (congrArg₂ (· * ·) rfl ?_)
  exact mul_eq (blk1 m c t 0 p k) (blk2 m c t 0 p k)

theorem final6 : (dats m 0 c).arrAt 6 cfg0.N = out (m (c.tc.loc main_arg0)) (m (c.tc.loc main_arg1)) := by
  refine (dats m 0 c).arrAt_eq_of_covers 6 _ (by decide +kernel) fun t _ y => ?_
  blk_simp
  rw [after0_6, show out0_6 (F := Ideal) (grid0.coords t) (iblk m c 0 t) (iblk m c 1 t) (iblk m c 2 t) (iblk m c 3 t) (iblk m c 4 t) (iblk m c 5 t)
    = k0_pay1 (F := Ideal) (k0_pay2 (grid0.coords t) (iblk m c 1 t) (iblk m c 2 t) (iblk m c 3 t) (iblk m c 4 t) (iblk m c 5 t)) (k0_pay3 (iblk m c 0 t)) from by unfold out0_6; frame_out]
  idx_vars y
  rw [out_at, convF_at, blk0]
  rw [show ((View.whole main_v3).slice (win0_6.rect t)).emb (ix3 y0 y1 y2)
    = ix3 ⟨t.val / 4, point_lt t⟩ ⟨t.val % 4 * 512 + y1.val, lane_lt t y1⟩ y2 from by blk_ext [idx t]]
  rfl

end

end Cert.ConvFValue

namespace Cert.ConvFReference

open Cert.ConvValue (gateB)
open Cert.ConvReference (convA convA_at)
open Cert.ConvFValue Cert.ReferenceConvFIdeal Cert.ReferenceConvFIdeal.Facts₀ Idealize.ShloMosaic Idealize.ShloMosaic.TcCoe Idealize.SL.Sem

theorem ref_at (P : FVec Ideal S4x2048x3072 .f32) (W : FVec Ideal S1x3x1024 .f32) (b : Fin 4) (s : Fin 2048) (k : Fin 1024) :
    (truncf .bf16 (mulf (extractStridedSlice S4x2048x1024 ![0, 0, 0] P slices_S4x2048x3072_S4x2048x1024_0_0_0) (addf (addf (mulf (concatenate
      S4x2048x1024 1 [⟨S4x2x1024, (broadcastInDim S4x2x1024 ![] bcast_S_S4x2x1024 (constant S_ .f32 0x00000000#32))⟩, ⟨S4x2046x1024,
      (extractStridedSlice S4x2046x1024 ![0, 0, 0] (mulf (extractStridedSlice S4x2048x1024 ![0, 0, 1024] P
      slices_S4x2048x3072_S4x2048x1024_0_0_1024) (extractStridedSlice S4x2048x1024 ![0, 0, 2048] P slices_S4x2048x3072_S4x2048x1024_0_0_2048))
      slices_S4x2048x1024_S4x2046x1024_0_0_0)⟩] concatenates_S4x2x1024_S4x2046x1024_S4x2048x1024_d1) (broadcastInDim S4x2048x1024 ![0, 1, 2]
      bcast_S1x1x1024_S4x2048x1024_0_1_2 (broadcastInDim S1x1x1024 ![2] bcast_S1024_S1x1x1024_2 (shapeCast _ (extractStridedSlice S1x1024 ![0, 0]
      (shapeCast _ W shapeCasts_S1x3x1024_S3x1024) slices_S3x1024_S1x1024_0_0) shapeCasts_S1x1024_S1024)))) (mulf (concatenate S4x2048x1024 1
      [⟨S4x1x1024, (broadcastInDim S4x1x1024 ![] bcast_S_S4x1x1024 (constant S_ .f32 0x00000000#32))⟩, ⟨S4x2047x1024, (extractStridedSlice
      S4x2047x1024 ![0, 0, 0] (mulf (extractStridedSlice S4x2048x1024 ![0, 0, 1024] P slices_S4x2048x3072_S4x2048x1024_0_0_1024)
      (extractStridedSlice S4x2048x1024 ![0, 0, 2048] P slices_S4x2048x3072_S4x2048x1024_0_0_2048)) slices_S4x2048x1024_S4x2047x1024_0_0_0)⟩]
      concatenates_S4x1x1024_S4x2047x1024_S4x2048x1024_d1) (broadcastInDim S4x2048x1024 ![0, 1, 2] bcast_S1x1x1024_S4x2048x1024_0_1_2
      (broadcastInDim S1x1x1024 ![2] bcast_S1024_S1x1x1024_2 (shapeCast _ (extractStridedSlice S1x1024 ![1, 0] (shapeCast _ W
      shapeCasts_S1x3x1024_S3x1024) slices_S3x1024_S1x1024_1_0) shapeCasts_S1x1024_S1024))))) (mulf (mulf (extractStridedSlice S4x2048x1024 ![0,
      0, 1024] P slices_S4x2048x3072_S4x2048x1024_0_0_1024) (extractStridedSlice S4x2048x1024 ![0, 0, 2048] P
      slices_S4x2048x3072_S4x2048x1024_0_0_2048)) (broadcastInDim S4x2048x1024 ![0, 1, 2] bcast_S1x1x1024_S4x2048x1024_0_1_2 (broadcastInDim
      S1x1x1024 ![2] bcast_S1024_S1x1x1024_2 (shapeCast _ (extractStridedSlice S1x1024 ![2, 0] (shapeCast _ W shapeCasts_S1x3x1024_S3x1024)
      slices_S3x1024_S1x1024_2_0) shapeCasts_S1x1024_S1024)))))) bitsLt_bf16_f32
      : FVec Ideal S4x2048x1024 .bf16) (ix3 b s k) = outAt P W b s k := by
  show (mulf (extractStridedSlice S4x2048x1024 ![0, 0, 0] P slices_S4x2048x3072_S4x2048x1024_0_0_0) (convA P W) : FVec Ideal S4x2048x1024 .f32)
    (ix3 b s k) = _
  refine (?_ : _ = P (ix3 b s ⟨k.val, by omega⟩) * convA P W (ix3 b s k)).trans (congrArg₂ (· * ·) (by unfold gateB; rfl) (convA_at P W b s k))
  generalize convA P W = D
  pointwise

end Cert.ConvFReference

namespace Cert.ConvFClaim

open Cert.ConvFValue Cert.ConvFReference Cert.KernelConvFIdeal Cert.KernelConvFIdeal.Gen Idealize.ShloMosaic Idealize.ShloMosaic.TcCoe
open Idealize.SL.Sem

theorem algebraic : Cert.algebraic_KernelConvFIdeal_ReferenceConvFIdeal := by
  intro m g m' g' hpre hargs
  refine ⟨_, Value.run_blocks m g, ?_⟩
  refine (θ_run Cert.ReferenceConvFIdeal.defs _ _).mono (fun r h c => ?_) (ReferenceConvFIdeal.Value.run m' g')
  obtain ⟨h0, h1⟩ := hargs c
  obtain ⟨e0, hr⟩ := h c
  refine ⟨e0.trans ?_, hr⟩
  all_goals
    clear hr h
  · rw [final6, h0, h1]
    funext j
    idx_vars j
    exact ref_at _ _ j0 j1 j2

end Cert.ConvFClaim

end
-- ==== Proof.MergeFClaim.lean ====
/-
The forward merge of the two branches, kernel and reference, equal.
-/
module

public import proofs.«01_k».proof.Defs
public import proofs.«01_k».proof.Proof.NormGrad
public import proofs.«01_k».proof.Proof.Gen.KernelMergeFIdeal.Value
public import proofs.«01_k».proof.Proof.Gen.ReferenceMergeFIdeal.Run
public import Idealize.ShloMosaic.Lib.Pipeline.ReadBack

@[expose] public section

set_option maxRecDepth 16384

noncomputable section

namespace Cert.MergeFValue

open Cert.KernelMergeFIdeal Cert.KernelMergeFIdeal.Gen Idealize.ShloMosaic Idealize.ShloMosaic.TcCoe Idealize.SL.Sem

/-- A merged entry. -/
def entry (ga gb ya yb : EReal) : EReal := Ideal.logistic ga * ya + Ideal.logistic gb * yb

section
variable (YA YB : FVec Ideal S4x2048x1024 .f32) (P : FVec Ideal S4x2048x2048 .f32) (W : FVec Ideal S1x1024x1024 .f32)
  (X : FVec Ideal S4x2048x1024 .f32) (G : FVec Ideal S4x1024 .f32)

/-- The merged entry of a position. -/
def mergedAt (b : Fin 4) (s : Fin 2048) (k : Fin 1024) : EReal :=
  entry (P (ix3 b s ⟨k.val, by omega⟩)) (P (ix3 b s ⟨1024 + k.val, by omega⟩)) (YA (ix3 b s k)) (YB (ix3 b s k))

/-- The projected entry of a position. -/
def mixAt (b : Fin 4) (s : Fin 2048) (k : Fin 1024) : EReal := ∑ e : Fin 1024, mergedAt YA YB P b s e * W (ix3 0 e k)

def merged : FVec Ideal S4x2048x1024 .bf16 := fun j => mergedAt YA YB P (j 0) (j 1) (j 2)

def mixed : FVec Ideal S4x2048x1024 .bf16 := fun j => mixAt YA YB P W (j 0) (j 1) (j 2)

/-- The rows with the scaled projection added. -/
def added : FVec Ideal S4x2048x1024 .f32 := fun j => X (ix3 (j 0) (j 1) (j 2)) + G (ix2 (j 0) (j 2)) * mixAt YA YB P W (j 0) (j 1) (j 2)

end

section
variable (v0 v1 v2 v3 : FVec Ideal S1x512x1024 .bf16) (v4 : FVec Ideal S1024x1024 .bf16) (v5 : FVec Ideal S1x512x1024 .f32)
  (v6 : FVec Ideal S1x1x1024 .f32) (z : Fin 1) (p : Fin 512) (k : Fin 1024)

theorem merged_at : k0_pay4 (F := Ideal) v2 v0 v3 v1 (ix3 z p k) = entry (v2 (ix3 0 p k)) (v3 (ix3 0 p k)) (v0 (ix3 0 p k)) (v1 (ix3 0 p k)) := by
  unfold entry
  pointwise [k0_pay4, k0_pay2]

theorem mix_at : k0_pay3 (F := Ideal) v2 v0 v3 v1 v4 (ix2 p k)
    = ∑ e : Fin 1024, entry (v2 (ix3 0 p e)) (v3 (ix3 0 p e)) (v0 (ix3 0 p e)) (v1 (ix3 0 p e)) * v4 (ix2 e k) := by
  unfold entry
  pointwise [k0_pay3, k0_pay2]

theorem mixed_at : k0_pay5 (F := Ideal) v2 v0 v3 v1 v4 (ix3 z p k) = k0_pay3 (F := Ideal) v2 v0 v3 v1 v4 (ix2 p k) := by
  pointwise [k0_pay5]

theorem added_at (D : FVec Ideal S512x1024 .f32) : k0_pay1 (F := Ideal) D (k0_pay6 v5) v6 (ix3 z p k)
    = v5 (ix3 0 p k) + v6 (ix3 0 0 k) * D (ix2 p k) := by
  pointwise [k0_pay1, k0_pay6]

end

theorem row_at (G : FVec Ideal S4x1024 .f32) (b : Fin 4) (z : Fin 1) (k : Fin 1024) :
    (broadcastInDim S4x1x1024 ![0, 2] bcast_S4x1024_S4x1x1024_0_2 G : FVec Ideal S4x1x1024 .f32) (ix3 b z k) = G (ix2 b k) := by
  pointwise

theorem weights_at (W : FVec Ideal S1x1024x1024 .f32) (e : Fin 1024) (k : Fin 1024) :
    (truncf .bf16 (shapeCast S1024x1024 W shapeCasts_S1x1024x1024_S1024x1024) bitsLt_bf16_f32 : FVec Ideal S1024x1024 .bf16) (ix2 e k) = W (ix3 0 e k) := by
  pointwise

theorem idx : ∀ t : Fin cfg0.N, win0_0.index t = ![t.val / 4, t.val % 4, 0] ∧ win0_1.index t = ![t.val / 4, t.val % 4, 0] ∧ win0_2.index t = ![t.val / 4, t.val % 4, 0] ∧
    win0_3.index t = ![t.val / 4, t.val % 4, 1] ∧ win0_4.index t = ![0, 0] ∧ win0_5.index t = ![t.val / 4, t.val % 4, 0] ∧ win0_6.index t =
    ![t.val / 4, 0, 0] ∧ win0_7.index t = ![t.val / 4, t.val % 4, 0] ∧ win0_8.index t = ![t.val / 4, t.val % 4, 0] ∧ win0_9.index t = ![t.val /
    4, t.val % 4, 0] :=
  (by decide +kernel : ∀ t : Fin grid0.N, _)

theorem point_lt (t : Fin cfg0.N) : t.val / 4 < 4 := by have := lt_of_lt_of_eq t.isLt N_0; omega

theorem lane_lt (t : Fin cfg0.N) (p : Fin 512) : t.val % 4 * 512 + p.val < 2048 := by omega

section
variable (m : (ℓ : Loc nD τ sig) → Buf (Elt Ideal) ℓ) (c : Dev nD) (t : Fin cfg0.N)

theorem blk0 (z : Fin 1) (p : Fin 512) (k : Fin 1024) : iblk m c 0 t (ix3 z p k)
    = (m (c.tc.loc main_arg0) : FVec Ideal S4x2048x1024 .f32) (ix3 ⟨t.val / 4, point_lt t⟩ ⟨t.val % 4 * 512 + p.val, lane_lt t p⟩ k) := by
  blk_point [iblk, V, idx t]

theorem blk1 (z : Fin 1) (p : Fin 512) (k : Fin 1024) : iblk m c 1 t (ix3 z p k)
    = (m (c.tc.loc main_arg1) : FVec Ideal S4x2048x1024 .f32) (ix3 ⟨t.val / 4, point_lt t⟩ ⟨t.val % 4 * 512 + p.val, lane_lt t p⟩ k) := by
  blk_point [iblk, V, idx t]

theorem blk2 (z : Fin 1) (p : Fin 512) (k : Fin 1024) : iblk m c 2 t (ix3 z p k)
    = (m (c.tc.loc main_arg2) : FVec Ideal S4x2048x2048 .f32) (ix3 ⟨t.val / 4, point_lt t⟩ ⟨t.val % 4 * 512 + p.val, lane_lt t p⟩ ⟨k.val, by omega⟩) := by
  blk_point [iblk, V, idx t]

theorem blk3 (z : Fin 1) (p : Fin 512) (k : Fin 1024) : iblk m c 3 t (ix3 z p k)
    = (m (c.tc.loc main_arg2) : FVec Ideal S4x2048x2048 .f32) (ix3 ⟨t.val / 4, point_lt t⟩ ⟨t.val % 4 * 512 + p.val, lane_lt t p⟩ ⟨1024 + k.val, by omega⟩) := by
  blk_point [iblk, V, idx t]

theorem blk4 (e : Fin 1024) (k : Fin 1024) : iblk m c 4 t (ix2 e k) = (m (c.tc.loc main_arg3) : FVec Ideal S1x1024x1024 .f32) (ix3 0 e k) := by
  have hv : V m c main_v4 = (truncf .bf16 (shapeCast S1024x1024 (m (c.tc.loc main_arg3)) shapeCasts_S1x1024x1024_S1024x1024) bitsLt_bf16_f32 : FVec Ideal S1024x1024 .bf16) := by
    unfold V
    rfl
  refine Eq.trans ?_ ((congrFun hv _).trans (weights_at _ e k))
  blk_point [iblk, idx t]

theorem blk5 (z : Fin 1) (p : Fin 512) (k : Fin 1024) : iblk m c 5 t (ix3 z p k)
    = (m (c.tc.loc main_arg4) : FVec Ideal S4x2048x1024 .f32) (ix3 ⟨t.val / 4, point_lt t⟩ ⟨t.val % 4 * 512 + p.val, lane_lt t p⟩ k) := by
  blk_point [iblk, V, idx t]

theorem blk6 (z z' : Fin 1) (k : Fin 1024) : iblk m c 6 t (ix3 z z' k) = (m (c.tc.loc main_arg5) : FVec Ideal S4x1024 .f32) (ix2 ⟨t.val / 4, point_lt t⟩ k) := by
  have hv : V m c main_v5 = (broadcastInDim S4x1x1024 ![0, 2] bcast_S4x1024_S4x1x1024_0_2 (m (c.tc.loc main_arg5)) : FVec Ideal S4x1x1024 .f32) := by
    unfold V
    rfl
  refine Eq.trans ?_ ((congrFun hv _).trans (row_at _ ⟨t.val / 4, point_lt t⟩ 0 k))
  blk_point [iblk, idx t]

theorem final7 : (dats m 0 c).arrAt 7 cfg0.N = merged (m (c.tc.loc main_arg0)) (m (c.tc.loc main_arg1)) (m (c.tc.loc main_arg2)) := by
  refine (dats m 0 c).arrAt_eq_of_covers 7 _ (by decide +kernel) fun t _ y => ?_
  blk_simp
  rw [after0_7, show out0_7 (F := Ideal) (iblk m c 0 t) (iblk m c 1 t) (iblk m c 2 t) (iblk m c 3 t) (iblk m c 4 t) (iblk m c 5 t) (iblk m c 6 t)
    = k0_pay4 (F := Ideal) (iblk m c 2 t) (iblk m c 0 t) (iblk m c 3 t) (iblk m c 1 t) from by unfold out0_7; frame_out]
  idx_vars y
  rw [merged_at, blk0, blk1, blk2, blk3]
  rw [show ((View.whole main_v6_0).slice (win0_7.rect t)).emb (ix3 y0 y1 y2)
    = ix3 ⟨t.val / 4, point_lt t⟩ ⟨t.val % 4 * 512 + y1.val, lane_lt t y1⟩ y2 from by blk_ext [idx t]]
  rfl

theorem final8 : (dats m 0 c).arrAt 8 cfg0.N = mixed (m (c.tc.loc main_arg0)) (m (c.tc.loc main_arg1)) (m (c.tc.loc main_arg2)) (m (c.tc.loc main_arg3)) := by
  refine (dats m 0 c).arrAt_eq_of_covers 8 _ (by decide +kernel) fun t _ y => ?_
  blk_simp
  rw [after0_8, show out0_8 (F := Ideal) (iblk m c 0 t) (iblk m c 1 t) (iblk m c 2 t) (iblk m c 3 t) (iblk m c 4 t) (iblk m c 5 t) (iblk m c 6 t)
    = k0_pay5 (F := Ideal) (iblk m c 2 t) (iblk m c 0 t) (iblk m c 3 t) (iblk m c 1 t) (iblk m c 4 t) from by unfold out0_8; frame_out]
  idx_vars y
  rw [mixed_at, mix_at]
  simp only [blk0, blk1, blk2, blk3, blk4]
  rw [show ((View.whole main_v6_1).slice (win0_8.rect t)).emb (ix3 y0 y1 y2)
    = ix3 ⟨t.val / 4, point_lt t⟩ ⟨t.val % 4 * 512 + y1.val, lane_lt t y1⟩ y2 from by blk_ext [idx t]]
  rfl

theorem final9 : (dats m 0 c).arrAt 9 cfg0.N = added (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 9 _ (by decide +kernel) fun t _ y => ?_
  blk_simp
  rw [after0_9, show out0_9 (F := Ideal) (iblk m c 0 t) (iblk m c 1 t) (iblk m c 2 t) (iblk m c 3 t) (iblk m c 4 t) (iblk m c 5 t) (iblk m c 6 t)
    = k0_pay1 (F := Ideal) (k0_pay3 (iblk m c 2 t) (iblk m c 0 t) (iblk m c 3 t) (iblk m c 1 t) (iblk m c 4 t)) (k0_pay6 (iblk m c 5 t)) (iblk m c 6 t) from by unfold out0_9; frame_out]
  idx_vars y
  rw [added_at, mix_at]
  simp only [blk0, blk1, blk2, blk3, blk4, blk5, blk6]
  rw [show ((View.whole main_v6_2).slice (win0_9.rect t)).emb (ix3 y0 y1 y2)
    = ix3 ⟨t.val / 4, point_lt t⟩ ⟨t.val % 4 * 512 + y1.val, lane_lt t y1⟩ y2 from by blk_ext [idx t]]
  rfl

end

end Cert.MergeFValue

namespace Cert.MergeFReference

open Cert.MergeFValue Cert.ReferenceMergeFIdeal Cert.ReferenceMergeFIdeal.Facts₀ Idealize.ShloMosaic Idealize.ShloMosaic.TcCoe Idealize.SL.Sem

section
variable (A B : FVec Ideal S4x2048x1024 .f32) (P : FVec Ideal S4x2048x2048 .f32) (W : FVec Ideal S1x1024x1024 .f32)
  (X : FVec Ideal S4x2048x1024 .f32) (G : FVec Ideal S4x1024 .f32) (b : Fin 4) (s : Fin 2048) (k : Fin 1024)

theorem ref0_at :
    (truncf .bf16 (addf (mulf (Host.divf (broadcastInDim S4x2048x1024 ![] bcast_S_S4x2048x1024 (constant S_ .f32 0x3F800000#32)) (addf
      (broadcastInDim S4x2048x1024 ![] bcast_S_S4x2048x1024 (constant S_ .f32 0x3F800000#32)) (Host.exp (Host.negf (extractStridedSlice
      S4x2048x1024 ![0, 0, 0] P slices_S4x2048x2048_S4x2048x1024_0_0_0))))) A) (mulf (Host.divf (broadcastInDim S4x2048x1024 ![]
      bcast_S_S4x2048x1024 (constant S_ .f32 0x3F800000#32)) (addf (broadcastInDim S4x2048x1024 ![] bcast_S_S4x2048x1024 (constant S_ .f32
      0x3F800000#32)) (Host.exp (Host.negf (extractStridedSlice S4x2048x1024 ![0, 0, 1024] P slices_S4x2048x2048_S4x2048x1024_0_0_1024))))) B))
      bitsLt_bf16_f32
      : FVec Ideal S4x2048x1024 .bf16) (ix3 b s k) = mergedAt A B P b s k := by
  unfold mergedAt entry Ideal.logistic
  pointwise

theorem ref1_at :
    (truncf .bf16 (Host.dotGeneral dot_S4x2048x1024_S1024x1024_S4x2048x1024_2_0_01_1_n_n none (addf (mulf (Host.divf (broadcastInDim S4x2048x1024
      ![] bcast_S_S4x2048x1024 (constant S_ .f32 0x3F800000#32)) (addf (broadcastInDim S4x2048x1024 ![] bcast_S_S4x2048x1024 (constant S_ .f32
      0x3F800000#32)) (Host.exp (Host.negf (extractStridedSlice S4x2048x1024 ![0, 0, 0] P slices_S4x2048x2048_S4x2048x1024_0_0_0))))) A) (mulf
      (Host.divf (broadcastInDim S4x2048x1024 ![] bcast_S_S4x2048x1024 (constant S_ .f32 0x3F800000#32)) (addf (broadcastInDim S4x2048x1024 ![]
      bcast_S_S4x2048x1024 (constant S_ .f32 0x3F800000#32)) (Host.exp (Host.negf (extractStridedSlice S4x2048x1024 ![0, 0, 1024] P
      slices_S4x2048x2048_S4x2048x1024_0_0_1024))))) B)) (shapeCast _ W shapeCasts_S1x1024x1024_S1024x1024)) bitsLt_bf16_f32
      : FVec Ideal S4x2048x1024 .bf16) (ix3 b s k) = mixAt A B P W b s k := by
  unfold mixAt mergedAt entry Ideal.logistic
  pointwise

theorem ref2_at :
    (addf X (mulf (broadcastInDim S4x2048x1024 ![0, 1, 2] bcast_S4x1x1024_S4x2048x1024_0_1_2 (broadcastInDim S4x1x1024 ![0, 2]
      bcast_S4x1024_S4x1x1024_0_2 G)) (Host.dotGeneral dot_S4x2048x1024_S1024x1024_S4x2048x1024_2_0_01_1_n_n none (addf (mulf (Host.divf
      (broadcastInDim S4x2048x1024 ![] bcast_S_S4x2048x1024 (constant S_ .f32 0x3F800000#32)) (addf (broadcastInDim S4x2048x1024 ![]
      bcast_S_S4x2048x1024 (constant S_ .f32 0x3F800000#32)) (Host.exp (Host.negf (extractStridedSlice S4x2048x1024 ![0, 0, 0] P
      slices_S4x2048x2048_S4x2048x1024_0_0_0))))) A) (mulf (Host.divf (broadcastInDim S4x2048x1024 ![] bcast_S_S4x2048x1024 (constant S_ .f32
      0x3F800000#32)) (addf (broadcastInDim S4x2048x1024 ![] bcast_S_S4x2048x1024 (constant S_ .f32 0x3F800000#32)) (Host.exp (Host.negf
      (extractStridedSlice S4x2048x1024 ![0, 0, 1024] P slices_S4x2048x2048_S4x2048x1024_0_0_1024))))) B)) (shapeCast _ W
      shapeCasts_S1x1024x1024_S1024x1024)))
      : FVec Ideal S4x2048x1024 .f32) (ix3 b s k) = X (ix3 b s k) + G (ix2 b k) * mixAt A B P W b s k := by
  unfold mixAt mergedAt entry Ideal.logistic
  pointwise

end

end Cert.MergeFReference

namespace Cert.MergeFClaim

open Cert.MergeFValue Cert.MergeFReference Cert.KernelMergeFIdeal Cert.KernelMergeFIdeal.Gen Idealize.ShloMosaic Idealize.ShloMosaic.TcCoe
open Idealize.SL.Sem

theorem algebraic : Cert.algebraic_KernelMergeFIdeal_ReferenceMergeFIdeal := by
  intro m g m' g' hpre hargs
  refine ⟨_, _, _, Value.run_blocks m g, ?_⟩
  refine (θ_run Cert.ReferenceMergeFIdeal.defs _ _).mono (fun r h c => ?_) (ReferenceMergeFIdeal.Value.run m' g')
  obtain ⟨h0, h1, h2, h3, h4, h5⟩ := hargs c
  obtain ⟨e0, e1, e2, hr⟩ := h c
  refine ⟨e0.trans ?_, e1.trans ?_, e2.trans ?_, hr⟩
  all_goals
    clear hr h
  · rw [final7, h0, h1, h2]
    funext j
    idx_vars j
    exact ref0_at _ _ _ j0 j1 j2
  · rw [final8, h0, h1, h2, h3]
    funext j
    idx_vars j
    exact ref1_at _ _ _ _ j0 j1 j2
  · rw [final9, h0, h1, h2, h3, h4, h5]
    funext j
    idx_vars j
    exact ref2_at _ _ _ _ _ _ j0 j1 j2

end Cert.MergeFClaim

end
-- ==== Proof.PostFClaim.lean ====
/-
The forward gate after the scan, kernel and reference, equal.
-/
module

public import proofs.«01_k».proof.Defs
public import proofs.«01_k».proof.Proof.NormGrad
public import proofs.«01_k».proof.Proof.Gen.KernelPostFIdeal.Value
public import proofs.«01_k».proof.Proof.Gen.ReferencePostFIdeal.Run
public import Idealize.ShloMosaic.Lib.Pipeline.ReadBack

@[expose] public section

set_option maxRecDepth 16384

noncomputable section

namespace Cert.PostFValue

open Cert.KernelPostFIdeal Cert.KernelPostFIdeal.Gen Idealize.ShloMosaic Idealize.ShloMosaic.TcCoe Idealize.SL.Sem

/-- A hyperbolic-tangent approximation of the normal distribution's gate. -/
def gel (x : EReal) : EReal := Ideal.ofBits .f32 0x3F000000#32 * x * (Ideal.ofBits .f32 0x3F800000#32
  + Ideal.tanh (Ideal.ofBits .f32 0x3F4C422A#32 * (x + Ideal.ofBits .f32 0x3D372713#32 * x * x * x)))

section
variable (Y U : FVec Ideal S4x2048x512 .f32) (D : FVec Ideal S1x512 .f32) (G : FVec Ideal S1x512x512 .f32) (O : FVec Ideal S1x512x1024 .f32)
  (b : Fin 4) (s : Fin 2048)

def sumAt (k : Fin 512) : EReal := Y (ix3 b s k) + D (ix2 0 k) * U (ix3 b s k)

def gateAt (k : Fin 512) : EReal := ∑ e : Fin 512, gel (sumAt Y U D b s e) * G (ix3 0 e k)

def gatedAt (k : Fin 512) : EReal := gel (sumAt Y U D b s k) * Ideal.logistic (gateAt Y U D G b s k)

def projAt (k : Fin 1024) : EReal := ∑ e : Fin 512, gatedAt Y U D G b s e * O (ix3 0 e k)

end

section
variable (Y U : FVec Ideal S4x2048x512 .f32) (D : FVec Ideal S1x512 .f32) (G : FVec Ideal S1x512x512 .f32) (O : FVec Ideal S1x512x1024 .f32)

def sums : FVec Ideal S4x2048x512 .f32 := fun j => sumAt Y U D (j 0) (j 1) (j 2)

def gates : FVec Ideal S4x2048x512 .f32 := fun j => gateAt Y U D G (j 0) (j 1) (j 2)

def gels : FVec Ideal S4x2048x512 .bf16 := fun j => gel (sumAt Y U D (j 0) (j 1) (j 2))

def gated : FVec Ideal S4x2048x512 .bf16 := fun j => gatedAt Y U D G (j 0) (j 1) (j 2)

def proj : FVec Ideal S4x2048x1024 .bf16 := fun j => projAt Y U D G O (j 0) (j 1) (j 2)

end

section
variable (v0 v3 : FVec Ideal S1x512x512 .f32) (v2 : FVec Ideal S1x512 .f32) (v22 : FVec Ideal S512x512 .bf16) (z : Fin 1) (p : Fin 512) (k : Fin 512)

theorem sum_at : k0_pay4 (F := Ideal) v0 v2 v3 (ix2 p k) = v0 (ix3 0 p k) + v2 (ix2 0 k) * v3 (ix3 0 p k) := by
  pointwise [k0_pay4]

theorem sums_at : k0_pay9 (F := Ideal) v0 v2 v3 (ix3 z p k) = v0 (ix3 0 p k) + v2 (ix2 0 k) * v3 (ix3 0 p k) := by
  rw [← sum_at]
  pointwise [k0_pay9]

theorem gel_at : k0_pay5 (F := Ideal) v0 v2 v3 (ix2 p k) = gel (v0 (ix3 0 p k) + v2 (ix2 0 k) * v3 (ix3 0 p k)) := by
  rw [← sum_at]
  unfold gel k0_pay5
  generalize k0_pay4 (F := Ideal) v0 v2 v3 = X
  pointwise

theorem gels_at : k0_pay1 (F := Ideal) (k0_pay6 v0 v2 v3) (ix3 z p k) = gel (v0 (ix3 0 p k) + v2 (ix2 0 k) * v3 (ix3 0 p k)) := by
  rw [← gel_at]
  pointwise [k0_pay1, k0_pay6]

theorem gate_at : k0_pay7 (F := Ideal) v0 v2 v3 v22 (ix2 p k) = ∑ e : Fin 512, gel (v0 (ix3 0 p e) + v2 (ix2 0 e) * v3 (ix3 0 p e)) * v22 (ix2 e k) := by
  simp only [← gel_at]
  pointwise [k0_pay7, k0_pay6]

theorem gates_at : k0_pay10 (F := Ideal) v0 v2 v3 v22 (ix3 z p k) = k0_pay7 (F := Ideal) v0 v2 v3 v22 (ix2 p k) := by
  pointwise [k0_pay10]

theorem gated_at : k0_pay8 (F := Ideal) v0 v2 v3 v22 (ix2 p k)
    = gel (v0 (ix3 0 p k) + v2 (ix2 0 k) * v3 (ix3 0 p k)) * Ideal.logistic (k0_pay7 (F := Ideal) v0 v2 v3 v22 (ix2 p k)) := by
  rw [← gel_at]
  pointwise [k0_pay8]

theorem gatedz_at : k0_pay2 (F := Ideal) (k0_pay8 (F := Ideal) v0 v2 v3 v22) (ix3 z p k) = k0_pay8 (F := Ideal) v0 v2 v3 v22 (ix2 p k) := by
  pointwise [k0_pay2]

theorem proj_at (v40 : FVec Ideal S512x1024 .bf16) (k : Fin 1024) : k0_pay3 (F := Ideal) (k0_pay8 (F := Ideal) v0 v2 v3 v22) v40 (ix3 z p k)
    = ∑ e : Fin 512, k0_pay8 (F := Ideal) v0 v2 v3 v22 (ix2 p e) * v40 (ix2 e k) := by
  pointwise [k0_pay3]

end

theorem weights_at (W : FVec Ideal S1x512x512 .f32) (e : Fin 512) (k : Fin 512) :
    (truncf .bf16 (shapeCast S512x512 W shapeCasts_S1x512x512_S512x512) bitsLt_bf16_f32 : FVec Ideal S512x512 .bf16) (ix2 e k) = W (ix3 0 e k) := by
  pointwise

theorem out_weights_at (W : FVec Ideal S1x512x1024 .f32) (e : Fin 512) (k : Fin 1024) :
    (truncf .bf16 (shapeCast S512x1024 W shapeCasts_S1x512x1024_S512x1024) bitsLt_bf16_f32 : FVec Ideal S512x1024 .bf16) (ix2 e k) = W (ix3 0 e k) := by
  pointwise

theorem idx : ∀ t : Fin cfg0.N, win0_0.index t = ![t.val / 4, t.val % 4, 0] ∧ win0_1.index t = ![t.val / 4, t.val % 4, 0] ∧ win0_2.index t = ![0, 0] ∧ win0_3.index t = ![0,
    0] ∧ win0_4.index t = ![0, 0] ∧ win0_5.index t = ![t.val / 4, t.val % 4, 0] ∧ win0_6.index t = ![t.val / 4, t.val % 4, 0] ∧ win0_7.index t =
    ![t.val / 4, t.val % 4, 0] ∧ win0_8.index t = ![t.val / 4, t.val % 4, 0] ∧ win0_9.index t = ![t.val / 4, t.val % 4, 0] :=
  (by decide +kernel : ∀ t : Fin grid0.N, _)

theorem point_lt (t : Fin cfg0.N) : t.val / 4 < 4 := by have := lt_of_lt_of_eq t.isLt N_0; omega

theorem lane_lt (t : Fin cfg0.N) (p : Fin 512) : t.val % 4 * 512 + p.val < 2048 := by omega

section
variable (m : (ℓ : Loc nD τ sig) → Buf (Elt Ideal) ℓ) (c : Dev nD) (t : Fin cfg0.N)

theorem blk0 (z : Fin 1) (p : Fin 512) (k : Fin 512) : iblk m c 0 t (ix3 z p k)
    = (m (c.tc.loc main_arg0) : FVec Ideal S4x2048x512 .f32) (ix3 ⟨t.val / 4, point_lt t⟩ ⟨t.val % 4 * 512 + p.val, lane_lt t p⟩ k) := by
  blk_point [iblk, V, idx t]

theorem blk1 (z : Fin 1) (p : Fin 512) (k : Fin 512) : iblk m c 1 t (ix3 z p k)
    = (m (c.tc.loc main_arg1) : FVec Ideal S4x2048x512 .f32) (ix3 ⟨t.val / 4, point_lt t⟩ ⟨t.val % 4 * 512 + p.val, lane_lt t p⟩ k) := by
  blk_point [iblk, V, idx t]

theorem blk2 (z : Fin 1) (k : Fin 512) : iblk m c 2 t (ix2 z k) = (m (c.tc.loc main_arg2) : FVec Ideal S1x512 .f32) (ix2 0 k) := by
  blk_point [iblk, V, idx t]

theorem blk3 (e : Fin 512) (k : Fin 512) : iblk m c 3 t (ix2 e k) = (m (c.tc.loc main_arg3) : FVec Ideal S1x512x512 .f32) (ix3 0 e k) := by
  have hv : V m c main_v1 = (truncf .bf16 (shapeCast S512x512 (m (c.tc.loc main_arg3)) shapeCasts_S1x512x512_S512x512) bitsLt_bf16_f32 : FVec Ideal S512x512 .bf16) := by
    unfold V
    rfl
  refine Eq.trans ?_ ((congrFun hv _).trans (weights_at _ e k))
  blk_point [iblk, idx t]

theorem blk4 (e : Fin 512) (k : Fin 1024) : iblk m c 4 t (ix2 e k) = (m (c.tc.loc main_arg4) : FVec Ideal S1x512x1024 .f32) (ix3 0 e k) := by
  have hv : V m c main_v3 = (truncf .bf16 (shapeCast S512x1024 (m (c.tc.loc main_arg4)) shapeCasts_S1x512x1024_S512x1024) bitsLt_bf16_f32 : FVec Ideal S512x1024 .bf16) := by
    unfold V
    rfl
  refine Eq.trans ?_ ((congrFun hv _).trans (out_weights_at _ e k))
  blk_point [iblk, idx t]

theorem final5 : (dats m 0 c).arrAt 5 cfg0.N = sums (m (c.tc.loc main_arg0)) (m (c.tc.loc main_arg1)) (m (c.tc.loc main_arg2)) := by
  refine (dats m 0 c).arrAt_eq_of_covers 5 _ (by decide +kernel) fun t _ y => ?_
  blk_simp
  rw [after0_5, show out0_5 (F := Ideal) (iblk m c 0 t) (iblk m c 1 t) (iblk m c 2 t) (iblk m c 3 t) (iblk m c 4 t)
    = k0_pay9 (F := Ideal) (iblk m c 0 t) (iblk m c 2 t) (iblk m c 1 t) from by unfold out0_5; frame_out]
  idx_vars y
  rw [sums_at, blk0, blk1, blk2]
  rw [show ((View.whole main_v4_0).slice (win0_5.rect t)).emb (ix3 y0 y1 y2)
    = ix3 ⟨t.val / 4, point_lt t⟩ ⟨t.val % 4 * 512 + y1.val, lane_lt t y1⟩ y2 from by blk_ext [idx t]]
  rfl

theorem final6 : (dats m 0 c).arrAt 6 cfg0.N = gates (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6, show out0_6 (F := Ideal) (iblk m c 0 t) (iblk m c 1 t) (iblk m c 2 t) (iblk m c 3 t) (iblk m c 4 t)
    = k0_pay10 (F := Ideal) (iblk m c 0 t) (iblk m c 2 t) (iblk m c 1 t) (iblk m c 3 t) from by unfold out0_6; frame_out]
  idx_vars y
  rw [gates_at, gate_at]
  simp only [blk0, blk1, blk2, blk3]
  rw [show ((View.whole main_v4_1).slice (win0_6.rect t)).emb (ix3 y0 y1 y2)
    = ix3 ⟨t.val / 4, point_lt t⟩ ⟨t.val % 4 * 512 + y1.val, lane_lt t y1⟩ y2 from by blk_ext [idx t]]
  rfl

theorem final7 : (dats m 0 c).arrAt 7 cfg0.N = gels (m (c.tc.loc main_arg0)) (m (c.tc.loc main_arg1)) (m (c.tc.loc main_arg2)) := by
  refine (dats m 0 c).arrAt_eq_of_covers 7 _ (by decide +kernel) fun t _ y => ?_
  blk_simp
  rw [after0_7, show out0_7 (F := Ideal) (iblk m c 0 t) (iblk m c 1 t) (iblk m c 2 t) (iblk m c 3 t) (iblk m c 4 t)
    = k0_pay1 (F := Ideal) (k0_pay6 (iblk m c 0 t) (iblk m c 2 t) (iblk m c 1 t)) from by unfold out0_7; frame_out]
  idx_vars y
  rw [gels_at, blk0, blk1, blk2]
  rw [show ((View.whole main_v4_2).slice (win0_7.rect t)).emb (ix3 y0 y1 y2)
    = ix3 ⟨t.val / 4, point_lt t⟩ ⟨t.val % 4 * 512 + y1.val, lane_lt t y1⟩ y2 from by blk_ext [idx t]]
  rfl

theorem final8 : (dats m 0 c).arrAt 8 cfg0.N = gated (m (c.tc.loc main_arg0)) (m (c.tc.loc main_arg1)) (m (c.tc.loc main_arg2)) (m (c.tc.loc main_arg3)) := by
  refine (dats m 0 c).arrAt_eq_of_covers 8 _ (by decide +kernel) fun t _ y => ?_
  blk_simp
  rw [after0_8, show out0_8 (F := Ideal) (iblk m c 0 t) (iblk m c 1 t) (iblk m c 2 t) (iblk m c 3 t) (iblk m c 4 t)
    = k0_pay2 (F := Ideal) (k0_pay8 (iblk m c 0 t) (iblk m c 2 t) (iblk m c 1 t) (iblk m c 3 t)) from by unfold out0_8 k0_pay11; frame_out]
  idx_vars y
  rw [gatedz_at, gated_at, gate_at]
  simp only [blk0, blk1, blk2, blk3]
  rw [show ((View.whole main_v4_3).slice (win0_8.rect t)).emb (ix3 y0 y1 y2)
    = ix3 ⟨t.val / 4, point_lt t⟩ ⟨t.val % 4 * 512 + y1.val, lane_lt t y1⟩ y2 from by blk_ext [idx t]]
  rfl

theorem final9 : (dats m 0 c).arrAt 9 cfg0.N = proj (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t _ y => ?_
  blk_simp
  rw [after0_9, show out0_9 (F := Ideal) (iblk m c 0 t) (iblk m c 1 t) (iblk m c 2 t) (iblk m c 3 t) (iblk m c 4 t)
    = k0_pay3 (F := Ideal) (k0_pay8 (iblk m c 0 t) (iblk m c 2 t) (iblk m c 1 t) (iblk m c 3 t)) (iblk m c 4 t) from by unfold out0_9 k0_pay11; frame_out]
  idx_vars y
  rw [proj_at]
  simp only [gated_at, gate_at, blk0, blk1, blk2, blk3, blk4]
  rw [show ((View.whole main_v4_4).slice (win0_9.rect t)).emb (ix3 y0 y1 y2)
    = ix3 ⟨t.val / 4, point_lt t⟩ ⟨t.val % 4 * 512 + y1.val, lane_lt t y1⟩ y2 from by blk_ext [idx t]]
  rfl

end

end Cert.PostFValue

namespace Cert.PostFReference

open Cert.PostFValue Cert.ReferencePostFIdeal Cert.ReferencePostFIdeal.Facts₀ Idealize.ShloMosaic Idealize.ShloMosaic.TcCoe Idealize.SL.Sem

/-- The gate as the reference groups its products. -/
theorem gel_eq (x : EReal) : x * (Ideal.ofBits .f32 0x3F000000#32 * (Ideal.ofBits .f32 0x3F800000#32
      + Ideal.tanh (Ideal.ofBits .f32 0x3F4C422A#32 * (x + Ideal.ofBits .f32 0x3D372713#32 * (x * x * x))))) = gel x := by
  unfold gel
  rw [← mul_assoc, mul_comm x, ← mul_assoc, ← mul_assoc]

section
variable (Y U : FVec Ideal S4x2048x512 .f32) (D : FVec Ideal S1x512 .f32) (G : FVec Ideal S1x512x512 .f32) (O : FVec Ideal S1x512x1024 .f32)

def sumA : FVec Ideal S4x2048x512 .f32 := addf Y (mulf (broadcastInDim S4x2048x512 ![0, 1, 2] bcast_S1x1x512_S4x2048x512_0_1_2 (broadcastInDim S1x1x512 ![1, 2]
      bcast_S1x512_S1x1x512_1_2 D)) U)

/-- The constant in every place. -/
abbrev all (bits : BitVec 32) : FVec Ideal S4x2048x512 .f32 := broadcastInDim S4x2048x512 ![] bcast_S_S4x2048x512 (constant S_ .f32 bits)

def gelA (X : FVec Ideal S4x2048x512 .f32) : FVec Ideal S4x2048x512 .f32 := mulf X (mulf (all 0x3F000000#32) (addf (all 0x3F800000#32)
  (Host.tanh (mulf (all 0x3F4C422A#32) (addf X (mulf (all 0x3D372713#32) (mulf (mulf X X) X)))))))

def gateA : FVec Ideal S4x2048x512 .f32 := Host.dotGeneral dot_S4x2048x512_S512x512_S4x2048x512_2_0_01_1_n_n none (gelA (sumA Y U D))
  (shapeCast _ G shapeCasts_S1x512x512_S512x512)

def gatedA : FVec Ideal S4x2048x512 .f32 := mulf (gelA (sumA Y U D))
  (Host.divf (all 0x3F800000#32) (addf (all 0x3F800000#32) (Host.exp (Host.negf (gateA Y U D G)))))

variable (b : Fin 4) (s : Fin 2048) (k : Fin 512)

theorem sumA_at : sumA Y U D (ix3 b s k) = sumAt Y U D b s k := by
  unfold sumAt
  pointwise [sumA]

theorem gelA_at (X : FVec Ideal S4x2048x512 .f32) : gelA X (ix3 b s k) = gel (X (ix3 b s k)) := by
  rw [← gel_eq]
  pointwise [gelA]

theorem gateA_at : gateA Y U D G (ix3 b s k) = gateAt Y U D G b s k := by
  unfold gateAt gateA
  simp only [← sumA_at, ← gelA_at]
  generalize gelA (sumA Y U D) = X
  pointwise

theorem gatedA_at : gatedA Y U D G (ix3 b s k) = gatedAt Y U D G b s k := by
  unfold gatedAt gatedA Ideal.logistic
  rw [← sumA_at, ← gelA_at, ← gateA_at]
  generalize gelA (sumA Y U D) = X
  generalize gateA Y U D G = Z
  pointwise

theorem ref2_at : (truncf .bf16 (gelA (sumA Y U D)) bitsLt_bf16_f32 : FVec Ideal S4x2048x512 .bf16) (ix3 b s k) = gel (sumAt Y U D b s k) := by
  rw [← sumA_at, ← gelA_at]
  pointwise

theorem ref3_at : (truncf .bf16 (gatedA Y U D G) bitsLt_bf16_f32 : FVec Ideal S4x2048x512 .bf16) (ix3 b s k) = gatedAt Y U D G b s k := by
  rw [← gatedA_at]
  pointwise

theorem ref4_at (k : Fin 1024) : (truncf .bf16 (Host.dotGeneral dot_S4x2048x512_S512x1024_S4x2048x1024_2_0_01_1_n_n none (gatedA Y U D G)
    (shapeCast S512x1024 O shapeCasts_S1x512x1024_S512x1024)) bitsLt_bf16_f32 : FVec Ideal S4x2048x1024 .bf16) (ix3 b s k) = projAt Y U D G O b s k := by
  unfold projAt
  simp only [← gatedA_at]
  generalize gatedA Y U D G = X
  pointwise

end

theorem res_at (m : (ℓ : Loc nD τ sig) → Buf (Elt Ideal) ℓ) (c : Dev nD) (b : Fin 4) (s : Fin 2048) (k : Fin 1024) :
    (Value.res_main_v30 m c : FVec Ideal S4x2048x1024 .bf16) (ix3 b s k)
      = projAt (m (c.tc.loc main_arg0)) (m (c.tc.loc main_arg1)) (m (c.tc.loc main_arg2)) (m (c.tc.loc main_arg3)) (m (c.tc.loc main_arg4)) b s k := by
  unfold Value.res_main_v30
  exact ref4_at _ _ _ _ _ b s k

end Cert.PostFReference

namespace Cert.PostFClaim

open Cert.PostFValue Cert.PostFReference Cert.KernelPostFIdeal Cert.KernelPostFIdeal.Gen Idealize.ShloMosaic Idealize.ShloMosaic.TcCoe
open Idealize.SL.Sem

theorem algebraic : Cert.algebraic_KernelPostFIdeal_ReferencePostFIdeal := by
  intro m g m' g' hpre hargs
  refine ⟨_, _, _, _, _, Value.run_blocks m g, ?_⟩
  refine (θ_run Cert.ReferencePostFIdeal.defs _ _).mono (fun r h c => ?_) (ReferencePostFIdeal.Value.run m' g')
  obtain ⟨h0, h1, h2, h3, h4⟩ := hargs c
  obtain ⟨e0, e1, e2, e3, e4, hr⟩ := h c
  refine ⟨e0.trans ?_, e1.trans ?_, e2.trans ?_, e3.trans ?_, e4.trans ?_, hr⟩
  all_goals
    clear hr h
  · rw [final5, h0, h1, h2]
    funext j
    idx_vars j
    exact sumA_at _ _ _ j0 j1 j2
  · rw [final6, h0, h1, h2, h3]
    funext j
    idx_vars j
    exact gateA_at _ _ _ _ j0 j1 j2
  · rw [final7, h0, h1, h2]
    funext j
    idx_vars j
    exact ref2_at _ _ _ j0 j1 j2
  · rw [final8, h0, h1, h2, h3]
    funext j
    idx_vars j
    exact ref3_at _ _ _ _ j0 j1 j2
  · rw [final9]
    funext j
    idx_vars j
    exact (res_at m' c j0 j1 j2).trans (by rw [h0, h1, h2, h3, h4]; rfl)

end Cert.PostFClaim

end
-- ==== Proof.AdaFClaim.lean ====
/-
The forward modulation, kernel and reference, equal.
-/
module

public import proofs.«01_k».proof.Defs
public import proofs.«01_k».proof.Proof.NormGrad
public import proofs.«01_k».proof.Proof.Gen.KernelAdaFIdeal.Value
public import proofs.«01_k».proof.Proof.Gen.ReferenceAdaFIdeal.Run
public import Idealize.ShloMosaic.Lib.Pipeline.ReadBack

@[expose] public section

set_option maxRecDepth 16384

noncomputable section

namespace Cert.AdaFValue

open Cert.KernelAdaFIdeal Cert.KernelAdaFIdeal.Gen Idealize.ShloMosaic Idealize.ShloMosaic.TcCoe Idealize.SL.Sem

/-- An entry of the modulation. -/
def entry (x w : Fin 1024 → EReal) (b : EReal) : EReal := (∑ e : Fin 1024, x e * Ideal.logistic (x e) * w e) + b

/-- The modulation. -/
def modulation (C : FVec Ideal S32x1024 .f32) (W : FVec Ideal S1x1024x2304 .f32) (B : FVec Ideal S1x2304 .f32) : FVec Ideal S32x2304 .f32 :=
  fun j => entry (fun e => C (ix2 (j 0) e)) (fun e => W (ix3 0 e (j 1))) (B (ix2 0 (j 1)))

theorem stored_at (v0 : FVec Ideal S32x1024 .f32) (v1 : FVec Ideal S1x1024x2304 .f32) (v2 : FVec Ideal S1x2304 .f32) (p : Fin 32) (k : Fin 2304) :
    k0_pay1 (F := Ideal) v0 v1 v2 (ix2 p k) = entry (fun e => v0 (ix2 p e)) (fun e => v1 (ix3 0 e k)) (v2 (ix2 0 k)) := by
  unfold entry
  pointwise [k0_pay1]

theorem idx : ∀ t : Fin cfg0.N, win0_0.index t = ![0, 0] ∧ win0_1.index t = ![0, 0, 0] ∧ win0_2.index t = ![0, 0] ∧ win0_3.index t = ![0, 0] :=
  (by decide +kernel : ∀ t : Fin grid0.N, _)

section
variable (m : (ℓ : Loc nD τ sig) → Buf (Elt Ideal) ℓ) (c : Dev nD) (t : Fin cfg0.N)

theorem blk0 (p : Fin 32) (k : Fin 1024) : iblk m c 0 t (ix2 p k) = (m (c.tc.loc main_arg0) : FVec Ideal S32x1024 .f32) (ix2 p k) := by
  blk_point [iblk, V, idx t]

theorem blk1 (z : Fin 1) (e : Fin 1024) (k : Fin 2304) : iblk m c 1 t (ix3 z e k)
    = (m (c.tc.loc main_arg1) : FVec Ideal S1x1024x2304 .f32) (ix3 0 e k) := by
  blk_point [iblk, V, idx t]

theorem blk2 (z : Fin 1) (k : Fin 2304) : iblk m c 2 t (ix2 z k) = (m (c.tc.loc main_arg2) : FVec Ideal S1x2304 .f32) (ix2 0 k) := by
  blk_point [iblk, V, idx t]

theorem final3 : (dats m 0 c).arrAt 3 cfg0.N = modulation (m (c.tc.loc main_arg0)) (m (c.tc.loc main_arg1)) (m (c.tc.loc main_arg2)) := by
  refine (dats m 0 c).arrAt_eq_of_covers 3 _ (by decide +kernel) fun t _ y => ?_
  blk_simp
  rw [after0_3, show out0_3 (F := Ideal) (iblk m c 0 t) (iblk m c 1 t) (iblk m c 2 t)
    = k0_pay1 (F := Ideal) (iblk m c 0 t) (iblk m c 1 t) (iblk m c 2 t) from by unfold out0_3; frame_out]
  idx_vars y
  rw [stored_at]
  simp only [blk0, blk1, blk2]
  rw [show ((View.whole main_v0).slice (win0_3.rect t)).emb (ix2 y0 y1)
    = ix2 y0 y1 from by blk_ext [idx t]]
  rfl

end

end Cert.AdaFValue

namespace Cert.AdaFReference

open Cert.AdaFValue Cert.ReferenceAdaFIdeal Cert.ReferenceAdaFIdeal.Facts₀ Idealize.ShloMosaic Idealize.ShloMosaic.TcCoe Idealize.SL.Sem

theorem ref_at (C : FVec Ideal S32x1024 .f32) (W : FVec Ideal S1x1024x2304 .f32) (B : FVec Ideal S1x2304 .f32) (b : Fin 32) (k : Fin 2304) :
    (addf (Host.dotGeneral dot_S32x1024_S1024x2304_S32x2304_1_0_0_1_n_n none (mulf C (Host.divf (broadcastInDim S32x1024 ![] bcast_S_S32x1024
      (constant S_ .f32 0x3F800000#32)) (addf (broadcastInDim S32x1024 ![] bcast_S_S32x1024 (constant S_ .f32 0x3F800000#32)) (Host.exp (Host.negf
      C))))) (shapeCast _ W shapeCasts_S1x1024x2304_S1024x2304)) (broadcastInDim S32x2304 ![0, 1] bcast_S1x2304_S32x2304_0_1 B)
      : FVec Ideal S32x2304 .f32) (ix2 b k) = entry (fun e => C (ix2 b e)) (fun e => W (ix3 0 e k)) (B (ix2 0 k)) := by
  unfold entry Ideal.logistic
  pointwise

end Cert.AdaFReference

namespace Cert.AdaFClaim

open Cert.AdaFValue Cert.AdaFReference Cert.KernelAdaFIdeal Cert.KernelAdaFIdeal.Gen Idealize.ShloMosaic Idealize.ShloMosaic.TcCoe
open Idealize.SL.Sem

theorem algebraic : Cert.algebraic_KernelAdaFIdeal_ReferenceAdaFIdeal := by
  intro m g m' g' hpre hargs
  refine ⟨_, Value.run_blocks m g, ?_⟩
  refine (θ_run Cert.ReferenceAdaFIdeal.defs _ _).mono (fun r h c => ?_) (ReferenceAdaFIdeal.Value.run m' g')
  obtain ⟨h0, h1, h2⟩ := hargs c
  obtain ⟨e0, hr⟩ := h c
  refine ⟨e0.trans ?_, hr⟩
  all_goals
    clear hr h
  · rw [final3, h0, h1, h2]
    funext j
    idx_vars j
    exact ref_at _ _ _ j0 j1

end Cert.AdaFClaim

end
-- ==== Proof.DiscFClaim.lean ====
/-
The scan's discretization, kernel and reference, equal.
-/
module

public import proofs.«01_k».proof.Defs
public import proofs.«01_k».proof.Proof.DiscClaim
public import proofs.«01_k».proof.Proof.Gen.KernelDiscFIdeal.Value
public import proofs.«01_k».proof.Proof.Gen.ReferenceDiscFIdeal.Run

@[expose] public section

set_option maxRecDepth 16384

noncomputable section

namespace Cert.DiscFClaim

open Cert.DiscClaim (same_of sameI_of same_step)
open Cert.NormGrad Cert.DiscValue Cert.KernelDiscFIdeal Cert.KernelDiscFIdeal.Gen
open Idealize.ShloMosaic Idealize.ShloMosaic.TcCoe Idealize.SL.Sem

theorem sameI_sub {I I' : FVec Ideal ReferenceDiscFIdeal.S32x64x16 .f32} {J J' : FVec Ideal S16x2048 .f32} (h : SameI I J) (h' : SameI I' J') :
    SameI (subf I I') (subf J J') := fun g p i => congrArg₂ (· - ·) (h g p i) (h' g p i)

/-- The step, one per group, for every state. -/
theorem same_exp {L : FVec Ideal ReferenceDiscFIdeal.S32 .f32} {B : FVec Ideal S1x2048 .f32}
    (h : Same (broadcastInDim ReferenceDiscFIdeal.S32x64 ![0, 1] ReferenceDiscFIdeal.Facts₀.bcast_S32x1_S32x64_0_1
      (broadcastInDim ReferenceDiscFIdeal.S32x1 ![0] ReferenceDiscFIdeal.Facts₀.bcast_S32_S32x1_0 L)) B) :
    Same (broadcastInDim ReferenceDiscFIdeal.S32x64 ![0, 1] ReferenceDiscFIdeal.Facts₀.bcast_S32x1_S32x64_0_1
      (broadcastInDim ReferenceDiscFIdeal.S32x1 ![0] ReferenceDiscFIdeal.Facts₀.bcast_S32_S32x1_0 (Host.exp L))) (exp B) :=
  fun g p => congrArg Ideal.exp (h g p)

section
variable {m : (ℓ : Loc ReferenceDiscFIdeal.nD ReferenceDiscFIdeal.τ ReferenceDiscFIdeal.sig) → Buf (Elt Ideal) ℓ} {c : Dev ReferenceDiscFIdeal.nD}
  {x0 x1 x2 : FVec Ideal S1x2048 .f32} {x3 x4 : FVec Ideal S16x2048 .f32}

set_option maxHeartbeats 4000000 in
/-- Every result of the reference is the block that the kernel stores: operation by operation the same. -/
theorem results (h0 : Same (shapeCast ReferenceDiscFIdeal.S32x64 (m (c.tc.loc ReferenceDiscFIdeal.main_arg0)) ReferenceDiscFIdeal.Facts₀.shapeCasts_S1x32x64_S32x64) x0)
    (h1 : Same (shapeCast ReferenceDiscFIdeal.S32x64 (m (c.tc.loc ReferenceDiscFIdeal.main_arg1)) ReferenceDiscFIdeal.Facts₀.shapeCasts_S1x32x64_S32x64) x1)
    (h2 : Same (broadcastInDim ReferenceDiscFIdeal.S32x64 ![0, 1] ReferenceDiscFIdeal.Facts₀.bcast_S32x1_S32x64_0_1
    (broadcastInDim ReferenceDiscFIdeal.S32x1 ![0] ReferenceDiscFIdeal.Facts₀.bcast_S32_S32x1_0
      (shapeCast ReferenceDiscFIdeal.S32 (m (c.tc.loc ReferenceDiscFIdeal.main_arg2)) ReferenceDiscFIdeal.Facts₀.shapeCasts_S1x32_S32))) x2)
    (h3 : SameI (shapeCast ReferenceDiscFIdeal.S32x64x16 (m (c.tc.loc ReferenceDiscFIdeal.main_arg3)) ReferenceDiscFIdeal.Facts₀.shapeCasts_S1x32x64x16_S32x64x16) x3)
    (h4 : SameI (shapeCast ReferenceDiscFIdeal.S32x64x16 (m (c.tc.loc ReferenceDiscFIdeal.main_arg4)) ReferenceDiscFIdeal.Facts₀.shapeCasts_S1x32x64x16_S32x64x16) x4) :
    (shapeCast _ (mulf (Host.exp (mulf (shapeCast _ (m (c.tc.loc ReferenceDiscFIdeal.main_arg0)) ReferenceDiscFIdeal.Facts₀.shapeCasts_S1x32x64_S32x64) (broadcastInDim ReferenceDiscFIdeal.S32x64 ![0, 1] ReferenceDiscFIdeal.Facts₀.bcast_S32x1_S32x64_0_1 (broadcastInDim ReferenceDiscFIdeal.S32x1 ![0] ReferenceDiscFIdeal.Facts₀.bcast_S32_S32x1_0 (Host.exp (shapeCast _ (m (c.tc.loc ReferenceDiscFIdeal.main_arg2)) ReferenceDiscFIdeal.Facts₀.shapeCasts_S1x32_S32)))))) (Host.cos (mulf (shapeCast _ (m (c.tc.loc ReferenceDiscFIdeal.main_arg1)) ReferenceDiscFIdeal.Facts₀.shapeCasts_S1x32x64_S32x64) (broadcastInDim ReferenceDiscFIdeal.S32x64 ![0, 1] ReferenceDiscFIdeal.Facts₀.bcast_S32x1_S32x64_0_1 (broadcastInDim ReferenceDiscFIdeal.S32x1 ![0] ReferenceDiscFIdeal.Facts₀.bcast_S32_S32x1_0 (Host.exp (shapeCast _ (m (c.tc.loc ReferenceDiscFIdeal.main_arg2)) ReferenceDiscFIdeal.Facts₀.shapeCasts_S1x32_S32))))))) ReferenceDiscFIdeal.Facts₀.shapeCasts_S32x64_S1x2048 : FVec Ideal S1x2048 .f32) = out0_5 (F := Ideal) x0 x1 x2 x3 x4
    ∧ (shapeCast _ (mulf (Host.exp (mulf (shapeCast _ (m (c.tc.loc ReferenceDiscFIdeal.main_arg0)) ReferenceDiscFIdeal.Facts₀.shapeCasts_S1x32x64_S32x64) (broadcastInDim ReferenceDiscFIdeal.S32x64 ![0, 1] ReferenceDiscFIdeal.Facts₀.bcast_S32x1_S32x64_0_1 (broadcastInDim ReferenceDiscFIdeal.S32x1 ![0] ReferenceDiscFIdeal.Facts₀.bcast_S32_S32x1_0 (Host.exp (shapeCast _ (m (c.tc.loc ReferenceDiscFIdeal.main_arg2)) ReferenceDiscFIdeal.Facts₀.shapeCasts_S1x32_S32)))))) (Host.sin (mulf (shapeCast _ (m (c.tc.loc ReferenceDiscFIdeal.main_arg1)) ReferenceDiscFIdeal.Facts₀.shapeCasts_S1x32x64_S32x64) (broadcastInDim ReferenceDiscFIdeal.S32x64 ![0, 1] ReferenceDiscFIdeal.Facts₀.bcast_S32x1_S32x64_0_1 (broadcastInDim ReferenceDiscFIdeal.S32x1 ![0] ReferenceDiscFIdeal.Facts₀.bcast_S32_S32x1_0 (Host.exp (shapeCast _ (m (c.tc.loc ReferenceDiscFIdeal.main_arg2)) ReferenceDiscFIdeal.Facts₀.shapeCasts_S1x32_S32))))))) ReferenceDiscFIdeal.Facts₀.shapeCasts_S32x64_S1x2048 : FVec Ideal S1x2048 .f32) = out0_6 (F := Ideal) x0 x1 x2 x3 x4
    ∧ ReferenceDiscFIdeal.Value.res_main_v40 m c = out0_7 (F := Ideal) x0 x1 x2 x3 x4
    ∧ ReferenceDiscFIdeal.Value.res_main_v47 m c = out0_8 (F := Ideal) x0 x1 x2 x3 x4 := by
  refine ⟨?_, ?_, ?_, ?_⟩
  all_goals
    symm
    first
      | unfold out0_5
      | unfold out0_6
      | unfold out0_7
      | unfold out0_8
    frame_out
    simp only [k0_pay1, k0_pay2, k0_pay3, k0_pay4, k0_pay5, k0_pay6, k0_pay7, k0_pay8, k0_pay9, k0_pay10, k0_pay11, k0_pay12, k0_pay13, k0_pay14,
      k0_pay15]
    symm
    try unfold ReferenceDiscFIdeal.Value.res_main_v40
    try unfold ReferenceDiscFIdeal.Value.res_main_v47
    first
      | refine Same.row ?_
      | refine SameI.rows ?_
    repeat' with_reducible first
      | assumption
      | apply same_exp
      | apply Same.add
      | apply Same.mul
      | apply Same.sub
      | apply Same.div
      | apply Same.exp
      | apply Same.cos
      | apply Same.sin
      | apply Same.one
      | apply Same.cast
      | apply SameI.mul
      | apply SameI.add
      | apply sameI_sub
      | apply SameI.cast
      | apply Same.inputs

end

section
variable {m : (ℓ : Loc nD τ sig) → Buf (Elt Ideal) ℓ} {c : Dev nD} (t : Fin cfg0.N)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem block0 : (iblk m c 0 t : FVec Ideal _ .f32) = V m c main_v0 := by
  funext j
  idx_vars j
  blk_point [iblk, idx t]

theorem block1 : (iblk m c 1 t : FVec Ideal _ .f32) = V m c main_v1 := by
  funext j
  idx_vars j
  blk_point [iblk, idx t]

theorem block2 : (iblk m c 2 t : FVec Ideal _ .f32) = V m c main_v4 := by
  funext j
  idx_vars j
  blk_point [iblk, idx t]

theorem block3 : (iblk m c 3 t : FVec Ideal _ .f32) = V m c main_v7 := by
  funext j
  idx_vars j
  blk_point [iblk, idx t]

theorem block4 : (iblk m c 4 t : FVec Ideal _ .f32) = V m c main_v10 := by
  funext j
  idx_vars j
  blk_point [iblk, idx t]

theorem final5 {f : FVec Ideal S1x2048 .f32} (hf : ∀ t, f = out0_5 (F := Ideal) (iblk m c 0 t) (iblk m c 1 t) (iblk m c 2 t) (iblk m c 3 t) (iblk m c 4 t)) :
    (dats m 0 c).arrAt 5 cfg0.N = f := by
  refine (dats m 0 c).arrAt_eq_of_covers 5 _ (by decide +kernel) fun t _ y => ?_
  blk_simp
  rw [after0_5, ← hf t]
  idx_vars y
  rw [show ((View.whole main_v11_0).slice (win0_5.rect t)).emb (ix2 y0 y1) = ix2 y0 y1 from by blk_ext [idx t]]

theorem final6 {f : FVec Ideal S1x2048 .f32} (hf : ∀ t, f = out0_6 (F := Ideal) (iblk m c 0 t) (iblk m c 1 t) (iblk m c 2 t) (iblk m c 3 t) (iblk m c 4 t)) :
    (dats m 0 c).arrAt 6 cfg0.N = f := by
  refine (dats m 0 c).arrAt_eq_of_covers 6 _ (by decide +kernel) fun t _ y => ?_
  blk_simp
  rw [after0_6, ← hf t]
  idx_vars y
  rw [show ((View.whole main_v11_1).slice (win0_6.rect t)).emb (ix2 y0 y1) = ix2 y0 y1 from by blk_ext [idx t]]

theorem final7 {f : FVec Ideal S16x2048 .f32} (hf : ∀ t, f = out0_7 (F := Ideal) (iblk m c 0 t) (iblk m c 1 t) (iblk m c 2 t) (iblk m c 3 t) (iblk m c 4 t)) :
    (dats m 0 c).arrAt 7 cfg0.N = f := by
  refine (dats m 0 c).arrAt_eq_of_covers 7 _ (by decide +kernel) fun t _ y => ?_
  blk_simp
  rw [after0_7, ← hf t]
  idx_vars y
  rw [show ((View.whole main_v11_2).slice (win0_7.rect t)).emb (ix2 y0 y1) = ix2 y0 y1 from by blk_ext [idx t]]

theorem final8 {f : FVec Ideal S16x2048 .f32} (hf : ∀ t, f = out0_8 (F := Ideal) (iblk m c 0 t) (iblk m c 1 t) (iblk m c 2 t) (iblk m c 3 t) (iblk m c 4 t)) :
    (dats m 0 c).arrAt 8 cfg0.N = f := by
  refine (dats m 0 c).arrAt_eq_of_covers 8 _ (by decide +kernel) fun t _ y => ?_
  blk_simp
  rw [after0_8, ← hf t]
  idx_vars y
  rw [show ((View.whole main_v11_3).slice (win0_8.rect t)).emb (ix2 y0 y1) = ix2 y0 y1 from by blk_ext [idx t]]

end

theorem algebraic : Cert.algebraic_KernelDiscFIdeal_ReferenceDiscFIdeal := by
  intro m g m' g' hpre hargs
  refine ⟨_, _, _, _, Cert.KernelDiscFIdeal.Value.run_blocks m g, ?_⟩
  refine (θ_run Cert.ReferenceDiscFIdeal.defs _ _).mono (fun r h c => ?_) (ReferenceDiscFIdeal.Value.run m' g')
  obtain ⟨h0, h1, h2, h3, h4⟩ := hargs c
  have o := fun t : Fin cfg0.N => results (m := m') (c := c) (x0 := iblk m c 0 t) (x1 := iblk m c 1 t) (x2 := iblk m c 2 t)
    (x3 := iblk m c 3 t) (x4 := iblk m c 4 t)
    (by rw [h0]; exact same_of ((block0 t).trans (by unfold V; rfl)))
    (by rw [h1]; exact same_of ((block1 t).trans (by unfold V; rfl)))
    (by rw [h2]; exact same_step ((block2 t).trans (by unfold V; rfl)))
    (by rw [h3]; exact sameI_of ((block3 t).trans (by unfold V; rfl)))
    (by rw [h4]; exact sameI_of ((block4 t).trans (by unfold V; rfl)))
  obtain ⟨e0, e1, e2, e3, hr⟩ := h c
  exact ⟨e0.trans (final5 fun t => (o t).1).symm, e1.trans (final6 fun t => (o t).2.1).symm,
    e2.trans (final7 fun t => (o t).2.2.1).symm, e3.trans (final8 fun t => (o t).2.2.2).symm, hr⟩

end Cert.DiscFClaim

end
-- ==== Proof.MmClaim.lean ====
/-
A gradient of the weights as a product of rows, kernel and reference, equal.
-/
module

public import proofs.«01_k».proof.Defs
public import proofs.«01_k».proof.Proof.NormGrad
public import proofs.«01_k».proof.Proof.Gen.KernelMmIdeal.Value
public import proofs.«01_k».proof.Proof.Gen.ReferenceMmIdeal.Run
public import Idealize.ShloMosaic.Lib.Pipeline.ReadBack

@[expose] public section

set_option maxRecDepth 16384

noncomputable section

namespace Cert.MmValue

open Cert.KernelMmIdeal Cert.KernelMmIdeal.Gen Idealize.ShloMosaic Idealize.ShloMosaic.TcCoe Idealize.SL.Sem

/-- The gradient of the weights: a sum over the batches and their rows. -/
def grad (H : FVec Ideal S4x2048x1024 .f32) (D : FVec Ideal S4x2048x3072 .f32) : FVec Ideal S1024x3072 .bf16 :=
  fun j => ∑ b : Fin 4, ∑ s : Fin 2048, H (ix3 b s (j 0)) * D (ix3 b s (j 1))

theorem step_at (v0 : FVec Ideal S1024x1024 .bf16) (v1 : FVec Ideal S1024x1024 .bf16) (a : FVec Ideal S1024x1024 .f32) (p : Fin 1024) (k : Fin 1024) :
    k0_pay2 (F := Ideal) v0 v1 a (ix2 p k) = a (ix2 p k) + ∑ q : Fin 1024, v0 (ix2 q p) * v1 (ix2 q k) := by
  pointwise [k0_pay2]

theorem zero_at (p : Fin 1024) (k : Fin 1024) : k0_pay1 (F := Ideal) (ix2 p k) = 0 := by
  pointwise [k0_pay1]

theorem out_at (a : FVec Ideal S1024x1024 .f32) (p : Fin 1024) (k : Fin 1024) : k0_pay3 (F := Ideal) a (ix2 p k) = a (ix2 p k) := by
  pointwise [k0_pay3]

theorem flatH_at (A : FVec Ideal S4x2048x1024 .f32) (r : Fin 8192) (n : Fin 1024) :
    (shapeCast S8192x1024 (truncf .bf16 A bitsLt_bf16_f32 : FVec Ideal _ .bf16) shapeCasts_S4x2048x1024_S8192x1024) (ix2 r n)
      = A (ix3 ⟨r.val / 2048, by omega⟩ ⟨r.val % 2048, by omega⟩ n) := by
  pointwise

theorem flatD_at (A : FVec Ideal S4x2048x3072 .f32) (r : Fin 8192) (n : Fin 3072) :
    (shapeCast S8192x3072 (truncf .bf16 A bitsLt_bf16_f32 : FVec Ideal _ .bf16) shapeCasts_S4x2048x3072_S8192x3072) (ix2 r n)
      = A (ix3 ⟨r.val / 2048, by omega⟩ ⟨r.val % 2048, by omega⟩ n) := by
  pointwise

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem last : ∀ t : Fin cfg0.N, (cfg0.win 2).flush t = true → t.val % 8 = 7 :=
  (by decide +kernel : ∀ t : Fin grid0.N, _)

theorem col_lt (t : Fin cfg0.N) (k : Fin 1024) : t.val / 8 * 1024 + k.val < 3072 := by have := lt_of_lt_of_eq t.isLt N_0; omega

theorem batch_lt (t : Fin cfg0.N) : t.val % 8 / 2 < 4 := by omega

theorem lane_lt (t : Fin cfg0.N) (q : Fin 1024) : t.val % 8 % 2 * 1024 + q.val < 2048 := by omega

theorem row_lt (t : Fin cfg0.N) (q : Fin 1024) : t.val % 8 * 1024 + q.val < 8192 := by omega

/-- A point's part of the sum. -/
def part (H : FVec Ideal S4x2048x1024 .f32) (D : FVec Ideal S4x2048x3072 .f32) (t : Fin cfg0.N) (j : S1024x1024.Idx) : EReal := ∑ q : Fin 1024,
  H (ix3 ⟨t.val % 8 / 2, batch_lt t⟩ ⟨t.val % 8 % 2 * 1024 + q.val, lane_lt t q⟩ (j 0))
  * D (ix3 ⟨t.val % 8 / 2, batch_lt t⟩ ⟨t.val % 8 % 2 * 1024 + q.val, lane_lt t q⟩ ⟨t.val / 8 * 1024 + (j 1).val, col_lt t (j 1)⟩)

section
variable (m : (ℓ : Loc nD τ sig) → Buf (Elt Ideal) ℓ) (c : Dev nD) (t : Fin cfg0.N)

theorem blk0 (q : Fin 1024) (p : Fin 1024) : iblk m c 0 t (ix2 q p) = (m (c.tc.loc main_arg0) : FVec Ideal S4x2048x1024 .f32)
    (ix3 ⟨t.val % 8 / 2, batch_lt t⟩ ⟨t.val % 8 % 2 * 1024 + q.val, lane_lt t q⟩ p) := by
  have hv : V m c main_v1 = (shapeCast S8192x1024 (truncf .bf16 (m (c.tc.loc main_arg0) : FVec Ideal S4x2048x1024 .f32) bitsLt_bf16_f32 : FVec Ideal _ .bf16)
      shapeCasts_S4x2048x1024_S8192x1024 : FVec Ideal S8192x1024 .bf16) := by
    unfold V
    rfl
  refine Eq.trans (b := (V m c main_v1 : FVec Ideal S8192x1024 .bf16) (ix2 ⟨t.val % 8 * 1024 + q.val, row_lt t q⟩ p)) ?_ ?_
  · blk_point [iblk, idx t]
  · rw [hv, flatH_at]
    exact congrArg₂ (fun a b => (m (c.tc.loc main_arg0) : FVec Ideal S4x2048x1024 .f32) (ix3 a b _)) (Fin.ext (by dsimp only; omega)) (Fin.ext (by dsimp only; omega))

theorem blk1 (q : Fin 1024) (k : Fin 1024) : iblk m c 1 t (ix2 q k) = (m (c.tc.loc main_arg1) : FVec Ideal S4x2048x3072 .f32)
    (ix3 ⟨t.val % 8 / 2, batch_lt t⟩ ⟨t.val % 8 % 2 * 1024 + q.val, lane_lt t q⟩ ⟨t.val / 8 * 1024 + k.val, col_lt t k⟩) := by
  have hv : V m c main_v3 = (shapeCast S8192x3072 (truncf .bf16 (m (c.tc.loc main_arg1) : FVec Ideal S4x2048x3072 .f32) bitsLt_bf16_f32 : FVec Ideal _ .bf16)
      shapeCasts_S4x2048x3072_S8192x3072 : FVec Ideal S8192x3072 .bf16) := by
    unfold V
    rfl
  refine Eq.trans (b := (V m c main_v3 : FVec Ideal S8192x3072 .bf16) (ix2 ⟨t.val % 8 * 1024 + q.val, row_lt t q⟩ ⟨t.val / 8 * 1024 + k.val, col_lt t k⟩)) ?_ ?_
  · blk_point [iblk, idx t]
  · rw [hv, flatD_at]
    exact congrArg₂ (fun a b => (m (c.tc.loc main_arg1) : FVec Ideal S4x2048x3072 .f32) (ix3 a b _)) (Fin.ext (by dsimp only; omega)) (Fin.ext (by dsimp only; omega))

theorem point_at (a : FVec Ideal S1024x1024 .f32) (p : Fin 1024) (k : Fin 1024) :
    k0_pay2 (F := Ideal) (iblk m c 0 t) (iblk m c 1 t) a (ix2 p k) = a (ix2 p k) + part (m (c.tc.loc main_arg0)) (m (c.tc.loc main_arg1)) t (ix2 p k) := by
  rw [step_at]
  unfold part
  simp only [blk0, blk1]
  rfl

theorem out_A (h : t.val % 8 = 0) (p : Fin 1024) (k : Fin 1024) : (outsAt0 m c t.val t.isLt).2 (ix2 p k) = 0 + part (m (c.tc.loc main_arg0)) (m (c.tc.loc main_arg1)) t (ix2 p k) := by
  rw [outsAt0_A m c t h (by omega)]
  frame_out
  rw [point_at, zero_at]

theorem out_B (h : ¬t.val % 8 = 0) (p : Fin 1024) (k : Fin 1024) : (outsAt0 m c t.val t.isLt).2 (ix2 p k)
    = (outsAt0 m c (t.val - 1) (Nat.lt_of_le_of_lt (Nat.sub_le _ _) t.isLt)).2 (ix2 p k) + part (m (c.tc.loc main_arg0)) (m (c.tc.loc main_arg1)) t (ix2 p k) := by
  by_cases h' : t.val % 8 = 7
  · rw [outsAt0_C m c t h h']
    frame_out
    rw [point_at, read_unread_whole]
  · rw [outsAt0_B m c t h h']
    frame_out
    rw [point_at, read_unread_whole]

theorem out_C (h : t.val % 8 = 7) (p : Fin 1024) (k : Fin 1024) : (outsAt0 m c t.val t.isLt).1 (ix2 p k) = (outsAt0 m c t.val t.isLt).2 (ix2 p k) := by
  rw [outsAt0_C m c t (by omega) h]
  frame_out
  rw [out_at]

/-- At a column block's last point the scratch holds the sum over all rows. -/
theorem acc_last (h : t.val % 8 = 7) (p : Fin 1024) (k : Fin 1024) : (outsAt0 m c t.val t.isLt).2 (ix2 p k)
    = grad (m (c.tc.loc main_arg0)) (m (c.tc.loc main_arg1)) (ix2 p ⟨t.val / 8 * 1024 + k.val, col_lt t k⟩) := by
  refine (Pipeline.eq_sum_fin_of_reset_step_apply_of_flush (fun n h => (outsAt0 m c n h).2) 8 (fun _ => 0) (fun t j => part (m (c.tc.loc main_arg0)) (m (c.tc.loc main_arg1)) t j)
    (fun t h j => by idx_vars j; exact out_A m c t h j0 j1) (fun t h j => by idx_vars j; exact out_B m c t h j0 j1) t h (ix2 p k)).trans ?_
  rw [zero_add]
  refine Fin.sum_points_lanes_congr 2 fun s q ha hl => ?_
  have e0 : (8 * (t.val / 8) + s.val) / 8 = t.val / 8 := by omega
  have e1 : (8 * (t.val / 8) + s.val) % 8 = s.val := by omega
  simp only [e0, e1]
  rfl

theorem final2 : (dats m 0 c).arrAt 2 cfg0.N = grad (m (c.tc.loc main_arg0)) (m (c.tc.loc main_arg1)) := by
  refine (dats m 0 c).arrAt_eq_of_covers 2 _ (by decide +kernel) fun t h y => ?_
  blk_simp
  rw [after0_2]
  idx_vars y
  refine (out_C m c t (last t h) y0 y1).trans ((acc_last m c t (last t h) y0 y1).trans ?_)
  rw [show ((View.whole main_v4).slice (win0_2.rect t)).emb (ix2 y0 y1)
    = ix2 y0 ⟨t.val / 8 * 1024 + y1.val, col_lt t y1⟩ from by blk_ext [idx t]]

end

end Cert.MmValue

namespace Cert.MmReference

open Cert.MmValue Cert.ReferenceMmIdeal Cert.ReferenceMmIdeal.Facts₀ Idealize.ShloMosaic Idealize.ShloMosaic.TcCoe Idealize.SL.Sem

theorem ref0_at (H : FVec Ideal S4x2048x1024 .f32) (D : FVec Ideal S4x2048x3072 .f32) (n : Fin 1024) (k : Fin 3072) : (truncf .bf16 (transpose S1024x3072 [1, 0] (Host.dotGeneral dot_S4x2048x3072_S4x2048x1024_S3072x1024_01_01_2_2_n_n none D H)
      transposes_S3072x1024_S1024x3072_1_0) bitsLt_bf16_f32
      : FVec Ideal S1024x3072 .bf16) (ix2 n k) = ∑ b : Fin 4, ∑ s : Fin 2048, H (ix3 b s n) * D (ix3 b s k) := by
  pointwise
  exact Finset.sum_congr rfl fun b _ => Finset.sum_congr rfl fun s _ => mul_comm _ _

end Cert.MmReference

namespace Cert.MmClaim

open Cert.MmValue Cert.MmReference Cert.KernelMmIdeal Cert.KernelMmIdeal.Gen Idealize.ShloMosaic Idealize.ShloMosaic.TcCoe
open Idealize.SL.Sem

theorem algebraic : Cert.algebraic_KernelMmIdeal_ReferenceMmIdeal := by
  intro m g m' g' hpre hargs
  refine ⟨_, Value.run_blocks m g, ?_⟩
  refine (θ_run Cert.ReferenceMmIdeal.defs _ _).mono (fun r h c => ?_) (ReferenceMmIdeal.Value.run m' g')
  obtain ⟨h0, h1⟩ := hargs c
  obtain ⟨e0, hr⟩ := h c
  refine ⟨e0.trans ?_, hr⟩
  all_goals
    clear hr h
  · rw [final2, h0, h1]
    funext j
    idx_vars j
    exact ref0_at _ _ j0 j1

end Cert.MmClaim

end
-- ==== Proof.Adam.lean ====
/-
The optimiser's formulas for one entry.
-/
module

public import proofs.«01_k».proof.Proof.NormGrad

@[expose] public section

noncomputable section

namespace Cert.Adam

open Idealize.ShloMosaic

abbrev lit (w : BitVec 32) : EReal := (Scalar.ofBits .f32 w : Ideal .f32)

/-- The first moment after the step. -/
def first (g m : EReal) : EReal := lit 0x3F666666#32 * m + lit 0x3DCCCCCD#32 * g

/-- The second moment after the step. -/
def second (g v : EReal) : EReal := lit 0x3F7FBE77#32 * v + lit 0x3A83126F#32 * (g * g)

/-- The weight's change, from the new moments. -/
def change (w m v : EReal) : EReal := lit 0xBA83126F#32 * (Ideal.div (Ideal.div m (lit 0x3F26BD02#32))
  (Ideal.sqrt (Ideal.div v (lit 0x3C231ACC#32)) + lit 0x322BCC77#32) + lit 0x3C23D70A#32 * w)

end Cert.Adam

end
-- ==== Proof.OptRClaim.lean ====
/-
The optimiser on a weight's row blocks, kernel and reference, equal.
-/
module

public import proofs.«01_k».proof.Defs
public import proofs.«01_k».proof.Proof.NormGrad
public import proofs.«01_k».proof.Proof.Adam
public import proofs.«01_k».proof.Proof.Gen.KernelOptRIdeal.Value
public import proofs.«01_k».proof.Proof.Gen.ReferenceOptRIdeal.Run
public import Idealize.ShloMosaic.Lib.Pipeline.ReadBack

@[expose] public section

set_option maxRecDepth 16384

noncomputable section

namespace Cert.OptRValue

open Cert.KernelOptRIdeal Cert.KernelOptRIdeal.Gen Idealize.ShloMosaic Idealize.ShloMosaic.TcCoe Idealize.SL.Sem

open Cert.Adam (lit first second change)

section
variable (W M V : FVec Ideal S1x1024x2304 .f32) (G : FVec Ideal S1024x2304 .f32)

def firstA : FVec Ideal S1x1024x2304 .f32 := fun j => first (G (ix2 (j 1) (j 2))) (M j)

def secondA : FVec Ideal S1x1024x2304 .f32 := fun j => second (G (ix2 (j 1) (j 2))) (V j)

def changeA : FVec Ideal S1x1024x2304 .f32 := fun j => change (W j) (firstA M G j) (secondA V G j)

end

section
variable (W M V : FVec Ideal S1x128x2304 .f32) (G : FVec Ideal S128x2304 .f32) (z : Fin 1) (p : Fin 128) (k : Fin 2304)

theorem first_at : k0_pay3 (F := Ideal) G M (ix2 p k) = first (G (ix2 p k)) (M (ix3 0 p k)) := by
  unfold first
  pointwise [k0_pay3]

theorem second_at : k0_pay4 (F := Ideal) G V (ix2 p k) = second (G (ix2 p k)) (V (ix3 0 p k)) := by
  unfold second
  pointwise [k0_pay4]

theorem change_at : k0_pay5 (F := Ideal) W G M V (ix3 z p k) = change (W (ix3 0 p k)) (first (G (ix2 p k)) (M (ix3 0 p k))) (second (G (ix2 p k)) (V (ix3 0 p k))) := by
  rw [← first_at, ← second_at]
  unfold change k0_pay5
  generalize k0_pay3 (F := Ideal) G M = A
  generalize k0_pay4 (F := Ideal) G V = B
  pointwise

theorem first_row : k0_pay1 (F := Ideal) (k0_pay3 G M) (ix3 z p k) = first (G (ix2 p k)) (M (ix3 0 p k)) := by
  rw [← first_at]
  generalize k0_pay3 (F := Ideal) G M = A
  pointwise [k0_pay1]

theorem second_row : k0_pay2 (F := Ideal) (k0_pay4 G V) (ix3 z p k) = second (G (ix2 p k)) (V (ix3 0 p k)) := by
  rw [← second_at]
  generalize k0_pay4 (F := Ideal) G V = A
  pointwise [k0_pay2]

end

theorem idx : ∀ t : Fin cfg0.N, win0_0.index t = ![0, t.val, 0] ∧ win0_1.index t = ![0, t.val, 0] ∧ win0_2.index t = ![0, t.val, 0] ∧ win0_3.index t = ![t.val, 0] ∧
    win0_4.index t = ![0, t.val, 0] ∧ win0_5.index t = ![0, t.val, 0] ∧ win0_6.index t = ![0, t.val, 0] :=
  (by decide +kernel : ∀ t : Fin grid0.N, _)

theorem row_lt (t : Fin cfg0.N) (p : Fin 128) : t.val * 128 + p.val < 1024 := by have := lt_of_lt_of_eq t.isLt N_0; omega

section
variable (m : (ℓ : Loc nD τ sig) → Buf (Elt Ideal) ℓ) (c : Dev nD) (t : Fin cfg0.N)

theorem blk0 (z : Fin 1) (p : Fin 128) (k : Fin 2304) : iblk m c 0 t (ix3 z p k)
    = (m (c.tc.loc main_arg0) : FVec Ideal S1x1024x2304 .f32) (ix3 0 ⟨t.val * 128 + p.val, row_lt t p⟩ k) := by
  blk_point [iblk, V, idx t]

theorem blk1 (z : Fin 1) (p : Fin 128) (k : Fin 2304) : iblk m c 1 t (ix3 z p k)
    = (m (c.tc.loc main_arg1) : FVec Ideal S1x1024x2304 .f32) (ix3 0 ⟨t.val * 128 + p.val, row_lt t p⟩ k) := by
  blk_point [iblk, V, idx t]

theorem blk2 (z : Fin 1) (p : Fin 128) (k : Fin 2304) : iblk m c 2 t (ix3 z p k)
    = (m (c.tc.loc main_arg2) : FVec Ideal S1x1024x2304 .f32) (ix3 0 ⟨t.val * 128 + p.val, row_lt t p⟩ k) := by
  blk_point [iblk, V, idx t]

theorem blk3 (p : Fin 128) (k : Fin 2304) : iblk m c 3 t (ix2 p k)
    = (m (c.tc.loc main_arg3) : FVec Ideal S1024x2304 .f32) (ix2 ⟨t.val * 128 + p.val, row_lt t p⟩ k) := by
  blk_point [iblk, V, idx t]

theorem final4 : (dats m 0 c).arrAt 4 cfg0.N = changeA (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4, show out0_4 (F := Ideal) (iblk m c 0 t) (iblk m c 1 t) (iblk m c 2 t) (iblk m c 3 t)
    = k0_pay5 (F := Ideal) (iblk m c 0 t) (iblk m c 3 t) (iblk m c 1 t) (iblk m c 2 t) from by unfold out0_4; frame_out]
  idx_vars y
  rw [change_at]
  simp only [blk0, blk1, blk2, blk3]
  rw [show ((View.whole main_v0_0).slice (win0_4.rect t)).emb (ix3 y0 y1 y2)
    = ix3 0 ⟨t.val * 128 + y1.val, row_lt t y1⟩ y2 from by blk_ext [idx t]]
  rfl

theorem final5 : (dats m 0 c).arrAt 5 cfg0.N = firstA (m (c.tc.loc main_arg1)) (m (c.tc.loc main_arg3)) := by
  refine (dats m 0 c).arrAt_eq_of_covers 5 _ (by decide +kernel) fun t _ y => ?_
  blk_simp
  rw [after0_5, show out0_5 (F := Ideal) (iblk m c 0 t) (iblk m c 1 t) (iblk m c 2 t) (iblk m c 3 t)
    = k0_pay1 (F := Ideal) (k0_pay3 (iblk m c 3 t) (iblk m c 1 t)) from by unfold out0_5; frame_out]
  idx_vars y
  rw [first_row]
  simp only [blk1, blk3]
  rw [show ((View.whole main_v0_1).slice (win0_5.rect t)).emb (ix3 y0 y1 y2)
    = ix3 0 ⟨t.val * 128 + y1.val, row_lt t y1⟩ y2 from by blk_ext [idx t]]
  rfl

theorem final6 : (dats m 0 c).arrAt 6 cfg0.N = secondA (m (c.tc.loc main_arg2)) (m (c.tc.loc main_arg3)) := by
  refine (dats m 0 c).arrAt_eq_of_covers 6 _ (by decide +kernel) fun t _ y => ?_
  blk_simp
  rw [after0_6, show out0_6 (F := Ideal) (iblk m c 0 t) (iblk m c 1 t) (iblk m c 2 t) (iblk m c 3 t)
    = k0_pay2 (F := Ideal) (k0_pay4 (iblk m c 3 t) (iblk m c 2 t)) from by unfold out0_6; frame_out]
  idx_vars y
  rw [second_row]
  simp only [blk2, blk3]
  rw [show ((View.whole main_v0_2).slice (win0_6.rect t)).emb (ix3 y0 y1 y2)
    = ix3 0 ⟨t.val * 128 + y1.val, row_lt t y1⟩ y2 from by blk_ext [idx t]]
  rfl

end

end Cert.OptRValue

namespace Cert.OptRReference

open Cert.Adam (lit first second change)
open Cert.OptRValue Cert.ReferenceOptRIdeal Cert.ReferenceOptRIdeal.Facts₀ Idealize.ShloMosaic Idealize.ShloMosaic.TcCoe Idealize.SL.Sem

section
variable (W M V : FVec Ideal S1x1024x2304 .f32) (G : FVec Ideal S1024x2304 .f32) (z : Fin 1) (r : Fin 1024) (k : Fin 2304)

theorem ref0_at : (mulf (broadcastInDim S1x1024x2304 ![] bcast_S_S1x1024x2304 (constant S_ .f32 0xBA83126F#32)) (addf (Host.divf (Host.divf (addf (mulf
      (broadcastInDim S1x1024x2304 ![] bcast_S_S1x1024x2304 (constant S_ .f32 0x3F666666#32)) M) (mulf (broadcastInDim S1x1024x2304 ![]
      bcast_S_S1x1024x2304 (constant S_ .f32 0x3DCCCCCD#32)) (broadcastInDim S1x1024x2304 ![1, 2] bcast_S1024x2304_S1x1024x2304_1_2 G)))
      (broadcastInDim S1x1024x2304 ![] bcast_S_S1x1024x2304 (constant S_ .f32 0x3F26BD02#32))) (addf (Host.sqrt (Host.divf (addf (mulf
      (broadcastInDim S1x1024x2304 ![] bcast_S_S1x1024x2304 (constant S_ .f32 0x3F7FBE77#32)) V) (mulf (broadcastInDim S1x1024x2304 ![]
      bcast_S_S1x1024x2304 (constant S_ .f32 0x3A83126F#32)) (mulf (broadcastInDim S1x1024x2304 ![1, 2] bcast_S1024x2304_S1x1024x2304_1_2 G)
      (broadcastInDim S1x1024x2304 ![1, 2] bcast_S1024x2304_S1x1024x2304_1_2 G)))) (broadcastInDim S1x1024x2304 ![] bcast_S_S1x1024x2304 (constant
      S_ .f32 0x3C231ACC#32)))) (broadcastInDim S1x1024x2304 ![] bcast_S_S1x1024x2304 (constant S_ .f32 0x322BCC77#32)))) (mulf (broadcastInDim
      S1x1024x2304 ![] bcast_S_S1x1024x2304 (constant S_ .f32 0x3C23D70A#32)) W))
      : FVec Ideal S1x1024x2304 .f32) (ix3 z r k) = change (W (ix3 z r k)) (first (G (ix2 r k)) (M (ix3 z r k))) (second (G (ix2 r k)) (V (ix3 z r k))) := by
  unfold change first second
  pointwise

theorem ref1_at : (addf (mulf (broadcastInDim S1x1024x2304 ![] bcast_S_S1x1024x2304 (constant S_ .f32 0x3F666666#32)) M) (mulf (broadcastInDim S1x1024x2304 ![]
      bcast_S_S1x1024x2304 (constant S_ .f32 0x3DCCCCCD#32)) (broadcastInDim S1x1024x2304 ![1, 2] bcast_S1024x2304_S1x1024x2304_1_2 G))
      : FVec Ideal S1x1024x2304 .f32) (ix3 z r k) = first (G (ix2 r k)) (M (ix3 z r k)) := by
  unfold first
  pointwise

theorem ref2_at : (addf (mulf (broadcastInDim S1x1024x2304 ![] bcast_S_S1x1024x2304 (constant S_ .f32 0x3F7FBE77#32)) V) (mulf (broadcastInDim S1x1024x2304 ![]
      bcast_S_S1x1024x2304 (constant S_ .f32 0x3A83126F#32)) (mulf (broadcastInDim S1x1024x2304 ![1, 2] bcast_S1024x2304_S1x1024x2304_1_2 G)
      (broadcastInDim S1x1024x2304 ![1, 2] bcast_S1024x2304_S1x1024x2304_1_2 G)))
      : FVec Ideal S1x1024x2304 .f32) (ix3 z r k) = second (G (ix2 r k)) (V (ix3 z r k)) := by
  unfold second
  pointwise

end

end Cert.OptRReference

namespace Cert.OptRClaim

open Cert.OptRValue Cert.OptRReference Cert.KernelOptRIdeal Cert.KernelOptRIdeal.Gen Idealize.ShloMosaic Idealize.ShloMosaic.TcCoe
open Idealize.SL.Sem

theorem algebraic : Cert.algebraic_KernelOptRIdeal_ReferenceOptRIdeal := by
  intro m g m' g' hpre hargs
  refine ⟨_, _, _, Value.run_blocks m g, ?_⟩
  refine (θ_run Cert.ReferenceOptRIdeal.defs _ _).mono (fun r h c => ?_) (ReferenceOptRIdeal.Value.run m' g')
  obtain ⟨h0, h1, h2, h3⟩ := hargs c
  obtain ⟨e0, e1, e2, hr⟩ := h c
  refine ⟨e0.trans ?_, e1.trans ?_, e2.trans ?_, hr⟩
  all_goals
    clear hr h
  · rw [final4, h0, h1, h2, h3]
    funext j
    idx_vars j
    exact ref0_at _ _ _ _ j0 j1 j2
  · rw [final5, h1, h3]
    funext j
    idx_vars j
    exact ref1_at _ _ j0 j1 j2
  · rw [final6, h2, h3]
    funext j
    idx_vars j
    exact ref2_at _ _ j0 j1 j2

end Cert.OptRClaim

end
-- ==== Proof.OptBClaim.lean ====
/-
The optimiser on a weight's slab with its gradient's sum, kernel and reference, equal.
-/
module

public import proofs.«01_k».proof.Defs
public import proofs.«01_k».proof.Proof.NormGrad
public import proofs.«01_k».proof.Proof.Adam
public import proofs.«01_k».proof.Proof.Gen.KernelOptBIdeal.Value
public import proofs.«01_k».proof.Proof.Gen.ReferenceOptBIdeal.Run
public import Idealize.ShloMosaic.Lib.Pipeline.ReadBack

@[expose] public section

set_option maxRecDepth 16384

noncomputable section

namespace Cert.OptBValue

open Cert.KernelOptBIdeal Cert.KernelOptBIdeal.Gen Idealize.ShloMosaic Idealize.ShloMosaic.TcCoe Idealize.SL.Sem

open Cert.Adam (lit first second change)

section
variable (W M V : FVec Ideal S1x1024x1408 .f32) (O C : FVec Ideal S4x1024x1408 .bf16)

def gradA : FVec Ideal S1x1024x1408 .f32 := fun j => (∑ d : Fin 4, O (ix3 d (j 1) (j 2))) + ∑ d : Fin 4, C (ix3 d (j 1) (j 2))

def firstA : FVec Ideal S1x1024x1408 .f32 := fun j => first (gradA O C j) (M j)

def secondA : FVec Ideal S1x1024x1408 .f32 := fun j => second (gradA O C j) (V j)

def changeA : FVec Ideal S1x1024x1408 .f32 := fun j => change (W j) (firstA M O C j) (secondA V O C j)

end

section
variable (x : Vec Ideal S4x128x1408 .bf16) (z : Fin 1) (p : Fin 128) (k : Fin 1408)

theorem slabs : (View.ld x r0_0 : Vec Ideal S1x128x1408 .bf16) (ix3 z p k) = x (ix3 0 p k)
    ∧ (View.ld x r0_1 : Vec Ideal S1x128x1408 .bf16) (ix3 z p k) = x (ix3 1 p k)
    ∧ (View.ld x r0_2 : Vec Ideal S1x128x1408 .bf16) (ix3 z p k) = x (ix3 2 p k)
    ∧ (View.ld x r0_3 : Vec Ideal S1x128x1408 .bf16) (ix3 z p k) = x (ix3 3 p k) := by
  obtain rfl : z = 0 := Subsingleton.elim _ _
  refine ⟨?_, ?_, ?_, ?_⟩
  all_goals
    refine congrArg x (funext fun a => Fin.ext ((Rect.idx_unit_val _ _ _ _ a).trans ?_))
    fin_cases a
    · rfl
    · exact Nat.zero_add _
    · exact Nat.zero_add _

end

section
variable (W M V : FVec Ideal S1x128x1408 .f32) (O C : Vec Ideal S4x128x1408 .bf16) (z : Fin 1) (p : Fin 128) (k : Fin 1408)

def grad : EReal := (∑ d : Fin 4, O (ix3 d p k)) + ∑ d : Fin 4, C (ix3 d p k)

theorem grad_at : k0_pay8 (F := Ideal) W M V O C (ix2 p k) = grad O C p k := by
  unfold k0_pay8 grad
  rw [Fin.sum_univ_four, Fin.sum_univ_four]
  obtain ⟨h0, h1, h2, h3⟩ := slabs O 0 p k
  obtain ⟨e0, e1, e2, e3⟩ := slabs C 0 p k
  rw [← h0, ← h1, ← h2, ← h3, ← e0, ← e1, ← e2, ← e3]
  clear h0 h1 h2 h3 e0 e1 e2 e3
  generalize (View.ld O r0_0 : Vec Ideal S1x128x1408 .bf16) = a0
  generalize (View.ld C r0_0 : Vec Ideal S1x128x1408 .bf16) = b0
  generalize (View.ld O r0_1 : Vec Ideal S1x128x1408 .bf16) = a1
  generalize (View.ld C r0_1 : Vec Ideal S1x128x1408 .bf16) = b1
  generalize (View.ld O r0_2 : Vec Ideal S1x128x1408 .bf16) = a2
  generalize (View.ld C r0_2 : Vec Ideal S1x128x1408 .bf16) = b2
  generalize (View.ld O r0_3 : Vec Ideal S1x128x1408 .bf16) = a3
  generalize (View.ld C r0_3 : Vec Ideal S1x128x1408 .bf16) = b3
  pointwise [k0_pay3]

theorem first_at : k0_pay4 (F := Ideal) (k0_pay8 W M V O C) M (ix2 p k) = first (grad O C p k) (M (ix3 0 p k)) := by
  rw [← grad_at W M V]
  unfold first
  generalize k0_pay8 (F := Ideal) W M V O C = G
  pointwise [k0_pay4]

theorem second_at : k0_pay5 (F := Ideal) (k0_pay8 W M V O C) V (ix2 p k) = second (grad O C p k) (V (ix3 0 p k)) := by
  rw [← grad_at W M V]
  unfold second
  generalize k0_pay8 (F := Ideal) W M V O C = G
  pointwise [k0_pay5]

theorem change_at : k0_pay7 (F := Ideal) (k0_pay8 W M V O C) W M V (ix3 z p k)
    = change (W (ix3 0 p k)) (first (grad O C p k) (M (ix3 0 p k))) (second (grad O C p k) (V (ix3 0 p k))) := by
  rw [← first_at W M V, ← second_at W M V]
  unfold change k0_pay7
  generalize k0_pay4 (F := Ideal) (k0_pay8 W M V O C) M = A
  generalize k0_pay5 (F := Ideal) (k0_pay8 W M V O C) V = D
  pointwise

theorem row_at (A : FVec Ideal S128x1408 .f32) : k0_pay6 (F := Ideal) A (ix3 z p k) = A (ix2 p k) := by
  pointwise [k0_pay6]

theorem first_row : k0_pay1 (F := Ideal) (k0_pay4 (k0_pay8 W M V O C) M) (ix3 z p k) = first (grad O C p k) (M (ix3 0 p k)) :=
  (row_at z p k _).trans (first_at W M V O C p k)

theorem second_row : k0_pay2 (F := Ideal) (k0_pay5 (k0_pay8 W M V O C) V) (ix3 z p k) = second (grad O C p k) (V (ix3 0 p k)) :=
  (row_at z p k _).trans (second_at W M V O C p k)

theorem grad_row : k0_pay6 (F := Ideal) (k0_pay8 W M V O C) (ix3 z p k) = grad O C p k :=
  (row_at z p k _).trans (grad_at W M V O C p k)

end

theorem idx : ∀ t : Fin cfg0.N, win0_0.index t = ![0, t.val, 0] ∧ win0_1.index t = ![0, t.val, 0] ∧ win0_2.index t = ![0, t.val, 0] ∧ win0_3.index t = ![0, t.val, 0] ∧
    win0_4.index t = ![0, t.val, 0] ∧ win0_5.index t = ![0, t.val, 0] ∧ win0_6.index t = ![0, t.val, 0] ∧ win0_7.index t = ![0, t.val, 0] ∧
    win0_8.index t = ![0, t.val, 0] :=
  (by decide +kernel : ∀ t : Fin grid0.N, _)

theorem row_lt (t : Fin cfg0.N) (p : Fin 128) : t.val * 128 + p.val < 1024 := by have := lt_of_lt_of_eq t.isLt N_0; omega

section
variable (m : (ℓ : Loc nD τ sig) → Buf (Elt Ideal) ℓ) (c : Dev nD) (t : Fin cfg0.N)

theorem blk0 (z : Fin 1) (p : Fin 128) (k : Fin 1408) : iblk m c 0 t (ix3 z p k)
    = (m (c.tc.loc main_arg0) : FVec Ideal S1x1024x1408 .f32) (ix3 0 ⟨t.val * 128 + p.val, row_lt t p⟩ k) := by
  blk_point [iblk, V, idx t]

theorem blk1 (z : Fin 1) (p : Fin 128) (k : Fin 1408) : iblk m c 1 t (ix3 z p k)
    = (m (c.tc.loc main_arg1) : FVec Ideal S1x1024x1408 .f32) (ix3 0 ⟨t.val * 128 + p.val, row_lt t p⟩ k) := by
  blk_point [iblk, V, idx t]

theorem blk2 (z : Fin 1) (p : Fin 128) (k : Fin 1408) : iblk m c 2 t (ix3 z p k)
    = (m (c.tc.loc main_arg2) : FVec Ideal S1x1024x1408 .f32) (ix3 0 ⟨t.val * 128 + p.val, row_lt t p⟩ k) := by
  blk_point [iblk, V, idx t]

theorem blk3 (d : Fin 4) (p : Fin 128) (k : Fin 1408) : iblk m c 3 t (ix3 d p k)
    = (m (c.tc.loc main_arg3) : FVec Ideal S4x1024x1408 .bf16) (ix3 d ⟨t.val * 128 + p.val, row_lt t p⟩ k) := by
  blk_point [iblk, V, idx t]

theorem blk4 (d : Fin 4) (p : Fin 128) (k : Fin 1408) : iblk m c 4 t (ix3 d p k)
    = (m (c.tc.loc main_arg4) : FVec Ideal S4x1024x1408 .bf16) (ix3 d ⟨t.val * 128 + p.val, row_lt t p⟩ k) := by
  blk_point [iblk, V, idx t]

theorem final5 : (dats m 0 c).arrAt 5 cfg0.N = gradA (m (c.tc.loc main_arg3)) (m (c.tc.loc main_arg4)) := by
  refine (dats m 0 c).arrAt_eq_of_covers 5 _ (by decide +kernel) fun t _ y => ?_
  blk_simp
  rw [after0_5, show out0_5 (F := Ideal) (iblk m c 0 t) (iblk m c 1 t) (iblk m c 2 t) (iblk m c 3 t) (iblk m c 4 t)
    = k0_pay6 (F := Ideal) (k0_pay8 (iblk m c 0 t) (iblk m c 1 t) (iblk m c 2 t) (iblk m c 3 t) (iblk m c 4 t)) from by unfold out0_5; frame_out]
  idx_vars y
  rw [grad_row, grad]
  simp only [blk3, blk4]
  rw [show ((View.whole main_v0_0).slice (win0_5.rect t)).emb (ix3 y0 y1 y2)
    = ix3 0 ⟨t.val * 128 + y1.val, row_lt t y1⟩ y2 from by blk_ext [idx t]]
  rfl

theorem final6 : (dats m 0 c).arrAt 6 cfg0.N = changeA (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t _ y => ?_
  blk_simp
  rw [after0_6, show out0_6 (F := Ideal) (iblk m c 0 t) (iblk m c 1 t) (iblk m c 2 t) (iblk m c 3 t) (iblk m c 4 t)
    = k0_pay7 (F := Ideal) (k0_pay8 (iblk m c 0 t) (iblk m c 1 t) (iblk m c 2 t) (iblk m c 3 t) (iblk m c 4 t)) (iblk m c 0 t) (iblk m c 1 t) (iblk m c 2 t) from by unfold out0_6; frame_out]
  idx_vars y
  rw [change_at, grad]
  simp only [blk0, blk1, blk2, blk3, blk4]
  rw [show ((View.whole main_v0_1).slice (win0_6.rect t)).emb (ix3 y0 y1 y2)
    = ix3 0 ⟨t.val * 128 + y1.val, row_lt t y1⟩ y2 from by blk_ext [idx t]]
  rfl

theorem final7 : (dats m 0 c).arrAt 7 cfg0.N = firstA (m (c.tc.loc main_arg1)) (m (c.tc.loc main_arg3)) (m (c.tc.loc main_arg4)) := by
  refine (dats m 0 c).arrAt_eq_of_covers 7 _ (by decide +kernel) fun t _ y => ?_
  blk_simp
  rw [after0_7, show out0_7 (F := Ideal) (iblk m c 0 t) (iblk m c 1 t) (iblk m c 2 t) (iblk m c 3 t) (iblk m c 4 t)
    = k0_pay1 (F := Ideal) (k0_pay4 (k0_pay8 (iblk m c 0 t) (iblk m c 1 t) (iblk m c 2 t) (iblk m c 3 t) (iblk m c 4 t)) (iblk m c 1 t)) from by unfold out0_7; frame_out]
  idx_vars y
  rw [first_row, grad]
  simp only [blk1, blk3, blk4]
  rw [show ((View.whole main_v0_2).slice (win0_7.rect t)).emb (ix3 y0 y1 y2)
    = ix3 0 ⟨t.val * 128 + y1.val, row_lt t y1⟩ y2 from by blk_ext [idx t]]
  rfl

theorem final8 : (dats m 0 c).arrAt 8 cfg0.N = secondA (m (c.tc.loc main_arg2)) (m (c.tc.loc main_arg3)) (m (c.tc.loc main_arg4)) := by
  refine (dats m 0 c).arrAt_eq_of_covers 8 _ (by decide +kernel) fun t _ y => ?_
  blk_simp
  rw [after0_8, show out0_8 (F := Ideal) (iblk m c 0 t) (iblk m c 1 t) (iblk m c 2 t) (iblk m c 3 t) (iblk m c 4 t)
    = k0_pay2 (F := Ideal) (k0_pay5 (k0_pay8 (iblk m c 0 t) (iblk m c 1 t) (iblk m c 2 t) (iblk m c 3 t) (iblk m c 4 t)) (iblk m c 2 t)) from by unfold out0_8; frame_out]
  idx_vars y
  rw [second_row, grad]
  simp only [blk2, blk3, blk4]
  rw [show ((View.whole main_v0_3).slice (win0_8.rect t)).emb (ix3 y0 y1 y2)
    = ix3 0 ⟨t.val * 128 + y1.val, row_lt t y1⟩ y2 from by blk_ext [idx t]]
  rfl

end

end Cert.OptBValue

namespace Cert.OptBReference

open Cert.Adam (lit first second change)
open Cert.OptBValue Cert.ReferenceOptBIdeal Cert.ReferenceOptBIdeal.Facts₀ Idealize.ShloMosaic Idealize.ShloMosaic.TcCoe Idealize.SL.Sem

def gradR (O C : FVec Ideal S4x1024x1408 .bf16) : FVec Ideal S1x1024x1408 .f32 := broadcastInDim S1x1024x1408 ![1, 2] bcast_S1024x1408_S1x1024x1408_1_2 (addf (Host.reduceAdd (extf .f32 O bitsLt_bf16_f32) (constant S_ .f32 0x00000000#32) reducesTo_S4x1024x1408_S1024x1408_d0 h_S_) (Host.reduceAdd (extf .f32 C bitsLt_bf16_f32) (constant S_ .f32 0x00000000#32) reducesTo_S4x1024x1408_S1024x1408_d0 h_S_))

section
variable (W M V : FVec Ideal S1x1024x1408 .f32) (O C : FVec Ideal S4x1024x1408 .bf16) (z : Fin 1) (r : Fin 1024) (k : Fin 1408)

theorem gradR_at : gradR O C (ix3 z r k) = ((∑ d : Fin 4, O (ix3 d r k)) + ∑ d : Fin 4, C (ix3 d r k)) := by
  pointwise [gradR]

theorem ref0_at : (broadcastInDim S1x1024x1408 ![1, 2] bcast_S1024x1408_S1x1024x1408_1_2 (addf (Host.reduceAdd (extf .f32 O bitsLt_bf16_f32) (constant S_ .f32
      0x00000000#32) reducesTo_S4x1024x1408_S1024x1408_d0 h_S_) (Host.reduceAdd (extf .f32 C bitsLt_bf16_f32) (constant S_ .f32 0x00000000#32)
      reducesTo_S4x1024x1408_S1024x1408_d0 h_S_))
      : FVec Ideal S1x1024x1408 .f32) (ix3 z r k) = ((∑ d : Fin 4, O (ix3 d r k)) + ∑ d : Fin 4, C (ix3 d r k)) := by
  exact gradR_at O C z r k

theorem ref1_at : (mulf (broadcastInDim S1x1024x1408 ![] bcast_S_S1x1024x1408 (constant S_ .f32 0xBA83126F#32)) (addf (Host.divf (Host.divf (addf (mulf
      (broadcastInDim S1x1024x1408 ![] bcast_S_S1x1024x1408 (constant S_ .f32 0x3F666666#32)) M) (mulf (broadcastInDim S1x1024x1408 ![]
      bcast_S_S1x1024x1408 (constant S_ .f32 0x3DCCCCCD#32)) (broadcastInDim S1x1024x1408 ![1, 2] bcast_S1024x1408_S1x1024x1408_1_2 (addf
      (Host.reduceAdd (extf .f32 O bitsLt_bf16_f32) (constant S_ .f32 0x00000000#32) reducesTo_S4x1024x1408_S1024x1408_d0 h_S_) (Host.reduceAdd
      (extf .f32 C bitsLt_bf16_f32) (constant S_ .f32 0x00000000#32) reducesTo_S4x1024x1408_S1024x1408_d0 h_S_))))) (broadcastInDim S1x1024x1408
      ![] bcast_S_S1x1024x1408 (constant S_ .f32 0x3F26BD02#32))) (addf (Host.sqrt (Host.divf (addf (mulf (broadcastInDim S1x1024x1408 ![]
      bcast_S_S1x1024x1408 (constant S_ .f32 0x3F7FBE77#32)) V) (mulf (broadcastInDim S1x1024x1408 ![] bcast_S_S1x1024x1408 (constant S_ .f32
      0x3A83126F#32)) (mulf (broadcastInDim S1x1024x1408 ![1, 2] bcast_S1024x1408_S1x1024x1408_1_2 (addf (Host.reduceAdd (extf .f32 O
      bitsLt_bf16_f32) (constant S_ .f32 0x00000000#32) reducesTo_S4x1024x1408_S1024x1408_d0 h_S_) (Host.reduceAdd (extf .f32 C bitsLt_bf16_f32)
      (constant S_ .f32 0x00000000#32) reducesTo_S4x1024x1408_S1024x1408_d0 h_S_))) (broadcastInDim S1x1024x1408 ![1, 2]
      bcast_S1024x1408_S1x1024x1408_1_2 (addf (Host.reduceAdd (extf .f32 O bitsLt_bf16_f32) (constant S_ .f32 0x00000000#32)
      reducesTo_S4x1024x1408_S1024x1408_d0 h_S_) (Host.reduceAdd (extf .f32 C bitsLt_bf16_f32) (constant S_ .f32 0x00000000#32)
      reducesTo_S4x1024x1408_S1024x1408_d0 h_S_)))))) (broadcastInDim S1x1024x1408 ![] bcast_S_S1x1024x1408 (constant S_ .f32 0x3C231ACC#32))))
      (broadcastInDim S1x1024x1408 ![] bcast_S_S1x1024x1408 (constant S_ .f32 0x322BCC77#32)))) (mulf (broadcastInDim S1x1024x1408 ![]
      bcast_S_S1x1024x1408 (constant S_ .f32 0x3C23D70A#32)) W))
      : FVec Ideal S1x1024x1408 .f32) (ix3 z r k) = change (W (ix3 z r k)) (first ((∑ d : Fin 4, O (ix3 d r k)) + ∑ d : Fin 4, C (ix3 d r k)) (M (ix3 z r k))) (second ((∑ d : Fin 4, O (ix3 d r k)) + ∑ d : Fin 4, C (ix3 d r k)) (V (ix3 z r k))) := by
  rw [show ((∑ d : Fin 4, O (ix3 d r k)) + ∑ d : Fin 4, C (ix3 d r k)) = gradR O C (ix3 z r k) from (gradR_at O C z r k).symm]
  change (mulf (broadcastInDim S1x1024x1408 ![] bcast_S_S1x1024x1408 (constant S_ .f32 0xBA83126F#32)) (addf (Host.divf (Host.divf (addf (mulf (broadcastInDim S1x1024x1408 ![] bcast_S_S1x1024x1408 (constant S_ .f32 0x3F666666#32)) M) (mulf (broadcastInDim S1x1024x1408 ![] bcast_S_S1x1024x1408 (constant S_ .f32 0x3DCCCCCD#32)) (gradR O C))) (broadcastInDim S1x1024x1408 ![] bcast_S_S1x1024x1408 (constant S_ .f32 0x3F26BD02#32))) (addf (Host.sqrt (Host.divf (addf (mulf (broadcastInDim S1x1024x1408 ![] bcast_S_S1x1024x1408 (constant S_ .f32 0x3F7FBE77#32)) V) (mulf (broadcastInDim S1x1024x1408 ![] bcast_S_S1x1024x1408 (constant S_ .f32 0x3A83126F#32)) (mulf (gradR O C) (gradR O C)))) (broadcastInDim S1x1024x1408 ![] bcast_S_S1x1024x1408 (constant S_ .f32 0x3C231ACC#32)))) (broadcastInDim S1x1024x1408 ![] bcast_S_S1x1024x1408 (constant S_ .f32 0x322BCC77#32)))) (mulf (broadcastInDim S1x1024x1408 ![] bcast_S_S1x1024x1408 (constant S_ .f32 0x3C23D70A#32)) W)) : FVec Ideal S1x1024x1408 .f32) (ix3 z r k) = _
  unfold change first second
  generalize gradR O C = G
  pointwise

theorem ref2_at : (addf (mulf (broadcastInDim S1x1024x1408 ![] bcast_S_S1x1024x1408 (constant S_ .f32 0x3F666666#32)) M) (mulf (broadcastInDim S1x1024x1408 ![]
      bcast_S_S1x1024x1408 (constant S_ .f32 0x3DCCCCCD#32)) (broadcastInDim S1x1024x1408 ![1, 2] bcast_S1024x1408_S1x1024x1408_1_2 (addf
      (Host.reduceAdd (extf .f32 O bitsLt_bf16_f32) (constant S_ .f32 0x00000000#32) reducesTo_S4x1024x1408_S1024x1408_d0 h_S_) (Host.reduceAdd
      (extf .f32 C bitsLt_bf16_f32) (constant S_ .f32 0x00000000#32) reducesTo_S4x1024x1408_S1024x1408_d0 h_S_))))
      : FVec Ideal S1x1024x1408 .f32) (ix3 z r k) = first ((∑ d : Fin 4, O (ix3 d r k)) + ∑ d : Fin 4, C (ix3 d r k)) (M (ix3 z r k)) := by
  rw [show ((∑ d : Fin 4, O (ix3 d r k)) + ∑ d : Fin 4, C (ix3 d r k)) = gradR O C (ix3 z r k) from (gradR_at O C z r k).symm]
  change (addf (mulf (broadcastInDim S1x1024x1408 ![] bcast_S_S1x1024x1408 (constant S_ .f32 0x3F666666#32)) M) (mulf (broadcastInDim S1x1024x1408 ![] bcast_S_S1x1024x1408 (constant S_ .f32 0x3DCCCCCD#32)) (gradR O C)) : FVec Ideal S1x1024x1408 .f32) (ix3 z r k) = _
  unfold first
  generalize gradR O C = G
  pointwise

theorem ref3_at : (addf (mulf (broadcastInDim S1x1024x1408 ![] bcast_S_S1x1024x1408 (constant S_ .f32 0x3F7FBE77#32)) V) (mulf (broadcastInDim S1x1024x1408 ![]
      bcast_S_S1x1024x1408 (constant S_ .f32 0x3A83126F#32)) (mulf (broadcastInDim S1x1024x1408 ![1, 2] bcast_S1024x1408_S1x1024x1408_1_2 (addf
      (Host.reduceAdd (extf .f32 O bitsLt_bf16_f32) (constant S_ .f32 0x00000000#32) reducesTo_S4x1024x1408_S1024x1408_d0 h_S_) (Host.reduceAdd
      (extf .f32 C bitsLt_bf16_f32) (constant S_ .f32 0x00000000#32) reducesTo_S4x1024x1408_S1024x1408_d0 h_S_))) (broadcastInDim S1x1024x1408
      ![1, 2] bcast_S1024x1408_S1x1024x1408_1_2 (addf (Host.reduceAdd (extf .f32 O bitsLt_bf16_f32) (constant S_ .f32 0x00000000#32)
      reducesTo_S4x1024x1408_S1024x1408_d0 h_S_) (Host.reduceAdd (extf .f32 C bitsLt_bf16_f32) (constant S_ .f32 0x00000000#32)
      reducesTo_S4x1024x1408_S1024x1408_d0 h_S_)))))
      : FVec Ideal S1x1024x1408 .f32) (ix3 z r k) = second ((∑ d : Fin 4, O (ix3 d r k)) + ∑ d : Fin 4, C (ix3 d r k)) (V (ix3 z r k)) := by
  rw [show ((∑ d : Fin 4, O (ix3 d r k)) + ∑ d : Fin 4, C (ix3 d r k)) = gradR O C (ix3 z r k) from (gradR_at O C z r k).symm]
  change (addf (mulf (broadcastInDim S1x1024x1408 ![] bcast_S_S1x1024x1408 (constant S_ .f32 0x3F7FBE77#32)) V) (mulf (broadcastInDim S1x1024x1408 ![] bcast_S_S1x1024x1408 (constant S_ .f32 0x3A83126F#32)) (mulf (gradR O C) (gradR O C))) : FVec Ideal S1x1024x1408 .f32) (ix3 z r k) = _
  unfold second
  generalize gradR O C = G
  pointwise

end

end Cert.OptBReference

namespace Cert.OptBClaim

open Cert.OptBValue Cert.OptBReference Cert.KernelOptBIdeal Cert.KernelOptBIdeal.Gen Idealize.ShloMosaic Idealize.ShloMosaic.TcCoe
open Idealize.SL.Sem

theorem algebraic : Cert.algebraic_KernelOptBIdeal_ReferenceOptBIdeal := by
  intro m g m' g' hpre hargs
  refine ⟨_, _, _, _, Value.run_blocks m g, ?_⟩
  refine (θ_run Cert.ReferenceOptBIdeal.defs _ _).mono (fun r h c => ?_) (ReferenceOptBIdeal.Value.run m' g')
  obtain ⟨h0, h1, h2, h3, h4⟩ := hargs c
  obtain ⟨e0, e1, e2, e3, hr⟩ := h c
  refine ⟨e0.trans ?_, e1.trans ?_, e2.trans ?_, e3.trans ?_, hr⟩
  all_goals
    clear hr h
  · rw [final5, h3, h4]
    funext j
    idx_vars j
    exact ref0_at _ _ j0 j1 j2
  · rw [final6, h0, h1, h2, h3, h4]
    funext j
    idx_vars j
    exact ref1_at _ _ _ _ _ j0 j1 j2
  · rw [final7, h1, h3, h4]
    funext j
    idx_vars j
    exact ref2_at _ _ _ j0 j1 j2
  · rw [final8, h2, h3, h4]
    funext j
    idx_vars j
    exact ref3_at _ _ _ j0 j1 j2

end Cert.OptBClaim

end
-- ==== Proof.OptPClaim.lean ====
/-
The optimiser on the packed small weights, kernel and reference, equal.
-/
module

public import proofs.«01_k».proof.Defs
public import proofs.«01_k».proof.Proof.NormGrad
public import proofs.«01_k».proof.Proof.Adam
public import proofs.«01_k».proof.Proof.Gen.KernelOptPIdeal.Value
public import proofs.«01_k».proof.Proof.Gen.ReferenceOptPIdeal.Run
public import Idealize.ShloMosaic.Lib.Pipeline.ReadBack

@[expose] public section

set_option maxRecDepth 16384

noncomputable section

namespace Cert.OptPValue

open Cert.KernelOptPIdeal Cert.KernelOptPIdeal.Gen Idealize.ShloMosaic Idealize.ShloMosaic.TcCoe Idealize.SL.Sem

open Cert.Adam (lit first second change)

section
variable (W M V : FVec Ideal S152x1024 .f32) (G : FVec Ideal S152x1024 .f32)

def firstA : FVec Ideal S152x1024 .f32 := fun j => first (G j) (M j)

def secondA : FVec Ideal S152x1024 .f32 := fun j => second (G j) (V j)

def changeA : FVec Ideal S152x1024 .f32 := fun j => change (W j) (firstA M G j) (secondA V G j)

end

section
variable (W M V G : FVec Ideal S152x1024 .f32) (p : Fin 152) (k : Fin 1024)

theorem first_at : k0_pay1 (F := Ideal) G M (ix2 p k) = first (G (ix2 p k)) (M (ix2 p k)) := by
  unfold first
  pointwise [k0_pay1]

theorem second_at : k0_pay2 (F := Ideal) G V (ix2 p k) = second (G (ix2 p k)) (V (ix2 p k)) := by
  unfold second
  pointwise [k0_pay2]

theorem change_at : k0_pay3 (F := Ideal) W G M V (ix2 p k) = change (W (ix2 p k)) (first (G (ix2 p k)) (M (ix2 p k))) (second (G (ix2 p k)) (V (ix2 p k))) := by
  rw [← first_at, ← second_at]
  unfold change k0_pay3
  generalize k0_pay1 (F := Ideal) G M = A
  generalize k0_pay2 (F := Ideal) G V = B
  pointwise

end

theorem idx : ∀ t : Fin cfg0.N, win0_0.index t = ![0, 0] ∧ win0_1.index t = ![0, 0] ∧ win0_2.index t = ![0, 0] ∧ win0_3.index t = ![0, 0] ∧ win0_4.index t = ![0, 0] ∧
    win0_5.index t = ![0, 0] ∧ win0_6.index t = ![0, 0] :=
  (by decide +kernel : ∀ t : Fin grid0.N, _)

section
variable (m : (ℓ : Loc nD τ sig) → Buf (Elt Ideal) ℓ) (c : Dev nD) (t : Fin cfg0.N)

theorem blk0 (p : Fin 152) (k : Fin 1024) : iblk m c 0 t (ix2 p k) = (m (c.tc.loc main_arg0) : FVec Ideal S152x1024 .f32) (ix2 p k) := by
  blk_point [iblk, V, idx t]

theorem blk1 (p : Fin 152) (k : Fin 1024) : iblk m c 1 t (ix2 p k) = (m (c.tc.loc main_arg1) : FVec Ideal S152x1024 .f32) (ix2 p k) := by
  blk_point [iblk, V, idx t]

theorem blk2 (p : Fin 152) (k : Fin 1024) : iblk m c 2 t (ix2 p k) = (m (c.tc.loc main_arg2) : FVec Ideal S152x1024 .f32) (ix2 p k) := by
  blk_point [iblk, V, idx t]

theorem blk3 (p : Fin 152) (k : Fin 1024) : iblk m c 3 t (ix2 p k) = (m (c.tc.loc main_arg3) : FVec Ideal S152x1024 .f32) (ix2 p k) := by
  blk_point [iblk, V, idx t]

theorem final4 : (dats m 0 c).arrAt 4 cfg0.N = changeA (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4, show out0_4 (F := Ideal) (iblk m c 0 t) (iblk m c 1 t) (iblk m c 2 t) (iblk m c 3 t)
    = k0_pay3 (F := Ideal) (iblk m c 0 t) (iblk m c 3 t) (iblk m c 1 t) (iblk m c 2 t) from by unfold out0_4; frame_out]
  idx_vars y
  rw [change_at]
  simp only [blk0, blk1, blk2, blk3]
  rw [show ((View.whole main_v0_0).slice (win0_4.rect t)).emb (ix2 y0 y1)
    = ix2 y0 y1 from by blk_ext [idx t]]
  rfl

theorem final5 : (dats m 0 c).arrAt 5 cfg0.N = firstA (m (c.tc.loc main_arg1)) (m (c.tc.loc main_arg3)) := by
  refine (dats m 0 c).arrAt_eq_of_covers 5 _ (by decide +kernel) fun t _ y => ?_
  blk_simp
  rw [after0_5, show out0_5 (F := Ideal) (iblk m c 0 t) (iblk m c 1 t) (iblk m c 2 t) (iblk m c 3 t)
    = k0_pay1 (F := Ideal) (iblk m c 3 t) (iblk m c 1 t) from by unfold out0_5; frame_out]
  idx_vars y
  rw [first_at]
  simp only [blk1, blk3]
  rw [show ((View.whole main_v0_1).slice (win0_5.rect t)).emb (ix2 y0 y1)
    = ix2 y0 y1 from by blk_ext [idx t]]
  rfl

theorem final6 : (dats m 0 c).arrAt 6 cfg0.N = secondA (m (c.tc.loc main_arg2)) (m (c.tc.loc main_arg3)) := by
  refine (dats m 0 c).arrAt_eq_of_covers 6 _ (by decide +kernel) fun t _ y => ?_
  blk_simp
  rw [after0_6, show out0_6 (F := Ideal) (iblk m c 0 t) (iblk m c 1 t) (iblk m c 2 t) (iblk m c 3 t)
    = k0_pay2 (F := Ideal) (iblk m c 3 t) (iblk m c 2 t) from by unfold out0_6; frame_out]
  idx_vars y
  rw [second_at]
  simp only [blk2, blk3]
  rw [show ((View.whole main_v0_2).slice (win0_6.rect t)).emb (ix2 y0 y1)
    = ix2 y0 y1 from by blk_ext [idx t]]
  rfl

end

end Cert.OptPValue

namespace Cert.OptPReference

open Cert.Adam (lit first second change)
open Cert.OptPValue Cert.ReferenceOptPIdeal Cert.ReferenceOptPIdeal.Facts₀ Idealize.ShloMosaic Idealize.ShloMosaic.TcCoe Idealize.SL.Sem

section
variable (W M V : FVec Ideal S152x1024 .f32) (G : FVec Ideal S152x1024 .f32) (r : Fin 152) (k : Fin 1024)

theorem ref0_at : (mulf (broadcastInDim S152x1024 ![] bcast_S_S152x1024 (constant S_ .f32 0xBA83126F#32)) (addf (Host.divf (Host.divf (addf (mulf
      (broadcastInDim S152x1024 ![] bcast_S_S152x1024 (constant S_ .f32 0x3F666666#32)) M) (mulf (broadcastInDim S152x1024 ![] bcast_S_S152x1024
      (constant S_ .f32 0x3DCCCCCD#32)) G)) (broadcastInDim S152x1024 ![] bcast_S_S152x1024 (constant S_ .f32 0x3F26BD02#32))) (addf (Host.sqrt
      (Host.divf (addf (mulf (broadcastInDim S152x1024 ![] bcast_S_S152x1024 (constant S_ .f32 0x3F7FBE77#32)) V) (mulf (broadcastInDim S152x1024
      ![] bcast_S_S152x1024 (constant S_ .f32 0x3A83126F#32)) (mulf G G))) (broadcastInDim S152x1024 ![] bcast_S_S152x1024 (constant S_ .f32
      0x3C231ACC#32)))) (broadcastInDim S152x1024 ![] bcast_S_S152x1024 (constant S_ .f32 0x322BCC77#32)))) (mulf (broadcastInDim S152x1024 ![]
      bcast_S_S152x1024 (constant S_ .f32 0x3C23D70A#32)) W))
      : FVec Ideal S152x1024 .f32) (ix2 r k) = change (W (ix2 r k)) (first (G (ix2 r k)) (M (ix2 r k))) (second (G (ix2 r k)) (V (ix2 r k))) := by
  unfold change first second
  pointwise

theorem ref1_at : (addf (mulf (broadcastInDim S152x1024 ![] bcast_S_S152x1024 (constant S_ .f32 0x3F666666#32)) M) (mulf (broadcastInDim S152x1024 ![]
      bcast_S_S152x1024 (constant S_ .f32 0x3DCCCCCD#32)) G)
      : FVec Ideal S152x1024 .f32) (ix2 r k) = first (G (ix2 r k)) (M (ix2 r k)) := by
  unfold first
  pointwise

theorem ref2_at : (addf (mulf (broadcastInDim S152x1024 ![] bcast_S_S152x1024 (constant S_ .f32 0x3F7FBE77#32)) V) (mulf (broadcastInDim S152x1024 ![]
      bcast_S_S152x1024 (constant S_ .f32 0x3A83126F#32)) (mulf G G))
      : FVec Ideal S152x1024 .f32) (ix2 r k) = second (G (ix2 r k)) (V (ix2 r k)) := by
  unfold second
  pointwise

end

end Cert.OptPReference

namespace Cert.OptPClaim

open Cert.OptPValue Cert.OptPReference Cert.KernelOptPIdeal Cert.KernelOptPIdeal.Gen Idealize.ShloMosaic Idealize.ShloMosaic.TcCoe
open Idealize.SL.Sem

theorem algebraic : Cert.algebraic_KernelOptPIdeal_ReferenceOptPIdeal := by
  intro m g m' g' hpre hargs
  refine ⟨_, _, _, Value.run_blocks m g, ?_⟩
  refine (θ_run Cert.ReferenceOptPIdeal.defs _ _).mono (fun r h c => ?_) (ReferenceOptPIdeal.Value.run m' g')
  obtain ⟨h0, h1, h2, h3⟩ := hargs c
  obtain ⟨e0, e1, e2, hr⟩ := h c
  refine ⟨e0.trans ?_, e1.trans ?_, e2.trans ?_, hr⟩
  all_goals
    clear hr h
  · rw [final4, h0, h1, h2, h3]
    funext j
    idx_vars j
    exact ref0_at _ _ _ _ j0 j1
  · rw [final5, h1, h3]
    funext j
    idx_vars j
    exact ref1_at _ _ j0 j1
  · rw [final6, h2, h3]
    funext j
    idx_vars j
    exact ref2_at _ _ j0 j1

end Cert.OptPClaim

end
-- ==== Proof.SumsClaim.lean ====
/-
The sum of the devices' parts, kernel and reference, equal.
-/
module

public import proofs.«01_k».proof.Defs
public import proofs.«01_k».proof.Proof.NormGrad
public import proofs.«01_k».proof.Proof.Gen.KernelSumsIdeal.Value
public import proofs.«01_k».proof.Proof.Gen.ReferenceSumsIdeal.Run
public import Idealize.ShloMosaic.Lib.Pipeline.ReadBack

@[expose] public section

set_option maxRecDepth 16384

noncomputable section

namespace Cert.SumsValue

open Cert.KernelSumsIdeal Cert.KernelSumsIdeal.Gen Idealize.ShloMosaic Idealize.ShloMosaic.TcCoe Idealize.SL.Sem

def sumA (A : FVec Ideal S8x144x1024 .f32) : FVec Ideal S144x1024 .f32 := fun j => ∑ d : Fin 8, A (ix3 d (j 0) (j 1))

section
variable (x : Vec Ideal S8x144x1024 .f32) (z : Fin 1) (p : Fin 144) (k : Fin 1024)

theorem slabs : (View.ld x r0_0 : Vec Ideal S1x144x1024 .f32) (ix3 z p k) = x (ix3 0 p k)
    ∧ (View.ld x r0_1 : Vec Ideal S1x144x1024 .f32) (ix3 z p k) = x (ix3 1 p k)
    ∧ (View.ld x r0_2 : Vec Ideal S1x144x1024 .f32) (ix3 z p k) = x (ix3 2 p k)
    ∧ (View.ld x r0_3 : Vec Ideal S1x144x1024 .f32) (ix3 z p k) = x (ix3 3 p k)
    ∧ (View.ld x r0_4 : Vec Ideal S1x144x1024 .f32) (ix3 z p k) = x (ix3 4 p k)
    ∧ (View.ld x r0_5 : Vec Ideal S1x144x1024 .f32) (ix3 z p k) = x (ix3 5 p k)
    ∧ (View.ld x r0_6 : Vec Ideal S1x144x1024 .f32) (ix3 z p k) = x (ix3 6 p k)
    ∧ (View.ld x r0_7 : Vec Ideal S1x144x1024 .f32) (ix3 z p k) = x (ix3 7 p k) := by
  obtain rfl : z = 0 := Subsingleton.elim _ _
  refine ⟨?_, ?_, ?_, ?_, ?_, ?_, ?_, ?_⟩
  all_goals
    refine congrArg x (funext fun a => Fin.ext ((Rect.idx_unit_val _ _ _ _ a).trans ?_))
    fin_cases a
    · rfl
    · exact Nat.zero_add _
    · exact Nat.zero_add _

end

theorem sum_at (x : Vec Ideal S8x144x1024 .f32) (p : Fin 144) (k : Fin 1024) :
    k0_pay1 (F := Ideal) (View.ld x r0_0) (View.ld x r0_1) (View.ld x r0_2) (View.ld x r0_3) (View.ld x r0_4) (View.ld x r0_5) (View.ld x r0_6) (View.ld x r0_7) (ix2 p k) = ∑ d : Fin 8, x (ix3 d p k) := by
  rw [Fin.sum_univ_eight]
  obtain ⟨h0, h1, h2, h3, h4, h5, h6, h7⟩ := slabs x 0 p k
  rw [← h0, ← h1, ← h2, ← h3, ← h4, ← h5, ← h6, ← h7]
  clear h0 h1 h2 h3 h4 h5 h6 h7
  generalize View.ld x r0_0 = a0
  generalize View.ld x r0_1 = a1
  generalize View.ld x r0_2 = a2
  generalize View.ld x r0_3 = a3
  generalize View.ld x r0_4 = a4
  generalize View.ld x r0_5 = a5
  generalize View.ld x r0_6 = a6
  generalize View.ld x r0_7 = a7
  pointwise [k0_pay1]

theorem out_at (x : Vec Ideal S8x144x1024 .f32) (p : Fin 144) (k : Fin 1024) : out0_1 (F := Ideal) x (ix2 p k) = ∑ d : Fin 8, x (ix3 d p k) := by
  have h : out0_1 (F := Ideal) x = k0_pay1 (View.ld x r0_0) (View.ld x r0_1) (View.ld x r0_2) (View.ld x r0_3) (View.ld x r0_4) (View.ld x r0_5) (View.ld x r0_6) (View.ld x r0_7) := by
    unfold out0_1
    frame_out
  exact (congrFun h _).trans (sum_at x p k)

theorem idx : ∀ t : Fin cfg0.N, win0_0.index t = ![0, 0, 0] ∧ win0_1.index t = ![0, 0] :=
  (by decide +kernel : ∀ t : Fin grid0.N, _)

section
variable (m : (ℓ : Loc nD τ sig) → Buf (Elt Ideal) ℓ) (c : Dev nD) (t : Fin cfg0.N)

theorem blk0 (d : Fin 8) (p : Fin 144) (k : Fin 1024) : iblk m c 0 t (ix3 d p k)
    = (m (c.tc.loc main_arg0) : FVec Ideal S8x144x1024 .f32) (ix3 d p k) := by
  blk_point [iblk, V, idx t]

theorem final1 : (dats m 0 c).arrAt 1 cfg0.N = sumA (m (c.tc.loc main_arg0)) := by
  refine (dats m 0 c).arrAt_eq_of_covers 1 _ (by decide +kernel) fun t _ y => ?_
  blk_simp
  rw [after0_1]
  idx_vars y
  refine (out_at _ y0 y1).trans ?_
  simp only [blk0]
  rw [show ((View.whole main_v0).slice (win0_1.rect t)).emb (ix2 y0 y1)
    = ix2 y0 y1 from by blk_ext [idx t]]
  rfl

end

end Cert.SumsValue

namespace Cert.SumsReference

open Cert.SumsValue Cert.ReferenceSumsIdeal Cert.ReferenceSumsIdeal.Facts₀ Idealize.ShloMosaic Idealize.ShloMosaic.TcCoe Idealize.SL.Sem

theorem ref0_at (A : FVec Ideal S8x144x1024 .f32) (p : Fin 144) (k : Fin 1024) : (Host.reduceAdd A (constant S_ .f32 0x00000000#32) reducesTo_S8x144x1024_S144x1024_d0 h_S_
      : FVec Ideal S144x1024 .f32) (ix2 p k) = ∑ d : Fin 8, A (ix3 d p k) := by
  pointwise

end Cert.SumsReference

namespace Cert.SumsClaim

open Cert.SumsValue Cert.SumsReference Cert.KernelSumsIdeal Cert.KernelSumsIdeal.Gen Idealize.ShloMosaic Idealize.ShloMosaic.TcCoe
open Idealize.SL.Sem

theorem algebraic : Cert.algebraic_KernelSumsIdeal_ReferenceSumsIdeal := by
  intro m g m' g' hpre hargs
  refine ⟨_, Value.run_blocks m g, ?_⟩
  refine (θ_run Cert.ReferenceSumsIdeal.defs _ _).mono (fun r h c => ?_) (ReferenceSumsIdeal.Value.run m' g')
  have h0 := hargs c
  obtain ⟨e0, hr⟩ := h c
  refine ⟨e0.trans ?_, hr⟩
  all_goals
    clear hr h
  · rw [final1, h0]
    funext j
    idx_vars j
    exact ref0_at _ j0 j1

end Cert.SumsClaim

end
-- ==== Proof.lean ====
module

public import proofs.«01_k».proof.Defs
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.ReferenceLossIdeal
public import proofs.«01_k».proof.Proof.Gen.KernelMixNorm
public import proofs.«01_k».proof.Proof.Gen.KernelMixNorm.Skeleton
public import proofs.«01_k».proof.Proof.Gen.KernelMixNorm.Launch
public import proofs.«01_k».proof.Proof.Gen.KernelMixNorm.Points
public import proofs.«01_k».proof.Proof.Gen.KernelMixNorm.Frame
public import proofs.«01_k».proof.Proof.Gen.KernelMixNormIdeal
public import proofs.«01_k».proof.Proof.Gen.KernelMixNormIdeal.Skeleton
public import proofs.«01_k».proof.Proof.Gen.KernelMixNormIdeal.Launch
public import proofs.«01_k».proof.Proof.Gen.KernelMixNormIdeal.Points
public import proofs.«01_k».proof.Proof.Gen.KernelMixNormIdeal.Frame
public import proofs.«01_k».proof.Proof.Gen.ReferenceMixNormIdeal
public import proofs.«01_k».proof.Proof.Gen.KernelFfnNorm
public import proofs.«01_k».proof.Proof.Gen.KernelFfnNorm.Skeleton
public import proofs.«01_k».proof.Proof.Gen.KernelFfnNorm.Launch
public import proofs.«01_k».proof.Proof.Gen.KernelFfnNorm.Points
public import proofs.«01_k».proof.Proof.Gen.KernelFfnNorm.Frame
public import proofs.«01_k».proof.Proof.Gen.KernelFfnNormIdeal
public import proofs.«01_k».proof.Proof.Gen.KernelFfnNormIdeal.Skeleton
public import proofs.«01_k».proof.Proof.Gen.KernelFfnNormIdeal.Launch
public import proofs.«01_k».proof.Proof.Gen.KernelFfnNormIdeal.Points
public import proofs.«01_k».proof.Proof.Gen.KernelFfnNormIdeal.Frame
public import proofs.«01_k».proof.Proof.Gen.ReferenceFfnNormIdeal
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.ReferenceConvIdeal
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.ReferenceAdaIdeal
public import proofs.«01_k».proof.Proof.Gen.KernelDisc
public import proofs.«01_k».proof.Proof.Gen.KernelDisc.Skeleton
public import proofs.«01_k».proof.Proof.Gen.KernelDisc.Launch
public import proofs.«01_k».proof.Proof.Gen.KernelDisc.Points
public import proofs.«01_k».proof.Proof.Gen.KernelDisc.Frame
public import proofs.«01_k».proof.Proof.Gen.KernelDiscIdeal
public import proofs.«01_k».proof.Proof.Gen.KernelDiscIdeal.Skeleton
public import proofs.«01_k».proof.Proof.Gen.KernelDiscIdeal.Launch
public import proofs.«01_k».proof.Proof.Gen.KernelDiscIdeal.Points
public import proofs.«01_k».proof.Proof.Gen.KernelDiscIdeal.Frame
public import proofs.«01_k».proof.Proof.Gen.ReferenceDiscIdeal
public import proofs.«01_k».proof.Proof.Gen.KernelHid
public import proofs.«01_k».proof.Proof.Gen.KernelHid.Skeleton
public import proofs.«01_k».proof.Proof.Gen.KernelHid.Launch
public import proofs.«01_k».proof.Proof.Gen.KernelHid.Points
public import proofs.«01_k».proof.Proof.Gen.KernelHid.Frame
public import proofs.«01_k».proof.Proof.Gen.KernelHidIdeal
public import proofs.«01_k».proof.Proof.Gen.KernelHidIdeal.Skeleton
public import proofs.«01_k».proof.Proof.Gen.KernelHidIdeal.Launch
public import proofs.«01_k».proof.Proof.Gen.KernelHidIdeal.Points
public import proofs.«01_k».proof.Proof.Gen.KernelHidIdeal.Frame
public import proofs.«01_k».proof.Proof.Gen.ReferenceHidIdeal
public import proofs.«01_k».proof.Proof.Gen.KernelNormF
public import proofs.«01_k».proof.Proof.Gen.KernelNormF.Skeleton
public import proofs.«01_k».proof.Proof.Gen.KernelNormF.Launch
public import proofs.«01_k».proof.Proof.Gen.KernelNormF.Points
public import proofs.«01_k».proof.Proof.Gen.KernelNormF.Frame
public import proofs.«01_k».proof.Proof.Gen.KernelNormFIdeal
public import proofs.«01_k».proof.Proof.Gen.KernelNormFIdeal.Skeleton
public import proofs.«01_k».proof.Proof.Gen.KernelNormFIdeal.Launch
public import proofs.«01_k».proof.Proof.Gen.KernelNormFIdeal.Points
public import proofs.«01_k».proof.Proof.Gen.KernelNormFIdeal.Frame
public import proofs.«01_k».proof.Proof.Gen.ReferenceNormFIdeal
public import proofs.«01_k».proof.Proof.Gen.KernelUpF
public import proofs.«01_k».proof.Proof.Gen.KernelUpF.Skeleton
public import proofs.«01_k».proof.Proof.Gen.KernelUpF.Launch
public import proofs.«01_k».proof.Proof.Gen.KernelUpF.Points
public import proofs.«01_k».proof.Proof.Gen.KernelUpF.Frame
public import proofs.«01_k».proof.Proof.Gen.KernelUpFIdeal
public import proofs.«01_k».proof.Proof.Gen.KernelUpFIdeal.Skeleton
public import proofs.«01_k».proof.Proof.Gen.KernelUpFIdeal.Launch
public import proofs.«01_k».proof.Proof.Gen.KernelUpFIdeal.Points
public import proofs.«01_k».proof.Proof.Gen.KernelUpFIdeal.Frame
public import proofs.«01_k».proof.Proof.Gen.ReferenceUpFIdeal
public import proofs.«01_k».proof.Proof.Gen.KernelDownF
public import proofs.«01_k».proof.Proof.Gen.KernelDownF.Skeleton
public import proofs.«01_k».proof.Proof.Gen.KernelDownF.Launch
public import proofs.«01_k».proof.Proof.Gen.KernelDownF.Points
public import proofs.«01_k».proof.Proof.Gen.KernelDownF.Frame
public import proofs.«01_k».proof.Proof.Gen.KernelDownFIdeal
public import proofs.«01_k».proof.Proof.Gen.KernelDownFIdeal.Skeleton
public import proofs.«01_k».proof.Proof.Gen.KernelDownFIdeal.Launch
public import proofs.«01_k».proof.Proof.Gen.KernelDownFIdeal.Points
public import proofs.«01_k».proof.Proof.Gen.KernelDownFIdeal.Frame
public import proofs.«01_k».proof.Proof.Gen.ReferenceDownFIdeal
public import proofs.«01_k».proof.Proof.Gen.KernelConvF
public import proofs.«01_k».proof.Proof.Gen.KernelConvF.Skeleton
public import proofs.«01_k».proof.Proof.Gen.KernelConvF.Launch
public import proofs.«01_k».proof.Proof.Gen.KernelConvF.Points
public import proofs.«01_k».proof.Proof.Gen.KernelConvF.Frame
public import proofs.«01_k».proof.Proof.Gen.KernelConvFIdeal
public import proofs.«01_k».proof.Proof.Gen.KernelConvFIdeal.Skeleton
public import proofs.«01_k».proof.Proof.Gen.KernelConvFIdeal.Launch
public import proofs.«01_k».proof.Proof.Gen.KernelConvFIdeal.Points
public import proofs.«01_k».proof.Proof.Gen.KernelConvFIdeal.Frame
public import proofs.«01_k».proof.Proof.Gen.ReferenceConvFIdeal
public import proofs.«01_k».proof.Proof.Gen.KernelMergeF
public import proofs.«01_k».proof.Proof.Gen.KernelMergeF.Skeleton
public import proofs.«01_k».proof.Proof.Gen.KernelMergeF.Launch
public import proofs.«01_k».proof.Proof.Gen.KernelMergeF.Points
public import proofs.«01_k».proof.Proof.Gen.KernelMergeF.Frame
public import proofs.«01_k».proof.Proof.Gen.KernelMergeFIdeal
public import proofs.«01_k».proof.Proof.Gen.KernelMergeFIdeal.Skeleton
public import proofs.«01_k».proof.Proof.Gen.KernelMergeFIdeal.Launch
public import proofs.«01_k».proof.Proof.Gen.KernelMergeFIdeal.Points
public import proofs.«01_k».proof.Proof.Gen.KernelMergeFIdeal.Frame
public import proofs.«01_k».proof.Proof.Gen.ReferenceMergeFIdeal
public import proofs.«01_k».proof.Proof.Gen.KernelPostF
public import proofs.«01_k».proof.Proof.Gen.KernelPostF.Skeleton
public import proofs.«01_k».proof.Proof.Gen.KernelPostF.Launch
public import proofs.«01_k».proof.Proof.Gen.KernelPostF.Points
public import proofs.«01_k».proof.Proof.Gen.KernelPostF.Frame
public import proofs.«01_k».proof.Proof.Gen.KernelPostFIdeal
public import proofs.«01_k».proof.Proof.Gen.KernelPostFIdeal.Skeleton
public import proofs.«01_k».proof.Proof.Gen.KernelPostFIdeal.Launch
public import proofs.«01_k».proof.Proof.Gen.KernelPostFIdeal.Points
public import proofs.«01_k».proof.Proof.Gen.KernelPostFIdeal.Frame
public import proofs.«01_k».proof.Proof.Gen.ReferencePostFIdeal
public import proofs.«01_k».proof.Proof.Gen.KernelAdaF
public import proofs.«01_k».proof.Proof.Gen.KernelAdaF.Skeleton
public import proofs.«01_k».proof.Proof.Gen.KernelAdaF.Launch
public import proofs.«01_k».proof.Proof.Gen.KernelAdaF.Points
public import proofs.«01_k».proof.Proof.Gen.KernelAdaF.Frame
public import proofs.«01_k».proof.Proof.Gen.KernelAdaFIdeal
public import proofs.«01_k».proof.Proof.Gen.KernelAdaFIdeal.Skeleton
public import proofs.«01_k».proof.Proof.Gen.KernelAdaFIdeal.Launch
public import proofs.«01_k».proof.Proof.Gen.KernelAdaFIdeal.Points
public import proofs.«01_k».proof.Proof.Gen.KernelAdaFIdeal.Frame
public import proofs.«01_k».proof.Proof.Gen.ReferenceAdaFIdeal
public import proofs.«01_k».proof.Proof.Gen.KernelDiscF
public import proofs.«01_k».proof.Proof.Gen.KernelDiscF.Skeleton
public import proofs.«01_k».proof.Proof.Gen.KernelDiscF.Launch
public import proofs.«01_k».proof.Proof.Gen.KernelDiscF.Points
public import proofs.«01_k».proof.Proof.Gen.KernelDiscF.Frame
public import proofs.«01_k».proof.Proof.Gen.KernelDiscFIdeal
public import proofs.«01_k».proof.Proof.Gen.KernelDiscFIdeal.Skeleton
public import proofs.«01_k».proof.Proof.Gen.KernelDiscFIdeal.Launch
public import proofs.«01_k».proof.Proof.Gen.KernelDiscFIdeal.Points
public import proofs.«01_k».proof.Proof.Gen.KernelDiscFIdeal.Frame
public import proofs.«01_k».proof.Proof.Gen.ReferenceDiscFIdeal
public import proofs.«01_k».proof.Proof.Gen.KernelMm
public import proofs.«01_k».proof.Proof.Gen.KernelMm.Skeleton
public import proofs.«01_k».proof.Proof.Gen.KernelMm.Launch
public import proofs.«01_k».proof.Proof.Gen.KernelMm.Points
public import proofs.«01_k».proof.Proof.Gen.KernelMm.Frame
public import proofs.«01_k».proof.Proof.Gen.KernelMmIdeal
public import proofs.«01_k».proof.Proof.Gen.KernelMmIdeal.Skeleton
public import proofs.«01_k».proof.Proof.Gen.KernelMmIdeal.Launch
public import proofs.«01_k».proof.Proof.Gen.KernelMmIdeal.Points
public import proofs.«01_k».proof.Proof.Gen.KernelMmIdeal.Frame
public import proofs.«01_k».proof.Proof.Gen.ReferenceMmIdeal
public import proofs.«01_k».proof.Proof.Gen.KernelOptR
public import proofs.«01_k».proof.Proof.Gen.KernelOptR.Skeleton
public import proofs.«01_k».proof.Proof.Gen.KernelOptR.Launch
public import proofs.«01_k».proof.Proof.Gen.KernelOptR.Points
public import proofs.«01_k».proof.Proof.Gen.KernelOptR.Frame
public import proofs.«01_k».proof.Proof.Gen.KernelOptRIdeal
public import proofs.«01_k».proof.Proof.Gen.KernelOptRIdeal.Skeleton
public import proofs.«01_k».proof.Proof.Gen.KernelOptRIdeal.Launch
public import proofs.«01_k».proof.Proof.Gen.KernelOptRIdeal.Points
public import proofs.«01_k».proof.Proof.Gen.KernelOptRIdeal.Frame
public import proofs.«01_k».proof.Proof.Gen.ReferenceOptRIdeal
public import proofs.«01_k».proof.Proof.Gen.KernelOptB
public import proofs.«01_k».proof.Proof.Gen.KernelOptB.Skeleton
public import proofs.«01_k».proof.Proof.Gen.KernelOptB.Launch
public import proofs.«01_k».proof.Proof.Gen.KernelOptB.Points
public import proofs.«01_k».proof.Proof.Gen.KernelOptB.Frame
public import proofs.«01_k».proof.Proof.Gen.KernelOptBIdeal
public import proofs.«01_k».proof.Proof.Gen.KernelOptBIdeal.Skeleton
public import proofs.«01_k».proof.Proof.Gen.KernelOptBIdeal.Launch
public import proofs.«01_k».proof.Proof.Gen.KernelOptBIdeal.Points
public import proofs.«01_k».proof.Proof.Gen.KernelOptBIdeal.Frame
public import proofs.«01_k».proof.Proof.Gen.ReferenceOptBIdeal
public import proofs.«01_k».proof.Proof.Gen.KernelOptP
public import proofs.«01_k».proof.Proof.Gen.KernelOptP.Skeleton
public import proofs.«01_k».proof.Proof.Gen.KernelOptP.Launch
public import proofs.«01_k».proof.Proof.Gen.KernelOptP.Points
public import proofs.«01_k».proof.Proof.Gen.KernelOptP.Frame
public import proofs.«01_k».proof.Proof.Gen.KernelOptPIdeal
public import proofs.«01_k».proof.Proof.Gen.KernelOptPIdeal.Skeleton
public import proofs.«01_k».proof.Proof.Gen.KernelOptPIdeal.Launch
public import proofs.«01_k».proof.Proof.Gen.KernelOptPIdeal.Points
public import proofs.«01_k».proof.Proof.Gen.KernelOptPIdeal.Frame
public import proofs.«01_k».proof.Proof.Gen.ReferenceOptPIdeal
public import proofs.«01_k».proof.Proof.Gen.KernelSums
public import proofs.«01_k».proof.Proof.Gen.KernelSums.Skeleton
public import proofs.«01_k».proof.Proof.Gen.KernelSums.Launch
public import proofs.«01_k».proof.Proof.Gen.KernelSums.Points
public import proofs.«01_k».proof.Proof.Gen.KernelSums.Frame
public import proofs.«01_k».proof.Proof.Gen.KernelSumsIdeal
public import proofs.«01_k».proof.Proof.Gen.KernelSumsIdeal.Skeleton
public import proofs.«01_k».proof.Proof.Gen.KernelSumsIdeal.Launch
public import proofs.«01_k».proof.Proof.Gen.KernelSumsIdeal.Points
public import proofs.«01_k».proof.Proof.Gen.KernelSumsIdeal.Frame
public import proofs.«01_k».proof.Proof.Gen.ReferenceSumsIdeal
public import proofs.«01_k».proof.Proof.Gen.Pre_finite_loss
public import proofs.«01_k».proof.Proof.Gen.Pre_finite_mixnorm
public import proofs.«01_k».proof.Proof.Gen.Pre_finite_ffnnorm
public import proofs.«01_k».proof.Proof.Gen.Pre_finite_hid
public import proofs.«01_k».proof.Proof.Gen.Pre_finite_upf
public import proofs.«01_k».proof.Proof.Gen.ReferenceLossIdeal.Run
public import proofs.«01_k».proof.Proof.LossClaim
public import proofs.«01_k».proof.Proof.Gen.ReferenceMixNormIdeal.Run
public import proofs.«01_k».proof.Proof.MixNormClaim
public import proofs.«01_k».proof.Proof.Gen.KernelMixNormIdeal.Value
public import proofs.«01_k».proof.Proof.Gen.ReferenceFfnNormIdeal.Run
public import proofs.«01_k».proof.Proof.FfnNormClaim
public import proofs.«01_k».proof.Proof.Gen.KernelFfnNormIdeal.Value
public import proofs.«01_k».proof.Proof.Gen.ReferenceConvIdeal.Run
public import proofs.«01_k».proof.Proof.ConvClaim
public import proofs.«01_k».proof.Proof.Gen.KernelConvIdeal.Value
public import proofs.«01_k».proof.Proof.Gen.ReferenceMergeIdeal.Run
public import proofs.«01_k».proof.Proof.MergeClaim
public import proofs.«01_k».proof.Proof.Gen.KernelMergeIdeal.Value
public import proofs.«01_k».proof.Proof.Gen.ReferenceAdaIdeal.Run
public import proofs.«01_k».proof.Proof.AdaClaim
public import proofs.«01_k».proof.Proof.Gen.KernelAdaIdeal.Value
public import proofs.«01_k».proof.Proof.Gen.ReferenceDiscIdeal.Run
public import proofs.«01_k».proof.Proof.DiscClaim
public import proofs.«01_k».proof.Proof.Gen.ReferenceHidIdeal.Run
public import proofs.«01_k».proof.Proof.HidClaim
public import proofs.«01_k».proof.Proof.HidFrame
public import proofs.«01_k».proof.Proof.Gen.ReferenceNormFIdeal.Run
public import proofs.«01_k».proof.Proof.NormFClaim
public import proofs.«01_k».proof.Proof.Gen.KernelNormFIdeal.Value
public import proofs.«01_k».proof.Proof.Gen.ReferenceUpFIdeal.Run
public import proofs.«01_k».proof.Proof.UpFClaim
public import proofs.«01_k».proof.Proof.Gen.KernelUpFIdeal.Value
public import proofs.«01_k».proof.Proof.Gen.ReferenceDownFIdeal.Run
public import proofs.«01_k».proof.Proof.DownFClaim
public import proofs.«01_k».proof.Proof.Gen.KernelDownFIdeal.Value
public import proofs.«01_k».proof.Proof.Gen.ReferenceConvFIdeal.Run
public import proofs.«01_k».proof.Proof.ConvFClaim
public import proofs.«01_k».proof.Proof.Gen.KernelConvFIdeal.Value
public import proofs.«01_k».proof.Proof.Gen.ReferenceMergeFIdeal.Run
public import proofs.«01_k».proof.Proof.MergeFClaim
public import proofs.«01_k».proof.Proof.Gen.KernelMergeFIdeal.Value
public import proofs.«01_k».proof.Proof.Gen.ReferencePostFIdeal.Run
public import proofs.«01_k».proof.Proof.PostFClaim
public import proofs.«01_k».proof.Proof.Gen.KernelPostFIdeal.Value
public import proofs.«01_k».proof.Proof.Gen.ReferenceAdaFIdeal.Run
public import proofs.«01_k».proof.Proof.AdaFClaim
public import proofs.«01_k».proof.Proof.Gen.KernelAdaFIdeal.Value
public import proofs.«01_k».proof.Proof.Gen.ReferenceDiscFIdeal.Run
public import proofs.«01_k».proof.Proof.DiscFClaim
public import proofs.«01_k».proof.Proof.Gen.KernelDiscFIdeal.Value
public import proofs.«01_k».proof.Proof.Gen.ReferenceMmIdeal.Run
public import proofs.«01_k».proof.Proof.MmClaim
public import proofs.«01_k».proof.Proof.Gen.KernelMmIdeal.Value
public import proofs.«01_k».proof.Proof.Gen.ReferenceOptRIdeal.Run
public import proofs.«01_k».proof.Proof.OptRClaim
public import proofs.«01_k».proof.Proof.Gen.KernelOptRIdeal.Value
public import proofs.«01_k».proof.Proof.Gen.ReferenceOptBIdeal.Run
public import proofs.«01_k».proof.Proof.OptBClaim
public import proofs.«01_k».proof.Proof.Gen.KernelOptBIdeal.Value
public import proofs.«01_k».proof.Proof.Gen.ReferenceOptPIdeal.Run
public import proofs.«01_k».proof.Proof.OptPClaim
public import proofs.«01_k».proof.Proof.Gen.KernelOptPIdeal.Value
public import proofs.«01_k».proof.Proof.Gen.ReferenceSumsIdeal.Run
public import proofs.«01_k».proof.Proof.SumsClaim
public import proofs.«01_k».proof.Proof.Gen.KernelSumsIdeal.Value
public import Idealize.ShloMosaic.Adequacy
public import Idealize.ShloMosaic.Init

@[expose] public section

noncomputable section

namespace Cert.Proof

open Idealize.ShloMosaic Idealize.SL.Sem Cert.KernelLoss

/-- The reference of the loss ends with its arguments unchanged; it has no semaphore. -/
theorem ref_loss : Cert.quiescent_ReferenceLossIdeal := fun m ρ _ =>
  (θ_run Cert.ReferenceLossIdeal.defs _ _).mono (fun r h => ⟨fun c => (h c).2.2.2, sem_eq_zero_of_no_sems (by decide) r.2⟩)
    (Cert.ReferenceLossIdeal.Value.run m ρ)

/-- The reference of the projection's norm gradient ends with its arguments unchanged; it has no semaphore. -/
theorem ref_mixnorm : Cert.quiescent_ReferenceMixNormIdeal := fun m ρ _ =>
  (θ_run Cert.ReferenceMixNormIdeal.defs _ _).mono (fun r h => ⟨fun c => (h c).2.2.2.2, sem_eq_zero_of_no_sems (by decide) r.2⟩)
    (Cert.ReferenceMixNormIdeal.Value.run m ρ)

/-- The reference of the gates' norm gradient ends with its arguments unchanged; it has no semaphore. -/
theorem ref_ffnnorm : Cert.quiescent_ReferenceFfnNormIdeal := fun m ρ _ =>
  (θ_run Cert.ReferenceFfnNormIdeal.defs _ _).mono (fun r h => ⟨fun c => (h c).2.2.2.2, sem_eq_zero_of_no_sems (by decide) r.2⟩)
    (Cert.ReferenceFfnNormIdeal.Value.run m ρ)

/-- The reference of the convolution's gradient ends with its arguments unchanged; it has no semaphore. -/
theorem ref_conv : Cert.quiescent_ReferenceConvIdeal := fun m ρ _ =>
  (θ_run Cert.ReferenceConvIdeal.defs _ _).mono (fun r h => ⟨fun c => (h c).2.2, sem_eq_zero_of_no_sems (by decide) r.2⟩)
    (Cert.ReferenceConvIdeal.Value.run m ρ)

/-- The reference of the merge's gradient ends with its arguments unchanged; it has no semaphore. -/
theorem ref_merge : Cert.quiescent_ReferenceMergeIdeal := fun m ρ _ =>
  (θ_run Cert.ReferenceMergeIdeal.defs _ _).mono (fun r h => ⟨fun c => (h c).2.2.2.2.2, sem_eq_zero_of_no_sems (by decide) r.2⟩)
    (Cert.ReferenceMergeIdeal.Value.run m ρ)

/-- The reference of the modulation's gradient ends with its arguments unchanged; it has no semaphore. -/
theorem ref_adab : Cert.quiescent_ReferenceAdaIdeal := fun m ρ _ =>
  (θ_run Cert.ReferenceAdaIdeal.defs _ _).mono (fun r h => ⟨fun c => (h c).2.2, sem_eq_zero_of_no_sems (by decide) r.2⟩)
    (Cert.ReferenceAdaIdeal.Value.run m ρ)

/-- The reference of the discretization's gradient ends with its arguments unchanged; it has no semaphore. -/
theorem ref_disc : Cert.quiescent_ReferenceDiscIdeal := fun m ρ _ =>
  (θ_run Cert.ReferenceDiscIdeal.defs _ _).mono (fun r h => ⟨fun c => (h c).2.2.2.2.2, sem_eq_zero_of_no_sems (by decide) r.2⟩)
    (Cert.ReferenceDiscIdeal.Value.run m ρ)

/-- The reference of the gates' gradient ends with its arguments unchanged; it has no semaphore. -/
theorem ref_hid : Cert.quiescent_ReferenceHidIdeal := fun m ρ _ =>
  (θ_run Cert.ReferenceHidIdeal.defs _ _).mono (fun r h => ⟨fun c => (h c).2.2.2.2, sem_eq_zero_of_no_sems (by decide) r.2⟩)
    (Cert.ReferenceHidIdeal.Value.run m ρ)

/-- The reference of the norm ends with its arguments unchanged; it has no semaphore. -/
theorem ref_normf : Cert.quiescent_ReferenceNormFIdeal := fun m ρ _ =>
  (θ_run Cert.ReferenceNormFIdeal.defs _ _).mono (fun r h => ⟨fun c => (h c).2, sem_eq_zero_of_no_sems (by decide) r.2⟩)
    (Cert.ReferenceNormFIdeal.Value.run m ρ)

/-- The reference of the gates ends with its arguments unchanged; it has no semaphore. -/
theorem ref_upf : Cert.quiescent_ReferenceUpFIdeal := fun m ρ _ =>
  (θ_run Cert.ReferenceUpFIdeal.defs _ _).mono (fun r h => ⟨fun c => (h c).2.2.2, sem_eq_zero_of_no_sems (by decide) r.2⟩)
    (Cert.ReferenceUpFIdeal.Value.run m ρ)

/-- The reference of the feed-forward layer's end ends with its arguments unchanged; it has no semaphore. -/
theorem ref_downf : Cert.quiescent_ReferenceDownFIdeal := fun m ρ _ =>
  (θ_run Cert.ReferenceDownFIdeal.defs _ _).mono (fun r h => ⟨fun c => (h c).2.2, sem_eq_zero_of_no_sems (by decide) r.2⟩)
    (Cert.ReferenceDownFIdeal.Value.run m ρ)

/-- The reference of the convolution ends with its arguments unchanged; it has no semaphore. -/
theorem ref_convf : Cert.quiescent_ReferenceConvFIdeal := fun m ρ _ =>
  (θ_run Cert.ReferenceConvFIdeal.defs _ _).mono (fun r h => ⟨fun c => (h c).2, sem_eq_zero_of_no_sems (by decide) r.2⟩)
    (Cert.ReferenceConvFIdeal.Value.run m ρ)

/-- The reference of the merge ends with its arguments unchanged; it has no semaphore. -/
theorem ref_mergef : Cert.quiescent_ReferenceMergeFIdeal := fun m ρ _ =>
  (θ_run Cert.ReferenceMergeFIdeal.defs _ _).mono (fun r h => ⟨fun c => (h c).2.2.2, sem_eq_zero_of_no_sems (by decide) r.2⟩)
    (Cert.ReferenceMergeFIdeal.Value.run m ρ)

/-- The reference of the scan output's gate ends with its arguments unchanged; it has no semaphore. -/
theorem ref_postf : Cert.quiescent_ReferencePostFIdeal := fun m ρ _ =>
  (θ_run Cert.ReferencePostFIdeal.defs _ _).mono (fun r h => ⟨fun c => (h c).2.2.2.2.2, sem_eq_zero_of_no_sems (by decide) r.2⟩)
    (Cert.ReferencePostFIdeal.Value.run m ρ)

/-- The reference of the modulation ends with its arguments unchanged; it has no semaphore. -/
theorem ref_adaf : Cert.quiescent_ReferenceAdaFIdeal := fun m ρ _ =>
  (θ_run Cert.ReferenceAdaFIdeal.defs _ _).mono (fun r h => ⟨fun c => (h c).2, sem_eq_zero_of_no_sems (by decide) r.2⟩)
    (Cert.ReferenceAdaFIdeal.Value.run m ρ)

/-- The reference of the discretization forward ends with its arguments unchanged; it has no semaphore. -/
theorem ref_discf : Cert.quiescent_ReferenceDiscFIdeal := fun m ρ _ =>
  (θ_run Cert.ReferenceDiscFIdeal.defs _ _).mono (fun r h => ⟨fun c => (h c).2.2.2.2, sem_eq_zero_of_no_sems (by decide) r.2⟩)
    (Cert.ReferenceDiscFIdeal.Value.run m ρ)

/-- The reference of the product of the normed rows and the gradient of their projection ends with its arguments unchanged; it has no semaphore. -/
theorem ref_mm : Cert.quiescent_ReferenceMmIdeal := fun m ρ _ =>
  (θ_run Cert.ReferenceMmIdeal.defs _ _).mono (fun r h => ⟨fun c => (h c).2, sem_eq_zero_of_no_sems (by decide) r.2⟩)
    (Cert.ReferenceMmIdeal.Value.run m ρ)

/-- The reference of the optimiser on a weight's rows ends with its arguments unchanged; it has no semaphore. -/
theorem ref_optr : Cert.quiescent_ReferenceOptRIdeal := fun m ρ _ =>
  (θ_run Cert.ReferenceOptRIdeal.defs _ _).mono (fun r h => ⟨fun c => (h c).2.2.2, sem_eq_zero_of_no_sems (by decide) r.2⟩)
    (Cert.ReferenceOptRIdeal.Value.run m ρ)

/-- The reference of the optimiser on a weight's slab ends with its arguments unchanged; it has no semaphore. -/
theorem ref_optb : Cert.quiescent_ReferenceOptBIdeal := fun m ρ _ =>
  (θ_run Cert.ReferenceOptBIdeal.defs _ _).mono (fun r h => ⟨fun c => (h c).2.2.2.2, sem_eq_zero_of_no_sems (by decide) r.2⟩)
    (Cert.ReferenceOptBIdeal.Value.run m ρ)

/-- The reference of the optimiser on the packed small weights ends with its arguments unchanged; it has no semaphore. -/
theorem ref_optp : Cert.quiescent_ReferenceOptPIdeal := fun m ρ _ =>
  (θ_run Cert.ReferenceOptPIdeal.defs _ _).mono (fun r h => ⟨fun c => (h c).2.2.2, sem_eq_zero_of_no_sems (by decide) r.2⟩)
    (Cert.ReferenceOptPIdeal.Value.run m ρ)

/-- The reference of the sum of the parts ends with its arguments unchanged; it has no semaphore. -/
theorem ref_sums : Cert.quiescent_ReferenceSumsIdeal := fun m ρ _ =>
  (θ_run Cert.ReferenceSumsIdeal.defs _ _).mono (fun r h => ⟨fun c => (h c).2, sem_eq_zero_of_no_sems (by decide) r.2⟩)
    (Cert.ReferenceSumsIdeal.Value.run m ρ)

theorem claim : Cert.Claim := ⟨Cert.KernelLoss.Gen.facts, Cert.KernelLossIdeal.Gen.facts, Cert.ReferenceLossIdeal.Gen.facts, Cert.KernelMixNorm.Gen.facts, Cert.KernelMixNormIdeal.Gen.facts, Cert.ReferenceMixNormIdeal.Gen.facts, Cert.KernelFfnNorm.Gen.facts, Cert.KernelFfnNormIdeal.Gen.facts, Cert.ReferenceFfnNormIdeal.Gen.facts, Cert.KernelConv.Gen.facts, Cert.KernelConvIdeal.Gen.facts, Cert.ReferenceConvIdeal.Gen.facts, Cert.KernelMerge.Gen.facts, Cert.KernelMergeIdeal.Gen.facts, Cert.ReferenceMergeIdeal.Gen.facts, Cert.KernelAda.Gen.facts, Cert.KernelAdaIdeal.Gen.facts, Cert.ReferenceAdaIdeal.Gen.facts, Cert.KernelDisc.Gen.facts, Cert.KernelDiscIdeal.Gen.facts, Cert.ReferenceDiscIdeal.Gen.facts, Cert.KernelHid.Gen.facts, Cert.KernelHidIdeal.Gen.facts, Cert.ReferenceHidIdeal.Gen.facts, Cert.KernelNormF.Gen.facts, Cert.KernelNormFIdeal.Gen.facts, Cert.ReferenceNormFIdeal.Gen.facts, Cert.KernelUpF.Gen.facts, Cert.KernelUpFIdeal.Gen.facts, Cert.ReferenceUpFIdeal.Gen.facts, Cert.KernelDownF.Gen.facts, Cert.KernelDownFIdeal.Gen.facts, Cert.ReferenceDownFIdeal.Gen.facts, Cert.KernelConvF.Gen.facts, Cert.KernelConvFIdeal.Gen.facts, Cert.ReferenceConvFIdeal.Gen.facts, Cert.KernelMergeF.Gen.facts, Cert.KernelMergeFIdeal.Gen.facts, Cert.ReferenceMergeFIdeal.Gen.facts, Cert.KernelPostF.Gen.facts, Cert.KernelPostFIdeal.Gen.facts, Cert.ReferencePostFIdeal.Gen.facts, Cert.KernelAdaF.Gen.facts, Cert.KernelAdaFIdeal.Gen.facts, Cert.ReferenceAdaFIdeal.Gen.facts, Cert.KernelDiscF.Gen.facts, Cert.KernelDiscFIdeal.Gen.facts, Cert.ReferenceDiscFIdeal.Gen.facts, Cert.KernelMm.Gen.facts, Cert.KernelMmIdeal.Gen.facts, Cert.ReferenceMmIdeal.Gen.facts, Cert.KernelOptR.Gen.facts, Cert.KernelOptRIdeal.Gen.facts, Cert.ReferenceOptRIdeal.Gen.facts, Cert.KernelOptB.Gen.facts, Cert.KernelOptBIdeal.Gen.facts, Cert.ReferenceOptBIdeal.Gen.facts, Cert.KernelOptP.Gen.facts, Cert.KernelOptPIdeal.Gen.facts, Cert.ReferenceOptPIdeal.Gen.facts, Cert.KernelSums.Gen.facts, Cert.KernelSumsIdeal.Gen.facts, Cert.ReferenceSumsIdeal.Gen.facts, Cert.Pre_finite_loss.Gen.facts, Cert.Pre_finite_mixnorm.Gen.facts, Cert.Pre_finite_ffnnorm.Gen.facts, Cert.Pre_finite_hid.Gen.facts, Cert.Pre_finite_upf.Gen.facts,
  fun m ρ _ => Cert.KernelLoss.Gen.frame m ρ,
  fun m ρ _ => Cert.KernelLossIdeal.Gen.frame m ρ,
  fun m ρ _ => Cert.KernelLossIdeal.Gen.frame m ρ,
  ref_loss,
  fun m ρ _ => ref_loss m ρ trivial,
  fun m ρ _ => Cert.KernelMixNorm.Gen.frame m ρ,
  fun m ρ _ => Cert.KernelMixNormIdeal.Gen.frame m ρ,
  fun m ρ _ => Cert.KernelMixNormIdeal.Gen.frame m ρ,
  ref_mixnorm,
  fun m ρ _ => ref_mixnorm m ρ trivial,
  fun m ρ _ => Cert.KernelFfnNorm.Gen.frame m ρ,
  fun m ρ _ => Cert.KernelFfnNormIdeal.Gen.frame m ρ,
  fun m ρ _ => Cert.KernelFfnNormIdeal.Gen.frame m ρ,
  ref_ffnnorm,
  fun m ρ _ => ref_ffnnorm m ρ trivial,
  fun m ρ _ => Cert.KernelConv.Gen.frame m ρ,
  fun m ρ _ => Cert.KernelConvIdeal.Gen.frame m ρ,
  ref_conv,
  fun m ρ _ => Cert.KernelMerge.Gen.frame m ρ,
  fun m ρ _ => Cert.KernelMergeIdeal.Gen.frame m ρ,
  ref_merge,
  fun m ρ _ => Cert.KernelAda.Gen.frame m ρ,
  fun m ρ _ => Cert.KernelAdaIdeal.Gen.frame m ρ,
  ref_adab,
  fun m ρ _ => Cert.KernelDisc.Gen.frame m ρ,
  fun m ρ _ => Cert.KernelDiscIdeal.Gen.frame m ρ,
  ref_disc,
  Cert.HidFrame.frame,
  fun m ρ _ => Cert.HidRun.frame m ρ,
  fun m ρ _ => Cert.HidRun.frame m ρ,
  ref_hid,
  fun m ρ _ => ref_hid m ρ trivial,
  fun m ρ _ => Cert.KernelNormF.Gen.frame m ρ,
  fun m ρ _ => Cert.KernelNormFIdeal.Gen.frame m ρ,
  ref_normf,
  fun m ρ _ => Cert.KernelUpF.Gen.frame m ρ,
  fun m ρ _ => Cert.KernelUpFIdeal.Gen.frame m ρ,
  fun m ρ _ => Cert.KernelUpFIdeal.Gen.frame m ρ,
  ref_upf,
  fun m ρ _ => ref_upf m ρ trivial,
  fun m ρ _ => Cert.KernelDownF.Gen.frame m ρ,
  fun m ρ _ => Cert.KernelDownFIdeal.Gen.frame m ρ,
  ref_downf,
  fun m ρ _ => Cert.KernelConvF.Gen.frame m ρ,
  fun m ρ _ => Cert.KernelConvFIdeal.Gen.frame m ρ,
  ref_convf,
  fun m ρ _ => Cert.KernelMergeF.Gen.frame m ρ,
  fun m ρ _ => Cert.KernelMergeFIdeal.Gen.frame m ρ,
  ref_mergef,
  fun m ρ _ => Cert.KernelPostF.Gen.frame m ρ,
  fun m ρ _ => Cert.KernelPostFIdeal.Gen.frame m ρ,
  ref_postf,
  fun m ρ _ => Cert.KernelAdaF.Gen.frame m ρ,
  fun m ρ _ => Cert.KernelAdaFIdeal.Gen.frame m ρ,
  ref_adaf,
  fun m ρ _ => Cert.KernelDiscF.Gen.frame m ρ,
  fun m ρ _ => Cert.KernelDiscFIdeal.Gen.frame m ρ,
  ref_discf,
  fun m ρ _ => Cert.KernelMm.Gen.frame m ρ,
  fun m ρ _ => Cert.KernelMmIdeal.Gen.frame m ρ,
  ref_mm,
  fun m ρ _ => Cert.KernelOptR.Gen.frame m ρ,
  fun m ρ _ => Cert.KernelOptRIdeal.Gen.frame m ρ,
  ref_optr,
  fun m ρ _ => Cert.KernelOptB.Gen.frame m ρ,
  fun m ρ _ => Cert.KernelOptBIdeal.Gen.frame m ρ,
  ref_optb,
  fun m ρ _ => Cert.KernelOptP.Gen.frame m ρ,
  fun m ρ _ => Cert.KernelOptPIdeal.Gen.frame m ρ,
  ref_optp,
  fun m ρ _ => Cert.KernelSums.Gen.frame m ρ,
  fun m ρ _ => Cert.KernelSumsIdeal.Gen.frame m ρ,
  ref_sums,
  trivial,
  Cert.LossClaim.algebraic,
  trivial,
  Cert.MixNormClaim.algebraic,
  trivial,
  Cert.FfnNormClaim.algebraic,
  trivial,
  Cert.ConvClaim.algebraic,
  trivial,
  Cert.MergeClaim.algebraic,
  trivial,
  Cert.AdaClaim.algebraic,
  trivial,
  Cert.DiscClaim.algebraic,
  trivial,
  Cert.HidClaim.algebraic,
  trivial,
  Cert.NormFClaim.algebraic,
  trivial,
  Cert.UpFClaim.algebraic,
  trivial,
  Cert.DownFClaim.algebraic,
  trivial,
  Cert.ConvFClaim.algebraic,
  trivial,
  Cert.MergeFClaim.algebraic,
  trivial,
  Cert.PostFClaim.algebraic,
  trivial,
  Cert.AdaFClaim.algebraic,
  trivial,
  Cert.DiscFClaim.algebraic,
  trivial,
  Cert.MmClaim.algebraic,
  trivial,
  Cert.OptRClaim.algebraic,
  trivial,
  Cert.OptBClaim.algebraic,
  trivial,
  Cert.OptPClaim.algebraic,
  trivial,
  Cert.SumsClaim.algebraic⟩

end Cert.Proof

end
